-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_factors_finite [hPre_factors_finite : Cert.Pre_factors_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_factors_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_factors_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_factors_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_factors_finite [hPre_factors_finite : Cert.Pre_factors_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_factors_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_factors_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_factors_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_factors_finite [hKernel2Ideal : Cert.Kernel2Ideal.Facts] [hPre_factors_finite : Cert.Pre_factors_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_factors_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_factors_finite [hReference2Ideal : Cert.Reference2Ideal.Facts] [hPre_factors_finite : Cert.Pre_factors_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_factors_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v130_0)) (v1 : (c : Dev Cert.KernelIdeal.nD) → Buf (Elt Ideal) ((c.tc : Thread Cert.KernelIdeal.nD Cert.KernelIdeal.τ).loc Cert.KernelIdeal.main_v130_1)) (v2 : (c : Dev Cert.KernelIdeal.nD) → Buf (Elt Ideal) ((c.tc : Thread Cert.KernelIdeal.nD Cert.KernelIdeal.τ).loc Cert.KernelIdeal.main_v130_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130_0) = v0 c
          ∧ r.2.mem ((c.tc : Thread Cert.KernelIdeal.nD Cert.KernelIdeal.τ).loc Cert.KernelIdeal.main_v130_1) = v1 c
          ∧ r.2.mem ((c.tc : Thread Cert.KernelIdeal.nD Cert.KernelIdeal.τ).loc Cert.KernelIdeal.main_v130_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel2_Kernel2Ideal : Prop :=
  True

def algebraic_Kernel2Ideal_Reference2Ideal_pre_factors_finite [hKernel2Ideal : Cert.Kernel2Ideal.Facts] [hReference2Ideal : Cert.Reference2Ideal.Facts] [hPre_factors_finite : Cert.Pre_factors_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_factors_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_v9) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel2 : Cert.Kernel2.Facts) (hKernel2Ideal : Cert.Kernel2Ideal.Facts) (hReference2Ideal : Cert.Reference2Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_all_finite : Cert.Pre_all_finite.Facts) (hPre_factors_finite : Cert.Pre_factors_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel2 (hKernel2 := hKernel2)
    ∧ quiescent_Kernel2Ideal (hKernel2Ideal := hKernel2Ideal)
    ∧ quiescent_Kernel2Ideal_pre_factors_finite (hKernel2Ideal := hKernel2Ideal) (hPre_factors_finite := hPre_factors_finite)
    ∧ quiescent_Reference2Ideal (hReference2Ideal := hReference2Ideal)
    ∧ quiescent_Reference2Ideal_pre_factors_finite (hReference2Ideal := hReference2Ideal) (hPre_factors_finite := hPre_factors_finite)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel2_Kernel2Ideal
    ∧ algebraic_Kernel2Ideal_Reference2Ideal_pre_factors_finite (hKernel2Ideal := hKernel2Ideal) (hReference2Ideal := hReference2Ideal) (hPre_factors_finite := hPre_factors_finite)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_all_finite.lean ====
abbrev S4112x8x64 : Shape := ⟨3, ![4112, 8, 64]⟩
abbrev S8x4112 : Shape := ⟨2, ![8, 4112]⟩
abbrev S4224x2304 : Shape := ⟨2, ![4224, 2304]⟩
abbrev S_ : Shape := ⟨0, ![]⟩

class Facts : Prop where
  bcast_S_S4112x8x64 : S_.BroadcastsInDim S4112x8x64 (![] : Fin 0 → Fin S4112x8x64.rank)
  bcast_S_S8x4112 : S_.BroadcastsInDim S8x4112 (![] : Fin 0 → Fin S8x4112.rank)

variable [Facts]

def fn {F : FTy → Type} [FloatOps F] (main_arg0 : FVec F S4112x8x64 .f32) (main_arg1 : FVec F S4112x8x64 .f32) (main_arg2 : FVec F S4112x8x64 .f32) (main_arg3 : FVec F S8x4112 .f32) (main_arg4 : FVec F S4112x8x64 .f32) (main_arg5 : FVec F S4224x2304 .bf16) : IVec S4112x8x64 1 × IVec S4112x8x64 1 × IVec S4112x8x64 1 × IVec S8x4112 1 × IVec S4112x8x64 1 :=
  let main_v0 : FVec F S4112x8x64 .f32 := Host.absf main_arg0
  let main_cst : FVec F S_ .f32 := constant S_ .f32 0x7F800000#32
  let main_v1 : FVec F S4112x8x64 .f32 := broadcastInDim S4112x8x64 ![] bcast_S_S4112x8x64 main_cst
  let main_v2 : IVec S4112x8x64 1 := cmpf .olt main_v0 main_v1
  let main_v3 : FVec F S4112x8x64 .f32 := Host.absf main_arg1
  let main_cst_0 : FVec F S_ .f32 := constant S_ .f32 0x7F800000#32
  let main_v4 : FVec F S4112x8x64 .f32 := broadcastInDim S4112x8x64 ![] bcast_S_S4112x8x64 main_cst_0
  let main_v5 : IVec S4112x8x64 1 := cmpf .olt main_v3 main_v4
  let main_v6 : FVec F S4112x8x64 .f32 := Host.absf main_arg2
  let main_cst_1 : FVec F S_ .f32 := constant S_ .f32 0x7F800000#32
  let main_v7 : FVec F S4112x8x64 .f32 := broadcastInDim S4112x8x64 ![] bcast_S_S4112x8x64 main_cst_1
  let main_v8 : IVec S4112x8x64 1 := cmpf .olt main_v6 main_v7
  let main_v9 : FVec F S8x4112 .f32 := Host.absf main_arg3
  let main_cst_2 : FVec F S_ .f32 := constant S_ .f32 0x7F800000#32
  let main_v10 : FVec F S8x4112 .f32 := broadcastInDim S8x4112 ![] bcast_S_S8x4112 main_cst_2
  let main_v11 : IVec S8x4112 1 := cmpf .olt main_v9 main_v10
  let main_v12 : FVec F S4112x8x64 .f32 := Host.absf main_arg4
  let main_cst_3 : FVec F S_ .f32 := constant S_ .f32 0x7F800000#32
  let main_v13 : FVec F S4112x8x64 .f32 := broadcastInDim S4112x8x64 ![] bcast_S_S4112x8x64 main_cst_3
  let main_v14 : IVec S4112x8x64 1 := cmpf .olt main_v12 main_v13
  (main_v2, main_v5, main_v8, main_v11, main_v14)
-- ==== Pre_factors_finite.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

class Facts : Prop where
  bitsLt_bf16_f32 : FTy.bits .bf16 < FTy.bits .f32
  bcast_S_S4224x1024 : S_.BroadcastsInDim S4224x1024 (![] : Fin 0 → Fin S4224x1024.rank)
  bcast_S_S2816x1024 : S_.BroadcastsInDim S2816x1024 (![] : Fin 0 → Fin S2816x1024.rank)
  bcast_S_S4224x2816 : S_.BroadcastsInDim S4224x2816 (![] : Fin 0 → Fin S4224x2816.rank)

variable [Facts]

def fn {F : FTy → Type} [FloatOps F] (main_arg0 : FVec F S4224x1024 .bf16) (main_arg1 : FVec F S2816x1024 .bf16) (main_arg2 : FVec F S4224x2816 .bf16) (main_arg3 : FVec F S4224x2816 .bf16) : IVec S4224x1024 1 × IVec S2816x1024 1 × IVec S4224x2816 1 :=
  let main_v0 : FVec F S4224x1024 .f32 := (extf .f32 · bitsLt_bf16_f32) main_arg0
  let main_v1 : FVec F S4224x1024 .f32 := Host.absf main_v0
  let main_cst : FVec F S_ .f32 := constant S_ .f32 0x7F800000#32
  let main_v2 : FVec F S4224x1024 .f32 := broadcastInDim S4224x1024 ![] bcast_S_S4224x1024 main_cst
  let main_v3 : IVec S4224x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4224x2816 .f32 := (extf .f32 · bitsLt_bf16_f32) main_arg3
  let main_v9 : FVec F S4224x2816 .f32 := Host.absf main_v8
  let main_cst_1 : FVec F S_ .f32 := constant S_ .f32 0x7F800000#32
  let main_v10 : FVec F S4224x2816 .f32 := broadcastInDim S4224x2816 ![] bcast_S_S4224x2816 main_cst_1
  let main_v11 : IVec S4224x2816 1 := cmpf .olt main_v9 main_v10
  (main_v3, main_v7, main_v11)
-- ==== Kernel.lean ====
abbrev S4112x8x64 : Shape := ⟨3, ![4112, 8, 64]⟩
abbrev S8x4112 : Shape := ⟨2, ![8, 4112]⟩
abbrev S4224x2304 : Shape := ⟨2, ![4224, 2304]⟩
abbrev S4112 : Shape := ⟨1, ![4112]⟩
abbrev S8x4112x4112 : Shape := ⟨3, ![8, 4112, 4112]⟩
abbrev S_ : Shape := ⟨0, ![]⟩
abbrev S8x4112x1 : Shape := ⟨3, ![8, 4112, 1]⟩
abbrev S8x1x4112 : Shape := ⟨3, ![8, 1, 4112]⟩
abbrev S1x4112 : Shape := ⟨2, ![1, 4112]⟩
abbrev S4112x1 : Shape := ⟨2, ![4112, 1]⟩
abbrev S4112x4112 : Shape := ⟨2, ![4112, 4112]⟩
abbrev S8x4112x64 : Shape := ⟨3, ![8, 4112, 64]⟩
abbrev S8x4224x3 : Shape := ⟨3, ![8, 4224, 3]⟩
abbrev S8x4224 : Shape := ⟨2, ![8, 4224]⟩
abbrev S8x4224x1 : Shape := ⟨3, ![8, 4224, 1]⟩
abbrev S8x4224x64 : Shape := ⟨3, ![8, 4224, 64]⟩
abbrev S8x4224x6 : Shape := ⟨3, ![8, 4224, 6]⟩
abbrev S8x4224x58 : Shape := ⟨3, ![8, 4224, 58]⟩
abbrev S8 : Shape := ⟨1, ![8]⟩
abbrev S8x1x1 : Shape := ⟨3, ![8, 1, 1]⟩
abbrev S8x4224x128 : Shape := ⟨3, ![8, 4224, 128]⟩
abbrev S8x4224x61 : Shape := ⟨3, ![8, 4224, 61]⟩
abbrev S8x11x1x384 : Shape := ⟨4, ![8, 11, 1, 384]⟩
abbrev S4x4224x128 : Shape := ⟨3, ![4, 4224, 128]⟩
abbrev S4x384x128 : Shape := ⟨3, ![4, 384, 128]⟩
abbrev S4x11x1x384 : Shape := ⟨4, ![4, 11, 1, 384]⟩
abbrev S384x768 : Shape := ⟨2, ![384, 768]⟩
abbrev S4x1x1x384 : Shape := ⟨4, ![4, 1, 1, 384]⟩
abbrev S4x11x128x384 : Shape := ⟨4, ![4, 11, 128, 384]⟩
abbrev S1x384x128 : Shape := ⟨3, ![1, 384, 128]⟩
abbrev S384x128 : Shape := ⟨2, ![384, 128]⟩
abbrev S384x384 : Shape := ⟨2, ![384, 384]⟩
abbrev S1x1x1x384 : Shape := ⟨4, ![1, 1, 1, 384]⟩
abbrev S1x384 : Shape := ⟨2, ![1, 384]⟩
abbrev S128x384 : Shape := ⟨2, ![128, 384]⟩
abbrev S1x1x128x384 : Shape := ⟨4, ![1, 1, 128, 384]⟩
abbrev S384 : Shape := ⟨1, ![384]⟩
abbrev S384x256 : Shape := ⟨2, ![384, 256]⟩

abbrev nBuf : Space → Nat
  | .hbm => 273
  | .vmem => 19
  | .smem => 0
  | _ => 0

abbrev hbmTy0_0 (i : Nat) : BufTy := match i % 128 with
  | 0 => ⟨S4112x8x64, .f32⟩
  | 1 => ⟨S4112x8x64, .f32⟩
  | 2 => ⟨S4112x8x64, .f32⟩
  | 3 => ⟨S8x4112, .f32⟩
  | 4 => ⟨S4112x8x64, .f32⟩
  | 5 => ⟨S4224x2304, .bf16⟩
  | 6 => ⟨S4112, .i32⟩
  | 7 => ⟨S8x4112x4112, .f32⟩
  | 8 => ⟨S_, .f32⟩
  | 9 => ⟨S8x4112x4112, .f32⟩
  | 10 => ⟨S8x4112x4112, .f32⟩
  | 11 => ⟨S8x4112x1, .f32⟩
  | 12 => ⟨S8x4112x4112, .f32⟩
  | 13 => ⟨S8x4112x4112, .f32⟩
  | 14 => ⟨S8x1x4112, .f32⟩
  | 15 => ⟨S8x4112x4112, .f32⟩
  | 16 => ⟨S8x4112x4112, .f32⟩
  | 17 => ⟨S1x4112, .i32⟩
  | 18 => ⟨S4112x1, .i32⟩
  | 19 => ⟨S4112x4112, .i32⟩
  | 20 => ⟨S4112x4112, .i32⟩
  | 21 => ⟨S4112x4112, .i1⟩
  | 22 => ⟨S_, .f32⟩
  | 23 => ⟨S_, .f32⟩
  | 24 => ⟨S8x4112x4112, .i1⟩
  | 25 => ⟨S8x4112x4112, .f32⟩
  | 26 => ⟨S8x4112x4112, .f32⟩
  | 27 => ⟨S_, .f32⟩
  | 28 => ⟨S8x4112, .f32⟩
  | 29 => ⟨S8x4112x1, .f32⟩
  | 30 => ⟨S8x4112x4112, .f32⟩
  | 31 => ⟨S8x4112x4112, .f32⟩
  | 32 => ⟨S8x4112x4112, .f32⟩
  | 33 => ⟨S_, .f32⟩
  | 34 => ⟨S8x4112, .f32⟩
  | 35 => ⟨S8x4112x1, .f32⟩
  | 36 => ⟨S8x4112x4112, .f32⟩
  | 37 => ⟨S8x4112x4112, .f32⟩
  | 38 => ⟨S8x4112x64, .f32⟩
  | 39 => ⟨S8x4112x64, .f32⟩
  | 40 => ⟨S8x4112x64, .f32⟩
  | 41 => ⟨S_, .f32⟩
  | 42 => ⟨S8x4112, .f32⟩
  | 43 => ⟨S8x4112x1, .f32⟩
  | 44 => ⟨S8x4112x1, .f32⟩
  | 45 => ⟨S8x4112, .f32⟩
  | 46 => ⟨S_, .f32⟩
  | 47 => ⟨S8x4224x3, .f32⟩
  | 48 => ⟨S8x4112, .bf16⟩
  | 49 => ⟨S8x4112, .f32⟩
  | 50 => ⟨S8x4112, .f32⟩
  | 51 => ⟨S8x4112, .bf16⟩
  | 52 => ⟨S8x4112, .f32⟩
  | 53 => ⟨S8x4112, .f32⟩
  | 54 => ⟨S8x4112, .bf16⟩
  | 55 => ⟨S8x4112, .f32⟩
  | 56 => ⟨S_, .f32⟩
  | 57 => ⟨S_, .f32⟩
  | 58 => ⟨S8x4224, .f32⟩
  | 59 => ⟨S_, .f32⟩
  | 60 => ⟨S_, .f32⟩
  | 61 => ⟨S8x4224, .f32⟩
  | 62 => ⟨S_, .f32⟩
  | 63 => ⟨S_, .f32⟩
  | 64 => ⟨S8x4224, .f32⟩
  | 65 => ⟨S8x4224x1, .f32⟩
  | 66 => ⟨S8x4224x1, .f32⟩
  | 67 => ⟨S8x4224x1, .f32⟩
  | 68 => ⟨S8x4224x3, .f32⟩
  | 69 => ⟨S_, .f32⟩
  | 70 => ⟨S_, .f32⟩
  | 71 => ⟨S8x4224, .f32⟩
  | 72 => ⟨S_, .f32⟩
  | 73 => ⟨S_, .f32⟩
  | 74 => ⟨S8x4224, .f32⟩
  | 75 => ⟨S_, .f32⟩
  | 76 => ⟨S_, .f32⟩
  | 77 => ⟨S8x4224, .f32⟩
  | 78 => ⟨S8x4224x1, .f32⟩
  | 79 => ⟨S8x4224x1, .f32⟩
  | 80 => ⟨S8x4224x1, .f32⟩
  | 81 => ⟨S8x4224x3, .f32⟩
  | 82 => ⟨S8x4112, .f32⟩
  | 83 => ⟨S8x4112, .bf16⟩
  | 84 => ⟨S8x4112, .f32⟩
  | 85 => ⟨S8x4112, .f32⟩
  | 86 => ⟨S8x4112, .bf16⟩
  | 87 => ⟨S8x4112, .f32⟩
  | 88 => ⟨S8x4112, .f32⟩
  | 89 => ⟨S8x4112, .bf16⟩
  | 90 => ⟨S8x4112, .f32⟩
  | 91 => ⟨S_, .f32⟩
  | 92 => ⟨S_, .f32⟩
  | 93 => ⟨S8x4224, .f32⟩
  | 94 => ⟨S_, .f32⟩
  | 95 => ⟨S_, .f32⟩
  | 96 => ⟨S8x4224, .f32⟩
  | 97 => ⟨S_, .f32⟩
  | 98 => ⟨S_, .f32⟩
  | 99 => ⟨S8x4224, .f32⟩
  | 100 => ⟨S8x4224x1, .f32⟩
  | 101 => ⟨S8x4224x1, .f32⟩
  | 102 => ⟨S8x4224x1, .f32⟩
  | 103 => ⟨S8x4224x3, .f32⟩
  | 104 => ⟨S8x4112x64, .f32⟩
  | 105 => ⟨S_, .i32⟩
  | 106 => ⟨S_, .f32⟩
  | 107 => ⟨S8x4224x64, .f32⟩
  | 108 => ⟨S_, .f32⟩
  | 109 => ⟨S8x4224x64, .f32⟩
  | 110 => ⟨S8x4224x64, .f32⟩
  | 111 => ⟨S8x4224x3, .f32⟩
  | 112 => ⟨S8x4224x6, .f32⟩
  | 113 => ⟨S_, .f32⟩
  | 114 => ⟨S8x4224x58, .f32⟩
  | 115 => ⟨S8x4224x64, .f32⟩
  | 116 => ⟨S8, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S8, .i32⟩
  | 124 => ⟨S8, .i32⟩
  | 125 => ⟨S_, .i32⟩
  | 126 => ⟨S8, .i32⟩
  | 127 => ⟨S8, .i1⟩
  | _ => ⟨S4112x8x64, .f32⟩

abbrev hbmTy0_1 (i : Nat) : BufTy := match i % 128 with
  | 0 => ⟨S_, .i32⟩
  | 1 => ⟨S8, .i32⟩
  | 2 => ⟨S8, .i1⟩
  | 3 => ⟨S_, .i32⟩
  | 4 => ⟨S_, .i1⟩
  | 5 => ⟨S8, .i1⟩
  | 6 => ⟨S8, .i1⟩
  | 7 => ⟨S8, .i1⟩
  | 8 => ⟨S8, .i32⟩
  | 9 => ⟨S8, .i32⟩
  | 10 => ⟨S8, .i32⟩
  | 11 => ⟨S_, .i32⟩
  | 12 => ⟨S8, .i32⟩
  | 13 => ⟨S8, .i1⟩
  | 14 => ⟨S8x1x1, .i1⟩
  | 15 => ⟨S8x4224x128, .f32⟩
  | 16 => ⟨S8x4224x128, .f32⟩
  | 17 => ⟨S8x4224x128, .i1⟩
  | 18 => ⟨S8x4224x128, .f32⟩
  | 19 => ⟨S8x4224x128, .bf16⟩
  | 20 => ⟨S8x4112x64, .f32⟩
  | 21 => ⟨S_, .i32⟩
  | 22 => ⟨S_, .f32⟩
  | 23 => ⟨S8x4224x64, .f32⟩
  | 24 => ⟨S8x4224x6, .f32⟩
  | 25 => ⟨S_, .f32⟩
  | 26 => ⟨S8x4224x58, .f32⟩
  | 27 => ⟨S8x4224x64, .f32⟩
  | 28 => ⟨S8, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S8, .i32⟩
  | 36 => ⟨S8, .i32⟩
  | 37 => ⟨S_, .i32⟩
  | 38 => ⟨S8, .i32⟩
  | 39 => ⟨S8, .i1⟩
  | 40 => ⟨S_, .i32⟩
  | 41 => ⟨S8, .i32⟩
  | 42 => ⟨S8, .i1⟩
  | 43 => ⟨S_, .i32⟩
  | 44 => ⟨S_, .i1⟩
  | 45 => ⟨S8, .i1⟩
  | 46 => ⟨S8, .i1⟩
  | 47 => ⟨S8, .i1⟩
  | 48 => ⟨S8, .i32⟩
  | 49 => ⟨S8, .i32⟩
  | 50 => ⟨S8, .i32⟩
  | 51 => ⟨S_, .i32⟩
  | 52 => ⟨S8, .i32⟩
  | 53 => ⟨S8, .i1⟩
  | 54 => ⟨S8x1x1, .i1⟩
  | 55 => ⟨S8x4224x128, .f32⟩
  | 56 => ⟨S8x4224x128, .f32⟩
  | 57 => ⟨S8x4224x128, .i1⟩
  | 58 => ⟨S8x4224x128, .f32⟩
  | 59 => ⟨S8x4224x128, .bf16⟩
  | 60 => ⟨S8x4112x64, .f32⟩
  | 61 => ⟨S_, .i32⟩
  | 62 => ⟨S_, .f32⟩
  | 63 => ⟨S8x4224x64, .f32⟩
  | 64 => ⟨S_, .f32⟩
  | 65 => ⟨S8x4224x61, .f32⟩
  | 66 => ⟨S8x4224x64, .f32⟩
  | 67 => ⟨S8, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S8, .i32⟩
  | 75 => ⟨S8, .i32⟩
  | 76 => ⟨S_, .i32⟩
  | 77 => ⟨S8, .i32⟩
  | 78 => ⟨S8, .i1⟩
  | 79 => ⟨S_, .i32⟩
  | 80 => ⟨S8, .i32⟩
  | 81 => ⟨S8, .i1⟩
  | 82 => ⟨S_, .i32⟩
  | 83 => ⟨S_, .i1⟩
  | 84 => ⟨S8, .i1⟩
  | 85 => ⟨S8, .i1⟩
  | 86 => ⟨S8, .i1⟩
  | 87 => ⟨S8, .i32⟩
  | 88 => ⟨S8, .i32⟩
  | 89 => ⟨S8, .i32⟩
  | 90 => ⟨S_, .i32⟩
  | 91 => ⟨S8, .i32⟩
  | 92 => ⟨S8, .i1⟩
  | 93 => ⟨S8x1x1, .i1⟩
  | 94 => ⟨S8x4224x128, .f32⟩
  | 95 => ⟨S8x4224x128, .f32⟩
  | 96 => ⟨S8x4224x128, .i1⟩
  | 97 => ⟨S8x4224x128, .f32⟩
  | 98 => ⟨S8x4224x128, .bf16⟩
  | 99 => ⟨S8x4112x64, .f32⟩
  | 100 => ⟨S_, .i32⟩
  | 101 => ⟨S_, .f32⟩
  | 102 => ⟨S8x4224x64, .f32⟩
  | 103 => ⟨S_, .f32⟩
  | 104 => ⟨S8x4224x61, .f32⟩
  | 105 => ⟨S8x4224x64, .f32⟩
  | 106 => ⟨S8, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S8, .i32⟩
  | 114 => ⟨S8, .i32⟩
  | 115 => ⟨S_, .i32⟩
  | 116 => ⟨S8, .i32⟩
  | 117 => ⟨S8, .i1⟩
  | 118 => ⟨S_, .i32⟩
  | 119 => ⟨S8, .i32⟩
  | 120 => ⟨S8, .i1⟩
  | 121 => ⟨S_, .i32⟩
  | 122 => ⟨S_, .i1⟩
  | 123 => ⟨S8, .i1⟩
  | 124 => ⟨S8, .i1⟩
  | 125 => ⟨S8, .i1⟩
  | 126 => ⟨S8, .i32⟩
  | 127 => ⟨S8, .i32⟩
  | _ => ⟨S4112x8x64, .f32⟩

abbrev hbmTy0_2 (i : Nat) : BufTy := match i % 128 with
  | 0 => ⟨S8, .i32⟩
  | 1 => ⟨S_, .i32⟩
  | 2 => ⟨S8, .i32⟩
  | 3 => ⟨S8, .i1⟩
  | 4 => ⟨S8x1x1, .i1⟩
  | 5 => ⟨S8x4224x128, .f32⟩
  | 6 => ⟨S8x4224x128, .f32⟩
  | 7 => ⟨S8x4224x128, .i1⟩
  | 8 => ⟨S8x4224x128, .f32⟩
  | 9 => ⟨S8x4224x128, .bf16⟩
  | 10 => ⟨S_, .f32⟩
  | 11 => ⟨S_, .f32⟩
  | 12 => ⟨S8x4224, .f32⟩
  | 13 => ⟨S8x11x1x384, .f32⟩
  | 14 => ⟨S4224x2304, .bf16⟩
  | 15 => ⟨S8x11x1x384, .f32⟩
  | 16 => ⟨S8x11x1x384, .f32⟩
  | _ => ⟨S4112x8x64, .f32⟩

abbrev hbmTy (i : Nat) : BufTy := match i / 128 with
  | 0 => hbmTy0_0 i
  | 1 => hbmTy0_1 i
  | 2 => hbmTy0_2 i
  | _ => ⟨S4112x8x64, .f32⟩

abbrev bufTy : (tb : Table) → Fin (tcTables nBuf tb) → BufTy
  | .hbm, ⟨i, _⟩ => hbmTy i
  | .local _ .vmem, ⟨0, _⟩ => ⟨S4x4224x128, .bf16⟩
  | .local _ .vmem, ⟨1, _⟩ => ⟨S4x4224x128, .bf16⟩
  | .local _ .vmem, ⟨2, _⟩ => ⟨S4x384x128, .bf16⟩
  | .local _ .vmem, ⟨3, _⟩ => ⟨S4x384x128, .bf16⟩
  | .local _ .vmem, ⟨4, _⟩ => ⟨S4x384x128, .bf16⟩
  | .local _ .vmem, ⟨5, _⟩ => ⟨S4x384x128, .bf16⟩
  | .local _ .vmem, ⟨6, _⟩ => ⟨S4x4224x128, .bf16⟩
  | .local _ .vmem, ⟨7, _⟩ => ⟨S4x4224x128, .bf16⟩
  | .local _ .vmem, ⟨8, _⟩ => ⟨S4x11x1x384, .f32⟩
  | .local _ .vmem, ⟨9, _⟩ => ⟨S4x11x1x384, .f32⟩
  | .local _ .vmem, ⟨10, _⟩ => ⟨S384x768, .bf16⟩
  | .local _ .vmem, ⟨11, _⟩ => ⟨S384x768, .bf16⟩
  | .local _ .vmem, ⟨12, _⟩ => ⟨S4x11x1x384, .f32⟩
  | .local _ .vmem, ⟨13, _⟩ => ⟨S4x11x1x384, .f32⟩
  | .local _ .vmem, ⟨14, _⟩ => ⟨S4x1x1x384, .f32⟩
  | .local _ .vmem, ⟨15, _⟩ => ⟨S4x1x1x384, .f32⟩
  | .local _ .vmem, ⟨16, _⟩ => ⟨S4x384x128, .f32⟩
  | .local _ .vmem, ⟨17, _⟩ => ⟨S4x384x128, .f32⟩
  | .local _ .vmem, ⟨18, _⟩ => ⟨S4x11x128x384, .f32⟩
  | _, _ => ⟨S4112x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_call1_v0 : Ref sig .tc := ⟨.hbm, 57, rfl⟩
abbrev main_v41 : Ref sig .tc := ⟨.hbm, 58, rfl⟩
abbrev main_cst_6 : Ref sig .tc := ⟨.hbm, 59, rfl⟩
abbrev main_call2_v0 : Ref sig .tc := ⟨.hbm, 60, rfl⟩
abbrev main_v42 : Ref sig .tc := ⟨.hbm, 61, rfl⟩
abbrev main_cst_7 : Ref sig .tc := ⟨.hbm, 62, rfl⟩
abbrev main_call3_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_call4_v0 : Ref sig .tc := ⟨.hbm, 70, rfl⟩
abbrev main_v48 : Ref sig .tc := ⟨.hbm, 71, rfl⟩
abbrev main_cst_9 : Ref sig .tc := ⟨.hbm, 72, rfl⟩
abbrev main_call5_v0 : Ref sig .tc := ⟨.hbm, 73, rfl⟩
abbrev main_v49 : Ref sig .tc := ⟨.hbm, 74, rfl⟩
abbrev main_cst_10 : Ref sig .tc := ⟨.hbm, 75, rfl⟩
abbrev main_call6_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_call7_v0 : Ref sig .tc := ⟨.hbm, 92, rfl⟩
abbrev main_v64 : Ref sig .tc := ⟨.hbm, 93, rfl⟩
abbrev main_cst_12 : Ref sig .tc := ⟨.hbm, 94, rfl⟩
abbrev main_call8_v0 : Ref sig .tc := ⟨.hbm, 95, rfl⟩
abbrev main_v65 : Ref sig .tc := ⟨.hbm, 96, rfl⟩
abbrev main_cst_13 : Ref sig .tc := ⟨.hbm, 97, rfl⟩
abbrev main_call9_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c : Ref sig .tc := ⟨.hbm, 105, rfl⟩
abbrev main_call10_v0 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_16 : Ref sig .tc := ⟨.hbm, 117, rfl⟩
abbrev main_call11_v0 : Ref sig .tc := ⟨.hbm, 118, rfl⟩
abbrev main_call11_c : Ref sig .tc := ⟨.hbm, 119, rfl⟩
abbrev main_call11_v1 : Ref sig .tc := ⟨.hbm, 120, rfl⟩
abbrev main_call11_c_0 : Ref sig .tc := ⟨.hbm, 121, rfl⟩
abbrev main_call11_v2 : Ref sig .tc := ⟨.hbm, 122, rfl⟩
abbrev main_call11_v3 : Ref sig .tc := ⟨.hbm, 123, rfl⟩
abbrev main_call11_v4 : Ref sig .tc := ⟨.hbm, 124, rfl⟩
abbrev main_call11_c_1 : Ref sig .tc := ⟨.hbm, 125, rfl⟩
abbrev main_call11_v5 : Ref sig .tc := ⟨.hbm, 126, rfl⟩
abbrev main_call11_v6 : Ref sig .tc := ⟨.hbm, 127, rfl⟩
abbrev main_call11_c_2 : Ref sig .tc := ⟨.hbm, 128, rfl⟩
abbrev main_call11_v7 : Ref sig .tc := ⟨.hbm, 129, rfl⟩
abbrev main_call11_v8 : Ref sig .tc := ⟨.hbm, 130, rfl⟩
abbrev main_call11_c_3 : Ref sig .tc := ⟨.hbm, 131, rfl⟩
abbrev main_call11_v9 : Ref sig .tc := ⟨.hbm, 132, rfl⟩
abbrev main_call11_v10 : Ref sig .tc := ⟨.hbm, 133, rfl⟩
abbrev main_call11_v11 : Ref sig .tc := ⟨.hbm, 134, rfl⟩
abbrev main_call11_v12 : Ref sig .tc := ⟨.hbm, 135, rfl⟩
abbrev main_call11_v13 : Ref sig .tc := ⟨.hbm, 136, rfl⟩
abbrev main_call11_v14 : Ref sig .tc := ⟨.hbm, 137, rfl⟩
abbrev main_v80 : Ref sig .tc := ⟨.hbm, 138, rfl⟩
abbrev main_c_17 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_call12_v0 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_c_18 : Ref sig .tc := ⟨.hbm, 149, rfl⟩
abbrev main_call13_v0 : Ref sig .tc := ⟨.hbm, 150, rfl⟩
abbrev main_v89 : Ref sig .tc := ⟨.hbm, 151, rfl⟩
abbrev main_v90 : Ref sig .tc := ⟨.hbm, 152, rfl⟩
abbrev main_cst_19 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_c_20 : Ref sig .tc := ⟨.hbm, 157, rfl⟩
abbrev main_call14_v0 : Ref sig .tc := ⟨.hbm, 158, rfl⟩
abbrev main_call14_c : Ref sig .tc := ⟨.hbm, 159, rfl⟩
abbrev main_call14_v1 : Ref sig .tc := ⟨.hbm, 160, rfl⟩
abbrev main_call14_c_0 : Ref sig .tc := ⟨.hbm, 161, rfl⟩
abbrev main_call14_v2 : Ref sig .tc := ⟨.hbm, 162, rfl⟩
abbrev main_call14_v3 : Ref sig .tc := ⟨.hbm, 163, rfl⟩
abbrev main_call14_v4 : Ref sig .tc := ⟨.hbm, 164, rfl⟩
abbrev main_call14_c_1 : Ref sig .tc := ⟨.hbm, 165, rfl⟩
abbrev main_call14_v5 : Ref sig .tc := ⟨.hbm, 166, rfl⟩
abbrev main_call14_v6 : Ref sig .tc := ⟨.hbm, 167, rfl⟩
abbrev main_call14_c_2 : Ref sig .tc := ⟨.hbm, 168, rfl⟩
abbrev main_call14_v7 : Ref sig .tc := ⟨.hbm, 169, rfl⟩
abbrev main_call14_v8 : Ref sig .tc := ⟨.hbm, 170, rfl⟩
abbrev main_call14_c_3 : Ref sig .tc := ⟨.hbm, 171, rfl⟩
abbrev main_call14_v9 : Ref sig .tc := ⟨.hbm, 172, rfl⟩
abbrev main_call14_v10 : Ref sig .tc := ⟨.hbm, 173, rfl⟩
abbrev main_call14_v11 : Ref sig .tc := ⟨.hbm, 174, rfl⟩
abbrev main_call14_v12 : Ref sig .tc := ⟨.hbm, 175, rfl⟩
abbrev main_call14_v13 : Ref sig .tc := ⟨.hbm, 176, rfl⟩
abbrev main_call14_v14 : Ref sig .tc := ⟨.hbm, 177, rfl⟩
abbrev main_v94 : Ref sig .tc := ⟨.hbm, 178, rfl⟩
abbrev main_c_21 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_call15_v0 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_c_22 : Ref sig .tc := ⟨.hbm, 189, rfl⟩
abbrev main_call16_v0 : Ref sig .tc := ⟨.hbm, 190, rfl⟩
abbrev main_v103 : Ref sig .tc := ⟨.hbm, 191, rfl⟩
abbrev main_cst_23 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_c_24 : Ref sig .tc := ⟨.hbm, 196, rfl⟩
abbrev main_call17_v0 : Ref sig .tc := ⟨.hbm, 197, rfl⟩
abbrev main_call17_c : Ref sig .tc := ⟨.hbm, 198, rfl⟩
abbrev main_call17_v1 : Ref sig .tc := ⟨.hbm, 199, rfl⟩
abbrev main_call17_c_0 : Ref sig .tc := ⟨.hbm, 200, rfl⟩
abbrev main_call17_v2 : Ref sig .tc := ⟨.hbm, 201, rfl⟩
abbrev main_call17_v3 : Ref sig .tc := ⟨.hbm, 202, rfl⟩
abbrev main_call17_v4 : Ref sig .tc := ⟨.hbm, 203, rfl⟩
abbrev main_call17_c_1 : Ref sig .tc := ⟨.hbm, 204, rfl⟩
abbrev main_call17_v5 : Ref sig .tc := ⟨.hbm, 205, rfl⟩
abbrev main_call17_v6 : Ref sig .tc := ⟨.hbm, 206, rfl⟩
abbrev main_call17_c_2 : Ref sig .tc := ⟨.hbm, 207, rfl⟩
abbrev main_call17_v7 : Ref sig .tc := ⟨.hbm, 208, rfl⟩
abbrev main_call17_v8 : Ref sig .tc := ⟨.hbm, 209, rfl⟩
abbrev main_call17_c_3 : Ref sig .tc := ⟨.hbm, 210, rfl⟩
abbrev main_call17_v9 : Ref sig .tc := ⟨.hbm, 211, rfl⟩
abbrev main_call17_v10 : Ref sig .tc := ⟨.hbm, 212, rfl⟩
abbrev main_call17_v11 : Ref sig .tc := ⟨.hbm, 213, rfl⟩
abbrev main_call17_v12 : Ref sig .tc := ⟨.hbm, 214, rfl⟩
abbrev main_call17_v13 : Ref sig .tc := ⟨.hbm, 215, rfl⟩
abbrev main_call17_v14 : Ref sig .tc := ⟨.hbm, 216, rfl⟩
abbrev main_v107 : Ref sig .tc := ⟨.hbm, 217, rfl⟩
abbrev main_c_25 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_call18_v0 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_c_26 : Ref sig .tc := ⟨.hbm, 228, rfl⟩
abbrev main_call19_v0 : Ref sig .tc := ⟨.hbm, 229, rfl⟩
abbrev main_v116 : Ref sig .tc := ⟨.hbm, 230, rfl⟩
abbrev main_cst_27 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_c_28 : Ref sig .tc := ⟨.hbm, 235, rfl⟩
abbrev main_call20_v0 : Ref sig .tc := ⟨.hbm, 236, rfl⟩
abbrev main_call20_c : Ref sig .tc := ⟨.hbm, 237, rfl⟩
abbrev main_call20_v1 : Ref sig .tc := ⟨.hbm, 238, rfl⟩
abbrev main_call20_c_0 : Ref sig .tc := ⟨.hbm, 239, rfl⟩
abbrev main_call20_v2 : Ref sig .tc := ⟨.hbm, 240, rfl⟩
abbrev main_call20_v3 : Ref sig .tc := ⟨.hbm, 241, rfl⟩
abbrev main_call20_v4 : Ref sig .tc := ⟨.hbm, 242, rfl⟩
abbrev main_call20_c_1 : Ref sig .tc := ⟨.hbm, 243, rfl⟩
abbrev main_call20_v5 : Ref sig .tc := ⟨.hbm, 244, rfl⟩
abbrev main_call20_v6 : Ref sig .tc := ⟨.hbm, 245, rfl⟩
abbrev main_call20_c_2 : Ref sig .tc := ⟨.hbm, 246, rfl⟩
abbrev main_call20_v7 : Ref sig .tc := ⟨.hbm, 247, rfl⟩
abbrev main_call20_v8 : Ref sig .tc := ⟨.hbm, 248, rfl⟩
abbrev main_call20_c_3 : Ref sig .tc := ⟨.hbm, 249, rfl⟩
abbrev main_call20_v9 : Ref sig .tc := ⟨.hbm, 250, rfl⟩
abbrev main_call20_v10 : Ref sig .tc := ⟨.hbm, 251, rfl⟩
abbrev main_call20_v11 : Ref sig .tc := ⟨.hbm, 252, rfl⟩
abbrev main_call20_v12 : Ref sig .tc := ⟨.hbm, 253, rfl⟩
abbrev main_call20_v13 : Ref sig .tc := ⟨.hbm, 254, rfl⟩
abbrev main_call20_v14 : Ref sig .tc := ⟨.hbm, 255, rfl⟩
abbrev main_v120 : Ref sig .tc := ⟨.hbm, 256, rfl⟩
abbrev main_c_29 : Ref sig .tc := ⟨.hbm, 257, rfl⟩
abbrev main_v121 : Ref sig .tc := ⟨.hbm, 258, rfl⟩
abbrev main_v122 : Ref sig .tc := ⟨.hbm, 259, rfl⟩
abbrev main_v123 : Ref sig .tc := ⟨.hbm, 260, rfl⟩
abbrev main_v124 : Ref sig .tc := ⟨.hbm, 261, rfl⟩
abbrev main_v125 : Ref sig .tc := ⟨.hbm, 262, rfl⟩
abbrev main_call21_v0 : Ref sig .tc := ⟨.hbm, 263, rfl⟩
abbrev main_v126 : Ref sig .tc := ⟨.hbm, 264, rfl⟩
abbrev main_v127 : Ref sig .tc := ⟨.hbm, 265, rfl⟩
abbrev main_cst_30 : Ref sig .tc := ⟨.hbm, 266, rfl⟩
abbrev main_call22_v0 : Ref sig .tc := ⟨.hbm, 267, rfl⟩
abbrev main_v128 : Ref sig .tc := ⟨.hbm, 268, rfl⟩
abbrev main_v129 : Ref sig .tc := ⟨.hbm, 269, rfl⟩
abbrev main_v130_0 : Ref sig .tc := ⟨.hbm, 270, rfl⟩
abbrev main_v130_1 : Ref sig .tc := ⟨.hbm, 271, rfl⟩
abbrev main_v130_2 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 11], ![false, false]⟩

def k0_mult1 (i : grid0.Coords) : BitVec 32 :=
  let arg1 : BitVec 32 := BitVec.ofNat 32 (i 1).val
  let c384_i32 : BitVec 32 := 384#32
  let v11 : BitVec 32 := Scalar.muli arg1 c384_i32
  v11
def k0_off1 (i : grid0.Coords) : Fin 3 → Nat :=
  let c0_7 : Index := 0#32
  let arg1 : BitVec 32 := BitVec.ofNat 32 (i 1).val
  let c384_i32 : BitVec 32 := 384#32
  let v11 : BitVec 32 := Scalar.muli arg1 c384_i32
  let v12 : BitVec 32 := v11
  let v13 : Index := Scalar.indexCast v12
  let c0_8 : Index := 0#32
  ![0, v13.toNat, 0]
def k0_off2 (i : grid0.Coords) : Fin 3 → Nat :=
  let c1 : Index := 1#32
  let arg1 : BitVec 32 := BitVec.ofNat 32 (i 1).val
  let c384_i32 : BitVec 32 := 384#32
  let v11 : BitVec 32 := Scalar.muli arg1 c384_i32
  let v12 : BitVec 32 := v11
  let v16 : Index := Scalar.indexCast v12
  let c0_9 : Index := 0#32
  ![1, v16.toNat, 0]
def k0_off3 (i : grid0.Coords) : Fin 3 → Nat :=
  let c2 : Index := 2#32
  let arg1 : BitVec 32 := BitVec.ofNat 32 (i 1).val
  let c384_i32 : BitVec 32 := 384#32
  let v11 : BitVec 32 := Scalar.muli arg1 c384_i32
  let v12 : BitVec 32 := v11
  let v19 : Index := Scalar.indexCast v12
  let c0_10 : Index := 0#32
  ![2, v19.toNat, 0]
def k0_off4 (i : grid0.Coords) : Fin 3 → Nat :=
  let c3 : Index := 3#32
  let arg1 : BitVec 32 := BitVec.ofNat 32 (i 1).val
  let c384_i32 : BitVec 32 := 384#32
  let v11 : BitVec 32 := Scalar.muli arg1 c384_i32
  let v12 : BitVec 32 := v11
  let v22 : Index := Scalar.indexCast v12
  let c0_11 : Index := 0#32
  ![3, v22.toNat, 0]
def k0_off5 (i : grid0.Coords) : Fin 4 → Nat :=
  let c0_52 : Index := 0#32
  let arg1 : BitVec 32 := BitVec.ofNat 32 (i 1).val
  let v61 : Index := Scalar.indexCast arg1
  let c0_53 : Index := 0#32
  let c0_54 : Index := 0#32
  ![0, v61.toNat, 0, 0]
def k0_off6 (i : grid0.Coords) : Fin 4 → Nat :=
  let c1_55 : Index := 1#32
  let arg1 : BitVec 32 := BitVec.ofNat 32 (i 1).val
  let v67 : Index := Scalar.indexCast arg1
  let c0_56 : Index := 0#32
  let c0_57 : Index := 0#32
  ![1, v67.toNat, 0, 0]
def k0_off7 (i : grid0.Coords) : Fin 4 → Nat :=
  let c2_58 : Index := 2#32
  let arg1 : BitVec 32 := BitVec.ofNat 32 (i 1).val
  let v73 : Index := Scalar.indexCast arg1
  let c0_59 : Index := 0#32
  let c0_60 : Index := 0#32
  ![2, v73.toNat, 0, 0]
def k0_off8 (i : grid0.Coords) : Fin 4 → Nat :=
  let c3_61 : Index := 3#32
  let arg1 : BitVec 32 := BitVec.ofNat 32 (i 1).val
  let v79 : Index := Scalar.indexCast arg1
  let c0_62 : Index := 0#32
  let c0_63 : Index := 0#32
  ![3, v79.toNat, 0, 0]
def k0_off9 (i : grid0.Coords) : Fin 4 → Nat :=
  let c0_104 : Index := 0#32
  let arg1 : BitVec 32 := BitVec.ofNat 32 (i 1).val
  let v143 : Index := Scalar.indexCast arg1
  let c0_105 : Index := 0#32
  let c0_106 : Index := 0#32
  ![0, v143.toNat, 0, 0]
def k0_off10 (i : grid0.Coords) : Fin 4 → Nat :=
  let c1_129 : Index := 1#32
  let arg1 : BitVec 32 := BitVec.ofNat 32 (i 1).val
  let v174 : Index := Scalar.indexCast arg1
  let c0_130 : Index := 0#32
  let c0_131 : Index := 0#32
  ![1, v174.toNat, 0, 0]
def k0_off11 (i : grid0.Coords) : Fin 4 → Nat :=
  let c2_154 : Index := 2#32
  let arg1 : BitVec 32 := BitVec.ofNat 32 (i 1).val
  let v205 : Index := Scalar.indexCast arg1
  let c0_155 : Index := 0#32
  let c0_156 : Index := 0#32
  ![2, v205.toNat, 0, 0]
def k0_off12 (i : grid0.Coords) : Fin 4 → Nat :=
  let c3_179 : Index := 3#32
  let arg1 : BitVec 32 := BitVec.ofNat 32 (i 1).val
  let v236 : Index := Scalar.indexCast arg1
  let c0_180 : Index := 0#32
  let c0_181 : Index := 0#32
  ![3, v236.toNat, 0, 0]
@[reducible] def k0_t1_loop (i : grid0.Coords) : Scf.Loop 32 :=
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_194 : BitVec 32 := 1#32
  ⟨v255, v260, c1_i32_194⟩
def k0_mult2 (i : grid0.Coords) (k0_t1 : Fin (k0_t1_loop i).trips) : BitVec 32 :=
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let c384_i32_262 : BitVec 32 := 384#32
  let v353 : BitVec 32 := Scalar.muli arg14 c384_i32_262
  v353
def k0_off13 (i : grid0.Coords) (k0_t1 : Fin (k0_t1_loop i).trips) : Fin 3 → Nat :=
  let c0_263 : Index := 0#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let c384_i32_262 : BitVec 32 := 384#32
  let v353 : BitVec 32 := Scalar.muli arg14 c384_i32_262
  let v354 : BitVec 32 := v353
  let v355 : Index := Scalar.indexCast v354
  let c0_264 : Index := 0#32
  ![0, v355.toNat, 0]
def k0_off14 (i : grid0.Coords) (k0_t1 : Fin (k0_t1_loop i).trips) : Fin 3 → Nat :=
  let c1_265 : Index := 1#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let c384_i32_262 : BitVec 32 := 384#32
  let v353 : BitVec 32 := Scalar.muli arg14 c384_i32_262
  let v354 : BitVec 32 := v353
  let v358 : Index := Scalar.indexCast v354
  let c0_266 : Index := 0#32
  ![1, v358.toNat, 0]
def k0_off15 (i : grid0.Coords) (k0_t1 : Fin (k0_t1_loop i).trips) : Fin 3 → Nat :=
  let c2_267 : Index := 2#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let c384_i32_262 : BitVec 32 := 384#32
  let v353 : BitVec 32 := Scalar.muli arg14 c384_i32_262
  let v354 : BitVec 32 := v353
  let v361 : Index := Scalar.indexCast v354
  let c0_268 : Index := 0#32
  ![2, v361.toNat, 0]
def k0_off16 (i : grid0.Coords) (k0_t1 : Fin (k0_t1_loop i).trips) : Fin 3 → Nat :=
  let c3_269 : Index := 3#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let c384_i32_262 : BitVec 32 := 384#32
  let v353 : BitVec 32 := Scalar.muli arg14 c384_i32_262
  let v354 : BitVec 32 := v353
  let v364 : Index := Scalar.indexCast v354
  let c0_270 : Index := 0#32
  ![3, v364.toNat, 0]
def k0_off17 (i : grid0.Coords) (k0_t1 : Fin (k0_t1_loop i).trips) : Fin 4 → Nat :=
  let c0_311 : Index := 0#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let v403 : Index := Scalar.indexCast arg14
  let c0_312 : Index := 0#32
  let c0_313 : Index := 0#32
  ![0, v403.toNat, 0, 0]
def k0_off18 (i : grid0.Coords) (k0_t1 : Fin (k0_t1_loop i).trips) : Fin 4 → Nat :=
  let c1_314 : Index := 1#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let v409 : Index := Scalar.indexCast arg14
  let c0_315 : Index := 0#32
  let c0_316 : Index := 0#32
  ![1, v409.toNat, 0, 0]
def k0_off19 (i : grid0.Coords) (k0_t1 : Fin (k0_t1_loop i).trips) : Fin 4 → Nat :=
  let c2_317 : Index := 2#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let v415 : Index := Scalar.indexCast arg14
  let c0_318 : Index := 0#32
  let c0_319 : Index := 0#32
  ![2, v415.toNat, 0, 0]
def k0_off20 (i : grid0.Coords) (k0_t1 : Fin (k0_t1_loop i).trips) : Fin 4 → Nat :=
  let c3_320 : Index := 3#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let v421 : Index := Scalar.indexCast arg14
  let c0_321 : Index := 0#32
  let c0_322 : Index := 0#32
  ![3, v421.toNat, 0, 0]
def k0_off21 (i : grid0.Coords) (k0_t1 : Fin (k0_t1_loop i).trips) : Fin 4 → Nat :=
  let c0_359 : Index := 0#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let v471 : Index := Scalar.indexCast arg14
  let c0_360 : Index := 0#32
  let c0_361 : Index := 0#32
  ![0, v471.toNat, 0, 0]
def k0_off22 (i : grid0.Coords) (k0_t1 : Fin (k0_t1_loop i).trips) : Fin 4 → Nat :=
  let c1_384 : Index := 1#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let v502 : Index := Scalar.indexCast arg14
  let c0_385 : Index := 0#32
  let c0_386 : Index := 0#32
  ![1, v502.toNat, 0, 0]
def k0_off23 (i : grid0.Coords) (k0_t1 : Fin (k0_t1_loop i).trips) : Fin 4 → Nat :=
  let c2_409 : Index := 2#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let v533 : Index := Scalar.indexCast arg14
  let c0_410 : Index := 0#32
  let c0_411 : Index := 0#32
  ![2, v533.toNat, 0, 0]
def k0_off24 (i : grid0.Coords) (k0_t1 : Fin (k0_t1_loop i).trips) : Fin 4 → Nat :=
  let c3_434 : Index := 3#32
  let arg1 : BitVec 32 := BitVec.ofNat 32 (i 1).val
  let c1_i32 : BitVec 32 := 1#32
  let v255 : BitVec 32 := Scalar.addi arg1 c1_i32
  let c1_i32_194 : BitVec 32 := 1#32
  let arg14 : BitVec 32 := Scf.iv v255 c1_i32_194 k0_t1
  let v564 : Index := Scalar.indexCast arg14
  let c0_435 : Index := 0#32
  let c0_436 : Index := 0#32
  ![3, v564.toNat, 0, 0]
@[reducible] def k0_t2_loop (i : grid0.Coords) : Scf.Loop 32 :=
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let v257 : BitVec 32 := Scalar.addi v255 v256
  let c1_i32_195 : BitVec 32 := 1#32
  ⟨v260, v257, c1_i32_195⟩
def k0_mult3 (i : grid0.Coords) (k0_t2 : Fin (k0_t2_loop i).trips) : BitVec 32 :=
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let c384_i32_262 : BitVec 32 := 384#32
  let v353 : BitVec 32 := Scalar.muli arg14 c384_i32_262
  v353
def k0_off25 (i : grid0.Coords) (k0_t2 : Fin (k0_t2_loop i).trips) : Fin 3 → Nat :=
  let c0_263 : Index := 0#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let c384_i32_262 : BitVec 32 := 384#32
  let v353 : BitVec 32 := Scalar.muli arg14 c384_i32_262
  let v354 : BitVec 32 := v353
  let v355 : Index := Scalar.indexCast v354
  let c0_264 : Index := 0#32
  ![0, v355.toNat, 0]
def k0_off26 (i : grid0.Coords) (k0_t2 : Fin (k0_t2_loop i).trips) : Fin 3 → Nat :=
  let c1_265 : Index := 1#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let c384_i32_262 : BitVec 32 := 384#32
  let v353 : BitVec 32 := Scalar.muli arg14 c384_i32_262
  let v354 : BitVec 32 := v353
  let v358 : Index := Scalar.indexCast v354
  let c0_266 : Index := 0#32
  ![1, v358.toNat, 0]
def k0_off27 (i : grid0.Coords) (k0_t2 : Fin (k0_t2_loop i).trips) : Fin 3 → Nat :=
  let c2_267 : Index := 2#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let c384_i32_262 : BitVec 32 := 384#32
  let v353 : BitVec 32 := Scalar.muli arg14 c384_i32_262
  let v354 : BitVec 32 := v353
  let v361 : Index := Scalar.indexCast v354
  let c0_268 : Index := 0#32
  ![2, v361.toNat, 0]
def k0_off28 (i : grid0.Coords) (k0_t2 : Fin (k0_t2_loop i).trips) : Fin 3 → Nat :=
  let c3_269 : Index := 3#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let c384_i32_262 : BitVec 32 := 384#32
  let v353 : BitVec 32 := Scalar.muli arg14 c384_i32_262
  let v354 : BitVec 32 := v353
  let v364 : Index := Scalar.indexCast v354
  let c0_270 : Index := 0#32
  ![3, v364.toNat, 0]
def k0_off29 (i : grid0.Coords) (k0_t2 : Fin (k0_t2_loop i).trips) : Fin 4 → Nat :=
  let c0_311 : Index := 0#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let v403 : Index := Scalar.indexCast arg14
  let c0_312 : Index := 0#32
  let c0_313 : Index := 0#32
  ![0, v403.toNat, 0, 0]
def k0_off30 (i : grid0.Coords) (k0_t2 : Fin (k0_t2_loop i).trips) : Fin 4 → Nat :=
  let c1_314 : Index := 1#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let v409 : Index := Scalar.indexCast arg14
  let c0_315 : Index := 0#32
  let c0_316 : Index := 0#32
  ![1, v409.toNat, 0, 0]
def k0_off31 (i : grid0.Coords) (k0_t2 : Fin (k0_t2_loop i).trips) : Fin 4 → Nat :=
  let c2_317 : Index := 2#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let v415 : Index := Scalar.indexCast arg14
  let c0_318 : Index := 0#32
  let c0_319 : Index := 0#32
  ![2, v415.toNat, 0, 0]
def k0_off32 (i : grid0.Coords) (k0_t2 : Fin (k0_t2_loop i).trips) : Fin 4 → Nat :=
  let c3_320 : Index := 3#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let v421 : Index := Scalar.indexCast arg14
  let c0_321 : Index := 0#32
  let c0_322 : Index := 0#32
  ![3, v421.toNat, 0, 0]
def k0_off33 (i : grid0.Coords) (k0_t2 : Fin (k0_t2_loop i).trips) : Fin 4 → Nat :=
  let c0_359 : Index := 0#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let v471 : Index := Scalar.indexCast arg14
  let c0_360 : Index := 0#32
  let c0_361 : Index := 0#32
  ![0, v471.toNat, 0, 0]
def k0_off34 (i : grid0.Coords) (k0_t2 : Fin (k0_t2_loop i).trips) : Fin 4 → Nat :=
  let c1_384 : Index := 1#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let v502 : Index := Scalar.indexCast arg14
  let c0_385 : Index := 0#32
  let c0_386 : Index := 0#32
  ![1, v502.toNat, 0, 0]
def k0_off35 (i : grid0.Coords) (k0_t2 : Fin (k0_t2_loop i).trips) : Fin 4 → Nat :=
  let c2_409 : Index := 2#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let v533 : Index := Scalar.indexCast arg14
  let c0_410 : Index := 0#32
  let c0_411 : Index := 0#32
  ![2, v533.toNat, 0, 0]
def k0_off36 (i : grid0.Coords) (k0_t2 : Fin (k0_t2_loop i).trips) : Fin 4 → Nat :=
  let c3_434 : Index := 3#32
  let arg1 : BitVec 32 := BitVec.ofNat 32 (i 1).val
  let c1_i32 : BitVec 32 := 1#32
  let v255 : BitVec 32 := Scalar.addi arg1 c1_i32
  let c11_i32 : BitVec 32 := 11#32
  let v256 : BitVec 32 := Scalar.subi c11_i32 v255
  let c1_i32_193 : BitVec 32 := 1#32
  let v258 : BitVec 32 := Scalar.divsi v256 c1_i32_193
  let v259 : BitVec 32 := Scalar.muli v258 c1_i32_193
  let v260 : BitVec 32 := Scalar.addi v255 v259
  let c1_i32_195 : BitVec 32 := 1#32
  let arg14 : BitVec 32 := Scf.iv v260 c1_i32_195 k0_t2
  let v564 : Index := Scalar.indexCast arg14
  let c0_435 : Index := 0#32
  let c0_436 : Index := 0#32
  ![3, v564.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x11x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S384x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x11x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4112x8x64 : Shape := ⟨3, ![4112, 8, 64]⟩
abbrev S8x4112 : Shape := ⟨2, ![8, 4112]⟩
abbrev S4224x2304 : Shape := ⟨2, ![4224, 2304]⟩
abbrev S8x4112x4112 : Shape := ⟨3, ![8, 4112, 4112]⟩
abbrev S_ : Shape := ⟨0, ![]⟩
abbrev S8x4112x1 : Shape := ⟨3, ![8, 4112, 1]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x64x4112 : Shape := ⟨3, ![8, 64, 4112]⟩
abbrev S8x4112x64 : Shape := ⟨3, ![8, 4112, 64]⟩
abbrev S4224x768 : Shape := ⟨2, ![4224, 768]⟩
abbrev S4112x4x64 : Shape := ⟨3, ![4112, 4, 64]⟩
abbrev S4112x256 : Shape := ⟨2, ![4112, 256]⟩
abbrev S4224x256 : Shape := ⟨2, ![4224, 256]⟩
abbrev S8x4224 : Shape := ⟨2, ![8, 4224]⟩
abbrev S8x11x1x384 : Shape := ⟨4, ![8, 11, 1, 384]⟩

abbrev nBuf : Space → Nat
  | .hbm => 155
  | .vmem => 0
  | .smem => 0
  | _ => 0

abbrev hbmTy0_0 (i : Nat) : BufTy := match i % 128 with
  | 0 => ⟨S4112x8x64, .f32⟩
  | 1 => ⟨S4112x8x64, .f32⟩
  | 2 => ⟨S4112x8x64, .f32⟩
  | 3 => ⟨S8x4112, .f32⟩
  | 4 => ⟨S4112x8x64, .f32⟩
  | 5 => ⟨S4224x2304, .bf16⟩
  | 6 => ⟨S8x4112x4112, .f32⟩
  | 7 => ⟨S_, .f32⟩
  | 8 => ⟨S8x4112x4112, .f32⟩
  | 9 => ⟨S8x4112x4112, .f32⟩
  | 10 => ⟨S8x4112x1, .f32⟩
  | 11 => ⟨S8x4112x4112, .f32⟩
  | 12 => ⟨S8x4112x4112, .f32⟩
  | 13 => ⟨S8x1x4112, .f32⟩
  | 14 => ⟨S8x4112x4112, .f32⟩
  | 15 => ⟨S8x4112x4112, .f32⟩
  | 16 => ⟨S4112, .i32⟩
  | 17 => ⟨S1x4112, .i32⟩
  | 18 => ⟨S4112x1, .i32⟩
  | 19 => ⟨S4112x4112, .i32⟩
  | 20 => ⟨S4112x4112, .i32⟩
  | 21 => ⟨S4112x4112, .i1⟩
  | 22 => ⟨S_, .f32⟩
  | 23 => ⟨S_, .f32⟩
  | 24 => ⟨S8x4112x4112, .i1⟩
  | 25 => ⟨S8x4112x4112, .f32⟩
  | 26 => ⟨S8x4112x4112, .f32⟩
  | 27 => ⟨S_, .f32⟩
  | 28 => ⟨S8x4112x4112, .f32⟩
  | 29 => ⟨S_, .f32⟩
  | 30 => ⟨S8x4112, .f32⟩
  | 31 => ⟨S8x4112x1, .f32⟩
  | 32 => ⟨S8x4112x4112, .f32⟩
  | 33 => ⟨S8x4112x4112, .i1⟩
  | 34 => ⟨S8x4112x4112, .f32⟩
  | 35 => ⟨S_, .f32⟩
  | 36 => ⟨S8x4112, .f32⟩
  | 37 => ⟨S_, .f32⟩
  | 38 => ⟨S8x4112, .f32⟩
  | 39 => ⟨S8x4112, .f32⟩
  | 40 => ⟨S_, .f32⟩
  | 41 => ⟨S8x4112, .f32⟩
  | 42 => ⟨S8x4112, .i1⟩
  | 43 => ⟨S_, .f32⟩
  | 44 => ⟨S8x4112, .f32⟩
  | 45 => ⟨S8x4112, .i1⟩
  | 46 => ⟨S_, .f32⟩
  | 47 => ⟨S8x4112, .f32⟩
  | 48 => ⟨S_, .f32⟩
  | 49 => ⟨S8x4112, .f32⟩
  | 50 => ⟨S_, .f32⟩
  | 51 => ⟨S8x4112, .f32⟩
  | 52 => ⟨S8x4112, .f32⟩
  | 53 => ⟨S8x4112, .f32⟩
  | 54 => ⟨S8x4112x1, .f32⟩
  | 55 => ⟨S8x4112x4112, .f32⟩
  | 56 => ⟨S8x4112x4112, .f32⟩
  | 57 => ⟨S8x4112x4112, .f32⟩
  | 58 => ⟨S_, .f32⟩
  | 59 => ⟨S8x4112, .f32⟩
  | 60 => ⟨S8x4112x1, .f32⟩
  | 61 => ⟨S8x4112x4112, .f32⟩
  | 62 => ⟨S8x4112x4112, .f32⟩
  | 63 => ⟨S8x4112x1, .f32⟩
  | 64 => ⟨S_, .f32⟩
  | 65 => ⟨S8x4112x1, .f32⟩
  | 66 => ⟨S8x4112x1, .f32⟩
  | 67 => ⟨S8x64x4112, .f32⟩
  | 68 => ⟨S4112x8x64, .f32⟩
  | 69 => ⟨S8x64x4112, .f32⟩
  | 70 => ⟨S8x4112x4112, .f32⟩
  | 71 => ⟨S8x64x4112, .f32⟩
  | 72 => ⟨S4112x8x64, .f32⟩
  | 73 => ⟨S8x4112x4112, .f32⟩
  | 74 => ⟨S8x4112x4112, .f32⟩
  | 75 => ⟨S8x4112x4112, .f32⟩
  | 76 => ⟨S_, .f32⟩
  | 77 => ⟨S8x4112, .f32⟩
  | 78 => ⟨S8x4112x1, .f32⟩
  | 79 => ⟨S8x4112x1, .f32⟩
  | 80 => ⟨S8x4112x4112, .f32⟩
  | 81 => ⟨S8x4112x4112, .f32⟩
  | 82 => ⟨S_, .f32⟩
  | 83 => ⟨S8x4112, .f32⟩
  | 84 => ⟨S8x4112x4112, .f32⟩
  | 85 => ⟨S8x4112x4112, .f32⟩
  | 86 => ⟨S8x4112x4112, .f32⟩
  | 87 => ⟨S_, .f32⟩
  | 88 => ⟨S8x4112x4112, .f32⟩
  | 89 => ⟨S8x4112x4112, .f32⟩
  | 90 => ⟨S8x4112x4112, .f32⟩
  | 91 => ⟨S_, .f32⟩
  | 92 => ⟨S8x4112, .f32⟩
  | 93 => ⟨S8x1x4112, .f32⟩
  | 94 => ⟨S_, .f32⟩
  | 95 => ⟨S8x4112, .f32⟩
  | 96 => ⟨S_, .f32⟩
  | 97 => ⟨S8x4112, .f32⟩
  | 98 => ⟨S8x4112x1, .f32⟩
  | 99 => ⟨S_, .f32⟩
  | 100 => ⟨S8x4112, .f32⟩
  | 101 => ⟨S_, .f32⟩
  | 102 => ⟨S8x4112x4112, .f32⟩
  | 103 => ⟨S8x4112x4112, .f32⟩
  | 104 => ⟨S8x4112x64, .f32⟩
  | 105 => ⟨S4112x8x64, .f32⟩
  | 106 => ⟨S8x4112x64, .f32⟩
  | 107 => ⟨S4112x8x64, .f32⟩
  | 108 => ⟨S4224x768, .bf16⟩
  | 109 => ⟨S4112x4x64, .f32⟩
  | 110 => ⟨S4112x256, .f32⟩
  | 111 => ⟨S_, .i32⟩
  | 112 => ⟨S_, .f32⟩
  | 113 => ⟨S4224x256, .f32⟩
  | 114 => ⟨S4224x256, .bf16⟩
  | 115 => ⟨S4112x4x64, .f32⟩
  | 116 => ⟨S4112x256, .f32⟩
  | 117 => ⟨S_, .i32⟩
  | 118 => ⟨S_, .f32⟩
  | 119 => ⟨S4224x256, .f32⟩
  | 120 => ⟨S4224x256, .bf16⟩
  | 121 => ⟨S4112x4x64, .f32⟩
  | 122 => ⟨S4112x256, .f32⟩
  | 123 => ⟨S_, .i32⟩
  | 124 => ⟨S_, .f32⟩
  | 125 => ⟨S4224x256, .f32⟩
  | 126 => ⟨S4224x256, .bf16⟩
  | 127 => ⟨S4112x4x64, .f32⟩
  | _ => ⟨S4112x8x64, .f32⟩

abbrev hbmTy0_1 (i : Nat) : BufTy := match i % 128 with
  | 0 => ⟨S4112x256, .f32⟩
  | 1 => ⟨S_, .i32⟩
  | 2 => ⟨S_, .f32⟩
  | 3 => ⟨S4224x256, .f32⟩
  | 4 => ⟨S4224x256, .bf16⟩
  | 5 => ⟨S4112x4x64, .f32⟩
  | 6 => ⟨S4112x256, .f32⟩
  | 7 => ⟨S_, .i32⟩
  | 8 => ⟨S_, .f32⟩
  | 9 => ⟨S4224x256, .f32⟩
  | 10 => ⟨S4224x256, .bf16⟩
  | 11 => ⟨S4112x4x64, .f32⟩
  | 12 => ⟨S4112x256, .f32⟩
  | 13 => ⟨S_, .i32⟩
  | 14 => ⟨S_, .f32⟩
  | 15 => ⟨S4224x256, .f32⟩
  | 16 => ⟨S4224x256, .bf16⟩
  | 17 => ⟨S4224x2304, .bf16⟩
  | 18 => ⟨S_, .i32⟩
  | 19 => ⟨S_, .f32⟩
  | 20 => ⟨S8x4224, .f32⟩
  | 21 => ⟨S8x11x1x384, .f32⟩
  | 22 => ⟨S8x4112, .f32⟩
  | 23 => ⟨S_, .i32⟩
  | 24 => ⟨S_, .f32⟩
  | 25 => ⟨S8x4224, .f32⟩
  | 26 => ⟨S8x11x1x384, .f32⟩
  | _ => ⟨S4112x8x64, .f32⟩

abbrev hbmTy (i : Nat) : BufTy := match i / 128 with
  | 0 => hbmTy0_0 i
  | 1 => hbmTy0_1 i
  | _ => ⟨S4112x8x64, .f32⟩

abbrev bufTy : (tb : Table) → Fin (tcTables nBuf tb) → BufTy
  | .hbm, ⟨i, _⟩ => hbmTy i
  | _, _ => ⟨S4112x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_v15_1 : Ref sig .tc := ⟨.hbm, 24, rfl⟩
abbrev main_call0_v2 : Ref sig .tc := ⟨.hbm, 25, rfl⟩
abbrev main_v15_0 : Ref sig .tc := ⟨.hbm, 26, rfl⟩
abbrev main_call0_cst : Ref sig .tc := ⟨.hbm, 27, rfl⟩
abbrev main_v15_2 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c : Ref sig .tc := ⟨.hbm, 111, rfl⟩
abbrev main_call2_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_call3_v0 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_19 : Ref sig .tc := ⟨.hbm, 123, rfl⟩
abbrev main_call4_v0 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_20 : Ref sig .tc := ⟨.hbm, 129, rfl⟩
abbrev main_call5_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_21 : Ref sig .tc := ⟨.hbm, 135, rfl⟩
abbrev main_call6_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_22 : Ref sig .tc := ⟨.hbm, 141, rfl⟩
abbrev main_call7_v0 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_c_23 : Ref sig .tc := ⟨.hbm, 146, rfl⟩
abbrev main_call8_v0 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_24 : Ref sig .tc := ⟨.hbm, 151, rfl⟩
abbrev main_call9_v0 : Ref sig .tc := ⟨.hbm, 152, rfl⟩
abbrev main_v105 : Ref sig .tc := ⟨.hbm, 153, rfl⟩
abbrev main_v106 : Ref sig .tc := ⟨.hbm, 154, rfl⟩

abbrev nD : Nat := 1
abbrev τ : Topo := Topo.v7x

variable {F : FTy → Type} [FloatOps F]
-- ==== Kernel3.lean ====
abbrev S4224x5632 : Shape := ⟨2, ![4224, 5632]⟩
abbrev S5632x1024 : Shape := ⟨2, ![5632, 1024]⟩
abbrev S4224x1024 : Shape := ⟨2, ![4224, 1024]⟩
abbrev S1056x5632 : Shape := ⟨2, ![1056, 5632]⟩
abbrev S5632x512 : Shape := ⟨2, ![5632, 512]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S5632x1024, .bf16⟩
  | .hbm, ⟨2, _⟩ => ⟨S4224x1024, .f32⟩
  | .local _ .vmem, ⟨0, _⟩ => ⟨S1056x5632, .bf16⟩
  | .local _ .vmem, ⟨1, _⟩ => ⟨S1056x5632, .bf16⟩
  | .local _ .vmem, ⟨2, _⟩ => ⟨S5632x512, .bf16⟩
  | .local _ .vmem, ⟨3, _⟩ => ⟨S5632x512, .bf16⟩
  | .local _ .vmem, ⟨4, _⟩ => ⟨S1056x512, .f32⟩
  | .local _ .vmem, ⟨5, _⟩ => ⟨S1056x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x5632 : Shape := ⟨2, ![4224, 5632]⟩
abbrev S5632x1024 : Shape := ⟨2, ![5632, 1024]⟩
abbrev S1024x5632 : Shape := ⟨2, ![1024, 5632]⟩
abbrev S_ : Shape := ⟨0, ![]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x1024, .bf16⟩
  | .hbm, ⟨2, _⟩ => ⟨S5632x1024, .f32⟩
  | .hbm, ⟨3, _⟩ => ⟨S1024x5632, .f32⟩
  | .hbm, ⟨4, _⟩ => ⟨S_, .f32⟩
  | .hbm, ⟨5, _⟩ => ⟨S4224x1024, .f32⟩
  | .hbm, ⟨6, _⟩ => ⟨S4224x5632, .f32⟩
  | .hbm, ⟨7, _⟩ => ⟨S4224x5632, .f32⟩
  | .hbm, ⟨8, _⟩ => ⟨S4224x1024, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4224x5632 : Shape := ⟨2, ![4224, 5632]⟩
abbrev S4224x1024 : Shape := ⟨2, ![4224, 1024]⟩
abbrev S5632x1024 : Shape := ⟨2, ![5632, 1024]⟩
abbrev S4224x512 : Shape := ⟨2, ![4224, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x5632, .bf16⟩
  | .hbm, ⟨1, _⟩ => ⟨S4224x1024, .bf16⟩
  | .hbm, ⟨2, _⟩ => ⟨S5632x1024, .f32⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S512x1024, .f32⟩
  | .local _ .vmem, ⟨4, _⟩ => ⟨S512x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x5632 : Shape := ⟨2, ![4224, 5632]⟩
abbrev S4224x1024 : Shape := ⟨2, ![4224, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x1024, .bf16⟩
  | .hbm, ⟨2, _⟩ => ⟨S4224x1024, .f32⟩
  | .hbm, ⟨3, _⟩ => ⟨S_, .f32⟩
  | .hbm, ⟨4, _⟩ => ⟨S1024x5632, .f32⟩
  | .hbm, ⟨5, _⟩ => ⟨S4224x5632, .f32⟩
  | .hbm, ⟨6, _⟩ => ⟨S4224x5632, .f32⟩
  | .hbm, ⟨7, _⟩ => ⟨S5632x1024, .f32⟩
  | .hbm, ⟨8, _⟩ => ⟨S1024x5632, .f32⟩
  | .hbm, ⟨9, _⟩ => ⟨S5632x1024, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2816x4224 : Shape := ⟨2, ![2816, 4224]⟩
abbrev S4224x1024 : Shape := ⟨2, ![4224, 1024]⟩
abbrev S2816x1024 : Shape := ⟨2, ![2816, 1024]⟩
abbrev S704x4224 : Shape := ⟨2, ![704, 4224]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2816x4224, .bf16⟩
  | .hbm, ⟨1, _⟩ => ⟨S4224x1024, .bf16⟩
  | .hbm, ⟨2, _⟩ => ⟨S2816x1024, .f32⟩
  | .local _ .vmem, ⟨0, _⟩ => ⟨S704x4224, .bf16⟩
  | .local _ .vmem, ⟨1, _⟩ => ⟨S704x4224, .bf16⟩
  | .local _ .vmem, ⟨2, _⟩ => ⟨S4224x1024, .bf16⟩
  | .local _ .vmem, ⟨3, _⟩ => ⟨S704x1024, .f32⟩
  | .local _ .vmem, ⟨4, _⟩ => ⟨S704x1024, .f32⟩
  | _, _ => ⟨S2816x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2816x4224 : Shape := ⟨2, ![2816, 4224]⟩
abbrev S4224x1024 : Shape := ⟨2, ![4224, 1024]⟩
abbrev S4224x2816 : Shape := ⟨2, ![4224, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2816x4224, .bf16⟩
  | .hbm, ⟨1, _⟩ => ⟨S4224x1024, .bf16⟩
  | .hbm, ⟨2, _⟩ => ⟨S2816x4224, .f32⟩
  | .hbm, ⟨3, _⟩ => ⟨S4224x2816, .f32⟩
  | .hbm, ⟨4, _⟩ => ⟨S_, .f32⟩
  | .hbm, ⟨5, _⟩ => ⟨S2816x1024, .f32⟩
  | .hbm, ⟨6, _⟩ => ⟨S4224x1024, .f32⟩
  | .hbm, ⟨7, _⟩ => ⟨S4224x1024, .f32⟩
  | .hbm, ⟨8, _⟩ => ⟨S1024x2816, .f32⟩
  | .hbm, ⟨9, _⟩ => ⟨S2816x1024, .f32⟩
  | _, _ => ⟨S2816x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4224x2304 : Shape := ⟨2, ![4224, 2304]⟩
abbrev S1024x2304 : Shape := ⟨2, ![1024, 2304]⟩
abbrev S4224x1024 : Shape := ⟨2, ![4224, 1024]⟩
abbrev S1056x2304 : Shape := ⟨2, ![1056, 2304]⟩
abbrev S512x2304 : Shape := ⟨2, ![512, 2304]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2304, .bf16⟩
  | .hbm, ⟨1, _⟩ => ⟨S1024x2304, .bf16⟩
  | .hbm, ⟨2, _⟩ => ⟨S4224x1024, .f32⟩
  | .local _ .vmem, ⟨0, _⟩ => ⟨S1056x2304, .bf16⟩
  | .local _ .vmem, ⟨1, _⟩ => ⟨S1056x2304, .bf16⟩
  | .local _ .vmem, ⟨2, _⟩ => ⟨S512x2304, .bf16⟩
  | .local _ .vmem, ⟨3, _⟩ => ⟨S512x2304, .bf16⟩
  | .local _ .vmem, ⟨4, _⟩ => ⟨S1056x512, .f32⟩
  | .local _ .vmem, ⟨5, _⟩ => ⟨S1056x512, .f32⟩
  | _, _ => ⟨S4224x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x2304 : Shape := ⟨2, ![4224, 2304]⟩
abbrev S1024x2304 : Shape := ⟨2, ![1024, 2304]⟩
abbrev S_ : Shape := ⟨0, ![]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x2304, .bf16⟩
  | .hbm, ⟨1, _⟩ => ⟨S1024x2304, .bf16⟩
  | .hbm, ⟨2, _⟩ => ⟨S1024x2304, .f32⟩
  | .hbm, ⟨3, _⟩ => ⟨S_, .f32⟩
  | .hbm, ⟨4, _⟩ => ⟨S4224x1024, .f32⟩
  | .hbm, ⟨5, _⟩ => ⟨S4224x2304, .f32⟩
  | .hbm, ⟨6, _⟩ => ⟨S4224x2304, .f32⟩
  | .hbm, ⟨7, _⟩ => ⟨S4224x1024, .f32⟩
  | _, _ => ⟨S4224x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S1024x4224 : Shape := ⟨2, ![1024, 4224]⟩
abbrev S4224x2304 : Shape := ⟨2, ![4224, 2304]⟩
abbrev S1024x2304 : Shape := ⟨2, ![1024, 2304]⟩
abbrev S512x4224 : Shape := ⟨2, ![512, 4224]⟩
abbrev S4224x768 : Shape := ⟨2, ![4224, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S1024x4224, .bf16⟩
  | .hbm, ⟨1, _⟩ => ⟨S4224x2304, .bf16⟩
  | .hbm, ⟨2, _⟩ => ⟨S1024x2304, .f32⟩
  | .local _ .vmem, ⟨0, _⟩ => ⟨S512x4224, .bf16⟩
  | .local _ .vmem, ⟨1, _⟩ => ⟨S512x4224, .bf16⟩
  | .local _ .vmem, ⟨2, _⟩ => ⟨S4224x768, .bf16⟩
  | .local _ .vmem, ⟨3, _⟩ => ⟨S4224x768, .bf16⟩
  | .local _ .vmem, ⟨4, _⟩ => ⟨S512x768, .f32⟩
  | .local _ .vmem, ⟨5, _⟩ => ⟨S512x768, .f32⟩
  | _, _ => ⟨S1024x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x4224 : Shape := ⟨2, ![1024, 4224]⟩
abbrev S4224x2304 : Shape := ⟨2, ![4224, 2304]⟩
abbrev S4224x1024 : Shape := ⟨2, ![4224, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x4224, .bf16⟩
  | .hbm, ⟨1, _⟩ => ⟨S4224x2304, .bf16⟩
  | .hbm, ⟨2, _⟩ => ⟨S1024x4224, .f32⟩
  | .hbm, ⟨3, _⟩ => ⟨S4224x1024, .f32⟩
  | .hbm, ⟨4, _⟩ => ⟨S_, .f32⟩
  | .hbm, ⟨5, _⟩ => ⟨S1024x2304, .f32⟩
  | .hbm, ⟨6, _⟩ => ⟨S4224x2304, .f32⟩
  | .hbm, ⟨7, _⟩ => ⟨S4224x2304, .f32⟩
  | .hbm, ⟨8, _⟩ => ⟨S2304x1024, .f32⟩
  | .hbm, ⟨9, _⟩ => ⟨S1024x2304, .f32⟩
  | _, _ => ⟨S1024x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4224x1024 : Shape := ⟨2, ![4224, 1024]⟩
abbrev S1024x1024 : Shape := ⟨2, ![1024, 1024]⟩
abbrev S4224x512 : Shape := ⟨2, ![4224, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S512x1024, .f32⟩
  | .local _ .vmem, ⟨4, _⟩ => ⟨S512x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S_, .f32⟩
  | .hbm, ⟨4, _⟩ => ⟨S1024x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4224x2816 : Shape := ⟨2, ![4224, 2816]⟩
abbrev S2816x1024 : Shape := ⟨2, ![2816, 1024]⟩
abbrev S4224x1024 : Shape := ⟨2, ![4224, 1024]⟩
abbrev S1056x2816 : Shape := ⟨2, ![1056, 2816]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .local _ .vmem, ⟨0, _⟩ => ⟨S1056x2816, .bf16⟩
  | .local _ .vmem, ⟨1, _⟩ => ⟨S1056x2816, .bf16⟩
  | .local _ .vmem, ⟨2, _⟩ => ⟨S2816x1024, .bf16⟩
  | .local _ .vmem, ⟨3, _⟩ => ⟨S1056x1024, .f32⟩
  | .local _ .vmem, ⟨4, _⟩ => ⟨S1056x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x2816, .f32⟩
  | .hbm, ⟨3, _⟩ => ⟨S2816x1024, .f32⟩
  | .hbm, ⟨4, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4224x1024 : Shape := ⟨2, ![4224, 1024]⟩
abbrev S1024x2304 : Shape := ⟨2, ![1024, 2304]⟩
abbrev S4224x2304 : Shape := ⟨2, ![4224, 2304]⟩
abbrev S1056x1024 : Shape := ⟨2, ![1056, 1024]⟩
abbrev S1056x2304 : Shape := ⟨2, ![1056, 2304]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x2304, .bf16⟩
  | .hbm, ⟨2, _⟩ => ⟨S4224x2304, .bf16⟩
  | .local _ .vmem, ⟨0, _⟩ => ⟨S1056x1024, .bf16⟩
  | .local _ .vmem, ⟨1, _⟩ => ⟨S1056x1024, .bf16⟩
  | .local _ .vmem, ⟨2, _⟩ => ⟨S1024x2304, .bf16⟩
  | .local _ .vmem, ⟨3, _⟩ => ⟨S1056x2304, .bf16⟩
  | .local _ .vmem, ⟨4, _⟩ => ⟨S1056x2304, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x1024 : Shape := ⟨2, ![4224, 1024]⟩
abbrev S1024x2304 : Shape := ⟨2, ![1024, 2304]⟩
abbrev S4224x2304 : Shape := ⟨2, ![4224, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x2304, .bf16⟩
  | .hbm, ⟨2, _⟩ => ⟨S4224x1024, .f32⟩
  | .hbm, ⟨3, _⟩ => ⟨S1024x2304, .f32⟩
  | .hbm, ⟨4, _⟩ => ⟨S4224x2304, .f32⟩
  | .hbm, ⟨5, _⟩ => ⟨S4224x2304, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x1024 : Shape := ⟨2, ![4224, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1024x1024, .f32⟩
  | .hbm, ⟨4, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel2.lean ====
abbrev S4224x1024 : Shape := ⟨2, ![4224, 1024]⟩
abbrev S2816x1024 : Shape := ⟨2, ![2816, 1024]⟩
abbrev S4224x2816 : Shape := ⟨2, ![4224, 2816]⟩
abbrev S4224x5632 : Shape := ⟨2, ![4224, 5632]⟩
abbrev S384x1024 : Shape := ⟨2, ![384, 1024]⟩
abbrev S384x2816 : Shape := ⟨2, ![384, 2816]⟩
abbrev S384x5632 : Shape := ⟨2, ![384, 5632]⟩
abbrev S768x1024 : Shape := ⟨2, ![768, 1024]⟩
abbrev S384x768 : Shape := ⟨2, ![384, 768]⟩
abbrev S512x1024 : Shape := ⟨2, ![512, 1024]⟩
abbrev S384x512 : Shape := ⟨2, ![384, 512]⟩

abbrev nBuf : Space → Nat
  | .hbm => 5
  | .vmem => 9
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .bf16⟩
  | .hbm, ⟨3, _⟩ => ⟨S4224x2816, .bf16⟩
  | .hbm, ⟨4, _⟩ => ⟨S4224x5632, .bf16⟩
  | .local _ .vmem, ⟨0, _⟩ => ⟨S384x1024, .bf16⟩
  | .local _ .vmem, ⟨1, _⟩ => ⟨S384x1024, .bf16⟩
  | .local _ .vmem, ⟨2, _⟩ => ⟨S2816x1024, .bf16⟩
  | .local _ .vmem, ⟨3, _⟩ => ⟨S384x2816, .bf16⟩
  | .local _ .vmem, ⟨4, _⟩ => ⟨S384x2816, .bf16⟩
  | .local _ .vmem, ⟨5, _⟩ => ⟨S384x2816, .bf16⟩
  | .local _ .vmem, ⟨6, _⟩ => ⟨S384x2816, .bf16⟩
  | .local _ .vmem, ⟨7, _⟩ => ⟨S384x5632, .bf16⟩
  | .local _ .vmem, ⟨8, _⟩ => ⟨S384x5632, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩
abbrev S4224x5632 : Shape := ⟨2, ![4224, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .bf16⟩
  | .hbm, ⟨3, _⟩ => ⟨S4224x2816, .bf16⟩
  | .hbm, ⟨4, _⟩ => ⟨S2816x1024, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S_, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x1024, .f32⟩
  | .hbm, ⟨22, _⟩ => ⟨S4224x1024, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S4224x2816, .f32⟩
  | .hbm, ⟨29, _⟩ => ⟨S4224x2816, .f32⟩
  | .hbm, ⟨30, _⟩ => ⟨S4224x5632, .f32⟩
  | .hbm, ⟨31, _⟩ => ⟨S4224x5632, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel13.lean ====
abbrev S4224x1024 : Shape := ⟨2, ![4224, 1024]⟩
abbrev S5632x1024 : Shape := ⟨2, ![5632, 1024]⟩
abbrev S4224x2816 : Shape := ⟨2, ![4224, 2816]⟩
abbrev S2816x4224 : Shape := ⟨2, ![2816, 4224]⟩
abbrev S1408x1024 : Shape := ⟨2, ![1408, 1024]⟩
abbrev S256x1024 : Shape := ⟨2, ![256, 1024]⟩
abbrev S1408x256 : Shape := ⟨2, ![1408, 256]⟩
abbrev S256x1408 : Shape := ⟨2, ![256, 1408]⟩
abbrev S384x1024 : Shape := ⟨2, ![384, 1024]⟩
abbrev S384x256 : Shape := ⟨2, ![384, 256]⟩
abbrev S256x384 : Shape := ⟨2, ![256, 384]⟩
abbrev S256x256 : Shape := ⟨2, ![256, 256]⟩

abbrev nBuf : Space → Nat
  | .hbm => 6
  | .vmem => 14
  | .smem => 0
  | _ => 0

abbrev bufTy : (tb : Table) → Fin (tcTables nBuf tb) → BufTy
  | .hbm, ⟨0, _⟩ => ⟨S4224x1024, .bf16⟩
  | .hbm, ⟨1, _⟩ => ⟨S5632x1024, .bf16⟩
  | .hbm, ⟨2, _⟩ => ⟨S4224x2816, .bf16⟩
  | .hbm, ⟨3, _⟩ => ⟨S4224x2816, .bf16⟩
  | .hbm, ⟨4, _⟩ => ⟨S4224x2816, .bf16⟩
  | .hbm, ⟨5, _⟩ => ⟨S2816x4224, .bf16⟩
  | .local _ .vmem, ⟨0, _⟩ => ⟨S1408x1024, .bf16⟩
  | .local _ .vmem, ⟨1, _⟩ => ⟨S1408x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1408x256, .bf16⟩
  | .local _ .vmem, ⟨7, _⟩ => ⟨S1408x256, .bf16⟩
  | .local _ .vmem, ⟨8, _⟩ => ⟨S1408x256, .bf16⟩
  | .local _ .vmem, ⟨9, _⟩ => ⟨S1408x256, .bf16⟩
  | .local _ .vmem, ⟨10, _⟩ => ⟨S1408x256, .bf16⟩
  | .local _ .vmem, ⟨11, _⟩ => ⟨S1408x256, .bf16⟩
  | .local _ .vmem, ⟨12, _⟩ => ⟨S256x1408, .bf16⟩
  | .local _ .vmem, ⟨13, _⟩ => ⟨S256x1408, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S4224x1024 : Shape := ⟨2, ![4224, 1024]⟩
abbrev S5632x1024 : Shape := ⟨2, ![5632, 1024]⟩
abbrev S1024x5632 : Shape := ⟨2, ![1024, 5632]⟩
abbrev S4224x5632 : Shape := ⟨2, ![4224, 5632]⟩
abbrev S4224x2816 : Shape := ⟨2, ![4224, 2816]⟩
abbrev S_ : Shape := ⟨0, ![]⟩
abbrev S2816x4224 : Shape := ⟨2, ![2816, 4224]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S5632x1024, .bf16⟩
  | .hbm, ⟨2, _⟩ => ⟨S4224x1024, .f32⟩
  | .hbm, ⟨3, _⟩ => ⟨S5632x1024, .f32⟩
  | .hbm, ⟨4, _⟩ => ⟨S1024x5632, .f32⟩
  | .hbm, ⟨5, _⟩ => ⟨S4224x5632, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S4224x2816, .f32⟩
  | .hbm, ⟨10, _⟩ => ⟨S_, .f32⟩
  | .hbm, ⟨11, _⟩ => ⟨S4224x2816, .f32⟩
  | .hbm, ⟨12, _⟩ => ⟨S4224x2816, .f32⟩
  | .hbm, ⟨13, _⟩ => ⟨S_, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .bf16⟩
  | .hbm, ⟨19, _⟩ => ⟨S4224x2816, .bf16⟩
  | .hbm, ⟨20, _⟩ => ⟨S4224x2816, .bf16⟩
  | .hbm, ⟨21, _⟩ => ⟨S2816x4224, .f32⟩
  | .hbm, ⟨22, _⟩ => ⟨S2816x4224, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel14.lean ====
abbrev S4224x1024 : Shape := ⟨2, ![4224, 1024]⟩
abbrev S1024x128 : Shape := ⟨2, ![1024, 128]⟩
abbrev S4224x128 : Shape := ⟨2, ![4224, 128]⟩
abbrev S1056x1024 : Shape := ⟨2, ![1056, 1024]⟩
abbrev S1056x128 : Shape := ⟨2, ![1056, 128]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x128, .bf16⟩
  | .hbm, ⟨2, _⟩ => ⟨S4224x128, .f32⟩
  | .local _ .vmem, ⟨0, _⟩ => ⟨S1056x1024, .bf16⟩
  | .local _ .vmem, ⟨1, _⟩ => ⟨S1056x1024, .bf16⟩
  | .local _ .vmem, ⟨2, _⟩ => ⟨S1024x128, .bf16⟩
  | .local _ .vmem, ⟨3, _⟩ => ⟨S1056x128, .f32⟩
  | .local _ .vmem, ⟨4, _⟩ => ⟨S1056x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4224x1024 : Shape := ⟨2, ![4224, 1024]⟩
abbrev S1024x128 : Shape := ⟨2, ![1024, 128]⟩
abbrev S4224x128 : Shape := ⟨2, ![4224, 128]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x128, .bf16⟩
  | .hbm, ⟨2, _⟩ => ⟨S4224x1024, .f32⟩
  | .hbm, ⟨3, _⟩ => ⟨S1024x128, .f32⟩
  | .hbm, ⟨4, _⟩ => ⟨S4224x128, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S1024x4224 : Shape := ⟨2, ![1024, 4224]⟩
abbrev S4224x128 : Shape := ⟨2, ![4224, 128]⟩
abbrev S1024x128 : Shape := ⟨2, ![1024, 128]⟩
abbrev S512x4224 : Shape := ⟨2, ![512, 4224]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S1024x4224, .bf16⟩
  | .hbm, ⟨1, _⟩ => ⟨S4224x128, .bf16⟩
  | .hbm, ⟨2, _⟩ => ⟨S1024x128, .f32⟩
  | .local _ .vmem, ⟨0, _⟩ => ⟨S512x4224, .bf16⟩
  | .local _ .vmem, ⟨1, _⟩ => ⟨S512x4224, .bf16⟩
  | .local _ .vmem, ⟨2, _⟩ => ⟨S4224x128, .bf16⟩
  | .local _ .vmem, ⟨3, _⟩ => ⟨S512x128, .f32⟩
  | .local _ .vmem, ⟨4, _⟩ => ⟨S512x128, .f32⟩
  | _, _ => ⟨S1024x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S1024x4224 : Shape := ⟨2, ![1024, 4224]⟩
abbrev S4224x128 : Shape := ⟨2, ![4224, 128]⟩
abbrev S4224x1024 : Shape := ⟨2, ![4224, 1024]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x4224, .bf16⟩
  | .hbm, ⟨1, _⟩ => ⟨S4224x128, .bf16⟩
  | .hbm, ⟨2, _⟩ => ⟨S1024x4224, .f32⟩
  | .hbm, ⟨3, _⟩ => ⟨S4224x1024, .f32⟩
  | .hbm, ⟨4, _⟩ => ⟨S_, .f32⟩
  | .hbm, ⟨5, _⟩ => ⟨S1024x128, .f32⟩
  | .hbm, ⟨6, _⟩ => ⟨S4224x128, .f32⟩
  | .hbm, ⟨7, _⟩ => ⟨S4224x128, .f32⟩
  | .hbm, ⟨8, _⟩ => ⟨S128x1024, .f32⟩
  | .hbm, ⟨9, _⟩ => ⟨S1024x128, .f32⟩
  | _, _ => ⟨S1024x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Vocab.lean ====
/- The arithmetic of one (key tile, query tile) pair of the gradient kernel, named once for all four heads of a grid
   point: each definition is the kernel's own payload for head 0, read at the blocks the kernel loads. -/
module

public import proofs.«01_k».proof.Proof.Gen.KernelIdeal.Skeleton
public import Idealize.ShloMosaic.Lib.ValueIdxCore

@[expose] public section

noncomputable section

namespace Cert.KernelIdeal.Hand

open Idealize.ShloMosaic Idealize.SL.Sem
open Cert.KernelIdeal.Gen

variable {F : FTy → Type} [FloatOps F]

/-- The scores of a key block against a query block (keys down, queries across). -/
abbrev tS (q k : Vec F S1x384x128 .bf16) : FVec F S384x384 .f32 := k0_pay10 q k
/-- The gradient with respect to the probabilities: values against the incoming gradient. -/
abbrev tDp (d v : Vec F S1x384x128 .bf16) : FVec F S384x384 .f32 := k0_pay14 (k0_pay2 d) v
/-- The probabilities below the diagonal tile. -/
abbrev tP (q k : Vec F S1x384x128 .bf16) (l : Vec F S1x1x1x384 .f32) : FVec F S384x384 .f32 := k0_pay18 (tS q k) l
/-- The probabilities of the diagonal tile, where later keys are masked. -/
abbrev tPd (q k : Vec F S1x384x128 .bf16) (l : Vec F S1x1x1x384 .f32) : FVec F S384x384 .f32 := k0_pay140 (tS q k) l
/-- The gradient with respect to the scores. -/
abbrev tDs (dp p : FVec F S384x384 .f32) : FVec F S384x384 .bf16 := k0_pay22 dp p
/-- A value accumulator block with one tile's contribution added. -/
abbrev aDv (d : Vec F S1x384x128 .bf16) (p : FVec F S384x384 .f32) (a : Vec F S1x384x128 .f32) : FVec F S1x384x128 .f32 :=
  k0_pay38 (k0_pay26 (k0_pay2 d) p) a
/-- A key accumulator block with one tile's contribution added. -/
abbrev aDk (q : Vec F S1x384x128 .bf16) (dp p : FVec F S384x384 .f32) (a : Vec F S1x384x128 .f32) : FVec F S1x384x128 .f32 :=
  k0_pay39 (k0_pay30 (k0_pay2 q) dp p) a
/-- A query accumulator block (lanes down) with one tile's contribution added. -/
abbrev aDq (k : Vec F S1x384x128 .bf16) (dp p : FVec F S384x384 .f32) (a : Vec F S1x1x128x384 .f32) : FVec F S1x1x128x384 .f32 :=
  k0_pay40 (k0_pay34 dp p k) a
/-- A row of the query gate accumulator with one tile's column sums added. -/
abbrev aDc (dp p : FVec F S384x384 .f32) (a : Vec F S1x1x1x384 .f32) : FVec F S1x1x1x384 .f32 :=
  k0_pay43 (k0_pay41 a) (k0_pay42 (tDs dp p))

end Cert.KernelIdeal.Hand

end
-- ==== Proof.Tiles.lean ====
/- The blocks a grid point loads and the four accumulators it keeps, as functions of coordinates, and what reading the
   buffers and storing four heads' blocks means in those terms. -/
module

public import proofs.«01_k».proof.Proof.Vocab
public import Idealize.ShloMosaic.Lib.WholeRead
public import Idealize.ShloMosaic.Lib.WritesUnit
public import Idealize.ShloMosaic.Lib.LoopRemainder

@[expose] public section

noncomputable section

namespace Cert.KernelIdeal.Hand

open Idealize.ShloMosaic Idealize.ShloMosaic.TcCoe Idealize.SL.Sem
open Idealize.ShloMosaic.ValueIdx
open Cert.KernelIdeal.Gen

/-! ## Blocks -/

section Blocks
variable {α : Type}

/-- Rows `384 n …` of head `g` of a whole sequence. -/
def blkQ (X : S4x4224x128.Idx → α) (g : Fin 4) (n : ℕ) : S1x384x128.Idx → α :=
  fun x => X (ix3 g ⟨(384 * n + (x 1).val) % 4224, Nat.mod_lt _ (by decide)⟩ (x 2))
/-- Head `g` of a tile. -/
def blkK (X : S4x384x128.Idx → α) (g : Fin 4) : S1x384x128.Idx → α := fun x => X (ix3 g (x 1) (x 2))
/-- Row `n` of head `g` of a per-query row. -/
def blkC (X : S4x11x1x384.Idx → α) (g : Fin 4) (n : ℕ) : S1x1x1x384.Idx → α :=
  fun x => X (ix4 g ⟨n % 11, Nat.mod_lt _ (by decide)⟩ 0 (x 3))
/-- Tile `n` of head `g` of the query accumulator. -/
def blkD (X : S4x11x128x384.Idx → α) (g : Fin 4) (n : ℕ) : S1x1x128x384.Idx → α :=
  fun x => X (ix4 g ⟨n % 11, Nat.mod_lt _ (by decide)⟩ (x 2) (x 3))

end Blocks

theorem fin4_zero : ∀ a : Fin 4, a ≠ 3 → a ≠ 2 → a ≠ 1 → a = 0 := by decide

section Reads
variable {Val : EltTy → Type} {e : EltTy}

theorem readAt_blkQ {m : Memref sig .tc .vmem S4x4224x128 e} (h : m.IsWhole) (X : S4x4224x128.Idx → Val e)
    {off : Fin 3 → ℕ} (inb) (g : Fin 4) (n : ℕ) (hn : n < 11) (ho : off = ![g.val, 384 * n, 0]) :
    View.readAt Val m.view (Rect.unit (s := S4x4224x128) off S1x384x128.size inb).toLoadRect (h.unread X) = blkQ X g n := by
  subst ho
  funext x
  rw [h.readAt_unread]
  have h0 : (x 0).val < 1 := (x 0).isLt
  have h1 : (x 1).val < 384 := (x 1).isLt
  refine congrArg X (funext fun a => Fin.ext ?_)
  match a with
  | ⟨0, _⟩ => show g.val + 1 * (x 0).val = g.val; omega
  | ⟨1, _⟩ => show 384 * n + 1 * (x 1).val = (384 * n + (x 1).val) % 4224; omega
  | ⟨2, _⟩ => show 0 + 1 * (x 2).val = (x 2).val; omega

theorem readAt_blkK {m : Memref sig .tc .vmem S4x384x128 e} (h : m.IsWhole) (X : S4x384x128.Idx → Val e)
    {off : Fin 3 → ℕ} (inb) (g : Fin 4) (ho : off = ![g.val, 0, 0]) :
    View.readAt Val m.view (Rect.unit (s := S4x384x128) off S1x384x128.size inb).toLoadRect (h.unread X) = blkK X g := by
  subst ho
  funext x
  rw [h.readAt_unread]
  have h0 : (x 0).val < 1 := (x 0).isLt
  refine congrArg X (funext fun a => Fin.ext ?_)
  match a with
  | ⟨0, _⟩ => show g.val + 1 * (x 0).val = g.val; omega
  | ⟨1, _⟩ => show 0 + 1 * (x 1).val = (x 1).val; omega
  | ⟨2, _⟩ => show 0 + 1 * (x 2).val = (x 2).val; omega

theorem readAt_blkC {m : Memref sig .tc .vmem S4x11x1x384 e} (h : m.IsWhole) (X : S4x11x1x384.Idx → Val e)
    {off : Fin 4 → ℕ} (inb) (g : Fin 4) (n : ℕ) (hn : n < 11) (ho : off = ![g.val, n, 0, 0]) :
    View.readAt Val m.view (Rect.unit (s := S4x11x1x384) off S1x1x1x384.size inb).toLoadRect (h.unread X) = blkC X g n := by
  subst ho
  funext x
  rw [h.readAt_unread]
  have h0 : (x 0).val < 1 := (x 0).isLt
  have h1 : (x 1).val < 1 := (x 1).isLt
  have h2 : (x 2).val < 1 := (x 2).isLt
  refine congrArg X (funext fun a => Fin.ext ?_)
  match a with
  | ⟨0, _⟩ => show g.val + 1 * (x 0).val = g.val; omega
  | ⟨1, _⟩ => show n + 1 * (x 1).val = n % 11; omega
  | ⟨2, _⟩ => show 0 + 1 * (x 2).val = 0; omega
  | ⟨3, _⟩ => show 0 + 1 * (x 3).val = (x 3).val; omega

theorem readAt_blkD {m : Memref sig .tc .vmem S4x11x128x384 e} (h : m.IsWhole) (X : S4x11x128x384.Idx → Val e)
    {off : Fin 4 → ℕ} (inb) (g : Fin 4) (n : ℕ) (hn : n < 11) (ho : off = ![g.val, n, 0, 0]) :
    View.readAt Val m.view (Rect.unit (s := S4x11x128x384) off S1x1x128x384.size inb).toLoadRect (h.unread X) = blkD X g n := by
  subst ho
  funext x
  rw [h.readAt_unread]
  have h0 : (x 0).val < 1 := (x 0).isLt
  have h1 : (x 1).val < 1 := (x 1).isLt
  refine congrArg X (funext fun a => Fin.ext ?_)
  match a with
  | ⟨0, _⟩ => show g.val + 1 * (x 0).val = g.val; omega
  | ⟨1, _⟩ => show n + 1 * (x 1).val = n % 11; omega
  | ⟨2, _⟩ => show 0 + 1 * (x 2).val = (x 2).val; omega
  | ⟨3, _⟩ => show 0 + 1 * (x 3).val = (x 3).val; omega

/-- A store over the whole buffer leaves what it stores. -/
theorem writes_whole {s : Shape} {m : Memref sig .tc .vmem s e} (h : m.IsWhole) (f : m.view.ty.Contents Val)
    {off : Fin s.rank → ℕ} (inb) (hoff : ∀ a, off a = 0) (w : s.Idx → Val e) :
    m.view.writes Val f [⟨Rect.unit (s := s) off s.size inb, w⟩] = h.unread w :=
  h.eq_unread (funext fun y => View.read_writes_cons_unit_of_mem m.view f inb w _ y y rfl
    fun a => by rw [hoff a, Nat.zero_add])

/-- Four heads' blocks stored over a tile leave the tile's four heads. -/
theorem writes_four_K {m : Memref sig .tc .vmem S4x384x128 e} (h : m.IsWhole) (f : m.view.ty.Contents Val)
    (w : Fin 4 → S1x384x128.Idx → Val e) {o0 o1 o2 o3 : Fin 3 → ℕ} (i0 i1 i2 i3)
    (e0 : o0 = ![0, 0, 0]) (e1 : o1 = ![1, 0, 0]) (e2 : o2 = ![2, 0, 0]) (e3 : o3 = ![3, 0, 0]) :
    m.view.writes Val f [⟨Rect.unit (s := S4x384x128) o3 S1x384x128.size i3, w 3⟩,
        ⟨Rect.unit (s := S4x384x128) o2 S1x384x128.size i2, w 2⟩,
        ⟨Rect.unit (s := S4x384x128) o1 S1x384x128.size i1, w 1⟩,
        ⟨Rect.unit (s := S4x384x128) o0 S1x384x128.size i0, w 0⟩]
      = h.unread fun y => w (y 0) (ix3 0 (y 1) (y 2)) := by
  refine h.eq_unread (funext fun y => ?_)
  obtain ⟨a, b, d, rfl⟩ : ∃ a b d, y = ix3 a b d := ⟨_, _, _, eq_ix3 y⟩
  have hit : ∀ (g : Fin 4) (x : S1x384x128.Idx), x = ix3 0 b d → a = g → ∀ t : Fin 3, ((ix3 a b d : S4x384x128.Idx) t).val = (![g.val, 0, 0] : Fin 3 → ℕ) t + (x t).val := by
    rintro g x rfl rfl t
    match t with
    | ⟨0, _⟩ => rfl
    | ⟨1, _⟩ => exact (Nat.zero_add _).symm
    | ⟨2, _⟩ => exact (Nat.zero_add _).symm
  have miss : ∀ g : Fin 4, a ≠ g → ((ix3 a b d : S4x384x128.Idx) 0).val < (![g.val, 0, 0] : Fin 3 → ℕ) 0
      ∨ (![g.val, 0, 0] : Fin 3 → ℕ) 0 + S1x384x128.size 0 ≤ ((ix3 a b d : S4x384x128.Idx) 0).val := by
    intro g hg
    show a.val < g.val ∨ g.val + 1 ≤ a.val
    have := fun e => hg (Fin.ext e)
    omega
  by_cases h3 : a = 3
  · rw [View.read_writes_cons_unit_of_mem m.view f i3 (w 3) _ _ (ix3 0 b d) e3 (hit 3 _ rfl h3)]; subst h3; rfl
  rw [View.read_writes_cons_unit_of_not_mem m.view f i3 (w 3) _ _ e3 0 (miss 3 h3)]
  by_cases h2 : a = 2
  · rw [View.read_writes_cons_unit_of_mem m.view f i2 (w 2) _ _ (ix3 0 b d) e2 (hit 2 _ rfl h2)]; subst h2; rfl
  rw [View.read_writes_cons_unit_of_not_mem m.view f i2 (w 2) _ _ e2 0 (miss 2 h2)]
  by_cases h1 : a = 1
  · rw [View.read_writes_cons_unit_of_mem m.view f i1 (w 1) _ _ (ix3 0 b d) e1 (hit 1 _ rfl h1)]; subst h1; rfl
  rw [View.read_writes_cons_unit_of_not_mem m.view f i1 (w 1) _ _ e1 0 (miss 1 h1)]
  have h0 : a = 0 := fin4_zero a h3 h2 h1
  rw [View.read_writes_cons_unit_of_mem m.view f i0 (w 0) _ _ (ix3 0 b d) e0 (hit 0 _ rfl h0)]; subst h0; rfl

/-- The same, with the blocks given by equations. -/
theorem writes_four_K_of {m : Memref sig .tc .vmem S4x384x128 e} (h : m.IsWhole) (f : m.view.ty.Contents Val)
    (w : Fin 4 → S1x384x128.Idx → Val e) {u0 u1 u2 u3 : S1x384x128.Idx → Val e} {o0 o1 o2 o3 : Fin 3 → ℕ} (i0 i1 i2 i3)
    (e0 : o0 = ![0, 0, 0]) (e1 : o1 = ![1, 0, 0]) (e2 : o2 = ![2, 0, 0]) (e3 : o3 = ![3, 0, 0])
    (h0 : u0 = w 0) (h1 : u1 = w 1) (h2 : u2 = w 2) (h3 : u3 = w 3) :
    m.view.writes Val f [⟨Rect.unit (s := S4x384x128) o3 S1x384x128.size i3, u3⟩,
        ⟨Rect.unit (s := S4x384x128) o2 S1x384x128.size i2, u2⟩,
        ⟨Rect.unit (s := S4x384x128) o1 S1x384x128.size i1, u1⟩,
        ⟨Rect.unit (s := S4x384x128) o0 S1x384x128.size i0, u0⟩]
      = h.unread fun y => w (y 0) (ix3 0 (y 1) (y 2)) := by
  subst h0 h1 h2 h3
  exact writes_four_K h f w i0 i1 i2 i3 e0 e1 e2 e3

/-- Four heads' blocks stored at row `n` of a buffer of rows. -/
theorem writes_four_N {A B : ℕ} {m : Memref sig .tc .vmem ⟨4, ![4, 11, A, B]⟩ e} (h : m.IsWhole)
    (X : (⟨4, ![4, 11, A, B]⟩ : Shape).Idx → Val e) (n : ℕ)
    (w : Fin 4 → (⟨4, ![1, 1, A, B]⟩ : Shape).Idx → Val e) {o0 o1 o2 o3 : Fin 4 → ℕ} (i0 i1 i2 i3)
    (e0 : o0 = ![0, n, 0, 0]) (e1 : o1 = ![1, n, 0, 0]) (e2 : o2 = ![2, n, 0, 0]) (e3 : o3 = ![3, n, 0, 0]) :
    m.view.writes Val (h.unread X) [⟨Rect.unit (s := ⟨4, ![4, 11, A, B]⟩) o3 (⟨4, ![1, 1, A, B]⟩ : Shape).size i3, w 3⟩,
        ⟨Rect.unit (s := ⟨4, ![4, 11, A, B]⟩) o2 (⟨4, ![1, 1, A, B]⟩ : Shape).size i2, w 2⟩,
        ⟨Rect.unit (s := ⟨4, ![4, 11, A, B]⟩) o1 (⟨4, ![1, 1, A, B]⟩ : Shape).size i1, w 1⟩,
        ⟨Rect.unit (s := ⟨4, ![4, 11, A, B]⟩) o0 (⟨4, ![1, 1, A, B]⟩ : Shape).size i0, w 0⟩]
      = h.unread fun y => if (y 1).val = n then w (y 0) (ix4 0 0 (y 2) (y 3)) else X y := by
  refine h.eq_unread (funext fun y => ?_)
  obtain ⟨a, b, d, r, rfl⟩ : ∃ a b d r, y = ix4 a b d r := ⟨_, _, _, _, eq_ix4 y⟩
  show _ = if b.val = n then w a (ix4 0 0 d r) else X (ix4 a b d r)
  have hit : ∀ (g : Fin 4) (x : (⟨4, ![1, 1, A, B]⟩ : Shape).Idx), x = ix4 0 0 d r → a = g → b.val = n →
      ∀ t : Fin 4, ((ix4 a b d r : (⟨4, ![4, 11, A, B]⟩ : Shape).Idx) t).val = (![g.val, n, 0, 0] : Fin 4 → ℕ) t + (x t).val := by
    rintro g x rfl rfl hb t
    match t with
    | ⟨0, _⟩ => rfl
    | ⟨1, _⟩ => exact hb
    | ⟨2, _⟩ => exact (Nat.zero_add _).symm
    | ⟨3, _⟩ => exact (Nat.zero_add _).symm
  have miss : ∀ g : Fin 4, a ≠ g → ((ix4 a b d r : (⟨4, ![4, 11, A, B]⟩ : Shape).Idx) 0).val < (![g.val, n, 0, 0] : Fin 4 → ℕ) 0
      ∨ (![g.val, n, 0, 0] : Fin 4 → ℕ) 0 + (⟨4, ![1, 1, A, B]⟩ : Shape).size 0 ≤ ((ix4 a b d r : (⟨4, ![4, 11, A, B]⟩ : Shape).Idx) 0).val := by
    intro g hg
    show a.val < g.val ∨ g.val + 1 ≤ a.val
    have := fun e => hg (Fin.ext e)
    omega
  have missn : ∀ g : Fin 4, b.val ≠ n → ((ix4 a b d r : (⟨4, ![4, 11, A, B]⟩ : Shape).Idx) 1).val < (![g.val, n, 0, 0] : Fin 4 → ℕ) 1
      ∨ (![g.val, n, 0, 0] : Fin 4 → ℕ) 1 + (⟨4, ![1, 1, A, B]⟩ : Shape).size 1 ≤ ((ix4 a b d r : (⟨4, ![4, 11, A, B]⟩ : Shape).Idx) 1).val := by
    intro g hb
    show b.val < n ∨ n + 1 ≤ b.val
    omega
  by_cases hb : b.val = n
  · rw [if_pos hb]
    by_cases h3 : a = 3
    · rw [View.read_writes_cons_unit_of_mem m.view _ i3 (w 3) _ _ (ix4 0 0 d r) e3 (hit 3 _ rfl h3 hb)]; subst h3; rfl
    rw [View.read_writes_cons_unit_of_not_mem m.view _ i3 (w 3) _ _ e3 0 (miss 3 h3)]
    by_cases h2 : a = 2
    · rw [View.read_writes_cons_unit_of_mem m.view _ i2 (w 2) _ _ (ix4 0 0 d r) e2 (hit 2 _ rfl h2 hb)]; subst h2; rfl
    rw [View.read_writes_cons_unit_of_not_mem m.view _ i2 (w 2) _ _ e2 0 (miss 2 h2)]
    by_cases h1 : a = 1
    · rw [View.read_writes_cons_unit_of_mem m.view _ i1 (w 1) _ _ (ix4 0 0 d r) e1 (hit 1 _ rfl h1 hb)]; subst h1; rfl
    rw [View.read_writes_cons_unit_of_not_mem m.view _ i1 (w 1) _ _ e1 0 (miss 1 h1)]
    have h0 : a = 0 := fin4_zero a h3 h2 h1
    rw [View.read_writes_cons_unit_of_mem m.view _ i0 (w 0) _ _ (ix4 0 0 d r) e0 (hit 0 _ rfl h0 hb)]; subst h0; rfl
  · rw [if_neg hb, View.read_writes_cons_unit_of_not_mem m.view _ i3 (w 3) _ _ e3 1 (missn 3 hb),
      View.read_writes_cons_unit_of_not_mem m.view _ i2 (w 2) _ _ e2 1 (missn 2 hb),
      View.read_writes_cons_unit_of_not_mem m.view _ i1 (w 1) _ _ e1 1 (missn 1 hb),
      View.read_writes_cons_unit_of_not_mem m.view _ i0 (w 0) _ _ e0 1 (missn 0 hb)]
    exact congrFun (h.read_unread X) _

/-- The same, with the blocks given by equations. -/
theorem writes_four_N_of {A B : ℕ} {m : Memref sig .tc .vmem ⟨4, ![4, 11, A, B]⟩ e} (h : m.IsWhole)
    (X : (⟨4, ![4, 11, A, B]⟩ : Shape).Idx → Val e) (n : ℕ)
    (w : Fin 4 → (⟨4, ![1, 1, A, B]⟩ : Shape).Idx → Val e) {u0 u1 u2 u3 : (⟨4, ![1, 1, A, B]⟩ : Shape).Idx → Val e}
    {o0 o1 o2 o3 : Fin 4 → ℕ} (i0 i1 i2 i3)
    (e0 : o0 = ![0, n, 0, 0]) (e1 : o1 = ![1, n, 0, 0]) (e2 : o2 = ![2, n, 0, 0]) (e3 : o3 = ![3, n, 0, 0])
    (h0 : u0 = w 0) (h1 : u1 = w 1) (h2 : u2 = w 2) (h3 : u3 = w 3) :
    m.view.writes Val (h.unread X) [⟨Rect.unit (s := ⟨4, ![4, 11, A, B]⟩) o3 (⟨4, ![1, 1, A, B]⟩ : Shape).size i3, u3⟩,
        ⟨Rect.unit (s := ⟨4, ![4, 11, A, B]⟩) o2 (⟨4, ![1, 1, A, B]⟩ : Shape).size i2, u2⟩,
        ⟨Rect.unit (s := ⟨4, ![4, 11, A, B]⟩) o1 (⟨4, ![1, 1, A, B]⟩ : Shape).size i1, u1⟩,
        ⟨Rect.unit (s := ⟨4, ![4, 11, A, B]⟩) o0 (⟨4, ![1, 1, A, B]⟩ : Shape).size i0, u0⟩]
      = h.unread fun y => if (y 1).val = n then w (y 0) (ix4 0 0 (y 2) (y 3)) else X y := by
  subst h0 h1 h2 h3
  exact writes_four_N h X n w i0 i1 i2 i3 e0 e1 e2 e3

end Reads

/-! ## The accumulators -/

variable {F : FTy → Type} [FloatOps F]

/-- What a grid point reads: queries, keys, values, the incoming gradient and the softmax normalisers. -/
structure Inp (F : FTy → Type) where
  Q : S4x4224x128.Idx → Elt F .bf16
  K : S4x384x128.Idx → Elt F .bf16
  V : S4x384x128.Idx → Elt F .bf16
  D : S4x4224x128.Idx → Elt F .bf16
  L : S4x11x1x384.Idx → Elt F .f32

/-- What a grid point accumulates: the query gate's row, and the key, value and query gradients. -/
structure Acc (F : FTy → Type) where
  c : S4x11x1x384.Idx → Elt F .f32
  k : S4x384x128.Idx → Elt F .f32
  v : S4x384x128.Idx → Elt F .f32
  q : S4x11x128x384.Idx → Elt F .f32

/-- The probabilities of head `g` against query tile `n`; `dg` says whether it is the diagonal tile. -/
def prob (dg : Bool) (I : Inp F) (g : Fin 4) (n : ℕ) : FVec F S384x384 .f32 :=
  match dg with
  | true => tPd (blkQ I.Q g n) (blkK I.K g) (blkC I.L g n)
  | false => tP (blkQ I.Q g n) (blkK I.K g) (blkC I.L g n)

/-- Their gradient. -/
def dprob (I : Inp F) (g : Fin 4) (n : ℕ) : FVec F S384x384 .f32 := tDp (blkQ I.D g n) (blkK I.V g)

/-- One query tile's contributions added. -/
def stepAcc (dg : Bool) (I : Inp F) (n : ℕ) (A : Acc F) : Acc F where
  c y := if (y 1).val = n then aDc (dprob I (y 0) n) (prob dg I (y 0) n) (blkC A.c (y 0) n) (ix4 0 0 0 (y 3)) else A.c y
  k y := aDk (blkQ I.Q (y 0) n) (dprob I (y 0) n) (prob dg I (y 0) n) (blkK A.k (y 0)) (ix3 0 (y 1) (y 2))
  v y := aDv (blkQ I.D (y 0) n) (prob dg I (y 0) n) (blkK A.v (y 0)) (ix3 0 (y 1) (y 2))
  q y := if (y 1).val = n then aDq (blkK I.K (y 0)) (dprob I (y 0) n) (prob dg I (y 0) n) (blkD A.q (y 0) n) (ix4 0 0 (y 2) (y 3)) else A.q y

theorem stepAcc_c (dg : Bool) (I : Inp F) (n : ℕ) (A : Acc F) : (stepAcc dg I n A).c = fun y =>
    if (y 1).val = n then aDc (dprob I (y 0) n) (prob dg I (y 0) n) (blkC A.c (y 0) n) (ix4 0 0 (y 2) (y 3)) else A.c y := by
  funext y
  have : y 2 = (0 : Fin 1) := Subsingleton.elim (α := Fin 1) _ _
  rw [this]; rfl
theorem stepAcc_k (dg : Bool) (I : Inp F) (n : ℕ) (A : Acc F) : (stepAcc dg I n A).k = fun y =>
    aDk (blkQ I.Q (y 0) n) (dprob I (y 0) n) (prob dg I (y 0) n) (blkK A.k (y 0)) (ix3 0 (y 1) (y 2)) := rfl
theorem stepAcc_v (dg : Bool) (I : Inp F) (n : ℕ) (A : Acc F) : (stepAcc dg I n A).v = fun y =>
    aDv (blkQ I.D (y 0) n) (prob dg I (y 0) n) (blkK A.v (y 0)) (ix3 0 (y 1) (y 2)) := rfl
theorem stepAcc_q (dg : Bool) (I : Inp F) (n : ℕ) (A : Acc F) : (stepAcc dg I n A).q = fun y =>
    if (y 1).val = n then aDq (blkK I.K (y 0)) (dprob I (y 0) n) (prob dg I (y 0) n) (blkD A.q (y 0) n) (ix4 0 0 (y 2) (y 3)) else A.q y := rfl

/-- The accumulators after the diagonal tile `j` and `k` tiles below it. -/
def accAt (I : Inp F) (j : ℕ) (A : Acc F) : ℕ → Acc F
  | 0 => stepAcc true I j A
  | k + 1 => stepAcc false I (j + 1 + k) (accAt I j A k)

/-! ## The kernel's words -/

theorem word_tile : ∀ (a : Fin 11) (k : Fin 11),
    (Scalar.indexCast (Scalar.muli (Scf.iv (Scalar.addi (BitVec.ofNat 32 a.val) 1#32) 1#32 k.val) 384#32)).toNat
      = 384 * (a.val + 1 + k.val) := by decide +kernel
theorem word_row : ∀ (a : Fin 11) (k : Fin 11),
    (Scalar.indexCast (Scf.iv (Scalar.addi (BitVec.ofNat 32 a.val) 1#32) 1#32 k.val)).toNat = a.val + 1 + k.val := by
  decide +kernel
theorem word_tile0 : ∀ a : Fin 11, (Scalar.indexCast (Scalar.muli (BitVec.ofNat 32 a.val) 384#32)).toNat = 384 * a.val := by
  decide +kernel
theorem word_row0 : ∀ a : Fin 11, (Scalar.indexCast (BitVec.ofNat 32 a.val)).toNat = a.val := by decide +kernel
theorem word_trips : ∀ a : Fin 11,
    Scf.trips (Scalar.addi (BitVec.ofNat 32 a.val) 1#32)
      (Scalar.addi (Scalar.addi (BitVec.ofNat 32 a.val) 1#32)
        (Scalar.muli (Scalar.divsi (Scalar.subi 11#32 (Scalar.addi (BitVec.ofNat 32 a.val) 1#32)) 1#32) 1#32)) 1#32
      = 10 - a.val := by decide +kernel

theorem trips_t1 (i : grid0.Coords) : (k0_t1_loop i).trips = 10 - (i 1).val := word_trips (i 1)
theorem trips_t2 (i : grid0.Coords) : (k0_t2_loop i).trips = 0 := Scf.rem_trips _ _

theorem tile_lt (i : grid0.Coords) (k : Fin (k0_t1_loop i).trips) : (i 1).val + 1 + k.val < 11 := by
  have h : k.val < 10 - (i 1).val := (trips_t1 i) ▸ k.isLt
  omega

section Offsets
variable (i : grid0.Coords) (k : Fin (k0_t1_loop i).trips)

theorem row_eq : (Scalar.indexCast (Scf.iv (Scalar.addi (BitVec.ofNat 32 (i 1).val) 1#32) 1#32 k.val)).toNat = (i 1).val + 1 + k.val :=
  word_row (i 1) ⟨k.val, by have := tile_lt i k; omega⟩
theorem tile_eq : (Scalar.indexCast (Scalar.muli (Scf.iv (Scalar.addi (BitVec.ofNat 32 (i 1).val) 1#32) 1#32 k.val) 384#32)).toNat = 384 * ((i 1).val + 1 + k.val) :=
  word_tile (i 1) ⟨k.val, by have := tile_lt i k; omega⟩

theorem vec3 {a b b' c : ℕ} (h : b = b') : (![a, b, c] : Fin 3 → ℕ) = ![a, b', c] := by rw [h]
theorem vec4 {a b b' c d : ℕ} (h : b = b') : (![a, b, c, d] : Fin 4 → ℕ) = ![a, b', c, d] := by rw [h]

theorem off1_0 : k0_off1 i = ![0, 384 * (i 1).val, 0] := vec3 (word_tile0 (i 1))
theorem off5_0 : k0_off5 i = ![0, (i 1).val, 0, 0] := vec4 (word_row0 (i 1))
theorem off9_0 : k0_off9 i = ![0, (i 1).val, 0, 0] := vec4 (word_row0 (i 1))
theorem off13_0 : k0_off13 i k = ![0, 384 * ((i 1).val + 1 + k.val), 0] := vec3 (tile_eq i k)
theorem off17_0 : k0_off17 i k = ![0, (i 1).val + 1 + k.val, 0, 0] := vec4 (row_eq i k)
theorem off21_0 : k0_off21 i k = ![0, (i 1).val + 1 + k.val, 0, 0] := vec4 (row_eq i k)
theorem off1_1 : k0_off2 i = ![1, 384 * (i 1).val, 0] := vec3 (word_tile0 (i 1))
theorem off5_1 : k0_off6 i = ![1, (i 1).val, 0, 0] := vec4 (word_row0 (i 1))
theorem off9_1 : k0_off10 i = ![1, (i 1).val, 0, 0] := vec4 (word_row0 (i 1))
theorem off13_1 : k0_off14 i k = ![1, 384 * ((i 1).val + 1 + k.val), 0] := vec3 (tile_eq i k)
theorem off17_1 : k0_off18 i k = ![1, (i 1).val + 1 + k.val, 0, 0] := vec4 (row_eq i k)
theorem off21_1 : k0_off22 i k = ![1, (i 1).val + 1 + k.val, 0, 0] := vec4 (row_eq i k)
theorem off1_2 : k0_off3 i = ![2, 384 * (i 1).val, 0] := vec3 (word_tile0 (i 1))
theorem off5_2 : k0_off7 i = ![2, (i 1).val, 0, 0] := vec4 (word_row0 (i 1))
theorem off9_2 : k0_off11 i = ![2, (i 1).val, 0, 0] := vec4 (word_row0 (i 1))
theorem off13_2 : k0_off15 i k = ![2, 384 * ((i 1).val + 1 + k.val), 0] := vec3 (tile_eq i k)
theorem off17_2 : k0_off19 i k = ![2, (i 1).val + 1 + k.val, 0, 0] := vec4 (row_eq i k)
theorem off21_2 : k0_off23 i k = ![2, (i 1).val + 1 + k.val, 0, 0] := vec4 (row_eq i k)
theorem off1_3 : k0_off4 i = ![3, 384 * (i 1).val, 0] := vec3 (word_tile0 (i 1))
theorem off5_3 : k0_off8 i = ![3, (i 1).val, 0, 0] := vec4 (word_row0 (i 1))
theorem off9_3 : k0_off12 i = ![3, (i 1).val, 0, 0] := vec4 (word_row0 (i 1))
theorem off13_3 : k0_off16 i k = ![3, 384 * ((i 1).val + 1 + k.val), 0] := vec3 (tile_eq i k)
theorem off17_3 : k0_off20 i k = ![3, (i 1).val + 1 + k.val, 0, 0] := vec4 (row_eq i k)
theorem off21_3 : k0_off24 i k = ![3, (i 1).val + 1 + k.val, 0, 0] := vec4 (row_eq i k)
end Offsets

end Cert.KernelIdeal.Hand

end
-- ==== Proof.Head.lean ====
/- The head of a grid point: the key and value accumulators zeroed, the query ones zeroed too at a group's first key tile. -/
module

public import proofs.«01_k».proof.Proof.Tiles
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

theorem zero3 : ∀ a : Fin 3, (![0, 0, 0] : Fin 3 → ℕ) a = 0 := by decide
theorem zero4 : ∀ a : Fin 4, (![0, 0, 0, 0] : Fin 4 → ℕ) a = 0 := by decide

/-- The head of a grid point: what it leaves and what it returns. -/
theorem head_run (𝒱 : Variants) (c : Dev nD) (bd : Option 𝒱.V) (E : Set ℕ) (i : grid0.Coords) (arg2 : Memref sig .tc .vmem S4x4224x128 .bf16) (harg2 : arg2.IsWhole) (arg3 : Memref sig .tc .vmem S4x384x128 .bf16) (harg3 : arg3.IsWhole) (arg4 : Memref sig .tc .vmem S4x384x128 .bf16) (harg4 : arg4.IsWhole) (arg5 : Memref sig .tc .vmem S4x4224x128 .bf16) (harg5 : arg5.IsWhole) (arg6 : Memref sig .tc .vmem S4x11x1x384 .f32) (harg6 : arg6.IsWhole) (arg7 : Memref sig .tc .hbm S4224x2304 .bf16) (harg7 : arg7.IsWhole) (arg8 : Memref sig .tc .vmem S384x768 .bf16) (harg8 : arg8.IsWhole) (arg9 : Memref sig .tc .vmem S4x11x1x384 .f32) (harg9 : arg9.IsWhole) (arg10 : Memref sig .tc .vmem S4x1x1x384 .f32) (harg10 : arg10.IsWhole) (arg11 : Memref sig .tc .vmem S4x384x128 .f32) (harg11 : arg11.IsWhole) (arg12 : Memref sig .tc .vmem S4x384x128 .f32) (harg12 : arg12.IsWhole) (arg13 : Memref sig .tc .vmem S4x11x128x384 .f32) (harg13 : arg13.IsWhole)
   (X2 : BufTy.Contents (Elt F) arg2.view.ty) (X5 : BufTy.Contents (Elt F) arg5.view.ty) (f9 : BufTy.Contents (Elt F) arg9.view.ty) (f11 : BufTy.Contents (Elt F) arg11.view.ty) (f12 : BufTy.Contents (Elt F) arg12.view.ty) (f13 : BufTy.Contents (Elt F) arg13.view.ty)
   {α : Type} (K : _ → Prog (TpuEff nD τ sig (Elt F) Λ₀ .tc) α) (Q : α → sProp 𝕄G) :
   (iprop((arg2.view.loc (c : Thread nD τ) ↦[arg2.view.set]{fullShare} X2)
     ∗ (arg5.view.loc (c : Thread nD τ) ↦[arg5.view.set]{fullShare} X5)
     ∗ (arg9.view.loc (c : Thread nD τ) ↦[arg9.view.set]{fullShare} f9)
     ∗ (arg11.view.loc (c : Thread nD τ) ↦[arg11.view.set]{fullShare} f11)
     ∗ (arg12.view.loc (c : Thread nD τ) ↦[arg12.view.set]{fullShare} f12)
     ∗ (arg13.view.loc (c : Thread nD τ) ↦[arg13.view.set]{fullShare} f13)
     ∗ (((arg2.view.loc (c : Thread nD τ) ↦[arg2.view.set]{fullShare} X2)
     ∗ (arg5.view.loc (c : Thread nD τ) ↦[arg5.view.set]{fullShare} X5)
     ∗ (arg9.view.loc (c : Thread nD τ) ↦[arg9.view.set]{fullShare} (if (i 1).val = 0 then harg9.unread (k0_pay121 (F := F)) else f9))
     ∗ (arg11.view.loc (c : Thread nD τ) ↦[arg11.view.set]{fullShare} (harg11.unread (k0_pay122 (F := F))))
     ∗ (arg12.view.loc (c : Thread nD τ) ↦[arg12.view.set]{fullShare} (harg12.unread (k0_pay123 (F := F))))
     ∗ (arg13.view.loc (c : Thread nD τ) ↦[arg13.view.set]{fullShare} (if (i 1).val = 0 then harg13.unread (k0_pay120 (F := F)) else f13)))
       -∗ wp frame (wpE (defs₀ (F := F)) 𝒱 (c : Thread nD τ) bd) E (K ⟨BitVec.ofNat 32 (i 1).val, Scalar.muli (BitVec.ofNat 32 (i 1).val) 384#32, k0_pay2 (View.readAt (Elt F) arg2.view (Rect.unit (s := S4x4224x128) (k0_off1 i) S1x384x128.size (k0_off1_inb i)).toLoadRect X2), k0_pay2 (View.readAt (Elt F) arg2.view (Rect.unit (s := S4x4224x128) (k0_off2 i) S1x384x128.size (k0_off2_inb i)).toLoadRect X2), k0_pay2 (View.readAt (Elt F) arg2.view (Rect.unit (s := S4x4224x128) (k0_off3 i) S1x384x128.size (k0_off3_inb i)).toLoadRect X2), k0_pay2 (View.readAt (Elt F) arg2.view (Rect.unit (s := S4x4224x128) (k0_off4 i) S1x384x128.size (k0_off4_inb i)).toLoadRect X2), k0_pay2 (View.readAt (Elt F) arg5.view (Rect.unit (s := S4x4224x128) (k0_off1 i) S1x384x128.size (k0_off1_inb i)).toLoadRect X5), k0_pay2 (View.readAt (Elt F) arg5.view (Rect.unit (s := S4x4224x128) (k0_off2 i) S1x384x128.size (k0_off2_inb i)).toLoadRect X5)⟩) Q)) : sProp 𝕄G)
   ⊢ wp frame (wpE (defs₀ (F := F)) 𝒱 (c : Thread nD τ) bd) E (k0_part15 (F := F) i arg2 harg2 arg3 harg3 arg4 harg4 arg5 harg5 arg6 harg6 arg7 harg7 arg8 harg8 arg9 harg9 arg10 harg10 arg11 harg11 arg12 harg12 arg13 harg13 >>= K) Q := by
  rw [← writes_whole harg11 f11 inb_S4x384x128_S4x384x128_0_0_0 zero3 (k0_pay122 (F := F)),
    ← writes_whole harg12 f12 inb_S4x384x128_S4x384x128_0_0_0 zero3 (k0_pay123 (F := F)),
    ← writes_whole harg9 f9 inb_S4x11x1x384_S4x11x1x384_0_0_0_0 zero4 (k0_pay121 (F := F)),
    ← writes_whole harg13 f13 inb_S4x11x128x384_S4x11x128x384_0_0_0_0 zero4 (k0_pay120 (F := F))]
  by_cases hj : (i 1).val = 0
  · have hc : (Scalar.cmpi .ne (Scalar.extui (Scalar.cmpi .eq (BitVec.ofNat 32 (i 1).val) 0#32)) 0#32 : BitVec 1) = 1#1 := by
      revert hj; generalize (i 1) = a; revert a; decide +kernel
    simp only [if_pos hj]
    iintro ⟨H2, H5, H9, H11, H12, H13, HK⟩
    sl_exec (disch := sl_exact hc)
    iapply HK
    isplitl [H2]; · iexact H2
    isplitl [H5]; · iexact H5
    isplitl [H9]; · iexact H9
    isplitl [H11]; · iexact H11
    isplitl [H12]; · iexact H12
    iexact H13
  · have hc : ¬ (Scalar.cmpi .ne (Scalar.extui (Scalar.cmpi .eq (BitVec.ofNat 32 (i 1).val) 0#32)) 0#32 : BitVec 1) = 1#1 := by
      revert hj; generalize (i 1) = a; revert a; decide +kernel
    simp only [if_neg hj]
    iintro ⟨H2, H5, H9, H11, H12, H13, HK⟩
    sl_exec (disch := sl_exact hc)
    iapply HK
    isplitl [H2]; · iexact H2
    isplitl [H5]; · iexact H5
    isplitl [H9]; · iexact H9
    isplitl [H11]; · iexact H11
    isplitl [H12]; · iexact H12
    iexact H13

end Cert.KernelIdeal.Hand

end
-- ==== Proof.Diag.lean ====
/- The diagonal tile of a grid point, run once at any contents. -/
module

public import proofs.«01_k».proof.Proof.Vocab
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The diagonal tile: the four accumulators it leaves to whatever comes next. -/
theorem diag_run (𝒱 : Variants) (c : Dev nD) (bd : Option 𝒱.V) (E : Set ℕ) (i : grid0.Coords) (arg2 : Memref sig .tc .vmem S4x4224x128 .bf16) (harg2 : arg2.IsWhole) (arg3 : Memref sig .tc .vmem S4x384x128 .bf16) (harg3 : arg3.IsWhole) (arg4 : Memref sig .tc .vmem S4x384x128 .bf16) (harg4 : arg4.IsWhole) (arg5 : Memref sig .tc .vmem S4x4224x128 .bf16) (harg5 : arg5.IsWhole) (arg6 : Memref sig .tc .vmem S4x11x1x384 .f32) (harg6 : arg6.IsWhole) (arg7 : Memref sig .tc .hbm S4224x2304 .bf16) (harg7 : arg7.IsWhole) (arg8 : Memref sig .tc .vmem S384x768 .bf16) (harg8 : arg8.IsWhole) (arg9 : Memref sig .tc .vmem S4x11x1x384 .f32) (harg9 : arg9.IsWhole) (arg10 : Memref sig .tc .vmem S4x1x1x384 .f32) (harg10 : arg10.IsWhole) (arg11 : Memref sig .tc .vmem S4x384x128 .f32) (harg11 : arg11.IsWhole) (arg12 : Memref sig .tc .vmem S4x384x128 .f32) (harg12 : arg12.IsWhole) (arg13 : Memref sig .tc .vmem S4x11x128x384 .f32) (harg13 : arg13.IsWhole)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f9 : BufTy.Contents (Elt F) arg9.view.ty) (f11 : BufTy.Contents (Elt F) arg11.view.ty) (f12 : BufTy.Contents (Elt F) arg12.view.ty) (f13 : BufTy.Contents (Elt F) arg13.view.ty)
   {α : Type} (K : (Σ' (v255 : BitVec 32), BitVec 32) → Prog (TpuEff nD τ sig (Elt F) Λ₀ .tc) α) (Q : α → sProp 𝕄G)
 :
   (iprop((arg2.view.loc (c : Thread nD τ) ↦[arg2.view.set]{fullShare} X2)
     ∗ (arg3.view.loc (c : Thread nD τ) ↦[arg3.view.set]{fullShare} X3)
     ∗ (arg4.view.loc (c : Thread nD τ) ↦[arg4.view.set]{fullShare} X4)
     ∗ (arg5.view.loc (c : Thread nD τ) ↦[arg5.view.set]{fullShare} X5)
     ∗ (arg6.view.loc (c : Thread nD τ) ↦[arg6.view.set]{fullShare} X6)
     ∗ (arg9.view.loc (c : Thread nD τ) ↦[arg9.view.set]{fullShare} f9)
     ∗ (arg11.view.loc (c : Thread nD τ) ↦[arg11.view.set]{fullShare} f11)
     ∗ (arg12.view.loc (c : Thread nD τ) ↦[arg12.view.set]{fullShare} f12)
     ∗ (arg13.view.loc (c : Thread nD τ) ↦[arg13.view.set]{fullShare} f13)
     ∗ (((arg2.view.loc (c : Thread nD τ) ↦[arg2.view.set]{fullShare} X2)
     ∗ (arg3.view.loc (c : Thread nD τ) ↦[arg3.view.set]{fullShare} X3)
     ∗ (arg4.view.loc (c : Thread nD τ) ↦[arg4.view.set]{fullShare} X4)
     ∗ (arg5.view.loc (c : Thread nD τ) ↦[arg5.view.set]{fullShare} X5)
     ∗ (arg6.view.loc (c : Thread nD τ) ↦[arg6.view.set]{fullShare} X6)
     ∗ (arg9.view.loc (c : Thread nD τ) ↦[arg9.view.set]{fullShare} (arg9.view.writes (Elt F) f9
       [⟨Rect.unit (s := S4x11x1x384) (k0_off8 i) S1x1x1x384.size (k0_off8_inb i), aDc (tDp (View.readAt (Elt F) arg5.view (Rect.unit (s := S4x4224x128) (k0_off4 i) S1x384x128.size (k0_off4_inb i)).toLoadRect X5) (View.readAt (Elt F) arg4.view (Rect.unit (s := S4x384x128) ![3, 0, 0] S1x384x128.size inb_S4x384x128_S1x384x128_3_0_0).toLoadRect X4)) (tPd (View.readAt (Elt F) arg2.view (Rect.unit (s := S4x4224x128) (k0_off4 i) S1x384x128.size (k0_off4_inb i)).toLoadRect X2) (View.readAt (Elt F) arg3.view (Rect.unit (s := S4x384x128) ![3, 0, 0] S1x384x128.size inb_S4x384x128_S1x384x128_3_0_0).toLoadRect X3) (View.readAt (Elt F) arg6.view (Rect.unit (s := S4x11x1x384) (k0_off8 i) S1x1x1x384.size (k0_off8_inb i)).toLoadRect X6)) (View.readAt (Elt F) arg9.view (Rect.unit (s := S4x11x1x384) (k0_off8 i) S1x1x1x384.size (k0_off8_inb i)).toLoadRect f9)⟩,
        ⟨Rect.unit (s := S4x11x1x384) (k0_off7 i) S1x1x1x384.size (k0_off7_inb i), aDc (tDp (View.readAt (Elt F) arg5.view (Rect.unit (s := S4x4224x128) (k0_off3 i) S1x384x128.size (k0_off3_inb i)).toLoadRect X5) (View.readAt (Elt F) arg4.view (Rect.unit (s := S4x384x128) ![2, 0, 0] S1x384x128.size inb_S4x384x128_S1x384x128_2_0_0).toLoadRect X4)) (tPd (View.readAt (Elt F) arg2.view (Rect.unit (s := S4x4224x128) (k0_off3 i) S1x384x128.size (k0_off3_inb i)).toLoadRect X2) (View.readAt (Elt F) arg3.view (Rect.unit (s := S4x384x128) ![2, 0, 0] S1x384x128.size inb_S4x384x128_S1x384x128_2_0_0).toLoadRect X3) (View.readAt (Elt F) arg6.view (Rect.unit (s := S4x11x1x384) (k0_off7 i) S1x1x1x384.size (k0_off7_inb i)).toLoadRect X6)) (View.readAt (Elt F) arg9.view (Rect.unit (s := S4x11x1x384) (k0_off7 i) S1x1x1x384.size (k0_off7_inb i)).toLoadRect f9)⟩,
        ⟨Rect.unit (s := S4x11x1x384) (k0_off6 i) S1x1x1x384.size (k0_off6_inb i), aDc (tDp (View.readAt (Elt F) arg5.view (Rect.unit (s := S4x4224x128) (k0_off2 i) S1x384x128.size (k0_off2_inb i)).toLoadRect X5) (View.readAt (Elt F) arg4.view (Rect.unit (s := S4x384x128) ![1, 0, 0] S1x384x128.size inb_S4x384x128_S1x384x128_1_0_0).toLoadRect X4)) (tPd (View.readAt (Elt F) arg2.view (Rect.unit (s := S4x4224x128) (k0_off2 i) S1x384x128.size (k0_off2_inb i)).toLoadRect X2) (View.readAt (Elt F) arg3.view (Rect.unit (s := S4x384x128) ![1, 0, 0] S1x384x128.size inb_S4x384x128_S1x384x128_1_0_0).toLoadRect X3) (View.readAt (Elt F) arg6.view (Rect.unit (s := S4x11x1x384) (k0_off6 i) S1x1x1x384.size (k0_off6_inb i)).toLoadRect X6)) (View.readAt (Elt F) arg9.view (Rect.unit (s := S4x11x1x384) (k0_off6 i) S1x1x1x384.size (k0_off6_inb i)).toLoadRect f9)⟩,
        ⟨Rect.unit (s := S4x11x1x384) (k0_off5 i) S1x1x1x384.size (k0_off5_inb i), aDc (tDp (View.readAt (Elt F) arg5.view (Rect.unit (s := S4x4224x128) (k0_off1 i) S1x384x128.size (k0_off1_inb i)).toLoadRect X5) (View.readAt (Elt F) arg4.view (Rect.unit (s := S4x384x128) ![0, 0, 0] S1x384x128.size inb_S4x384x128_S1x384x128_0_0_0).toLoadRect X4)) (tPd (View.readAt (Elt F) arg2.view (Rect.unit (s := S4x4224x128) (k0_off1 i) S1x384x128.size (k0_off1_inb i)).toLoadRect X2) (View.readAt (Elt F) arg3.view (Rect.unit (s := S4x384x128) ![0, 0, 0] S1x384x128.size inb_S4x384x128_S1x384x128_0_0_0).toLoadRect X3) (View.readAt (Elt F) arg6.view (Rect.unit (s := S4x11x1x384) (k0_off5 i) S1x1x1x384.size (k0_off5_inb i)).toLoadRect X6)) (View.readAt (Elt F) arg9.view (Rect.unit (s := S4x11x1x384) (k0_off5 i) S1x1x1x384.size (k0_off5_inb i)).toLoadRect f9)⟩]))
     ∗ (arg11.view.loc (c : Thread nD τ) ↦[arg11.view.set]{fullShare} (arg11.view.writes (Elt F) f11
       [⟨Rect.unit (s := S4x384x128) ![3, 0, 0] S1x384x128.size inb_S4x384x128_S1x384x128_3_0_0, aDk (View.readAt (Elt F) arg2.view (Rect.unit (s := S4x4224x128) (k0_off4 i) S1x384x128.size (k0_off4_inb i)).toLoadRect X2) (tDp (View.readAt (Elt F) arg5.view (Rect.unit (s := S4x4224x128) (k0_off4 i) S1x384x128.size (k0_off4_inb i)).toLoadRect X5) (View.readAt (Elt F) arg4.view (Rect.unit (s := S4x384x128) ![3, 0, 0] S1x384x128.size inb_S4x384x128_S1x384x128_3_0_0).toLoadRect X4)) (tPd (View.readAt (Elt F) arg2.view (Rect.unit (s := S4x4224x128) (k0_off4 i) S1x384x128.size (k0_off4_inb i)).toLoadRect X2) (View.readAt (Elt F) arg3.view (Rect.unit (s := S4x384x128) ![3, 0, 0] S1x384x128.size inb_S4x384x128_S1x384x128_3_0_0).toLoadRect X3) (View.readAt (Elt F) arg6.view (Rect.unit (s := S4x11x1x384) (k0_off8 i) S1x1x1x384.size (k0_off8_inb i)).toLoadRect X6)) (View.readAt (Elt F) arg11.view (Rect.unit (s := S4x384x128) ![3, 0, 0] S1x384x128.size inb_S4x384x128_S1x384x128_3_0_0).toLoadRect f11)⟩,
        ⟨Rect.unit (s := S4x384x128) ![2, 0, 0] S1x384x128.size inb_S4x384x128_S1x384x128_2_0_0, aDk (View.readAt (Elt F) arg2.view (Rect.unit (s := S4x4224x128) (k0_off3 i) S1x384x128.size (k0_off3_inb i)).toLoadRect X2) (tDp (View.readAt (Elt F) arg5.view (Rect.unit (s := S4x4224x128) (k0_off3 i) S1x384x128.size (k0_off3_inb i)).toLoadRect X5) (View.readAt (Elt F) arg4.view (Rect.unit (s := S4x384x128) ![2, 0, 0] S1x384x128.size inb_S4x384x128_S1x384x128_2_0_0).toLoadRect X4)) (tPd (View.readAt (Elt F) arg2.view (Rect.unit (s := S4x4224x128) (k0_off3 i) S1x384x128.size (k0_off3_inb i)).toLoadRect X2) (View.readAt (Elt F) arg3.view (Rect.unit (s := S4x384x128) ![2, 0, 0] S1x384x128.size inb_S4x384x128_S1x384x128_2_0_0).toLoadRect X3) (View.readAt (Elt F) arg6.view (Rect.unit (s := S4x11x1x384) (k0_off7 i) S1x1x1x384.size (k0_off7_inb i)).toLoadRect X6)) (View.readAt (Elt F) arg11.view (Rect.unit (s := S4x384x128) ![2, 0, 0] S1x384x128.size inb_S4x384x128_S1x384x128_2_0_0).toLoadRect f11)⟩,
        ⟨Rect.unit (s := S4x384x128) ![1, 0, 0] S1x384x128.size inb_S4x384x128_S1x384x128_1_0_0, aDk (View.readAt (Elt F) arg2.view (Rect.unit (s := S4x4224x128) (k0_off2 i) S1x384x128.size (k0_off2_inb i)).toLoadRect X2) (tDp (View.readAt (Elt F) arg5.view (Rect.unit (s := S4x4224x128) (k0_off2 i) S1x384x128.size (k0_off2_inb i)).toLoadRect X5) (View.readAt (Elt F) arg4.view (Rect.unit (s := S4x384x128) ![1, 0, 0] S1x384x128.size inb_S4x384x128_S1x384x128_1_0_0).toLoadRect X4)) (tPd (View.readAt (Elt F) arg2.view (Rect.unit (s := S4x4224x128) (k0_off2 i) S1x384x128.size (k0_off2_inb i)).toLoadRect X2) (View.readAt (Elt F) arg3.view (Rect.unit (s := S4x384x128) ![1, 0, 0] S1x384x128.size inb_S4x384x128_S1x384x128_1_0_0).toLoadRect X3) (View.readAt (Elt F) arg6.view (Rect.unit (s := S4x11x1x384) (k0_off6 i) S1x1x1x384.size (k0_off6_inb i)).toLoadRect X6)) (View.readAt (Elt F) arg11.view (Rect.unit (s := S4x384x128) ![1, 0, 0] S1x384x128.size inb_S4x384x128_S1x384x128_1_0_0).toLoadRect f11)⟩,
        ⟨Rect.unit (s := S4x384x128) ![0, 0, 0] S1x384x128.size inb_S4x384x128_S1x384x128_0_0_0, aDk (View.readAt (Elt F) arg2.view (Rect.unit (s := S4x4224x128) (k0_off1 i) S1x384x128.size (k0_off1_inb i)).toLoadRect X2) (tDp (View.readAt (Elt F) arg5.view (Rect.unit (s := S4x4224x128) (k0_off1 i) S1x384x128.size (k0_off1_inb i)).toLoadRect X5) (View.readAt (Elt F) arg4.view (Rect.unit (s := S4x384x128) ![0, 0, 0] S1x384x128.size inb_S4x384x128_S1x384x128_0_0_0).toLoadRect X4)) (tPd (View.readAt (Elt F) arg2.view (Rect.unit (s := S4x4224x128) (k0_off1 i) S1x384x128.size (k0_off1_inb i)).toLoadRect X2) (View.readAt (Elt F) arg3.view (Rect.unit (s := S4x384x128) ![0, 0, 0] S1x384x128.size inb_S4x384x128_S1x384x128_0_0_0).toLoadRect X3) (View.readAt (Elt F) arg6.view (Rect.unit (s := S4x11x1x384) (k0_off5 i) S1x1x1x384.size (k0_off5_inb i)).toLoadRect X6)) (View.readAt (Elt F) arg11.view (Rect.unit (s := S4x384x128) ![0, 0, 0] S1x384x128.size inb_S4x384x128_S1x384x128_0_0_0).toLoadRect f11)⟩]))
     ∗ (arg12.view.loc (c : Thread nD τ) ↦[arg12.view.set]{fullShare} (arg12.view.writes (Elt F) f12
       [⟨Rect.unit (s := S4x384x128) ![3, 0, 0] S1x384x128.size inb_S4x384x128_S1x384x128_3_0_0, aDv (View.readAt (Elt F) arg5.view (Rect.unit (s := S4x4224x128) (k0_off4 i) S1x384x128.size (k0_off4_inb i)).toLoadRect X5) (tPd (View.readAt (Elt F) arg2.view (Rect.unit (s := S4x4224x128) (k0_off4 i) S1x384x128.size (k0_off4_inb i)).toLoadRect X2) (View.readAt (Elt F) arg3.view (Rect.unit (s := S4x384x128) ![3, 0, 0] S1x384x128.size inb_S4x384x128_S1x384x128_3_0_0).toLoadRect X3) (View.readAt (Elt F) arg6.view (Rect.unit (s := S4x11x1x384) (k0_off8 i) S1x1x1x384.size (k0_off8_inb i)).toLoadRect X6)) (View.readAt (Elt F) arg12.view (Rect.unit (s := S4x384x128) ![3, 0, 0] S1x384x128.size inb_S4x384x128_S1x384x128_3_0_0).toLoadRect f12)⟩,
        ⟨Rect.unit (s := S4x384x128) ![2, 0, 0] S1x384x128.size inb_S4x384x128_S1x384x128_2_0_0, aDv (View.readAt (Elt F) arg5.view (Rect.unit (s := S4x4224x128) (k0_off3 i) S1x384x128.size (k0_off3_inb i)).toLoadRect X5) (tPd (View.readAt (Elt F) arg2.view (Rect.unit (s := S4x4224x128) (k0_off3 i) S1x384x128.size (k0_off3_inb i)).toLoadRect X2) (View.readAt (Elt F) arg3.view (Rect.unit (s := S4x384x128) ![2, 0, 0] S1x384x128.size inb_S4x384x128_S1x384x128_2_0_0).toLoadRect X3) (View.readAt (Elt F) arg6.view (Rect.unit (s := S4x11x1x384) (k0_off7 i) S1x1x1x384.size (k0_off7_inb i)).toLoadRect X6)) (View.readAt (Elt F) arg12.view (Rect.unit (s := S4x384x128) ![2, 0, 0] S1x384x128.size inb_S4x384x128_S1x384x128_2_0_0).toLoadRect f12)⟩,
        ⟨Rect.unit (s := S4x384x128) ![1, 0, 0] S1x384x128.size inb_S4x384x128_S1x384x128_1_0_0, aDv (View.readAt (Elt F) arg5.view (Rect.unit (s := S4x4224x128) (k0_off2 i) S1x384x128.size (k0_off2_inb i)).toLoadRect X5) (tPd (View.readAt (Elt F) arg2.view (Rect.unit (s := S4x4224x128) (k0_off2 i) S1x384x128.size (k0_off2_inb i)).toLoadRect X2) (View.readAt (Elt F) arg3.view (Rect.unit (s := S4x384x128) ![1, 0, 0] S1x384x128.size inb_S4x384x128_S1x384x128_1_0_0).toLoadRect X3) (View.readAt (Elt F) arg6.view (Rect.unit (s := S4x11x1x384) (k0_off6 i) S1x1x1x384.size (k0_off6_inb i)).toLoadRect X6)) (View.readAt (Elt F) arg12.view (Rect.unit (s := S4x384x128) ![1, 0, 0] S1x384x128.size inb_S4x384x128_S1x384x128_1_0_0).toLoadRect f12)⟩,
        ⟨Rect.unit (s := S4x384x128) ![0, 0, 0] S1x384x128.size inb_S4x384x128_S1x384x128_0_0_0, aDv (View.readAt (Elt F) arg5.view (Rect.unit (s := S4x4224x128) (k0_off1 i) S1x384x128.size (k0_off1_inb i)).toLoadRect X5) (tPd (View.readAt (Elt F) arg2.view (Rect.unit (s := S4x4224x128) (k0_off1 i) S1x384x128.size (k0_off1_inb i)).toLoadRect X2) (View.readAt (Elt F) arg3.view (Rect.unit (s := S4x384x128) ![0, 0, 0] S1x384x128.size inb_S4x384x128_S1x384x128_0_0_0).toLoadRect X3) (View.readAt (Elt F) arg6.view (Rect.unit (s := S4x11x1x384) (k0_off5 i) S1x1x1x384.size (k0_off5_inb i)).toLoadRect X6)) (View.readAt (Elt F) arg12.view (Rect.unit (s := S4x384x128) ![0, 0, 0] S1x384x128.size inb_S4x384x128_S1x384x128_0_0_0).toLoadRect f12)⟩]))
     ∗ (arg13.view.loc (c : Thread nD τ) ↦[arg13.view.set]{fullShare} (arg13.view.writes (Elt F) f13
       [⟨Rect.unit (s := S4x11x128x384) (k0_off12 i) S1x1x128x384.size (k0_off12_inb i), aDq (View.readAt (Elt F) arg3.view (Rect.unit (s := S4x384x128) ![3, 0, 0] S1x384x128.size inb_S4x384x128_S1x384x128_3_0_0).toLoadRect X3) (tDp (View.readAt (Elt F) arg5.view (Rect.unit (s := S4x4224x128) (k0_off4 i) S1x384x128.size (k0_off4_inb i)).toLoadRect X5) (View.readAt (Elt F) arg4.view (Rect.unit (s := S4x384x128) ![3, 0, 0] S1x384x128.size inb_S4x384x128_S1x384x128_3_0_0).toLoadRect X4)) (tPd (View.readAt (Elt F) arg2.view (Rect.unit (s := S4x4224x128) (k0_off4 i) S1x384x128.size (k0_off4_inb i)).toLoadRect X2) (View.readAt (Elt F) arg3.view (Rect.unit (s := S4x384x128) ![3, 0, 0] S1x384x128.size inb_S4x384x128_S1x384x128_3_0_0).toLoadRect X3) (View.readAt (Elt F) arg6.view (Rect.unit (s := S4x11x1x384) (k0_off8 i) S1x1x1x384.size (k0_off8_inb i)).toLoadRect X6)) (View.readAt (Elt F) arg13.view (Rect.unit (s := S4x11x128x384) (k0_off12 i) S1x1x128x384.size (k0_off12_inb i)).toLoadRect f13)⟩,
        ⟨Rect.unit (s := S4x11x128x384) (k0_off11 i) S1x1x128x384.size (k0_off11_inb i), aDq (View.readAt (Elt F) arg3.view (Rect.unit (s := S4x384x128) ![2, 0, 0] S1x384x128.size inb_S4x384x128_S1x384x128_2_0_0).toLoadRect X3) (tDp (View.readAt (Elt F) arg5.view (Rect.unit (s := S4x4224x128) (k0_off3 i) S1x384x128.size (k0_off3_inb i)).toLoadRect X5) (View.readAt (Elt F) arg4.view (Rect.unit (s := S4x384x128) ![2, 0, 0] S1x384x128.size inb_S4x384x128_S1x384x128_2_0_0).toLoadRect X4)) (tPd (View.readAt (Elt F) arg2.view (Rect.unit (s := S4x4224x128) (k0_off3 i) S1x384x128.size (k0_off3_inb i)).toLoadRect X2) (View.readAt (Elt F) arg3.view (Rect.unit (s := S4x384x128) ![2, 0, 0] S1x384x128.size inb_S4x384x128_S1x384x128_2_0_0).toLoadRect X3) (View.readAt (Elt F) arg6.view (Rect.unit (s := S4x11x1x384) (k0_off7 i) S1x1x1x384.size (k0_off7_inb i)).toLoadRect X6)) (View.readAt (Elt F) arg13.view (Rect.unit (s := S4x11x128x384) (k0_off11 i) S1x1x128x384.size (k0_off11_inb i)).toLoadRect f13)⟩,
        ⟨Rect.unit (s := S4x11x128x384) (k0_off10 i) S1x1x128x384.size (k0_off10_inb i), aDq (View.readAt (Elt F) arg3.view (Rect.unit (s := S4x384x128) ![1, 0, 0] S1x384x128.size inb_S4x384x128_S1x384x128_1_0_0).toLoadRect X3) (tDp (View.readAt (Elt F) arg5.view (Rect.unit (s := S4x4224x128) (k0_off2 i) S1x384x128.size (k0_off2_inb i)).toLoadRect X5) (View.readAt (Elt F) arg4.view (Rect.unit (s := S4x384x128) ![1, 0, 0] S1x384x128.size inb_S4x384x128_S1x384x128_1_0_0).toLoadRect X4)) (tPd (View.readAt (Elt F) arg2.view (Rect.unit (s := S4x4224x128) (k0_off2 i) S1x384x128.size (k0_off2_inb i)).toLoadRect X2) (View.readAt (Elt F) arg3.view (Rect.unit (s := S4x384x128) ![1, 0, 0] S1x384x128.size inb_S4x384x128_S1x384x128_1_0_0).toLoadRect X3) (View.readAt (Elt F) arg6.view (Rect.unit (s := S4x11x1x384) (k0_off6 i) S1x1x1x384.size (k0_off6_inb i)).toLoadRect X6)) (View.readAt (Elt F) arg13.view (Rect.unit (s := S4x11x128x384) (k0_off10 i) S1x1x128x384.size (k0_off10_inb i)).toLoadRect f13)⟩,
        ⟨Rect.unit (s := S4x11x128x384) (k0_off9 i) S1x1x128x384.size (k0_off9_inb i), aDq (View.readAt (Elt F) arg3.view (Rect.unit (s := S4x384x128) ![0, 0, 0] S1x384x128.size inb_S4x384x128_S1x384x128_0_0_0).toLoadRect X3) (tDp (View.readAt (Elt F) arg5.view (Rect.unit (s := S4x4224x128) (k0_off1 i) S1x384x128.size (k0_off1_inb i)).toLoadRect X5) (View.readAt (Elt F) arg4.view (Rect.unit (s := S4x384x128) ![0, 0, 0] S1x384x128.size inb_S4x384x128_S1x384x128_0_0_0).toLoadRect X4)) (tPd (View.readAt (Elt F) arg2.view (Rect.unit (s := S4x4224x128) (k0_off1 i) S1x384x128.size (k0_off1_inb i)).toLoadRect X2) (View.readAt (Elt F) arg3.view (Rect.unit (s := S4x384x128) ![0, 0, 0] S1x384x128.size inb_S4x384x128_S1x384x128_0_0_0).toLoadRect X3) (View.readAt (Elt F) arg6.view (Rect.unit (s := S4x11x1x384) (k0_off5 i) S1x1x1x384.size (k0_off5_inb i)).toLoadRect X6)) (View.readAt (Elt F) arg13.view (Rect.unit (s := S4x11x128x384) (k0_off9 i) S1x1x128x384.size (k0_off9_inb i)).toLoadRect f13)⟩])))
       -∗ wp frame (wpE (defs₀ (F := F)) 𝒱 (c : Thread nD τ) bd) E (K ⟨Scalar.addi (BitVec.ofNat 32 (i 1).val) 1#32, Scalar.subi 11#32 (Scalar.addi (BitVec.ofNat 32 (i 1).val) 1#32)⟩) Q)) : sProp 𝕄G)
   ⊢ wp frame (wpE (defs₀ (F := F)) 𝒱 (c : Thread nD τ) bd) E (do
    let ⟨v33, v36, v39, v42, v45, v48, v51, v54, v57⟩ : Σ' (v33 : FVec F S384x128 .bf16) (v36 : FVec F S384x128 .bf16) (v39 : FVec F S384x384 .f32) (v42 : FVec F S384x384 .f32) (v45 : FVec F S384x384 .f32) (v48 : FVec F S384x384 .f32) (v51 : FVec F S384x384 .f32) (v54 : FVec F S384x384 .f32), FVec F S384x384 .f32 ← k0_part16 i arg2 harg2 arg3 harg3 arg4 harg4 arg5 harg5 arg6 harg6 arg7 harg7 arg8 harg8 arg9 harg9 arg10 harg10 arg11 harg11 arg12 harg12 arg13 harg13 (Scalar.muli (BitVec.ofNat 32 (i 1).val) 384#32) (k0_pay2 (View.readAt (Elt F) arg2.view (Rect.unit (s := S4x4224x128) (k0_off1 i) S1x384x128.size (k0_off1_inb i)).toLoadRect X2)) (k0_pay2 (View.readAt (Elt F) arg2.view (Rect.unit (s := S4x4224x128) (k0_off2 i) S1x384x128.size (k0_off2_inb i)).toLoadRect X2)) (k0_pay2 (View.readAt (Elt F) arg2.view (Rect.unit (s := S4x4224x128) (k0_off3 i) S1x384x128.size (k0_off3_inb i)).toLoadRect X2)) (k0_pay2 (View.readAt (Elt F) arg2.view (Rect.unit (s := S4x4224x128) (k0_off4 i) S1x384x128.size (k0_off4_inb i)).toLoadRect X2)) (k0_pay2 (View.readAt (Elt F) arg5.view (Rect.unit (s := S4x4224x128) (k0_off1 i) S1x384x128.size (k0_off1_inb i)).toLoadRect X5)) (k0_pay2 (View.readAt (Elt F) arg5.view (Rect.unit (s := S4x4224x128) (k0_off2 i) S1x384x128.size (k0_off2_inb i)).toLoadRect X5))
    let ⟨v60, v89, v92, v95, v98, v99⟩ : Σ' (v60 : FVec F S384x384 .f32) (v89 : FVec F S384x384 .f32) (v92 : FVec F S384x384 .f32) (v95 : FVec F S384x384 .f32) (v98 : FVec F S384x384 .f32), FVec F S384x384 .f32 ← k0_part17 i arg2 harg2 arg3 harg3 arg4 harg4 arg5 harg5 arg6 harg6 arg7 harg7 arg8 harg8 arg9 harg9 arg10 harg10 arg11 harg11 arg12 harg12 arg13 harg13 (BitVec.ofNat 32 (i 1).val) v36 v39 v42 v45 v48 v51
    let ⟨v100, v102, v104, v106, v108, v110, v112, v114, v115, v116, v117, v118, v121, v124, v127, v130, v132⟩ : Σ' (v100 : FVec F S384x384 .bf16) (v102 : FVec F S384x384 .bf16) (v104 : FVec F S384x384 .bf16) (v106 : FVec F S384x384 .bf16) (v108 : FVec F S384x128 .f32) (v110 : FVec F S384x128 .f32) (v112 : FVec F S384x128 .f32) (v114 : FVec F S384x128 .f32) (v115 : FVec F S384x128 .f32) (v116 : FVec F S384x128 .f32) (v117 : FVec F S384x128 .f32) (v118 : FVec F S384x128 .f32) (v121 : FVec F S128x384 .f32) (v124 : FVec F S128x384 .f32) (v127 : FVec F S128x384 .f32) (v130 : FVec F S128x384 .f32), FVec F S384x128 .f32 ← k0_part18 i arg2 harg2 arg3 harg3 arg4 harg4 arg5 harg5 arg6 harg6 arg7 harg7 arg8 harg8 arg9 harg9 arg10 harg10 arg11 harg11 arg12 harg12 arg13 harg13 (k0_pay2 (View.readAt (Elt F) arg2.view (Rect.unit (s := S4x4224x128) (k0_off1 i) S1x384x128.size (k0_off1_inb i)).toLoadRect X2)) (k0_pay2 (View.readAt (Elt F) arg2.view (Rect.unit (s := S4x4224x128) (k0_off2 i) S1x384x128.size (k0_off2_inb i)).toLoadRect X2)) (k0_pay2 (View.readAt (Elt F) arg2.view (Rect.unit (s := S4x4224x128) (k0_off3 i) S1x384x128.size (k0_off3_inb i)).toLoadRect X2)) (k0_pay2 (View.readAt (Elt F) arg2.view (Rect.unit (s := S4x4224x128) (k0_off4 i) S1x384x128.size (k0_off4_inb i)).toLoadRect X2)) (k0_pay2 (View.readAt (Elt F) arg5.view (Rect.unit (s := S4x4224x128) (k0_off1 i) S1x384x128.size (k0_off1_inb i)).toLoadRect X5)) (k0_pay2 (View.readAt (Elt F) arg5.view (Rect.unit (s := S4x4224x128) (k0_off2 i) S1x384x128.size (k0_off2_inb i)).toLoadRect X5)) v33 v36 v54 v57 v60 v89 v92 v95 v98 v99
    let v163 : FVec F S384x128 .f32 ← k0_part19 i arg2 harg2 arg3 harg3 arg4 harg4 arg5 harg5 arg6 harg6 arg7 harg7 arg8 harg8 arg9 harg9 arg10 harg10 arg11 harg11 arg12 harg12 arg13 harg13 (BitVec.ofNat 32 (i 1).val) v100 v108 v115 v121 v132
    let v194 : FVec F S384x128 .f32 ← k0_part20 i arg2 harg2 arg3 harg3 arg4 harg4 arg5 harg5 arg6 harg6 arg7 harg7 arg8 harg8 arg9 harg9 arg10 harg10 arg11 harg11 arg12 harg12 arg13 harg13 (BitVec.ofNat 32 (i 1).val) v102 v110 v116 v124 v163
    let v225 : FVec F S384x128 .f32 ← k0_part21 i arg2 harg2 arg3 harg3 arg4 harg4 arg5 harg5 arg6 harg6 arg7 harg7 arg8 harg8 arg9 harg9 arg10 harg10 arg11 harg11 arg12 harg12 arg13 harg13 (BitVec.ofNat 32 (i 1).val) v104 v112 v117 v127 v194
    let r : Σ' (v255 : BitVec 32), BitVec 32 ← k0_part22 i arg2 harg2 arg3 harg3 arg4 harg4 arg5 harg5 arg6 harg6 arg7 harg7 arg8 harg8 arg9 harg9 arg10 harg10 arg11 harg11 arg12 harg12 arg13 harg13 (BitVec.ofNat 32 (i 1).val) v106 v114 v118 v130 v225
    K r) Q := by
  iintro ⟨H2, H3, H4, H5, H6, H9, H11, H12, H13, HK⟩
  sl_exec
  iapply HK
  isplitl [H2]; · iexact H2
  isplitl [H3]; · iexact H3
  isplitl [H4]; · iexact H4
  isplitl [H5]; · iexact H5
  isplitl [H6]; · iexact H6
  isplitl [H9]; · iexact H9
  isplitl [H11]; · iexact H11
  isplitl [H12]; · iexact H12
  iexact H13

end Cert.KernelIdeal.Hand

end
-- ==== Proof.Trip.lean ====
/- One trip of the kernel's loop over the query tiles below the diagonal, run once at any contents. -/
module

public import proofs.«01_k».proof.Proof.Vocab
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- One trip: what it leaves in the four buffers it accumulates into. -/
theorem trip_run (𝒱 : Variants) (c : Dev nD) (bd : Option 𝒱.V) (E : Set ℕ) (i : grid0.Coords) (arg2 : Memref sig .tc .vmem S4x4224x128 .bf16) (harg2 : arg2.IsWhole) (arg3 : Memref sig .tc .vmem S4x384x128 .bf16) (harg3 : arg3.IsWhole) (arg4 : Memref sig .tc .vmem S4x384x128 .bf16) (harg4 : arg4.IsWhole) (arg5 : Memref sig .tc .vmem S4x4224x128 .bf16) (harg5 : arg5.IsWhole) (arg6 : Memref sig .tc .vmem S4x11x1x384 .f32) (harg6 : arg6.IsWhole) (arg7 : Memref sig .tc .hbm S4224x2304 .bf16) (harg7 : arg7.IsWhole) (arg8 : Memref sig .tc .vmem S384x768 .bf16) (harg8 : arg8.IsWhole) (arg9 : Memref sig .tc .vmem S4x11x1x384 .f32) (harg9 : arg9.IsWhole) (arg10 : Memref sig .tc .vmem S4x1x1x384 .f32) (harg10 : arg10.IsWhole) (arg11 : Memref sig .tc .vmem S4x384x128 .f32) (harg11 : arg11.IsWhole) (arg12 : Memref sig .tc .vmem S4x384x128 .f32) (harg12 : arg12.IsWhole) (arg13 : Memref sig .tc .vmem S4x11x128x384 .f32) (harg13 : arg13.IsWhole) (arg1 : BitVec 32) (v255 : BitVec 32) (v256 : BitVec 32)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f9 : BufTy.Contents (Elt F) arg9.view.ty) (f11 : BufTy.Contents (Elt F) arg11.view.ty) (f12 : BufTy.Contents (Elt F) arg12.view.ty) (f13 : BufTy.Contents (Elt F) arg13.view.ty) (k : Fin (k0_t1_loop i).trips) :
   (iprop((arg2.view.loc (c : Thread nD τ) ↦[arg2.view.set]{fullShare} X2)
     ∗ (arg3.view.loc (c : Thread nD τ) ↦[arg3.view.set]{fullShare} X3)
     ∗ (arg4.view.loc (c : Thread nD τ) ↦[arg4.view.set]{fullShare} X4)
     ∗ (arg5.view.loc (c : Thread nD τ) ↦[arg5.view.set]{fullShare} X5)
     ∗ (arg6.view.loc (c : Thread nD τ) ↦[arg6.view.set]{fullShare} X6)
     ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
   ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg1 v255 v256 k PUnit.unit)
     (fun _ => iprop((arg2.view.loc (c : Thread nD τ) ↦[arg2.view.set]{fullShare} X2)
     ∗ (arg3.view.loc (c : Thread nD τ) ↦[arg3.view.set]{fullShare} X3)
     ∗ (arg4.view.loc (c : Thread nD τ) ↦[arg4.view.set]{fullShare} X4)
     ∗ (arg5.view.loc (c : Thread nD τ) ↦[arg5.view.set]{fullShare} X5)
     ∗ (arg6.view.loc (c : Thread nD τ) ↦[arg6.view.set]{fullShare} X6)
     ∗ (∃ f, (arg9.view.loc (c : Thread nD τ) ↦[arg9.view.set]{fullShare} f) ∗ ⌜f = arg9.view.writes (Elt F) f9
       [⟨Rect.unit (s := S4x11x1x384) (k0_off20 i k) S1x1x1x384.size (k0_off20_inb i k), aDc (tDp (View.readAt (Elt F) arg5.view (Rect.unit (s := S4x4224x128) (k0_off16 i k) S1x384x128.size (k0_off16_inb i k)).toLoadRect X5) (View.readAt (Elt F) arg4.view (Rect.unit (s := S4x384x128) ![3, 0, 0] S1x384x128.size inb_S4x384x128_S1x384x128_3_0_0).toLoadRect X4)) (tP (View.readAt (Elt F) arg2.view (Rect.unit (s := S4x4224x128) (k0_off16 i k) S1x384x128.size (k0_off16_inb i k)).toLoadRect X2) (View.readAt (Elt F) arg3.view (Rect.unit (s := S4x384x128) ![3, 0, 0] S1x384x128.size inb_S4x384x128_S1x384x128_3_0_0).toLoadRect X3) (View.readAt (Elt F) arg6.view (Rect.unit (s := S4x11x1x384) (k0_off20 i k) S1x1x1x384.size (k0_off20_inb i k)).toLoadRect X6)) (View.readAt (Elt F) arg9.view (Rect.unit (s := S4x11x1x384) (k0_off20 i k) S1x1x1x384.size (k0_off20_inb i k)).toLoadRect f9)⟩,
        ⟨Rect.unit (s := S4x11x1x384) (k0_off19 i k) S1x1x1x384.size (k0_off19_inb i k), aDc (tDp (View.readAt (Elt F) arg5.view (Rect.unit (s := S4x4224x128) (k0_off15 i k) S1x384x128.size (k0_off15_inb i k)).toLoadRect X5) (View.readAt (Elt F) arg4.view (Rect.unit (s := S4x384x128) ![2, 0, 0] S1x384x128.size inb_S4x384x128_S1x384x128_2_0_0).toLoadRect X4)) (tP (View.readAt (Elt F) arg2.view (Rect.unit (s := S4x4224x128) (k0_off15 i k) S1x384x128.size (k0_off15_inb i k)).toLoadRect X2) (View.readAt (Elt F) arg3.view (Rect.unit (s := S4x384x128) ![2, 0, 0] S1x384x128.size inb_S4x384x128_S1x384x128_2_0_0).toLoadRect X3) (View.readAt (Elt F) arg6.view (Rect.unit (s := S4x11x1x384) (k0_off19 i k) S1x1x1x384.size (k0_off19_inb i k)).toLoadRect X6)) (View.readAt (Elt F) arg9.view (Rect.unit (s := S4x11x1x384) (k0_off19 i k) S1x1x1x384.size (k0_off19_inb i k)).toLoadRect f9)⟩,
        ⟨Rect.unit (s := S4x11x1x384) (k0_off18 i k) S1x1x1x384.size (k0_off18_inb i k), aDc (tDp (View.readAt (Elt F) arg5.view (Rect.unit (s := S4x4224x128) (k0_off14 i k) S1x384x128.size (k0_off14_inb i k)).toLoadRect X5) (View.readAt (Elt F) arg4.view (Rect.unit (s := S4x384x128) ![1, 0, 0] S1x384x128.size inb_S4x384x128_S1x384x128_1_0_0).toLoadRect X4)) (tP (View.readAt (Elt F) arg2.view (Rect.unit (s := S4x4224x128) (k0_off14 i k) S1x384x128.size (k0_off14_inb i k)).toLoadRect X2) (View.readAt (Elt F) arg3.view (Rect.unit (s := S4x384x128) ![1, 0, 0] S1x384x128.size inb_S4x384x128_S1x384x128_1_0_0).toLoadRect X3) (View.readAt (Elt F) arg6.view (Rect.unit (s := S4x11x1x384) (k0_off18 i k) S1x1x1x384.size (k0_off18_inb i k)).toLoadRect X6)) (View.readAt (Elt F) arg9.view (Rect.unit (s := S4x11x1x384) (k0_off18 i k) S1x1x1x384.size (k0_off18_inb i k)).toLoadRect f9)⟩,
        ⟨Rect.unit (s := S4x11x1x384) (k0_off17 i k) S1x1x1x384.size (k0_off17_inb i k), aDc (tDp (View.readAt (Elt F) arg5.view (Rect.unit (s := S4x4224x128) (k0_off13 i k) S1x384x128.size (k0_off13_inb i k)).toLoadRect X5) (View.readAt (Elt F) arg4.view (Rect.unit (s := S4x384x128) ![0, 0, 0] S1x384x128.size inb_S4x384x128_S1x384x128_0_0_0).toLoadRect X4)) (tP (View.readAt (Elt F) arg2.view (Rect.unit (s := S4x4224x128) (k0_off13 i k) S1x384x128.size (k0_off13_inb i k)).toLoadRect X2) (View.readAt (Elt F) arg3.view (Rect.unit (s := S4x384x128) ![0, 0, 0] S1x384x128.size inb_S4x384x128_S1x384x128_0_0_0).toLoadRect X3) (View.readAt (Elt F) arg6.view (Rect.unit (s := S4x11x1x384) (k0_off17 i k) S1x1x1x384.size (k0_off17_inb i k)).toLoadRect X6)) (View.readAt (Elt F) arg9.view (Rect.unit (s := S4x11x1x384) (k0_off17 i k) S1x1x1x384.size (k0_off17_inb i k)).toLoadRect f9)⟩]⌝)
     ∗ (∃ f, (arg11.view.loc (c : Thread nD τ) ↦[arg11.view.set]{fullShare} f) ∗ ⌜f = arg11.view.writes (Elt F) f11
       [⟨Rect.unit (s := S4x384x128) ![3, 0, 0] S1x384x128.size inb_S4x384x128_S1x384x128_3_0_0, aDk (View.readAt (Elt F) arg2.view (Rect.unit (s := S4x4224x128) (k0_off16 i k) S1x384x128.size (k0_off16_inb i k)).toLoadRect X2) (tDp (View.readAt (Elt F) arg5.view (Rect.unit (s := S4x4224x128) (k0_off16 i k) S1x384x128.size (k0_off16_inb i k)).toLoadRect X5) (View.readAt (Elt F) arg4.view (Rect.unit (s := S4x384x128) ![3, 0, 0] S1x384x128.size inb_S4x384x128_S1x384x128_3_0_0).toLoadRect X4)) (tP (View.readAt (Elt F) arg2.view (Rect.unit (s := S4x4224x128) (k0_off16 i k) S1x384x128.size (k0_off16_inb i k)).toLoadRect X2) (View.readAt (Elt F) arg3.view (Rect.unit (s := S4x384x128) ![3, 0, 0] S1x384x128.size inb_S4x384x128_S1x384x128_3_0_0).toLoadRect X3) (View.readAt (Elt F) arg6.view (Rect.unit (s := S4x11x1x384) (k0_off20 i k) S1x1x1x384.size (k0_off20_inb i k)).toLoadRect X6)) (View.readAt (Elt F) arg11.view (Rect.unit (s := S4x384x128) ![3, 0, 0] S1x384x128.size inb_S4x384x128_S1x384x128_3_0_0).toLoadRect f11)⟩,
        ⟨Rect.unit (s := S4x384x128) ![2, 0, 0] S1x384x128.size inb_S4x384x128_S1x384x128_2_0_0, aDk (View.readAt (Elt F) arg2.view (Rect.unit (s := S4x4224x128) (k0_off15 i k) S1x384x128.size (k0_off15_inb i k)).toLoadRect X2) (tDp (View.readAt (Elt F) arg5.view (Rect.unit (s := S4x4224x128) (k0_off15 i k) S1x384x128.size (k0_off15_inb i k)).toLoadRect X5) (View.readAt (Elt F) arg4.view (Rect.unit (s := S4x384x128) ![2, 0, 0] S1x384x128.size inb_S4x384x128_S1x384x128_2_0_0).toLoadRect X4)) (tP (View.readAt (Elt F) arg2.view (Rect.unit (s := S4x4224x128) (k0_off15 i k) S1x384x128.size (k0_off15_inb i k)).toLoadRect X2) (View.readAt (Elt F) arg3.view (Rect.unit (s := S4x384x128) ![2, 0, 0] S1x384x128.size inb_S4x384x128_S1x384x128_2_0_0).toLoadRect X3) (View.readAt (Elt F) arg6.view (Rect.unit (s := S4x11x1x384) (k0_off19 i k) S1x1x1x384.size (k0_off19_inb i k)).toLoadRect X6)) (View.readAt (Elt F) arg11.view (Rect.unit (s := S4x384x128) ![2, 0, 0] S1x384x128.size inb_S4x384x128_S1x384x128_2_0_0).toLoadRect f11)⟩,
        ⟨Rect.unit (s := S4x384x128) ![1, 0, 0] S1x384x128.size inb_S4x384x128_S1x384x128_1_0_0, aDk (View.readAt (Elt F) arg2.view (Rect.unit (s := S4x4224x128) (k0_off14 i k) S1x384x128.size (k0_off14_inb i k)).toLoadRect X2) (tDp (View.readAt (Elt F) arg5.view (Rect.unit (s := S4x4224x128) (k0_off14 i k) S1x384x128.size (k0_off14_inb i k)).toLoadRect X5) (View.readAt (Elt F) arg4.view (Rect.unit (s := S4x384x128) ![1, 0, 0] S1x384x128.size inb_S4x384x128_S1x384x128_1_0_0).toLoadRect X4)) (tP (View.readAt (Elt F) arg2.view (Rect.unit (s := S4x4224x128) (k0_off14 i k) S1x384x128.size (k0_off14_inb i k)).toLoadRect X2) (View.readAt (Elt F) arg3.view (Rect.unit (s := S4x384x128) ![1, 0, 0] S1x384x128.size inb_S4x384x128_S1x384x128_1_0_0).toLoadRect X3) (View.readAt (Elt F) arg6.view (Rect.unit (s := S4x11x1x384) (k0_off18 i k) S1x1x1x384.size (k0_off18_inb i k)).toLoadRect X6)) (View.readAt (Elt F) arg11.view (Rect.unit (s := S4x384x128) ![1, 0, 0] S1x384x128.size inb_S4x384x128_S1x384x128_1_0_0).toLoadRect f11)⟩,
        ⟨Rect.unit (s := S4x384x128) ![0, 0, 0] S1x384x128.size inb_S4x384x128_S1x384x128_0_0_0, aDk (View.readAt (Elt F) arg2.view (Rect.unit (s := S4x4224x128) (k0_off13 i k) S1x384x128.size (k0_off13_inb i k)).toLoadRect X2) (tDp (View.readAt (Elt F) arg5.view (Rect.unit (s := S4x4224x128) (k0_off13 i k) S1x384x128.size (k0_off13_inb i k)).toLoadRect X5) (View.readAt (Elt F) arg4.view (Rect.unit (s := S4x384x128) ![0, 0, 0] S1x384x128.size inb_S4x384x128_S1x384x128_0_0_0).toLoadRect X4)) (tP (View.readAt (Elt F) arg2.view (Rect.unit (s := S4x4224x128) (k0_off13 i k) S1x384x128.size (k0_off13_inb i k)).toLoadRect X2) (View.readAt (Elt F) arg3.view (Rect.unit (s := S4x384x128) ![0, 0, 0] S1x384x128.size inb_S4x384x128_S1x384x128_0_0_0).toLoadRect X3) (View.readAt (Elt F) arg6.view (Rect.unit (s := S4x11x1x384) (k0_off17 i k) S1x1x1x384.size (k0_off17_inb i k)).toLoadRect X6)) (View.readAt (Elt F) arg11.view (Rect.unit (s := S4x384x128) ![0, 0, 0] S1x384x128.size inb_S4x384x128_S1x384x128_0_0_0).toLoadRect f11)⟩]⌝)
     ∗ (∃ f, (arg12.view.loc (c : Thread nD τ) ↦[arg12.view.set]{fullShare} f) ∗ ⌜f = arg12.view.writes (Elt F) f12
       [⟨Rect.unit (s := S4x384x128) ![3, 0, 0] S1x384x128.size inb_S4x384x128_S1x384x128_3_0_0, aDv (View.readAt (Elt F) arg5.view (Rect.unit (s := S4x4224x128) (k0_off16 i k) S1x384x128.size (k0_off16_inb i k)).toLoadRect X5) (tP (View.readAt (Elt F) arg2.view (Rect.unit (s := S4x4224x128) (k0_off16 i k) S1x384x128.size (k0_off16_inb i k)).toLoadRect X2) (View.readAt (Elt F) arg3.view (Rect.unit (s := S4x384x128) ![3, 0, 0] S1x384x128.size inb_S4x384x128_S1x384x128_3_0_0).toLoadRect X3) (View.readAt (Elt F) arg6.view (Rect.unit (s := S4x11x1x384) (k0_off20 i k) S1x1x1x384.size (k0_off20_inb i k)).toLoadRect X6)) (View.readAt (Elt F) arg12.view (Rect.unit (s := S4x384x128) ![3, 0, 0] S1x384x128.size inb_S4x384x128_S1x384x128_3_0_0).toLoadRect f12)⟩,
        ⟨Rect.unit (s := S4x384x128) ![2, 0, 0] S1x384x128.size inb_S4x384x128_S1x384x128_2_0_0, aDv (View.readAt (Elt F) arg5.view (Rect.unit (s := S4x4224x128) (k0_off15 i k) S1x384x128.size (k0_off15_inb i k)).toLoadRect X5) (tP (View.readAt (Elt F) arg2.view (Rect.unit (s := S4x4224x128) (k0_off15 i k) S1x384x128.size (k0_off15_inb i k)).toLoadRect X2) (View.readAt (Elt F) arg3.view (Rect.unit (s := S4x384x128) ![2, 0, 0] S1x384x128.size inb_S4x384x128_S1x384x128_2_0_0).toLoadRect X3) (View.readAt (Elt F) arg6.view (Rect.unit (s := S4x11x1x384) (k0_off19 i k) S1x1x1x384.size (k0_off19_inb i k)).toLoadRect X6)) (View.readAt (Elt F) arg12.view (Rect.unit (s := S4x384x128) ![2, 0, 0] S1x384x128.size inb_S4x384x128_S1x384x128_2_0_0).toLoadRect f12)⟩,
        ⟨Rect.unit (s := S4x384x128) ![1, 0, 0] S1x384x128.size inb_S4x384x128_S1x384x128_1_0_0, aDv (View.readAt (Elt F) arg5.view (Rect.unit (s := S4x4224x128) (k0_off14 i k) S1x384x128.size (k0_off14_inb i k)).toLoadRect X5) (tP (View.readAt (Elt F) arg2.view (Rect.unit (s := S4x4224x128) (k0_off14 i k) S1x384x128.size (k0_off14_inb i k)).toLoadRect X2) (View.readAt (Elt F) arg3.view (Rect.unit (s := S4x384x128) ![1, 0, 0] S1x384x128.size inb_S4x384x128_S1x384x128_1_0_0).toLoadRect X3) (View.readAt (Elt F) arg6.view (Rect.unit (s := S4x11x1x384) (k0_off18 i k) S1x1x1x384.size (k0_off18_inb i k)).toLoadRect X6)) (View.readAt (Elt F) arg12.view (Rect.unit (s := S4x384x128) ![1, 0, 0] S1x384x128.size inb_S4x384x128_S1x384x128_1_0_0).toLoadRect f12)⟩,
        ⟨Rect.unit (s := S4x384x128) ![0, 0, 0] S1x384x128.size inb_S4x384x128_S1x384x128_0_0_0, aDv (View.readAt (Elt F) arg5.view (Rect.unit (s := S4x4224x128) (k0_off13 i k) S1x384x128.size (k0_off13_inb i k)).toLoadRect X5) (tP (View.readAt (Elt F) arg2.view (Rect.unit (s := S4x4224x128) (k0_off13 i k) S1x384x128.size (k0_off13_inb i k)).toLoadRect X2) (View.readAt (Elt F) arg3.view (Rect.unit (s := S4x384x128) ![0, 0, 0] S1x384x128.size inb_S4x384x128_S1x384x128_0_0_0).toLoadRect X3) (View.readAt (Elt F) arg6.view (Rect.unit (s := S4x11x1x384) (k0_off17 i k) S1x1x1x384.size (k0_off17_inb i k)).toLoadRect X6)) (View.readAt (Elt F) arg12.view (Rect.unit (s := S4x384x128) ![0, 0, 0] S1x384x128.size inb_S4x384x128_S1x384x128_0_0_0).toLoadRect f12)⟩]⌝)
     ∗ (∃ f, (arg13.view.loc (c : Thread nD τ) ↦[arg13.view.set]{fullShare} f) ∗ ⌜f = arg13.view.writes (Elt F) f13
       [⟨Rect.unit (s := S4x11x128x384) (k0_off24 i k) S1x1x128x384.size (k0_off24_inb i k), aDq (View.readAt (Elt F) arg3.view (Rect.unit (s := S4x384x128) ![3, 0, 0] S1x384x128.size inb_S4x384x128_S1x384x128_3_0_0).toLoadRect X3) (tDp (View.readAt (Elt F) arg5.view (Rect.unit (s := S4x4224x128) (k0_off16 i k) S1x384x128.size (k0_off16_inb i k)).toLoadRect X5) (View.readAt (Elt F) arg4.view (Rect.unit (s := S4x384x128) ![3, 0, 0] S1x384x128.size inb_S4x384x128_S1x384x128_3_0_0).toLoadRect X4)) (tP (View.readAt (Elt F) arg2.view (Rect.unit (s := S4x4224x128) (k0_off16 i k) S1x384x128.size (k0_off16_inb i k)).toLoadRect X2) (View.readAt (Elt F) arg3.view (Rect.unit (s := S4x384x128) ![3, 0, 0] S1x384x128.size inb_S4x384x128_S1x384x128_3_0_0).toLoadRect X3) (View.readAt (Elt F) arg6.view (Rect.unit (s := S4x11x1x384) (k0_off20 i k) S1x1x1x384.size (k0_off20_inb i k)).toLoadRect X6)) (View.readAt (Elt F) arg13.view (Rect.unit (s := S4x11x128x384) (k0_off24 i k) S1x1x128x384.size (k0_off24_inb i k)).toLoadRect f13)⟩,
        ⟨Rect.unit (s := S4x11x128x384) (k0_off23 i k) S1x1x128x384.size (k0_off23_inb i k), aDq (View.readAt (Elt F) arg3.view (Rect.unit (s := S4x384x128) ![2, 0, 0] S1x384x128.size inb_S4x384x128_S1x384x128_2_0_0).toLoadRect X3) (tDp (View.readAt (Elt F) arg5.view (Rect.unit (s := S4x4224x128) (k0_off15 i k) S1x384x128.size (k0_off15_inb i k)).toLoadRect X5) (View.readAt (Elt F) arg4.view (Rect.unit (s := S4x384x128) ![2, 0, 0] S1x384x128.size inb_S4x384x128_S1x384x128_2_0_0).toLoadRect X4)) (tP (View.readAt (Elt F) arg2.view (Rect.unit (s := S4x4224x128) (k0_off15 i k) S1x384x128.size (k0_off15_inb i k)).toLoadRect X2) (View.readAt (Elt F) arg3.view (Rect.unit (s := S4x384x128) ![2, 0, 0] S1x384x128.size inb_S4x384x128_S1x384x128_2_0_0).toLoadRect X3) (View.readAt (Elt F) arg6.view (Rect.unit (s := S4x11x1x384) (k0_off19 i k) S1x1x1x384.size (k0_off19_inb i k)).toLoadRect X6)) (View.readAt (Elt F) arg13.view (Rect.unit (s := S4x11x128x384) (k0_off23 i k) S1x1x128x384.size (k0_off23_inb i k)).toLoadRect f13)⟩,
        ⟨Rect.unit (s := S4x11x128x384) (k0_off22 i k) S1x1x128x384.size (k0_off22_inb i k), aDq (View.readAt (Elt F) arg3.view (Rect.unit (s := S4x384x128) ![1, 0, 0] S1x384x128.size inb_S4x384x128_S1x384x128_1_0_0).toLoadRect X3) (tDp (View.readAt (Elt F) arg5.view (Rect.unit (s := S4x4224x128) (k0_off14 i k) S1x384x128.size (k0_off14_inb i k)).toLoadRect X5) (View.readAt (Elt F) arg4.view (Rect.unit (s := S4x384x128) ![1, 0, 0] S1x384x128.size inb_S4x384x128_S1x384x128_1_0_0).toLoadRect X4)) (tP (View.readAt (Elt F) arg2.view (Rect.unit (s := S4x4224x128) (k0_off14 i k) S1x384x128.size (k0_off14_inb i k)).toLoadRect X2) (View.readAt (Elt F) arg3.view (Rect.unit (s := S4x384x128) ![1, 0, 0] S1x384x128.size inb_S4x384x128_S1x384x128_1_0_0).toLoadRect X3) (View.readAt (Elt F) arg6.view (Rect.unit (s := S4x11x1x384) (k0_off18 i k) S1x1x1x384.size (k0_off18_inb i k)).toLoadRect X6)) (View.readAt (Elt F) arg13.view (Rect.unit (s := S4x11x128x384) (k0_off22 i k) S1x1x128x384.size (k0_off22_inb i k)).toLoadRect f13)⟩,
        ⟨Rect.unit (s := S4x11x128x384) (k0_off21 i k) S1x1x128x384.size (k0_off21_inb i k), aDq (View.readAt (Elt F) arg3.view (Rect.unit (s := S4x384x128) ![0, 0, 0] S1x384x128.size inb_S4x384x128_S1x384x128_0_0_0).toLoadRect X3) (tDp (View.readAt (Elt F) arg5.view (Rect.unit (s := S4x4224x128) (k0_off13 i k) S1x384x128.size (k0_off13_inb i k)).toLoadRect X5) (View.readAt (Elt F) arg4.view (Rect.unit (s := S4x384x128) ![0, 0, 0] S1x384x128.size inb_S4x384x128_S1x384x128_0_0_0).toLoadRect X4)) (tP (View.readAt (Elt F) arg2.view (Rect.unit (s := S4x4224x128) (k0_off13 i k) S1x384x128.size (k0_off13_inb i k)).toLoadRect X2) (View.readAt (Elt F) arg3.view (Rect.unit (s := S4x384x128) ![0, 0, 0] S1x384x128.size inb_S4x384x128_S1x384x128_0_0_0).toLoadRect X3) (View.readAt (Elt F) arg6.view (Rect.unit (s := S4x11x1x384) (k0_off17 i k) S1x1x1x384.size (k0_off17_inb i k)).toLoadRect X6)) (View.readAt (Elt F) arg13.view (Rect.unit (s := S4x11x128x384) (k0_off21 i k) S1x1x128x384.size (k0_off21_inb i k)).toLoadRect f13)⟩]⌝))) := by
  unfold k0_t1_body
  iintro ⟨H2, H3, H4, H5, H6, H9, H11, H12, H13⟩
  sl_exec
  sl_step
  isplitl [H2]; · iexact H2
  isplitl [H3]; · iexact H3
  isplitl [H4]; · iexact H4
  isplitl [H5]; · iexact H5
  isplitl [H6]; · iexact H6
  isplitl [H9]; · iexists _; isplitl [H9]; (iexact H9); ipureintro; rfl
  isplitl [H11]; · iexists _; isplitl [H11]; (iexact H11); ipureintro; rfl
  isplitl [H12]; · iexists _; isplitl [H12]; (iexact H12); ipureintro; rfl
  iexists _; isplitl [H13]; (iexact H13); ipureintro; rfl

end Cert.KernelIdeal.Hand

end
-- ==== Proof.Step.lean ====
/- What a tile of queries leaves in the four accumulators, head by head of the kernel's four stores, is one `stepAcc`. -/
module

public import proofs.«01_k».proof.Proof.Tiles
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

variable {arg2 : Memref sig .tc .vmem S4x4224x128 .bf16} (harg2 : arg2.IsWhole) {arg3 : Memref sig .tc .vmem S4x384x128 .bf16} (harg3 : arg3.IsWhole) {arg4 : Memref sig .tc .vmem S4x384x128 .bf16} (harg4 : arg4.IsWhole) {arg5 : Memref sig .tc .vmem S4x4224x128 .bf16} (harg5 : arg5.IsWhole) {arg6 : Memref sig .tc .vmem S4x11x1x384 .f32} (harg6 : arg6.IsWhole) {arg9 : Memref sig .tc .vmem S4x11x1x384 .f32} (harg9 : arg9.IsWhole) {arg11 : Memref sig .tc .vmem S4x384x128 .f32} (harg11 : arg11.IsWhole) {arg12 : Memref sig .tc .vmem S4x384x128 .f32} (harg12 : arg12.IsWhole) {arg13 : Memref sig .tc .vmem S4x11x128x384 .f32} (harg13 : arg13.IsWhole)
theorem trip_c_congr {d d' v v' q q' k k' l l' a a'} (hd : d = d') (hv : v = v') (hq : q = q') (hk : k = k') (hl : l = l') (ha : a = a') :
    aDc (F := F) (tDp d v) (tP q k l) a = aDc (tDp d' v') (tP q' k' l') a' := by
  subst hd hv hq hk hl ha; rfl
include harg5 harg4 harg2 harg3 harg6 harg9 in
theorem trip_c (i : grid0.Coords) (I : Inp F) (A : Acc F) (k : Fin (k0_t1_loop i).trips) :
   arg9.view.writes (Elt F) (harg9.unread A.c)
       [⟨Rect.unit (s := S4x11x1x384) (k0_off20 i k) S1x1x1x384.size (k0_off20_inb i k), aDc (tDp (View.readAt (Elt F) arg5.view (Rect.unit (s := S4x4224x128) (k0_off16 i k) S1x384x128.size (k0_off16_inb i k)).toLoadRect (harg5.unread I.D)) (View.readAt (Elt F) arg4.view (Rect.unit (s := S4x384x128) ![3, 0, 0] S1x384x128.size inb_S4x384x128_S1x384x128_3_0_0).toLoadRect (harg4.unread I.V))) (tP (View.readAt (Elt F) arg2.view (Rect.unit (s := S4x4224x128) (k0_off16 i k) S1x384x128.size (k0_off16_inb i k)).toLoadRect (harg2.unread I.Q)) (View.readAt (Elt F) arg3.view (Rect.unit (s := S4x384x128) ![3, 0, 0] S1x384x128.size inb_S4x384x128_S1x384x128_3_0_0).toLoadRect (harg3.unread I.K)) (View.readAt (Elt F) arg6.view (Rect.unit (s := S4x11x1x384) (k0_off20 i k) S1x1x1x384.size (k0_off20_inb i k)).toLoadRect (harg6.unread I.L))) (View.readAt (Elt F) arg9.view (Rect.unit (s := S4x11x1x384) (k0_off20 i k) S1x1x1x384.size (k0_off20_inb i k)).toLoadRect (harg9.unread A.c))⟩,
        ⟨Rect.unit (s := S4x11x1x384) (k0_off19 i k) S1x1x1x384.size (k0_off19_inb i k), aDc (tDp (View.readAt (Elt F) arg5.view (Rect.unit (s := S4x4224x128) (k0_off15 i k) S1x384x128.size (k0_off15_inb i k)).toLoadRect (harg5.unread I.D)) (View.readAt (Elt F) arg4.view (Rect.unit (s := S4x384x128) ![2, 0, 0] S1x384x128.size inb_S4x384x128_S1x384x128_2_0_0).toLoadRect (harg4.unread I.V))) (tP (View.readAt (Elt F) arg2.view (Rect.unit (s := S4x4224x128) (k0_off15 i k) S1x384x128.size (k0_off15_inb i k)).toLoadRect (harg2.unread I.Q)) (View.readAt (Elt F) arg3.view (Rect.unit (s := S4x384x128) ![2, 0, 0] S1x384x128.size inb_S4x384x128_S1x384x128_2_0_0).toLoadRect (harg3.unread I.K)) (View.readAt (Elt F) arg6.view (Rect.unit (s := S4x11x1x384) (k0_off19 i k) S1x1x1x384.size (k0_off19_inb i k)).toLoadRect (harg6.unread I.L))) (View.readAt (Elt F) arg9.view (Rect.unit (s := S4x11x1x384) (k0_off19 i k) S1x1x1x384.size (k0_off19_inb i k)).toLoadRect (harg9.unread A.c))⟩,
        ⟨Rect.unit (s := S4x11x1x384) (k0_off18 i k) S1x1x1x384.size (k0_off18_inb i k), aDc (tDp (View.readAt (Elt F) arg5.view (Rect.unit (s := S4x4224x128) (k0_off14 i k) S1x384x128.size (k0_off14_inb i k)).toLoadRect (harg5.unread I.D)) (View.readAt (Elt F) arg4.view (Rect.unit (s := S4x384x128) ![1, 0, 0] S1x384x128.size inb_S4x384x128_S1x384x128_1_0_0).toLoadRect (harg4.unread I.V))) (tP (View.readAt (Elt F) arg2.view (Rect.unit (s := S4x4224x128) (k0_off14 i k) S1x384x128.size (k0_off14_inb i k)).toLoadRect (harg2.unread I.Q)) (View.readAt (Elt F) arg3.view (Rect.unit (s := S4x384x128) ![1, 0, 0] S1x384x128.size inb_S4x384x128_S1x384x128_1_0_0).toLoadRect (harg3.unread I.K)) (View.readAt (Elt F) arg6.view (Rect.unit (s := S4x11x1x384) (k0_off18 i k) S1x1x1x384.size (k0_off18_inb i k)).toLoadRect (harg6.unread I.L))) (View.readAt (Elt F) arg9.view (Rect.unit (s := S4x11x1x384) (k0_off18 i k) S1x1x1x384.size (k0_off18_inb i k)).toLoadRect (harg9.unread A.c))⟩,
        ⟨Rect.unit (s := S4x11x1x384) (k0_off17 i k) S1x1x1x384.size (k0_off17_inb i k), aDc (tDp (View.readAt (Elt F) arg5.view (Rect.unit (s := S4x4224x128) (k0_off13 i k) S1x384x128.size (k0_off13_inb i k)).toLoadRect (harg5.unread I.D)) (View.readAt (Elt F) arg4.view (Rect.unit (s := S4x384x128) ![0, 0, 0] S1x384x128.size inb_S4x384x128_S1x384x128_0_0_0).toLoadRect (harg4.unread I.V))) (tP (View.readAt (Elt F) arg2.view (Rect.unit (s := S4x4224x128) (k0_off13 i k) S1x384x128.size (k0_off13_inb i k)).toLoadRect (harg2.unread I.Q)) (View.readAt (Elt F) arg3.view (Rect.unit (s := S4x384x128) ![0, 0, 0] S1x384x128.size inb_S4x384x128_S1x384x128_0_0_0).toLoadRect (harg3.unread I.K)) (View.readAt (Elt F) arg6.view (Rect.unit (s := S4x11x1x384) (k0_off17 i k) S1x1x1x384.size (k0_off17_inb i k)).toLoadRect (harg6.unread I.L))) (View.readAt (Elt F) arg9.view (Rect.unit (s := S4x11x1x384) (k0_off17 i k) S1x1x1x384.size (k0_off17_inb i k)).toLoadRect (harg9.unread A.c))⟩]
     = harg9.unread (stepAcc false I ((i 1).val + 1 + k.val) A).c := by
  have e := writes_four_N_of (Val := Elt F) (A := 1) (B := 384) harg9 A.c ((i 1).val + 1 + k.val) (fun g => aDc (dprob I g ((i 1).val + 1 + k.val)) (prob false I g ((i 1).val + 1 + k.val)) (blkC A.c g ((i 1).val + 1 + k.val))) (k0_off17_inb i k) (k0_off18_inb i k) (k0_off19_inb i k) (k0_off20_inb i k)
    (off17_0 i k) (off17_1 i k) (off17_2 i k) (off17_3 i k)
    (trip_c_congr (readAt_blkQ harg5 I.D (k0_off13_inb i k) 0 ((i 1).val + 1 + k.val) (tile_lt i k) (off13_0 i k)) (readAt_blkK harg4 I.V inb_S4x384x128_S1x384x128_0_0_0 0 rfl) (readAt_blkQ harg2 I.Q (k0_off13_inb i k) 0 ((i 1).val + 1 + k.val) (tile_lt i k) (off13_0 i k)) (readAt_blkK harg3 I.K inb_S4x384x128_S1x384x128_0_0_0 0 rfl) (readAt_blkC harg6 I.L (k0_off17_inb i k) 0 ((i 1).val + 1 + k.val) (tile_lt i k) (off17_0 i k)) (readAt_blkC harg9 A.c (k0_off17_inb i k) 0 ((i 1).val + 1 + k.val) (tile_lt i k) (off17_0 i k)))
    (trip_c_congr (readAt_blkQ harg5 I.D (k0_off14_inb i k) 1 ((i 1).val + 1 + k.val) (tile_lt i k) (off13_1 i k)) (readAt_blkK harg4 I.V inb_S4x384x128_S1x384x128_1_0_0 1 rfl) (readAt_blkQ harg2 I.Q (k0_off14_inb i k) 1 ((i 1).val + 1 + k.val) (tile_lt i k) (off13_1 i k)) (readAt_blkK harg3 I.K inb_S4x384x128_S1x384x128_1_0_0 1 rfl) (readAt_blkC harg6 I.L (k0_off18_inb i k) 1 ((i 1).val + 1 + k.val) (tile_lt i k) (off17_1 i k)) (readAt_blkC harg9 A.c (k0_off18_inb i k) 1 ((i 1).val + 1 + k.val) (tile_lt i k) (off17_1 i k)))
    (trip_c_congr (readAt_blkQ harg5 I.D (k0_off15_inb i k) 2 ((i 1).val + 1 + k.val) (tile_lt i k) (off13_2 i k)) (readAt_blkK harg4 I.V inb_S4x384x128_S1x384x128_2_0_0 2 rfl) (readAt_blkQ harg2 I.Q (k0_off15_inb i k) 2 ((i 1).val + 1 + k.val) (tile_lt i k) (off13_2 i k)) (readAt_blkK harg3 I.K inb_S4x384x128_S1x384x128_2_0_0 2 rfl) (readAt_blkC harg6 I.L (k0_off19_inb i k) 2 ((i 1).val + 1 + k.val) (tile_lt i k) (off17_2 i k)) (readAt_blkC harg9 A.c (k0_off19_inb i k) 2 ((i 1).val + 1 + k.val) (tile_lt i k) (off17_2 i k)))
    (trip_c_congr (readAt_blkQ harg5 I.D (k0_off16_inb i k) 3 ((i 1).val + 1 + k.val) (tile_lt i k) (off13_3 i k)) (readAt_blkK harg4 I.V inb_S4x384x128_S1x384x128_3_0_0 3 rfl) (readAt_blkQ harg2 I.Q (k0_off16_inb i k) 3 ((i 1).val + 1 + k.val) (tile_lt i k) (off13_3 i k)) (readAt_blkK harg3 I.K inb_S4x384x128_S1x384x128_3_0_0 3 rfl) (readAt_blkC harg6 I.L (k0_off20_inb i k) 3 ((i 1).val + 1 + k.val) (tile_lt i k) (off17_3 i k)) (readAt_blkC harg9 A.c (k0_off20_inb i k) 3 ((i 1).val + 1 + k.val) (tile_lt i k) (off17_3 i k)))
  rw [stepAcc_c]
  exact e

theorem trip_k_congr {d d' v v' q q' k k' l l' a a'} (hq : q = q') (hd : d = d') (hv : v = v') (hk : k = k') (hl : l = l') (ha : a = a') :
    aDk (F := F) q (tDp d v) (tP q k l) a = aDk q' (tDp d' v') (tP q' k' l') a' := by
  subst hd hv hq hk hl ha; rfl
include harg2 harg3 harg4 harg5 harg6 harg11 in
theorem trip_k (i : grid0.Coords) (I : Inp F) (A : Acc F) (k : Fin (k0_t1_loop i).trips) :
   arg11.view.writes (Elt F) (harg11.unread A.k)
       [⟨Rect.unit (s := S4x384x128) ![3, 0, 0] S1x384x128.size inb_S4x384x128_S1x384x128_3_0_0, aDk (View.readAt (Elt F) arg2.view (Rect.unit (s := S4x4224x128) (k0_off16 i k) S1x384x128.size (k0_off16_inb i k)).toLoadRect (harg2.unread I.Q)) (tDp (View.readAt (Elt F) arg5.view (Rect.unit (s := S4x4224x128) (k0_off16 i k) S1x384x128.size (k0_off16_inb i k)).toLoadRect (harg5.unread I.D)) (View.readAt (Elt F) arg4.view (Rect.unit (s := S4x384x128) ![3, 0, 0] S1x384x128.size inb_S4x384x128_S1x384x128_3_0_0).toLoadRect (harg4.unread I.V))) (tP (View.readAt (Elt F) arg2.view (Rect.unit (s := S4x4224x128) (k0_off16 i k) S1x384x128.size (k0_off16_inb i k)).toLoadRect (harg2.unread I.Q)) (View.readAt (Elt F) arg3.view (Rect.unit (s := S4x384x128) ![3, 0, 0] S1x384x128.size inb_S4x384x128_S1x384x128_3_0_0).toLoadRect (harg3.unread I.K)) (View.readAt (Elt F) arg6.view (Rect.unit (s := S4x11x1x384) (k0_off20 i k) S1x1x1x384.size (k0_off20_inb i k)).toLoadRect (harg6.unread I.L))) (View.readAt (Elt F) arg11.view (Rect.unit (s := S4x384x128) ![3, 0, 0] S1x384x128.size inb_S4x384x128_S1x384x128_3_0_0).toLoadRect (harg11.unread A.k))⟩,
        ⟨Rect.unit (s := S4x384x128) ![2, 0, 0] S1x384x128.size inb_S4x384x128_S1x384x128_2_0_0, aDk (View.readAt (Elt F) arg2.view (Rect.unit (s := S4x4224x128) (k0_off15 i k) S1x384x128.size (k0_off15_inb i k)).toLoadRect (harg2.unread I.Q)) (tDp (View.readAt (Elt F) arg5.view (Rect.unit (s := S4x4224x128) (k0_off15 i k) S1x384x128.size (k0_off15_inb i k)).toLoadRect (harg5.unread I.D)) (View.readAt (Elt F) arg4.view (Rect.unit (s := S4x384x128) ![2, 0, 0] S1x384x128.size inb_S4x384x128_S1x384x128_2_0_0).toLoadRect (harg4.unread I.V))) (tP (View.readAt (Elt F) arg2.view (Rect.unit (s := S4x4224x128) (k0_off15 i k) S1x384x128.size (k0_off15_inb i k)).toLoadRect (harg2.unread I.Q)) (View.readAt (Elt F) arg3.view (Rect.unit (s := S4x384x128) ![2, 0, 0] S1x384x128.size inb_S4x384x128_S1x384x128_2_0_0).toLoadRect (harg3.unread I.K)) (View.readAt (Elt F) arg6.view (Rect.unit (s := S4x11x1x384) (k0_off19 i k) S1x1x1x384.size (k0_off19_inb i k)).toLoadRect (harg6.unread I.L))) (View.readAt (Elt F) arg11.view (Rect.unit (s := S4x384x128) ![2, 0, 0] S1x384x128.size inb_S4x384x128_S1x384x128_2_0_0).toLoadRect (harg11.unread A.k))⟩,
        ⟨Rect.unit (s := S4x384x128) ![1, 0, 0] S1x384x128.size inb_S4x384x128_S1x384x128_1_0_0, aDk (View.readAt (Elt F) arg2.view (Rect.unit (s := S4x4224x128) (k0_off14 i k) S1x384x128.size (k0_off14_inb i k)).toLoadRect (harg2.unread I.Q)) (tDp (View.readAt (Elt F) arg5.view (Rect.unit (s := S4x4224x128) (k0_off14 i k) S1x384x128.size (k0_off14_inb i k)).toLoadRect (harg5.unread I.D)) (View.readAt (Elt F) arg4.view (Rect.unit (s := S4x384x128) ![1, 0, 0] S1x384x128.size inb_S4x384x128_S1x384x128_1_0_0).toLoadRect (harg4.unread I.V))) (tP (View.readAt (Elt F) arg2.view (Rect.unit (s := S4x4224x128) (k0_off14 i k) S1x384x128.size (k0_off14_inb i k)).toLoadRect (harg2.unread I.Q)) (View.readAt (Elt F) arg3.view (Rect.unit (s := S4x384x128) ![1, 0, 0] S1x384x128.size inb_S4x384x128_S1x384x128_1_0_0).toLoadRect (harg3.unread I.K)) (View.readAt (Elt F) arg6.view (Rect.unit (s := S4x11x1x384) (k0_off18 i k) S1x1x1x384.size (k0_off18_inb i k)).toLoadRect (harg6.unread I.L))) (View.readAt (Elt F) arg11.view (Rect.unit (s := S4x384x128) ![1, 0, 0] S1x384x128.size inb_S4x384x128_S1x384x128_1_0_0).toLoadRect (harg11.unread A.k))⟩,
        ⟨Rect.unit (s := S4x384x128) ![0, 0, 0] S1x384x128.size inb_S4x384x128_S1x384x128_0_0_0, aDk (View.readAt (Elt F) arg2.view (Rect.unit (s := S4x4224x128) (k0_off13 i k) S1x384x128.size (k0_off13_inb i k)).toLoadRect (harg2.unread I.Q)) (tDp (View.readAt (Elt F) arg5.view (Rect.unit (s := S4x4224x128) (k0_off13 i k) S1x384x128.size (k0_off13_inb i k)).toLoadRect (harg5.unread I.D)) (View.readAt (Elt F) arg4.view (Rect.unit (s := S4x384x128) ![0, 0, 0] S1x384x128.size inb_S4x384x128_S1x384x128_0_0_0).toLoadRect (harg4.unread I.V))) (tP (View.readAt (Elt F) arg2.view (Rect.unit (s := S4x4224x128) (k0_off13 i k) S1x384x128.size (k0_off13_inb i k)).toLoadRect (harg2.unread I.Q)) (View.readAt (Elt F) arg3.view (Rect.unit (s := S4x384x128) ![0, 0, 0] S1x384x128.size inb_S4x384x128_S1x384x128_0_0_0).toLoadRect (harg3.unread I.K)) (View.readAt (Elt F) arg6.view (Rect.unit (s := S4x11x1x384) (k0_off17 i k) S1x1x1x384.size (k0_off17_inb i k)).toLoadRect (harg6.unread I.L))) (View.readAt (Elt F) arg11.view (Rect.unit (s := S4x384x128) ![0, 0, 0] S1x384x128.size inb_S4x384x128_S1x384x128_0_0_0).toLoadRect (harg11.unread A.k))⟩]
     = harg11.unread (stepAcc false I ((i 1).val + 1 + k.val) A).k := by
  have e := writes_four_K_of (Val := Elt F) harg11 (harg11.unread A.k) (fun g => aDk (blkQ I.Q g ((i 1).val + 1 + k.val)) (dprob I g ((i 1).val + 1 + k.val)) (prob false I g ((i 1).val + 1 + k.val)) (blkK A.k g)) inb_S4x384x128_S1x384x128_0_0_0 inb_S4x384x128_S1x384x128_1_0_0 inb_S4x384x128_S1x384x128_2_0_0 inb_S4x384x128_S1x384x128_3_0_0 rfl rfl rfl rfl
    (trip_k_congr (readAt_blkQ harg2 I.Q (k0_off13_inb i k) 0 ((i 1).val + 1 + k.val) (tile_lt i k) (off13_0 i k)) (readAt_blkQ harg5 I.D (k0_off13_inb i k) 0 ((i 1).val + 1 + k.val) (tile_lt i k) (off13_0 i k)) (readAt_blkK harg4 I.V inb_S4x384x128_S1x384x128_0_0_0 0 rfl) (readAt_blkK harg3 I.K inb_S4x384x128_S1x384x128_0_0_0 0 rfl) (readAt_blkC harg6 I.L (k0_off17_inb i k) 0 ((i 1).val + 1 + k.val) (tile_lt i k) (off17_0 i k)) (readAt_blkK harg11 A.k inb_S4x384x128_S1x384x128_0_0_0 0 rfl))
    (trip_k_congr (readAt_blkQ harg2 I.Q (k0_off14_inb i k) 1 ((i 1).val + 1 + k.val) (tile_lt i k) (off13_1 i k)) (readAt_blkQ harg5 I.D (k0_off14_inb i k) 1 ((i 1).val + 1 + k.val) (tile_lt i k) (off13_1 i k)) (readAt_blkK harg4 I.V inb_S4x384x128_S1x384x128_1_0_0 1 rfl) (readAt_blkK harg3 I.K inb_S4x384x128_S1x384x128_1_0_0 1 rfl) (readAt_blkC harg6 I.L (k0_off18_inb i k) 1 ((i 1).val + 1 + k.val) (tile_lt i k) (off17_1 i k)) (readAt_blkK harg11 A.k inb_S4x384x128_S1x384x128_1_0_0 1 rfl))
    (trip_k_congr (readAt_blkQ harg2 I.Q (k0_off15_inb i k) 2 ((i 1).val + 1 + k.val) (tile_lt i k) (off13_2 i k)) (readAt_blkQ harg5 I.D (k0_off15_inb i k) 2 ((i 1).val + 1 + k.val) (tile_lt i k) (off13_2 i k)) (readAt_blkK harg4 I.V inb_S4x384x128_S1x384x128_2_0_0 2 rfl) (readAt_blkK harg3 I.K inb_S4x384x128_S1x384x128_2_0_0 2 rfl) (readAt_blkC harg6 I.L (k0_off19_inb i k) 2 ((i 1).val + 1 + k.val) (tile_lt i k) (off17_2 i k)) (readAt_blkK harg11 A.k inb_S4x384x128_S1x384x128_2_0_0 2 rfl))
    (trip_k_congr (readAt_blkQ harg2 I.Q (k0_off16_inb i k) 3 ((i 1).val + 1 + k.val) (tile_lt i k) (off13_3 i k)) (readAt_blkQ harg5 I.D (k0_off16_inb i k) 3 ((i 1).val + 1 + k.val) (tile_lt i k) (off13_3 i k)) (readAt_blkK harg4 I.V inb_S4x384x128_S1x384x128_3_0_0 3 rfl) (readAt_blkK harg3 I.K inb_S4x384x128_S1x384x128_3_0_0 3 rfl) (readAt_blkC harg6 I.L (k0_off20_inb i k) 3 ((i 1).val + 1 + k.val) (tile_lt i k) (off17_3 i k)) (readAt_blkK harg11 A.k inb_S4x384x128_S1x384x128_3_0_0 3 rfl))
  rw [stepAcc_k]
  exact e

theorem trip_v_congr {d d' q q' k k' l l' a a'} (hd : d = d') (hq : q = q') (hk : k = k') (hl : l = l') (ha : a = a') :
    aDv (F := F) d (tP q k l) a = aDv d' (tP q' k' l') a' := by
  subst hd hq hk hl ha; rfl
include harg5 harg2 harg3 harg6 harg12 in
theorem trip_v (i : grid0.Coords) (I : Inp F) (A : Acc F) (k : Fin (k0_t1_loop i).trips) :
   arg12.view.writes (Elt F) (harg12.unread A.v)
       [⟨Rect.unit (s := S4x384x128) ![3, 0, 0] S1x384x128.size inb_S4x384x128_S1x384x128_3_0_0, aDv (View.readAt (Elt F) arg5.view (Rect.unit (s := S4x4224x128) (k0_off16 i k) S1x384x128.size (k0_off16_inb i k)).toLoadRect (harg5.unread I.D)) (tP (View.readAt (Elt F) arg2.view (Rect.unit (s := S4x4224x128) (k0_off16 i k) S1x384x128.size (k0_off16_inb i k)).toLoadRect (harg2.unread I.Q)) (View.readAt (Elt F) arg3.view (Rect.unit (s := S4x384x128) ![3, 0, 0] S1x384x128.size inb_S4x384x128_S1x384x128_3_0_0).toLoadRect (harg3.unread I.K)) (View.readAt (Elt F) arg6.view (Rect.unit (s := S4x11x1x384) (k0_off20 i k) S1x1x1x384.size (k0_off20_inb i k)).toLoadRect (harg6.unread I.L))) (View.readAt (Elt F) arg12.view (Rect.unit (s := S4x384x128) ![3, 0, 0] S1x384x128.size inb_S4x384x128_S1x384x128_3_0_0).toLoadRect (harg12.unread A.v))⟩,
        ⟨Rect.unit (s := S4x384x128) ![2, 0, 0] S1x384x128.size inb_S4x384x128_S1x384x128_2_0_0, aDv (View.readAt (Elt F) arg5.view (Rect.unit (s := S4x4224x128) (k0_off15 i k) S1x384x128.size (k0_off15_inb i k)).toLoadRect (harg5.unread I.D)) (tP (View.readAt (Elt F) arg2.view (Rect.unit (s := S4x4224x128) (k0_off15 i k) S1x384x128.size (k0_off15_inb i k)).toLoadRect (harg2.unread I.Q)) (View.readAt (Elt F) arg3.view (Rect.unit (s := S4x384x128) ![2, 0, 0] S1x384x128.size inb_S4x384x128_S1x384x128_2_0_0).toLoadRect (harg3.unread I.K)) (View.readAt (Elt F) arg6.view (Rect.unit (s := S4x11x1x384) (k0_off19 i k) S1x1x1x384.size (k0_off19_inb i k)).toLoadRect (harg6.unread I.L))) (View.readAt (Elt F) arg12.view (Rect.unit (s := S4x384x128) ![2, 0, 0] S1x384x128.size inb_S4x384x128_S1x384x128_2_0_0).toLoadRect (harg12.unread A.v))⟩,
        ⟨Rect.unit (s := S4x384x128) ![1, 0, 0] S1x384x128.size inb_S4x384x128_S1x384x128_1_0_0, aDv (View.readAt (Elt F) arg5.view (Rect.unit (s := S4x4224x128) (k0_off14 i k) S1x384x128.size (k0_off14_inb i k)).toLoadRect (harg5.unread I.D)) (tP (View.readAt (Elt F) arg2.view (Rect.unit (s := S4x4224x128) (k0_off14 i k) S1x384x128.size (k0_off14_inb i k)).toLoadRect (harg2.unread I.Q)) (View.readAt (Elt F) arg3.view (Rect.unit (s := S4x384x128) ![1, 0, 0] S1x384x128.size inb_S4x384x128_S1x384x128_1_0_0).toLoadRect (harg3.unread I.K)) (View.readAt (Elt F) arg6.view (Rect.unit (s := S4x11x1x384) (k0_off18 i k) S1x1x1x384.size (k0_off18_inb i k)).toLoadRect (harg6.unread I.L))) (View.readAt (Elt F) arg12.view (Rect.unit (s := S4x384x128) ![1, 0, 0] S1x384x128.size inb_S4x384x128_S1x384x128_1_0_0).toLoadRect (harg12.unread A.v))⟩,
        ⟨Rect.unit (s := S4x384x128) ![0, 0, 0] S1x384x128.size inb_S4x384x128_S1x384x128_0_0_0, aDv (View.readAt (Elt F) arg5.view (Rect.unit (s := S4x4224x128) (k0_off13 i k) S1x384x128.size (k0_off13_inb i k)).toLoadRect (harg5.unread I.D)) (tP (View.readAt (Elt F) arg2.view (Rect.unit (s := S4x4224x128) (k0_off13 i k) S1x384x128.size (k0_off13_inb i k)).toLoadRect (harg2.unread I.Q)) (View.readAt (Elt F) arg3.view (Rect.unit (s := S4x384x128) ![0, 0, 0] S1x384x128.size inb_S4x384x128_S1x384x128_0_0_0).toLoadRect (harg3.unread I.K)) (View.readAt (Elt F) arg6.view (Rect.unit (s := S4x11x1x384) (k0_off17 i k) S1x1x1x384.size (k0_off17_inb i k)).toLoadRect (harg6.unread I.L))) (View.readAt (Elt F) arg12.view (Rect.unit (s := S4x384x128) ![0, 0, 0] S1x384x128.size inb_S4x384x128_S1x384x128_0_0_0).toLoadRect (harg12.unread A.v))⟩]
     = harg12.unread (stepAcc false I ((i 1).val + 1 + k.val) A).v := by
  have e := writes_four_K_of (Val := Elt F) harg12 (harg12.unread A.v) (fun g => aDv (blkQ I.D g ((i 1).val + 1 + k.val)) (prob false I g ((i 1).val + 1 + k.val)) (blkK A.v g)) inb_S4x384x128_S1x384x128_0_0_0 inb_S4x384x128_S1x384x128_1_0_0 inb_S4x384x128_S1x384x128_2_0_0 inb_S4x384x128_S1x384x128_3_0_0 rfl rfl rfl rfl
    (trip_v_congr (readAt_blkQ harg5 I.D (k0_off13_inb i k) 0 ((i 1).val + 1 + k.val) (tile_lt i k) (off13_0 i k)) (readAt_blkQ harg2 I.Q (k0_off13_inb i k) 0 ((i 1).val + 1 + k.val) (tile_lt i k) (off13_0 i k)) (readAt_blkK harg3 I.K inb_S4x384x128_S1x384x128_0_0_0 0 rfl) (readAt_blkC harg6 I.L (k0_off17_inb i k) 0 ((i 1).val + 1 + k.val) (tile_lt i k) (off17_0 i k)) (readAt_blkK harg12 A.v inb_S4x384x128_S1x384x128_0_0_0 0 rfl))
    (trip_v_congr (readAt_blkQ harg5 I.D (k0_off14_inb i k) 1 ((i 1).val + 1 + k.val) (tile_lt i k) (off13_1 i k)) (readAt_blkQ harg2 I.Q (k0_off14_inb i k) 1 ((i 1).val + 1 + k.val) (tile_lt i k) (off13_1 i k)) (readAt_blkK harg3 I.K inb_S4x384x128_S1x384x128_1_0_0 1 rfl) (readAt_blkC harg6 I.L (k0_off18_inb i k) 1 ((i 1).val + 1 + k.val) (tile_lt i k) (off17_1 i k)) (readAt_blkK harg12 A.v inb_S4x384x128_S1x384x128_1_0_0 1 rfl))
    (trip_v_congr (readAt_blkQ harg5 I.D (k0_off15_inb i k) 2 ((i 1).val + 1 + k.val) (tile_lt i k) (off13_2 i k)) (readAt_blkQ harg2 I.Q (k0_off15_inb i k) 2 ((i 1).val + 1 + k.val) (tile_lt i k) (off13_2 i k)) (readAt_blkK harg3 I.K inb_S4x384x128_S1x384x128_2_0_0 2 rfl) (readAt_blkC harg6 I.L (k0_off19_inb i k) 2 ((i 1).val + 1 + k.val) (tile_lt i k) (off17_2 i k)) (readAt_blkK harg12 A.v inb_S4x384x128_S1x384x128_2_0_0 2 rfl))
    (trip_v_congr (readAt_blkQ harg5 I.D (k0_off16_inb i k) 3 ((i 1).val + 1 + k.val) (tile_lt i k) (off13_3 i k)) (readAt_blkQ harg2 I.Q (k0_off16_inb i k) 3 ((i 1).val + 1 + k.val) (tile_lt i k) (off13_3 i k)) (readAt_blkK harg3 I.K inb_S4x384x128_S1x384x128_3_0_0 3 rfl) (readAt_blkC harg6 I.L (k0_off20_inb i k) 3 ((i 1).val + 1 + k.val) (tile_lt i k) (off17_3 i k)) (readAt_blkK harg12 A.v inb_S4x384x128_S1x384x128_3_0_0 3 rfl))
  rw [stepAcc_v]
  exact e

theorem trip_q_congr {d d' v v' q q' k k' l l' a a'} (hk : k = k') (hd : d = d') (hv : v = v') (hq : q = q') (hl : l = l') (ha : a = a') :
    aDq (F := F) k (tDp d v) (tP q k l) a = aDq k' (tDp d' v') (tP q' k' l') a' := by
  subst hd hv hq hk hl ha; rfl
include harg3 harg5 harg4 harg2 harg6 harg13 in
theorem trip_q (i : grid0.Coords) (I : Inp F) (A : Acc F) (k : Fin (k0_t1_loop i).trips) :
   arg13.view.writes (Elt F) (harg13.unread A.q)
       [⟨Rect.unit (s := S4x11x128x384) (k0_off24 i k) S1x1x128x384.size (k0_off24_inb i k), aDq (View.readAt (Elt F) arg3.view (Rect.unit (s := S4x384x128) ![3, 0, 0] S1x384x128.size inb_S4x384x128_S1x384x128_3_0_0).toLoadRect (harg3.unread I.K)) (tDp (View.readAt (Elt F) arg5.view (Rect.unit (s := S4x4224x128) (k0_off16 i k) S1x384x128.size (k0_off16_inb i k)).toLoadRect (harg5.unread I.D)) (View.readAt (Elt F) arg4.view (Rect.unit (s := S4x384x128) ![3, 0, 0] S1x384x128.size inb_S4x384x128_S1x384x128_3_0_0).toLoadRect (harg4.unread I.V))) (tP (View.readAt (Elt F) arg2.view (Rect.unit (s := S4x4224x128) (k0_off16 i k) S1x384x128.size (k0_off16_inb i k)).toLoadRect (harg2.unread I.Q)) (View.readAt (Elt F) arg3.view (Rect.unit (s := S4x384x128) ![3, 0, 0] S1x384x128.size inb_S4x384x128_S1x384x128_3_0_0).toLoadRect (harg3.unread I.K)) (View.readAt (Elt F) arg6.view (Rect.unit (s := S4x11x1x384) (k0_off20 i k) S1x1x1x384.size (k0_off20_inb i k)).toLoadRect (harg6.unread I.L))) (View.readAt (Elt F) arg13.view (Rect.unit (s := S4x11x128x384) (k0_off24 i k) S1x1x128x384.size (k0_off24_inb i k)).toLoadRect (harg13.unread A.q))⟩,
        ⟨Rect.unit (s := S4x11x128x384) (k0_off23 i k) S1x1x128x384.size (k0_off23_inb i k), aDq (View.readAt (Elt F) arg3.view (Rect.unit (s := S4x384x128) ![2, 0, 0] S1x384x128.size inb_S4x384x128_S1x384x128_2_0_0).toLoadRect (harg3.unread I.K)) (tDp (View.readAt (Elt F) arg5.view (Rect.unit (s := S4x4224x128) (k0_off15 i k) S1x384x128.size (k0_off15_inb i k)).toLoadRect (harg5.unread I.D)) (View.readAt (Elt F) arg4.view (Rect.unit (s := S4x384x128) ![2, 0, 0] S1x384x128.size inb_S4x384x128_S1x384x128_2_0_0).toLoadRect (harg4.unread I.V))) (tP (View.readAt (Elt F) arg2.view (Rect.unit (s := S4x4224x128) (k0_off15 i k) S1x384x128.size (k0_off15_inb i k)).toLoadRect (harg2.unread I.Q)) (View.readAt (Elt F) arg3.view (Rect.unit (s := S4x384x128) ![2, 0, 0] S1x384x128.size inb_S4x384x128_S1x384x128_2_0_0).toLoadRect (harg3.unread I.K)) (View.readAt (Elt F) arg6.view (Rect.unit (s := S4x11x1x384) (k0_off19 i k) S1x1x1x384.size (k0_off19_inb i k)).toLoadRect (harg6.unread I.L))) (View.readAt (Elt F) arg13.view (Rect.unit (s := S4x11x128x384) (k0_off23 i k) S1x1x128x384.size (k0_off23_inb i k)).toLoadRect (harg13.unread A.q))⟩,
        ⟨Rect.unit (s := S4x11x128x384) (k0_off22 i k) S1x1x128x384.size (k0_off22_inb i k), aDq (View.readAt (Elt F) arg3.view (Rect.unit (s := S4x384x128) ![1, 0, 0] S1x384x128.size inb_S4x384x128_S1x384x128_1_0_0).toLoadRect (harg3.unread I.K)) (tDp (View.readAt (Elt F) arg5.view (Rect.unit (s := S4x4224x128) (k0_off14 i k) S1x384x128.size (k0_off14_inb i k)).toLoadRect (harg5.unread I.D)) (View.readAt (Elt F) arg4.view (Rect.unit (s := S4x384x128) ![1, 0, 0] S1x384x128.size inb_S4x384x128_S1x384x128_1_0_0).toLoadRect (harg4.unread I.V))) (tP (View.readAt (Elt F) arg2.view (Rect.unit (s := S4x4224x128) (k0_off14 i k) S1x384x128.size (k0_off14_inb i k)).toLoadRect (harg2.unread I.Q)) (View.readAt (Elt F) arg3.view (Rect.unit (s := S4x384x128) ![1, 0, 0] S1x384x128.size inb_S4x384x128_S1x384x128_1_0_0).toLoadRect (harg3.unread I.K)) (View.readAt (Elt F) arg6.view (Rect.unit (s := S4x11x1x384) (k0_off18 i k) S1x1x1x384.size (k0_off18_inb i k)).toLoadRect (harg6.unread I.L))) (View.readAt (Elt F) arg13.view (Rect.unit (s := S4x11x128x384) (k0_off22 i k) S1x1x128x384.size (k0_off22_inb i k)).toLoadRect (harg13.unread A.q))⟩,
        ⟨Rect.unit (s := S4x11x128x384) (k0_off21 i k) S1x1x128x384.size (k0_off21_inb i k), aDq (View.readAt (Elt F) arg3.view (Rect.unit (s := S4x384x128) ![0, 0, 0] S1x384x128.size inb_S4x384x128_S1x384x128_0_0_0).toLoadRect (harg3.unread I.K)) (tDp (View.readAt (Elt F) arg5.view (Rect.unit (s := S4x4224x128) (k0_off13 i k) S1x384x128.size (k0_off13_inb i k)).toLoadRect (harg5.unread I.D)) (View.readAt (Elt F) arg4.view (Rect.unit (s := S4x384x128) ![0, 0, 0] S1x384x128.size inb_S4x384x128_S1x384x128_0_0_0).toLoadRect (harg4.unread I.V))) (tP (View.readAt (Elt F) arg2.view (Rect.unit (s := S4x4224x128) (k0_off13 i k) S1x384x128.size (k0_off13_inb i k)).toLoadRect (harg2.unread I.Q)) (View.readAt (Elt F) arg3.view (Rect.unit (s := S4x384x128) ![0, 0, 0] S1x384x128.size inb_S4x384x128_S1x384x128_0_0_0).toLoadRect (harg3.unread I.K)) (View.readAt (Elt F) arg6.view (Rect.unit (s := S4x11x1x384) (k0_off17 i k) S1x1x1x384.size (k0_off17_inb i k)).toLoadRect (harg6.unread I.L))) (View.readAt (Elt F) arg13.view (Rect.unit (s := S4x11x128x384) (k0_off21 i k) S1x1x128x384.size (k0_off21_inb i k)).toLoadRect (harg13.unread A.q))⟩]
     = harg13.unread (stepAcc false I ((i 1).val + 1 + k.val) A).q := by
  have e := writes_four_N_of (Val := Elt F) (A := 128) (B := 384) harg13 A.q ((i 1).val + 1 + k.val) (fun g => aDq (blkK I.K g) (dprob I g ((i 1).val + 1 + k.val)) (prob false I g ((i 1).val + 1 + k.val)) (blkD A.q g ((i 1).val + 1 + k.val))) (k0_off21_inb i k) (k0_off22_inb i k) (k0_off23_inb i k) (k0_off24_inb i k)
    (off21_0 i k) (off21_1 i k) (off21_2 i k) (off21_3 i k)
    (trip_q_congr (readAt_blkK harg3 I.K inb_S4x384x128_S1x384x128_0_0_0 0 rfl) (readAt_blkQ harg5 I.D (k0_off13_inb i k) 0 ((i 1).val + 1 + k.val) (tile_lt i k) (off13_0 i k)) (readAt_blkK harg4 I.V inb_S4x384x128_S1x384x128_0_0_0 0 rfl) (readAt_blkQ harg2 I.Q (k0_off13_inb i k) 0 ((i 1).val + 1 + k.val) (tile_lt i k) (off13_0 i k)) (readAt_blkC harg6 I.L (k0_off17_inb i k) 0 ((i 1).val + 1 + k.val) (tile_lt i k) (off17_0 i k)) (readAt_blkD harg13 A.q (k0_off21_inb i k) 0 ((i 1).val + 1 + k.val) (tile_lt i k) (off21_0 i k)))
    (trip_q_congr (readAt_blkK harg3 I.K inb_S4x384x128_S1x384x128_1_0_0 1 rfl) (readAt_blkQ harg5 I.D (k0_off14_inb i k) 1 ((i 1).val + 1 + k.val) (tile_lt i k) (off13_1 i k)) (readAt_blkK harg4 I.V inb_S4x384x128_S1x384x128_1_0_0 1 rfl) (readAt_blkQ harg2 I.Q (k0_off14_inb i k) 1 ((i 1).val + 1 + k.val) (tile_lt i k) (off13_1 i k)) (readAt_blkC harg6 I.L (k0_off18_inb i k) 1 ((i 1).val + 1 + k.val) (tile_lt i k) (off17_1 i k)) (readAt_blkD harg13 A.q (k0_off22_inb i k) 1 ((i 1).val + 1 + k.val) (tile_lt i k) (off21_1 i k)))
    (trip_q_congr (readAt_blkK harg3 I.K inb_S4x384x128_S1x384x128_2_0_0 2 rfl) (readAt_blkQ harg5 I.D (k0_off15_inb i k) 2 ((i 1).val + 1 + k.val) (tile_lt i k) (off13_2 i k)) (readAt_blkK harg4 I.V inb_S4x384x128_S1x384x128_2_0_0 2 rfl) (readAt_blkQ harg2 I.Q (k0_off15_inb i k) 2 ((i 1).val + 1 + k.val) (tile_lt i k) (off13_2 i k)) (readAt_blkC harg6 I.L (k0_off19_inb i k) 2 ((i 1).val + 1 + k.val) (tile_lt i k) (off17_2 i k)) (readAt_blkD harg13 A.q (k0_off23_inb i k) 2 ((i 1).val + 1 + k.val) (tile_lt i k) (off21_2 i k)))
    (trip_q_congr (readAt_blkK harg3 I.K inb_S4x384x128_S1x384x128_3_0_0 3 rfl) (readAt_blkQ harg5 I.D (k0_off16_inb i k) 3 ((i 1).val + 1 + k.val) (tile_lt i k) (off13_3 i k)) (readAt_blkK harg4 I.V inb_S4x384x128_S1x384x128_3_0_0 3 rfl) (readAt_blkQ harg2 I.Q (k0_off16_inb i k) 3 ((i 1).val + 1 + k.val) (tile_lt i k) (off13_3 i k)) (readAt_blkC harg6 I.L (k0_off20_inb i k) 3 ((i 1).val + 1 + k.val) (tile_lt i k) (off17_3 i k)) (readAt_blkD harg13 A.q (k0_off24_inb i k) 3 ((i 1).val + 1 + k.val) (tile_lt i k) (off21_3 i k)))
  rw [stepAcc_q]
  exact e

theorem diag_c_congr {d d' v v' q q' k k' l l' a a'} (hd : d = d') (hv : v = v') (hq : q = q') (hk : k = k') (hl : l = l') (ha : a = a') :
    aDc (F := F) (tDp d v) (tPd q k l) a = aDc (tDp d' v') (tPd q' k' l') a' := by
  subst hd hv hq hk hl ha; rfl
include harg5 harg4 harg2 harg3 harg6 harg9 in
theorem diag_c (i : grid0.Coords) (I : Inp F) (A : Acc F) :
   arg9.view.writes (Elt F) (harg9.unread A.c)
       [⟨Rect.unit (s := S4x11x1x384) (k0_off8 i) S1x1x1x384.size (k0_off8_inb i), aDc (tDp (View.readAt (Elt F) arg5.view (Rect.unit (s := S4x4224x128) (k0_off4 i) S1x384x128.size (k0_off4_inb i)).toLoadRect (harg5.unread I.D)) (View.readAt (Elt F) arg4.view (Rect.unit (s := S4x384x128) ![3, 0, 0] S1x384x128.size inb_S4x384x128_S1x384x128_3_0_0).toLoadRect (harg4.unread I.V))) (tPd (View.readAt (Elt F) arg2.view (Rect.unit (s := S4x4224x128) (k0_off4 i) S1x384x128.size (k0_off4_inb i)).toLoadRect (harg2.unread I.Q)) (View.readAt (Elt F) arg3.view (Rect.unit (s := S4x384x128) ![3, 0, 0] S1x384x128.size inb_S4x384x128_S1x384x128_3_0_0).toLoadRect (harg3.unread I.K)) (View.readAt (Elt F) arg6.view (Rect.unit (s := S4x11x1x384) (k0_off8 i) S1x1x1x384.size (k0_off8_inb i)).toLoadRect (harg6.unread I.L))) (View.readAt (Elt F) arg9.view (Rect.unit (s := S4x11x1x384) (k0_off8 i) S1x1x1x384.size (k0_off8_inb i)).toLoadRect (harg9.unread A.c))⟩,
        ⟨Rect.unit (s := S4x11x1x384) (k0_off7 i) S1x1x1x384.size (k0_off7_inb i), aDc (tDp (View.readAt (Elt F) arg5.view (Rect.unit (s := S4x4224x128) (k0_off3 i) S1x384x128.size (k0_off3_inb i)).toLoadRect (harg5.unread I.D)) (View.readAt (Elt F) arg4.view (Rect.unit (s := S4x384x128) ![2, 0, 0] S1x384x128.size inb_S4x384x128_S1x384x128_2_0_0).toLoadRect (harg4.unread I.V))) (tPd (View.readAt (Elt F) arg2.view (Rect.unit (s := S4x4224x128) (k0_off3 i) S1x384x128.size (k0_off3_inb i)).toLoadRect (harg2.unread I.Q)) (View.readAt (Elt F) arg3.view (Rect.unit (s := S4x384x128) ![2, 0, 0] S1x384x128.size inb_S4x384x128_S1x384x128_2_0_0).toLoadRect (harg3.unread I.K)) (View.readAt (Elt F) arg6.view (Rect.unit (s := S4x11x1x384) (k0_off7 i) S1x1x1x384.size (k0_off7_inb i)).toLoadRect (harg6.unread I.L))) (View.readAt (Elt F) arg9.view (Rect.unit (s := S4x11x1x384) (k0_off7 i) S1x1x1x384.size (k0_off7_inb i)).toLoadRect (harg9.unread A.c))⟩,
        ⟨Rect.unit (s := S4x11x1x384) (k0_off6 i) S1x1x1x384.size (k0_off6_inb i), aDc (tDp (View.readAt (Elt F) arg5.view (Rect.unit (s := S4x4224x128) (k0_off2 i) S1x384x128.size (k0_off2_inb i)).toLoadRect (harg5.unread I.D)) (View.readAt (Elt F) arg4.view (Rect.unit (s := S4x384x128) ![1, 0, 0] S1x384x128.size inb_S4x384x128_S1x384x128_1_0_0).toLoadRect (harg4.unread I.V))) (tPd (View.readAt (Elt F) arg2.view (Rect.unit (s := S4x4224x128) (k0_off2 i) S1x384x128.size (k0_off2_inb i)).toLoadRect (harg2.unread I.Q)) (View.readAt (Elt F) arg3.view (Rect.unit (s := S4x384x128) ![1, 0, 0] S1x384x128.size inb_S4x384x128_S1x384x128_1_0_0).toLoadRect (harg3.unread I.K)) (View.readAt (Elt F) arg6.view (Rect.unit (s := S4x11x1x384) (k0_off6 i) S1x1x1x384.size (k0_off6_inb i)).toLoadRect (harg6.unread I.L))) (View.readAt (Elt F) arg9.view (Rect.unit (s := S4x11x1x384) (k0_off6 i) S1x1x1x384.size (k0_off6_inb i)).toLoadRect (harg9.unread A.c))⟩,
        ⟨Rect.unit (s := S4x11x1x384) (k0_off5 i) S1x1x1x384.size (k0_off5_inb i), aDc (tDp (View.readAt (Elt F) arg5.view (Rect.unit (s := S4x4224x128) (k0_off1 i) S1x384x128.size (k0_off1_inb i)).toLoadRect (harg5.unread I.D)) (View.readAt (Elt F) arg4.view (Rect.unit (s := S4x384x128) ![0, 0, 0] S1x384x128.size inb_S4x384x128_S1x384x128_0_0_0).toLoadRect (harg4.unread I.V))) (tPd (View.readAt (Elt F) arg2.view (Rect.unit (s := S4x4224x128) (k0_off1 i) S1x384x128.size (k0_off1_inb i)).toLoadRect (harg2.unread I.Q)) (View.readAt (Elt F) arg3.view (Rect.unit (s := S4x384x128) ![0, 0, 0] S1x384x128.size inb_S4x384x128_S1x384x128_0_0_0).toLoadRect (harg3.unread I.K)) (View.readAt (Elt F) arg6.view (Rect.unit (s := S4x11x1x384) (k0_off5 i) S1x1x1x384.size (k0_off5_inb i)).toLoadRect (harg6.unread I.L))) (View.readAt (Elt F) arg9.view (Rect.unit (s := S4x11x1x384) (k0_off5 i) S1x1x1x384.size (k0_off5_inb i)).toLoadRect (harg9.unread A.c))⟩]
     = harg9.unread (stepAcc true I (i 1).val A).c := by
  have e := writes_four_N_of (Val := Elt F) (A := 1) (B := 384) harg9 A.c (i 1).val (fun g => aDc (dprob I g (i 1).val) (prob true I g (i 1).val) (blkC A.c g (i 1).val)) (k0_off5_inb i) (k0_off6_inb i) (k0_off7_inb i) (k0_off8_inb i)
    (off5_0 i) (off5_1 i) (off5_2 i) (off5_3 i)
    (diag_c_congr (readAt_blkQ harg5 I.D (k0_off1_inb i) 0 (i 1).val (i 1).isLt (off1_0 i)) (readAt_blkK harg4 I.V inb_S4x384x128_S1x384x128_0_0_0 0 rfl) (readAt_blkQ harg2 I.Q (k0_off1_inb i) 0 (i 1).val (i 1).isLt (off1_0 i)) (readAt_blkK harg3 I.K inb_S4x384x128_S1x384x128_0_0_0 0 rfl) (readAt_blkC harg6 I.L (k0_off5_inb i) 0 (i 1).val (i 1).isLt (off5_0 i)) (readAt_blkC harg9 A.c (k0_off5_inb i) 0 (i 1).val (i 1).isLt (off5_0 i)))
    (diag_c_congr (readAt_blkQ harg5 I.D (k0_off2_inb i) 1 (i 1).val (i 1).isLt (off1_1 i)) (readAt_blkK harg4 I.V inb_S4x384x128_S1x384x128_1_0_0 1 rfl) (readAt_blkQ harg2 I.Q (k0_off2_inb i) 1 (i 1).val (i 1).isLt (off1_1 i)) (readAt_blkK harg3 I.K inb_S4x384x128_S1x384x128_1_0_0 1 rfl) (readAt_blkC harg6 I.L (k0_off6_inb i) 1 (i 1).val (i 1).isLt (off5_1 i)) (readAt_blkC harg9 A.c (k0_off6_inb i) 1 (i 1).val (i 1).isLt (off5_1 i)))
    (diag_c_congr (readAt_blkQ harg5 I.D (k0_off3_inb i) 2 (i 1).val (i 1).isLt (off1_2 i)) (readAt_blkK harg4 I.V inb_S4x384x128_S1x384x128_2_0_0 2 rfl) (readAt_blkQ harg2 I.Q (k0_off3_inb i) 2 (i 1).val (i 1).isLt (off1_2 i)) (readAt_blkK harg3 I.K inb_S4x384x128_S1x384x128_2_0_0 2 rfl) (readAt_blkC harg6 I.L (k0_off7_inb i) 2 (i 1).val (i 1).isLt (off5_2 i)) (readAt_blkC harg9 A.c (k0_off7_inb i) 2 (i 1).val (i 1).isLt (off5_2 i)))
    (diag_c_congr (readAt_blkQ harg5 I.D (k0_off4_inb i) 3 (i 1).val (i 1).isLt (off1_3 i)) (readAt_blkK harg4 I.V inb_S4x384x128_S1x384x128_3_0_0 3 rfl) (readAt_blkQ harg2 I.Q (k0_off4_inb i) 3 (i 1).val (i 1).isLt (off1_3 i)) (readAt_blkK harg3 I.K inb_S4x384x128_S1x384x128_3_0_0 3 rfl) (readAt_blkC harg6 I.L (k0_off8_inb i) 3 (i 1).val (i 1).isLt (off5_3 i)) (readAt_blkC harg9 A.c (k0_off8_inb i) 3 (i 1).val (i 1).isLt (off5_3 i)))
  rw [stepAcc_c]
  exact e

theorem diag_k_congr {d d' v v' q q' k k' l l' a a'} (hq : q = q') (hd : d = d') (hv : v = v') (hk : k = k') (hl : l = l') (ha : a = a') :
    aDk (F := F) q (tDp d v) (tPd q k l) a = aDk q' (tDp d' v') (tPd q' k' l') a' := by
  subst hd hv hq hk hl ha; rfl
include harg2 harg3 harg4 harg5 harg6 harg11 in
theorem diag_k (i : grid0.Coords) (I : Inp F) (A : Acc F) :
   arg11.view.writes (Elt F) (harg11.unread A.k)
       [⟨Rect.unit (s := S4x384x128) ![3, 0, 0] S1x384x128.size inb_S4x384x128_S1x384x128_3_0_0, aDk (View.readAt (Elt F) arg2.view (Rect.unit (s := S4x4224x128) (k0_off4 i) S1x384x128.size (k0_off4_inb i)).toLoadRect (harg2.unread I.Q)) (tDp (View.readAt (Elt F) arg5.view (Rect.unit (s := S4x4224x128) (k0_off4 i) S1x384x128.size (k0_off4_inb i)).toLoadRect (harg5.unread I.D)) (View.readAt (Elt F) arg4.view (Rect.unit (s := S4x384x128) ![3, 0, 0] S1x384x128.size inb_S4x384x128_S1x384x128_3_0_0).toLoadRect (harg4.unread I.V))) (tPd (View.readAt (Elt F) arg2.view (Rect.unit (s := S4x4224x128) (k0_off4 i) S1x384x128.size (k0_off4_inb i)).toLoadRect (harg2.unread I.Q)) (View.readAt (Elt F) arg3.view (Rect.unit (s := S4x384x128) ![3, 0, 0] S1x384x128.size inb_S4x384x128_S1x384x128_3_0_0).toLoadRect (harg3.unread I.K)) (View.readAt (Elt F) arg6.view (Rect.unit (s := S4x11x1x384) (k0_off8 i) S1x1x1x384.size (k0_off8_inb i)).toLoadRect (harg6.unread I.L))) (View.readAt (Elt F) arg11.view (Rect.unit (s := S4x384x128) ![3, 0, 0] S1x384x128.size inb_S4x384x128_S1x384x128_3_0_0).toLoadRect (harg11.unread A.k))⟩,
        ⟨Rect.unit (s := S4x384x128) ![2, 0, 0] S1x384x128.size inb_S4x384x128_S1x384x128_2_0_0, aDk (View.readAt (Elt F) arg2.view (Rect.unit (s := S4x4224x128) (k0_off3 i) S1x384x128.size (k0_off3_inb i)).toLoadRect (harg2.unread I.Q)) (tDp (View.readAt (Elt F) arg5.view (Rect.unit (s := S4x4224x128) (k0_off3 i) S1x384x128.size (k0_off3_inb i)).toLoadRect (harg5.unread I.D)) (View.readAt (Elt F) arg4.view (Rect.unit (s := S4x384x128) ![2, 0, 0] S1x384x128.size inb_S4x384x128_S1x384x128_2_0_0).toLoadRect (harg4.unread I.V))) (tPd (View.readAt (Elt F) arg2.view (Rect.unit (s := S4x4224x128) (k0_off3 i) S1x384x128.size (k0_off3_inb i)).toLoadRect (harg2.unread I.Q)) (View.readAt (Elt F) arg3.view (Rect.unit (s := S4x384x128) ![2, 0, 0] S1x384x128.size inb_S4x384x128_S1x384x128_2_0_0).toLoadRect (harg3.unread I.K)) (View.readAt (Elt F) arg6.view (Rect.unit (s := S4x11x1x384) (k0_off7 i) S1x1x1x384.size (k0_off7_inb i)).toLoadRect (harg6.unread I.L))) (View.readAt (Elt F) arg11.view (Rect.unit (s := S4x384x128) ![2, 0, 0] S1x384x128.size inb_S4x384x128_S1x384x128_2_0_0).toLoadRect (harg11.unread A.k))⟩,
        ⟨Rect.unit (s := S4x384x128) ![1, 0, 0] S1x384x128.size inb_S4x384x128_S1x384x128_1_0_0, aDk (View.readAt (Elt F) arg2.view (Rect.unit (s := S4x4224x128) (k0_off2 i) S1x384x128.size (k0_off2_inb i)).toLoadRect (harg2.unread I.Q)) (tDp (View.readAt (Elt F) arg5.view (Rect.unit (s := S4x4224x128) (k0_off2 i) S1x384x128.size (k0_off2_inb i)).toLoadRect (harg5.unread I.D)) (View.readAt (Elt F) arg4.view (Rect.unit (s := S4x384x128) ![1, 0, 0] S1x384x128.size inb_S4x384x128_S1x384x128_1_0_0).toLoadRect (harg4.unread I.V))) (tPd (View.readAt (Elt F) arg2.view (Rect.unit (s := S4x4224x128) (k0_off2 i) S1x384x128.size (k0_off2_inb i)).toLoadRect (harg2.unread I.Q)) (View.readAt (Elt F) arg3.view (Rect.unit (s := S4x384x128) ![1, 0, 0] S1x384x128.size inb_S4x384x128_S1x384x128_1_0_0).toLoadRect (harg3.unread I.K)) (View.readAt (Elt F) arg6.view (Rect.unit (s := S4x11x1x384) (k0_off6 i) S1x1x1x384.size (k0_off6_inb i)).toLoadRect (harg6.unread I.L))) (View.readAt (Elt F) arg11.view (Rect.unit (s := S4x384x128) ![1, 0, 0] S1x384x128.size inb_S4x384x128_S1x384x128_1_0_0).toLoadRect (harg11.unread A.k))⟩,
        ⟨Rect.unit (s := S4x384x128) ![0, 0, 0] S1x384x128.size inb_S4x384x128_S1x384x128_0_0_0, aDk (View.readAt (Elt F) arg2.view (Rect.unit (s := S4x4224x128) (k0_off1 i) S1x384x128.size (k0_off1_inb i)).toLoadRect (harg2.unread I.Q)) (tDp (View.readAt (Elt F) arg5.view (Rect.unit (s := S4x4224x128) (k0_off1 i) S1x384x128.size (k0_off1_inb i)).toLoadRect (harg5.unread I.D)) (View.readAt (Elt F) arg4.view (Rect.unit (s := S4x384x128) ![0, 0, 0] S1x384x128.size inb_S4x384x128_S1x384x128_0_0_0).toLoadRect (harg4.unread I.V))) (tPd (View.readAt (Elt F) arg2.view (Rect.unit (s := S4x4224x128) (k0_off1 i) S1x384x128.size (k0_off1_inb i)).toLoadRect (harg2.unread I.Q)) (View.readAt (Elt F) arg3.view (Rect.unit (s := S4x384x128) ![0, 0, 0] S1x384x128.size inb_S4x384x128_S1x384x128_0_0_0).toLoadRect (harg3.unread I.K)) (View.readAt (Elt F) arg6.view (Rect.unit (s := S4x11x1x384) (k0_off5 i) S1x1x1x384.size (k0_off5_inb i)).toLoadRect (harg6.unread I.L))) (View.readAt (Elt F) arg11.view (Rect.unit (s := S4x384x128) ![0, 0, 0] S1x384x128.size inb_S4x384x128_S1x384x128_0_0_0).toLoadRect (harg11.unread A.k))⟩]
     = harg11.unread (stepAcc true I (i 1).val A).k := by
  have e := writes_four_K_of (Val := Elt F) harg11 (harg11.unread A.k) (fun g => aDk (blkQ I.Q g (i 1).val) (dprob I g (i 1).val) (prob true I g (i 1).val) (blkK A.k g)) inb_S4x384x128_S1x384x128_0_0_0 inb_S4x384x128_S1x384x128_1_0_0 inb_S4x384x128_S1x384x128_2_0_0 inb_S4x384x128_S1x384x128_3_0_0 rfl rfl rfl rfl
    (diag_k_congr (readAt_blkQ harg2 I.Q (k0_off1_inb i) 0 (i 1).val (i 1).isLt (off1_0 i)) (readAt_blkQ harg5 I.D (k0_off1_inb i) 0 (i 1).val (i 1).isLt (off1_0 i)) (readAt_blkK harg4 I.V inb_S4x384x128_S1x384x128_0_0_0 0 rfl) (readAt_blkK harg3 I.K inb_S4x384x128_S1x384x128_0_0_0 0 rfl) (readAt_blkC harg6 I.L (k0_off5_inb i) 0 (i 1).val (i 1).isLt (off5_0 i)) (readAt_blkK harg11 A.k inb_S4x384x128_S1x384x128_0_0_0 0 rfl))
    (diag_k_congr (readAt_blkQ harg2 I.Q (k0_off2_inb i) 1 (i 1).val (i 1).isLt (off1_1 i)) (readAt_blkQ harg5 I.D (k0_off2_inb i) 1 (i 1).val (i 1).isLt (off1_1 i)) (readAt_blkK harg4 I.V inb_S4x384x128_S1x384x128_1_0_0 1 rfl) (readAt_blkK harg3 I.K inb_S4x384x128_S1x384x128_1_0_0 1 rfl) (readAt_blkC harg6 I.L (k0_off6_inb i) 1 (i 1).val (i 1).isLt (off5_1 i)) (readAt_blkK harg11 A.k inb_S4x384x128_S1x384x128_1_0_0 1 rfl))
    (diag_k_congr (readAt_blkQ harg2 I.Q (k0_off3_inb i) 2 (i 1).val (i 1).isLt (off1_2 i)) (readAt_blkQ harg5 I.D (k0_off3_inb i) 2 (i 1).val (i 1).isLt (off1_2 i)) (readAt_blkK harg4 I.V inb_S4x384x128_S1x384x128_2_0_0 2 rfl) (readAt_blkK harg3 I.K inb_S4x384x128_S1x384x128_2_0_0 2 rfl) (readAt_blkC harg6 I.L (k0_off7_inb i) 2 (i 1).val (i 1).isLt (off5_2 i)) (readAt_blkK harg11 A.k inb_S4x384x128_S1x384x128_2_0_0 2 rfl))
    (diag_k_congr (readAt_blkQ harg2 I.Q (k0_off4_inb i) 3 (i 1).val (i 1).isLt (off1_3 i)) (readAt_blkQ harg5 I.D (k0_off4_inb i) 3 (i 1).val (i 1).isLt (off1_3 i)) (readAt_blkK harg4 I.V inb_S4x384x128_S1x384x128_3_0_0 3 rfl) (readAt_blkK harg3 I.K inb_S4x384x128_S1x384x128_3_0_0 3 rfl) (readAt_blkC harg6 I.L (k0_off8_inb i) 3 (i 1).val (i 1).isLt (off5_3 i)) (readAt_blkK harg11 A.k inb_S4x384x128_S1x384x128_3_0_0 3 rfl))
  rw [stepAcc_k]
  exact e

theorem diag_v_congr {d d' q q' k k' l l' a a'} (hd : d = d') (hq : q = q') (hk : k = k') (hl : l = l') (ha : a = a') :
    aDv (F := F) d (tPd q k l) a = aDv d' (tPd q' k' l') a' := by
  subst hd hq hk hl ha; rfl
include harg5 harg2 harg3 harg6 harg12 in
theorem diag_v (i : grid0.Coords) (I : Inp F) (A : Acc F) :
   arg12.view.writes (Elt F) (harg12.unread A.v)
       [⟨Rect.unit (s := S4x384x128) ![3, 0, 0] S1x384x128.size inb_S4x384x128_S1x384x128_3_0_0, aDv (View.readAt (Elt F) arg5.view (Rect.unit (s := S4x4224x128) (k0_off4 i) S1x384x128.size (k0_off4_inb i)).toLoadRect (harg5.unread I.D)) (tPd (View.readAt (Elt F) arg2.view (Rect.unit (s := S4x4224x128) (k0_off4 i) S1x384x128.size (k0_off4_inb i)).toLoadRect (harg2.unread I.Q)) (View.readAt (Elt F) arg3.view (Rect.unit (s := S4x384x128) ![3, 0, 0] S1x384x128.size inb_S4x384x128_S1x384x128_3_0_0).toLoadRect (harg3.unread I.K)) (View.readAt (Elt F) arg6.view (Rect.unit (s := S4x11x1x384) (k0_off8 i) S1x1x1x384.size (k0_off8_inb i)).toLoadRect (harg6.unread I.L))) (View.readAt (Elt F) arg12.view (Rect.unit (s := S4x384x128) ![3, 0, 0] S1x384x128.size inb_S4x384x128_S1x384x128_3_0_0).toLoadRect (harg12.unread A.v))⟩,
        ⟨Rect.unit (s := S4x384x128) ![2, 0, 0] S1x384x128.size inb_S4x384x128_S1x384x128_2_0_0, aDv (View.readAt (Elt F) arg5.view (Rect.unit (s := S4x4224x128) (k0_off3 i) S1x384x128.size (k0_off3_inb i)).toLoadRect (harg5.unread I.D)) (tPd (View.readAt (Elt F) arg2.view (Rect.unit (s := S4x4224x128) (k0_off3 i) S1x384x128.size (k0_off3_inb i)).toLoadRect (harg2.unread I.Q)) (View.readAt (Elt F) arg3.view (Rect.unit (s := S4x384x128) ![2, 0, 0] S1x384x128.size inb_S4x384x128_S1x384x128_2_0_0).toLoadRect (harg3.unread I.K)) (View.readAt (Elt F) arg6.view (Rect.unit (s := S4x11x1x384) (k0_off7 i) S1x1x1x384.size (k0_off7_inb i)).toLoadRect (harg6.unread I.L))) (View.readAt (Elt F) arg12.view (Rect.unit (s := S4x384x128) ![2, 0, 0] S1x384x128.size inb_S4x384x128_S1x384x128_2_0_0).toLoadRect (harg12.unread A.v))⟩,
        ⟨Rect.unit (s := S4x384x128) ![1, 0, 0] S1x384x128.size inb_S4x384x128_S1x384x128_1_0_0, aDv (View.readAt (Elt F) arg5.view (Rect.unit (s := S4x4224x128) (k0_off2 i) S1x384x128.size (k0_off2_inb i)).toLoadRect (harg5.unread I.D)) (tPd (View.readAt (Elt F) arg2.view (Rect.unit (s := S4x4224x128) (k0_off2 i) S1x384x128.size (k0_off2_inb i)).toLoadRect (harg2.unread I.Q)) (View.readAt (Elt F) arg3.view (Rect.unit (s := S4x384x128) ![1, 0, 0] S1x384x128.size inb_S4x384x128_S1x384x128_1_0_0).toLoadRect (harg3.unread I.K)) (View.readAt (Elt F) arg6.view (Rect.unit (s := S4x11x1x384) (k0_off6 i) S1x1x1x384.size (k0_off6_inb i)).toLoadRect (harg6.unread I.L))) (View.readAt (Elt F) arg12.view (Rect.unit (s := S4x384x128) ![1, 0, 0] S1x384x128.size inb_S4x384x128_S1x384x128_1_0_0).toLoadRect (harg12.unread A.v))⟩,
        ⟨Rect.unit (s := S4x384x128) ![0, 0, 0] S1x384x128.size inb_S4x384x128_S1x384x128_0_0_0, aDv (View.readAt (Elt F) arg5.view (Rect.unit (s := S4x4224x128) (k0_off1 i) S1x384x128.size (k0_off1_inb i)).toLoadRect (harg5.unread I.D)) (tPd (View.readAt (Elt F) arg2.view (Rect.unit (s := S4x4224x128) (k0_off1 i) S1x384x128.size (k0_off1_inb i)).toLoadRect (harg2.unread I.Q)) (View.readAt (Elt F) arg3.view (Rect.unit (s := S4x384x128) ![0, 0, 0] S1x384x128.size inb_S4x384x128_S1x384x128_0_0_0).toLoadRect (harg3.unread I.K)) (View.readAt (Elt F) arg6.view (Rect.unit (s := S4x11x1x384) (k0_off5 i) S1x1x1x384.size (k0_off5_inb i)).toLoadRect (harg6.unread I.L))) (View.readAt (Elt F) arg12.view (Rect.unit (s := S4x384x128) ![0, 0, 0] S1x384x128.size inb_S4x384x128_S1x384x128_0_0_0).toLoadRect (harg12.unread A.v))⟩]
     = harg12.unread (stepAcc true I (i 1).val A).v := by
  have e := writes_four_K_of (Val := Elt F) harg12 (harg12.unread A.v) (fun g => aDv (blkQ I.D g (i 1).val) (prob true I g (i 1).val) (blkK A.v g)) inb_S4x384x128_S1x384x128_0_0_0 inb_S4x384x128_S1x384x128_1_0_0 inb_S4x384x128_S1x384x128_2_0_0 inb_S4x384x128_S1x384x128_3_0_0 rfl rfl rfl rfl
    (diag_v_congr (readAt_blkQ harg5 I.D (k0_off1_inb i) 0 (i 1).val (i 1).isLt (off1_0 i)) (readAt_blkQ harg2 I.Q (k0_off1_inb i) 0 (i 1).val (i 1).isLt (off1_0 i)) (readAt_blkK harg3 I.K inb_S4x384x128_S1x384x128_0_0_0 0 rfl) (readAt_blkC harg6 I.L (k0_off5_inb i) 0 (i 1).val (i 1).isLt (off5_0 i)) (readAt_blkK harg12 A.v inb_S4x384x128_S1x384x128_0_0_0 0 rfl))
    (diag_v_congr (readAt_blkQ harg5 I.D (k0_off2_inb i) 1 (i 1).val (i 1).isLt (off1_1 i)) (readAt_blkQ harg2 I.Q (k0_off2_inb i) 1 (i 1).val (i 1).isLt (off1_1 i)) (readAt_blkK harg3 I.K inb_S4x384x128_S1x384x128_1_0_0 1 rfl) (readAt_blkC harg6 I.L (k0_off6_inb i) 1 (i 1).val (i 1).isLt (off5_1 i)) (readAt_blkK harg12 A.v inb_S4x384x128_S1x384x128_1_0_0 1 rfl))
    (diag_v_congr (readAt_blkQ harg5 I.D (k0_off3_inb i) 2 (i 1).val (i 1).isLt (off1_2 i)) (readAt_blkQ harg2 I.Q (k0_off3_inb i) 2 (i 1).val (i 1).isLt (off1_2 i)) (readAt_blkK harg3 I.K inb_S4x384x128_S1x384x128_2_0_0 2 rfl) (readAt_blkC harg6 I.L (k0_off7_inb i) 2 (i 1).val (i 1).isLt (off5_2 i)) (readAt_blkK harg12 A.v inb_S4x384x128_S1x384x128_2_0_0 2 rfl))
    (diag_v_congr (readAt_blkQ harg5 I.D (k0_off4_inb i) 3 (i 1).val (i 1).isLt (off1_3 i)) (readAt_blkQ harg2 I.Q (k0_off4_inb i) 3 (i 1).val (i 1).isLt (off1_3 i)) (readAt_blkK harg3 I.K inb_S4x384x128_S1x384x128_3_0_0 3 rfl) (readAt_blkC harg6 I.L (k0_off8_inb i) 3 (i 1).val (i 1).isLt (off5_3 i)) (readAt_blkK harg12 A.v inb_S4x384x128_S1x384x128_3_0_0 3 rfl))
  rw [stepAcc_v]
  exact e

theorem diag_q_congr {d d' v v' q q' k k' l l' a a'} (hk : k = k') (hd : d = d') (hv : v = v') (hq : q = q') (hl : l = l') (ha : a = a') :
    aDq (F := F) k (tDp d v) (tPd q k l) a = aDq k' (tDp d' v') (tPd q' k' l') a' := by
  subst hd hv hq hk hl ha; rfl
include harg3 harg5 harg4 harg2 harg6 harg13 in
theorem diag_q (i : grid0.Coords) (I : Inp F) (A : Acc F) :
   arg13.view.writes (Elt F) (harg13.unread A.q)
       [⟨Rect.unit (s := S4x11x128x384) (k0_off12 i) S1x1x128x384.size (k0_off12_inb i), aDq (View.readAt (Elt F) arg3.view (Rect.unit (s := S4x384x128) ![3, 0, 0] S1x384x128.size inb_S4x384x128_S1x384x128_3_0_0).toLoadRect (harg3.unread I.K)) (tDp (View.readAt (Elt F) arg5.view (Rect.unit (s := S4x4224x128) (k0_off4 i) S1x384x128.size (k0_off4_inb i)).toLoadRect (harg5.unread I.D)) (View.readAt (Elt F) arg4.view (Rect.unit (s := S4x384x128) ![3, 0, 0] S1x384x128.size inb_S4x384x128_S1x384x128_3_0_0).toLoadRect (harg4.unread I.V))) (tPd (View.readAt (Elt F) arg2.view (Rect.unit (s := S4x4224x128) (k0_off4 i) S1x384x128.size (k0_off4_inb i)).toLoadRect (harg2.unread I.Q)) (View.readAt (Elt F) arg3.view (Rect.unit (s := S4x384x128) ![3, 0, 0] S1x384x128.size inb_S4x384x128_S1x384x128_3_0_0).toLoadRect (harg3.unread I.K)) (View.readAt (Elt F) arg6.view (Rect.unit (s := S4x11x1x384) (k0_off8 i) S1x1x1x384.size (k0_off8_inb i)).toLoadRect (harg6.unread I.L))) (View.readAt (Elt F) arg13.view (Rect.unit (s := S4x11x128x384) (k0_off12 i) S1x1x128x384.size (k0_off12_inb i)).toLoadRect (harg13.unread A.q))⟩,
        ⟨Rect.unit (s := S4x11x128x384) (k0_off11 i) S1x1x128x384.size (k0_off11_inb i), aDq (View.readAt (Elt F) arg3.view (Rect.unit (s := S4x384x128) ![2, 0, 0] S1x384x128.size inb_S4x384x128_S1x384x128_2_0_0).toLoadRect (harg3.unread I.K)) (tDp (View.readAt (Elt F) arg5.view (Rect.unit (s := S4x4224x128) (k0_off3 i) S1x384x128.size (k0_off3_inb i)).toLoadRect (harg5.unread I.D)) (View.readAt (Elt F) arg4.view (Rect.unit (s := S4x384x128) ![2, 0, 0] S1x384x128.size inb_S4x384x128_S1x384x128_2_0_0).toLoadRect (harg4.unread I.V))) (tPd (View.readAt (Elt F) arg2.view (Rect.unit (s := S4x4224x128) (k0_off3 i) S1x384x128.size (k0_off3_inb i)).toLoadRect (harg2.unread I.Q)) (View.readAt (Elt F) arg3.view (Rect.unit (s := S4x384x128) ![2, 0, 0] S1x384x128.size inb_S4x384x128_S1x384x128_2_0_0).toLoadRect (harg3.unread I.K)) (View.readAt (Elt F) arg6.view (Rect.unit (s := S4x11x1x384) (k0_off7 i) S1x1x1x384.size (k0_off7_inb i)).toLoadRect (harg6.unread I.L))) (View.readAt (Elt F) arg13.view (Rect.unit (s := S4x11x128x384) (k0_off11 i) S1x1x128x384.size (k0_off11_inb i)).toLoadRect (harg13.unread A.q))⟩,
        ⟨Rect.unit (s := S4x11x128x384) (k0_off10 i) S1x1x128x384.size (k0_off10_inb i), aDq (View.readAt (Elt F) arg3.view (Rect.unit (s := S4x384x128) ![1, 0, 0] S1x384x128.size inb_S4x384x128_S1x384x128_1_0_0).toLoadRect (harg3.unread I.K)) (tDp (View.readAt (Elt F) arg5.view (Rect.unit (s := S4x4224x128) (k0_off2 i) S1x384x128.size (k0_off2_inb i)).toLoadRect (harg5.unread I.D)) (View.readAt (Elt F) arg4.view (Rect.unit (s := S4x384x128) ![1, 0, 0] S1x384x128.size inb_S4x384x128_S1x384x128_1_0_0).toLoadRect (harg4.unread I.V))) (tPd (View.readAt (Elt F) arg2.view (Rect.unit (s := S4x4224x128) (k0_off2 i) S1x384x128.size (k0_off2_inb i)).toLoadRect (harg2.unread I.Q)) (View.readAt (Elt F) arg3.view (Rect.unit (s := S4x384x128) ![1, 0, 0] S1x384x128.size inb_S4x384x128_S1x384x128_1_0_0).toLoadRect (harg3.unread I.K)) (View.readAt (Elt F) arg6.view (Rect.unit (s := S4x11x1x384) (k0_off6 i) S1x1x1x384.size (k0_off6_inb i)).toLoadRect (harg6.unread I.L))) (View.readAt (Elt F) arg13.view (Rect.unit (s := S4x11x128x384) (k0_off10 i) S1x1x128x384.size (k0_off10_inb i)).toLoadRect (harg13.unread A.q))⟩,
        ⟨Rect.unit (s := S4x11x128x384) (k0_off9 i) S1x1x128x384.size (k0_off9_inb i), aDq (View.readAt (Elt F) arg3.view (Rect.unit (s := S4x384x128) ![0, 0, 0] S1x384x128.size inb_S4x384x128_S1x384x128_0_0_0).toLoadRect (harg3.unread I.K)) (tDp (View.readAt (Elt F) arg5.view (Rect.unit (s := S4x4224x128) (k0_off1 i) S1x384x128.size (k0_off1_inb i)).toLoadRect (harg5.unread I.D)) (View.readAt (Elt F) arg4.view (Rect.unit (s := S4x384x128) ![0, 0, 0] S1x384x128.size inb_S4x384x128_S1x384x128_0_0_0).toLoadRect (harg4.unread I.V))) (tPd (View.readAt (Elt F) arg2.view (Rect.unit (s := S4x4224x128) (k0_off1 i) S1x384x128.size (k0_off1_inb i)).toLoadRect (harg2.unread I.Q)) (View.readAt (Elt F) arg3.view (Rect.unit (s := S4x384x128) ![0, 0, 0] S1x384x128.size inb_S4x384x128_S1x384x128_0_0_0).toLoadRect (harg3.unread I.K)) (View.readAt (Elt F) arg6.view (Rect.unit (s := S4x11x1x384) (k0_off5 i) S1x1x1x384.size (k0_off5_inb i)).toLoadRect (harg6.unread I.L))) (View.readAt (Elt F) arg13.view (Rect.unit (s := S4x11x128x384) (k0_off9 i) S1x1x128x384.size (k0_off9_inb i)).toLoadRect (harg13.unread A.q))⟩]
     = harg13.unread (stepAcc true I (i 1).val A).q := by
  have e := writes_four_N_of (Val := Elt F) (A := 128) (B := 384) harg13 A.q (i 1).val (fun g => aDq (blkK I.K g) (dprob I g (i 1).val) (prob true I g (i 1).val) (blkD A.q g (i 1).val)) (k0_off9_inb i) (k0_off10_inb i) (k0_off11_inb i) (k0_off12_inb i)
    (off9_0 i) (off9_1 i) (off9_2 i) (off9_3 i)
    (diag_q_congr (readAt_blkK harg3 I.K inb_S4x384x128_S1x384x128_0_0_0 0 rfl) (readAt_blkQ harg5 I.D (k0_off1_inb i) 0 (i 1).val (i 1).isLt (off1_0 i)) (readAt_blkK harg4 I.V inb_S4x384x128_S1x384x128_0_0_0 0 rfl) (readAt_blkQ harg2 I.Q (k0_off1_inb i) 0 (i 1).val (i 1).isLt (off1_0 i)) (readAt_blkC harg6 I.L (k0_off5_inb i) 0 (i 1).val (i 1).isLt (off5_0 i)) (readAt_blkD harg13 A.q (k0_off9_inb i) 0 (i 1).val (i 1).isLt (off9_0 i)))
    (diag_q_congr (readAt_blkK harg3 I.K inb_S4x384x128_S1x384x128_1_0_0 1 rfl) (readAt_blkQ harg5 I.D (k0_off2_inb i) 1 (i 1).val (i 1).isLt (off1_1 i)) (readAt_blkK harg4 I.V inb_S4x384x128_S1x384x128_1_0_0 1 rfl) (readAt_blkQ harg2 I.Q (k0_off2_inb i) 1 (i 1).val (i 1).isLt (off1_1 i)) (readAt_blkC harg6 I.L (k0_off6_inb i) 1 (i 1).val (i 1).isLt (off5_1 i)) (readAt_blkD harg13 A.q (k0_off10_inb i) 1 (i 1).val (i 1).isLt (off9_1 i)))
    (diag_q_congr (readAt_blkK harg3 I.K inb_S4x384x128_S1x384x128_2_0_0 2 rfl) (readAt_blkQ harg5 I.D (k0_off3_inb i) 2 (i 1).val (i 1).isLt (off1_2 i)) (readAt_blkK harg4 I.V inb_S4x384x128_S1x384x128_2_0_0 2 rfl) (readAt_blkQ harg2 I.Q (k0_off3_inb i) 2 (i 1).val (i 1).isLt (off1_2 i)) (readAt_blkC harg6 I.L (k0_off7_inb i) 2 (i 1).val (i 1).isLt (off5_2 i)) (readAt_blkD harg13 A.q (k0_off11_inb i) 2 (i 1).val (i 1).isLt (off9_2 i)))
    (diag_q_congr (readAt_blkK harg3 I.K inb_S4x384x128_S1x384x128_3_0_0 3 rfl) (readAt_blkQ harg5 I.D (k0_off4_inb i) 3 (i 1).val (i 1).isLt (off1_3 i)) (readAt_blkK harg4 I.V inb_S4x384x128_S1x384x128_3_0_0 3 rfl) (readAt_blkQ harg2 I.Q (k0_off4_inb i) 3 (i 1).val (i 1).isLt (off1_3 i)) (readAt_blkC harg6 I.L (k0_off8_inb i) 3 (i 1).val (i 1).isLt (off5_3 i)) (readAt_blkD harg13 A.q (k0_off12_inb i) 3 (i 1).val (i 1).isLt (off9_3 i)))
  rw [stepAcc_q]
  exact e

end Cert.KernelIdeal.Hand

end
-- ==== Proof.Outs.lean ====
/- The blocks a grid point writes out, as functions of its accumulators. -/
module

public import proofs.«01_k».proof.Proof.Tiles

@[expose] public section

noncomputable section

namespace Cert.KernelIdeal.Hand

open Idealize.ShloMosaic Idealize.ShloMosaic.TcCoe Idealize.SL.Sem
open Idealize.ShloMosaic.ValueIdx
open Cert.KernelIdeal.Gen

variable {F : FTy → Type} [FloatOps F]

/-- The accumulators when the diagonal tile is reached. -/
def startAcc (j : ℕ) (Cc : S4x11x1x384.Idx → Elt F .f32) (Cq : S4x11x128x384.Idx → Elt F .f32) : Acc F where
  c := if j = 0 then k0_pay121 else Cc
  k := k0_pay122
  v := k0_pay123
  q := if j = 0 then k0_pay120 else Cq

/-- The accumulators when a key tile is done. -/
def lastAcc (I : Inp F) (j : ℕ) (Cc : S4x11x1x384.Idx → Elt F .f32) (Cq : S4x11x128x384.Idx → Elt F .f32) : Acc F :=
  accAt I j (startAcc j Cc Cq) (10 - j)

/-- The query gradient's columns of a tile. -/
def selDq (j : ℕ) (A : Acc F) : S384x256.Idx → Elt F .bf16 :=
  k0_pay192 (k0_pay187 (blkD A.q 0 j)) (k0_pay187 (blkD A.q 1 j)) (k0_pay187 (blkD A.q 2 j)) (k0_pay187 (blkD A.q 3 j))
    (iota .tc S384x128 32 [1] iota_S384x128_d1_w32) k0_pay191
/-- The key gradient's columns of a tile. -/
def selDk (A : Acc F) : S384x256.Idx → Elt F .bf16 :=
  k0_pay193 (k0_pay183 (blkK A.k 0)) (k0_pay183 (blkK A.k 1)) (k0_pay183 (blkK A.k 2)) (k0_pay183 (blkK A.k 3))
/-- The value gradient's columns of a tile. -/
def selDv (A : Acc F) : S384x256.Idx → Elt F .bf16 :=
  k0_pay195 (k0_pay194 (blkK A.v 0) (blkK A.v 1) (blkK A.v 2) (blkK A.v 3))
/-- The three, by the column band. -/
def band (j : ℕ) (A : Acc F) : Fin 3 → S384x256.Idx → Elt F .bf16
  | 0 => selDq j A
  | 1 => selDk A
  | 2 => selDv A
/-- A head's row of the key gate's gradient. -/
def gateRow (A : Acc F) : Fin 4 → S1x1x1x384.Idx → Elt F .f32
  | 0 => k0_pay196 (k0_pay183 (blkK A.k 0))
  | 1 => k0_pay197 (k0_pay183 (blkK A.k 1))
  | 2 => k0_pay196 (k0_pay183 (blkK A.k 2))
  | 3 => k0_pay197 (k0_pay183 (blkK A.k 3))

/-- The block of the projections' gradient. -/
def out8 (j : ℕ) (A : Acc F) : S384x768.Idx → Elt F .bf16 :=
  fun y => band j A ⟨(y 1).val / 256, by have : (y 1).val < 768 := (y 1).isLt; omega⟩
    (ix2 (y 0) ⟨(y 1).val % 256, Nat.mod_lt _ (by decide)⟩)
/-- The block of the key gate's gradient. -/
def out10 (A : Acc F) : S4x1x1x384.Idx → Elt F .f32 := fun y => gateRow A (y 0) (ix4 0 0 0 (y 3))

theorem selDq_of {j : ℕ} {A : Acc F} {a0 a1 a2 a3} (h0 : a0 = blkD A.q 0 j) (h1 : a1 = blkD A.q 1 j)
    (h2 : a2 = blkD A.q 2 j) (h3 : a3 = blkD A.q 3 j) :
    k0_pay192 (k0_pay187 a0) (k0_pay188 a1) (k0_pay189 a2) (k0_pay190 a3) (iota .tc S384x128 32 [1] iota_S384x128_d1_w32) k0_pay191 = band j A 0 := by
  subst h0 h1 h2 h3; rfl
theorem selDk_of {j : ℕ} {A : Acc F} {a0 a1 a2 a3} (h0 : a0 = blkK A.k 0) (h1 : a1 = blkK A.k 1)
    (h2 : a2 = blkK A.k 2) (h3 : a3 = blkK A.k 3) :
    k0_pay193 (k0_pay183 a0) (k0_pay184 a1) (k0_pay185 a2) (k0_pay186 a3) = band j A 1 := by
  subst h0 h1 h2 h3; rfl
theorem selDv_of {j : ℕ} {A : Acc F} {a0 a1 a2 a3} (h0 : a0 = blkK A.v 0) (h1 : a1 = blkK A.v 1)
    (h2 : a2 = blkK A.v 2) (h3 : a3 = blkK A.v 3) :
    k0_pay195 (k0_pay194 a0 a1 a2 a3) = band j A 2 := by
  subst h0 h1 h2 h3; rfl
theorem gate0_of {A : Acc F} {a} (h : a = blkK A.k 0) : k0_pay196 (k0_pay183 a) = gateRow A 0 := by subst h; rfl
theorem gate1_of {A : Acc F} {a} (h : a = blkK A.k 1) : k0_pay197 (k0_pay184 a) = gateRow A 1 := by subst h; rfl
theorem gate2_of {A : Acc F} {a} (h : a = blkK A.k 2) : k0_pay198 (k0_pay185 a) = gateRow A 2 := by subst h; rfl
theorem gate3_of {A : Acc F} {a} (h : a = blkK A.k 3) : k0_pay1 (k0_pay199 (k0_pay186 a)) = gateRow A 3 := by subst h; rfl

section Stores
variable {Val : EltTy → Type} {e : EltTy}

/-- Three column bands stored over a block leave the block of the three. -/
theorem writes_three {m : Memref sig .tc .vmem S384x768 e} (h : m.IsWhole) (f : m.view.ty.Contents Val)
    (w : Fin 3 → S384x256.Idx → Val e) {u0 u1 u2 : S384x256.Idx → Val e} (i0 i1 i2) (h0 : u0 = w 0) (h1 : u1 = w 1) (h2 : u2 = w 2) :
    m.view.writes Val f [⟨Rect.unit (s := S384x768) ![0, 512] S384x256.size i2, u2⟩,
        ⟨Rect.unit (s := S384x768) ![0, 256] S384x256.size i1, u1⟩,
        ⟨Rect.unit (s := S384x768) ![0, 0] S384x256.size i0, u0⟩]
      = h.unread fun y => w ⟨(y 1).val / 256, by have : (y 1).val < 768 := (y 1).isLt; omega⟩
          (ix2 (y 0) ⟨(y 1).val % 256, Nat.mod_lt _ (by decide)⟩) := by
  subst h0 h1 h2
  refine h.eq_unread (funext fun y => ?_)
  obtain ⟨a, b, rfl⟩ : ∃ a b, y = ix2 a b := ⟨_, _, eq_ix2 y⟩
  have hb : b.val < 768 := b.isLt
  show _ = w ⟨b.val / 256, _⟩ (ix2 a ⟨b.val % 256, _⟩)
  have key : ∀ (n : Fin 3), b.val / 256 = n.val → ∀ t : Fin 2, ((ix2 a b : S384x768.Idx) t).val
      = (![0, 256 * n.val] : Fin 2 → ℕ) t + ((ix2 a ⟨b.val % 256, Nat.mod_lt _ (by decide)⟩ : S384x256.Idx) t).val := by
    intro n hn t
    match t with
    | ⟨0, _⟩ => exact (Nat.zero_add _).symm
    | ⟨1, _⟩ => show b.val = 256 * n.val + b.val % 256; omega
  have miss : ∀ (n : Fin 3), b.val / 256 ≠ n.val → ((ix2 a b : S384x768.Idx) 1).val < (![0, 256 * n.val] : Fin 2 → ℕ) 1
      ∨ (![0, 256 * n.val] : Fin 2 → ℕ) 1 + S384x256.size 1 ≤ ((ix2 a b : S384x768.Idx) 1).val := by
    intro n hn
    show b.val < 256 * n.val ∨ 256 * n.val + 256 ≤ b.val
    omega
  by_cases c2 : b.val / 256 = 2
  · rw [View.read_writes_cons_unit_of_mem m.view f i2 (w 2) _ _ _ rfl (key 2 c2)]
    exact congrArg (fun n => w n _) (Fin.ext c2.symm)
  rw [View.read_writes_cons_unit_of_not_mem m.view f i2 (w 2) _ _ rfl 1 (miss 2 c2)]
  by_cases c1 : b.val / 256 = 1
  · rw [View.read_writes_cons_unit_of_mem m.view f i1 (w 1) _ _ _ rfl (key 1 c1)]
    exact congrArg (fun n => w n _) (Fin.ext c1.symm)
  rw [View.read_writes_cons_unit_of_not_mem m.view f i1 (w 1) _ _ rfl 1 (miss 1 c1)]
  have c0 : b.val / 256 = 0 := by omega
  rw [View.read_writes_cons_unit_of_mem m.view f i0 (w 0) _ _ _ rfl (key 0 c0)]
  exact congrArg (fun n => w n _) (Fin.ext c0.symm)

/-- Four heads' rows stored over a block leave the block of the four. -/
theorem writes_four_R {m : Memref sig .tc .vmem S4x1x1x384 e} (h : m.IsWhole) (f : m.view.ty.Contents Val)
    (w : Fin 4 → S1x1x1x384.Idx → Val e) {u0 u1 u2 u3 : S1x1x1x384.Idx → Val e} (i0 i1 i2 i3)
    (h0 : u0 = w 0) (h1 : u1 = w 1) (h2 : u2 = w 2) (h3 : u3 = w 3) :
    m.view.writes Val f [⟨Rect.unit (s := S4x1x1x384) ![3, 0, 0, 0] S1x1x1x384.size i3, u3⟩,
        ⟨Rect.unit (s := S4x1x1x384) ![2, 0, 0, 0] S1x1x1x384.size i2, u2⟩,
        ⟨Rect.unit (s := S4x1x1x384) ![1, 0, 0, 0] S1x1x1x384.size i1, u1⟩,
        ⟨Rect.unit (s := S4x1x1x384) ![0, 0, 0, 0] S1x1x1x384.size i0, u0⟩]
      = h.unread fun y => w (y 0) (ix4 0 0 0 (y 3)) := by
  subst h0 h1 h2 h3
  refine h.eq_unread (funext fun y => ?_)
  obtain ⟨a, b, d, r, rfl⟩ : ∃ a b d r, y = ix4 a b d r := ⟨_, _, _, _, eq_ix4 y⟩
  show _ = w a (ix4 0 0 0 r)
  have hb : b.val < 1 := b.isLt
  have hd : d.val < 1 := d.isLt
  have hit : ∀ (g : Fin 4), a = g → ∀ t : Fin 4, ((ix4 a b d r : S4x1x1x384.Idx) t).val
      = (![g.val, 0, 0, 0] : Fin 4 → ℕ) t + ((ix4 0 0 0 r : S1x1x1x384.Idx) t).val := by
    rintro g rfl t
    match t with
    | ⟨0, _⟩ => rfl
    | ⟨1, _⟩ => show b.val = 0 + 0; omega
    | ⟨2, _⟩ => show d.val = 0 + 0; omega
    | ⟨3, _⟩ => exact (Nat.zero_add _).symm
  have miss : ∀ g : Fin 4, a ≠ g → ((ix4 a b d r : S4x1x1x384.Idx) 0).val < (![g.val, 0, 0, 0] : Fin 4 → ℕ) 0
      ∨ (![g.val, 0, 0, 0] : Fin 4 → ℕ) 0 + S1x1x1x384.size 0 ≤ ((ix4 a b d r : S4x1x1x384.Idx) 0).val := by
    intro g hg
    show a.val < g.val ∨ g.val + 1 ≤ a.val
    have := fun e => hg (Fin.ext e)
    omega
  by_cases c3 : a = 3
  · rw [View.read_writes_cons_unit_of_mem m.view f i3 (w 3) _ _ _ rfl (hit 3 c3)]; subst c3; rfl
  rw [View.read_writes_cons_unit_of_not_mem m.view f i3 (w 3) _ _ rfl 0 (miss 3 c3)]
  by_cases c2 : a = 2
  · rw [View.read_writes_cons_unit_of_mem m.view f i2 (w 2) _ _ _ rfl (hit 2 c2)]; subst c2; rfl
  rw [View.read_writes_cons_unit_of_not_mem m.view f i2 (w 2) _ _ rfl 0 (miss 2 c2)]
  by_cases c1 : a = 1
  · rw [View.read_writes_cons_unit_of_mem m.view f i1 (w 1) _ _ _ rfl (hit 1 c1)]; subst c1; rfl
  rw [View.read_writes_cons_unit_of_not_mem m.view f i1 (w 1) _ _ rfl 0 (miss 1 c1)]
  have c0 : a = 0 := fin4_zero a c3 c2 c1
  rw [View.read_writes_cons_unit_of_mem m.view f i0 (w 0) _ _ _ rfl (hit 0 c0)]; subst c0; rfl

end Stores

end Cert.KernelIdeal.Hand

end
-- ==== Proof.Body.lean ====
/- A grid point's whole body, from its loaded blocks to the accumulators and the blocks it writes out. -/
module

public import proofs.«01_k».proof.Proof.Head
public import proofs.«01_k».proof.Proof.Diag
public import proofs.«01_k».proof.Proof.Trip
public import proofs.«01_k».proof.Proof.Step
public import proofs.«01_k».proof.Proof.Outs
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

section

/-- A grid point's body. -/
theorem body_run (𝒱 : Variants) (c : Dev nD) (bd : Option 𝒱.V) (E : Set ℕ) (i : grid0.Coords) (arg2 : Memref sig .tc .vmem S4x4224x128 .bf16) (harg2 : arg2.IsWhole) (arg3 : Memref sig .tc .vmem S4x384x128 .bf16) (harg3 : arg3.IsWhole) (arg4 : Memref sig .tc .vmem S4x384x128 .bf16) (harg4 : arg4.IsWhole) (arg5 : Memref sig .tc .vmem S4x4224x128 .bf16) (harg5 : arg5.IsWhole) (arg6 : Memref sig .tc .vmem S4x11x1x384 .f32) (harg6 : arg6.IsWhole) (arg7 : Memref sig .tc .hbm S4224x2304 .bf16) (harg7 : arg7.IsWhole) (arg8 : Memref sig .tc .vmem S384x768 .bf16) (harg8 : arg8.IsWhole) (arg9 : Memref sig .tc .vmem S4x11x1x384 .f32) (harg9 : arg9.IsWhole) (arg10 : Memref sig .tc .vmem S4x1x1x384 .f32) (harg10 : arg10.IsWhole) (arg11 : Memref sig .tc .vmem S4x384x128 .f32) (harg11 : arg11.IsWhole) (arg12 : Memref sig .tc .vmem S4x384x128 .f32) (harg12 : arg12.IsWhole) (arg13 : Memref sig .tc .vmem S4x11x128x384 .f32) (harg13 : arg13.IsWhole)
   (I : Inp F) (Cc : S4x11x1x384.Idx → Elt F .f32) (Cq : S4x11x128x384.Idx → Elt F .f32)
   (f8 : BufTy.Contents (Elt F) arg8.view.ty) (f10 : BufTy.Contents (Elt F) arg10.view.ty) (f11 : BufTy.Contents (Elt F) arg11.view.ty) (f12 : BufTy.Contents (Elt F) arg12.view.ty) :
   (iprop((arg2.view.loc (c : Thread nD τ) ↦[arg2.view.set]{fullShare} (harg2.unread I.Q))
     ∗ (arg3.view.loc (c : Thread nD τ) ↦[arg3.view.set]{fullShare} (harg3.unread I.K))
     ∗ (arg4.view.loc (c : Thread nD τ) ↦[arg4.view.set]{fullShare} (harg4.unread I.V))
     ∗ (arg5.view.loc (c : Thread nD τ) ↦[arg5.view.set]{fullShare} (harg5.unread I.D))
     ∗ (arg6.view.loc (c : Thread nD τ) ↦[arg6.view.set]{fullShare} (harg6.unread I.L))
     ∗ (arg8.view.loc (c : Thread nD τ) ↦[arg8.view.set]{fullShare} f8)
     ∗ (arg9.view.loc (c : Thread nD τ) ↦[arg9.view.set]{fullShare} (harg9.unread Cc))
     ∗ (arg10.view.loc (c : Thread nD τ) ↦[arg10.view.set]{fullShare} f10)
     ∗ (arg11.view.loc (c : Thread nD τ) ↦[arg11.view.set]{fullShare} f11)
     ∗ (arg12.view.loc (c : Thread nD τ) ↦[arg12.view.set]{fullShare} f12)
     ∗ (arg13.view.loc (c : Thread nD τ) ↦[arg13.view.set]{fullShare} (harg13.unread Cq))) : sProp 𝕄G)
   ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13)
     (fun _ => iprop((arg2.view.loc (c : Thread nD τ) ↦[arg2.view.set]{fullShare} (harg2.unread I.Q))
     ∗ (arg3.view.loc (c : Thread nD τ) ↦[arg3.view.set]{fullShare} (harg3.unread I.K))
     ∗ (arg4.view.loc (c : Thread nD τ) ↦[arg4.view.set]{fullShare} (harg4.unread I.V))
     ∗ (arg5.view.loc (c : Thread nD τ) ↦[arg5.view.set]{fullShare} (harg5.unread I.D))
     ∗ (arg6.view.loc (c : Thread nD τ) ↦[arg6.view.set]{fullShare} (harg6.unread I.L))
     ∗ (arg9.view.loc (c : Thread nD τ) ↦[arg9.view.set]{fullShare} (harg9.unread (lastAcc I (i 1).val Cc Cq).c))
     ∗ (arg11.view.loc (c : Thread nD τ) ↦[arg11.view.set]{fullShare} (harg11.unread (lastAcc I (i 1).val Cc Cq).k))
     ∗ (arg12.view.loc (c : Thread nD τ) ↦[arg12.view.set]{fullShare} (harg12.unread (lastAcc I (i 1).val Cc Cq).v))
     ∗ (arg13.view.loc (c : Thread nD τ) ↦[arg13.view.set]{fullShare} (harg13.unread (lastAcc I (i 1).val Cc Cq).q))
     ∗ (arg8.view.loc (c : Thread nD τ) ↦[arg8.view.set]{fullShare} (harg8.unread (out8 (i 1).val (lastAcc I (i 1).val Cc Cq))))
     ∗ (arg10.view.loc (c : Thread nD τ) ↦[arg10.view.set]{fullShare} (harg10.unread (out10 (lastAcc I (i 1).val Cc Cq)))))) := by
  rw [cc0_fox_bwd_eq_skeleton]
  unfold cc0_fox_bwd_skel
  rw [wp_bind, k0_part25_eq_skeleton]
  unfold k0_part25_skel
  iintro ⟨H2, H3, H4, H5, H6, H8, H9, H10, H11, H12, H13⟩
  iapply (head_run 𝒱 c bd E i arg2 harg2 arg3 harg3 arg4 harg4 arg5 harg5 arg6 harg6 arg7 harg7 arg8 harg8 arg9 harg9 arg10 harg10 arg11 harg11 arg12 harg12 arg13 harg13 (harg2.unread I.Q) (harg5.unread I.D) (harg9.unread Cc) f11 f12 (harg13.unread Cq))
  isplitl [H2]; · iexact H2
  isplitl [H5]; · iexact H5
  isplitl [H9]; · iexact H9
  isplitl [H11]; · iexact H11
  isplitl [H12]; · iexact H12
  isplitl [H13]; · iexact H13
  iintro ⟨H2, H5, H9, H11, H12, H13⟩
  have e9 : (if (i 1).val = 0 then harg9.unread (k0_pay121 (F := F)) else harg9.unread Cc) = harg9.unread (startAcc (i 1).val Cc Cq).c := by
    unfold startAcc; split <;> rfl
  have e13 : (if (i 1).val = 0 then harg13.unread (k0_pay120 (F := F)) else harg13.unread Cq) = harg13.unread (startAcc (i 1).val Cc Cq).q := by
    unfold startAcc; split <;> rfl
  rw [e9, e13]
  iapply (diag_run 𝒱 c bd E i arg2 harg2 arg3 harg3 arg4 harg4 arg5 harg5 arg6 harg6 arg7 harg7 arg8 harg8 arg9 harg9 arg10 harg10 arg11 harg11 arg12 harg12 arg13 harg13 (harg2.unread I.Q) (harg3.unread I.K) (harg4.unread I.V) (harg5.unread I.D) (harg6.unread I.L)
    (harg9.unread (startAcc (i 1).val Cc Cq).c) (harg11.unread (startAcc (i 1).val Cc Cq).k) (harg12.unread (startAcc (i 1).val Cc Cq).v) (harg13.unread (startAcc (i 1).val Cc Cq).q))
  isplitl [H2]; · iexact H2
  isplitl [H3]; · iexact H3
  isplitl [H4]; · iexact H4
  isplitl [H5]; · iexact H5
  isplitl [H6]; · iexact H6
  isplitl [H9]; · iexact H9
  isplitl [H11]; · iexact H11
  isplitl [H12]; · iexact H12
  isplitl [H13]; · iexact H13
  rw [diag_c harg2 harg3 harg4 harg5 harg6 harg9, diag_k harg2 harg3 harg4 harg5 harg6 harg11, diag_v harg2 harg3 harg5 harg6 harg12, diag_q harg2 harg3 harg4 harg5 harg6 harg13]
  iintro ⟨H2, H3, H4, H5, H6, H9, H11, H12, H13⟩
  dsimp only
  sl_exec
  sl_for (fun (k : ℕ) (_ : PUnit) => (iprop((arg2.view.loc (c : Thread nD τ) ↦[arg2.view.set]{fullShare} (harg2.unread I.Q))
     ∗ (arg3.view.loc (c : Thread nD τ) ↦[arg3.view.set]{fullShare} (harg3.unread I.K))
     ∗ (arg4.view.loc (c : Thread nD τ) ↦[arg4.view.set]{fullShare} (harg4.unread I.V))
     ∗ (arg5.view.loc (c : Thread nD τ) ↦[arg5.view.set]{fullShare} (harg5.unread I.D))
     ∗ (arg6.view.loc (c : Thread nD τ) ↦[arg6.view.set]{fullShare} (harg6.unread I.L))
     ∗ (arg9.view.loc (c : Thread nD τ) ↦[arg9.view.set]{fullShare} (harg9.unread (accAt I (i 1).val (startAcc (i 1).val Cc Cq) k).c))
     ∗ (arg11.view.loc (c : Thread nD τ) ↦[arg11.view.set]{fullShare} (harg11.unread (accAt I (i 1).val (startAcc (i 1).val Cc Cq) k).k))
     ∗ (arg12.view.loc (c : Thread nD τ) ↦[arg12.view.set]{fullShare} (harg12.unread (accAt I (i 1).val (startAcc (i 1).val Cc Cq) k).v))
     ∗ (arg13.view.loc (c : Thread nD τ) ↦[arg13.view.set]{fullShare} (harg13.unread (accAt I (i 1).val (startAcc (i 1).val Cc Cq) k).q))) : sProp 𝕄G)) $$ [H2 H3 H4 H5 H6 H9 H11 H12 H13]
  case region =>
    intro k a
    refine (trip_run 𝒱 c bd E i arg2 harg2 arg3 harg3 arg4 harg4 arg5 harg5 arg6 harg6 arg7 harg7 arg8 harg8 arg9 harg9 arg10 harg10 arg11 harg11 arg12 harg12 arg13 harg13 (arg1 := _) (v255 := _) (v256 := _) (harg2.unread I.Q) (harg3.unread I.K) (harg4.unread I.V) (harg5.unread I.D) (harg6.unread I.L)
      (harg9.unread (accAt I (i 1).val (startAcc (i 1).val Cc Cq) k.val).c) (harg11.unread (accAt I (i 1).val (startAcc (i 1).val Cc Cq) k.val).k) (harg12.unread (accAt I (i 1).val (startAcc (i 1).val Cc Cq) k.val).v) (harg13.unread (accAt I (i 1).val (startAcc (i 1).val Cc Cq) k.val).q) k).trans (wp_mono _ _ _ fun _ => ?_)
    rw [trip_c harg2 harg3 harg4 harg5 harg6 harg9, trip_k harg2 harg3 harg4 harg5 harg6 harg11, trip_v harg2 harg3 harg5 harg6 harg12, trip_q harg2 harg3 harg4 harg5 harg6 harg13]
    iintro ⟨H2, H3, H4, H5, H6, ⟨%g9, H9, %q9⟩, ⟨%g11, H11, %q11⟩, ⟨%g12, H12, %q12⟩, ⟨%g13, H13, %q13⟩⟩
    subst q9 q11 q12 q13
    isplitl [H2]; · iexact H2
    isplitl [H3]; · iexact H3
    isplitl [H4]; · iexact H4
    isplitl [H5]; · iexact H5
    isplitl [H6]; · iexact H6
    isplitl [H9]; · iexact H9
    isplitl [H11]; · iexact H11
    isplitl [H12]; · iexact H12
    iexact H13
  · isplitl [H2]; · iexact H2
    isplitl [H3]; · iexact H3
    isplitl [H4]; · iexact H4
    isplitl [H5]; · iexact H5
    isplitl [H6]; · iexact H6
    isplitl [H9]; · iexact H9
    isplitl [H11]; · iexact H11
    isplitl [H12]; · iexact H12
    iexact H13
  rw [show Scf.trips (k0_t1_loop i).lb (k0_t1_loop i).ub (k0_t1_loop i).st = 10 - (i 1).val from trips_t1 i]
  iintro %a ⟨H2, H3, H4, H5, H6, H9, H11, H12, H13⟩
  sl_exec
  have e8 := fun AF : Acc F => writes_three (Val := Elt F) harg8 f8 (band (i 1).val AF) inb_S384x768_S384x256_0_0 inb_S384x768_S384x256_0_256 inb_S384x768_S384x256_0_512
    (selDq_of (readAt_blkD harg13 AF.q (k0_off9_inb i) 0 (i 1).val (i 1).isLt (off9_0 i)) (readAt_blkD harg13 AF.q (k0_off10_inb i) 1 (i 1).val (i 1).isLt (off9_1 i)) (readAt_blkD harg13 AF.q (k0_off11_inb i) 2 (i 1).val (i 1).isLt (off9_2 i)) (readAt_blkD harg13 AF.q (k0_off12_inb i) 3 (i 1).val (i 1).isLt (off9_3 i)))
    (selDk_of (readAt_blkK harg11 AF.k inb_S4x384x128_S1x384x128_0_0_0 0 rfl) (readAt_blkK harg11 AF.k inb_S4x384x128_S1x384x128_1_0_0 1 rfl) (readAt_blkK harg11 AF.k inb_S4x384x128_S1x384x128_2_0_0 2 rfl) (readAt_blkK harg11 AF.k inb_S4x384x128_S1x384x128_3_0_0 3 rfl))
    (selDv_of (readAt_blkK harg12 AF.v inb_S4x384x128_S1x384x128_0_0_0 0 rfl) (readAt_blkK harg12 AF.v inb_S4x384x128_S1x384x128_1_0_0 1 rfl) (readAt_blkK harg12 AF.v inb_S4x384x128_S1x384x128_2_0_0 2 rfl) (readAt_blkK harg12 AF.v inb_S4x384x128_S1x384x128_3_0_0 3 rfl))
  have e10 := fun AF : Acc F => writes_four_R (Val := Elt F) harg10 f10 (gateRow AF) inb_S4x1x1x384_S1x1x1x384_0_0_0_0 inb_S4x1x1x384_S1x1x1x384_1_0_0_0 inb_S4x1x1x384_S1x1x1x384_2_0_0_0 inb_S4x1x1x384_S1x1x1x384_3_0_0_0
    (gate0_of (readAt_blkK harg11 AF.k inb_S4x384x128_S1x384x128_0_0_0 0 rfl)) (gate1_of (readAt_blkK harg11 AF.k inb_S4x384x128_S1x384x128_1_0_0 1 rfl)) (gate2_of (readAt_blkK harg11 AF.k inb_S4x384x128_S1x384x128_2_0_0 2 rfl)) (gate3_of (readAt_blkK harg11 AF.k inb_S4x384x128_S1x384x128_3_0_0 3 rfl))
  unfold out8 out10
  rw [← e8 (lastAcc I (i 1).val Cc Cq), ← e10 (lastAcc I (i 1).val Cc Cq)]
  unfold lastAcc
  sl_step
  isplitl [H2]; · iexact H2
  isplitl [H3]; · iexact H3
  isplitl [H4]; · iexact H4
  isplitl [H5]; · iexact H5
  isplitl [H6]; · iexact H6
  isplitl [H9]; · iexact H9
  isplitl [H11]; · iexact H11
  isplitl [H12]; · iexact H12
  isplitl [H13]; · iexact H13
  isplitl [H8]; · iexact H8
  iexact H10

end

end Cert.KernelIdeal.Hand

end
-- ==== Proof.Owns.lean ====
/- A grid point's body over memrefs owned whole. -/
module

public import proofs.«01_k».proof.Proof.Body
public import Idealize.ShloMosaic.Lib.Pipeline.Kit
public import Idealize.ShloMosaic.Lib.Pipeline.FrameBody

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen

variable {F : FTy → Type} [FloatOps F]

local notation "𝕄G" => MT nD τ sig Unit (Elt F) ℕ (UR sig nD τ) ℕ

/-- A key tile's accumulators do not read what the head group before it left. -/
theorem lastAcc_fresh (I : Inp F) (Cc Cc' : S4x11x1x384.Idx → Elt F .f32) (Cq Cq' : S4x11x128x384.Idx → Elt F .f32) :
    lastAcc I 0 Cc Cq = lastAcc I 0 Cc' Cq' := rfl

/-- A grid point's body over memrefs owned whole. -/
theorem body_owns (𝒱 : Variants) (c : Dev nD) (bd : Option 𝒱.V) (E : Set ℕ) (i : grid0.Coords) (arg2 : Memref sig .tc .vmem S4x4224x128 .bf16) (harg2 : arg2.IsWhole) (arg3 : Memref sig .tc .vmem S4x384x128 .bf16) (harg3 : arg3.IsWhole) (arg4 : Memref sig .tc .vmem S4x384x128 .bf16) (harg4 : arg4.IsWhole) (arg5 : Memref sig .tc .vmem S4x4224x128 .bf16) (harg5 : arg5.IsWhole) (arg6 : Memref sig .tc .vmem S4x11x1x384 .f32) (harg6 : arg6.IsWhole) (arg7 : Memref sig .tc .hbm S4224x2304 .bf16) (harg7 : arg7.IsWhole) (arg8 : Memref sig .tc .vmem S384x768 .bf16) (harg8 : arg8.IsWhole) (arg9 : Memref sig .tc .vmem S4x11x1x384 .f32) (harg9 : arg9.IsWhole) (arg10 : Memref sig .tc .vmem S4x1x1x384 .f32) (harg10 : arg10.IsWhole) (arg11 : Memref sig .tc .vmem S4x384x128 .f32) (harg11 : arg11.IsWhole) (arg12 : Memref sig .tc .vmem S4x384x128 .f32) (harg12 : arg12.IsWhole) (arg13 : Memref sig .tc .vmem S4x11x128x384 .f32) (harg13 : arg13.IsWhole)
   (I : Inp F) (Cc : S4x11x1x384.Idx → Elt F .f32) (Cq : S4x11x128x384.Idx → Elt F .f32) :
   (iprop(owns (c : Thread nD τ) arg2 fullShare I.Q
     ∗ owns (c : Thread nD τ) arg3 fullShare I.K
     ∗ owns (c : Thread nD τ) arg4 fullShare I.V
     ∗ owns (c : Thread nD τ) arg5 fullShare I.D
     ∗ owns (c : Thread nD τ) arg6 fullShare I.L
     ∗ (∃ X, owns (c : Thread nD τ) arg8 fullShare X)
     ∗ owns (c : Thread nD τ) arg9 fullShare Cc
     ∗ (∃ X, owns (c : Thread nD τ) arg10 fullShare X)
     ∗ (∃ X, owns (c : Thread nD τ) arg11 fullShare X)
     ∗ (∃ X, owns (c : Thread nD τ) arg12 fullShare X)
     ∗ owns (c : Thread nD τ) arg13 fullShare Cq) : sProp 𝕄G)
   ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13)
     (fun _ => iprop(owns (c : Thread nD τ) arg2 fullShare I.Q
     ∗ owns (c : Thread nD τ) arg3 fullShare I.K
     ∗ owns (c : Thread nD τ) arg4 fullShare I.V
     ∗ owns (c : Thread nD τ) arg5 fullShare I.D
     ∗ owns (c : Thread nD τ) arg6 fullShare I.L
     ∗ owns (c : Thread nD τ) arg8 fullShare (out8 (i 1).val (lastAcc I (i 1).val Cc Cq))
     ∗ owns (c : Thread nD τ) arg9 fullShare (lastAcc I (i 1).val Cc Cq).c
     ∗ owns (c : Thread nD τ) arg10 fullShare (out10 (lastAcc I (i 1).val Cc Cq))
     ∗ (∃ X, owns (c : Thread nD τ) arg11 fullShare X)
     ∗ (∃ X, owns (c : Thread nD τ) arg12 fullShare X)
     ∗ owns (c : Thread nD τ) arg13 fullShare (lastAcc I (i 1).val Cc Cq).q)) := by
  unfold owns
  iintro ⟨⟨%f2, %e2, H2⟩, ⟨%f3, %e3, H3⟩, ⟨%f4, %e4, H4⟩, ⟨%f5, %e5, H5⟩, ⟨%f6, %e6, H6⟩, ⟨%X8, %f8, %e8, H8⟩, ⟨%f9, %e9, H9⟩, ⟨%X10, %f10, %e10, H10⟩, ⟨%X11, %f11, %e11, H11⟩, ⟨%X12, %f12, %e12, H12⟩, ⟨%f13, %e13, H13⟩⟩
  obtain rfl := harg2.eq_unread e2
  obtain rfl := harg3.eq_unread e3
  obtain rfl := harg4.eq_unread e4
  obtain rfl := harg5.eq_unread e5
  obtain rfl := harg6.eq_unread e6
  obtain rfl := harg9.eq_unread e9
  obtain rfl := harg13.eq_unread e13
  iapply (wp_wand_r frame (wpE (defs₀ (F := F)) 𝒱 (c : Thread nD τ) bd) E)
  isplitl [H2 H3 H4 H5 H6 H8 H9 H10 H11 H12 H13]
  · iapply (body_run 𝒱 c bd E i arg2 harg2 arg3 harg3 arg4 harg4 arg5 harg5 arg6 harg6 arg7 harg7 arg8 harg8 arg9 harg9 arg10 harg10 arg11 harg11 arg12 harg12 arg13 harg13 I Cc Cq f8 f10 f11 f12)
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    isplitl [H12]; · iexact H12
    iexact H13
  iintro %_ ⟨H2, H3, H4, H5, H6, H9, H11, H12, H13, H8, H10⟩
  isplitl [H2]
  · iexists _; isplitr [H2]; · ipureintro; exact harg2.read_unread _
    iexact H2
  isplitl [H3]
  · iexists _; isplitr [H3]; · ipureintro; exact harg3.read_unread _
    iexact H3
  isplitl [H4]
  · iexists _; isplitr [H4]; · ipureintro; exact harg4.read_unread _
    iexact H4
  isplitl [H5]
  · iexists _; isplitr [H5]; · ipureintro; exact harg5.read_unread _
    iexact H5
  isplitl [H6]
  · iexists _; isplitr [H6]; · ipureintro; exact harg6.read_unread _
    iexact H6
  isplitl [H8]
  · iexists _; isplitr [H8]; · ipureintro; exact harg8.read_unread _
    iexact H8
  isplitl [H9]
  · iexists _; isplitr [H9]; · ipureintro; exact harg9.read_unread _
    iexact H9
  isplitl [H10]
  · iexists _; isplitr [H10]; · ipureintro; exact harg10.read_unread _
    iexact H10
  isplitl [H11]
  · iexists (lastAcc I (i 1).val Cc Cq).k; iexists _; isplitr [H11]; · ipureintro; exact harg11.read_unread _
    iexact H11
  isplitl [H12]
  · iexists (lastAcc I (i 1).val Cc Cq).v; iexists _; isplitr [H12]; · ipureintro; exact harg12.read_unread _
    iexact H12
  iexists _; isplitr [H13]; · ipureintro; exact harg13.read_unread _
  iexact H13

end Cert.KernelIdeal.Hand
end
-- ==== Proof.Run.lean ====
/- The run of the whole launch: every grid point's accumulators by recursion over the points, the contents each
   block is left with, and the frame the pipeline hands back. -/
module

public import proofs.«01_k».proof.Proof.Owns
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.Kit
public import Idealize.ShloMosaic.Lib.Pipeline.FrameBody

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen

variable {F : FTy → Type} [FloatOps F]

local notation "𝕄G" => MT nD τ sig Unit (Elt F) ℕ (UR sig nD τ) ℕ

section
variable (m : (ℓ : Loc nD τ sig) → Buf (Elt F) ℓ) (ρ : Dev nD → PrngReg)

/-- What a grid point loads: its head group's blocks. -/
def inpAt (c : Dev nD) (t : Fin cfg0.N) : Inp F where
  Q := iblk m c 0 t
  K := iblk m c 1 t
  V := iblk m c 2 t
  D := iblk m c 3 t
  L := iblk m c 4 t

/-- The same at a number, the first point's where the number is no point. -/
def inpOf (c : Dev nD) (n : ℕ) : Inp F := if h : n < cfg0.N then inpAt m c ⟨n, h⟩ else inpAt m c ⟨0, by decide⟩

/-- The accumulators before point `n`. -/
def runAcc (c : Dev nD) : ℕ → Acc F
  | 0 => startAcc 0 k0_pay121 k0_pay120
  | n + 1 => lastAcc (inpOf m c n) (n % 11) (runAcc c n).c (runAcc c n).q

/-- What is known of the buffers kept between points: the query gradient's, except before a head group starts. -/
def PhiS (c : Dev nD) (n : ℕ) : sProp 𝕄G :=
  iprop((∃ X, owns (c : Thread nD τ) (Memref.whole cc0_scratch0) fullShare X)
    ∗ (∃ X, owns (c : Thread nD τ) (Memref.whole cc0_scratch1) fullShare X)
    ∗ (∃ X, ⌜n % 11 ≠ 0 → X = (runAcc m c n).q⌝ ∗ owns (c : Thread nD τ) (Memref.whole cc0_scratch2) fullShare X)
    ∗ ∃ r, prngReg c r)

/-- What each block holds after each point. -/
def afterAt (c : Dev nD) : (w : Fin cfg0.W) → (t : Fin cfg0.N) → (cfg0.win w).block.Idx → Elt F (cfg0.win w).elt
  | 0, t => iblk m c 0 t
  | 1, t => iblk m c 1 t
  | 2, t => iblk m c 2 t
  | 3, t => iblk m c 3 t
  | 4, t => iblk m c 4 t
  | 5, t => out8 (t.val % 11) (runAcc m c (t.val + 1))
  | 6, t => (runAcc m c (t.val + 1)).c
  | 7, t => out10 (runAcc m c (t.val + 1))

/-- The proof data of the launch. -/
def dats : (p : Fin 1) → (c : Dev nD) → Dat τ (Elt F) Unit ℕ (UR sig nD τ) ℕ (cfgs p) c := fun p => match p with
  | 0 => fun c =>
    { A := fun w => V m c (Pipeline.arrRef spec0 w)
      after := afterAt m c
      Φ := fun t => PhiS m c t.val
      q := fun _ => fullShare
      owed := fun _ => 0 }

theorem defs₀_row (t : Fin cfg0.N) : defs₀ (F := F) .tc cfg0.body (cfg0.bodyArgs t (cfg0.slots t)) = Gen.bodyAt0 t := by
  unfold defs₀; rw [Defs.onTc_tc]

theorem coord1 : ∀ t : Fin cfg0.N, ((grid0.coords t) 1).val = t.val % 11 := by
  intro t
  exact (by decide +kernel : ∀ t : Fin grid0.N, ((grid0.coords t) 1).val = t.val % 11) t
theorem coord0 : ∀ t : Fin cfg0.N, ((grid0.coords t) 0).val = t.val / 11 := by
  intro t
  exact (by decide +kernel : ∀ t : Fin grid0.N, ((grid0.coords t) 0).val = t.val / 11) t

theorem runAcc_step (c : Dev nD) (t : Fin cfg0.N) (Cc : S4x11x1x384.Idx → Elt F .f32) (Cq : S4x11x128x384.Idx → Elt F .f32)
    (hc : t.val % 11 ≠ 0 → Cc = (runAcc m c t.val).c) (hq : t.val % 11 ≠ 0 → Cq = (runAcc m c t.val).q) :
    lastAcc (inpAt m c t) (t.val % 11) Cc Cq = runAcc m c (t.val + 1) := by
  have e : inpOf m c t.val = inpAt m c t := dif_pos t.isLt
  show _ = lastAcc (inpOf m c t.val) (t.val % 11) (runAcc m c t.val).c (runAcc m c t.val).q
  rw [e]
  by_cases h : t.val % 11 = 0
  · rw [h]; exact lastAcc_fresh _ _ _ _ _
  · rw [hc h, hq h]

theorem before6 (c : Dev nD) (t : Fin cfg0.N) (d) (h : t.val % 11 ≠ 0) : (dats m 0 c).before 6 t d = (runAcc m c t.val).c := by
  have h0 : t.val ≠ 0 := fun e => h (by rw [e])
  have hfl : (cfg0.win 6).flush ⟨t.val - 1, Nat.lt_of_le_of_lt (Nat.sub_le _ _) t.isLt⟩ = false := by
    rw [← Bool.not_eq_true, flush0_6]
    show ¬ (t.val - 1) % 11 = 10
    omega
  refine ((dats m 0 c).before_out_kept 6 rfl t h0 hfl (fun _ => rfl) (fun _ _ => rfl) d).trans ?_
  show (runAcc m c (t.val - 1 + 1)).c = _
  rw [Nat.sub_add_cancel (Nat.pos_of_ne_zero h0)]

theorem body_obligation (𝒱₀ : Variants) (c : Dev nD) : BodyObligationLoose (dats m 0 c) (defs₀ (F := F)) 𝒱₀ () Set.univ := by
  intro t
  rw [Gen.bigSep_W0, Gen.bigSep_W0, defs₀_row]
  have hs : iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
      ⊢ wp frame (wpE (defs₀ (F := F)) 𝒱₀ (c : Thread nD τ) none) Set.univ (bodyAt0 t) fun _ =>
        iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t)
      ∗ owns (c : Thread nD τ) (st0_7 t) fullShare ((dats m 0 c).after 7 t)) := by
    rw [show (dats m 0 c).Φ t.castSucc = PhiS m c t.val from rfl, show (dats m 0 c).Φ t.succ = PhiS m c (t.val + 1) from rfl,
      show (dats m 0 c).owesAt () t.succ = (dats m 0 c).owesAt () t.castSucc from rfl]
    unfold PhiS
    iintro ⟨⟨S0, S1, ⟨%X, %hX, S2⟩, P⟩, O, ⟨%d0, H0⟩, ⟨%d1, H1⟩, ⟨%d2, H2⟩, ⟨%d3, H3⟩, ⟨%d4, H4⟩, ⟨%d5, H5⟩, ⟨%d6, H6⟩, ⟨%d7, H7⟩⟩
    have e0 : (dats m 0 c).before 0 t d0 = (inpAt m c t).Q := before0_0_of m (dats m 0 c) rfl (fun _ => rfl) t d0
    have e1 : (dats m 0 c).before 1 t d1 = (inpAt m c t).K := before0_1_of m (dats m 0 c) rfl (fun _ => rfl) t d1
    have e2 : (dats m 0 c).before 2 t d2 = (inpAt m c t).V := before0_2_of m (dats m 0 c) rfl (fun _ => rfl) t d2
    have e3 : (dats m 0 c).before 3 t d3 = (inpAt m c t).D := before0_3_of m (dats m 0 c) rfl (fun _ => rfl) t d3
    have e4 : (dats m 0 c).before 4 t d4 = (inpAt m c t).L := before0_4_of m (dats m 0 c) rfl (fun _ => rfl) t d4
    rw [e0, e1, e2, e3, e4]
    have es : lastAcc (inpAt m c t) ((grid0.coords t) 1).val ((dats m 0 c).before 6 t d6) X = runAcc m c (t.val + 1) := by
      rw [coord1]; exact runAcc_step m c t _ _ (fun h => before6 m c t d6 h) hX
    iapply (wp_wand_r frame (wpE (defs₀ (F := F)) 𝒱₀ (c : Thread nD τ) none) Set.univ)
    isplitl [S0 S1 S2 H0 H1 H2 H3 H4 H5 H6 H7]
    · iapply (body_owns 𝒱₀ c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_arg5) (Memref.isWhole_whole _) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _)
        (inpAt m c t) ((dats m 0 c).before 6 t d6) X)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      isplitl [S0]; · iexact S0
      isplitl [S1]; · iexact S1
      iexact S2
    iintro %_ ⟨H0, H1, H2, H3, H4, H5, H6, H7, S0, S1, S2⟩
    rw [es, coord1]
    isplitl [S0 S1 S2 P]
    · isplitl [S0]; · iexact S0
      isplitl [S1]; · iexact S1
      isplitl [S2]
      · iexists _
        isplitr [S2]; · ipureintro; exact fun _ => rfl
        iexact S2
      iexact P
    isplitl [O]; · iexact O
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  exact triple_restated hs rfl .rfl fun _ => .rfl

theorem phi_in (c : Dev nD) : Pipeline.ΦA spec0 c ⊢ (PhiS m c 0 : sProp 𝕄G) := by
  unfold Pipeline.ΦA PhiS
  rw [scopedRest0_eq]
  simp only [owns_whole]
  iintro ⟨⟨⟨%f0, H0⟩, ⟨%f1, H1⟩, ⟨%f2, H2⟩⟩, P⟩
  isplitl [H0]; · iexists f0; iexact H0
  isplitl [H1]; · iexists f1; iexact H1
  isplitl [H2]
  · iexists f2
    isplitr [H2]; · ipureintro; exact fun h => absurd rfl h
    iexact H2
  iexact P

theorem phi_out (c : Dev nD) (n : ℕ) : (PhiS m c n : sProp 𝕄G) ⊢ Pipeline.ΦA spec0 c := by
  unfold Pipeline.ΦA PhiS
  rw [scopedRest0_eq]
  simp only [owns_whole]
  iintro ⟨⟨%f0, H0⟩, ⟨%f1, H1⟩, ⟨%f2, %_, H2⟩, P⟩
  isplitl [H0 H1 H2]
  · isplitl [H0]; · iexists f0; iexact H0
    isplitl [H1]; · iexists f1; iexact H1
    iexists f2; iexact H2
  iexact P

theorem share_full (c : Dev nD) (w : Fin cfg0.W) : (dats m 0 c).share w = fullShare := by
  unfold Dat.share
  split <;> rfl

/-- The launch runs, leaves every array as the proof data say, and every counter at zero. -/
theorem run_main : θ_run defs (onTc (τ := τ) (main (F := F))) (s₀ m ρ)
    (fun r => Pipeline.FramePost cfgs (dats m) 0 (V m) r ∧ r.2.sem = (fun _ => 0)) :=
  Pipeline.θ_run_frame_track cfgs (dats m) 0 Gen.launch0 defs₀ Variants.none m ρ main
    (hbody := fun c => body_obligation m Variants.none c) (hshare := fun c w => share_full m c w) (howed := fun _ _ => rfl)
    (V := V m) (hmain := Gen.hmain m Variants.none) (hA := fun _ _ => rfl) (hin := fun c => phi_in m c) (hout := fun c => phi_out m c _)
    (Q' := fun r => Pipeline.FramePost cfgs (dats m) 0 (V m) r ∧ r.2.sem = (fun _ => 0)) (hQ' := fun _ h => h)

end

end Cert.KernelIdeal.Hand
end
-- ==== Proof.Same0.lean ====
/- The program as printed and its idealization have one text: the host lines, part 0. -/
module

public import proofs.«01_k».proof.Proof.Gen.Kernel
public import proofs.«01_k».proof.Proof.Gen.KernelIdeal

@[expose] public section

namespace Cert.Same

open Idealize.ShloMosaic Idealize.SL.Sem

set_option maxHeartbeats 40000000 in
theorem main_part0_eq {F : FTy → Type} [FloatOps F] : Cert.Kernel.main_part0 (F := F) = Cert.KernelIdeal.main_part0 (F := F) := rfl

end Cert.Same

end
-- ==== Proof.Same1.lean ====
/- The program as printed and its idealization have one text: the host lines, part 1. -/
module

public import proofs.«01_k».proof.Proof.Gen.Kernel
public import proofs.«01_k».proof.Proof.Gen.KernelIdeal

@[expose] public section

namespace Cert.Same

open Idealize.ShloMosaic Idealize.SL.Sem

set_option maxHeartbeats 40000000 in
theorem main_part1_eq {F : FTy → Type} [FloatOps F] : Cert.Kernel.main_part1 (F := F) = Cert.KernelIdeal.main_part1 (F := F) := rfl

end Cert.Same

end
-- ==== Proof.Same2.lean ====
/- The program as printed and its idealization have one text: the host lines, part 2. -/
module

public import proofs.«01_k».proof.Proof.Gen.Kernel
public import proofs.«01_k».proof.Proof.Gen.KernelIdeal

@[expose] public section

namespace Cert.Same

open Idealize.ShloMosaic Idealize.SL.Sem

set_option maxHeartbeats 40000000 in
theorem main_part2_eq {F : FTy → Type} [FloatOps F] : Cert.Kernel.main_part2 (F := F) = Cert.KernelIdeal.main_part2 (F := F) := rfl

end Cert.Same

end
-- ==== Proof.Same.lean ====
/- The program as printed and its idealization have one text: the kernel's body and the host's lines. -/
module

public import proofs.«01_k».proof.Proof.Same0
public import proofs.«01_k».proof.Proof.Same1
public import proofs.«01_k».proof.Proof.Same2

@[expose] public section

namespace Cert.Same

open Idealize.ShloMosaic Idealize.SL.Sem

variable {F : FTy → Type} [FloatOps F]

theorem defs₀_eq : Cert.Kernel.defs₀ (F := F) = Cert.KernelIdeal.defs₀ (F := F) := by
  unfold Cert.Kernel.defs₀ Cert.KernelIdeal.defs₀
  refine congrArg Defs.onTc (funext fun l => ?_)
  match l with
  | 0 => exact funext fun p => rfl

theorem defs_eq : Cert.Kernel.defs (F := F) = Cert.KernelIdeal.defs (F := F) := by
  unfold Cert.Kernel.defs Cert.KernelIdeal.defs
  exact congrArg (Pipeline.defs Cert.KernelIdeal.pcfgs) defs₀_eq

theorem main_eq : Cert.Kernel.main (F := F) = Cert.KernelIdeal.main (F := F) := by
  unfold Cert.Kernel.main Cert.KernelIdeal.main
  rw [main_part0_eq, main_part1_eq, main_part2_eq]
  rfl

end Cert.Same

end
-- ==== Proof.Pay.lean ====
/- The kernel's arithmetic over the extended reals, read at an index. -/
module

public import proofs.«01_k».proof.Proof.Outs
public import Idealize.ShloMosaic.Lib.Pointwise
public import Idealize.ShloMosaic.Lib.WordCmp

@[expose] public section

noncomputable section

namespace Cert.KernelIdeal.Hand

open Idealize.ShloMosaic Idealize.SL.Sem
open Idealize.ShloMosaic.WordCmp
open Cert.KernelIdeal Cert.KernelIdeal.Gen

/-- A lane below the half, as the kernel's comparison decides it. -/
theorem sel_half {α : Type} (n : ℕ) (hn : n < 2147483648) (x y : α) :
    Scalar.select (IntOp.cmpi CmpIPredicate.slt (BitVec.ofNat 32 n) 64#32) x y = if n < 64 then x else y := by
  have h : IntOp.cmpi CmpIPredicate.slt (BitVec.ofNat 32 n) 64#32 = BitVec.ofBool (decide (n < 64)) := by
    rw [cmpi_slt_eq, toInt_ofNat_of_lt (by simpa using hn)]
    exact congrArg BitVec.ofBool (decide_eq_decide.2 (by rw [show (64#32).toInt = 64 from rfl]; omega))
  rw [h, select_decide]

/-- Which head a column of a band of four heads comes from. -/
theorem sel_four {α : Type} (f : Fin 4 → Fin 128 → α) (g : Fin 4) (d : Fin 64) :
    (if h : 64 * g.val + d.val < 128 then
        Scalar.select (IntOp.cmpi CmpIPredicate.slt (BitVec.ofNat 32 (64 * g.val + d.val)) 64#32)
          (f 0 ⟨64 * g.val + d.val, h⟩) (f 1 ⟨64 * g.val + d.val, h⟩)
      else
        Scalar.select (IntOp.cmpi CmpIPredicate.slt (BitVec.ofNat 32 (64 * g.val + d.val - 128)) 64#32)
          (f 2 ⟨64 * g.val + d.val - 128, by omega⟩) (f 3 ⟨64 * g.val + d.val - 128, by omega⟩))
      = f g ⟨64 * (g.val % 2) + d.val, by omega⟩ := by
  have hd := d.isLt
  simp only [sel_half (64 * g.val + d.val) (by omega), sel_half (64 * g.val + d.val - 128) (by omega)]
  match g with
  | 0 => rw [dif_pos (by simp; omega), if_pos (by simp)]; exact congrArg _ (Fin.ext (by simp))
  | 1 => rw [dif_pos (by simp; omega), if_neg (by simp)]; exact congrArg _ (Fin.ext (by simp))
  | 2 => rw [dif_neg (by simp), if_pos (by simp)]; exact congrArg _ (Fin.ext (by simp))
  | 3 => rw [dif_neg (by simp; omega), if_neg (by simp; omega)]; exact congrArg _ (Fin.ext (by simp; omega))

/-- The scale's word is one eighth. -/
theorem eighth : Ideal.ofBits FTy.f32 1040187392#32 = ((1 / 8 : ℝ) : EReal) := by
  simp [Ideal.ofBits, Ideal.ieee]
  rw [← EReal.coe_mul]
  norm_num

theorem tS_apply (q k : Vec Ideal S1x384x128 .bf16) (b a : Fin 384) :
    tS q k (ix2 b a) = ∑ l : Fin 128, k (ix3 0 b l) * q (ix3 0 a l) := by
  pointwise [k0_pay10, k0_pay2, dot_S384x128_S384x128_S384x384_1_1_0_0_n_n]

theorem tDp_apply (d v : Vec Ideal S1x384x128 .bf16) (b a : Fin 384) :
    tDp d v (ix2 b a) = ∑ l : Fin 128, v (ix3 0 b l) * d (ix3 0 a l) := by
  pointwise [k0_pay14, k0_pay2, dot_S384x128_S384x128_S384x384_1_1_0_0_n_n]

theorem tP_apply (q k : Vec Ideal S1x384x128 .bf16) (l : Vec Ideal S1x1x1x384 .f32) (b a : Fin 384) :
    tP q k l (ix2 b a) = Ideal.exp (tS q k (ix2 b a) - l (ix4 0 0 0 a)) := by
  pointwise [k0_pay18]

theorem tPd_apply (q k : Vec Ideal S1x384x128 .bf16) (l : Vec Ideal S1x1x1x384 .f32) (b a : Fin 384) :
    tPd q k l (ix2 b a) = if b ≤ a then Ideal.exp (tS q k (ix2 b a) - l (ix4 0 0 0 a)) else 0 := by
  pointwise [k0_pay140]
  have h : IntOp.cmpi CmpIPredicate.sge (BitVec.ofNat 32 a.val) (BitVec.ofNat 32 b.val) = BitVec.ofBool (decide (b ≤ a)) := by
    have ha := a.isLt
    have hb := b.isLt
    rw [cmpi_sge_eq, toInt_ofNat_of_lt (by omega), toInt_ofNat_of_lt (by omega)]
    exact congrArg BitVec.ofBool (decide_eq_decide.2 (by rw [Fin.le_def]; omega))
  rw [h, select_decide]

theorem tDs_apply (dp p : FVec Ideal S384x384 .f32) (b a : Fin 384) :
    tDs dp p (ix2 b a) = p (ix2 b a) * dp (ix2 b a) := by
  pointwise [k0_pay22]

theorem aDv_apply (d : Vec Ideal S1x384x128 .bf16) (p : FVec Ideal S384x384 .f32) (a : Vec Ideal S1x384x128 .f32) (b : Fin 384) (l : Fin 128) :
    aDv d p a (ix3 0 b l) = a (ix3 0 b l) + ∑ r : Fin 384, p (ix2 b r) * d (ix3 0 r l) := by
  pointwise [k0_pay38, k0_pay26, k0_pay2, dot_S384x384_S384x128_S384x128_1_0_0_1_n_n]

theorem aDk_apply (q : Vec Ideal S1x384x128 .bf16) (dp p : FVec Ideal S384x384 .f32) (a : Vec Ideal S1x384x128 .f32) (b : Fin 384) (l : Fin 128) :
    aDk q dp p a (ix3 0 b l) = a (ix3 0 b l) + ∑ r : Fin 384, tDs dp p (ix2 b r) * q (ix3 0 r l) := by
  pointwise [k0_pay39, k0_pay30, k0_pay2, dot_S384x384_S384x128_S384x128_1_0_0_1_n_n]

theorem aDq_apply (k : Vec Ideal S1x384x128 .bf16) (dp p : FVec Ideal S384x384 .f32) (a : Vec Ideal S1x1x128x384 .f32) (l : Fin 128) (r : Fin 384) :
    aDq k dp p a (ix4 0 0 l r) = a (ix4 0 0 l r) + ∑ b : Fin 384, k (ix3 0 b l) * tDs dp p (ix2 b r) := by
  pointwise [k0_pay40, k0_pay34, dot_S384x128_S384x384_S128x384_0_0_1_1_n_n]

theorem aDc_apply (dp p : FVec Ideal S384x384 .f32) (a : Vec Ideal S1x1x1x384 .f32) (r : Fin 384) :
    aDc dp p a (ix4 0 0 0 r) = a (ix4 0 0 0 r) + ∑ b : Fin 384, tDs dp p (ix2 b r) := by
  pointwise [k0_pay43, k0_pay41, k0_pay42]

theorem selDq_apply (j : ℕ) (A : Acc Ideal) (r : Fin 384) (g : Fin 4) (d : Fin 64) :
    selDq j A (ix2 r ⟨64 * g.val + d.val, by omega⟩)
      = blkD A.q g j (ix4 0 0 ⟨64 * (g.val % 2) + d.val, by omega⟩ r) * ((1 / 8 : ℝ) : EReal) := by
  pointwise [selDq, k0_pay192, k0_pay187, k0_pay191]
  exact congrArg₂ (· * ·) (sel_four (fun g l => blkD A.q g j (ix4 0 0 l r)) g d) eighth

theorem selDk_apply (A : Acc Ideal) (r : Fin 384) (g : Fin 4) (d : Fin 64) :
    selDk A (ix2 r ⟨64 * g.val + d.val, by omega⟩) = blkK A.k g (ix3 0 r ⟨64 * (g.val % 2) + d.val, by omega⟩) := by
  pointwise [selDk, k0_pay193, k0_pay183]
  exact sel_four (fun g l => blkK A.k g (ix3 0 r l)) g d

theorem selDv_apply (A : Acc Ideal) (r : Fin 384) (g : Fin 4) (d : Fin 64) :
    selDv A (ix2 r ⟨64 * g.val + d.val, by omega⟩) = blkK A.v g (ix3 0 r ⟨64 * (g.val % 2) + d.val, by omega⟩) := by
  pointwise [selDv, k0_pay194, k0_pay195]
  exact sel_four (fun g l => blkK A.v g (ix3 0 r l)) g d

theorem gateRow_apply (A : Acc Ideal) (g : Fin 4) (r : Fin 384) :
    gateRow A g (ix4 0 0 0 r) = - blkK A.k g (ix3 0 r ⟨64 * (1 - g.val % 2), by omega⟩) := by
  match g with
  | 0 => pointwise [gateRow, k0_pay196, k0_pay183]; exact zero_sub _
  | 1 => pointwise [gateRow, k0_pay197, k0_pay183]; exact zero_sub _
  | 2 => pointwise [gateRow, k0_pay196, k0_pay183]; exact zero_sub _
  | 3 => pointwise [gateRow, k0_pay197, k0_pay183]; exact zero_sub _

end Cert.KernelIdeal.Hand

end
-- ==== Proof.HostA.lean ====
/- The host lines before the kernel, the first half: what each operation's result is, as a function of the arguments,
   and what it reads at an index. -/
module

public import proofs.«01_k».proof.Proof.Gen.KernelIdeal
public import Idealize.ShloMosaic.Lib.Pipeline.Value
public import Idealize.ShloMosaic.Lib.ValueIdx
public import Idealize.ShloMosaic.PureOps.Ideal.Laws

@[expose] public section

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

-- %0 = stablehlo.iota dim = 0 : tensor<4112xi32>
def val_main_v0 : (⟨S4112, .i32⟩ : BufTy).Contents (Elt F) :=
  iotaInDim S4112 32 0
theorem val_main_v0_apply (i : S4112.Idx) :
    val_main_v0 (F := F) i = BitVec.ofNat 32 (i 0).val := rfl

-- %1 = stablehlo.dot_general %arg0, %arg1, batching_dims = [1] x [1], contracting_dims = [2] x [2], precision = [DEFAULT, DEFAULT] : (tensor<4112x8x64xf32>, tensor<4112x8x64xf32>) -> tensor<8x4112x4112xf32>
def val_main_v1 (x0 x1 : (⟨S4112x8x64, .f32⟩ : BufTy).Contents (Elt F)) : (⟨S8x4112x4112, .f32⟩ : BufTy).Contents (Elt F) :=
  Host.dotGeneral dot_S4112x8x64_S4112x8x64_S8x4112x4112_2_2_0_0_1_1 none (x0) (x1)
theorem lhs_main_v1_0 (i : S8x4112x4112.Idx) (q : dot_S4112x8x64_S4112x8x64_S8x4112x4112_2_2_0_0_1_1.contr.Idx) :
    (dot_S4112x8x64_S4112x8x64_S8x4112x4112_2_2_0_0_1_1.lhsIdx i q 0).val = (i 1).val := by
  unfold DotDims.lhsIdx
  rw [dif_neg (show ¬(0 : Fin S4112x8x64.rank) ∈ dot_S4112x8x64_S4112x8x64_S8x4112x4112_2_2_0_0_1_1.lhsBatch by decide), dif_pos (show (0 : Fin S4112x8x64.rank) ∈ dot_S4112x8x64_S4112x8x64_S8x4112x4112_2_2_0_0_1_1.lhsNonContracting by decide)]
  rfl
theorem lhs_main_v1_1 (i : S8x4112x4112.Idx) (q : dot_S4112x8x64_S4112x8x64_S8x4112x4112_2_2_0_0_1_1.contr.Idx) :
    (dot_S4112x8x64_S4112x8x64_S8x4112x4112_2_2_0_0_1_1.lhsIdx i q 1).val = (i 0).val := by
  unfold DotDims.lhsIdx
  rw [dif_pos (show (1 : Fin S4112x8x64.rank) ∈ dot_S4112x8x64_S4112x8x64_S8x4112x4112_2_2_0_0_1_1.lhsBatch by decide)]
  rfl
theorem lhs_main_v1_2 (i : S8x4112x4112.Idx) (q : dot_S4112x8x64_S4112x8x64_S8x4112x4112_2_2_0_0_1_1.contr.Idx) :
    (dot_S4112x8x64_S4112x8x64_S8x4112x4112_2_2_0_0_1_1.lhsIdx i q 2).val = (q ⟨0, by decide⟩).val :=
  dot_S4112x8x64_S4112x8x64_S8x4112x4112_2_2_0_0_1_1.lhsIdx_val_of_single rfl i q
theorem rhs_main_v1_0 (i : S8x4112x4112.Idx) (q : dot_S4112x8x64_S4112x8x64_S8x4112x4112_2_2_0_0_1_1.contr.Idx) :
    (dot_S4112x8x64_S4112x8x64_S8x4112x4112_2_2_0_0_1_1.rhsIdx i q 0).val = (i 2).val := by
  unfold DotDims.rhsIdx
  rw [dif_neg (show ¬(0 : Fin S4112x8x64.rank) ∈ dot_S4112x8x64_S4112x8x64_S8x4112x4112_2_2_0_0_1_1.rhsBatch by decide), dif_pos (show (0 : Fin S4112x8x64.rank) ∈ dot_S4112x8x64_S4112x8x64_S8x4112x4112_2_2_0_0_1_1.rhsNonContracting by decide)]
  rfl
theorem rhs_main_v1_1 (i : S8x4112x4112.Idx) (q : dot_S4112x8x64_S4112x8x64_S8x4112x4112_2_2_0_0_1_1.contr.Idx) :
    (dot_S4112x8x64_S4112x8x64_S8x4112x4112_2_2_0_0_1_1.rhsIdx i q 1).val = (i 0).val := by
  unfold DotDims.rhsIdx
  rw [dif_pos (show (1 : Fin S4112x8x64.rank) ∈ dot_S4112x8x64_S4112x8x64_S8x4112x4112_2_2_0_0_1_1.rhsBatch by decide)]
  rfl
theorem rhs_main_v1_2 (i : S8x4112x4112.Idx) (q : dot_S4112x8x64_S4112x8x64_S8x4112x4112_2_2_0_0_1_1.contr.Idx) :
    (dot_S4112x8x64_S4112x8x64_S8x4112x4112_2_2_0_0_1_1.rhsIdx i q 2).val = (q ⟨0, by decide⟩).val :=
  dot_S4112x8x64_S4112x8x64_S8x4112x4112_2_2_0_0_1_1.rhsIdx_val_of_single rfl i q
abbrev lidx_main_v1 (i : S8x4112x4112.Idx) (k : Fin 64) : S4112x8x64.Idx := fun a => match a with
  | ⟨0, _⟩ => ⟨(i 1).val, (i 1).isLt⟩
  | ⟨1, _⟩ => ⟨(i 0).val, (i 0).isLt⟩
  | ⟨2, _⟩ => ⟨k.val, k.isLt⟩
abbrev ridx_main_v1 (i : S8x4112x4112.Idx) (k : Fin 64) : S4112x8x64.Idx := fun a => match a with
  | ⟨0, _⟩ => ⟨(i 2).val, (i 2).isLt⟩
  | ⟨1, _⟩ => ⟨(i 0).val, (i 0).isLt⟩
  | ⟨2, _⟩ => ⟨k.val, k.isLt⟩
/-- Stated at `F := Ideal`, where the host's `dot_general` is this sum; at a bit-exact instance it is an opaque function of its operands. -/
theorem val_main_v1_apply (x0 x1 : (⟨S4112x8x64, .f32⟩ : BufTy).Contents (Elt Ideal)) (i : S8x4112x4112.Idx) :
    val_main_v1 (F := Ideal) x0 x1 i = ∑ k : Fin 64, x0 (lidx_main_v1 i k) * x1 (ridx_main_v1 i k) := by
  unfold val_main_v1
  simp only [Host.dotGeneral]
  rw [Ideal.dotGeneral_apply, ← Equiv.sum_comp (ValueIdx.contrEquiv1 dot_S4112x8x64_S4112x8x64_S8x4112x4112_2_2_0_0_1_1 64 rfl rfl).symm]
  refine Finset.sum_congr rfl fun k _ => ?_
  have hk := ValueIdx.contrEquiv1_symm_val dot_S4112x8x64_S4112x8x64_S8x4112x4112_2_2_0_0_1_1 64 rfl rfl k
  have el : dot_S4112x8x64_S4112x8x64_S8x4112x4112_2_2_0_0_1_1.lhsIdx i ((ValueIdx.contrEquiv1 dot_S4112x8x64_S4112x8x64_S8x4112x4112_2_2_0_0_1_1 64 rfl rfl).symm k) = lidx_main_v1 i k := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S4112x8x64_S4112x8x64_S8x4112x4112_2_2_0_0_1_1.rhsIdx i ((ValueIdx.contrEquiv1 dot_S4112x8x64_S4112x8x64_S8x4112x4112_2_2_0_0_1_1 64 rfl rfl).symm k) = ridx_main_v1 i k := funext fun a => Fin.ext (by
    match a with
    | ⟨0, _⟩ => exact rhs_main_v1_0 _ _
    | ⟨1, _⟩ => exact rhs_main_v1_1 _ _
    | ⟨2, _⟩ => exact (rhs_main_v1_2 _ _).trans hk)
  rw [el, er]

-- %cst = stablehlo.constant dense<1.250000e-01> : tensor<f32>
def val_main_cst : (⟨S_, .f32⟩ : BufTy).Contents (Elt F) :=
  constant S_ .f32 0x3E000000#32
theorem val_main_cst_apply (i : S_.Idx) :
    val_main_cst (F := F) i = FloatOps.ofBits .f32 0x3E000000#32 := rfl

-- %2 = stablehlo.broadcast_in_dim %cst, dims = [] : (tensor<f32>) -> tensor<8x4112x4112xf32>
def val_main_v2 : (⟨S8x4112x4112, .f32⟩ : BufTy).Contents (Elt F) :=
  broadcastInDim S8x4112x4112 ![] bcast_S_S8x4112x4112 (val_main_cst (F := F))
abbrev idx_main_v2 (i : S8x4112x4112.Idx) : S_.Idx := fun a => a.elim0
theorem val_main_v2_apply (i : S8x4112x4112.Idx) :
    val_main_v2 (F := F) i = val_main_cst (F := F) (idx_main_v2 i) := by
  unfold val_main_v2
  generalize val_main_cst (F := F) = y
  exact broadcastInDim_apply _ bcast_S_S8x4112x4112 y i (idx_main_v2 i) (fun a => a.elim0)

-- %3 = stablehlo.multiply %1, %2 : tensor<8x4112x4112xf32>
def val_main_v3 (x0 x1 : (⟨S4112x8x64, .f32⟩ : BufTy).Contents (Elt F)) : (⟨S8x4112x4112, .f32⟩ : BufTy).Contents (Elt F) :=
  mulf (val_main_v1 (F := F) x0 x1) (val_main_v2 (F := F))
theorem val_main_v3_apply (x0 x1 : (⟨S4112x8x64, .f32⟩ : BufTy).Contents (Elt F)) (i : S8x4112x4112.Idx) :
    val_main_v3 (F := F) x0 x1 i = FloatOps.mulf (val_main_v1 (F := F) x0 x1 i) (val_main_v2 (F := F) i) := rfl

-- %4 = stablehlo.broadcast_in_dim %arg3, dims = [0, 1] : (tensor<8x4112xf32>) -> tensor<8x4112x1xf32>
def val_main_v4 (x3 : (⟨S8x4112, .f32⟩ : BufTy).Contents (Elt F)) : (⟨S8x4112x1, .f32⟩ : BufTy).Contents (Elt F) :=
  broadcastInDim S8x4112x1 ![0, 1] bcast_S8x4112_S8x4112x1_0_1 (x3)
abbrev idx_main_v4 (i : S8x4112x1.Idx) : S8x4112.Idx := fun a => match a with
  | ⟨0, _⟩ => ⟨(i 0).val, (i 0).isLt⟩
  | ⟨1, _⟩ => ⟨(i 1).val, (i 1).isLt⟩
theorem val_main_v4_apply (x3 : (⟨S8x4112, .f32⟩ : BufTy).Contents (Elt F)) (i : S8x4112x1.Idx) :
    val_main_v4 (F := F) x3 i = x3 (idx_main_v4 i) := by
  unfold val_main_v4
  exact broadcastInDim_apply _ bcast_S8x4112_S8x4112x1_0_1 x3 i (idx_main_v4 i) (fun a => match a with
    | ⟨0, _⟩ => by show (i 0).val = if (8 : Nat) = 1 then 0 else (i 0).val; rw [if_neg (by decide)]
    | ⟨1, _⟩ => by show (i 1).val = if (4112 : Nat) = 1 then 0 else (i 1).val; rw [if_neg (by decide)])

-- %5 = stablehlo.broadcast_in_dim %4, dims = [0, 1, 2] : (tensor<8x4112x1xf32>) -> tensor<8x4112x4112xf32>
def val_main_v5 (x3 : (⟨S8x4112, .f32⟩ : BufTy).Contents (Elt F)) : (⟨S8x4112x4112, .f32⟩ : BufTy).Contents (Elt F) :=
  broadcastInDim S8x4112x4112 ![0, 1, 2] bcast_S8x4112x1_S8x4112x4112_0_1_2 (val_main_v4 (F := F) x3)
abbrev idx_main_v5 (i : S8x4112x4112.Idx) : S8x4112x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v5_apply (x3 : (⟨S8x4112, .f32⟩ : BufTy).Contents (Elt F)) (i : S8x4112x4112.Idx) :
    val_main_v5 (F := F) x3 i = val_main_v4 (F := F) x3 (idx_main_v5 i) := by
  unfold val_main_v5
  generalize val_main_v4 (F := F) x3 = y
  exact broadcastInDim_apply _ bcast_S8x4112x1_S8x4112x4112_0_1_2 y i (idx_main_v5 i) (fun a => match a with
    | ⟨0, _⟩ => by show (i 0).val = if (8 : Nat) = 1 then 0 else (i 0).val; rw [if_neg (by decide)]
    | ⟨1, _⟩ => by show (i 1).val = if (4112 : Nat) = 1 then 0 else (i 1).val; rw [if_neg (by decide)]
    | ⟨2, _⟩ => by show 0 = if (1 : Nat) = 1 then 0 else (i 2).val; rw [if_pos rfl])

-- %6 = stablehlo.add %3, %5 : tensor<8x4112x4112xf32>
def val_main_v6 (x0 x1 : (⟨S4112x8x64, .f32⟩ : BufTy).Contents (Elt F)) (x3 : (⟨S8x4112, .f32⟩ : BufTy).Contents (Elt F)) : (⟨S8x4112x4112, .f32⟩ : BufTy).Contents (Elt F) :=
  addf (val_main_v3 (F := F) x0 x1) (val_main_v5 (F := F) x3)
theorem val_main_v6_apply (x0 x1 : (⟨S4112x8x64, .f32⟩ : BufTy).Contents (Elt F)) (x3 : (⟨S8x4112, .f32⟩ : BufTy).Contents (Elt F)) (i : S8x4112x4112.Idx) :
    val_main_v6 (F := F) x0 x1 x3 i = FloatOps.addf (val_main_v3 (F := F) x0 x1 i) (val_main_v5 (F := F) x3 i) := rfl

-- %7 = stablehlo.broadcast_in_dim %arg3, dims = [0, 2] : (tensor<8x4112xf32>) -> tensor<8x1x4112xf32>
def val_main_v7 (x3 : (⟨S8x4112, .f32⟩ : BufTy).Contents (Elt F)) : (⟨S8x1x4112, .f32⟩ : BufTy).Contents (Elt F) :=
  broadcastInDim S8x1x4112 ![0, 2] bcast_S8x4112_S8x1x4112_0_2 (x3)
abbrev idx_main_v7 (i : S8x1x4112.Idx) : S8x4112.Idx := fun a => match a with
  | ⟨0, _⟩ => ⟨(i 0).val, (i 0).isLt⟩
  | ⟨1, _⟩ => ⟨(i 2).val, (i 2).isLt⟩
theorem val_main_v7_apply (x3 : (⟨S8x4112, .f32⟩ : BufTy).Contents (Elt F)) (i : S8x1x4112.Idx) :
    val_main_v7 (F := F) x3 i = x3 (idx_main_v7 i) := by
  unfold val_main_v7
  exact broadcastInDim_apply _ bcast_S8x4112_S8x1x4112_0_2 x3 i (idx_main_v7 i) (fun a => match a with
    | ⟨0, _⟩ => by show (i 0).val = if (8 : Nat) = 1 then 0 else (i 0).val; rw [if_neg (by decide)]
    | ⟨1, _⟩ => by show (i 2).val = if (4112 : Nat) = 1 then 0 else (i 2).val; rw [if_neg (by decide)])

-- %8 = stablehlo.broadcast_in_dim %7, dims = [0, 1, 2] : (tensor<8x1x4112xf32>) -> tensor<8x4112x4112xf32>
def val_main_v8 (x3 : (⟨S8x4112, .f32⟩ : BufTy).Contents (Elt F)) : (⟨S8x4112x4112, .f32⟩ : BufTy).Contents (Elt F) :=
  broadcastInDim S8x4112x4112 ![0, 1, 2] bcast_S8x1x4112_S8x4112x4112_0_1_2 (val_main_v7 (F := F) x3)
abbrev idx_main_v8 (i : S8x4112x4112.Idx) : S8x1x4112.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v8_apply (x3 : (⟨S8x4112, .f32⟩ : BufTy).Contents (Elt F)) (i : S8x4112x4112.Idx) :
    val_main_v8 (F := F) x3 i = val_main_v7 (F := F) x3 (idx_main_v8 i) := by
  unfold val_main_v8
  generalize val_main_v7 (F := F) x3 = y
  exact broadcastInDim_apply _ bcast_S8x1x4112_S8x4112x4112_0_1_2 y i (idx_main_v8 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (4112 : Nat) = 1 then 0 else (i 2).val; rw [if_neg (by decide)])

-- %9 = stablehlo.subtract %6, %8 : tensor<8x4112x4112xf32>
def val_main_v9 (x0 x1 : (⟨S4112x8x64, .f32⟩ : BufTy).Contents (Elt F)) (x3 : (⟨S8x4112, .f32⟩ : BufTy).Contents (Elt F)) : (⟨S8x4112x4112, .f32⟩ : BufTy).Contents (Elt F) :=
  subf (val_main_v6 (F := F) x0 x1 x3) (val_main_v8 (F := F) x3)
theorem val_main_v9_apply (x0 x1 : (⟨S4112x8x64, .f32⟩ : BufTy).Contents (Elt F)) (x3 : (⟨S8x4112, .f32⟩ : BufTy).Contents (Elt F)) (i : S8x4112x4112.Idx) :
    val_main_v9 (F := F) x0 x1 x3 i = FloatOps.subf (val_main_v6 (F := F) x0 x1 x3 i) (val_main_v8 (F := F) x3 i) := rfl

-- %10 = stablehlo.broadcast_in_dim %0, dims = [1] : (tensor<4112xi32>) -> tensor<1x4112xi32>
def val_main_v10 : (⟨S1x4112, .i32⟩ : BufTy).Contents (Elt F) :=
  broadcastInDim S1x4112 ![1] bcast_S4112_S1x4112_1 (val_main_v0 (F := F))
abbrev idx_main_v10 (i : S1x4112.Idx) : S4112.Idx := fun a => match a with
  | ⟨0, _⟩ => ⟨(i 1).val, (i 1).isLt⟩
theorem val_main_v10_apply (i : S1x4112.Idx) :
    val_main_v10 (F := F) i = val_main_v0 (F := F) (idx_main_v10 i) := by
  unfold val_main_v10
  generalize val_main_v0 (F := F) = y
  exact broadcastInDim_apply _ bcast_S4112_S1x4112_1 y i (idx_main_v10 i) (fun a => match a with
    | ⟨0, _⟩ => by show (i 1).val = if (4112 : Nat) = 1 then 0 else (i 1).val; rw [if_neg (by decide)])

-- %11 = stablehlo.broadcast_in_dim %0, dims = [0] : (tensor<4112xi32>) -> tensor<4112x1xi32>
def val_main_v11 : (⟨S4112x1, .i32⟩ : BufTy).Contents (Elt F) :=
  broadcastInDim S4112x1 ![0] bcast_S4112_S4112x1_0 (val_main_v0 (F := F))
abbrev idx_main_v11 (i : S4112x1.Idx) : S4112.Idx := fun a => match a with
  | ⟨0, _⟩ => ⟨(i 0).val, (i 0).isLt⟩
theorem val_main_v11_apply (i : S4112x1.Idx) :
    val_main_v11 (F := F) i = val_main_v0 (F := F) (idx_main_v11 i) := by
  unfold val_main_v11
  generalize val_main_v0 (F := F) = y
  exact broadcastInDim_apply _ bcast_S4112_S4112x1_0 y i (idx_main_v11 i) (fun a => match a with
    | ⟨0, _⟩ => by show (i 0).val = if (4112 : Nat) = 1 then 0 else (i 0).val; rw [if_neg (by decide)])

-- %12 = stablehlo.broadcast_in_dim %10, dims = [0, 1] : (tensor<1x4112xi32>) -> tensor<4112x4112xi32>
def val_main_v12 : (⟨S4112x4112, .i32⟩ : BufTy).Contents (Elt F) :=
  broadcastInDim S4112x4112 ![0, 1] bcast_S1x4112_S4112x4112_0_1 (val_main_v10 (F := F))
abbrev idx_main_v12 (i : S4112x4112.Idx) : S1x4112.Idx := fun a => match a with
  | ⟨0, _⟩ => ⟨0, Nat.one_pos⟩
  | ⟨1, _⟩ => ⟨(i 1).val, (i 1).isLt⟩
theorem val_main_v12_apply (i : S4112x4112.Idx) :
    val_main_v12 (F := F) i = val_main_v10 (F := F) (idx_main_v12 i) := by
  unfold val_main_v12
  generalize val_main_v10 (F := F) = y
  exact broadcastInDim_apply _ bcast_S1x4112_S4112x4112_0_1 y i (idx_main_v12 i) (fun a => match a with
    | ⟨0, _⟩ => by show 0 = if (1 : Nat) = 1 then 0 else (i 0).val; rw [if_pos rfl]
    | ⟨1, _⟩ => by show (i 1).val = if (4112 : Nat) = 1 then 0 else (i 1).val; rw [if_neg (by decide)])

-- %13 = stablehlo.broadcast_in_dim %11, dims = [0, 1] : (tensor<4112x1xi32>) -> tensor<4112x4112xi32>
def val_main_v13 : (⟨S4112x4112, .i32⟩ : BufTy).Contents (Elt F) :=
  broadcastInDim S4112x4112 ![0, 1] bcast_S4112x1_S4112x4112_0_1 (val_main_v11 (F := F))
abbrev idx_main_v13 (i : S4112x4112.Idx) : S4112x1.Idx := fun a => match a with
  | ⟨0, _⟩ => ⟨(i 0).val, (i 0).isLt⟩
  | ⟨1, _⟩ => ⟨0, Nat.one_pos⟩
theorem val_main_v13_apply (i : S4112x4112.Idx) :
    val_main_v13 (F := F) i = val_main_v11 (F := F) (idx_main_v13 i) := by
  unfold val_main_v13
  generalize val_main_v11 (F := F) = y
  exact broadcastInDim_apply _ bcast_S4112x1_S4112x4112_0_1 y i (idx_main_v13 i) (fun a => match a with
    | ⟨0, _⟩ => by show (i 0).val = if (4112 : Nat) = 1 then 0 else (i 0).val; rw [if_neg (by decide)]
    | ⟨1, _⟩ => by show 0 = if (1 : Nat) = 1 then 0 else (i 1).val; rw [if_pos rfl])

-- %14 = stablehlo.compare LE, %12, %13, SIGNED : (tensor<4112x4112xi32>, tensor<4112x4112xi32>) -> tensor<4112x4112xi1>
def val_main_v14 : (⟨S4112x4112, .i1⟩ : BufTy).Contents (Elt F) :=
  cmpi .sle (val_main_v12 (F := F)) (val_main_v13 (F := F))
theorem val_main_v14_apply (i : S4112x4112.Idx) :
    val_main_v14 (F := F) i = IntOp.cmpi .sle (val_main_v12 (F := F) i) (val_main_v13 (F := F) i) := rfl

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- @_where's %0 = stablehlo.convert %arg2 : tensor<f32>, in %15 = func.call @_where(…) (record main_call0)
def val_main_call0_v0 : (⟨S_, .f32⟩ : BufTy).Contents (Elt F) :=
  id (val_main_cst_0 (F := F))
theorem val_main_call0_v0_apply (i : S_.Idx) :
    val_main_call0_v0 (F := F) i = (val_main_cst_0 (F := F) i) := rfl

-- @_where's %1 = stablehlo.broadcast_in_dim %arg0, dims = [1, 2] : (tensor<4112x4112xi1>) -> tensor<8x4112x4112xi1>, in %15 = func.call @_where(…) (record main_call0)
def val_main_call0_v1 : (⟨S8x4112x4112, .i1⟩ : BufTy).Contents (Elt F) :=
  broadcastInDim S8x4112x4112 ![1, 2] bcast_S4112x4112_S8x4112x4112_1_2 (val_main_v14 (F := F))
abbrev idx_main_call0_v1 (i : S8x4112x4112.Idx) : S4112x4112.Idx := fun a => match a with
  | ⟨0, _⟩ => ⟨(i 1).val, (i 1).isLt⟩
  | ⟨1, _⟩ => ⟨(i 2).val, (i 2).isLt⟩
theorem val_main_call0_v1_apply (i : S8x4112x4112.Idx) :
    val_main_call0_v1 (F := F) i = val_main_v14 (F := F) (idx_main_call0_v1 i) := by
  unfold val_main_call0_v1
  generalize val_main_v14 (F := F) = y
  exact broadcastInDim_apply _ bcast_S4112x4112_S8x4112x4112_1_2 y i (idx_main_call0_v1 i) (fun a => match a with
    | ⟨0, _⟩ => by show (i 1).val = if (4112 : Nat) = 1 then 0 else (i 1).val; rw [if_neg (by decide)]
    | ⟨1, _⟩ => by show (i 2).val = if (4112 : Nat) = 1 then 0 else (i 2).val; rw [if_neg (by decide)])

-- @_where's %2 = stablehlo.broadcast_in_dim %0, dims = [] : (tensor<f32>) -> tensor<8x4112x4112xf32>, in %15 = func.call @_where(…) (record main_call0)
def val_main_call0_v2 : (⟨S8x4112x4112, .f32⟩ : BufTy).Contents (Elt F) :=
  broadcastInDim S8x4112x4112 ![] bcast_S_S8x4112x4112 (val_main_call0_v0 (F := F))
abbrev idx_main_call0_v2 (i : S8x4112x4112.Idx) : S_.Idx := fun a => a.elim0
theorem val_main_call0_v2_apply (i : S8x4112x4112.Idx) :
    val_main_call0_v2 (F := F) i = val_main_call0_v0 (F := F) (idx_main_call0_v2 i) := by
  unfold val_main_call0_v2
  generalize val_main_call0_v0 (F := F) = y
  exact broadcastInDim_apply _ bcast_S_S8x4112x4112 y i (idx_main_call0_v2 i) (fun a => a.elim0)

-- %15 = func.call @_where(…) (record main_call0) result 0: @_where's %3 = stablehlo.select %1, %arg1, %2 : tensor<8x4112x4112xi1>, tensor<8x4112x4112xf32>
def val_main_v15 (x0 x1 : (⟨S4112x8x64, .f32⟩ : BufTy).Contents (Elt F)) (x3 : (⟨S8x4112, .f32⟩ : BufTy).Contents (Elt F)) : (⟨S8x4112x4112, .f32⟩ : BufTy).Contents (Elt F) :=
  select (val_main_call0_v1 (F := F)) (val_main_v9 (F := F) x0 x1 x3) (val_main_call0_v2 (F := F))
theorem val_main_v15_apply (x0 x1 : (⟨S4112x8x64, .f32⟩ : BufTy).Contents (Elt F)) (x3 : (⟨S8x4112, .f32⟩ : BufTy).Contents (Elt F)) (i : S8x4112x4112.Idx) :
    val_main_v15 (F := F) x0 x1 x3 i = Scalar.select (val_main_call0_v1 (F := F) i) (val_main_v9 (F := F) x0 x1 x3 i) (val_main_call0_v2 (F := F) i) := rfl

-- %cst_1 = stablehlo.constant dense<0xFF800000> : tensor<f32>
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %16 = stablehlo.reduce(%15 init: %cst_1) applies stablehlo.maximum across dimensions = [2] : (tensor<8x4112x4112xf32>, tensor<f32>) -> tensor<8x4112xf32> {
def val_main_v16 (x0 x1 : (⟨S4112x8x64, .f32⟩ : BufTy).Contents (Elt F)) (x3 : (⟨S8x4112, .f32⟩ : BufTy).Contents (Elt F)) : (⟨S8x4112, .f32⟩ : BufTy).Contents (Elt F) :=
  Host.reduce FloatOps.maximumf (val_main_v15 (F := F) x0 x1 x3) (val_main_cst_1 (F := F)) reducesTo_S8x4112x4112_S8x4112_d2 h_S_

-- %17 = stablehlo.broadcast_in_dim %16, dims = [0, 1] : (tensor<8x4112xf32>) -> tensor<8x4112x1xf32>
def val_main_v17 (x0 x1 : (⟨S4112x8x64, .f32⟩ : BufTy).Contents (Elt F)) (x3 : (⟨S8x4112, .f32⟩ : BufTy).Contents (Elt F)) : (⟨S8x4112x1, .f32⟩ : BufTy).Contents (Elt F) :=
  broadcastInDim S8x4112x1 ![0, 1] bcast_S8x4112_S8x4112x1_0_1 (val_main_v16 (F := F) x0 x1 x3)
abbrev idx_main_v17 (i : S8x4112x1.Idx) : S8x4112.Idx := fun a => match a with
  | ⟨0, _⟩ => ⟨(i 0).val, (i 0).isLt⟩
  | ⟨1, _⟩ => ⟨(i 1).val, (i 1).isLt⟩
theorem val_main_v17_apply (x0 x1 : (⟨S4112x8x64, .f32⟩ : BufTy).Contents (Elt F)) (x3 : (⟨S8x4112, .f32⟩ : BufTy).Contents (Elt F)) (i : S8x4112x1.Idx) :
    val_main_v17 (F := F) x0 x1 x3 i = val_main_v16 (F := F) x0 x1 x3 (idx_main_v17 i) := by
  unfold val_main_v17
  generalize val_main_v16 (F := F) x0 x1 x3 = y
  exact broadcastInDim_apply _ bcast_S8x4112_S8x4112x1_0_1 y i (idx_main_v17 i) (fun a => match a with
    | ⟨0, _⟩ => by show (i 0).val = if (8 : Nat) = 1 then 0 else (i 0).val; rw [if_neg (by decide)]
    | ⟨1, _⟩ => by show (i 1).val = if (4112 : Nat) = 1 then 0 else (i 1).val; rw [if_neg (by decide)])

-- %18 = stablehlo.broadcast_in_dim %17, dims = [0, 1, 2] : (tensor<8x4112x1xf32>) -> tensor<8x4112x4112xf32>
def val_main_v18 (x0 x1 : (⟨S4112x8x64, .f32⟩ : BufTy).Contents (Elt F)) (x3 : (⟨S8x4112, .f32⟩ : BufTy).Contents (Elt F)) : (⟨S8x4112x4112, .f32⟩ : BufTy).Contents (Elt F) :=
  broadcastInDim S8x4112x4112 ![0, 1, 2] bcast_S8x4112x1_S8x4112x4112_0_1_2 (val_main_v17 (F := F) x0 x1 x3)
abbrev idx_main_v18 (i : S8x4112x4112.Idx) : S8x4112x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v18_apply (x0 x1 : (⟨S4112x8x64, .f32⟩ : BufTy).Contents (Elt F)) (x3 : (⟨S8x4112, .f32⟩ : BufTy).Contents (Elt F)) (i : S8x4112x4112.Idx) :
    val_main_v18 (F := F) x0 x1 x3 i = val_main_v17 (F := F) x0 x1 x3 (idx_main_v18 i) := by
  unfold val_main_v18
  generalize val_main_v17 (F := F) x0 x1 x3 = y
  exact broadcastInDim_apply _ bcast_S8x4112x1_S8x4112x4112_0_1_2 y i (idx_main_v18 i) (fun a => match a with
    | ⟨0, _⟩ => by show (i 0).val = if (8 : Nat) = 1 then 0 else (i 0).val; rw [if_neg (by decide)]
    | ⟨1, _⟩ => by show (i 1).val = if (4112 : Nat) = 1 then 0 else (i 1).val; rw [if_neg (by decide)]
    | ⟨2, _⟩ => by show 0 = if (1 : Nat) = 1 then 0 else (i 2).val; rw [if_pos rfl])

-- %19 = stablehlo.subtract %15, %18 : tensor<8x4112x4112xf32>
def val_main_v19 (x0 x1 : (⟨S4112x8x64, .f32⟩ : BufTy).Contents (Elt F)) (x3 : (⟨S8x4112, .f32⟩ : BufTy).Contents (Elt F)) : (⟨S8x4112x4112, .f32⟩ : BufTy).Contents (Elt F) :=
  subf (val_main_v15 (F := F) x0 x1 x3) (val_main_v18 (F := F) x0 x1 x3)
theorem val_main_v19_apply (x0 x1 : (⟨S4112x8x64, .f32⟩ : BufTy).Contents (Elt F)) (x3 : (⟨S8x4112, .f32⟩ : BufTy).Contents (Elt F)) (i : S8x4112x4112.Idx) :
    val_main_v19 (F := F) x0 x1 x3 i = FloatOps.subf (val_main_v15 (F := F) x0 x1 x3 i) (val_main_v18 (F := F) x0 x1 x3 i) := rfl

-- %20 = stablehlo.exponential %19 : tensor<8x4112x4112xf32>
def val_main_v20 (x0 x1 : (⟨S4112x8x64, .f32⟩ : BufTy).Contents (Elt F)) (x3 : (⟨S8x4112, .f32⟩ : BufTy).Contents (Elt F)) : (⟨S8x4112x4112, .f32⟩ : BufTy).Contents (Elt F) :=
  Host.exp (val_main_v19 (F := F) x0 x1 x3)
theorem val_main_v20_apply (x0 x1 : (⟨S4112x8x64, .f32⟩ : BufTy).Contents (Elt F)) (x3 : (⟨S8x4112, .f32⟩ : BufTy).Contents (Elt F)) (i : S8x4112x4112.Idx) :
    val_main_v20 (F := F) x0 x1 x3 i = FloatOps.hostUnary .exp (val_main_v19 (F := F) x0 x1 x3 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %21 = stablehlo.reduce(%20 init: %cst_2) applies stablehlo.add across dimensions = [2] : (tensor<8x4112x4112xf32>, tensor<f32>) -> tensor<8x4112xf32> {
def val_main_v21 (x0 x1 : (⟨S4112x8x64, .f32⟩ : BufTy).Contents (Elt F)) (x3 : (⟨S8x4112, .f32⟩ : BufTy).Contents (Elt F)) : (⟨S8x4112, .f32⟩ : BufTy).Contents (Elt F) :=
  Host.reduceAdd (val_main_v20 (F := F) x0 x1 x3) (val_main_cst_2 (F := F)) reducesTo_S8x4112x4112_S8x4112_d2 h_S_
abbrev idx_main_v21 (i : S8x4112.Idx) (k : Fin 4112) : S8x4112x4112.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v21_apply (x0 x1 : (⟨S4112x8x64, .f32⟩ : BufTy).Contents (Elt Ideal)) (x3 : (⟨S8x4112, .f32⟩ : BufTy).Contents (Elt Ideal)) (i : S8x4112.Idx) :
    val_main_v21 (F := Ideal) x0 x1 x3 i = (val_main_cst_2 (F := Ideal)) (Shape.Idx.first h_S_) + ∑ k : Fin 4112, (val_main_v20 (F := Ideal) x0 x1 x3) (idx_main_v21 i k) := by
  unfold val_main_v21
  generalize val_main_v20 (F := Ideal) x0 x1 x3 = y0
  simp only [Host.reduceAdd, Ideal.hostReduceAdd_def]
  rw [Ideal.hostReduceAdd_single reducesTo_S8x4112x4112_S8x4112_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %22 = stablehlo.broadcast_in_dim %21, dims = [0, 1] : (tensor<8x4112xf32>) -> tensor<8x4112x1xf32>
def val_main_v22 (x0 x1 : (⟨S4112x8x64, .f32⟩ : BufTy).Contents (Elt F)) (x3 : (⟨S8x4112, .f32⟩ : BufTy).Contents (Elt F)) : (⟨S8x4112x1, .f32⟩ : BufTy).Contents (Elt F) :=
  broadcastInDim S8x4112x1 ![0, 1] bcast_S8x4112_S8x4112x1_0_1 (val_main_v21 (F := F) x0 x1 x3)
abbrev idx_main_v22 (i : S8x4112x1.Idx) : S8x4112.Idx := fun a => match a with
  | ⟨0, _⟩ => ⟨(i 0).val, (i 0).isLt⟩
  | ⟨1, _⟩ => ⟨(i 1).val, (i 1).isLt⟩
theorem val_main_v22_apply (x0 x1 : (⟨S4112x8x64, .f32⟩ : BufTy).Contents (Elt F)) (x3 : (⟨S8x4112, .f32⟩ : BufTy).Contents (Elt F)) (i : S8x4112x1.Idx) :
    val_main_v22 (F := F) x0 x1 x3 i = val_main_v21 (F := F) x0 x1 x3 (idx_main_v22 i) := by
  unfold val_main_v22
  generalize val_main_v21 (F := F) x0 x1 x3 = y
  exact broadcastInDim_apply _ bcast_S8x4112_S8x4112x1_0_1 y i (idx_main_v22 i) (fun a => match a with
    | ⟨0, _⟩ => by show (i 0).val = if (8 : Nat) = 1 then 0 else (i 0).val; rw [if_neg (by decide)]
    | ⟨1, _⟩ => by show (i 1).val = if (4112 : Nat) = 1 then 0 else (i 1).val; rw [if_neg (by decide)])

-- %23 = stablehlo.broadcast_in_dim %22, dims = [0, 1, 2] : (tensor<8x4112x1xf32>) -> tensor<8x4112x4112xf32>
def val_main_v23 (x0 x1 : (⟨S4112x8x64, .f32⟩ : BufTy).Contents (Elt F)) (x3 : (⟨S8x4112, .f32⟩ : BufTy).Contents (Elt F)) : (⟨S8x4112x4112, .f32⟩ : BufTy).Contents (Elt F) :=
  broadcastInDim S8x4112x4112 ![0, 1, 2] bcast_S8x4112x1_S8x4112x4112_0_1_2 (val_main_v22 (F := F) x0 x1 x3)
abbrev idx_main_v23 (i : S8x4112x4112.Idx) : S8x4112x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v23_apply (x0 x1 : (⟨S4112x8x64, .f32⟩ : BufTy).Contents (Elt F)) (x3 : (⟨S8x4112, .f32⟩ : BufTy).Contents (Elt F)) (i : S8x4112x4112.Idx) :
    val_main_v23 (F := F) x0 x1 x3 i = val_main_v22 (F := F) x0 x1 x3 (idx_main_v23 i) := by
  unfold val_main_v23
  generalize val_main_v22 (F := F) x0 x1 x3 = y
  exact broadcastInDim_apply _ bcast_S8x4112x1_S8x4112x4112_0_1_2 y i (idx_main_v23 i) (fun a => match a with
    | ⟨0, _⟩ => by show (i 0).val = if (8 : Nat) = 1 then 0 else (i 0).val; rw [if_neg (by decide)]
    | ⟨1, _⟩ => by show (i 1).val = if (4112 : Nat) = 1 then 0 else (i 1).val; rw [if_neg (by decide)]
    | ⟨2, _⟩ => by show 0 = if (1 : Nat) = 1 then 0 else (i 2).val; rw [if_pos rfl])

-- %24 = stablehlo.divide %20, %23 : tensor<8x4112x4112xf32>
def val_main_v24 (x0 x1 : (⟨S4112x8x64, .f32⟩ : BufTy).Contents (Elt F)) (x3 : (⟨S8x4112, .f32⟩ : BufTy).Contents (Elt F)) : (⟨S8x4112x4112, .f32⟩ : BufTy).Contents (Elt F) :=
  Host.divf (val_main_v20 (F := F) x0 x1 x3) (val_main_v23 (F := F) x0 x1 x3)
theorem val_main_v24_apply (x0 x1 : (⟨S4112x8x64, .f32⟩ : BufTy).Contents (Elt F)) (x3 : (⟨S8x4112, .f32⟩ : BufTy).Contents (Elt F)) (i : S8x4112x4112.Idx) :
    val_main_v24 (F := F) x0 x1 x3 i = FloatOps.hostDivf (val_main_v20 (F := F) x0 x1 x3 i) (val_main_v23 (F := F) x0 x1 x3 i) := rfl

-- %25 = stablehlo.dot_general %24, %arg2, batching_dims = [0] x [1], contracting_dims = [2] x [0], precision = [DEFAULT, DEFAULT] : (tensor<8x4112x4112xf32>, tensor<4112x8x64xf32>) -> tensor<8x4112x64xf32>
def val_main_v25 (x0 x1 x2 : (⟨S4112x8x64, .f32⟩ : BufTy).Contents (Elt F)) (x3 : (⟨S8x4112, .f32⟩ : BufTy).Contents (Elt F)) : (⟨S8x4112x64, .f32⟩ : BufTy).Contents (Elt F) :=
  Host.dotGeneral dot_S8x4112x4112_S4112x8x64_S8x4112x64_2_0_1_2_0_1 none (val_main_v24 (F := F) x0 x1 x3) (x2)
theorem lhs_main_v25_0 (i : S8x4112x64.Idx) (q : dot_S8x4112x4112_S4112x8x64_S8x4112x64_2_0_1_2_0_1.contr.Idx) :
    (dot_S8x4112x4112_S4112x8x64_S8x4112x64_2_0_1_2_0_1.lhsIdx i q 0).val = (i 0).val := by
  unfold DotDims.lhsIdx
  rw [dif_pos (show (0 : Fin S8x4112x4112.rank) ∈ dot_S8x4112x4112_S4112x8x64_S8x4112x64_2_0_1_2_0_1.lhsBatch by decide)]
  rfl
theorem lhs_main_v25_1 (i : S8x4112x64.Idx) (q : dot_S8x4112x4112_S4112x8x64_S8x4112x64_2_0_1_2_0_1.contr.Idx) :
    (dot_S8x4112x4112_S4112x8x64_S8x4112x64_2_0_1_2_0_1.lhsIdx i q 1).val = (i 1).val := by
  unfold DotDims.lhsIdx
  rw [dif_neg (show ¬(1 : Fin S8x4112x4112.rank) ∈ dot_S8x4112x4112_S4112x8x64_S8x4112x64_2_0_1_2_0_1.lhsBatch by decide), dif_pos (show (1 : Fin S8x4112x4112.rank) ∈ dot_S8x4112x4112_S4112x8x64_S8x4112x64_2_0_1_2_0_1.lhsNonContracting by decide)]
  rfl
theorem lhs_main_v25_2 (i : S8x4112x64.Idx) (q : dot_S8x4112x4112_S4112x8x64_S8x4112x64_2_0_1_2_0_1.contr.Idx) :
    (dot_S8x4112x4112_S4112x8x64_S8x4112x64_2_0_1_2_0_1.lhsIdx i q 2).val = (q ⟨0, by decide⟩).val :=
  dot_S8x4112x4112_S4112x8x64_S8x4112x64_2_0_1_2_0_1.lhsIdx_val_of_single rfl i q
theorem rhs_main_v25_0 (i : S8x4112x64.Idx) (q : dot_S8x4112x4112_S4112x8x64_S8x4112x64_2_0_1_2_0_1.contr.Idx) :
    (dot_S8x4112x4112_S4112x8x64_S8x4112x64_2_0_1_2_0_1.rhsIdx i q 0).val = (q ⟨0, by decide⟩).val :=
  dot_S8x4112x4112_S4112x8x64_S8x4112x64_2_0_1_2_0_1.rhsIdx_val_of_single rfl i q
theorem rhs_main_v25_1 (i : S8x4112x64.Idx) (q : dot_S8x4112x4112_S4112x8x64_S8x4112x64_2_0_1_2_0_1.contr.Idx) :
    (dot_S8x4112x4112_S4112x8x64_S8x4112x64_2_0_1_2_0_1.rhsIdx i q 1).val = (i 0).val := by
  unfold DotDims.rhsIdx
  rw [dif_pos (show (1 : Fin S4112x8x64.rank) ∈ dot_S8x4112x4112_S4112x8x64_S8x4112x64_2_0_1_2_0_1.rhsBatch by decide)]
  rfl
theorem rhs_main_v25_2 (i : S8x4112x64.Idx) (q : dot_S8x4112x4112_S4112x8x64_S8x4112x64_2_0_1_2_0_1.contr.Idx) :
    (dot_S8x4112x4112_S4112x8x64_S8x4112x64_2_0_1_2_0_1.rhsIdx i q 2).val = (i 2).val := by
  unfold DotDims.rhsIdx
  rw [dif_neg (show ¬(2 : Fin S4112x8x64.rank) ∈ dot_S8x4112x4112_S4112x8x64_S8x4112x64_2_0_1_2_0_1.rhsBatch by decide), dif_pos (show (2 : Fin S4112x8x64.rank) ∈ dot_S8x4112x4112_S4112x8x64_S8x4112x64_2_0_1_2_0_1.rhsNonContracting by decide)]
  rfl
abbrev lidx_main_v25 (i : S8x4112x64.Idx) (k : Fin 4112) : S8x4112x4112.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v25 (i : S8x4112x64.Idx) (k : Fin 4112) : S4112x8x64.Idx := fun a => match a with
  | ⟨0, _⟩ => ⟨k.val, k.isLt⟩
  | ⟨1, _⟩ => ⟨(i 0).val, (i 0).isLt⟩
  | ⟨2, _⟩ => ⟨(i 2).val, (i 2).isLt⟩
/-- Stated at `F := Ideal`, where the host's `dot_general` is this sum; at a bit-exact instance it is an opaque function of its operands. -/
theorem val_main_v25_apply (x0 x1 x2 : (⟨S4112x8x64, .f32⟩ : BufTy).Contents (Elt Ideal)) (x3 : (⟨S8x4112, .f32⟩ : BufTy).Contents (Elt Ideal)) (i : S8x4112x64.Idx) :
    val_main_v25 (F := Ideal) x0 x1 x2 x3 i = ∑ k : Fin 4112, (val_main_v24 (F := Ideal) x0 x1 x3) (lidx_main_v25 i k) * x2 (ridx_main_v25 i k) := by
  unfold val_main_v25
  generalize val_main_v24 (F := Ideal) x0 x1 x3 = y0
  simp only [Host.dotGeneral]
  rw [Ideal.dotGeneral_apply, ← Equiv.sum_comp (ValueIdx.contrEquiv1 dot_S8x4112x4112_S4112x8x64_S8x4112x64_2_0_1_2_0_1 4112 rfl rfl).symm]
  refine Finset.sum_congr rfl fun k _ => ?_
  have hk := ValueIdx.contrEquiv1_symm_val dot_S8x4112x4112_S4112x8x64_S8x4112x64_2_0_1_2_0_1 4112 rfl rfl k
  have el : dot_S8x4112x4112_S4112x8x64_S8x4112x64_2_0_1_2_0_1.lhsIdx i ((ValueIdx.contrEquiv1 dot_S8x4112x4112_S4112x8x64_S8x4112x64_2_0_1_2_0_1 4112 rfl rfl).symm k) = lidx_main_v25 i k := funext fun a => Fin.ext (by
    match a with
    | ⟨0, _⟩ => exact lhs_main_v25_0 _ _
    | ⟨1, _⟩ => exact lhs_main_v25_1 _ _
    | ⟨2, _⟩ => exact (lhs_main_v25_2 _ _).trans hk)
  have er : dot_S8x4112x4112_S4112x8x64_S8x4112x64_2_0_1_2_0_1.rhsIdx i ((ValueIdx.contrEquiv1 dot_S8x4112x4112_S4112x8x64_S8x4112x64_2_0_1_2_0_1 4112 rfl rfl).symm k) = ridx_main_v25 i k := funext fun a => Fin.ext (by
    match a with
    | ⟨0, _⟩ => exact (rhs_main_v25_0 _ _).trans hk
    | ⟨1, _⟩ => exact rhs_main_v25_1 _ _
    | ⟨2, _⟩ => exact rhs_main_v25_2 _ _)
  rw [el, er]

-- %26 = stablehlo.transpose %arg4, dims = [1, 0, 2] : (tensor<4112x8x64xf32>) -> tensor<8x4112x64xf32>
def val_main_v26 (x4 : (⟨S4112x8x64, .f32⟩ : BufTy).Contents (Elt F)) : (⟨S8x4112x64, .f32⟩ : BufTy).Contents (Elt F) :=
  transpose S8x4112x64 [1, 0, 2] (x4) transposes_S4112x8x64_S8x4112x64_1_0_2
abbrev idx_main_v26 (i : S8x4112x64.Idx) : S4112x8x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v26_apply (x4 : (⟨S4112x8x64, .f32⟩ : BufTy).Contents (Elt F)) (i : S8x4112x64.Idx) :
    val_main_v26 (F := F) x4 i = x4 (idx_main_v26 i) := by
  unfold val_main_v26
  exact transpose_apply [1, 0, 2] x4 transposes_S4112x8x64_S8x4112x64_1_0_2 i (idx_main_v26 i) (fun b => match b with
    | ⟨0, _⟩ => rfl
    | ⟨1, _⟩ => rfl
    | ⟨2, _⟩ => rfl)

-- %27 = stablehlo.multiply %26, %25 : tensor<8x4112x64xf32>
def val_main_v27 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112x64, .f32⟩ : BufTy).Contents (Elt F) :=
  mulf (val_main_v26 (F := F) x4) (val_main_v25 (F := F) x0 x1 x2 x3)
theorem val_main_v27_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112x64.Idx) :
    val_main_v27 (F := F) x0 x1 x2 x3 x4 i = FloatOps.mulf (val_main_v26 (F := F) x4 i) (val_main_v25 (F := F) x0 x1 x2 x3 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %28 = stablehlo.reduce(%27 init: %cst_3) applies stablehlo.add across dimensions = [2] : (tensor<8x4112x64xf32>, tensor<f32>) -> tensor<8x4112xf32> {
def val_main_v28 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .f32⟩ : BufTy).Contents (Elt F) :=
  Host.reduceAdd (val_main_v27 (F := F) x0 x1 x2 x3 x4) (val_main_cst_3 (F := F)) reducesTo_S8x4112x64_S8x4112_d2 h_S_
abbrev idx_main_v28 (i : S8x4112.Idx) (k : Fin 64) : S8x4112x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v28_apply (x0 x1 x2 : (⟨S4112x8x64, .f32⟩ : BufTy).Contents (Elt Ideal)) (x3 : (⟨S8x4112, .f32⟩ : BufTy).Contents (Elt Ideal)) (x4 : (⟨S4112x8x64, .f32⟩ : BufTy).Contents (Elt Ideal)) (i : S8x4112.Idx) :
    val_main_v28 (F := Ideal) x0 x1 x2 x3 x4 i = (val_main_cst_3 (F := Ideal)) (Shape.Idx.first h_S_) + ∑ k : Fin 64, (val_main_v27 (F := Ideal) x0 x1 x2 x3 x4) (idx_main_v28 i k) := by
  unfold val_main_v28
  generalize val_main_v27 (F := Ideal) x0 x1 x2 x3 x4 = y0
  simp only [Host.reduceAdd, Ideal.hostReduceAdd_def]
  rw [Ideal.hostReduceAdd_single reducesTo_S8x4112x64_S8x4112_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %29 = stablehlo.log %22 : tensor<8x4112x1xf32>
def val_main_v29 (x0 x1 : (⟨S4112x8x64, .f32⟩ : BufTy).Contents (Elt F)) (x3 : (⟨S8x4112, .f32⟩ : BufTy).Contents (Elt F)) : (⟨S8x4112x1, .f32⟩ : BufTy).Contents (Elt F) :=
  Host.log (val_main_v22 (F := F) x0 x1 x3)
theorem val_main_v29_apply (x0 x1 : (⟨S4112x8x64, .f32⟩ : BufTy).Contents (Elt F)) (x3 : (⟨S8x4112, .f32⟩ : BufTy).Contents (Elt F)) (i : S8x4112x1.Idx) :
    val_main_v29 (F := F) x0 x1 x3 i = FloatOps.hostUnary .log (val_main_v22 (F := F) x0 x1 x3 i) := rfl

-- %30 = stablehlo.add %17, %29 : tensor<8x4112x1xf32>
def val_main_v30 (x0 x1 : (⟨S4112x8x64, .f32⟩ : BufTy).Contents (Elt F)) (x3 : (⟨S8x4112, .f32⟩ : BufTy).Contents (Elt F)) : (⟨S8x4112x1, .f32⟩ : BufTy).Contents (Elt F) :=
  addf (val_main_v17 (F := F) x0 x1 x3) (val_main_v29 (F := F) x0 x1 x3)
theorem val_main_v30_apply (x0 x1 : (⟨S4112x8x64, .f32⟩ : BufTy).Contents (Elt F)) (x3 : (⟨S8x4112, .f32⟩ : BufTy).Contents (Elt F)) (i : S8x4112x1.Idx) :
    val_main_v30 (F := F) x0 x1 x3 i = FloatOps.addf (val_main_v17 (F := F) x0 x1 x3 i) (val_main_v29 (F := F) x0 x1 x3 i) := rfl

-- %31 = stablehlo.reshape %30 : (tensor<8x4112x1xf32>) -> tensor<8x4112xf32>
def val_main_v31 (x0 x1 : (⟨S4112x8x64, .f32⟩ : BufTy).Contents (Elt F)) (x3 : (⟨S8x4112, .f32⟩ : BufTy).Contents (Elt F)) : (⟨S8x4112, .f32⟩ : BufTy).Contents (Elt F) :=
  shapeCast _ (val_main_v30 (F := F) x0 x1 x3) shapeCasts_S8x4112x1_S8x4112
set_option backward.proofsInPublic true in
abbrev idx_main_v31 (i : S8x4112.Idx) : S8x4112x1.Idx := fun a => match a with
  | ⟨0, _⟩ => ⟨((i 0).val * 4112 + (i 1).val) / 4112, by have h0 : (i 0).val < 8 := (i 0).isLt; have h1 : (i 1).val < 4112 := (i 1).isLt; show ((i 0).val * 4112 + (i 1).val) / 4112 < 8; omega⟩
  | ⟨1, _⟩ => ⟨((i 0).val * 4112 + (i 1).val) / 1 % 4112, by have h0 : (i 0).val < 8 := (i 0).isLt; have h1 : (i 1).val < 4112 := (i 1).isLt; show ((i 0).val * 4112 + (i 1).val) / 1 % 4112 < 4112; omega⟩
  | ⟨2, _⟩ => ⟨0, Nat.one_pos⟩
theorem val_main_v31_apply (x0 x1 : (⟨S4112x8x64, .f32⟩ : BufTy).Contents (Elt F)) (x3 : (⟨S8x4112, .f32⟩ : BufTy).Contents (Elt F)) (i : S8x4112.Idx) :
    val_main_v31 (F := F) x0 x1 x3 i = val_main_v30 (F := F) x0 x1 x3 (idx_main_v31 i) := by
  unfold val_main_v31
  generalize val_main_v30 (F := F) x0 x1 x3 = y
  exact shapeCast_apply y shapeCasts_S8x4112x1_S8x4112 i (idx_main_v31 i)
    (by rewrite [Shape.rowMajor_val_three, Shape.rowMajor_val_two]; have h0 : (i 0).val < 8 := (i 0).isLt; have h1 : (i 1).val < 4112 := (i 1).isLt; show (((i 0).val * 4112 + (i 1).val) / 4112 * 4112 + ((i 0).val * 4112 + (i 1).val) / 1 % 4112) * 1 + 0 = (i 0).val * 4112 + (i 1).val; omega)

-- %cst_4 = stablehlo.constant dense<1.000000e+00> : tensor<f32>
def val_main_cst_4 : (⟨S_, .f32⟩ : BufTy).Contents (Elt F) :=
  constant S_ .f32 0x3F800000#32
theorem val_main_cst_4_apply (i : S_.Idx) :
    val_main_cst_4 (F := F) i = FloatOps.ofBits .f32 0x3F800000#32 := rfl

-- %32 = stablehlo.broadcast_in_dim %cst_4, dims = [] : (tensor<f32>) -> tensor<8x4224x3xf32>
def val_main_v32 : (⟨S8x4224x3, .f32⟩ : BufTy).Contents (Elt F) :=
  broadcastInDim S8x4224x3 ![] bcast_S_S8x4224x3 (val_main_cst_4 (F := F))
abbrev idx_main_v32 (i : S8x4224x3.Idx) : S_.Idx := fun a => a.elim0
theorem val_main_v32_apply (i : S8x4224x3.Idx) :
    val_main_v32 (F := F) i = val_main_cst_4 (F := F) (idx_main_v32 i) := by
  unfold val_main_v32
  generalize val_main_cst_4 (F := F) = y
  exact broadcastInDim_apply _ bcast_S_S8x4224x3 y i (idx_main_v32 i) (fun a => a.elim0)

-- %33 = stablehlo.convert %arg3 : (tensor<8x4112xf32>) -> tensor<8x4112xbf16>
def val_main_v33 (x3 : (⟨S8x4112, .f32⟩ : BufTy).Contents (Elt F)) : (⟨S8x4112, .bf16⟩ : BufTy).Contents (Elt F) :=
  truncf .bf16 (x3) bitsLt_bf16_f32
theorem val_main_v33_apply (x3 : (⟨S8x4112, .f32⟩ : BufTy).Contents (Elt F)) (i : S8x4112.Idx) :
    val_main_v33 (F := F) x3 i = FloatOps.truncf .bf16 bitsLt_bf16_f32 (x3 i) := rfl

-- %34 = stablehlo.convert %33 : (tensor<8x4112xbf16>) -> tensor<8x4112xf32>
def val_main_v34 (x3 : (⟨S8x4112, .f32⟩ : BufTy).Contents (Elt F)) : (⟨S8x4112, .f32⟩ : BufTy).Contents (Elt F) :=
  extf .f32 (val_main_v33 (F := F) x3) bitsLt_bf16_f32
theorem val_main_v34_apply (x3 : (⟨S8x4112, .f32⟩ : BufTy).Contents (Elt F)) (i : S8x4112.Idx) :
    val_main_v34 (F := F) x3 i = FloatOps.extf .f32 bitsLt_bf16_f32 (val_main_v33 (F := F) x3 i) := rfl

-- %35 = stablehlo.subtract %arg3, %34 : tensor<8x4112xf32>
def val_main_v35 (x3 : (⟨S8x4112, .f32⟩ : BufTy).Contents (Elt F)) : (⟨S8x4112, .f32⟩ : BufTy).Contents (Elt F) :=
  subf (x3) (val_main_v34 (F := F) x3)
theorem val_main_v35_apply (x3 : (⟨S8x4112, .f32⟩ : BufTy).Contents (Elt F)) (i : S8x4112.Idx) :
    val_main_v35 (F := F) x3 i = FloatOps.subf (x3 i) (val_main_v34 (F := F) x3 i) := rfl

-- %36 = stablehlo.convert %35 : (tensor<8x4112xf32>) -> tensor<8x4112xbf16>
def val_main_v36 (x3 : (⟨S8x4112, .f32⟩ : BufTy).Contents (Elt F)) : (⟨S8x4112, .bf16⟩ : BufTy).Contents (Elt F) :=
  truncf .bf16 (val_main_v35 (F := F) x3) bitsLt_bf16_f32
theorem val_main_v36_apply (x3 : (⟨S8x4112, .f32⟩ : BufTy).Contents (Elt F)) (i : S8x4112.Idx) :
    val_main_v36 (F := F) x3 i = FloatOps.truncf .bf16 bitsLt_bf16_f32 (val_main_v35 (F := F) x3 i) := rfl

-- %37 = stablehlo.convert %36 : (tensor<8x4112xbf16>) -> tensor<8x4112xf32>
def val_main_v37 (x3 : (⟨S8x4112, .f32⟩ : BufTy).Contents (Elt F)) : (⟨S8x4112, .f32⟩ : BufTy).Contents (Elt F) :=
  extf .f32 (val_main_v36 (F := F) x3) bitsLt_bf16_f32
theorem val_main_v37_apply (x3 : (⟨S8x4112, .f32⟩ : BufTy).Contents (Elt F)) (i : S8x4112.Idx) :
    val_main_v37 (F := F) x3 i = FloatOps.extf .f32 bitsLt_bf16_f32 (val_main_v36 (F := F) x3 i) := rfl

-- %38 = stablehlo.subtract %35, %37 : tensor<8x4112xf32>
def val_main_v38 (x3 : (⟨S8x4112, .f32⟩ : BufTy).Contents (Elt F)) : (⟨S8x4112, .f32⟩ : BufTy).Contents (Elt F) :=
  subf (val_main_v35 (F := F) x3) (val_main_v37 (F := F) x3)
theorem val_main_v38_apply (x3 : (⟨S8x4112, .f32⟩ : BufTy).Contents (Elt F)) (i : S8x4112.Idx) :
    val_main_v38 (F := F) x3 i = FloatOps.subf (val_main_v35 (F := F) x3 i) (val_main_v37 (F := F) x3 i) := rfl

-- %39 = stablehlo.convert %38 : (tensor<8x4112xf32>) -> tensor<8x4112xbf16>
def val_main_v39 (x3 : (⟨S8x4112, .f32⟩ : BufTy).Contents (Elt F)) : (⟨S8x4112, .bf16⟩ : BufTy).Contents (Elt F) :=
  truncf .bf16 (val_main_v38 (F := F) x3) bitsLt_bf16_f32
theorem val_main_v39_apply (x3 : (⟨S8x4112, .f32⟩ : BufTy).Contents (Elt F)) (i : S8x4112.Idx) :
    val_main_v39 (F := F) x3 i = FloatOps.truncf .bf16 bitsLt_bf16_f32 (val_main_v38 (F := F) x3 i) := rfl

-- %40 = stablehlo.convert %39 : (tensor<8x4112xbf16>) -> tensor<8x4112xf32>
def val_main_v40 (x3 : (⟨S8x4112, .f32⟩ : BufTy).Contents (Elt F)) : (⟨S8x4112, .f32⟩ : BufTy).Contents (Elt F) :=
  extf .f32 (val_main_v39 (F := F) x3) bitsLt_bf16_f32
theorem val_main_v40_apply (x3 : (⟨S8x4112, .f32⟩ : BufTy).Contents (Elt F)) (i : S8x4112.Idx) :
    val_main_v40 (F := F) x3 i = FloatOps.extf .f32 bitsLt_bf16_f32 (val_main_v39 (F := F) x3 i) := rfl

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- @_pad's %0 = stablehlo.convert %arg1 : tensor<f32>, in %41 = func.call @_pad(…) (record main_call1)
def val_main_call1_v0 : (⟨S_, .f32⟩ : BufTy).Contents (Elt F) :=
  id (val_main_cst_5 (F := F))
theorem val_main_call1_v0_apply (i : S_.Idx) :
    val_main_call1_v0 (F := F) i = (val_main_cst_5 (F := F) i) := rfl

-- %41 = func.call @_pad(…) (record main_call1) result 0: @_pad's %1 = stablehlo.pad %arg0, %0, low = [0, 112], high = [0, 0], interior = [0, 0] : (tensor<8x4112xf32>, tensor<f32>) -> tensor<8x4224xf32>
def val_main_v41 (x3 : (⟨S8x4112, .f32⟩ : BufTy).Contents (Elt F)) : (⟨S8x4224, .f32⟩ : BufTy).Contents (Elt F) :=
  pad S8x4224 ![0, 112] ![0, 0] ![0, 0] (val_main_v34 (F := F) x3) (val_main_call1_v0 (F := F)) pads_S8x4112_S8x4224_000_11200 h_S_

-- %cst_6 = stablehlo.constant dense<0.000000e+00> : tensor<f32>
def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

-- @_pad's %0 = stablehlo.convert %arg1 : tensor<f32>, in %42 = func.call @_pad(…) (record main_call2)
def val_main_call2_v0 : (⟨S_, .f32⟩ : BufTy).Contents (Elt F) :=
  id (val_main_cst_6 (F := F))
theorem val_main_call2_v0_apply (i : S_.Idx) :
    val_main_call2_v0 (F := F) i = (val_main_cst_6 (F := F) i) := rfl

-- %42 = func.call @_pad(…) (record main_call2) result 0: @_pad's %1 = stablehlo.pad %arg0, %0, low = [0, 112], high = [0, 0], interior = [0, 0] : (tensor<8x4112xf32>, tensor<f32>) -> tensor<8x4224xf32>
def val_main_v42 (x3 : (⟨S8x4112, .f32⟩ : BufTy).Contents (Elt F)) : (⟨S8x4224, .f32⟩ : BufTy).Contents (Elt F) :=
  pad S8x4224 ![0, 112] ![0, 0] ![0, 0] (val_main_v37 (F := F) x3) (val_main_call2_v0 (F := F)) pads_S8x4112_S8x4224_000_11200 h_S_

-- %cst_7 = stablehlo.constant dense<0.000000e+00> : tensor<f32>
def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

-- @_pad's %0 = stablehlo.convert %arg1 : tensor<f32>, in %43 = func.call @_pad(…) (record main_call3)
def val_main_call3_v0 : (⟨S_, .f32⟩ : BufTy).Contents (Elt F) :=
  id (val_main_cst_7 (F := F))
theorem val_main_call3_v0_apply (i : S_.Idx) :
    val_main_call3_v0 (F := F) i = (val_main_cst_7 (F := F) i) := rfl

-- %43 = func.call @_pad(…) (record main_call3) result 0: @_pad's %1 = stablehlo.pad %arg0, %0, low = [0, 112], high = [0, 0], interior = [0, 0] : (tensor<8x4112xf32>, tensor<f32>) -> tensor<8x4224xf32>
def val_main_v43 (x3 : (⟨S8x4112, .f32⟩ : BufTy).Contents (Elt F)) : (⟨S8x4224, .f32⟩ : BufTy).Contents (Elt F) :=
  pad S8x4224 ![0, 112] ![0, 0] ![0, 0] (val_main_v40 (F := F) x3) (val_main_call3_v0 (F := F)) pads_S8x4112_S8x4224_000_11200 h_S_

-- %44 = stablehlo.broadcast_in_dim %41, dims = [0, 1] : (tensor<8x4224xf32>) -> tensor<8x4224x1xf32>
def val_main_v44 (x3 : (⟨S8x4112, .f32⟩ : BufTy).Contents (Elt F)) : (⟨S8x4224x1, .f32⟩ : BufTy).Contents (Elt F) :=
  broadcastInDim S8x4224x1 ![0, 1] bcast_S8x4224_S8x4224x1_0_1 (val_main_v41 (F := F) x3)
abbrev idx_main_v44 (i : S8x4224x1.Idx) : S8x4224.Idx := fun a => match a with
  | ⟨0, _⟩ => ⟨(i 0).val, (i 0).isLt⟩
  | ⟨1, _⟩ => ⟨(i 1).val, (i 1).isLt⟩
theorem val_main_v44_apply (x3 : (⟨S8x4112, .f32⟩ : BufTy).Contents (Elt F)) (i : S8x4224x1.Idx) :
    val_main_v44 (F := F) x3 i = val_main_v41 (F := F) x3 (idx_main_v44 i) := by
  unfold val_main_v44
  generalize val_main_v41 (F := F) x3 = y
  exact broadcastInDim_apply _ bcast_S8x4224_S8x4224x1_0_1 y i (idx_main_v44 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %45 = stablehlo.broadcast_in_dim %42, dims = [0, 1] : (tensor<8x4224xf32>) -> tensor<8x4224x1xf32>
def val_main_v45 (x3 : (⟨S8x4112, .f32⟩ : BufTy).Contents (Elt F)) : (⟨S8x4224x1, .f32⟩ : BufTy).Contents (Elt F) :=
  broadcastInDim S8x4224x1 ![0, 1] bcast_S8x4224_S8x4224x1_0_1 (val_main_v42 (F := F) x3)
abbrev idx_main_v45 (i : S8x4224x1.Idx) : S8x4224.Idx := fun a => match a with
  | ⟨0, _⟩ => ⟨(i 0).val, (i 0).isLt⟩
  | ⟨1, _⟩ => ⟨(i 1).val, (i 1).isLt⟩
theorem val_main_v45_apply (x3 : (⟨S8x4112, .f32⟩ : BufTy).Contents (Elt F)) (i : S8x4224x1.Idx) :
    val_main_v45 (F := F) x3 i = val_main_v42 (F := F) x3 (idx_main_v45 i) := by
  unfold val_main_v45
  generalize val_main_v42 (F := F) x3 = y
  exact broadcastInDim_apply _ bcast_S8x4224_S8x4224x1_0_1 y i (idx_main_v45 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %46 = stablehlo.broadcast_in_dim %43, dims = [0, 1] : (tensor<8x4224xf32>) -> tensor<8x4224x1xf32>
def val_main_v46 (x3 : (⟨S8x4112, .f32⟩ : BufTy).Contents (Elt F)) : (⟨S8x4224x1, .f32⟩ : BufTy).Contents (Elt F) :=
  broadcastInDim S8x4224x1 ![0, 1] bcast_S8x4224_S8x4224x1_0_1 (val_main_v43 (F := F) x3)
abbrev idx_main_v46 (i : S8x4224x1.Idx) : S8x4224.Idx := fun a => match a with
  | ⟨0, _⟩ => ⟨(i 0).val, (i 0).isLt⟩
  | ⟨1, _⟩ => ⟨(i 1).val, (i 1).isLt⟩
theorem val_main_v46_apply (x3 : (⟨S8x4112, .f32⟩ : BufTy).Contents (Elt F)) (i : S8x4224x1.Idx) :
    val_main_v46 (F := F) x3 i = val_main_v43 (F := F) x3 (idx_main_v46 i) := by
  unfold val_main_v46
  generalize val_main_v43 (F := F) x3 = y
  exact broadcastInDim_apply _ bcast_S8x4224_S8x4224x1_0_1 y i (idx_main_v46 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %47 = stablehlo.concatenate %44, %45, %46, dim = 2 : (tensor<8x4224x1xf32>, tensor<8x4224x1xf32>, tensor<8x4224x1xf32>) -> tensor<8x4224x3xf32>
def val_main_v47 (x3 : (⟨S8x4112, .f32⟩ : BufTy).Contents (Elt F)) : (⟨S8x4224x3, .f32⟩ : BufTy).Contents (Elt F) :=
  (concatenate S8x4224x3 2 [⟨S8x4224x1, ((val_main_v44 (F := F) x3) : (⟨S8x4224x1, .f32⟩ : BufTy).Contents (Elt F))⟩, ⟨S8x4224x1, ((val_main_v45 (F := F) x3) : (⟨S8x4224x1, .f32⟩ : BufTy).Contents (Elt F))⟩, ⟨S8x4224x1, ((val_main_v46 (F := F) x3) : (⟨S8x4224x1, .f32⟩ : BufTy).Contents (Elt F))⟩] concatenates_S8x4224x1_S8x4224x1_S8x4224x1_S8x4224x3_d2 : (⟨S8x4224x3, .f32⟩ : BufTy).Contents (Elt F))

-- %cst_8 = stablehlo.constant dense<0x7F800000> : tensor<f32>
def val_main_cst_8 : (⟨S_, .f32⟩ : BufTy).Contents (Elt F) :=
  constant S_ .f32 0x7F800000#32
theorem val_main_cst_8_apply (i : S_.Idx) :
    val_main_cst_8 (F := F) i = FloatOps.ofBits .f32 0x7F800000#32 := rfl

-- @_pad's %0 = stablehlo.convert %arg1 : tensor<f32>, in %48 = func.call @_pad(…) (record main_call4)
def val_main_call4_v0 : (⟨S_, .f32⟩ : BufTy).Contents (Elt F) :=
  id (val_main_cst_8 (F := F))
theorem val_main_call4_v0_apply (i : S_.Idx) :
    val_main_call4_v0 (F := F) i = (val_main_cst_8 (F := F) i) := rfl

-- %48 = func.call @_pad(…) (record main_call4) result 0: @_pad's %1 = stablehlo.pad %arg0, %0, low = [0, 112], high = [0, 0], interior = [0, 0] : (tensor<8x4112xf32>, tensor<f32>) -> tensor<8x4224xf32>
def val_main_v48 (x3 : (⟨S8x4112, .f32⟩ : BufTy).Contents (Elt F)) : (⟨S8x4224, .f32⟩ : BufTy).Contents (Elt F) :=
  pad S8x4224 ![0, 112] ![0, 0] ![0, 0] (val_main_v34 (F := F) x3) (val_main_call4_v0 (F := F)) pads_S8x4112_S8x4224_000_11200 h_S_

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- @_pad's %0 = stablehlo.convert %arg1 : tensor<f32>, in %49 = func.call @_pad(…) (record main_call5)
def val_main_call5_v0 : (⟨S_, .f32⟩ : BufTy).Contents (Elt F) :=
  id (val_main_cst_9 (F := F))
theorem val_main_call5_v0_apply (i : S_.Idx) :
    val_main_call5_v0 (F := F) i = (val_main_cst_9 (F := F) i) := rfl

-- %49 = func.call @_pad(…) (record main_call5) result 0: @_pad's %1 = stablehlo.pad %arg0, %0, low = [0, 112], high = [0, 0], interior = [0, 0] : (tensor<8x4112xf32>, tensor<f32>) -> tensor<8x4224xf32>
def val_main_v49 (x3 : (⟨S8x4112, .f32⟩ : BufTy).Contents (Elt F)) : (⟨S8x4224, .f32⟩ : BufTy).Contents (Elt F) :=
  pad S8x4224 ![0, 112] ![0, 0] ![0, 0] (val_main_v37 (F := F) x3) (val_main_call5_v0 (F := F)) pads_S8x4112_S8x4224_000_11200 h_S_

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- @_pad's %0 = stablehlo.convert %arg1 : tensor<f32>, in %50 = func.call @_pad(…) (record main_call6)
def val_main_call6_v0 : (⟨S_, .f32⟩ : BufTy).Contents (Elt F) :=
  id (val_main_cst_10 (F := F))
theorem val_main_call6_v0_apply (i : S_.Idx) :
    val_main_call6_v0 (F := F) i = (val_main_cst_10 (F := F) i) := rfl

-- %50 = func.call @_pad(…) (record main_call6) result 0: @_pad's %1 = stablehlo.pad %arg0, %0, low = [0, 112], high = [0, 0], interior = [0, 0] : (tensor<8x4112xf32>, tensor<f32>) -> tensor<8x4224xf32>
def val_main_v50 (x3 : (⟨S8x4112, .f32⟩ : BufTy).Contents (Elt F)) : (⟨S8x4224, .f32⟩ : BufTy).Contents (Elt F) :=
  pad S8x4224 ![0, 112] ![0, 0] ![0, 0] (val_main_v40 (F := F) x3) (val_main_call6_v0 (F := F)) pads_S8x4112_S8x4224_000_11200 h_S_

-- %51 = stablehlo.broadcast_in_dim %48, dims = [0, 1] : (tensor<8x4224xf32>) -> tensor<8x4224x1xf32>
def val_main_v51 (x3 : (⟨S8x4112, .f32⟩ : BufTy).Contents (Elt F)) : (⟨S8x4224x1, .f32⟩ : BufTy).Contents (Elt F) :=
  broadcastInDim S8x4224x1 ![0, 1] bcast_S8x4224_S8x4224x1_0_1 (val_main_v48 (F := F) x3)
abbrev idx_main_v51 (i : S8x4224x1.Idx) : S8x4224.Idx := fun a => match a with
  | ⟨0, _⟩ => ⟨(i 0).val, (i 0).isLt⟩
  | ⟨1, _⟩ => ⟨(i 1).val, (i 1).isLt⟩
theorem val_main_v51_apply (x3 : (⟨S8x4112, .f32⟩ : BufTy).Contents (Elt F)) (i : S8x4224x1.Idx) :
    val_main_v51 (F := F) x3 i = val_main_v48 (F := F) x3 (idx_main_v51 i) := by
  unfold val_main_v51
  generalize val_main_v48 (F := F) x3 = y
  exact broadcastInDim_apply _ bcast_S8x4224_S8x4224x1_0_1 y i (idx_main_v51 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %52 = stablehlo.broadcast_in_dim %49, dims = [0, 1] : (tensor<8x4224xf32>) -> tensor<8x4224x1xf32>
def val_main_v52 (x3 : (⟨S8x4112, .f32⟩ : BufTy).Contents (Elt F)) : (⟨S8x4224x1, .f32⟩ : BufTy).Contents (Elt F) :=
  broadcastInDim S8x4224x1 ![0, 1] bcast_S8x4224_S8x4224x1_0_1 (val_main_v49 (F := F) x3)
abbrev idx_main_v52 (i : S8x4224x1.Idx) : S8x4224.Idx := fun a => match a with
  | ⟨0, _⟩ => ⟨(i 0).val, (i 0).isLt⟩
  | ⟨1, _⟩ => ⟨(i 1).val, (i 1).isLt⟩
theorem val_main_v52_apply (x3 : (⟨S8x4112, .f32⟩ : BufTy).Contents (Elt F)) (i : S8x4224x1.Idx) :
    val_main_v52 (F := F) x3 i = val_main_v49 (F := F) x3 (idx_main_v52 i) := by
  unfold val_main_v52
  generalize val_main_v49 (F := F) x3 = y
  exact broadcastInDim_apply _ bcast_S8x4224_S8x4224x1_0_1 y i (idx_main_v52 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %53 = stablehlo.broadcast_in_dim %50, dims = [0, 1] : (tensor<8x4224xf32>) -> tensor<8x4224x1xf32>
def val_main_v53 (x3 : (⟨S8x4112, .f32⟩ : BufTy).Contents (Elt F)) : (⟨S8x4224x1, .f32⟩ : BufTy).Contents (Elt F) :=
  broadcastInDim S8x4224x1 ![0, 1] bcast_S8x4224_S8x4224x1_0_1 (val_main_v50 (F := F) x3)
abbrev idx_main_v53 (i : S8x4224x1.Idx) : S8x4224.Idx := fun a => match a with
  | ⟨0, _⟩ => ⟨(i 0).val, (i 0).isLt⟩
  | ⟨1, _⟩ => ⟨(i 1).val, (i 1).isLt⟩
theorem val_main_v53_apply (x3 : (⟨S8x4112, .f32⟩ : BufTy).Contents (Elt F)) (i : S8x4224x1.Idx) :
    val_main_v53 (F := F) x3 i = val_main_v50 (F := F) x3 (idx_main_v53 i) := by
  unfold val_main_v53
  generalize val_main_v50 (F := F) x3 = y
  exact broadcastInDim_apply _ bcast_S8x4224_S8x4224x1_0_1 y i (idx_main_v53 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %54 = stablehlo.concatenate %51, %52, %53, dim = 2 : (tensor<8x4224x1xf32>, tensor<8x4224x1xf32>, tensor<8x4224x1xf32>) -> tensor<8x4224x3xf32>
def val_main_v54 (x3 : (⟨S8x4112, .f32⟩ : BufTy).Contents (Elt F)) : (⟨S8x4224x3, .f32⟩ : BufTy).Contents (Elt F) :=
  (concatenate S8x4224x3 2 [⟨S8x4224x1, ((val_main_v51 (F := F) x3) : (⟨S8x4224x1, .f32⟩ : BufTy).Contents (Elt F))⟩, ⟨S8x4224x1, ((val_main_v52 (F := F) x3) : (⟨S8x4224x1, .f32⟩ : BufTy).Contents (Elt F))⟩, ⟨S8x4224x1, ((val_main_v53 (F := F) x3) : (⟨S8x4224x1, .f32⟩ : BufTy).Contents (Elt F))⟩] concatenates_S8x4224x1_S8x4224x1_S8x4224x1_S8x4224x3_d2 : (⟨S8x4224x3, .f32⟩ : BufTy).Contents (Elt F))

-- %55 = stablehlo.negate %28 : tensor<8x4112xf32>
def val_main_v55 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .f32⟩ : BufTy).Contents (Elt F) :=
  Host.negf (val_main_v28 (F := F) x0 x1 x2 x3 x4)
theorem val_main_v55_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v55 (F := F) x0 x1 x2 x3 x4 i = FloatOps.hostNegf (val_main_v28 (F := F) x0 x1 x2 x3 x4 i) := rfl

-- %56 = stablehlo.convert %55 : (tensor<8x4112xf32>) -> tensor<8x4112xbf16>
def val_main_v56 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .bf16⟩ : BufTy).Contents (Elt F) :=
  truncf .bf16 (val_main_v55 (F := F) x0 x1 x2 x3 x4) bitsLt_bf16_f32
theorem val_main_v56_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v56 (F := F) x0 x1 x2 x3 x4 i = FloatOps.truncf .bf16 bitsLt_bf16_f32 (val_main_v55 (F := F) x0 x1 x2 x3 x4 i) := rfl

-- %57 = stablehlo.convert %56 : (tensor<8x4112xbf16>) -> tensor<8x4112xf32>
def val_main_v57 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .f32⟩ : BufTy).Contents (Elt F) :=
  extf .f32 (val_main_v56 (F := F) x0 x1 x2 x3 x4) bitsLt_bf16_f32
theorem val_main_v57_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v57 (F := F) x0 x1 x2 x3 x4 i = FloatOps.extf .f32 bitsLt_bf16_f32 (val_main_v56 (F := F) x0 x1 x2 x3 x4 i) := rfl

-- %58 = stablehlo.subtract %55, %57 : tensor<8x4112xf32>
def val_main_v58 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .f32⟩ : BufTy).Contents (Elt F) :=
  subf (val_main_v55 (F := F) x0 x1 x2 x3 x4) (val_main_v57 (F := F) x0 x1 x2 x3 x4)
theorem val_main_v58_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v58 (F := F) x0 x1 x2 x3 x4 i = FloatOps.subf (val_main_v55 (F := F) x0 x1 x2 x3 x4 i) (val_main_v57 (F := F) x0 x1 x2 x3 x4 i) := rfl

-- %59 = stablehlo.convert %58 : (tensor<8x4112xf32>) -> tensor<8x4112xbf16>
def val_main_v59 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .bf16⟩ : BufTy).Contents (Elt F) :=
  truncf .bf16 (val_main_v58 (F := F) x0 x1 x2 x3 x4) bitsLt_bf16_f32
theorem val_main_v59_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v59 (F := F) x0 x1 x2 x3 x4 i = FloatOps.truncf .bf16 bitsLt_bf16_f32 (val_main_v58 (F := F) x0 x1 x2 x3 x4 i) := rfl

-- %60 = stablehlo.convert %59 : (tensor<8x4112xbf16>) -> tensor<8x4112xf32>
def val_main_v60 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .f32⟩ : BufTy).Contents (Elt F) :=
  extf .f32 (val_main_v59 (F := F) x0 x1 x2 x3 x4) bitsLt_bf16_f32
theorem val_main_v60_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v60 (F := F) x0 x1 x2 x3 x4 i = FloatOps.extf .f32 bitsLt_bf16_f32 (val_main_v59 (F := F) x0 x1 x2 x3 x4 i) := rfl

-- %61 = stablehlo.subtract %58, %60 : tensor<8x4112xf32>
def val_main_v61 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .f32⟩ : BufTy).Contents (Elt F) :=
  subf (val_main_v58 (F := F) x0 x1 x2 x3 x4) (val_main_v60 (F := F) x0 x1 x2 x3 x4)
theorem val_main_v61_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v61 (F := F) x0 x1 x2 x3 x4 i = FloatOps.subf (val_main_v58 (F := F) x0 x1 x2 x3 x4 i) (val_main_v60 (F := F) x0 x1 x2 x3 x4 i) := rfl

-- %62 = stablehlo.convert %61 : (tensor<8x4112xf32>) -> tensor<8x4112xbf16>
def val_main_v62 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .bf16⟩ : BufTy).Contents (Elt F) :=
  truncf .bf16 (val_main_v61 (F := F) x0 x1 x2 x3 x4) bitsLt_bf16_f32
theorem val_main_v62_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v62 (F := F) x0 x1 x2 x3 x4 i = FloatOps.truncf .bf16 bitsLt_bf16_f32 (val_main_v61 (F := F) x0 x1 x2 x3 x4 i) := rfl

-- %63 = stablehlo.convert %62 : (tensor<8x4112xbf16>) -> tensor<8x4112xf32>
def val_main_v63 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4112, .f32⟩ : BufTy).Contents (Elt F) :=
  extf .f32 (val_main_v62 (F := F) x0 x1 x2 x3 x4) bitsLt_bf16_f32
theorem val_main_v63_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4112.Idx) :
    val_main_v63 (F := F) x0 x1 x2 x3 x4 i = FloatOps.extf .f32 bitsLt_bf16_f32 (val_main_v62 (F := F) x0 x1 x2 x3 x4 i) := rfl

-- %cst_11 = stablehlo.constant dense<0.000000e+00> : tensor<f32>
def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

-- @_pad's %0 = stablehlo.convert %arg1 : tensor<f32>, in %64 = func.call @_pad(…) (record main_call7)
def val_main_call7_v0 : (⟨S_, .f32⟩ : BufTy).Contents (Elt F) :=
  id (val_main_cst_11 (F := F))
theorem val_main_call7_v0_apply (i : S_.Idx) :
    val_main_call7_v0 (F := F) i = (val_main_cst_11 (F := F) i) := rfl

-- %64 = func.call @_pad(…) (record main_call7) result 0: @_pad's %1 = stablehlo.pad %arg0, %0, low = [0, 112], high = [0, 0], interior = [0, 0] : (tensor<8x4112xf32>, tensor<f32>) -> tensor<8x4224xf32>
def val_main_v64 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224, .f32⟩ : BufTy).Contents (Elt F) :=
  pad S8x4224 ![0, 112] ![0, 0] ![0, 0] (val_main_v57 (F := F) x0 x1 x2 x3 x4) (val_main_call7_v0 (F := F)) pads_S8x4112_S8x4224_000_11200 h_S_

-- %cst_12 = stablehlo.constant dense<0.000000e+00> : tensor<f32>
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

-- @_pad's %0 = stablehlo.convert %arg1 : tensor<f32>, in %65 = func.call @_pad(…) (record main_call8)
def val_main_call8_v0 : (⟨S_, .f32⟩ : BufTy).Contents (Elt F) :=
  id (val_main_cst_12 (F := F))
theorem val_main_call8_v0_apply (i : S_.Idx) :
    val_main_call8_v0 (F := F) i = (val_main_cst_12 (F := F) i) := rfl

-- %65 = func.call @_pad(…) (record main_call8) result 0: @_pad's %1 = stablehlo.pad %arg0, %0, low = [0, 112], high = [0, 0], interior = [0, 0] : (tensor<8x4112xf32>, tensor<f32>) -> tensor<8x4224xf32>
def val_main_v65 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224, .f32⟩ : BufTy).Contents (Elt F) :=
  pad S8x4224 ![0, 112] ![0, 0] ![0, 0] (val_main_v60 (F := F) x0 x1 x2 x3 x4) (val_main_call8_v0 (F := F)) pads_S8x4112_S8x4224_000_11200 h_S_

-- %cst_13 = stablehlo.constant dense<0.000000e+00> : tensor<f32>
def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

-- @_pad's %0 = stablehlo.convert %arg1 : tensor<f32>, in %66 = func.call @_pad(…) (record main_call9)
def val_main_call9_v0 : (⟨S_, .f32⟩ : BufTy).Contents (Elt F) :=
  id (val_main_cst_13 (F := F))
theorem val_main_call9_v0_apply (i : S_.Idx) :
    val_main_call9_v0 (F := F) i = (val_main_cst_13 (F := F) i) := rfl

-- %66 = func.call @_pad(…) (record main_call9) result 0: @_pad's %1 = stablehlo.pad %arg0, %0, low = [0, 112], high = [0, 0], interior = [0, 0] : (tensor<8x4112xf32>, tensor<f32>) -> tensor<8x4224xf32>
def val_main_v66 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224, .f32⟩ : BufTy).Contents (Elt F) :=
  pad S8x4224 ![0, 112] ![0, 0] ![0, 0] (val_main_v63 (F := F) x0 x1 x2 x3 x4) (val_main_call9_v0 (F := F)) pads_S8x4112_S8x4224_000_11200 h_S_

-- %67 = stablehlo.broadcast_in_dim %64, dims = [0, 1] : (tensor<8x4224xf32>) -> tensor<8x4224x1xf32>
def val_main_v67 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x1, .f32⟩ : BufTy).Contents (Elt F) :=
  broadcastInDim S8x4224x1 ![0, 1] bcast_S8x4224_S8x4224x1_0_1 (val_main_v64 (F := F) x0 x1 x2 x3 x4)
abbrev idx_main_v67 (i : S8x4224x1.Idx) : S8x4224.Idx := fun a => match a with
  | ⟨0, _⟩ => ⟨(i 0).val, (i 0).isLt⟩
  | ⟨1, _⟩ => ⟨(i 1).val, (i 1).isLt⟩
theorem val_main_v67_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4224x1.Idx) :
    val_main_v67 (F := F) x0 x1 x2 x3 x4 i = val_main_v64 (F := F) x0 x1 x2 x3 x4 (idx_main_v67 i) := by
  unfold val_main_v67
  generalize val_main_v64 (F := F) x0 x1 x2 x3 x4 = y
  exact broadcastInDim_apply _ bcast_S8x4224_S8x4224x1_0_1 y i (idx_main_v67 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %68 = stablehlo.broadcast_in_dim %65, dims = [0, 1] : (tensor<8x4224xf32>) -> tensor<8x4224x1xf32>
def val_main_v68 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x1, .f32⟩ : BufTy).Contents (Elt F) :=
  broadcastInDim S8x4224x1 ![0, 1] bcast_S8x4224_S8x4224x1_0_1 (val_main_v65 (F := F) x0 x1 x2 x3 x4)
abbrev idx_main_v68 (i : S8x4224x1.Idx) : S8x4224.Idx := fun a => match a with
  | ⟨0, _⟩ => ⟨(i 0).val, (i 0).isLt⟩
  | ⟨1, _⟩ => ⟨(i 1).val, (i 1).isLt⟩
theorem val_main_v68_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4224x1.Idx) :
    val_main_v68 (F := F) x0 x1 x2 x3 x4 i = val_main_v65 (F := F) x0 x1 x2 x3 x4 (idx_main_v68 i) := by
  unfold val_main_v68
  generalize val_main_v65 (F := F) x0 x1 x2 x3 x4 = y
  exact broadcastInDim_apply _ bcast_S8x4224_S8x4224x1_0_1 y i (idx_main_v68 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %69 = stablehlo.broadcast_in_dim %66, dims = [0, 1] : (tensor<8x4224xf32>) -> tensor<8x4224x1xf32>
def val_main_v69 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x1, .f32⟩ : BufTy).Contents (Elt F) :=
  broadcastInDim S8x4224x1 ![0, 1] bcast_S8x4224_S8x4224x1_0_1 (val_main_v66 (F := F) x0 x1 x2 x3 x4)
abbrev idx_main_v69 (i : S8x4224x1.Idx) : S8x4224.Idx := fun a => match a with
  | ⟨0, _⟩ => ⟨(i 0).val, (i 0).isLt⟩
  | ⟨1, _⟩ => ⟨(i 1).val, (i 1).isLt⟩
theorem val_main_v69_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4224x1.Idx) :
    val_main_v69 (F := F) x0 x1 x2 x3 x4 i = val_main_v66 (F := F) x0 x1 x2 x3 x4 (idx_main_v69 i) := by
  unfold val_main_v69
  generalize val_main_v66 (F := F) x0 x1 x2 x3 x4 = y
  exact broadcastInDim_apply _ bcast_S8x4224_S8x4224x1_0_1 y i (idx_main_v69 i) (fun a => match a with
    | ⟨0, _⟩ => by show (i 0).val = if (8 : Nat) = 1 then 0 else (i 0).val; rw [if_neg (by decide)]
    | ⟨1, _⟩ => by show (i 1).val = if (4224 : Nat) = 1 then 0 else (i 1).val; rw [if_neg (by decide)])

-- %70 = stablehlo.concatenate %67, %68, %69, dim = 2 : (tensor<8x4224x1xf32>, tensor<8x4224x1xf32>, tensor<8x4224x1xf32>) -> tensor<8x4224x3xf32>
def val_main_v70 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x3, .f32⟩ : BufTy).Contents (Elt F) :=
  (concatenate S8x4224x3 2 [⟨S8x4224x1, ((val_main_v67 (F := F) x0 x1 x2 x3 x4) : (⟨S8x4224x1, .f32⟩ : BufTy).Contents (Elt F))⟩, ⟨S8x4224x1, ((val_main_v68 (F := F) x0 x1 x2 x3 x4) : (⟨S8x4224x1, .f32⟩ : BufTy).Contents (Elt F))⟩, ⟨S8x4224x1, ((val_main_v69 (F := F) x0 x1 x2 x3 x4) : (⟨S8x4224x1, .f32⟩ : BufTy).Contents (Elt F))⟩] concatenates_S8x4224x1_S8x4224x1_S8x4224x1_S8x4224x3_d2 : (⟨S8x4224x3, .f32⟩ : BufTy).Contents (Elt F))

-- %71 = stablehlo.transpose %arg0, dims = [1, 0, 2] : (tensor<4112x8x64xf32>) -> tensor<8x4112x64xf32>
def val_main_v71 (x0 : (⟨S4112x8x64, .f32⟩ : BufTy).Contents (Elt F)) : (⟨S8x4112x64, .f32⟩ : BufTy).Contents (Elt F) :=
  transpose S8x4112x64 [1, 0, 2] (x0) transposes_S4112x8x64_S8x4112x64_1_0_2
abbrev idx_main_v71 (i : S8x4112x64.Idx) : S4112x8x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v71_apply (x0 : (⟨S4112x8x64, .f32⟩ : BufTy).Contents (Elt F)) (i : S8x4112x64.Idx) :
    val_main_v71 (F := F) x0 i = x0 (idx_main_v71 i) := by
  unfold val_main_v71
  exact transpose_apply [1, 0, 2] x0 transposes_S4112x8x64_S8x4112x64_1_0_2 i (idx_main_v71 i) (fun b => match b with
    | ⟨0, _⟩ => rfl
    | ⟨1, _⟩ => rfl
    | ⟨2, _⟩ => rfl)

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- @_pad_0's %0 = stablehlo.convert %arg1 : (tensor<i32>) -> tensor<f32>, in %72 = func.call @_pad_0(…) (record main_call10)
def val_main_call10_v0 : (⟨S_, .f32⟩ : BufTy).Contents (Elt F) :=
  sitofp .f32 (val_main_c (F := F))
theorem val_main_call10_v0_apply (i : S_.Idx) :
    val_main_call10_v0 (F := F) i = FloatOps.sitofp .f32 (val_main_c (F := F) i) := rfl

-- %72 = func.call @_pad_0(…) (record main_call10) result 0: @_pad_0's %1 = stablehlo.pad %arg0, %0, low = [0, 112, 0], high = [0, 0, 0], interior = [0, 0, 0] : (tensor<8x4112x64xf32>, tensor<f32>) -> tensor<8x4224x64xf32>
def val_main_v72 (x0 : (⟨S4112x8x64, .f32⟩ : BufTy).Contents (Elt F)) : (⟨S8x4224x64, .f32⟩ : BufTy).Contents (Elt F) :=
  pad S8x4224x64 ![0, 112, 0] ![0, 0, 0] ![0, 0, 0] (val_main_v71 (F := F) x0) (val_main_call10_v0 (F := F)) pads_S8x4112x64_S8x4224x64_000_11200_000 h_S_

-- %cst_14 = stablehlo.constant dense<1.250000e-01> : tensor<f32>
def val_main_cst_14 : (⟨S_, .f32⟩ : BufTy).Contents (Elt F) :=
  constant S_ .f32 0x3E000000#32
theorem val_main_cst_14_apply (i : S_.Idx) :
    val_main_cst_14 (F := F) i = FloatOps.ofBits .f32 0x3E000000#32 := rfl

-- %73 = stablehlo.broadcast_in_dim %cst_14, dims = [] : (tensor<f32>) -> tensor<8x4224x64xf32>
def val_main_v73 : (⟨S8x4224x64, .f32⟩ : BufTy).Contents (Elt F) :=
  broadcastInDim S8x4224x64 ![] bcast_S_S8x4224x64 (val_main_cst_14 (F := F))
abbrev idx_main_v73 (i : S8x4224x64.Idx) : S_.Idx := fun a => a.elim0
theorem val_main_v73_apply (i : S8x4224x64.Idx) :
    val_main_v73 (F := F) i = val_main_cst_14 (F := F) (idx_main_v73 i) := by
  unfold val_main_v73
  generalize val_main_cst_14 (F := F) = y
  exact broadcastInDim_apply _ bcast_S_S8x4224x64 y i (idx_main_v73 i) (fun a => a.elim0)

-- %74 = stablehlo.multiply %72, %73 : tensor<8x4224x64xf32>
def val_main_v74 (x0 : (⟨S4112x8x64, .f32⟩ : BufTy).Contents (Elt F)) : (⟨S8x4224x64, .f32⟩ : BufTy).Contents (Elt F) :=
  mulf (val_main_v72 (F := F) x0) (val_main_v73 (F := F))
theorem val_main_v74_apply (x0 : (⟨S4112x8x64, .f32⟩ : BufTy).Contents (Elt F)) (i : S8x4224x64.Idx) :
    val_main_v74 (F := F) x0 i = FloatOps.mulf (val_main_v72 (F := F) x0 i) (val_main_v73 (F := F) i) := rfl

-- %75 = stablehlo.negate %32 : tensor<8x4224x3xf32>
def val_main_v75 : (⟨S8x4224x3, .f32⟩ : BufTy).Contents (Elt F) :=
  Host.negf (val_main_v32 (F := F))
theorem val_main_v75_apply (i : S8x4224x3.Idx) :
    val_main_v75 (F := F) i = FloatOps.hostNegf (val_main_v32 (F := F) i) := rfl

-- %76 = stablehlo.concatenate %75, %47, dim = 2 : (tensor<8x4224x3xf32>, tensor<8x4224x3xf32>) -> tensor<8x4224x6xf32>
def val_main_v76 (x3 : (⟨S8x4112, .f32⟩ : BufTy).Contents (Elt F)) : (⟨S8x4224x6, .f32⟩ : BufTy).Contents (Elt F) :=
  concatenate S8x4224x6 2 [⟨S8x4224x3, (val_main_v75 (F := F))⟩, ⟨S8x4224x3, (val_main_v47 (F := F) x3)⟩] concatenates_S8x4224x3_S8x4224x3_S8x4224x6_d2

-- %cst_15 = stablehlo.constant dense<0.000000e+00> : tensor<f32>
def val_main_cst_15 : (⟨S_, .f32⟩ : BufTy).Contents (Elt F) :=
  constant S_ .f32 0x00000000#32
theorem val_main_cst_15_apply (i : S_.Idx) :
    val_main_cst_15 (F := F) i = FloatOps.ofBits .f32 0x00000000#32 := rfl

-- %77 = stablehlo.broadcast_in_dim %cst_15, dims = [] : (tensor<f32>) -> tensor<8x4224x58xf32>
def val_main_v77 : (⟨S8x4224x58, .f32⟩ : BufTy).Contents (Elt F) :=
  broadcastInDim S8x4224x58 ![] bcast_S_S8x4224x58 (val_main_cst_15 (F := F))
abbrev idx_main_v77 (i : S8x4224x58.Idx) : S_.Idx := fun a => a.elim0
theorem val_main_v77_apply (i : S8x4224x58.Idx) :
    val_main_v77 (F := F) i = val_main_cst_15 (F := F) (idx_main_v77 i) := by
  unfold val_main_v77
  generalize val_main_cst_15 (F := F) = y
  exact broadcastInDim_apply _ bcast_S_S8x4224x58 y i (idx_main_v77 i) (fun a => a.elim0)

-- %78 = stablehlo.concatenate %76, %77, dim = 2 : (tensor<8x4224x6xf32>, tensor<8x4224x58xf32>) -> tensor<8x4224x64xf32>
def val_main_v78 (x3 : (⟨S8x4112, .f32⟩ : BufTy).Contents (Elt F)) : (⟨S8x4224x64, .f32⟩ : BufTy).Contents (Elt F) :=
  concatenate S8x4224x64 2 [⟨S8x4224x6, (val_main_v76 (F := F) x3)⟩, ⟨S8x4224x58, (val_main_v77 (F := F))⟩] concatenates_S8x4224x6_S8x4224x58_S8x4224x64_d2

end Cert.KernelIdeal.Host

end
-- ==== Proof.HostB.lean ====
/- The host lines before the kernel, the second half: what each operation's result is, as a function of the arguments,
   and what it reads at an index. -/
module

public import proofs.«01_k».proof.Proof.HostA
public import Idealize.ShloMosaic.Lib.Pipeline.Value
public import Idealize.ShloMosaic.Lib.ValueIdx
public import Idealize.ShloMosaic.PureOps.Ideal.Laws

@[expose] public section

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

-- %79 = stablehlo.iota dim = 0 : tensor<8xi32>
def val_main_v79 : (⟨S8, .i32⟩ : BufTy).Contents (Elt F) :=
  iotaInDim S8 32 0
theorem val_main_v79_apply (i : S8.Idx) :
    val_main_v79 (F := F) i = BitVec.ofNat 32 (i 0).val := rfl

-- %c_16 = stablehlo.constant dense<2> : tensor<i32>
def val_main_c_16 : (⟨S_, .i32⟩ : BufTy).Contents (Elt F) :=
  constantI S_ 32 2#32
theorem val_main_c_16_apply (i : S_.Idx) :
    val_main_c_16 (F := F) i = 2#32 := rfl

-- @remainder's %0 = stablehlo.convert %arg1 : tensor<i32>, in %80 = func.call @remainder(…) (record main_call11)
def val_main_call11_v0 : (⟨S_, .i32⟩ : BufTy).Contents (Elt F) :=
  id (val_main_c_16 (F := F))
theorem val_main_call11_v0_apply (i : S_.Idx) :
    val_main_call11_v0 (F := F) i = (val_main_c_16 (F := F) i) := rfl

-- @remainder's %c = stablehlo.constant dense<0> : tensor<i32>, in %80 = func.call @remainder(…) (record main_call11)
def val_main_call11_c : (⟨S_, .i32⟩ : BufTy).Contents (Elt F) :=
  constantI S_ 32 0#32
theorem val_main_call11_c_apply (i : S_.Idx) :
    val_main_call11_c (F := F) i = 0#32 := rfl

-- @remainder's %1 = stablehlo.compare EQ, %0, %c, SIGNED : (tensor<i32>, tensor<i32>) -> tensor<i1>, in %80 = func.call @remainder(…) (record main_call11)
def val_main_call11_v1 : (⟨S_, .i1⟩ : BufTy).Contents (Elt F) :=
  cmpi .eq (val_main_call11_v0 (F := F)) (val_main_call11_c (F := F))
theorem val_main_call11_v1_apply (i : S_.Idx) :
    val_main_call11_v1 (F := F) i = IntOp.cmpi .eq (val_main_call11_v0 (F := F) i) (val_main_call11_c (F := F) i) := rfl

-- @remainder's %c_0 = stablehlo.constant dense<1> : tensor<i32>, in %80 = func.call @remainder(…) (record main_call11)
def val_main_call11_c_0 : (⟨S_, .i32⟩ : BufTy).Contents (Elt F) :=
  constantI S_ 32 1#32
theorem val_main_call11_c_0_apply (i : S_.Idx) :
    val_main_call11_c_0 (F := F) i = 1#32 := rfl

-- @remainder's %2 = func.call @_where_1(…) (record main_call11_call0) result 0: @_where_1's %0 = stablehlo.select %arg0, %arg1, %arg2 : tensor<i1>, tensor<i32>
def val_main_call11_v2 : (⟨S_, .i32⟩ : BufTy).Contents (Elt F) :=
  select (val_main_call11_v1 (F := F)) (val_main_call11_c_0 (F := F)) (val_main_call11_v0 (F := F))
theorem val_main_call11_v2_apply (i : S_.Idx) :
    val_main_call11_v2 (F := F) i = Scalar.select (val_main_call11_v1 (F := F) i) (val_main_call11_c_0 (F := F) i) (val_main_call11_v0 (F := F) i) := rfl

-- @remainder's %3 = stablehlo.broadcast_in_dim %2, dims = [] : (tensor<i32>) -> tensor<8xi32>, in %80 = func.call @remainder(…) (record main_call11)
def val_main_call11_v3 : (⟨S8, .i32⟩ : BufTy).Contents (Elt F) :=
  broadcastInDim S8 ![] bcast_S_S8 (val_main_call11_v2 (F := F))
abbrev idx_main_call11_v3 (i : S8.Idx) : S_.Idx := fun a => a.elim0
theorem val_main_call11_v3_apply (i : S8.Idx) :
    val_main_call11_v3 (F := F) i = val_main_call11_v2 (F := F) (idx_main_call11_v3 i) := by
  unfold val_main_call11_v3
  generalize val_main_call11_v2 (F := F) = y
  exact broadcastInDim_apply _ bcast_S_S8 y i (idx_main_call11_v3 i) (fun a => a.elim0)

-- @remainder's %4 = stablehlo.remainder %arg0, %3 : tensor<8xi32>, in %80 = func.call @remainder(…) (record main_call11)
def val_main_call11_v4 : (⟨S8, .i32⟩ : BufTy).Contents (Elt F) :=
  Host.remsi (val_main_v79 (F := F)) (val_main_call11_v3 (F := F))
theorem val_main_call11_v4_apply (i : S8.Idx) :
    val_main_call11_v4 (F := F) i = IntOp.remsi .host (val_main_v79 (F := F) i) (val_main_call11_v3 (F := F) i) := rfl

-- @remainder's %c_1 = stablehlo.constant dense<0> : tensor<i32>, in %80 = func.call @remainder(…) (record main_call11)
def val_main_call11_c_1 : (⟨S_, .i32⟩ : BufTy).Contents (Elt F) :=
  constantI S_ 32 0#32
theorem val_main_call11_c_1_apply (i : S_.Idx) :
    val_main_call11_c_1 (F := F) i = 0#32 := rfl

-- @remainder's %5 = stablehlo.broadcast_in_dim %c_1, dims = [] : (tensor<i32>) -> tensor<8xi32>, in %80 = func.call @remainder(…) (record main_call11)
def val_main_call11_v5 : (⟨S8, .i32⟩ : BufTy).Contents (Elt F) :=
  broadcastInDim S8 ![] bcast_S_S8 (val_main_call11_c_1 (F := F))
abbrev idx_main_call11_v5 (i : S8.Idx) : S_.Idx := fun a => a.elim0
theorem val_main_call11_v5_apply (i : S8.Idx) :
    val_main_call11_v5 (F := F) i = val_main_call11_c_1 (F := F) (idx_main_call11_v5 i) := by
  unfold val_main_call11_v5
  generalize val_main_call11_c_1 (F := F) = y
  exact broadcastInDim_apply _ bcast_S_S8 y i (idx_main_call11_v5 i) (fun a => a.elim0)

-- @remainder's %6 = stablehlo.compare NE, %4, %5, SIGNED : (tensor<8xi32>, tensor<8xi32>) -> tensor<8xi1>, in %80 = func.call @remainder(…) (record main_call11)
def val_main_call11_v6 : (⟨S8, .i1⟩ : BufTy).Contents (Elt F) :=
  cmpi .ne (val_main_call11_v4 (F := F)) (val_main_call11_v5 (F := F))
theorem val_main_call11_v6_apply (i : S8.Idx) :
    val_main_call11_v6 (F := F) i = IntOp.cmpi .ne (val_main_call11_v4 (F := F) i) (val_main_call11_v5 (F := F) i) := rfl

-- @remainder's %c_2 = stablehlo.constant dense<0> : tensor<i32>, in %80 = func.call @remainder(…) (record main_call11)
def val_main_call11_c_2 : (⟨S_, .i32⟩ : BufTy).Contents (Elt F) :=
  constantI S_ 32 0#32
theorem val_main_call11_c_2_apply (i : S_.Idx) :
    val_main_call11_c_2 (F := F) i = 0#32 := rfl

-- @remainder's %7 = stablehlo.broadcast_in_dim %c_2, dims = [] : (tensor<i32>) -> tensor<8xi32>, in %80 = func.call @remainder(…) (record main_call11)
def val_main_call11_v7 : (⟨S8, .i32⟩ : BufTy).Contents (Elt F) :=
  broadcastInDim S8 ![] bcast_S_S8 (val_main_call11_c_2 (F := F))
abbrev idx_main_call11_v7 (i : S8.Idx) : S_.Idx := fun a => a.elim0
theorem val_main_call11_v7_apply (i : S8.Idx) :
    val_main_call11_v7 (F := F) i = val_main_call11_c_2 (F := F) (idx_main_call11_v7 i) := by
  unfold val_main_call11_v7
  generalize val_main_call11_c_2 (F := F) = y
  exact broadcastInDim_apply _ bcast_S_S8 y i (idx_main_call11_v7 i) (fun a => a.elim0)

-- @remainder's %8 = stablehlo.compare LT, %4, %7, SIGNED : (tensor<8xi32>, tensor<8xi32>) -> tensor<8xi1>, in %80 = func.call @remainder(…) (record main_call11)
def val_main_call11_v8 : (⟨S8, .i1⟩ : BufTy).Contents (Elt F) :=
  cmpi .slt (val_main_call11_v4 (F := F)) (val_main_call11_v7 (F := F))
theorem val_main_call11_v8_apply (i : S8.Idx) :
    val_main_call11_v8 (F := F) i = IntOp.cmpi .slt (val_main_call11_v4 (F := F) i) (val_main_call11_v7 (F := F) i) := rfl

-- @remainder's %c_3 = stablehlo.constant dense<0> : tensor<i32>, in %80 = func.call @remainder(…) (record main_call11)
def val_main_call11_c_3 : (⟨S_, .i32⟩ : BufTy).Contents (Elt F) :=
  constantI S_ 32 0#32
theorem val_main_call11_c_3_apply (i : S_.Idx) :
    val_main_call11_c_3 (F := F) i = 0#32 := rfl

-- @remainder's %9 = stablehlo.compare LT, %2, %c_3, SIGNED : (tensor<i32>, tensor<i32>) -> tensor<i1>, in %80 = func.call @remainder(…) (record main_call11)
def val_main_call11_v9 : (⟨S_, .i1⟩ : BufTy).Contents (Elt F) :=
  cmpi .slt (val_main_call11_v2 (F := F)) (val_main_call11_c_3 (F := F))
theorem val_main_call11_v9_apply (i : S_.Idx) :
    val_main_call11_v9 (F := F) i = IntOp.cmpi .slt (val_main_call11_v2 (F := F) i) (val_main_call11_c_3 (F := F) i) := rfl

-- @remainder's %10 = stablehlo.broadcast_in_dim %9, dims = [] : (tensor<i1>) -> tensor<8xi1>, in %80 = func.call @remainder(…) (record main_call11)
def val_main_call11_v10 : (⟨S8, .i1⟩ : BufTy).Contents (Elt F) :=
  broadcastInDim S8 ![] bcast_S_S8 (val_main_call11_v9 (F := F))
abbrev idx_main_call11_v10 (i : S8.Idx) : S_.Idx := fun a => a.elim0
theorem val_main_call11_v10_apply (i : S8.Idx) :
    val_main_call11_v10 (F := F) i = val_main_call11_v9 (F := F) (idx_main_call11_v10 i) := by
  unfold val_main_call11_v10
  generalize val_main_call11_v9 (F := F) = y
  exact broadcastInDim_apply _ bcast_S_S8 y i (idx_main_call11_v10 i) (fun a => a.elim0)

-- @remainder's %11 = stablehlo.compare NE, %8, %10, UNSIGNED : (tensor<8xi1>, tensor<8xi1>) -> tensor<8xi1>, in %80 = func.call @remainder(…) (record main_call11)
def val_main_call11_v11 : (⟨S8, .i1⟩ : BufTy).Contents (Elt F) :=
  cmpi .ne (val_main_call11_v8 (F := F)) (val_main_call11_v10 (F := F))
theorem val_main_call11_v11_apply (i : S8.Idx) :
    val_main_call11_v11 (F := F) i = IntOp.cmpi .ne (val_main_call11_v8 (F := F) i) (val_main_call11_v10 (F := F) i) := rfl

-- @remainder's %12 = stablehlo.and %11, %6 : tensor<8xi1>, in %80 = func.call @remainder(…) (record main_call11)
def val_main_call11_v12 : (⟨S8, .i1⟩ : BufTy).Contents (Elt F) :=
  andi (val_main_call11_v11 (F := F)) (val_main_call11_v6 (F := F))
theorem val_main_call11_v12_apply (i : S8.Idx) :
    val_main_call11_v12 (F := F) i = IntOp.andi (val_main_call11_v11 (F := F) i) (val_main_call11_v6 (F := F) i) := rfl

-- @remainder's %13 = stablehlo.broadcast_in_dim %2, dims = [] : (tensor<i32>) -> tensor<8xi32>, in %80 = func.call @remainder(…) (record main_call11)
def val_main_call11_v13 : (⟨S8, .i32⟩ : BufTy).Contents (Elt F) :=
  broadcastInDim S8 ![] bcast_S_S8 (val_main_call11_v2 (F := F))
abbrev idx_main_call11_v13 (i : S8.Idx) : S_.Idx := fun a => a.elim0
theorem val_main_call11_v13_apply (i : S8.Idx) :
    val_main_call11_v13 (F := F) i = val_main_call11_v2 (F := F) (idx_main_call11_v13 i) := by
  unfold val_main_call11_v13
  generalize val_main_call11_v2 (F := F) = y
  exact broadcastInDim_apply _ bcast_S_S8 y i (idx_main_call11_v13 i) (fun a => a.elim0)

-- @remainder's %14 = stablehlo.add %4, %13 : tensor<8xi32>, in %80 = func.call @remainder(…) (record main_call11)
def val_main_call11_v14 : (⟨S8, .i32⟩ : BufTy).Contents (Elt F) :=
  addi (val_main_call11_v4 (F := F)) (val_main_call11_v13 (F := F))
theorem val_main_call11_v14_apply (i : S8.Idx) :
    val_main_call11_v14 (F := F) i = IntOp.addi (val_main_call11_v4 (F := F) i) (val_main_call11_v13 (F := F) i) := rfl

-- %80 = func.call @remainder(…) (record main_call11) result 0: @remainder's %15 = stablehlo.select %12, %14, %4 : tensor<8xi1>, tensor<8xi32>
def val_main_v80 : (⟨S8, .i32⟩ : BufTy).Contents (Elt F) :=
  select (val_main_call11_v12 (F := F)) (val_main_call11_v14 (F := F)) (val_main_call11_v4 (F := F))
theorem val_main_v80_apply (i : S8.Idx) :
    val_main_v80 (F := F) i = Scalar.select (val_main_call11_v12 (F := F) i) (val_main_call11_v14 (F := F) i) (val_main_call11_v4 (F := F) i) := rfl

-- %c_17 = stablehlo.constant dense<1> : tensor<i32>
def val_main_c_17 : (⟨S_, .i32⟩ : BufTy).Contents (Elt F) :=
  constantI S_ 32 1#32
theorem val_main_c_17_apply (i : S_.Idx) :
    val_main_c_17 (F := F) i = 1#32 := rfl

-- %81 = stablehlo.broadcast_in_dim %c_17, dims = [] : (tensor<i32>) -> tensor<8xi32>
def val_main_v81 : (⟨S8, .i32⟩ : BufTy).Contents (Elt F) :=
  broadcastInDim S8 ![] bcast_S_S8 (val_main_c_17 (F := F))
abbrev idx_main_v81 (i : S8.Idx) : S_.Idx := fun a => a.elim0
theorem val_main_v81_apply (i : S8.Idx) :
    val_main_v81 (F := F) i = val_main_c_17 (F := F) (idx_main_v81 i) := by
  unfold val_main_v81
  generalize val_main_c_17 (F := F) = y
  exact broadcastInDim_apply _ bcast_S_S8 y i (idx_main_v81 i) (fun a => a.elim0)

-- %82 = stablehlo.compare EQ, %80, %81, SIGNED : (tensor<8xi32>, tensor<8xi32>) -> tensor<8xi1>
def val_main_v82 : (⟨S8, .i1⟩ : BufTy).Contents (Elt F) :=
  cmpi .eq (val_main_v80 (F := F)) (val_main_v81 (F := F))
theorem val_main_v82_apply (i : S8.Idx) :
    val_main_v82 (F := F) i = IntOp.cmpi .eq (val_main_v80 (F := F) i) (val_main_v81 (F := F) i) := rfl

-- %83 = stablehlo.broadcast_in_dim %82, dims = [0] : (tensor<8xi1>) -> tensor<8x1x1xi1>
def val_main_v83 : (⟨S8x1x1, .i1⟩ : BufTy).Contents (Elt F) :=
  broadcastInDim S8x1x1 ![0] bcast_S8_S8x1x1_0 (val_main_v82 (F := F))
abbrev idx_main_v83 (i : S8x1x1.Idx) : S8.Idx := fun a => match a with
  | ⟨0, _⟩ => ⟨(i 0).val, (i 0).isLt⟩
theorem val_main_v83_apply (i : S8x1x1.Idx) :
    val_main_v83 (F := F) i = val_main_v82 (F := F) (idx_main_v83 i) := by
  unfold val_main_v83
  generalize val_main_v82 (F := F) = y
  exact broadcastInDim_apply _ bcast_S8_S8x1x1_0 y i (idx_main_v83 i) (fun a => match a with
    | ⟨0, _⟩ => by show (i 0).val = if (8 : Nat) = 1 then 0 else (i 0).val; rw [if_neg (by decide)])

-- %84 = stablehlo.concatenate %78, %74, dim = 2 : (tensor<8x4224x64xf32>, tensor<8x4224x64xf32>) -> tensor<8x4224x128xf32>
def val_main_v84 (x0 : (⟨S4112x8x64, .f32⟩ : BufTy).Contents (Elt F)) (x3 : (⟨S8x4112, .f32⟩ : BufTy).Contents (Elt F)) : (⟨S8x4224x128, .f32⟩ : BufTy).Contents (Elt F) :=
  concatenate S8x4224x128 2 [⟨S8x4224x64, (val_main_v78 (F := F) x3)⟩, ⟨S8x4224x64, (val_main_v74 (F := F) x0)⟩] concatenates_S8x4224x64_S8x4224x64_S8x4224x128_d2

-- %85 = stablehlo.concatenate %74, %78, dim = 2 : (tensor<8x4224x64xf32>, tensor<8x4224x64xf32>) -> tensor<8x4224x128xf32>
def val_main_v85 (x0 : (⟨S4112x8x64, .f32⟩ : BufTy).Contents (Elt F)) (x3 : (⟨S8x4112, .f32⟩ : BufTy).Contents (Elt F)) : (⟨S8x4224x128, .f32⟩ : BufTy).Contents (Elt F) :=
  concatenate S8x4224x128 2 [⟨S8x4224x64, (val_main_v74 (F := F) x0)⟩, ⟨S8x4224x64, (val_main_v78 (F := F) x3)⟩] concatenates_S8x4224x64_S8x4224x64_S8x4224x128_d2

-- @_where_2's %0 = stablehlo.broadcast_in_dim %arg0, dims = [0, 1, 2] : (tensor<8x1x1xi1>) -> tensor<8x4224x128xi1>, in %86 = func.call @_where_2(…) (record main_call12)
def val_main_call12_v0 : (⟨S8x4224x128, .i1⟩ : BufTy).Contents (Elt F) :=
  broadcastInDim S8x4224x128 ![0, 1, 2] bcast_S8x1x1_S8x4224x128_0_1_2 (val_main_v83 (F := F))
abbrev idx_main_call12_v0 (i : S8x4224x128.Idx) : S8x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_call12_v0_apply (i : S8x4224x128.Idx) :
    val_main_call12_v0 (F := F) i = val_main_v83 (F := F) (idx_main_call12_v0 i) := by
  unfold val_main_call12_v0
  generalize val_main_v83 (F := F) = y
  exact broadcastInDim_apply _ bcast_S8x1x1_S8x4224x128_0_1_2 y i (idx_main_call12_v0 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %86 = func.call @_where_2(…) (record main_call12) result 0: @_where_2's %1 = stablehlo.select %0, %arg1, %arg2 : tensor<8x4224x128xi1>, tensor<8x4224x128xf32>
def val_main_v86 (x0 : (⟨S4112x8x64, .f32⟩ : BufTy).Contents (Elt F)) (x3 : (⟨S8x4112, .f32⟩ : BufTy).Contents (Elt F)) : (⟨S8x4224x128, .f32⟩ : BufTy).Contents (Elt F) :=
  select (val_main_call12_v0 (F := F)) (val_main_v84 (F := F) x0 x3) (val_main_v85 (F := F) x0 x3)
theorem val_main_v86_apply (x0 : (⟨S4112x8x64, .f32⟩ : BufTy).Contents (Elt F)) (x3 : (⟨S8x4112, .f32⟩ : BufTy).Contents (Elt F)) (i : S8x4224x128.Idx) :
    val_main_v86 (F := F) x0 x3 i = Scalar.select (val_main_call12_v0 (F := F) i) (val_main_v84 (F := F) x0 x3 i) (val_main_v85 (F := F) x0 x3 i) := rfl

-- %87 = stablehlo.convert %86 : (tensor<8x4224x128xf32>) -> tensor<8x4224x128xbf16>
def val_main_v87 (x0 : (⟨S4112x8x64, .f32⟩ : BufTy).Contents (Elt F)) (x3 : (⟨S8x4112, .f32⟩ : BufTy).Contents (Elt F)) : (⟨S8x4224x128, .bf16⟩ : BufTy).Contents (Elt F) :=
  truncf .bf16 (val_main_v86 (F := F) x0 x3) bitsLt_bf16_f32
theorem val_main_v87_apply (x0 : (⟨S4112x8x64, .f32⟩ : BufTy).Contents (Elt F)) (x3 : (⟨S8x4112, .f32⟩ : BufTy).Contents (Elt F)) (i : S8x4224x128.Idx) :
    val_main_v87 (F := F) x0 x3 i = FloatOps.truncf .bf16 bitsLt_bf16_f32 (val_main_v86 (F := F) x0 x3 i) := rfl

-- %88 = stablehlo.transpose %arg1, dims = [1, 0, 2] : (tensor<4112x8x64xf32>) -> tensor<8x4112x64xf32>
def val_main_v88 (x1 : (⟨S4112x8x64, .f32⟩ : BufTy).Contents (Elt F)) : (⟨S8x4112x64, .f32⟩ : BufTy).Contents (Elt F) :=
  transpose S8x4112x64 [1, 0, 2] (x1) transposes_S4112x8x64_S8x4112x64_1_0_2
abbrev idx_main_v88 (i : S8x4112x64.Idx) : S4112x8x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v88_apply (x1 : (⟨S4112x8x64, .f32⟩ : BufTy).Contents (Elt F)) (i : S8x4112x64.Idx) :
    val_main_v88 (F := F) x1 i = x1 (idx_main_v88 i) := by
  unfold val_main_v88
  exact transpose_apply [1, 0, 2] x1 transposes_S4112x8x64_S8x4112x64_1_0_2 i (idx_main_v88 i) (fun b => match b with
    | ⟨0, _⟩ => rfl
    | ⟨1, _⟩ => rfl
    | ⟨2, _⟩ => rfl)

-- %c_18 = stablehlo.constant dense<0> : tensor<i32>
def val_main_c_18 : (⟨S_, .i32⟩ : BufTy).Contents (Elt F) :=
  constantI S_ 32 0#32
theorem val_main_c_18_apply (i : S_.Idx) :
    val_main_c_18 (F := F) i = 0#32 := rfl

-- @_pad_0's %0 = stablehlo.convert %arg1 : (tensor<i32>) -> tensor<f32>, in %89 = func.call @_pad_0(…) (record main_call13)
def val_main_call13_v0 : (⟨S_, .f32⟩ : BufTy).Contents (Elt F) :=
  sitofp .f32 (val_main_c_18 (F := F))
theorem val_main_call13_v0_apply (i : S_.Idx) :
    val_main_call13_v0 (F := F) i = FloatOps.sitofp .f32 (val_main_c_18 (F := F) i) := rfl

-- %89 = func.call @_pad_0(…) (record main_call13) result 0: @_pad_0's %1 = stablehlo.pad %arg0, %0, low = [0, 112, 0], high = [0, 0, 0], interior = [0, 0, 0] : (tensor<8x4112x64xf32>, tensor<f32>) -> tensor<8x4224x64xf32>
def val_main_v89 (x1 : (⟨S4112x8x64, .f32⟩ : BufTy).Contents (Elt F)) : (⟨S8x4224x64, .f32⟩ : BufTy).Contents (Elt F) :=
  pad S8x4224x64 ![0, 112, 0] ![0, 0, 0] ![0, 0, 0] (val_main_v88 (F := F) x1) (val_main_call13_v0 (F := F)) pads_S8x4112x64_S8x4224x64_000_11200_000 h_S_

-- %90 = stablehlo.concatenate %54, %32, dim = 2 : (tensor<8x4224x3xf32>, tensor<8x4224x3xf32>) -> tensor<8x4224x6xf32>
def val_main_v90 (x3 : (⟨S8x4112, .f32⟩ : BufTy).Contents (Elt F)) : (⟨S8x4224x6, .f32⟩ : BufTy).Contents (Elt F) :=
  concatenate S8x4224x6 2 [⟨S8x4224x3, (val_main_v54 (F := F) x3)⟩, ⟨S8x4224x3, (val_main_v32 (F := F))⟩] concatenates_S8x4224x3_S8x4224x3_S8x4224x6_d2

-- %cst_19 = stablehlo.constant dense<0.000000e+00> : tensor<f32>
def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

-- %91 = stablehlo.broadcast_in_dim %cst_19, dims = [] : (tensor<f32>) -> tensor<8x4224x58xf32>
def val_main_v91 : (⟨S8x4224x58, .f32⟩ : BufTy).Contents (Elt F) :=
  broadcastInDim S8x4224x58 ![] bcast_S_S8x4224x58 (val_main_cst_19 (F := F))
abbrev idx_main_v91 (i : S8x4224x58.Idx) : S_.Idx := fun a => a.elim0
theorem val_main_v91_apply (i : S8x4224x58.Idx) :
    val_main_v91 (F := F) i = val_main_cst_19 (F := F) (idx_main_v91 i) := by
  unfold val_main_v91
  generalize val_main_cst_19 (F := F) = y
  exact broadcastInDim_apply _ bcast_S_S8x4224x58 y i (idx_main_v91 i) (fun a => a.elim0)

-- %92 = stablehlo.concatenate %90, %91, dim = 2 : (tensor<8x4224x6xf32>, tensor<8x4224x58xf32>) -> tensor<8x4224x64xf32>
def val_main_v92 (x3 : (⟨S8x4112, .f32⟩ : BufTy).Contents (Elt F)) : (⟨S8x4224x64, .f32⟩ : BufTy).Contents (Elt F) :=
  concatenate S8x4224x64 2 [⟨S8x4224x6, (val_main_v90 (F := F) x3)⟩, ⟨S8x4224x58, (val_main_v91 (F := F))⟩] concatenates_S8x4224x6_S8x4224x58_S8x4224x64_d2

-- %93 = stablehlo.iota dim = 0 : tensor<8xi32>
def val_main_v93 : (⟨S8, .i32⟩ : BufTy).Contents (Elt F) :=
  iotaInDim S8 32 0
theorem val_main_v93_apply (i : S8.Idx) :
    val_main_v93 (F := F) i = BitVec.ofNat 32 (i 0).val := rfl

-- %c_20 = stablehlo.constant dense<2> : tensor<i32>
def val_main_c_20 : (⟨S_, .i32⟩ : BufTy).Contents (Elt F) :=
  constantI S_ 32 2#32
theorem val_main_c_20_apply (i : S_.Idx) :
    val_main_c_20 (F := F) i = 2#32 := rfl

-- @remainder's %0 = stablehlo.convert %arg1 : tensor<i32>, in %94 = func.call @remainder(…) (record main_call14)
def val_main_call14_v0 : (⟨S_, .i32⟩ : BufTy).Contents (Elt F) :=
  id (val_main_c_20 (F := F))
theorem val_main_call14_v0_apply (i : S_.Idx) :
    val_main_call14_v0 (F := F) i = (val_main_c_20 (F := F) i) := rfl

-- @remainder's %c = stablehlo.constant dense<0> : tensor<i32>, in %94 = func.call @remainder(…) (record main_call14)
def val_main_call14_c : (⟨S_, .i32⟩ : BufTy).Contents (Elt F) :=
  constantI S_ 32 0#32
theorem val_main_call14_c_apply (i : S_.Idx) :
    val_main_call14_c (F := F) i = 0#32 := rfl

-- @remainder's %1 = stablehlo.compare EQ, %0, %c, SIGNED : (tensor<i32>, tensor<i32>) -> tensor<i1>, in %94 = func.call @remainder(…) (record main_call14)
def val_main_call14_v1 : (⟨S_, .i1⟩ : BufTy).Contents (Elt F) :=
  cmpi .eq (val_main_call14_v0 (F := F)) (val_main_call14_c (F := F))
theorem val_main_call14_v1_apply (i : S_.Idx) :
    val_main_call14_v1 (F := F) i = IntOp.cmpi .eq (val_main_call14_v0 (F := F) i) (val_main_call14_c (F := F) i) := rfl

-- @remainder's %c_0 = stablehlo.constant dense<1> : tensor<i32>, in %94 = func.call @remainder(…) (record main_call14)
def val_main_call14_c_0 : (⟨S_, .i32⟩ : BufTy).Contents (Elt F) :=
  constantI S_ 32 1#32
theorem val_main_call14_c_0_apply (i : S_.Idx) :
    val_main_call14_c_0 (F := F) i = 1#32 := rfl

-- @remainder's %2 = func.call @_where_1(…) (record main_call14_call0) result 0: @_where_1's %0 = stablehlo.select %arg0, %arg1, %arg2 : tensor<i1>, tensor<i32>
def val_main_call14_v2 : (⟨S_, .i32⟩ : BufTy).Contents (Elt F) :=
  select (val_main_call14_v1 (F := F)) (val_main_call14_c_0 (F := F)) (val_main_call14_v0 (F := F))
theorem val_main_call14_v2_apply (i : S_.Idx) :
    val_main_call14_v2 (F := F) i = Scalar.select (val_main_call14_v1 (F := F) i) (val_main_call14_c_0 (F := F) i) (val_main_call14_v0 (F := F) i) := rfl

-- @remainder's %3 = stablehlo.broadcast_in_dim %2, dims = [] : (tensor<i32>) -> tensor<8xi32>, in %94 = func.call @remainder(…) (record main_call14)
def val_main_call14_v3 : (⟨S8, .i32⟩ : BufTy).Contents (Elt F) :=
  broadcastInDim S8 ![] bcast_S_S8 (val_main_call14_v2 (F := F))
abbrev idx_main_call14_v3 (i : S8.Idx) : S_.Idx := fun a => a.elim0
theorem val_main_call14_v3_apply (i : S8.Idx) :
    val_main_call14_v3 (F := F) i = val_main_call14_v2 (F := F) (idx_main_call14_v3 i) := by
  unfold val_main_call14_v3
  generalize val_main_call14_v2 (F := F) = y
  exact broadcastInDim_apply _ bcast_S_S8 y i (idx_main_call14_v3 i) (fun a => a.elim0)

-- @remainder's %4 = stablehlo.remainder %arg0, %3 : tensor<8xi32>, in %94 = func.call @remainder(…) (record main_call14)
def val_main_call14_v4 : (⟨S8, .i32⟩ : BufTy).Contents (Elt F) :=
  Host.remsi (val_main_v93 (F := F)) (val_main_call14_v3 (F := F))
theorem val_main_call14_v4_apply (i : S8.Idx) :
    val_main_call14_v4 (F := F) i = IntOp.remsi .host (val_main_v93 (F := F) i) (val_main_call14_v3 (F := F) i) := rfl

-- @remainder's %c_1 = stablehlo.constant dense<0> : tensor<i32>, in %94 = func.call @remainder(…) (record main_call14)
def val_main_call14_c_1 : (⟨S_, .i32⟩ : BufTy).Contents (Elt F) :=
  constantI S_ 32 0#32
theorem val_main_call14_c_1_apply (i : S_.Idx) :
    val_main_call14_c_1 (F := F) i = 0#32 := rfl

-- @remainder's %5 = stablehlo.broadcast_in_dim %c_1, dims = [] : (tensor<i32>) -> tensor<8xi32>, in %94 = func.call @remainder(…) (record main_call14)
def val_main_call14_v5 : (⟨S8, .i32⟩ : BufTy).Contents (Elt F) :=
  broadcastInDim S8 ![] bcast_S_S8 (val_main_call14_c_1 (F := F))
abbrev idx_main_call14_v5 (i : S8.Idx) : S_.Idx := fun a => a.elim0
theorem val_main_call14_v5_apply (i : S8.Idx) :
    val_main_call14_v5 (F := F) i = val_main_call14_c_1 (F := F) (idx_main_call14_v5 i) := by
  unfold val_main_call14_v5
  generalize val_main_call14_c_1 (F := F) = y
  exact broadcastInDim_apply _ bcast_S_S8 y i (idx_main_call14_v5 i) (fun a => a.elim0)

-- @remainder's %6 = stablehlo.compare NE, %4, %5, SIGNED : (tensor<8xi32>, tensor<8xi32>) -> tensor<8xi1>, in %94 = func.call @remainder(…) (record main_call14)
def val_main_call14_v6 : (⟨S8, .i1⟩ : BufTy).Contents (Elt F) :=
  cmpi .ne (val_main_call14_v4 (F := F)) (val_main_call14_v5 (F := F))
theorem val_main_call14_v6_apply (i : S8.Idx) :
    val_main_call14_v6 (F := F) i = IntOp.cmpi .ne (val_main_call14_v4 (F := F) i) (val_main_call14_v5 (F := F) i) := rfl

-- @remainder's %c_2 = stablehlo.constant dense<0> : tensor<i32>, in %94 = func.call @remainder(…) (record main_call14)
def val_main_call14_c_2 : (⟨S_, .i32⟩ : BufTy).Contents (Elt F) :=
  constantI S_ 32 0#32
theorem val_main_call14_c_2_apply (i : S_.Idx) :
    val_main_call14_c_2 (F := F) i = 0#32 := rfl

-- @remainder's %7 = stablehlo.broadcast_in_dim %c_2, dims = [] : (tensor<i32>) -> tensor<8xi32>, in %94 = func.call @remainder(…) (record main_call14)
def val_main_call14_v7 : (⟨S8, .i32⟩ : BufTy).Contents (Elt F) :=
  broadcastInDim S8 ![] bcast_S_S8 (val_main_call14_c_2 (F := F))
abbrev idx_main_call14_v7 (i : S8.Idx) : S_.Idx := fun a => a.elim0
theorem val_main_call14_v7_apply (i : S8.Idx) :
    val_main_call14_v7 (F := F) i = val_main_call14_c_2 (F := F) (idx_main_call14_v7 i) := by
  unfold val_main_call14_v7
  generalize val_main_call14_c_2 (F := F) = y
  exact broadcastInDim_apply _ bcast_S_S8 y i (idx_main_call14_v7 i) (fun a => a.elim0)

-- @remainder's %8 = stablehlo.compare LT, %4, %7, SIGNED : (tensor<8xi32>, tensor<8xi32>) -> tensor<8xi1>, in %94 = func.call @remainder(…) (record main_call14)
def val_main_call14_v8 : (⟨S8, .i1⟩ : BufTy).Contents (Elt F) :=
  cmpi .slt (val_main_call14_v4 (F := F)) (val_main_call14_v7 (F := F))
theorem val_main_call14_v8_apply (i : S8.Idx) :
    val_main_call14_v8 (F := F) i = IntOp.cmpi .slt (val_main_call14_v4 (F := F) i) (val_main_call14_v7 (F := F) i) := rfl

-- @remainder's %c_3 = stablehlo.constant dense<0> : tensor<i32>, in %94 = func.call @remainder(…) (record main_call14)
def val_main_call14_c_3 : (⟨S_, .i32⟩ : BufTy).Contents (Elt F) :=
  constantI S_ 32 0#32
theorem val_main_call14_c_3_apply (i : S_.Idx) :
    val_main_call14_c_3 (F := F) i = 0#32 := rfl

-- @remainder's %9 = stablehlo.compare LT, %2, %c_3, SIGNED : (tensor<i32>, tensor<i32>) -> tensor<i1>, in %94 = func.call @remainder(…) (record main_call14)
def val_main_call14_v9 : (⟨S_, .i1⟩ : BufTy).Contents (Elt F) :=
  cmpi .slt (val_main_call14_v2 (F := F)) (val_main_call14_c_3 (F := F))
theorem val_main_call14_v9_apply (i : S_.Idx) :
    val_main_call14_v9 (F := F) i = IntOp.cmpi .slt (val_main_call14_v2 (F := F) i) (val_main_call14_c_3 (F := F) i) := rfl

-- @remainder's %10 = stablehlo.broadcast_in_dim %9, dims = [] : (tensor<i1>) -> tensor<8xi1>, in %94 = func.call @remainder(…) (record main_call14)
def val_main_call14_v10 : (⟨S8, .i1⟩ : BufTy).Contents (Elt F) :=
  broadcastInDim S8 ![] bcast_S_S8 (val_main_call14_v9 (F := F))
abbrev idx_main_call14_v10 (i : S8.Idx) : S_.Idx := fun a => a.elim0
theorem val_main_call14_v10_apply (i : S8.Idx) :
    val_main_call14_v10 (F := F) i = val_main_call14_v9 (F := F) (idx_main_call14_v10 i) := by
  unfold val_main_call14_v10
  generalize val_main_call14_v9 (F := F) = y
  exact broadcastInDim_apply _ bcast_S_S8 y i (idx_main_call14_v10 i) (fun a => a.elim0)

-- @remainder's %11 = stablehlo.compare NE, %8, %10, UNSIGNED : (tensor<8xi1>, tensor<8xi1>) -> tensor<8xi1>, in %94 = func.call @remainder(…) (record main_call14)
def val_main_call14_v11 : (⟨S8, .i1⟩ : BufTy).Contents (Elt F) :=
  cmpi .ne (val_main_call14_v8 (F := F)) (val_main_call14_v10 (F := F))
theorem val_main_call14_v11_apply (i : S8.Idx) :
    val_main_call14_v11 (F := F) i = IntOp.cmpi .ne (val_main_call14_v8 (F := F) i) (val_main_call14_v10 (F := F) i) := rfl

-- @remainder's %12 = stablehlo.and %11, %6 : tensor<8xi1>, in %94 = func.call @remainder(…) (record main_call14)
def val_main_call14_v12 : (⟨S8, .i1⟩ : BufTy).Contents (Elt F) :=
  andi (val_main_call14_v11 (F := F)) (val_main_call14_v6 (F := F))
theorem val_main_call14_v12_apply (i : S8.Idx) :
    val_main_call14_v12 (F := F) i = IntOp.andi (val_main_call14_v11 (F := F) i) (val_main_call14_v6 (F := F) i) := rfl

-- @remainder's %13 = stablehlo.broadcast_in_dim %2, dims = [] : (tensor<i32>) -> tensor<8xi32>, in %94 = func.call @remainder(…) (record main_call14)
def val_main_call14_v13 : (⟨S8, .i32⟩ : BufTy).Contents (Elt F) :=
  broadcastInDim S8 ![] bcast_S_S8 (val_main_call14_v2 (F := F))
abbrev idx_main_call14_v13 (i : S8.Idx) : S_.Idx := fun a => a.elim0
theorem val_main_call14_v13_apply (i : S8.Idx) :
    val_main_call14_v13 (F := F) i = val_main_call14_v2 (F := F) (idx_main_call14_v13 i) := by
  unfold val_main_call14_v13
  generalize val_main_call14_v2 (F := F) = y
  exact broadcastInDim_apply _ bcast_S_S8 y i (idx_main_call14_v13 i) (fun a => a.elim0)

-- @remainder's %14 = stablehlo.add %4, %13 : tensor<8xi32>, in %94 = func.call @remainder(…) (record main_call14)
def val_main_call14_v14 : (⟨S8, .i32⟩ : BufTy).Contents (Elt F) :=
  addi (val_main_call14_v4 (F := F)) (val_main_call14_v13 (F := F))
theorem val_main_call14_v14_apply (i : S8.Idx) :
    val_main_call14_v14 (F := F) i = IntOp.addi (val_main_call14_v4 (F := F) i) (val_main_call14_v13 (F := F) i) := rfl

-- %94 = func.call @remainder(…) (record main_call14) result 0: @remainder's %15 = stablehlo.select %12, %14, %4 : tensor<8xi1>, tensor<8xi32>
def val_main_v94 : (⟨S8, .i32⟩ : BufTy).Contents (Elt F) :=
  select (val_main_call14_v12 (F := F)) (val_main_call14_v14 (F := F)) (val_main_call14_v4 (F := F))
theorem val_main_v94_apply (i : S8.Idx) :
    val_main_v94 (F := F) i = Scalar.select (val_main_call14_v12 (F := F) i) (val_main_call14_v14 (F := F) i) (val_main_call14_v4 (F := F) i) := rfl

-- %c_21 = stablehlo.constant dense<1> : tensor<i32>
def val_main_c_21 : (⟨S_, .i32⟩ : BufTy).Contents (Elt F) :=
  constantI S_ 32 1#32
theorem val_main_c_21_apply (i : S_.Idx) :
    val_main_c_21 (F := F) i = 1#32 := rfl

-- %95 = stablehlo.broadcast_in_dim %c_21, dims = [] : (tensor<i32>) -> tensor<8xi32>
def val_main_v95 : (⟨S8, .i32⟩ : BufTy).Contents (Elt F) :=
  broadcastInDim S8 ![] bcast_S_S8 (val_main_c_21 (F := F))
abbrev idx_main_v95 (i : S8.Idx) : S_.Idx := fun a => a.elim0
theorem val_main_v95_apply (i : S8.Idx) :
    val_main_v95 (F := F) i = val_main_c_21 (F := F) (idx_main_v95 i) := by
  unfold val_main_v95
  generalize val_main_c_21 (F := F) = y
  exact broadcastInDim_apply _ bcast_S_S8 y i (idx_main_v95 i) (fun a => a.elim0)

-- %96 = stablehlo.compare EQ, %94, %95, SIGNED : (tensor<8xi32>, tensor<8xi32>) -> tensor<8xi1>
def val_main_v96 : (⟨S8, .i1⟩ : BufTy).Contents (Elt F) :=
  cmpi .eq (val_main_v94 (F := F)) (val_main_v95 (F := F))
theorem val_main_v96_apply (i : S8.Idx) :
    val_main_v96 (F := F) i = IntOp.cmpi .eq (val_main_v94 (F := F) i) (val_main_v95 (F := F) i) := rfl

-- %97 = stablehlo.broadcast_in_dim %96, dims = [0] : (tensor<8xi1>) -> tensor<8x1x1xi1>
def val_main_v97 : (⟨S8x1x1, .i1⟩ : BufTy).Contents (Elt F) :=
  broadcastInDim S8x1x1 ![0] bcast_S8_S8x1x1_0 (val_main_v96 (F := F))
abbrev idx_main_v97 (i : S8x1x1.Idx) : S8.Idx := fun a => match a with
  | ⟨0, _⟩ => ⟨(i 0).val, (i 0).isLt⟩
theorem val_main_v97_apply (i : S8x1x1.Idx) :
    val_main_v97 (F := F) i = val_main_v96 (F := F) (idx_main_v97 i) := by
  unfold val_main_v97
  generalize val_main_v96 (F := F) = y
  exact broadcastInDim_apply _ bcast_S8_S8x1x1_0 y i (idx_main_v97 i) (fun a => match a with
    | ⟨0, _⟩ => by show (i 0).val = if (8 : Nat) = 1 then 0 else (i 0).val; rw [if_neg (by decide)])

-- %98 = stablehlo.concatenate %92, %89, dim = 2 : (tensor<8x4224x64xf32>, tensor<8x4224x64xf32>) -> tensor<8x4224x128xf32>
def val_main_v98 (x1 : (⟨S4112x8x64, .f32⟩ : BufTy).Contents (Elt F)) (x3 : (⟨S8x4112, .f32⟩ : BufTy).Contents (Elt F)) : (⟨S8x4224x128, .f32⟩ : BufTy).Contents (Elt F) :=
  concatenate S8x4224x128 2 [⟨S8x4224x64, (val_main_v92 (F := F) x3)⟩, ⟨S8x4224x64, (val_main_v89 (F := F) x1)⟩] concatenates_S8x4224x64_S8x4224x64_S8x4224x128_d2

-- %99 = stablehlo.concatenate %89, %92, dim = 2 : (tensor<8x4224x64xf32>, tensor<8x4224x64xf32>) -> tensor<8x4224x128xf32>
def val_main_v99 (x1 : (⟨S4112x8x64, .f32⟩ : BufTy).Contents (Elt F)) (x3 : (⟨S8x4112, .f32⟩ : BufTy).Contents (Elt F)) : (⟨S8x4224x128, .f32⟩ : BufTy).Contents (Elt F) :=
  concatenate S8x4224x128 2 [⟨S8x4224x64, (val_main_v89 (F := F) x1)⟩, ⟨S8x4224x64, (val_main_v92 (F := F) x3)⟩] concatenates_S8x4224x64_S8x4224x64_S8x4224x128_d2

-- @_where_2's %0 = stablehlo.broadcast_in_dim %arg0, dims = [0, 1, 2] : (tensor<8x1x1xi1>) -> tensor<8x4224x128xi1>, in %100 = func.call @_where_2(…) (record main_call15)
def val_main_call15_v0 : (⟨S8x4224x128, .i1⟩ : BufTy).Contents (Elt F) :=
  broadcastInDim S8x4224x128 ![0, 1, 2] bcast_S8x1x1_S8x4224x128_0_1_2 (val_main_v97 (F := F))
abbrev idx_main_call15_v0 (i : S8x4224x128.Idx) : S8x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_call15_v0_apply (i : S8x4224x128.Idx) :
    val_main_call15_v0 (F := F) i = val_main_v97 (F := F) (idx_main_call15_v0 i) := by
  unfold val_main_call15_v0
  generalize val_main_v97 (F := F) = y
  exact broadcastInDim_apply _ bcast_S8x1x1_S8x4224x128_0_1_2 y i (idx_main_call15_v0 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %100 = func.call @_where_2(…) (record main_call15) result 0: @_where_2's %1 = stablehlo.select %0, %arg1, %arg2 : tensor<8x4224x128xi1>, tensor<8x4224x128xf32>
def val_main_v100 (x1 : (⟨S4112x8x64, .f32⟩ : BufTy).Contents (Elt F)) (x3 : (⟨S8x4112, .f32⟩ : BufTy).Contents (Elt F)) : (⟨S8x4224x128, .f32⟩ : BufTy).Contents (Elt F) :=
  select (val_main_call15_v0 (F := F)) (val_main_v98 (F := F) x1 x3) (val_main_v99 (F := F) x1 x3)
theorem val_main_v100_apply (x1 : (⟨S4112x8x64, .f32⟩ : BufTy).Contents (Elt F)) (x3 : (⟨S8x4112, .f32⟩ : BufTy).Contents (Elt F)) (i : S8x4224x128.Idx) :
    val_main_v100 (F := F) x1 x3 i = Scalar.select (val_main_call15_v0 (F := F) i) (val_main_v98 (F := F) x1 x3 i) (val_main_v99 (F := F) x1 x3 i) := rfl

-- %101 = stablehlo.convert %100 : (tensor<8x4224x128xf32>) -> tensor<8x4224x128xbf16>
def val_main_v101 (x1 : (⟨S4112x8x64, .f32⟩ : BufTy).Contents (Elt F)) (x3 : (⟨S8x4112, .f32⟩ : BufTy).Contents (Elt F)) : (⟨S8x4224x128, .bf16⟩ : BufTy).Contents (Elt F) :=
  truncf .bf16 (val_main_v100 (F := F) x1 x3) bitsLt_bf16_f32
theorem val_main_v101_apply (x1 : (⟨S4112x8x64, .f32⟩ : BufTy).Contents (Elt F)) (x3 : (⟨S8x4112, .f32⟩ : BufTy).Contents (Elt F)) (i : S8x4224x128.Idx) :
    val_main_v101 (F := F) x1 x3 i = FloatOps.truncf .bf16 bitsLt_bf16_f32 (val_main_v100 (F := F) x1 x3 i) := rfl

-- %102 = stablehlo.transpose %arg2, dims = [1, 0, 2] : (tensor<4112x8x64xf32>) -> tensor<8x4112x64xf32>
def val_main_v102 (x2 : (⟨S4112x8x64, .f32⟩ : BufTy).Contents (Elt F)) : (⟨S8x4112x64, .f32⟩ : BufTy).Contents (Elt F) :=
  transpose S8x4112x64 [1, 0, 2] (x2) transposes_S4112x8x64_S8x4112x64_1_0_2
abbrev idx_main_v102 (i : S8x4112x64.Idx) : S4112x8x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v102_apply (x2 : (⟨S4112x8x64, .f32⟩ : BufTy).Contents (Elt F)) (i : S8x4112x64.Idx) :
    val_main_v102 (F := F) x2 i = x2 (idx_main_v102 i) := by
  unfold val_main_v102
  exact transpose_apply [1, 0, 2] x2 transposes_S4112x8x64_S8x4112x64_1_0_2 i (idx_main_v102 i) (fun b => match b with
    | ⟨0, _⟩ => rfl
    | ⟨1, _⟩ => rfl
    | ⟨2, _⟩ => rfl)

-- %c_22 = stablehlo.constant dense<0> : tensor<i32>
def val_main_c_22 : (⟨S_, .i32⟩ : BufTy).Contents (Elt F) :=
  constantI S_ 32 0#32
theorem val_main_c_22_apply (i : S_.Idx) :
    val_main_c_22 (F := F) i = 0#32 := rfl

-- @_pad_0's %0 = stablehlo.convert %arg1 : (tensor<i32>) -> tensor<f32>, in %103 = func.call @_pad_0(…) (record main_call16)
def val_main_call16_v0 : (⟨S_, .f32⟩ : BufTy).Contents (Elt F) :=
  sitofp .f32 (val_main_c_22 (F := F))
theorem val_main_call16_v0_apply (i : S_.Idx) :
    val_main_call16_v0 (F := F) i = FloatOps.sitofp .f32 (val_main_c_22 (F := F) i) := rfl

-- %103 = func.call @_pad_0(…) (record main_call16) result 0: @_pad_0's %1 = stablehlo.pad %arg0, %0, low = [0, 112, 0], high = [0, 0, 0], interior = [0, 0, 0] : (tensor<8x4112x64xf32>, tensor<f32>) -> tensor<8x4224x64xf32>
def val_main_v103 (x2 : (⟨S4112x8x64, .f32⟩ : BufTy).Contents (Elt F)) : (⟨S8x4224x64, .f32⟩ : BufTy).Contents (Elt F) :=
  pad S8x4224x64 ![0, 112, 0] ![0, 0, 0] ![0, 0, 0] (val_main_v102 (F := F) x2) (val_main_call16_v0 (F := F)) pads_S8x4112x64_S8x4224x64_000_11200_000 h_S_

-- %cst_23 = stablehlo.constant dense<0.000000e+00> : tensor<f32>
def val_main_cst_23 : (⟨S_, .f32⟩ : BufTy).Contents (Elt F) :=
  constant S_ .f32 0x00000000#32
theorem val_main_cst_23_apply (i : S_.Idx) :
    val_main_cst_23 (F := F) i = FloatOps.ofBits .f32 0x00000000#32 := rfl

-- %104 = stablehlo.broadcast_in_dim %cst_23, dims = [] : (tensor<f32>) -> tensor<8x4224x61xf32>
def val_main_v104 : (⟨S8x4224x61, .f32⟩ : BufTy).Contents (Elt F) :=
  broadcastInDim S8x4224x61 ![] bcast_S_S8x4224x61 (val_main_cst_23 (F := F))
abbrev idx_main_v104 (i : S8x4224x61.Idx) : S_.Idx := fun a => a.elim0
theorem val_main_v104_apply (i : S8x4224x61.Idx) :
    val_main_v104 (F := F) i = val_main_cst_23 (F := F) (idx_main_v104 i) := by
  unfold val_main_v104
  generalize val_main_cst_23 (F := F) = y
  exact broadcastInDim_apply _ bcast_S_S8x4224x61 y i (idx_main_v104 i) (fun a => a.elim0)

-- %105 = stablehlo.concatenate %32, %104, dim = 2 : (tensor<8x4224x3xf32>, tensor<8x4224x61xf32>) -> tensor<8x4224x64xf32>
def val_main_v105 : (⟨S8x4224x64, .f32⟩ : BufTy).Contents (Elt F) :=
  concatenate S8x4224x64 2 [⟨S8x4224x3, (val_main_v32 (F := F))⟩, ⟨S8x4224x61, (val_main_v104 (F := F))⟩] concatenates_S8x4224x3_S8x4224x61_S8x4224x64_d2

-- %106 = stablehlo.iota dim = 0 : tensor<8xi32>
def val_main_v106 : (⟨S8, .i32⟩ : BufTy).Contents (Elt F) :=
  iotaInDim S8 32 0
theorem val_main_v106_apply (i : S8.Idx) :
    val_main_v106 (F := F) i = BitVec.ofNat 32 (i 0).val := rfl

-- %c_24 = stablehlo.constant dense<2> : tensor<i32>
def val_main_c_24 : (⟨S_, .i32⟩ : BufTy).Contents (Elt F) :=
  constantI S_ 32 2#32
theorem val_main_c_24_apply (i : S_.Idx) :
    val_main_c_24 (F := F) i = 2#32 := rfl

-- @remainder's %0 = stablehlo.convert %arg1 : tensor<i32>, in %107 = func.call @remainder(…) (record main_call17)
def val_main_call17_v0 : (⟨S_, .i32⟩ : BufTy).Contents (Elt F) :=
  id (val_main_c_24 (F := F))
theorem val_main_call17_v0_apply (i : S_.Idx) :
    val_main_call17_v0 (F := F) i = (val_main_c_24 (F := F) i) := rfl

-- @remainder's %c = stablehlo.constant dense<0> : tensor<i32>, in %107 = func.call @remainder(…) (record main_call17)
def val_main_call17_c : (⟨S_, .i32⟩ : BufTy).Contents (Elt F) :=
  constantI S_ 32 0#32
theorem val_main_call17_c_apply (i : S_.Idx) :
    val_main_call17_c (F := F) i = 0#32 := rfl

-- @remainder's %1 = stablehlo.compare EQ, %0, %c, SIGNED : (tensor<i32>, tensor<i32>) -> tensor<i1>, in %107 = func.call @remainder(…) (record main_call17)
def val_main_call17_v1 : (⟨S_, .i1⟩ : BufTy).Contents (Elt F) :=
  cmpi .eq (val_main_call17_v0 (F := F)) (val_main_call17_c (F := F))
theorem val_main_call17_v1_apply (i : S_.Idx) :
    val_main_call17_v1 (F := F) i = IntOp.cmpi .eq (val_main_call17_v0 (F := F) i) (val_main_call17_c (F := F) i) := rfl

-- @remainder's %c_0 = stablehlo.constant dense<1> : tensor<i32>, in %107 = func.call @remainder(…) (record main_call17)
def val_main_call17_c_0 : (⟨S_, .i32⟩ : BufTy).Contents (Elt F) :=
  constantI S_ 32 1#32
theorem val_main_call17_c_0_apply (i : S_.Idx) :
    val_main_call17_c_0 (F := F) i = 1#32 := rfl

-- @remainder's %2 = func.call @_where_1(…) (record main_call17_call0) result 0: @_where_1's %0 = stablehlo.select %arg0, %arg1, %arg2 : tensor<i1>, tensor<i32>
def val_main_call17_v2 : (⟨S_, .i32⟩ : BufTy).Contents (Elt F) :=
  select (val_main_call17_v1 (F := F)) (val_main_call17_c_0 (F := F)) (val_main_call17_v0 (F := F))
theorem val_main_call17_v2_apply (i : S_.Idx) :
    val_main_call17_v2 (F := F) i = Scalar.select (val_main_call17_v1 (F := F) i) (val_main_call17_c_0 (F := F) i) (val_main_call17_v0 (F := F) i) := rfl

-- @remainder's %3 = stablehlo.broadcast_in_dim %2, dims = [] : (tensor<i32>) -> tensor<8xi32>, in %107 = func.call @remainder(…) (record main_call17)
def val_main_call17_v3 : (⟨S8, .i32⟩ : BufTy).Contents (Elt F) :=
  broadcastInDim S8 ![] bcast_S_S8 (val_main_call17_v2 (F := F))
abbrev idx_main_call17_v3 (i : S8.Idx) : S_.Idx := fun a => a.elim0
theorem val_main_call17_v3_apply (i : S8.Idx) :
    val_main_call17_v3 (F := F) i = val_main_call17_v2 (F := F) (idx_main_call17_v3 i) := by
  unfold val_main_call17_v3
  generalize val_main_call17_v2 (F := F) = y
  exact broadcastInDim_apply _ bcast_S_S8 y i (idx_main_call17_v3 i) (fun a => a.elim0)

-- @remainder's %4 = stablehlo.remainder %arg0, %3 : tensor<8xi32>, in %107 = func.call @remainder(…) (record main_call17)
def val_main_call17_v4 : (⟨S8, .i32⟩ : BufTy).Contents (Elt F) :=
  Host.remsi (val_main_v106 (F := F)) (val_main_call17_v3 (F := F))
theorem val_main_call17_v4_apply (i : S8.Idx) :
    val_main_call17_v4 (F := F) i = IntOp.remsi .host (val_main_v106 (F := F) i) (val_main_call17_v3 (F := F) i) := rfl

-- @remainder's %c_1 = stablehlo.constant dense<0> : tensor<i32>, in %107 = func.call @remainder(…) (record main_call17)
def val_main_call17_c_1 : (⟨S_, .i32⟩ : BufTy).Contents (Elt F) :=
  constantI S_ 32 0#32
theorem val_main_call17_c_1_apply (i : S_.Idx) :
    val_main_call17_c_1 (F := F) i = 0#32 := rfl

-- @remainder's %5 = stablehlo.broadcast_in_dim %c_1, dims = [] : (tensor<i32>) -> tensor<8xi32>, in %107 = func.call @remainder(…) (record main_call17)
def val_main_call17_v5 : (⟨S8, .i32⟩ : BufTy).Contents (Elt F) :=
  broadcastInDim S8 ![] bcast_S_S8 (val_main_call17_c_1 (F := F))
abbrev idx_main_call17_v5 (i : S8.Idx) : S_.Idx := fun a => a.elim0
theorem val_main_call17_v5_apply (i : S8.Idx) :
    val_main_call17_v5 (F := F) i = val_main_call17_c_1 (F := F) (idx_main_call17_v5 i) := by
  unfold val_main_call17_v5
  generalize val_main_call17_c_1 (F := F) = y
  exact broadcastInDim_apply _ bcast_S_S8 y i (idx_main_call17_v5 i) (fun a => a.elim0)

-- @remainder's %6 = stablehlo.compare NE, %4, %5, SIGNED : (tensor<8xi32>, tensor<8xi32>) -> tensor<8xi1>, in %107 = func.call @remainder(…) (record main_call17)
def val_main_call17_v6 : (⟨S8, .i1⟩ : BufTy).Contents (Elt F) :=
  cmpi .ne (val_main_call17_v4 (F := F)) (val_main_call17_v5 (F := F))
theorem val_main_call17_v6_apply (i : S8.Idx) :
    val_main_call17_v6 (F := F) i = IntOp.cmpi .ne (val_main_call17_v4 (F := F) i) (val_main_call17_v5 (F := F) i) := rfl

-- @remainder's %c_2 = stablehlo.constant dense<0> : tensor<i32>, in %107 = func.call @remainder(…) (record main_call17)
def val_main_call17_c_2 : (⟨S_, .i32⟩ : BufTy).Contents (Elt F) :=
  constantI S_ 32 0#32
theorem val_main_call17_c_2_apply (i : S_.Idx) :
    val_main_call17_c_2 (F := F) i = 0#32 := rfl

-- @remainder's %7 = stablehlo.broadcast_in_dim %c_2, dims = [] : (tensor<i32>) -> tensor<8xi32>, in %107 = func.call @remainder(…) (record main_call17)
def val_main_call17_v7 : (⟨S8, .i32⟩ : BufTy).Contents (Elt F) :=
  broadcastInDim S8 ![] bcast_S_S8 (val_main_call17_c_2 (F := F))
abbrev idx_main_call17_v7 (i : S8.Idx) : S_.Idx := fun a => a.elim0
theorem val_main_call17_v7_apply (i : S8.Idx) :
    val_main_call17_v7 (F := F) i = val_main_call17_c_2 (F := F) (idx_main_call17_v7 i) := by
  unfold val_main_call17_v7
  generalize val_main_call17_c_2 (F := F) = y
  exact broadcastInDim_apply _ bcast_S_S8 y i (idx_main_call17_v7 i) (fun a => a.elim0)

-- @remainder's %8 = stablehlo.compare LT, %4, %7, SIGNED : (tensor<8xi32>, tensor<8xi32>) -> tensor<8xi1>, in %107 = func.call @remainder(…) (record main_call17)
def val_main_call17_v8 : (⟨S8, .i1⟩ : BufTy).Contents (Elt F) :=
  cmpi .slt (val_main_call17_v4 (F := F)) (val_main_call17_v7 (F := F))
theorem val_main_call17_v8_apply (i : S8.Idx) :
    val_main_call17_v8 (F := F) i = IntOp.cmpi .slt (val_main_call17_v4 (F := F) i) (val_main_call17_v7 (F := F) i) := rfl

-- @remainder's %c_3 = stablehlo.constant dense<0> : tensor<i32>, in %107 = func.call @remainder(…) (record main_call17)
def val_main_call17_c_3 : (⟨S_, .i32⟩ : BufTy).Contents (Elt F) :=
  constantI S_ 32 0#32
theorem val_main_call17_c_3_apply (i : S_.Idx) :
    val_main_call17_c_3 (F := F) i = 0#32 := rfl

-- @remainder's %9 = stablehlo.compare LT, %2, %c_3, SIGNED : (tensor<i32>, tensor<i32>) -> tensor<i1>, in %107 = func.call @remainder(…) (record main_call17)
def val_main_call17_v9 : (⟨S_, .i1⟩ : BufTy).Contents (Elt F) :=
  cmpi .slt (val_main_call17_v2 (F := F)) (val_main_call17_c_3 (F := F))
theorem val_main_call17_v9_apply (i : S_.Idx) :
    val_main_call17_v9 (F := F) i = IntOp.cmpi .slt (val_main_call17_v2 (F := F) i) (val_main_call17_c_3 (F := F) i) := rfl

-- @remainder's %10 = stablehlo.broadcast_in_dim %9, dims = [] : (tensor<i1>) -> tensor<8xi1>, in %107 = func.call @remainder(…) (record main_call17)
def val_main_call17_v10 : (⟨S8, .i1⟩ : BufTy).Contents (Elt F) :=
  broadcastInDim S8 ![] bcast_S_S8 (val_main_call17_v9 (F := F))
abbrev idx_main_call17_v10 (i : S8.Idx) : S_.Idx := fun a => a.elim0
theorem val_main_call17_v10_apply (i : S8.Idx) :
    val_main_call17_v10 (F := F) i = val_main_call17_v9 (F := F) (idx_main_call17_v10 i) := by
  unfold val_main_call17_v10
  generalize val_main_call17_v9 (F := F) = y
  exact broadcastInDim_apply _ bcast_S_S8 y i (idx_main_call17_v10 i) (fun a => a.elim0)

-- @remainder's %11 = stablehlo.compare NE, %8, %10, UNSIGNED : (tensor<8xi1>, tensor<8xi1>) -> tensor<8xi1>, in %107 = func.call @remainder(…) (record main_call17)
def val_main_call17_v11 : (⟨S8, .i1⟩ : BufTy).Contents (Elt F) :=
  cmpi .ne (val_main_call17_v8 (F := F)) (val_main_call17_v10 (F := F))
theorem val_main_call17_v11_apply (i : S8.Idx) :
    val_main_call17_v11 (F := F) i = IntOp.cmpi .ne (val_main_call17_v8 (F := F) i) (val_main_call17_v10 (F := F) i) := rfl

-- @remainder's %12 = stablehlo.and %11, %6 : tensor<8xi1>, in %107 = func.call @remainder(…) (record main_call17)
def val_main_call17_v12 : (⟨S8, .i1⟩ : BufTy).Contents (Elt F) :=
  andi (val_main_call17_v11 (F := F)) (val_main_call17_v6 (F := F))
theorem val_main_call17_v12_apply (i : S8.Idx) :
    val_main_call17_v12 (F := F) i = IntOp.andi (val_main_call17_v11 (F := F) i) (val_main_call17_v6 (F := F) i) := rfl

-- @remainder's %13 = stablehlo.broadcast_in_dim %2, dims = [] : (tensor<i32>) -> tensor<8xi32>, in %107 = func.call @remainder(…) (record main_call17)
def val_main_call17_v13 : (⟨S8, .i32⟩ : BufTy).Contents (Elt F) :=
  broadcastInDim S8 ![] bcast_S_S8 (val_main_call17_v2 (F := F))
abbrev idx_main_call17_v13 (i : S8.Idx) : S_.Idx := fun a => a.elim0
theorem val_main_call17_v13_apply (i : S8.Idx) :
    val_main_call17_v13 (F := F) i = val_main_call17_v2 (F := F) (idx_main_call17_v13 i) := by
  unfold val_main_call17_v13
  generalize val_main_call17_v2 (F := F) = y
  exact broadcastInDim_apply _ bcast_S_S8 y i (idx_main_call17_v13 i) (fun a => a.elim0)

-- @remainder's %14 = stablehlo.add %4, %13 : tensor<8xi32>, in %107 = func.call @remainder(…) (record main_call17)
def val_main_call17_v14 : (⟨S8, .i32⟩ : BufTy).Contents (Elt F) :=
  addi (val_main_call17_v4 (F := F)) (val_main_call17_v13 (F := F))
theorem val_main_call17_v14_apply (i : S8.Idx) :
    val_main_call17_v14 (F := F) i = IntOp.addi (val_main_call17_v4 (F := F) i) (val_main_call17_v13 (F := F) i) := rfl

-- %107 = func.call @remainder(…) (record main_call17) result 0: @remainder's %15 = stablehlo.select %12, %14, %4 : tensor<8xi1>, tensor<8xi32>
def val_main_v107 : (⟨S8, .i32⟩ : BufTy).Contents (Elt F) :=
  select (val_main_call17_v12 (F := F)) (val_main_call17_v14 (F := F)) (val_main_call17_v4 (F := F))
theorem val_main_v107_apply (i : S8.Idx) :
    val_main_v107 (F := F) i = Scalar.select (val_main_call17_v12 (F := F) i) (val_main_call17_v14 (F := F) i) (val_main_call17_v4 (F := F) i) := rfl

-- %c_25 = stablehlo.constant dense<1> : tensor<i32>
def val_main_c_25 : (⟨S_, .i32⟩ : BufTy).Contents (Elt F) :=
  constantI S_ 32 1#32
theorem val_main_c_25_apply (i : S_.Idx) :
    val_main_c_25 (F := F) i = 1#32 := rfl

-- %108 = stablehlo.broadcast_in_dim %c_25, dims = [] : (tensor<i32>) -> tensor<8xi32>
def val_main_v108 : (⟨S8, .i32⟩ : BufTy).Contents (Elt F) :=
  broadcastInDim S8 ![] bcast_S_S8 (val_main_c_25 (F := F))
abbrev idx_main_v108 (i : S8.Idx) : S_.Idx := fun a => a.elim0
theorem val_main_v108_apply (i : S8.Idx) :
    val_main_v108 (F := F) i = val_main_c_25 (F := F) (idx_main_v108 i) := by
  unfold val_main_v108
  generalize val_main_c_25 (F := F) = y
  exact broadcastInDim_apply _ bcast_S_S8 y i (idx_main_v108 i) (fun a => a.elim0)

-- %109 = stablehlo.compare EQ, %107, %108, SIGNED : (tensor<8xi32>, tensor<8xi32>) -> tensor<8xi1>
def val_main_v109 : (⟨S8, .i1⟩ : BufTy).Contents (Elt F) :=
  cmpi .eq (val_main_v107 (F := F)) (val_main_v108 (F := F))
theorem val_main_v109_apply (i : S8.Idx) :
    val_main_v109 (F := F) i = IntOp.cmpi .eq (val_main_v107 (F := F) i) (val_main_v108 (F := F) i) := rfl

-- %110 = stablehlo.broadcast_in_dim %109, dims = [0] : (tensor<8xi1>) -> tensor<8x1x1xi1>
def val_main_v110 : (⟨S8x1x1, .i1⟩ : BufTy).Contents (Elt F) :=
  broadcastInDim S8x1x1 ![0] bcast_S8_S8x1x1_0 (val_main_v109 (F := F))
abbrev idx_main_v110 (i : S8x1x1.Idx) : S8.Idx := fun a => match a with
  | ⟨0, _⟩ => ⟨(i 0).val, (i 0).isLt⟩
theorem val_main_v110_apply (i : S8x1x1.Idx) :
    val_main_v110 (F := F) i = val_main_v109 (F := F) (idx_main_v110 i) := by
  unfold val_main_v110
  generalize val_main_v109 (F := F) = y
  exact broadcastInDim_apply _ bcast_S8_S8x1x1_0 y i (idx_main_v110 i) (fun a => match a with
    | ⟨0, _⟩ => by show (i 0).val = if (8 : Nat) = 1 then 0 else (i 0).val; rw [if_neg (by decide)])

-- %111 = stablehlo.concatenate %105, %103, dim = 2 : (tensor<8x4224x64xf32>, tensor<8x4224x64xf32>) -> tensor<8x4224x128xf32>
def val_main_v111 (x2 : (⟨S4112x8x64, .f32⟩ : BufTy).Contents (Elt F)) : (⟨S8x4224x128, .f32⟩ : BufTy).Contents (Elt F) :=
  concatenate S8x4224x128 2 [⟨S8x4224x64, (val_main_v105 (F := F))⟩, ⟨S8x4224x64, (val_main_v103 (F := F) x2)⟩] concatenates_S8x4224x64_S8x4224x64_S8x4224x128_d2

-- %112 = stablehlo.concatenate %103, %105, dim = 2 : (tensor<8x4224x64xf32>, tensor<8x4224x64xf32>) -> tensor<8x4224x128xf32>
def val_main_v112 (x2 : (⟨S4112x8x64, .f32⟩ : BufTy).Contents (Elt F)) : (⟨S8x4224x128, .f32⟩ : BufTy).Contents (Elt F) :=
  concatenate S8x4224x128 2 [⟨S8x4224x64, (val_main_v103 (F := F) x2)⟩, ⟨S8x4224x64, (val_main_v105 (F := F))⟩] concatenates_S8x4224x64_S8x4224x64_S8x4224x128_d2

-- @_where_2's %0 = stablehlo.broadcast_in_dim %arg0, dims = [0, 1, 2] : (tensor<8x1x1xi1>) -> tensor<8x4224x128xi1>, in %113 = func.call @_where_2(…) (record main_call18)
def val_main_call18_v0 : (⟨S8x4224x128, .i1⟩ : BufTy).Contents (Elt F) :=
  broadcastInDim S8x4224x128 ![0, 1, 2] bcast_S8x1x1_S8x4224x128_0_1_2 (val_main_v110 (F := F))
abbrev idx_main_call18_v0 (i : S8x4224x128.Idx) : S8x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_call18_v0_apply (i : S8x4224x128.Idx) :
    val_main_call18_v0 (F := F) i = val_main_v110 (F := F) (idx_main_call18_v0 i) := by
  unfold val_main_call18_v0
  generalize val_main_v110 (F := F) = y
  exact broadcastInDim_apply _ bcast_S8x1x1_S8x4224x128_0_1_2 y i (idx_main_call18_v0 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %113 = func.call @_where_2(…) (record main_call18) result 0: @_where_2's %1 = stablehlo.select %0, %arg1, %arg2 : tensor<8x4224x128xi1>, tensor<8x4224x128xf32>
def val_main_v113 (x2 : (⟨S4112x8x64, .f32⟩ : BufTy).Contents (Elt F)) : (⟨S8x4224x128, .f32⟩ : BufTy).Contents (Elt F) :=
  select (val_main_call18_v0 (F := F)) (val_main_v111 (F := F) x2) (val_main_v112 (F := F) x2)
theorem val_main_v113_apply (x2 : (⟨S4112x8x64, .f32⟩ : BufTy).Contents (Elt F)) (i : S8x4224x128.Idx) :
    val_main_v113 (F := F) x2 i = Scalar.select (val_main_call18_v0 (F := F) i) (val_main_v111 (F := F) x2 i) (val_main_v112 (F := F) x2 i) := rfl

-- %114 = stablehlo.convert %113 : (tensor<8x4224x128xf32>) -> tensor<8x4224x128xbf16>
def val_main_v114 (x2 : (⟨S4112x8x64, .f32⟩ : BufTy).Contents (Elt F)) : (⟨S8x4224x128, .bf16⟩ : BufTy).Contents (Elt F) :=
  truncf .bf16 (val_main_v113 (F := F) x2) bitsLt_bf16_f32
theorem val_main_v114_apply (x2 : (⟨S4112x8x64, .f32⟩ : BufTy).Contents (Elt F)) (i : S8x4224x128.Idx) :
    val_main_v114 (F := F) x2 i = FloatOps.truncf .bf16 bitsLt_bf16_f32 (val_main_v113 (F := F) x2 i) := rfl

-- %115 = stablehlo.transpose %arg4, dims = [1, 0, 2] : (tensor<4112x8x64xf32>) -> tensor<8x4112x64xf32>
def val_main_v115 (x4 : (⟨S4112x8x64, .f32⟩ : BufTy).Contents (Elt F)) : (⟨S8x4112x64, .f32⟩ : BufTy).Contents (Elt F) :=
  transpose S8x4112x64 [1, 0, 2] (x4) transposes_S4112x8x64_S8x4112x64_1_0_2
abbrev idx_main_v115 (i : S8x4112x64.Idx) : S4112x8x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v115_apply (x4 : (⟨S4112x8x64, .f32⟩ : BufTy).Contents (Elt F)) (i : S8x4112x64.Idx) :
    val_main_v115 (F := F) x4 i = x4 (idx_main_v115 i) := by
  unfold val_main_v115
  exact transpose_apply [1, 0, 2] x4 transposes_S4112x8x64_S8x4112x64_1_0_2 i (idx_main_v115 i) (fun b => match b with
    | ⟨0, _⟩ => rfl
    | ⟨1, _⟩ => rfl
    | ⟨2, _⟩ => rfl)

-- %c_26 = stablehlo.constant dense<0> : tensor<i32>
def val_main_c_26 : (⟨S_, .i32⟩ : BufTy).Contents (Elt F) :=
  constantI S_ 32 0#32
theorem val_main_c_26_apply (i : S_.Idx) :
    val_main_c_26 (F := F) i = 0#32 := rfl

-- @_pad_0's %0 = stablehlo.convert %arg1 : (tensor<i32>) -> tensor<f32>, in %116 = func.call @_pad_0(…) (record main_call19)
def val_main_call19_v0 : (⟨S_, .f32⟩ : BufTy).Contents (Elt F) :=
  sitofp .f32 (val_main_c_26 (F := F))
theorem val_main_call19_v0_apply (i : S_.Idx) :
    val_main_call19_v0 (F := F) i = FloatOps.sitofp .f32 (val_main_c_26 (F := F) i) := rfl

-- %116 = func.call @_pad_0(…) (record main_call19) result 0: @_pad_0's %1 = stablehlo.pad %arg0, %0, low = [0, 112, 0], high = [0, 0, 0], interior = [0, 0, 0] : (tensor<8x4112x64xf32>, tensor<f32>) -> tensor<8x4224x64xf32>
def val_main_v116 (x4 : (⟨S4112x8x64, .f32⟩ : BufTy).Contents (Elt F)) : (⟨S8x4224x64, .f32⟩ : BufTy).Contents (Elt F) :=
  pad S8x4224x64 ![0, 112, 0] ![0, 0, 0] ![0, 0, 0] (val_main_v115 (F := F) x4) (val_main_call19_v0 (F := F)) pads_S8x4112x64_S8x4224x64_000_11200_000 h_S_

-- %cst_27 = stablehlo.constant dense<0.000000e+00> : tensor<f32>
def val_main_cst_27 : (⟨S_, .f32⟩ : BufTy).Contents (Elt F) :=
  constant S_ .f32 0x00000000#32
theorem val_main_cst_27_apply (i : S_.Idx) :
    val_main_cst_27 (F := F) i = FloatOps.ofBits .f32 0x00000000#32 := rfl

-- %117 = stablehlo.broadcast_in_dim %cst_27, dims = [] : (tensor<f32>) -> tensor<8x4224x61xf32>
def val_main_v117 : (⟨S8x4224x61, .f32⟩ : BufTy).Contents (Elt F) :=
  broadcastInDim S8x4224x61 ![] bcast_S_S8x4224x61 (val_main_cst_27 (F := F))
abbrev idx_main_v117 (i : S8x4224x61.Idx) : S_.Idx := fun a => a.elim0
theorem val_main_v117_apply (i : S8x4224x61.Idx) :
    val_main_v117 (F := F) i = val_main_cst_27 (F := F) (idx_main_v117 i) := by
  unfold val_main_v117
  generalize val_main_cst_27 (F := F) = y
  exact broadcastInDim_apply _ bcast_S_S8x4224x61 y i (idx_main_v117 i) (fun a => a.elim0)

-- %118 = stablehlo.concatenate %70, %117, dim = 2 : (tensor<8x4224x3xf32>, tensor<8x4224x61xf32>) -> tensor<8x4224x64xf32>
def val_main_v118 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x64, .f32⟩ : BufTy).Contents (Elt F) :=
  concatenate S8x4224x64 2 [⟨S8x4224x3, (val_main_v70 (F := F) x0 x1 x2 x3 x4)⟩, ⟨S8x4224x61, (val_main_v117 (F := F))⟩] concatenates_S8x4224x3_S8x4224x61_S8x4224x64_d2

-- %119 = stablehlo.iota dim = 0 : tensor<8xi32>
def val_main_v119 : (⟨S8, .i32⟩ : BufTy).Contents (Elt F) :=
  iotaInDim S8 32 0
theorem val_main_v119_apply (i : S8.Idx) :
    val_main_v119 (F := F) i = BitVec.ofNat 32 (i 0).val := rfl

-- %c_28 = stablehlo.constant dense<2> : tensor<i32>
def val_main_c_28 : (⟨S_, .i32⟩ : BufTy).Contents (Elt F) :=
  constantI S_ 32 2#32
theorem val_main_c_28_apply (i : S_.Idx) :
    val_main_c_28 (F := F) i = 2#32 := rfl

-- @remainder's %0 = stablehlo.convert %arg1 : tensor<i32>, in %120 = func.call @remainder(…) (record main_call20)
def val_main_call20_v0 : (⟨S_, .i32⟩ : BufTy).Contents (Elt F) :=
  id (val_main_c_28 (F := F))
theorem val_main_call20_v0_apply (i : S_.Idx) :
    val_main_call20_v0 (F := F) i = (val_main_c_28 (F := F) i) := rfl

-- @remainder's %c = stablehlo.constant dense<0> : tensor<i32>, in %120 = func.call @remainder(…) (record main_call20)
def val_main_call20_c : (⟨S_, .i32⟩ : BufTy).Contents (Elt F) :=
  constantI S_ 32 0#32
theorem val_main_call20_c_apply (i : S_.Idx) :
    val_main_call20_c (F := F) i = 0#32 := rfl

-- @remainder's %1 = stablehlo.compare EQ, %0, %c, SIGNED : (tensor<i32>, tensor<i32>) -> tensor<i1>, in %120 = func.call @remainder(…) (record main_call20)
def val_main_call20_v1 : (⟨S_, .i1⟩ : BufTy).Contents (Elt F) :=
  cmpi .eq (val_main_call20_v0 (F := F)) (val_main_call20_c (F := F))
theorem val_main_call20_v1_apply (i : S_.Idx) :
    val_main_call20_v1 (F := F) i = IntOp.cmpi .eq (val_main_call20_v0 (F := F) i) (val_main_call20_c (F := F) i) := rfl

-- @remainder's %c_0 = stablehlo.constant dense<1> : tensor<i32>, in %120 = func.call @remainder(…) (record main_call20)
def val_main_call20_c_0 : (⟨S_, .i32⟩ : BufTy).Contents (Elt F) :=
  constantI S_ 32 1#32
theorem val_main_call20_c_0_apply (i : S_.Idx) :
    val_main_call20_c_0 (F := F) i = 1#32 := rfl

-- @remainder's %2 = func.call @_where_1(…) (record main_call20_call0) result 0: @_where_1's %0 = stablehlo.select %arg0, %arg1, %arg2 : tensor<i1>, tensor<i32>
def val_main_call20_v2 : (⟨S_, .i32⟩ : BufTy).Contents (Elt F) :=
  select (val_main_call20_v1 (F := F)) (val_main_call20_c_0 (F := F)) (val_main_call20_v0 (F := F))
theorem val_main_call20_v2_apply (i : S_.Idx) :
    val_main_call20_v2 (F := F) i = Scalar.select (val_main_call20_v1 (F := F) i) (val_main_call20_c_0 (F := F) i) (val_main_call20_v0 (F := F) i) := rfl

-- @remainder's %3 = stablehlo.broadcast_in_dim %2, dims = [] : (tensor<i32>) -> tensor<8xi32>, in %120 = func.call @remainder(…) (record main_call20)
def val_main_call20_v3 : (⟨S8, .i32⟩ : BufTy).Contents (Elt F) :=
  broadcastInDim S8 ![] bcast_S_S8 (val_main_call20_v2 (F := F))
abbrev idx_main_call20_v3 (i : S8.Idx) : S_.Idx := fun a => a.elim0
theorem val_main_call20_v3_apply (i : S8.Idx) :
    val_main_call20_v3 (F := F) i = val_main_call20_v2 (F := F) (idx_main_call20_v3 i) := by
  unfold val_main_call20_v3
  generalize val_main_call20_v2 (F := F) = y
  exact broadcastInDim_apply _ bcast_S_S8 y i (idx_main_call20_v3 i) (fun a => a.elim0)

-- @remainder's %4 = stablehlo.remainder %arg0, %3 : tensor<8xi32>, in %120 = func.call @remainder(…) (record main_call20)
def val_main_call20_v4 : (⟨S8, .i32⟩ : BufTy).Contents (Elt F) :=
  Host.remsi (val_main_v119 (F := F)) (val_main_call20_v3 (F := F))
theorem val_main_call20_v4_apply (i : S8.Idx) :
    val_main_call20_v4 (F := F) i = IntOp.remsi .host (val_main_v119 (F := F) i) (val_main_call20_v3 (F := F) i) := rfl

-- @remainder's %c_1 = stablehlo.constant dense<0> : tensor<i32>, in %120 = func.call @remainder(…) (record main_call20)
def val_main_call20_c_1 : (⟨S_, .i32⟩ : BufTy).Contents (Elt F) :=
  constantI S_ 32 0#32
theorem val_main_call20_c_1_apply (i : S_.Idx) :
    val_main_call20_c_1 (F := F) i = 0#32 := rfl

-- @remainder's %5 = stablehlo.broadcast_in_dim %c_1, dims = [] : (tensor<i32>) -> tensor<8xi32>, in %120 = func.call @remainder(…) (record main_call20)
def val_main_call20_v5 : (⟨S8, .i32⟩ : BufTy).Contents (Elt F) :=
  broadcastInDim S8 ![] bcast_S_S8 (val_main_call20_c_1 (F := F))
abbrev idx_main_call20_v5 (i : S8.Idx) : S_.Idx := fun a => a.elim0
theorem val_main_call20_v5_apply (i : S8.Idx) :
    val_main_call20_v5 (F := F) i = val_main_call20_c_1 (F := F) (idx_main_call20_v5 i) := by
  unfold val_main_call20_v5
  generalize val_main_call20_c_1 (F := F) = y
  exact broadcastInDim_apply _ bcast_S_S8 y i (idx_main_call20_v5 i) (fun a => a.elim0)

-- @remainder's %6 = stablehlo.compare NE, %4, %5, SIGNED : (tensor<8xi32>, tensor<8xi32>) -> tensor<8xi1>, in %120 = func.call @remainder(…) (record main_call20)
def val_main_call20_v6 : (⟨S8, .i1⟩ : BufTy).Contents (Elt F) :=
  cmpi .ne (val_main_call20_v4 (F := F)) (val_main_call20_v5 (F := F))
theorem val_main_call20_v6_apply (i : S8.Idx) :
    val_main_call20_v6 (F := F) i = IntOp.cmpi .ne (val_main_call20_v4 (F := F) i) (val_main_call20_v5 (F := F) i) := rfl

-- @remainder's %c_2 = stablehlo.constant dense<0> : tensor<i32>, in %120 = func.call @remainder(…) (record main_call20)
def val_main_call20_c_2 : (⟨S_, .i32⟩ : BufTy).Contents (Elt F) :=
  constantI S_ 32 0#32
theorem val_main_call20_c_2_apply (i : S_.Idx) :
    val_main_call20_c_2 (F := F) i = 0#32 := rfl

-- @remainder's %7 = stablehlo.broadcast_in_dim %c_2, dims = [] : (tensor<i32>) -> tensor<8xi32>, in %120 = func.call @remainder(…) (record main_call20)
def val_main_call20_v7 : (⟨S8, .i32⟩ : BufTy).Contents (Elt F) :=
  broadcastInDim S8 ![] bcast_S_S8 (val_main_call20_c_2 (F := F))
abbrev idx_main_call20_v7 (i : S8.Idx) : S_.Idx := fun a => a.elim0
theorem val_main_call20_v7_apply (i : S8.Idx) :
    val_main_call20_v7 (F := F) i = val_main_call20_c_2 (F := F) (idx_main_call20_v7 i) := by
  unfold val_main_call20_v7
  generalize val_main_call20_c_2 (F := F) = y
  exact broadcastInDim_apply _ bcast_S_S8 y i (idx_main_call20_v7 i) (fun a => a.elim0)

-- @remainder's %8 = stablehlo.compare LT, %4, %7, SIGNED : (tensor<8xi32>, tensor<8xi32>) -> tensor<8xi1>, in %120 = func.call @remainder(…) (record main_call20)
def val_main_call20_v8 : (⟨S8, .i1⟩ : BufTy).Contents (Elt F) :=
  cmpi .slt (val_main_call20_v4 (F := F)) (val_main_call20_v7 (F := F))
theorem val_main_call20_v8_apply (i : S8.Idx) :
    val_main_call20_v8 (F := F) i = IntOp.cmpi .slt (val_main_call20_v4 (F := F) i) (val_main_call20_v7 (F := F) i) := rfl

-- @remainder's %c_3 = stablehlo.constant dense<0> : tensor<i32>, in %120 = func.call @remainder(…) (record main_call20)
def val_main_call20_c_3 : (⟨S_, .i32⟩ : BufTy).Contents (Elt F) :=
  constantI S_ 32 0#32
theorem val_main_call20_c_3_apply (i : S_.Idx) :
    val_main_call20_c_3 (F := F) i = 0#32 := rfl

-- @remainder's %9 = stablehlo.compare LT, %2, %c_3, SIGNED : (tensor<i32>, tensor<i32>) -> tensor<i1>, in %120 = func.call @remainder(…) (record main_call20)
def val_main_call20_v9 : (⟨S_, .i1⟩ : BufTy).Contents (Elt F) :=
  cmpi .slt (val_main_call20_v2 (F := F)) (val_main_call20_c_3 (F := F))
theorem val_main_call20_v9_apply (i : S_.Idx) :
    val_main_call20_v9 (F := F) i = IntOp.cmpi .slt (val_main_call20_v2 (F := F) i) (val_main_call20_c_3 (F := F) i) := rfl

-- @remainder's %10 = stablehlo.broadcast_in_dim %9, dims = [] : (tensor<i1>) -> tensor<8xi1>, in %120 = func.call @remainder(…) (record main_call20)
def val_main_call20_v10 : (⟨S8, .i1⟩ : BufTy).Contents (Elt F) :=
  broadcastInDim S8 ![] bcast_S_S8 (val_main_call20_v9 (F := F))
abbrev idx_main_call20_v10 (i : S8.Idx) : S_.Idx := fun a => a.elim0
theorem val_main_call20_v10_apply (i : S8.Idx) :
    val_main_call20_v10 (F := F) i = val_main_call20_v9 (F := F) (idx_main_call20_v10 i) := by
  unfold val_main_call20_v10
  generalize val_main_call20_v9 (F := F) = y
  exact broadcastInDim_apply _ bcast_S_S8 y i (idx_main_call20_v10 i) (fun a => a.elim0)

-- @remainder's %11 = stablehlo.compare NE, %8, %10, UNSIGNED : (tensor<8xi1>, tensor<8xi1>) -> tensor<8xi1>, in %120 = func.call @remainder(…) (record main_call20)
def val_main_call20_v11 : (⟨S8, .i1⟩ : BufTy).Contents (Elt F) :=
  cmpi .ne (val_main_call20_v8 (F := F)) (val_main_call20_v10 (F := F))
theorem val_main_call20_v11_apply (i : S8.Idx) :
    val_main_call20_v11 (F := F) i = IntOp.cmpi .ne (val_main_call20_v8 (F := F) i) (val_main_call20_v10 (F := F) i) := rfl

-- @remainder's %12 = stablehlo.and %11, %6 : tensor<8xi1>, in %120 = func.call @remainder(…) (record main_call20)
def val_main_call20_v12 : (⟨S8, .i1⟩ : BufTy).Contents (Elt F) :=
  andi (val_main_call20_v11 (F := F)) (val_main_call20_v6 (F := F))
theorem val_main_call20_v12_apply (i : S8.Idx) :
    val_main_call20_v12 (F := F) i = IntOp.andi (val_main_call20_v11 (F := F) i) (val_main_call20_v6 (F := F) i) := rfl

-- @remainder's %13 = stablehlo.broadcast_in_dim %2, dims = [] : (tensor<i32>) -> tensor<8xi32>, in %120 = func.call @remainder(…) (record main_call20)
def val_main_call20_v13 : (⟨S8, .i32⟩ : BufTy).Contents (Elt F) :=
  broadcastInDim S8 ![] bcast_S_S8 (val_main_call20_v2 (F := F))
abbrev idx_main_call20_v13 (i : S8.Idx) : S_.Idx := fun a => a.elim0
theorem val_main_call20_v13_apply (i : S8.Idx) :
    val_main_call20_v13 (F := F) i = val_main_call20_v2 (F := F) (idx_main_call20_v13 i) := by
  unfold val_main_call20_v13
  generalize val_main_call20_v2 (F := F) = y
  exact broadcastInDim_apply _ bcast_S_S8 y i (idx_main_call20_v13 i) (fun a => a.elim0)

-- @remainder's %14 = stablehlo.add %4, %13 : tensor<8xi32>, in %120 = func.call @remainder(…) (record main_call20)
def val_main_call20_v14 : (⟨S8, .i32⟩ : BufTy).Contents (Elt F) :=
  addi (val_main_call20_v4 (F := F)) (val_main_call20_v13 (F := F))
theorem val_main_call20_v14_apply (i : S8.Idx) :
    val_main_call20_v14 (F := F) i = IntOp.addi (val_main_call20_v4 (F := F) i) (val_main_call20_v13 (F := F) i) := rfl

-- %120 = func.call @remainder(…) (record main_call20) result 0: @remainder's %15 = stablehlo.select %12, %14, %4 : tensor<8xi1>, tensor<8xi32>
def val_main_v120 : (⟨S8, .i32⟩ : BufTy).Contents (Elt F) :=
  select (val_main_call20_v12 (F := F)) (val_main_call20_v14 (F := F)) (val_main_call20_v4 (F := F))
theorem val_main_v120_apply (i : S8.Idx) :
    val_main_v120 (F := F) i = Scalar.select (val_main_call20_v12 (F := F) i) (val_main_call20_v14 (F := F) i) (val_main_call20_v4 (F := F) i) := rfl

-- %c_29 = stablehlo.constant dense<1> : tensor<i32>
def val_main_c_29 : (⟨S_, .i32⟩ : BufTy).Contents (Elt F) :=
  constantI S_ 32 1#32
theorem val_main_c_29_apply (i : S_.Idx) :
    val_main_c_29 (F := F) i = 1#32 := rfl

-- %121 = stablehlo.broadcast_in_dim %c_29, dims = [] : (tensor<i32>) -> tensor<8xi32>
def val_main_v121 : (⟨S8, .i32⟩ : BufTy).Contents (Elt F) :=
  broadcastInDim S8 ![] bcast_S_S8 (val_main_c_29 (F := F))
abbrev idx_main_v121 (i : S8.Idx) : S_.Idx := fun a => a.elim0
theorem val_main_v121_apply (i : S8.Idx) :
    val_main_v121 (F := F) i = val_main_c_29 (F := F) (idx_main_v121 i) := by
  unfold val_main_v121
  generalize val_main_c_29 (F := F) = y
  exact broadcastInDim_apply _ bcast_S_S8 y i (idx_main_v121 i) (fun a => a.elim0)

-- %122 = stablehlo.compare EQ, %120, %121, SIGNED : (tensor<8xi32>, tensor<8xi32>) -> tensor<8xi1>
def val_main_v122 : (⟨S8, .i1⟩ : BufTy).Contents (Elt F) :=
  cmpi .eq (val_main_v120 (F := F)) (val_main_v121 (F := F))
theorem val_main_v122_apply (i : S8.Idx) :
    val_main_v122 (F := F) i = IntOp.cmpi .eq (val_main_v120 (F := F) i) (val_main_v121 (F := F) i) := rfl

-- %123 = stablehlo.broadcast_in_dim %122, dims = [0] : (tensor<8xi1>) -> tensor<8x1x1xi1>
def val_main_v123 : (⟨S8x1x1, .i1⟩ : BufTy).Contents (Elt F) :=
  broadcastInDim S8x1x1 ![0] bcast_S8_S8x1x1_0 (val_main_v122 (F := F))
abbrev idx_main_v123 (i : S8x1x1.Idx) : S8.Idx := fun a => match a with
  | ⟨0, _⟩ => ⟨(i 0).val, (i 0).isLt⟩
theorem val_main_v123_apply (i : S8x1x1.Idx) :
    val_main_v123 (F := F) i = val_main_v122 (F := F) (idx_main_v123 i) := by
  unfold val_main_v123
  generalize val_main_v122 (F := F) = y
  exact broadcastInDim_apply _ bcast_S8_S8x1x1_0 y i (idx_main_v123 i) (fun a => match a with
    | ⟨0, _⟩ => by show (i 0).val = if (8 : Nat) = 1 then 0 else (i 0).val; rw [if_neg (by decide)])

-- %124 = stablehlo.concatenate %118, %116, dim = 2 : (tensor<8x4224x64xf32>, tensor<8x4224x64xf32>) -> tensor<8x4224x128xf32>
def val_main_v124 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x128, .f32⟩ : BufTy).Contents (Elt F) :=
  concatenate S8x4224x128 2 [⟨S8x4224x64, (val_main_v118 (F := F) x0 x1 x2 x3 x4)⟩, ⟨S8x4224x64, (val_main_v116 (F := F) x4)⟩] concatenates_S8x4224x64_S8x4224x64_S8x4224x128_d2

-- %125 = stablehlo.concatenate %116, %118, dim = 2 : (tensor<8x4224x64xf32>, tensor<8x4224x64xf32>) -> tensor<8x4224x128xf32>
def val_main_v125 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x128, .f32⟩ : BufTy).Contents (Elt F) :=
  concatenate S8x4224x128 2 [⟨S8x4224x64, (val_main_v116 (F := F) x4)⟩, ⟨S8x4224x64, (val_main_v118 (F := F) x0 x1 x2 x3 x4)⟩] concatenates_S8x4224x64_S8x4224x64_S8x4224x128_d2

-- @_where_2's %0 = stablehlo.broadcast_in_dim %arg0, dims = [0, 1, 2] : (tensor<8x1x1xi1>) -> tensor<8x4224x128xi1>, in %126 = func.call @_where_2(…) (record main_call21)
def val_main_call21_v0 : (⟨S8x4224x128, .i1⟩ : BufTy).Contents (Elt F) :=
  broadcastInDim S8x4224x128 ![0, 1, 2] bcast_S8x1x1_S8x4224x128_0_1_2 (val_main_v123 (F := F))
abbrev idx_main_call21_v0 (i : S8x4224x128.Idx) : S8x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_call21_v0_apply (i : S8x4224x128.Idx) :
    val_main_call21_v0 (F := F) i = val_main_v123 (F := F) (idx_main_call21_v0 i) := by
  unfold val_main_call21_v0
  generalize val_main_v123 (F := F) = y
  exact broadcastInDim_apply _ bcast_S8x1x1_S8x4224x128_0_1_2 y i (idx_main_call21_v0 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %126 = func.call @_where_2(…) (record main_call21) result 0: @_where_2's %1 = stablehlo.select %0, %arg1, %arg2 : tensor<8x4224x128xi1>, tensor<8x4224x128xf32>
def val_main_v126 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x128, .f32⟩ : BufTy).Contents (Elt F) :=
  select (val_main_call21_v0 (F := F)) (val_main_v124 (F := F) x0 x1 x2 x3 x4) (val_main_v125 (F := F) x0 x1 x2 x3 x4)
theorem val_main_v126_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4224x128.Idx) :
    val_main_v126 (F := F) x0 x1 x2 x3 x4 i = Scalar.select (val_main_call21_v0 (F := F) i) (val_main_v124 (F := F) x0 x1 x2 x3 x4 i) (val_main_v125 (F := F) x0 x1 x2 x3 x4 i) := rfl

-- %127 = stablehlo.convert %126 : (tensor<8x4224x128xf32>) -> tensor<8x4224x128xbf16>
def val_main_v127 (x0 x1 x2 : (⟨S4112x8x64, .f32⟩ : BufTy).Contents (Elt F)) (x3 : (⟨S8x4112, .f32⟩ : BufTy).Contents (Elt F)) (x4 : (⟨S4112x8x64, .f32⟩ : BufTy).Contents (Elt F)) : (⟨S8x4224x128, .bf16⟩ : BufTy).Contents (Elt F) :=
  truncf .bf16 (val_main_v126 (F := F) x0 x1 x2 x3 x4) bitsLt_bf16_f32
theorem val_main_v127_apply (x0 x1 x2 : (⟨S4112x8x64, .f32⟩ : BufTy).Contents (Elt F)) (x3 : (⟨S8x4112, .f32⟩ : BufTy).Contents (Elt F)) (x4 : (⟨S4112x8x64, .f32⟩ : BufTy).Contents (Elt F)) (i : S8x4224x128.Idx) :
    val_main_v127 (F := F) x0 x1 x2 x3 x4 i = FloatOps.truncf .bf16 bitsLt_bf16_f32 (val_main_v126 (F := F) x0 x1 x2 x3 x4 i) := rfl

-- %cst_30 = stablehlo.constant dense<0.000000e+00> : tensor<f32>
def val_main_cst_30 : (⟨S_, .f32⟩ : BufTy).Contents (Elt F) :=
  constant S_ .f32 0x00000000#32
theorem val_main_cst_30_apply (i : S_.Idx) :
    val_main_cst_30 (F := F) i = FloatOps.ofBits .f32 0x00000000#32 := rfl

-- @_pad's %0 = stablehlo.convert %arg1 : tensor<f32>, in %128 = func.call @_pad(…) (record main_call22)
def val_main_call22_v0 : (⟨S_, .f32⟩ : BufTy).Contents (Elt F) :=
  id (val_main_cst_30 (F := F))
theorem val_main_call22_v0_apply (i : S_.Idx) :
    val_main_call22_v0 (F := F) i = (val_main_cst_30 (F := F) i) := rfl

-- %128 = func.call @_pad(…) (record main_call22) result 0: @_pad's %1 = stablehlo.pad %arg0, %0, low = [0, 112], high = [0, 0], interior = [0, 0] : (tensor<8x4112xf32>, tensor<f32>) -> tensor<8x4224xf32>
def val_main_v128 (x0 x1 : (⟨S4112x8x64, .f32⟩ : BufTy).Contents (Elt F)) (x3 : (⟨S8x4112, .f32⟩ : BufTy).Contents (Elt F)) : (⟨S8x4224, .f32⟩ : BufTy).Contents (Elt F) :=
  pad S8x4224 ![0, 112] ![0, 0] ![0, 0] (val_main_v31 (F := F) x0 x1 x3) (val_main_call22_v0 (F := F)) pads_S8x4112_S8x4224_000_11200 h_S_

-- %129 = stablehlo.reshape %128 : (tensor<8x4224xf32>) -> tensor<8x11x1x384xf32>
def val_main_v129 (x0 x1 : (⟨S4112x8x64, .f32⟩ : BufTy).Contents (Elt F)) (x3 : (⟨S8x4112, .f32⟩ : BufTy).Contents (Elt F)) : (⟨S8x11x1x384, .f32⟩ : BufTy).Contents (Elt F) :=
  shapeCast _ (val_main_v128 (F := F) x0 x1 x3) shapeCasts_S8x4224_S8x11x1x384
set_option backward.proofsInPublic true in
abbrev idx_main_v129 (i : S8x11x1x384.Idx) : S8x4224.Idx := fun a => match a with
  | ⟨0, _⟩ => ⟨((((i 0).val * 11 + (i 1).val) * 1 + (i 2).val) * 384 + (i 3).val) / 4224, by have h0 : (i 0).val < 8 := (i 0).isLt; have h1 : (i 1).val < 11 := (i 1).isLt; have h2 : (i 2).val < 1 := (i 2).isLt; have h3 : (i 3).val < 384 := (i 3).isLt; show ((((i 0).val * 11 + (i 1).val) * 1 + (i 2).val) * 384 + (i 3).val) / 4224 < 8; omega⟩
  | ⟨1, _⟩ => ⟨((((i 0).val * 11 + (i 1).val) * 1 + (i 2).val) * 384 + (i 3).val) % 4224, by have h0 : (i 0).val < 8 := (i 0).isLt; have h1 : (i 1).val < 11 := (i 1).isLt; have h2 : (i 2).val < 1 := (i 2).isLt; have h3 : (i 3).val < 384 := (i 3).isLt; show ((((i 0).val * 11 + (i 1).val) * 1 + (i 2).val) * 384 + (i 3).val) % 4224 < 4224; omega⟩
theorem val_main_v129_apply (x0 x1 : (⟨S4112x8x64, .f32⟩ : BufTy).Contents (Elt F)) (x3 : (⟨S8x4112, .f32⟩ : BufTy).Contents (Elt F)) (i : S8x11x1x384.Idx) :
    val_main_v129 (F := F) x0 x1 x3 i = val_main_v128 (F := F) x0 x1 x3 (idx_main_v129 i) := by
  unfold val_main_v129
  generalize val_main_v128 (F := F) x0 x1 x3 = y
  exact shapeCast_apply y shapeCasts_S8x4224_S8x11x1x384 i (idx_main_v129 i)
    (by rewrite [Shape.rowMajor_val_two, Shape.rowMajor_val_four]; have h0 : (i 0).val < 8 := (i 0).isLt; have h1 : (i 1).val < 11 := (i 1).isLt; have h2 : (i 2).val < 1 := (i 2).isLt; have h3 : (i 3).val < 384 := (i 3).isLt; show ((((i 0).val * 11 + (i 1).val) * 1 + (i 2).val) * 384 + (i 3).val) / 4224 * 4224 + ((((i 0).val * 11 + (i 1).val) * 1 + (i 2).val) * 384 + (i 3).val) % 4224 = (((i 0).val * 11 + (i 1).val) * 1 + (i 2).val) * 384 + (i 3).val; omega)

end Cert.KernelIdeal.Host

end
-- ==== Proof.Spec.lean ====
/- The backward pass of the forgetting attention over the real numbers: what both the kernel and the reference compute. -/
module

public import Idealize.ShloMosaic.Lib.Pointwise
public import Idealize.ShloMosaic.Lib.WordCmp
public import Idealize.ShloMosaic.PureOps.Ideal.Laws

@[expose] public section

noncomputable section

namespace Cert.Fox

open Idealize.ShloMosaic

/-- The arguments: queries, keys, values and the incoming gradient by row, head and lane; the gates' running sums. -/
structure Args where
  q : Fin 4112 → Fin 8 → Fin 64 → ℝ
  k : Fin 4112 → Fin 8 → Fin 64 → ℝ
  v : Fin 4112 → Fin 8 → Fin 64 → ℝ
  d : Fin 4112 → Fin 8 → Fin 64 → ℝ
  c : Fin 8 → Fin 4112 → ℝ

/-- A real array by row, head and lane, as the programs hold it. -/
def arr3 (f : Fin 4112 → Fin 8 → Fin 64 → ℝ) : (⟨3, ![4112, 8, 64]⟩ : Shape).Idx → EReal := fun i => ((f (i 0) (i 1) (i 2) : ℝ) : EReal)
/-- A real array by head and row. -/
def arr2 (f : Fin 8 → Fin 4112 → ℝ) : (⟨2, ![8, 4112]⟩ : Shape).Idx → EReal := fun i => ((f (i 0) (i 1) : ℝ) : EReal)

theorem arr3_apply (f : Fin 4112 → Fin 8 → Fin 64 → ℝ) (a : Fin 4112) (h : Fin 8) (l : Fin 64) : arr3 f (ix3 a h l) = (f a h l : ℝ) := rfl
theorem arr2_apply (f : Fin 8 → Fin 4112 → ℝ) (h : Fin 8) (a : Fin 4112) : arr2 f (ix2 h a) = (f h a : ℝ) := rfl

variable (A : Args)

/-- The scores. -/
def sc (h : Fin 8) (a b : Fin 4112) : ℝ := (∑ x, A.q a h x * A.k b h x) * (1 / 8) + A.c h a - A.c h b
/-- A key's weight for a query: none for a later key. -/
def wt (h : Fin 8) (a b : Fin 4112) : ℝ := if b ≤ a then Real.exp (sc A h a b) else 0
/-- A query's total weight. -/
def tot (h : Fin 8) (a : Fin 4112) : ℝ := ∑ b, wt A h a b
/-- The attention's probabilities. -/
def pr (h : Fin 8) (a b : Fin 4112) : ℝ := wt A h a b / tot A h a
/-- Their gradient. -/
def dpr (h : Fin 8) (a b : Fin 4112) : ℝ := ∑ x, A.d a h x * A.v b h x
/-- A row's mean gradient. -/
def dl (h : Fin 8) (a : Fin 4112) : ℝ := ∑ b, pr A h a b * dpr A h a b
/-- The gradient with respect to the scores. -/
def ds (h : Fin 8) (a b : Fin 4112) : ℝ := pr A h a b * (dpr A h a b - dl A h a)
def gq (h : Fin 8) (a : Fin 4112) (x : Fin 64) : ℝ := (∑ b, ds A h a b * A.k b h x) * (1 / 8)
def gk (h : Fin 8) (b : Fin 4112) (x : Fin 64) : ℝ := (∑ a, ds A h a b * A.q a h x) * (1 / 8)
def gv (h : Fin 8) (b : Fin 4112) (x : Fin 64) : ℝ := ∑ a, pr A h a b * A.d a h x
def gcq (h : Fin 8) (a : Fin 4112) : ℝ := ∑ b, ds A h a b
def gck (h : Fin 8) (b : Fin 4112) : ℝ := ∑ a, ds A h a b

theorem wt_nonneg (h : Fin 8) (a b : Fin 4112) : 0 ≤ wt A h a b := by
  unfold wt; split
  · exact (Real.exp_pos _).le
  · exact le_refl _

theorem tot_pos (h : Fin 8) (a : Fin 4112) : 0 < tot A h a :=
  lt_of_lt_of_le (by unfold wt; rw [if_pos (le_refl a)]; exact Real.exp_pos (sc A h a a))
    (Finset.single_le_sum (f := fun b => wt A h a b) (fun b _ => wt_nonneg A h a b) (Finset.mem_univ a))

/-- Weights taken relative to any row constant. -/
def wtm (M : ℝ) (h : Fin 8) (a b : Fin 4112) : ℝ := if b ≤ a then Real.exp (sc A h a b - M) else 0

theorem wtm_eq (M : ℝ) (h : Fin 8) (a b : Fin 4112) : wtm A M h a b = wt A h a b * Real.exp (-M) := by
  unfold wtm wt; split
  · rw [← Real.exp_add, sub_eq_add_neg]
  · rw [zero_mul]

theorem sum_wtm (M : ℝ) (h : Fin 8) (a : Fin 4112) : ∑ b, wtm A M h a b = tot A h a * Real.exp (-M) := by
  unfold tot; rw [Finset.sum_mul]; exact Finset.sum_congr rfl fun b _ => wtm_eq A M h a b

theorem sum_wtm_pos (M : ℝ) (h : Fin 8) (a : Fin 4112) : 0 < ∑ b, wtm A M h a b := by
  rw [sum_wtm]; exact mul_pos (tot_pos A h a) (Real.exp_pos _)

theorem wtm_div (M : ℝ) (h : Fin 8) (a b : Fin 4112) : wtm A M h a b / ∑ b, wtm A M h a b = pr A h a b := by
  rw [sum_wtm, wtm_eq, mul_div_mul_right _ _ (Real.exp_pos _).ne']; rfl

theorem log_sum_wtm (M : ℝ) (h : Fin 8) (a : Fin 4112) : M + Real.log (∑ b, wtm A M h a b) = Real.log (tot A h a) := by
  rw [sum_wtm, Real.log_mul (tot_pos A h a).ne' (Real.exp_pos _).ne', Real.log_exp]; ring

/-- A probability from the score and the row's normaliser. -/
theorem exp_sub_log (h : Fin 8) (a b : Fin 4112) (hab : b ≤ a) : Real.exp (sc A h a b - Real.log (tot A h a)) = pr A h a b := by
  rw [Real.exp_sub, Real.exp_log (tot_pos A h a)]; unfold pr wt; rw [if_pos hab]

theorem pr_zero (h : Fin 8) (a b : Fin 4112) (hab : ¬ b ≤ a) : pr A h a b = 0 := by
  unfold pr wt; rw [if_neg hab, zero_div]
theorem ds_zero (h : Fin 8) (a b : Fin 4112) (hab : ¬ b ≤ a) : ds A h a b = 0 := by
  unfold ds; rw [pr_zero A h a b hab, zero_mul]

/-- The row's mean gradient, from the attention's output. -/
theorem dl_eq (h : Fin 8) (a : Fin 4112) : ∑ x, A.d a h x * ∑ b, pr A h a b * A.v b h x = dl A h a := by
  unfold dl dpr
  simp only [Finset.mul_sum]
  rw [Finset.sum_comm]
  exact Finset.sum_congr rfl fun b _ => Finset.sum_congr rfl fun x _ => by ring

/-! ## Extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

theorem log_coe_pos (x : ℝ) (hx : 0 < x) : Ideal.log (x : EReal) = ((Real.log x : ℝ) : EReal) := by
  rw [Ideal.log_coe, if_neg (not_le.2 hx)]

theorem eighth : Ideal.ofBits FTy.f32 1040187392#32 = ((1 / 8 : ℝ) : EReal) := by
  simp [Ideal.ofBits, Ideal.ieee]
  rw [← EReal.coe_mul]
  norm_num

theorem neg_inf : Ideal.ofBits FTy.f32 4286578688#32 = ⊥ := by
  simp [Ideal.ofBits, Ideal.ieee]

theorem pos_inf : Ideal.ofBits FTy.f32 2139095040#32 = ⊤ := by
  simp [Ideal.ofBits, Ideal.ieee]

/-- A row's maximum of reals and minus infinities, one of them a real, is a real. -/
theorem fold_max_real {n : ℕ} (f : Fin n → EReal) (h : ∀ k, f k < ⊤) (k0 : Fin n) (h0 : ⊥ < f k0) :
    ∃ M : ℝ, (Finset.univ : Finset (Fin n)).fold max ⊥ f = (M : EReal) := by
  have h1 : (Finset.univ : Finset (Fin n)).fold max ⊥ f < ⊤ := (Finset.fold_max_lt _).2 ⟨bot_lt_top, fun k _ => h k⟩
  have h2 : ⊥ < (Finset.univ : Finset (Fin n)).fold max ⊥ f := (Finset.lt_fold_max _).2 (.inr ⟨k0, Finset.mem_univ _, h0⟩)
  exact ⟨_, (EReal.coe_toReal h1.ne h2.ne').symm⟩

/-- An index word comparison. -/
theorem sel_le {α : Type} (m n : ℕ) (hm : m < 2147483648) (hn : n < 2147483648) (x y : α) :
    Scalar.select (IntOp.cmpi CmpIPredicate.sle (BitVec.ofNat 32 m) (BitVec.ofNat 32 n)) x y = if m ≤ n then x else y := by
  have h : IntOp.cmpi CmpIPredicate.sle (BitVec.ofNat 32 m) (BitVec.ofNat 32 n) = BitVec.ofBool (decide (m ≤ n)) := by
    rw [WordCmp.cmpi_sle_eq, WordCmp.toInt_ofNat_of_lt (by simpa using hm), WordCmp.toInt_ofNat_of_lt (by simpa using hn)]
    exact congrArg BitVec.ofBool (decide_eq_decide.2 (by omega))
  rw [h, Scalar.select_decide]

/-! ## The padded, packed arrays -/

/-- Two half rows side by side: a head's own half first where the head is even. -/
def pack {M : Type*} (h : Fin 8) (f g : Fin 64 → M) (l : Fin 128) : M :=
  if h.val % 2 = 1 then (if hl : l.val < 64 then g ⟨l.val, hl⟩ else f ⟨l.val - 64, by omega⟩)
  else (if hl : l.val < 64 then f ⟨l.val, hl⟩ else g ⟨l.val - 64, by omega⟩)

theorem pack_mul (h : Fin 8) (f g f' g' : Fin 64 → EReal) (l : Fin 128) :
    pack h f g l * pack h f' g' l = pack h (fun x => f x * f' x) (fun x => g x * g' x) l := by
  unfold pack; split <;> split <;> rfl

theorem sum_halves {M : Type*} [AddCommMonoid M] (F : Fin 128 → M) :
    ∑ l, F l = ∑ x : Fin 64, F ⟨x.val, by omega⟩ + ∑ x : Fin 64, F ⟨64 + x.val, by omega⟩ :=
  Fin.sum_univ_add (a := 64) (b := 64) F

theorem sum_pack {M : Type*} [AddCommMonoid M] (h : Fin 8) (f g : Fin 64 → M) : ∑ l, pack h f g l = ∑ x, f x + ∑ x, g x := by
  rw [sum_halves]
  unfold pack
  by_cases hh : h.val % 2 = 1
  · simp only [if_pos hh]
    rw [add_comm]
    refine congrArg₂ (· + ·) (Finset.sum_congr rfl fun x _ => ?_) (Finset.sum_congr rfl fun x _ => ?_)
    · rw [dif_neg (by simp)]; exact congrArg f (Fin.ext (by simp))
    · rw [dif_pos x.isLt]
  · simp only [if_neg hh]
    refine congrArg₂ (· + ·) (Finset.sum_congr rfl fun x _ => ?_) (Finset.sum_congr rfl fun x _ => ?_)
    · rw [dif_pos x.isLt]
    · rw [dif_neg (by simp)]; exact congrArg g (Fin.ext (by simp))

theorem pack_own {M : Type*} (h : Fin 8) (f g : Fin 64 → M) (x : Fin 64) : pack h f g ⟨64 * (h.val % 2) + x.val, by omega⟩ = f x := by
  unfold pack
  by_cases hh : h.val % 2 = 1
  · rw [if_pos hh, dif_neg (by simp <;> omega)]; exact congrArg f (Fin.ext (by simp <;> omega))
  · rw [if_neg hh, dif_pos (by simp <;> omega)]; exact congrArg f (Fin.ext (by simp <;> omega))

theorem pack_other {M : Type*} (h : Fin 8) (f g : Fin 64 → M) : pack h f g ⟨64 * (1 - h.val % 2), by omega⟩ = g 0 := by
  unfold pack
  by_cases hh : h.val % 2 = 1
  · rw [if_pos hh, dif_pos (by simp <;> omega)]; exact congrArg g (Fin.ext (by simp <;> omega))
  · rw [if_neg hh, dif_neg (by simp <;> omega)]; exact congrArg g (Fin.ext (by simp <;> omega))

/-- A half row with six lanes in use. -/
def six {M : Type*} (z u0 u1 u2 u3 u4 u5 : M) (x : Fin 64) : M :=
  if x.val = 0 then u0 else if x.val = 1 then u1 else if x.val = 2 then u2 else if x.val = 3 then u3
  else if x.val = 4 then u4 else if x.val = 5 then u5 else z

theorem sum_six {M : Type*} [AddCommMonoid M] (u0 u1 u2 u3 u4 u5 : M) :
    ∑ x, six 0 u0 u1 u2 u3 u4 u5 x = u0 + u1 + u2 + u3 + u4 + u5 := by
  have e := Fin.sum_univ_add (a := 6) (b := 58) (M := M) (six 0 u0 u1 u2 u3 u4 u5)
  refine e.trans ?_
  rw [Fin.sum_univ_six, Finset.sum_eq_zero (s := (Finset.univ : Finset (Fin 58))), add_zero]
  · rfl
  · intro x _
    unfold six
    simp only [Fin.val_natAdd]
    rw [if_neg (by omega), if_neg (by omega), if_neg (by omega), if_neg (by omega), if_neg (by omega), if_neg (by omega)]

theorem six_mul (u0 u1 u2 u3 u4 u5 t0 t1 t2 t3 t4 t5 : EReal) (x : Fin 64) :
    six 0 u0 u1 u2 u3 u4 u5 x * six 0 t0 t1 t2 t3 t4 t5 x = six 0 (u0 * t0) (u1 * t1) (u2 * t2) (u3 * t3) (u4 * t4) (u5 * t5) x := by
  unfold six; split_ifs <;> simp

/-- A real row under 112 rows of padding. -/
def padR {M : Type*} (z : M) (f : Fin 4112 → M) (a : Fin 4224) : M := if h : 112 ≤ a.val then f ⟨a.val - 112, by omega⟩ else z

end Cert.Fox

end
-- ==== Proof.HostVal.lean ====
/- What the host lines before the kernel compute over the reals: the packed, padded operands and the row normalisers. -/
module

public import proofs.«01_k».proof.Proof.HostB
public import proofs.«01_k».proof.Proof.Spec
public import Idealize.ShloMosaic.Lib.KernelVsHost

@[expose] public section

noncomputable section

namespace Cert.KernelIdeal.Host

open Idealize.ShloMosaic Idealize.SL.Sem
open Cert.KernelIdeal Cert.KernelIdeal.Gen Cert.Fox

variable (A : Args)

theorem v9_val (h : Fin 8) (a b : Fin 4112) : val_main_v9 (F := Ideal) (arr3 A.q) (arr3 A.k) (arr2 A.c) (ix3 h a b) = (sc A h a b : ℝ) := by
  pointwise [val_main_v9, val_main_v6, val_main_v3, val_main_v1, val_main_v2, val_main_v4, val_main_v5, val_main_v7, val_main_v8, val_main_cst, dot_S4112x8x64_S4112x8x64_S8x4112x4112_2_2_0_0_1_1]
  simp only [arr3_apply, arr2_apply, eighth, ← EReal.coe_mul, coe_sum, ← EReal.coe_add, ← EReal.coe_sub]
  rfl

theorem v15_val (h : Fin 8) (a b : Fin 4112) :
    val_main_v15 (F := Ideal) (arr3 A.q) (arr3 A.k) (arr2 A.c) (ix3 h a b) = if b ≤ a then ((sc A h a b : ℝ) : EReal) else ⊥ := by
  pointwise [val_main_v15, val_main_call0_v1, val_main_call0_v0, val_main_call0_v2, val_main_v10, val_main_v11, val_main_v12, val_main_v13, val_main_v14, val_main_v0, val_main_cst_0]
  rw [sel_le _ _ (by omega) (by omega), v9_val]
  exact if_congr Fin.le_def.symm rfl neg_inf

theorem v16_val (h : Fin 8) (a : Fin 4112) :
    ∃ M : ℝ, val_main_v16 (F := Ideal) (arr3 A.q) (arr3 A.k) (arr2 A.c) (ix2 h a) = (M : EReal) := by
  have hf : ∀ b : Fin 4112, val_main_v15 (F := Ideal) (arr3 A.q) (arr3 A.k) (arr2 A.c) (ix3 h a b) = if b ≤ a then ((sc A h a b : ℝ) : EReal) else ⊥ := v15_val A h a
  unfold val_main_v16 val_main_cst_1
  generalize val_main_v15 (F := Ideal) (arr3 A.q) (arr3 A.k) (arr2 A.c) = y at hf
  have hR : S8x4112x4112.Reduces [2] S8x4112 := by decide
  have e0 := congrFun (hostReduce_maximumf_eq_multiReduction (F := Ideal) (φ := .f32) (s := S8x4112x4112) (t := S8x4112) (u := S_) (axes := [2])
    y 0xFF800000#32 reducesTo_S8x4112x4112_S8x4112_d2 h_S_ hR (.inl rfl) rfl) (ix2 h a)
  have e1 := Ideal.multiReduction_maximumf_single (φ := .f32) (s := S8x4112x4112) (t := S8x4112) (a := 2) y 0xFF800000#32 hR (.inl rfl) rfl (ix2 h a)
  refine Exists.imp (fun M hM => (e0.trans e1).trans hM) ?_
  have e : (y ∘ hR.lift (ix2 h a)) = fun b : Fin 4112 => if b ≤ a then ((sc A h a b : ℝ) : EReal) else ⊥ := by
    funext b
    rw [← hf b]
    exact congrArg y (funext fun i => Fin.ext (by match i with | ⟨0, _⟩ => rfl | ⟨1, _⟩ => rfl | ⟨2, _⟩ => rfl))
  rw [e, show FloatOps.ofBits (F := Ideal) FTy.f32 0xFF800000#32 = ⊥ from neg_inf]
  refine fold_max_real _ (fun b => ?_) a ?_
  · split
    · exact EReal.coe_lt_top _
    · exact bot_lt_top
  · rw [if_pos (le_refl a)]; exact EReal.bot_lt_coe _

theorem v20_val (M : ℝ) (h : Fin 8) (a b : Fin 4112) (hM : val_main_v16 (F := Ideal) (arr3 A.q) (arr3 A.k) (arr2 A.c) (ix2 h a) = (M : EReal)) :
    val_main_v20 (F := Ideal) (arr3 A.q) (arr3 A.k) (arr2 A.c) (ix3 h a b) = (wtm A M h a b : ℝ) := by
  pointwise [val_main_v20, val_main_v19, val_main_v18, val_main_v17]
  rw [hM, v15_val]
  unfold wtm
  split
  · rw [← EReal.coe_sub, Ideal.exp_coe]
  · simp

theorem v24_val (h : Fin 8) (a b : Fin 4112) :
    val_main_v24 (F := Ideal) (arr3 A.q) (arr3 A.k) (arr2 A.c) (ix3 h a b) = (pr A h a b : ℝ) := by
  obtain ⟨M, hM⟩ := v16_val A h a
  pointwise [val_main_v24, val_main_v23, val_main_v22, val_main_v21, val_main_cst_2]
  simp only [v20_val A M h a _ hM, coe_sum]
  rw [div_coe _ _ (sum_wtm_pos A M h a).ne', wtm_div]

theorem v22_val (M : ℝ) (h : Fin 8) (a : Fin 4112) (hM : val_main_v16 (F := Ideal) (arr3 A.q) (arr3 A.k) (arr2 A.c) (ix2 h a) = (M : EReal)) :
    val_main_v22 (F := Ideal) (arr3 A.q) (arr3 A.k) (arr2 A.c) (ix3 h a 0) = ((∑ b, wtm A M h a b : ℝ) : EReal) := by
  pointwise [val_main_v22, val_main_v21, val_main_cst_2]
  simp only [v20_val A M h a _ hM, coe_sum]

theorem v17_val (M : ℝ) (h : Fin 8) (a : Fin 4112) (hM : val_main_v16 (F := Ideal) (arr3 A.q) (arr3 A.k) (arr2 A.c) (ix2 h a) = (M : EReal)) :
    val_main_v17 (F := Ideal) (arr3 A.q) (arr3 A.k) (arr2 A.c) (ix3 h a 0) = (M : EReal) := by
  rw [← hM]
  pointwise [val_main_v17]

theorem log_row (M : ℝ) (h : Fin 8) (a : Fin 4112) :
    ((M : ℝ) : EReal) + Ideal.log ((∑ b, wtm A M h a b : ℝ) : EReal) = (Real.log (tot A h a) : ℝ) :=
  ((congrArg (fun z : EReal => ((M : ℝ) : EReal) + z) (log_coe_pos _ (sum_wtm_pos A M h a))).trans (EReal.coe_add _ _).symm).trans
    (congrArg (fun z : ℝ => (z : EReal)) (log_sum_wtm A M h a))

theorem v30_val (h : Fin 8) (a : Fin 4112) :
    val_main_v30 (F := Ideal) (arr3 A.q) (arr3 A.k) (arr2 A.c) (ix3 h a 0) = (Real.log (tot A h a) : ℝ) := by
  obtain ⟨M, hM⟩ := v16_val A h a
  refine (val_main_v30_apply _ _ _ _).trans ?_
  rw [v17_val A M h a hM, val_main_v29_apply, v22_val A M h a hM]
  exact log_row A M h a

theorem v31_idx (h : Fin 8) (a : Fin 4112) : idx_main_v31 (ix2 h a) = ix3 h a 0 := by
  have h0 := h.isLt; have h1 := a.isLt
  funext i
  fin_cases i
  · exact Fin.ext (show (h.val * 4112 + a.val) / 4112 = h.val by omega)
  · exact Fin.ext (show (h.val * 4112 + a.val) / 1 % 4112 = a.val by omega)
  · rfl

theorem v31_val (h : Fin 8) (a : Fin 4112) :
    val_main_v31 (F := Ideal) (arr3 A.q) (arr3 A.k) (arr2 A.c) (ix2 h a) = (Real.log (tot A h a) : ℝ) := by
  rw [val_main_v31_apply, v31_idx, v30_val]

theorem v28_val (h : Fin 8) (a : Fin 4112) :
    val_main_v28 (F := Ideal) (arr3 A.q) (arr3 A.k) (arr3 A.v) (arr2 A.c) (arr3 A.d) (ix2 h a) = (dl A h a : ℝ) := by
  pointwise [val_main_v28, val_main_v27, val_main_v26, val_main_v25, val_main_cst_3, dot_S8x4112x4112_S4112x8x64_S8x4112x64_2_0_1_2_0_1]
  simp only [v24_val, arr3_apply, ← EReal.coe_mul, coe_sum]
  rw [dl_eq]

/-- The queries' own lanes, scaled. -/
def qOwn (h : Fin 8) (a : Fin 4224) (x : Fin 64) : ℝ := padR 0 (fun a => A.q a h x * (1 / 8)) a
def kOwn (h : Fin 8) (a : Fin 4224) (x : Fin 64) : ℝ := padR 0 (fun a => A.k a h x) a
def vOwn (h : Fin 8) (a : Fin 4224) (x : Fin 64) : ℝ := padR 0 (fun a => A.v a h x) a
def dOwn (h : Fin 8) (a : Fin 4224) (x : Fin 64) : ℝ := padR 0 (fun a => A.d a h x) a

theorem parity (h : Fin 8) : val_main_v82 (F := Ideal) (ix1 h) = BitVec.ofBool (decide (h.val % 2 = 1)) := by
  revert h; decide +kernel

theorem pack_sel (h : Fin 8) (f g : Fin 64 → EReal) (l : Fin 128) :
    Scalar.select (val_main_v82 (F := Ideal) (ix1 h)) (if hl : l.val < 64 then g ⟨l.val, hl⟩ else f ⟨l.val - 64, by omega⟩)
      (if hl : l.val < 64 then f ⟨l.val, hl⟩ else g ⟨l.val - 64, by omega⟩) = pack h f g l := by
  rw [parity, Scalar.select_decide]; rfl

theorem pad_val {M : Type*} (f : Fin 4112 → M) (z : M) (a : Fin 4224) :
    (if h : 112 ≤ a.val ∧ a.val - 112 < 4112 then f ⟨a.val - 112, h.2⟩ else z) = padR z f a := by
  unfold padR
  by_cases h : 112 ≤ a.val
  · rw [dif_pos h, dif_pos ⟨h, by omega⟩]
  · rw [dif_neg h, dif_neg fun e => h e.1]

theorem padR_map {M N : Type*} (g : M → N) (f : Fin 4112 → M) (z : M) (a : Fin 4224) : g (padR z f a) = padR (g z) (fun b => g (f b)) a := by
  unfold padR; split <;> rfl

theorem sitofp_zero' : (FloatOps.sitofp (F := Ideal) FTy.f32 (0#32 : BitVec 32)) = (0 : EReal) := by
  show (((0#32 : BitVec 32).toInt : ℝ) : EReal) = 0
  simp

theorem const0 (i : S_.Idx) : constant (F := Ideal) S_ FTy.f32 0#32 i = (0 : EReal) := by
  show Ideal.ofBits FTy.f32 0#32 = 0
  simp [Ideal.ofBits, Ideal.ieee]

theorem constTop (i : S_.Idx) : constant (F := Ideal) S_ FTy.f32 2139095040#32 i = (⊤ : EReal) := pos_inf

theorem pad_zero (f : Fin 4112 → EReal) (a : Fin 4224) (hf : ∀ b, f b = 0) :
    (if h : 112 ≤ a.val ∧ a.val - 112 < 4112 then f ⟨a.val - 112, h.2⟩ else 0) = 0 := by
  split
  · exact hf _
  · rfl

theorem six_sel {M : Type*} (z u0 u1 u2 u3 u4 u5 : M) (x : Fin 64) :
    (if x.val < 6 then (if x.val < 3 then (if x.val < 1 then u0 else if x.val - 1 < 1 then u1 else u2)
      else if x.val - 3 < 1 then u3 else if x.val - 3 - 1 < 1 then u4 else u5) else z) = six z u0 u1 u2 u3 u4 u5 x := by
  unfold six
  split_ifs <;> first | rfl | omega

theorem v74_val (h : Fin 8) (a : Fin 4224) (x : Fin 64) : val_main_v74 (F := Ideal) (arr3 A.q) (ix3 h a x) = (qOwn A h a x : ℝ) := by
  pointwise [val_main_v74, val_main_v73, val_main_v72, val_main_v71, val_main_cst_14, val_main_call10_v0, val_main_c]
  rw [eighth, sitofp_zero']
  simp only [arr3_apply]
  rw [pad_val (fun a => ((A.q a h x : ℝ) : EReal)) 0 a, qOwn]
  unfold padR; split
  · rw [← EReal.coe_mul]
  · simp

theorem v78_val (h : Fin 8) (a : Fin 4224) (x : Fin 64) :
    val_main_v78 (F := Ideal) (arr2 A.c) (ix3 h a x) = six 0 (-1) (-1) (-1) (padR 0 (fun a => ((A.c h a : ℝ) : EReal)) a) 0 0 x := by
  pointwise [val_main_v78, val_main_v77, val_main_v76, val_main_v75, val_main_v47, val_main_v44, val_main_v45, val_main_v46, val_main_v41, val_main_v42, val_main_v43, val_main_v32, val_main_v33, val_main_v34, val_main_v35, val_main_v36, val_main_v37, val_main_v38, val_main_v39, val_main_v40, val_main_cst_15, val_main_call1_v0, val_main_call2_v0, val_main_call3_v0, val_main_cst_4, val_main_cst_5, val_main_cst_6, val_main_cst_7]
  simp only [arr2_apply, id, const0]
  have e1 := pad_val (fun a => ((A.c h a : ℝ) : EReal)) 0 a
  have e2 := pad_zero (fun a => ((A.c h a : ℝ) : EReal) - ((A.c h a : ℝ) : EReal)) a (fun b => by rw [← EReal.coe_sub, sub_self]; rfl)
  have e3 := pad_zero (fun a => ((A.c h a : ℝ) : EReal) - ((A.c h a : ℝ) : EReal) - (((A.c h a : ℝ) : EReal) - ((A.c h a : ℝ) : EReal))) a
    (fun b => by simp only [← EReal.coe_sub, sub_self]; rfl)
  rw [← six_sel, ← e1]
  simp only [e1, e2, e3, dite_eq_ite, ite_self]

theorem v87_val (h : Fin 8) (a : Fin 4224) (l : Fin 128) : val_main_v87 (F := Ideal) (arr3 A.q) (arr2 A.c) (ix3 h a l)
    = pack h (fun x => val_main_v74 (F := Ideal) (arr3 A.q) (ix3 h a x)) (fun x => val_main_v78 (F := Ideal) (arr2 A.c) (ix3 h a x)) l := by
  pointwise [val_main_v87, val_main_v86, val_main_v84, val_main_v85, val_main_call12_v0,val_main_v83]
  exact pack_sel h (fun x => val_main_v74 (F := Ideal) (arr3 A.q) (ix3 h a x)) (fun x => val_main_v78 (F := Ideal) (arr2 A.c) (ix3 h a x)) l

theorem v89_val (h : Fin 8) (a : Fin 4224) (x : Fin 64) : val_main_v89 (F := Ideal) (arr3 A.k) (ix3 h a x) = (kOwn A h a x : ℝ) := by
  pointwise [val_main_v89, val_main_v88, val_main_call13_v0, val_main_c_18]
  rw [sitofp_zero']
  simp only [arr3_apply]
  rw [pad_val (fun a => ((A.k a h x : ℝ) : EReal)) 0 a, kOwn]
  unfold padR; split <;> rfl

theorem v103_val (h : Fin 8) (a : Fin 4224) (x : Fin 64) : val_main_v103 (F := Ideal) (arr3 A.v) (ix3 h a x) = (vOwn A h a x : ℝ) := by
  pointwise [val_main_v103, val_main_v102, val_main_call16_v0, val_main_c_22]
  rw [sitofp_zero']
  simp only [arr3_apply]
  rw [pad_val (fun a => ((A.v a h x : ℝ) : EReal)) 0 a, vOwn]
  unfold padR; split <;> rfl

theorem v116_val (h : Fin 8) (a : Fin 4224) (x : Fin 64) : val_main_v116 (F := Ideal) (arr3 A.d) (ix3 h a x) = (dOwn A h a x : ℝ) := by
  pointwise [val_main_v116, val_main_v115, val_main_call19_v0, val_main_c_26]
  rw [sitofp_zero']
  simp only [arr3_apply]
  rw [pad_val (fun a => ((A.d a h x : ℝ) : EReal)) 0 a, dOwn]
  unfold padR; split <;> rfl

theorem v92_val (h : Fin 8) (a : Fin 4224) (x : Fin 64) :
    val_main_v92 (F := Ideal) (arr2 A.c) (ix3 h a x) = six 0 (padR ⊤ (fun a => ((A.c h a : ℝ) : EReal)) a) 0 0 1 1 1 x := by
  pointwise [val_main_v92, val_main_v91, val_main_v90, val_main_v54, val_main_v51, val_main_v52, val_main_v53, val_main_v48, val_main_v49, val_main_v50, val_main_v32, val_main_v33, val_main_v34, val_main_v35, val_main_v36, val_main_v37, val_main_v38, val_main_v39, val_main_v40, val_main_cst_19, val_main_call4_v0, val_main_call5_v0, val_main_call6_v0, val_main_cst_4, val_main_cst_8, val_main_cst_9, val_main_cst_10]
  simp only [arr2_apply, id, const0, constTop]
  have e1 := pad_val (fun a => ((A.c h a : ℝ) : EReal)) ⊤ a
  have e2 := pad_zero (fun a => ((A.c h a : ℝ) : EReal) - ((A.c h a : ℝ) : EReal)) a (fun b => by rw [← EReal.coe_sub, sub_self]; rfl)
  have e3 := pad_zero (fun a => ((A.c h a : ℝ) : EReal) - ((A.c h a : ℝ) : EReal) - (((A.c h a : ℝ) : EReal) - ((A.c h a : ℝ) : EReal))) a
    (fun b => by simp only [← EReal.coe_sub, sub_self]; rfl)
  rw [← six_sel, ← e1]
  simp only [e1, e2, e3, dite_eq_ite, ite_self]

theorem v118_val (h : Fin 8) (a : Fin 4224) (x : Fin 64) :
    val_main_v118 (F := Ideal) (arr3 A.q) (arr3 A.k) (arr3 A.v) (arr2 A.c) (arr3 A.d) (ix3 h a x) = six 0 (padR 0 (fun a => ((-dl A h a : ℝ) : EReal)) a) 0 0 0 0 0 x := by
  pointwise [val_main_v118, val_main_v117, val_main_v70, val_main_v67, val_main_v68, val_main_v69, val_main_v64, val_main_v65, val_main_v66, val_main_v55, val_main_v56, val_main_v57, val_main_v58, val_main_v59, val_main_v60, val_main_v61, val_main_v62, val_main_v63, val_main_cst_27, val_main_call7_v0, val_main_call8_v0, val_main_call9_v0, val_main_cst_11, val_main_cst_12, val_main_cst_13]
  simp only [v28_val, id, const0]
  have e1 := pad_val (fun a => -((dl A h a : ℝ) : EReal)) 0 a
  have e2 := pad_zero (fun a => -((dl A h a : ℝ) : EReal) - -((dl A h a : ℝ) : EReal)) a (fun b => by simp only [← EReal.coe_neg, ← EReal.coe_sub, sub_self]; rfl)
  have e3 := pad_zero (fun a => -((dl A h a : ℝ) : EReal) - -((dl A h a : ℝ) : EReal) - (-((dl A h a : ℝ) : EReal) - -((dl A h a : ℝ) : EReal))) a
    (fun b => by simp only [← EReal.coe_neg, ← EReal.coe_sub, sub_self]; rfl)
  simp only [EReal.coe_neg]
  rw [← six_sel, ← e1]
  simp only [e1, e2, e3, dite_eq_ite, ite_self]
  split_ifs <;> first | rfl | omega

theorem v105_val (h : Fin 8) (a : Fin 4224) (x : Fin 64) :
    val_main_v105 (F := Ideal) (ix3 h a x) = six (0 : EReal) 1 1 1 0 0 0 x := by
  pointwise [val_main_v105, val_main_v104, val_main_v32, val_main_cst_23, val_main_cst_4]
  rw [← six_sel]
  simp only [dite_eq_ite, ite_self]
  split_ifs <;> first | rfl | omega

theorem v101_val (h : Fin 8) (a : Fin 4224) (l : Fin 128) : val_main_v101 (F := Ideal) (arr3 A.k) (arr2 A.c) (ix3 h a l)
    = pack h (fun x => val_main_v89 (F := Ideal) (arr3 A.k) (ix3 h a x)) (fun x => val_main_v92 (F := Ideal) (arr2 A.c) (ix3 h a x)) l := by
  pointwise [val_main_v101, val_main_v100, val_main_v98, val_main_v99, val_main_call15_v0, val_main_v97]
  exact pack_sel h (fun x => val_main_v89 (F := Ideal) (arr3 A.k) (ix3 h a x)) (fun x => val_main_v92 (F := Ideal) (arr2 A.c) (ix3 h a x)) l

theorem v114_val (h : Fin 8) (a : Fin 4224) (l : Fin 128) : val_main_v114 (F := Ideal) (arr3 A.v) (ix3 h a l)
    = pack h (fun x => val_main_v103 (F := Ideal) (arr3 A.v) (ix3 h a x)) (fun x => val_main_v105 (F := Ideal) (ix3 h a x)) l := by
  pointwise [val_main_v114, val_main_v113, val_main_v111, val_main_v112, val_main_call18_v0, val_main_v110]
  exact pack_sel h (fun x => val_main_v103 (F := Ideal) (arr3 A.v) (ix3 h a x)) (fun x => val_main_v105 (F := Ideal) (ix3 h a x)) l

theorem v127_val (h : Fin 8) (a : Fin 4224) (l : Fin 128) : val_main_v127 (F := Ideal) (arr3 A.q) (arr3 A.k) (arr3 A.v) (arr2 A.c) (arr3 A.d) (ix3 h a l)
    = pack h (fun x => val_main_v116 (F := Ideal) (arr3 A.d) (ix3 h a x)) (fun x => val_main_v118 (F := Ideal) (arr3 A.q) (arr3 A.k) (arr3 A.v) (arr2 A.c) (arr3 A.d) (ix3 h a x)) l := by
  pointwise [val_main_v127, val_main_v126, val_main_v124, val_main_v125, val_main_call21_v0, val_main_v123]
  exact pack_sel h (fun x => val_main_v116 (F := Ideal) (arr3 A.d) (ix3 h a x)) (fun x => val_main_v118 (F := Ideal) (arr3 A.q) (arr3 A.k) (arr3 A.v) (arr2 A.c) (arr3 A.d) (ix3 h a x)) l

theorem v128_val (h : Fin 8) (a : Fin 4224) :
    val_main_v128 (F := Ideal) (arr3 A.q) (arr3 A.k) (arr2 A.c) (ix2 h a) = ((padR 0 (fun a => Real.log (tot A h a)) a : ℝ) : EReal) := by
  pointwise [val_main_v128, val_main_call22_v0, val_main_cst_30]
  simp only [v31_val, id, const0]
  rw [pad_val (fun a => ((Real.log (tot A h a) : ℝ) : EReal)) 0 a]
  unfold padR; split <;> rfl

theorem v129_idx (h : Fin 8) (n : Fin 11) (r : Fin 384) : idx_main_v129 (ix4 h n 0 r) = ix2 h ⟨384 * n.val + r.val, by omega⟩ := by
  have h0 := h.isLt; have h1 := n.isLt; have h2 := r.isLt
  funext i
  fin_cases i
  · exact Fin.ext (show (((h.val * 11 + n.val) * 1 + 0) * 384 + r.val) / 4224 = h.val by omega)
  · exact Fin.ext (show (((h.val * 11 + n.val) * 1 + 0) * 384 + r.val) % 4224 = 384 * n.val + r.val by omega)

theorem v129_val (h : Fin 8) (n : Fin 11) (r : Fin 384) :
    val_main_v129 (F := Ideal) (arr3 A.q) (arr3 A.k) (arr2 A.c) (ix4 h n 0 r)
      = ((padR 0 (fun a => Real.log (tot A h a)) ⟨384 * n.val + r.val, by omega⟩ : ℝ) : EReal) := by
  rw [val_main_v129_apply, v129_idx, v128_val]

end Cert.KernelIdeal.Host

end
-- ==== Proof.Points.lean ====
/- One grid point over the real numbers: the probabilities and score gradients of a (key tile, query tile) pair, and what
   they add to the four accumulators. -/
module

public import proofs.«01_k».proof.Proof.Pay
public import proofs.«01_k».proof.Proof.HostVal

@[expose] public section

noncomputable section

namespace Cert.KernelIdeal.Hand

open Idealize.ShloMosaic Idealize.SL.Sem
open Cert.KernelIdeal Cert.KernelIdeal.Gen
open Cert.Fox hiding eighth
open Cert.KernelIdeal.Host (qOwn kOwn vOwn dOwn)

variable (A : Args)

theorem pack_coe (h : Fin 8) (f g : Fin 64 → ℝ) (l : Fin 128) :
    ((pack h f g l : ℝ) : EReal) = pack h (fun x => ((f x : ℝ) : EReal)) (fun x => ((g x : ℝ) : EReal)) l := by
  unfold pack; split_ifs <;> rfl
theorem six_coe (u0 u1 u2 u3 u4 u5 : ℝ) (x : Fin 64) :
    ((six 0 u0 u1 u2 u3 u4 u5 x : ℝ) : EReal) = six 0 (u0 : EReal) u1 u2 u3 u4 u5 x := by
  unfold six; split_ifs <;> rfl
theorem padR_coe (f : Fin 4112 → ℝ) (a : Fin 4224) : ((padR 0 f a : ℝ) : EReal) = padR 0 (fun b => ((f b : ℝ) : EReal)) a := by
  unfold padR; split <;> rfl

/-- A head of a group. -/
def hd (G : Fin 2) (g : Fin 4) : Fin 8 := ⟨4 * G.val + g.val, by omega⟩
/-- A padded row by tile. -/
def row (n : ℕ) (r : Fin 384) : Fin 4224 := ⟨(384 * n + r.val) % 4224, Nat.mod_lt _ (by decide)⟩
theorem row_val (n : ℕ) (hn : n < 11) (r : Fin 384) : (row n r).val = 384 * n + r.val := by
  have := r.isLt
  exact Nat.mod_eq_of_lt (by omega)

/-- The packed operands' rows. -/
def qR (h : Fin 8) (a : Fin 4224) (l : Fin 128) : ℝ := pack h (qOwn A h a) (six 0 (-1) (-1) (-1) (padR 0 (A.c h) a) 0 0) l
def dR (h : Fin 8) (a : Fin 4224) (l : Fin 128) : ℝ := pack h (dOwn A h a) (six 0 (padR 0 (fun a => -dl A h a) a) 0 0 0 0 0) l
def vR (h : Fin 8) (a : Fin 4224) (l : Fin 128) : ℝ := pack h (vOwn A h a) (six 0 1 1 1 0 0 0) l
def kE (h : Fin 8) (a : Fin 4224) (l : Fin 128) : EReal :=
  pack h (fun x => ((kOwn A h a x : ℝ) : EReal)) (six 0 (padR ⊤ (fun a => ((A.c h a : ℝ) : EReal)) a) 0 0 1 1 1) l

/-- The probabilities and score gradients over the padded rows. -/
def Pf (h : Fin 8) (a b : Fin 4224) : ℝ := if H : 112 ≤ b.val ∧ b.val ≤ a.val then pr A h ⟨a.val - 112, by omega⟩ ⟨b.val - 112, by omega⟩ else 0
def Sf (h : Fin 8) (a b : Fin 4224) : ℝ := if H : 112 ≤ b.val ∧ b.val ≤ a.val then ds A h ⟨a.val - 112, by omega⟩ ⟨b.val - 112, by omega⟩ else 0
def Df (h : Fin 8) (a b : Fin 4224) : ℝ := ∑ x, vOwn A h b x * dOwn A h a x + padR 0 (fun a => -dl A h a) a

theorem padR_in {M : Type*} (z : M) (f : Fin 4112 → M) (a : Fin 4224) (ha : 112 ≤ a.val) : padR z f a = f ⟨a.val - 112, by omega⟩ := dif_pos ha
theorem padR_out {M : Type*} (z : M) (f : Fin 4112 → M) (a : Fin 4224) (ha : ¬ 112 ≤ a.val) : padR z f a = z := dif_neg ha

theorem score_sum (h : Fin 8) (a b : Fin 4224) :
    ∑ l, kE A h b l * ((qR A h a l : ℝ) : EReal)
      = ((∑ x, kOwn A h b x * qOwn A h a x : ℝ) : EReal) + (padR ⊤ (fun a => ((A.c h a : ℝ) : EReal)) b * (-1) + ((padR 0 (A.c h) a : ℝ) : EReal)) := by
  simp only [qR, pack_coe, kE, pack_mul]
  rw [sum_pack]
  simp only [six_coe, six_mul]
  rw [sum_six]
  simp only [← EReal.coe_mul, coe_sum]
  congr 1
  simp

theorem score_real (h : Fin 8) (a b : Fin 4224) (hb : 112 ≤ b.val) (ha : 112 ≤ a.val) :
    ∑ l, kE A h b l * ((qR A h a l : ℝ) : EReal) = ((sc A h ⟨a.val - 112, by omega⟩ ⟨b.val - 112, by omega⟩ : ℝ) : EReal) := by
  rw [score_sum, padR_in _ _ b hb, padR_in _ _ a ha]
  rw [show (-1 : EReal) = ((-1 : ℝ) : EReal) from rfl, ← EReal.coe_mul, ← EReal.coe_add, ← EReal.coe_add]
  congr 1
  unfold sc
  simp only [kOwn, qOwn, padR_in _ _ b hb, padR_in _ _ a ha]
  rw [Finset.sum_mul]
  rw [show ∀ x y z : ℝ, x + (y * -1 + z) = x + z - y from fun x y z => by ring]
  refine congrArg (fun z => z + _ - _) (Finset.sum_congr rfl fun x _ => by ring)

theorem score_pad (h : Fin 8) (a b : Fin 4224) (hb : ¬ 112 ≤ b.val) : ∑ l, kE A h b l * ((qR A h a l : ℝ) : EReal) = ⊥ := by
  rw [score_sum, padR_out _ _ b hb]
  simp

theorem prob_real (h : Fin 8) (a b : Fin 4224) (hab : b.val ≤ a.val) :
    Ideal.exp (∑ l, kE A h b l * ((qR A h a l : ℝ) : EReal) - ((padR 0 (fun a => Real.log (tot A h a)) a : ℝ) : EReal)) = (Pf A h a b : ℝ) := by
  unfold Pf
  by_cases hb : 112 ≤ b.val
  · have ha : 112 ≤ a.val := le_trans hb hab
    rw [dif_pos ⟨hb, hab⟩, score_real A h a b hb ha, padR_in _ _ a ha, ← EReal.coe_sub, Ideal.exp_coe]
    rw [exp_sub_log A h _ _ (Fin.le_def.2 (by simp only; omega))]
  · rw [dif_neg fun e => hb e.1, score_pad A h a b hb]
    simp

theorem dprob_real (h : Fin 8) (a b : Fin 4224) :
    ∑ l, ((vR A h b l : ℝ) : EReal) * ((dR A h a l : ℝ) : EReal) = (Df A h a b : ℝ) := by
  simp only [← EReal.coe_mul, coe_sum]
  congr 1
  have e : ∀ l, vR A h b l * dR A h a l = pack h (fun x => vOwn A h b x * dOwn A h a x)
      (six 0 (padR 0 (fun a => -dl A h a) a) 0 0 0 0 0) l := by
    intro l
    unfold vR dR pack six
    split_ifs <;> simp
  simp only [e]
  rw [sum_pack, sum_six]
  simp [Df]

theorem Pf_mul_Df (h : Fin 8) (a b : Fin 4224) : Pf A h a b * Df A h a b = Sf A h a b := by
  unfold Pf Sf
  split
  · rename_i H
    have ha : 112 ≤ a.val := le_trans H.1 H.2
    unfold Df ds dpr
    simp only [vOwn, dOwn, padR_in _ _ b H.1, padR_in _ _ a ha]
    rw [← sub_eq_add_neg]
    exact congrArg (fun z => _ * (z - _)) (Finset.sum_congr rfl fun x _ => mul_comm _ _)
  · rw [zero_mul]

/-- What a grid point of head group `G` and key tile `j` loads. -/
structure Fits (G : Fin 2) (j : ℕ) (I : Inp Ideal) : Prop where
  Q : ∀ g a l, I.Q (ix3 g a l) = ((qR A (hd G g) a l : ℝ) : EReal)
  K : ∀ g s l, I.K (ix3 g s l) = kE A (hd G g) (row j s) l
  V : ∀ g s l, I.V (ix3 g s l) = ((vR A (hd G g) (row j s) l : ℝ) : EReal)
  D : ∀ g a l, I.D (ix3 g a l) = ((dR A (hd G g) a l : ℝ) : EReal)
  L : ∀ g (n : Fin 11) r, I.L (ix4 g n 0 r) = ((padR 0 (fun a => Real.log (tot A (hd G g) a)) (row n.val r) : ℝ) : EReal)

section Point
variable {A} {G : Fin 2} {j : ℕ} {I : Inp Ideal} (hI : Fits A G j I) (hj : j < 11)
include hI hj

theorem prob_apply (dg : Bool) (g : Fin 4) (n : ℕ) (hn : n < 11) (hd' : dg = true ∧ n = j ∨ dg = false ∧ j < n) (s r : Fin 384) :
    prob dg I g n (ix2 s r) = ((Pf A (hd G g) (row n r) (row j s) : ℝ) : EReal) := by
  have hs : tS (blkQ I.Q g n) (blkK I.K g) (ix2 s r) = ∑ l, kE A (hd G g) (row j s) l * ((qR A (hd G g) (row n r) l : ℝ) : EReal) := by
    rw [tS_apply]
    refine Finset.sum_congr rfl fun l _ => congrArg₂ (· * ·) (hI.K g s l) (hI.Q g (row n r) l)
  have hl : blkC I.L g n (ix4 0 0 0 r) = ((padR 0 (fun a => Real.log (tot A (hd G g) a)) (row n r) : ℝ) : EReal) := by
    refine (hI.L g ⟨n % 11, Nat.mod_lt _ (by decide)⟩ r).trans ?_
    show ((padR 0 _ (row (n % 11) r) : ℝ) : EReal) = _
    rw [Nat.mod_eq_of_lt hn]
  have vn := row_val n hn r
  have vj := row_val j hj s
  have := r.isLt
  have := s.isLt
  rcases hd' with ⟨rfl, rfl⟩ | ⟨rfl, hlt⟩
  · show tPd _ _ _ _ = _
    rw [tPd_apply, hs, hl]
    split
    · rename_i hle
      rw [Fin.le_def] at hle
      exact prob_real A _ _ _ (by omega)
    · rename_i hle
      rw [Fin.le_def] at hle
      unfold Pf
      rw [dif_neg (by omega)]; rfl
  · show tP _ _ _ _ = _
    rw [tP_apply, hs, hl]
    exact prob_real A _ _ _ (by omega)

theorem dprob_apply (g : Fin 4) (n : ℕ) (s r : Fin 384) :
    dprob I g n (ix2 s r) = ((Df A (hd G g) (row n r) (row j s) : ℝ) : EReal) := by
  unfold dprob
  rw [tDp_apply, ← dprob_real]
  exact Finset.sum_congr rfl fun l _ => congrArg₂ (· * ·) (hI.V g s l) (hI.D g (row n r) l)

theorem ds_apply (dg : Bool) (g : Fin 4) (n : ℕ) (hn : n < 11) (hd' : dg = true ∧ n = j ∨ dg = false ∧ j < n) (s r : Fin 384) :
    tDs (dprob I g n) (prob dg I g n) (ix2 s r) = ((Sf A (hd G g) (row n r) (row j s) : ℝ) : EReal) := by
  rw [tDs_apply, prob_apply hI hj dg g n hn hd', dprob_apply hI hj, ← EReal.coe_mul, Pf_mul_Df]

end Point

/-- One query tile's contributions. -/
def KT (h : Fin 8) (j : ℕ) (s : Fin 384) (l : Fin 128) (n : ℕ) : ℝ := ∑ r, Sf A h (row n r) (row j s) * qR A h (row n r) l
def VT (h : Fin 8) (j : ℕ) (s : Fin 384) (l : Fin 128) (n : ℕ) : ℝ := ∑ r, Pf A h (row n r) (row j s) * dR A h (row n r) l
def QT (h : Fin 8) (n : ℕ) (r : Fin 384) (x : Fin 64) (j : ℕ) : ℝ := ∑ s, kOwn A h (row j s) x * Sf A h (row n r) (row j s)
def CT (h : Fin 8) (n : ℕ) (r : Fin 384) (j : ℕ) : ℝ := ∑ s, Sf A h (row n r) (row j s)

/-- A head's own lanes among its 128. -/
def own (g : Fin 4) (x : Fin 64) : Fin 128 := ⟨64 * (g.val % 2) + x.val, by omega⟩

theorem kE_own (G : Fin 2) (g : Fin 4) (a : Fin 4224) (x : Fin 64) : kE A (hd G g) a (own g x) = ((kOwn A (hd G g) a x : ℝ) : EReal) := by
  have e : own g x = ⟨64 * ((hd G g).val % 2) + x.val, by omega⟩ := Fin.ext (by show 64 * (g.val % 2) + x.val = 64 * ((4 * G.val + g.val) % 2) + x.val; omega)
  unfold kE
  rw [e, pack_own]

section Step
variable {A} {G : Fin 2} {j : ℕ} {I : Inp Ideal} (hI : Fits A G j I) (hj : j < 11)
include hI hj

theorem step_k (dg : Bool) (n : ℕ) (hn : n < 11) (hd' : dg = true ∧ n = j ∨ dg = false ∧ j < n) (B : Acc Ideal) (g : Fin 4) (s : Fin 384) (l : Fin 128) :
    (stepAcc dg I n B).k (ix3 g s l) = B.k (ix3 g s l) + ((KT A (hd G g) j s l n : ℝ) : EReal) := by
  show aDk (blkQ I.Q g n) (dprob I g n) (prob dg I g n) (blkK B.k g) (ix3 0 s l) = _
  rw [aDk_apply]
  refine congrArg₂ (· + ·) rfl ?_
  unfold KT
  rw [← coe_sum]
  refine Finset.sum_congr rfl fun r _ => ?_
  rw [ds_apply hI hj dg g n hn hd', EReal.coe_mul]
  exact congrArg _ (hI.Q g (row n r) l)

theorem step_v (dg : Bool) (n : ℕ) (hn : n < 11) (hd' : dg = true ∧ n = j ∨ dg = false ∧ j < n) (B : Acc Ideal) (g : Fin 4) (s : Fin 384) (l : Fin 128) :
    (stepAcc dg I n B).v (ix3 g s l) = B.v (ix3 g s l) + ((VT A (hd G g) j s l n : ℝ) : EReal) := by
  show aDv (blkQ I.D g n) (prob dg I g n) (blkK B.v g) (ix3 0 s l) = _
  rw [aDv_apply]
  refine congrArg₂ (· + ·) rfl ?_
  unfold VT
  rw [← coe_sum]
  refine Finset.sum_congr rfl fun r _ => ?_
  rw [prob_apply hI hj dg g n hn hd', EReal.coe_mul]
  exact congrArg _ (hI.D g (row n r) l)

theorem step_q (dg : Bool) (n : ℕ) (hn : n < 11) (hd' : dg = true ∧ n = j ∨ dg = false ∧ j < n) (B : Acc Ideal) (g : Fin 4) (p : Fin 11) (x : Fin 64) (r : Fin 384) :
    (stepAcc dg I n B).q (ix4 g p (own g x) r)
      = if p.val = n then B.q (ix4 g p (own g x) r) + ((QT A (hd G g) p.val r x j : ℝ) : EReal) else B.q (ix4 g p (own g x) r) := by
  show (if p.val = n then aDq (blkK I.K g) (dprob I g n) (prob dg I g n) (blkD B.q g n) (ix4 0 0 (own g x) r) else B.q (ix4 g p (own g x) r)) = _
  split
  · rename_i hp
    rw [aDq_apply]
    refine congrArg₂ (· + ·) ?_ ?_
    · exact congrArg (fun p => B.q (ix4 g p (own g x) r)) (Fin.ext (by show n % 11 = p.val; omega))
    · unfold QT
      rw [← coe_sum]
      refine Finset.sum_congr rfl fun s _ => ?_
      rw [ds_apply hI hj dg g n hn hd', EReal.coe_mul, hp]
      exact congrArg (· * _) ((hI.K g s (own g x)).trans (kE_own A G g _ x))
  · rfl

theorem step_c (dg : Bool) (n : ℕ) (hn : n < 11) (hd' : dg = true ∧ n = j ∨ dg = false ∧ j < n) (B : Acc Ideal) (g : Fin 4) (p : Fin 11) (r : Fin 384) :
    (stepAcc dg I n B).c (ix4 g p 0 r)
      = if p.val = n then B.c (ix4 g p 0 r) + ((CT A (hd G g) p.val r j : ℝ) : EReal) else B.c (ix4 g p 0 r) := by
  show (if p.val = n then aDc (dprob I g n) (prob dg I g n) (blkC B.c g n) (ix4 0 0 0 r) else B.c (ix4 g p 0 r)) = _
  split
  · rename_i hp
    rw [aDc_apply]
    refine congrArg₂ (· + ·) ?_ ?_
    · exact congrArg (fun p => B.c (ix4 g p 0 r)) (Fin.ext (by show n % 11 = p.val; omega))
    · unfold CT
      rw [← coe_sum]
      refine Finset.sum_congr rfl fun s _ => ?_
      rw [ds_apply hI hj dg g n hn hd', hp]
  · rfl

theorem acc_k (B : Acc Ideal) (g : Fin 4) (s : Fin 384) (l : Fin 128) : ∀ k, j + k < 11 →
    (accAt I j B k).k (ix3 g s l) = B.k (ix3 g s l) + ((∑ i ∈ Finset.range (k + 1), KT A (hd G g) j s l (j + i) : ℝ) : EReal)
  | 0, _ => by
    rw [Finset.sum_range_one]
    exact step_k hI hj true j hj (.inl ⟨rfl, rfl⟩) B g s l
  | k + 1, hk => by
    rw [Finset.sum_range_succ, EReal.coe_add, ← add_assoc, ← acc_k B g s l k (by omega), show j + (k + 1) = j + 1 + k by omega]
    exact step_k hI hj false (j + 1 + k) (by omega) (.inr ⟨rfl, by omega⟩) _ g s l

theorem acc_v (B : Acc Ideal) (g : Fin 4) (s : Fin 384) (l : Fin 128) : ∀ k, j + k < 11 →
    (accAt I j B k).v (ix3 g s l) = B.v (ix3 g s l) + ((∑ i ∈ Finset.range (k + 1), VT A (hd G g) j s l (j + i) : ℝ) : EReal)
  | 0, _ => by
    rw [Finset.sum_range_one]
    exact step_v hI hj true j hj (.inl ⟨rfl, rfl⟩) B g s l
  | k + 1, hk => by
    rw [Finset.sum_range_succ, EReal.coe_add, ← add_assoc, ← acc_v B g s l k (by omega), show j + (k + 1) = j + 1 + k by omega]
    exact step_v hI hj false (j + 1 + k) (by omega) (.inr ⟨rfl, by omega⟩) _ g s l

theorem acc_q (B : Acc Ideal) (g : Fin 4) (p : Fin 11) (x : Fin 64) (r : Fin 384) : ∀ k, j + k < 11 →
    (accAt I j B k).q (ix4 g p (own g x) r) = if j ≤ p.val ∧ p.val ≤ j + k then B.q (ix4 g p (own g x) r) + ((QT A (hd G g) p.val r x j : ℝ) : EReal)
      else B.q (ix4 g p (own g x) r)
  | 0, _ => (step_q hI hj true j hj (.inl ⟨rfl, rfl⟩) B g p x r).trans (if_congr (by omega) rfl rfl)
  | k + 1, hk => by
    refine (step_q hI hj false (j + 1 + k) (by omega) (.inr ⟨rfl, by omega⟩) _ g p x r).trans ?_
    rw [acc_q B g p x r k (by omega)]
    by_cases h : p.val = j + 1 + k
    · rw [if_pos h, if_neg (by omega), if_pos (by omega)]
    · rw [if_neg h]; exact if_congr (by omega) rfl rfl

theorem acc_c (B : Acc Ideal) (g : Fin 4) (p : Fin 11) (r : Fin 384) : ∀ k, j + k < 11 →
    (accAt I j B k).c (ix4 g p 0 r) = if j ≤ p.val ∧ p.val ≤ j + k then B.c (ix4 g p 0 r) + ((CT A (hd G g) p.val r j : ℝ) : EReal)
      else B.c (ix4 g p 0 r)
  | 0, _ => (step_c hI hj true j hj (.inl ⟨rfl, rfl⟩) B g p r).trans (if_congr (by omega) rfl rfl)
  | k + 1, hk => by
    refine (step_c hI hj false (j + 1 + k) (by omega) (.inr ⟨rfl, by omega⟩) _ g p r).trans ?_
    rw [acc_c B g p r k (by omega)]
    by_cases h : p.val = j + 1 + k
    · rw [if_pos h, if_neg (by omega), if_pos (by omega)]
    · rw [if_neg h]; exact if_congr (by omega) rfl rfl

end Step

/-! ## A later key contributes nothing -/

theorem Sf_later (h : Fin 8) (n j : ℕ) (hn : n < 11) (hj : j < 11) (hlt : n < j) (r s : Fin 384) : Sf A h (row n r) (row j s) = 0 := by
  have vn := row_val n hn r
  have vj := row_val j hj s
  have := r.isLt
  exact dif_neg (by omega)
theorem Pf_later (h : Fin 8) (n j : ℕ) (hn : n < 11) (hj : j < 11) (hlt : n < j) (r s : Fin 384) : Pf A h (row n r) (row j s) = 0 := by
  have vn := row_val n hn r
  have vj := row_val j hj s
  have := r.isLt
  exact dif_neg (by omega)

theorem KT_later (h : Fin 8) (j : ℕ) (hj : j < 11) (s : Fin 384) (l : Fin 128) (n : ℕ) (hn : n < 11) (hlt : n < j) : KT A h j s l n = 0 :=
  Finset.sum_eq_zero fun r _ => by rw [Sf_later A h n j hn hj hlt, zero_mul]
theorem VT_later (h : Fin 8) (j : ℕ) (hj : j < 11) (s : Fin 384) (l : Fin 128) (n : ℕ) (hn : n < 11) (hlt : n < j) : VT A h j s l n = 0 :=
  Finset.sum_eq_zero fun r _ => by rw [Pf_later A h n j hn hj hlt, zero_mul]
theorem QT_later (h : Fin 8) (n : ℕ) (hn : n < 11) (r : Fin 384) (x : Fin 64) (j : ℕ) (hj : j < 11) (hlt : n < j) : QT A h n r x j = 0 :=
  Finset.sum_eq_zero fun s _ => by rw [Sf_later A h n j hn hj hlt, mul_zero]
theorem CT_later (h : Fin 8) (n : ℕ) (hn : n < 11) (r : Fin 384) (j : ℕ) (hj : j < 11) (hlt : n < j) : CT A h n r j = 0 :=
  Finset.sum_eq_zero fun s _ => Sf_later A h n j hn hj hlt _ _

theorem sum_from (f : ℕ → ℝ) (j : ℕ) (hj : j < 11) (hf : ∀ n, n < 11 → n < j → f n = 0) :
    ∑ i ∈ Finset.range (10 - j + 1), f (j + i) = ∑ n ∈ Finset.range 11, f n := by
  have e := Finset.sum_range_add f j (10 - j + 1)
  rw [Finset.sum_eq_zero (s := Finset.range j) fun n hn => hf n (by rw [Finset.mem_range] at hn; omega) (Finset.mem_range.1 hn), zero_add,
    show j + (10 - j + 1) = 11 by omega] at e
  exact e.symm

theorem sum_upto (f : ℕ → ℝ) (j : ℕ) (hj : j < 11) (hf : ∀ n, n < 11 → j < n → f n = 0) :
    ∑ i ∈ Finset.range (j + 1), f i = ∑ n ∈ Finset.range 11, f n := by
  have e := Finset.sum_range_add f (j + 1) (10 - j)
  rw [Finset.sum_eq_zero (s := Finset.range (10 - j)) fun n hn => hf (j + 1 + n) (by rw [Finset.mem_range] at hn; omega) (by omega), add_zero,
    show j + 1 + (10 - j) = 11 by omega] at e
  exact e.symm

theorem pay_k_zero (a : Fin 4) (b : Fin 384) (d : Fin 128) : k0_pay122 (F := Ideal) (ix3 a b d) = (0 : EReal) := by
  pointwise [k0_pay122]
theorem pay_v_zero (a : Fin 4) (b : Fin 384) (d : Fin 128) : k0_pay123 (F := Ideal) (ix3 a b d) = (0 : EReal) := by
  pointwise [k0_pay123]
theorem pay_q_zero (a : Fin 4) (b : Fin 11) (d : Fin 128) (r : Fin 384) : k0_pay120 (F := Ideal) (ix4 a b d r) = (0 : EReal) := by
  pointwise [k0_pay120]
theorem pay_c_zero (a : Fin 4) (b : Fin 11) (r : Fin 384) : k0_pay121 (F := Ideal) (ix4 a b 0 r) = (0 : EReal) := by
  pointwise [k0_pay121]

section Last
variable {A} {G : Fin 2} {j : ℕ} {I : Inp Ideal} (hI : Fits A G j I) (hj : j < 11)
  (Cc : S4x11x1x384.Idx → Elt Ideal .f32) (Cq : S4x11x128x384.Idx → Elt Ideal .f32)
include hI hj

theorem last_k (g : Fin 4) (s : Fin 384) (l : Fin 128) :
    (lastAcc I j Cc Cq).k (ix3 g s l) = ((∑ n ∈ Finset.range 11, KT A (hd G g) j s l n : ℝ) : EReal) := by
  unfold lastAcc
  rw [acc_k hI hj _ g s l (10 - j) (by omega), sum_from _ j hj fun n hn hlt => KT_later A _ j hj s l n hn hlt]
  exact (congrArg (· + _) (pay_k_zero g s l)).trans (zero_add _)

theorem last_v (g : Fin 4) (s : Fin 384) (l : Fin 128) :
    (lastAcc I j Cc Cq).v (ix3 g s l) = ((∑ n ∈ Finset.range 11, VT A (hd G g) j s l n : ℝ) : EReal) := by
  unfold lastAcc
  rw [acc_v hI hj _ g s l (10 - j) (by omega), sum_from _ j hj fun n hn hlt => VT_later A _ j hj s l n hn hlt]
  exact (congrArg (· + _) (pay_v_zero g s l)).trans (zero_add _)

theorem last_q (g : Fin 4) (p : Fin 11) (x : Fin 64) (r : Fin 384) :
    (lastAcc I j Cc Cq).q (ix4 g p (own g x) r) = (startAcc j Cc Cq).q (ix4 g p (own g x) r) + ((QT A (hd G g) p.val r x j : ℝ) : EReal) := by
  unfold lastAcc
  rw [acc_q hI hj _ g p x r (10 - j) (by omega)]
  by_cases h : j ≤ p.val
  · exact if_pos ⟨h, by have := p.isLt; omega⟩
  · rw [if_neg fun e => h e.1, QT_later A _ p.val p.isLt r x j hj (by omega)]
    exact (add_zero _).symm

theorem last_c (g : Fin 4) (p : Fin 11) (r : Fin 384) :
    (lastAcc I j Cc Cq).c (ix4 g p 0 r) = (startAcc j Cc Cq).c (ix4 g p 0 r) + ((CT A (hd G g) p.val r j : ℝ) : EReal) := by
  unfold lastAcc
  rw [acc_c hI hj _ g p r (10 - j) (by omega)]
  by_cases h : j ≤ p.val
  · exact if_pos ⟨h, by have := p.isLt; omega⟩
  · rw [if_neg fun e => h e.1, CT_later A _ p.val p.isLt r j hj (by omega)]
    exact (add_zero _).symm

end Last

/-! ## The tiles' sums are the gradients -/

theorem sum_tiles (F : Fin 4224 → ℝ) : ∑ n ∈ Finset.range 11, ∑ r, F (row n r) = ∑ a, F a := by
  rw [Finset.sum_range, ← Finset.sum_product', ← Fintype.sum_equiv (finProdFinEquiv (m := 11) (n := 384)) (fun p => F (row p.1.val p.2)) F]
  · rfl
  · rintro ⟨n, r⟩
    refine congrArg F (Fin.ext ?_)
    rw [row_val n.val n.isLt]
    show 384 * n.val + r.val = r.val + 384 * n.val
    omega

theorem sum_padded (F : Fin 4224 → ℝ) (hF : ∀ a, a.val < 112 → F a = 0) : ∑ a, F a = ∑ a : Fin 4112, F ⟨112 + a.val, by omega⟩ := by
  have e := Fin.sum_univ_add (a := 112) (b := 4112) (M := ℝ) F
  refine e.trans ?_
  rw [Finset.sum_eq_zero fun a _ => hF _ a.isLt, zero_add]
  rfl

theorem Sf_pad (h : Fin 8) (a b : Fin 4224) (hab : a.val < 112 ∨ b.val < 112) : Sf A h a b = 0 := dif_neg (by omega)
theorem Pf_pad (h : Fin 8) (a b : Fin 4224) (hab : a.val < 112 ∨ b.val < 112) : Pf A h a b = 0 := dif_neg (by omega)
theorem Sf_in (h : Fin 8) (a b : Fin 4224) (ha : 112 ≤ a.val) (hb : 112 ≤ b.val) :
    Sf A h a b = ds A h ⟨a.val - 112, by omega⟩ ⟨b.val - 112, by omega⟩ := by
  unfold Sf
  split
  · rfl
  · exact (ds_zero A h _ _ (fun e => by rw [Fin.le_def] at e; dsimp only at e; omega)).symm
theorem Pf_in (h : Fin 8) (a b : Fin 4224) (ha : 112 ≤ a.val) (hb : 112 ≤ b.val) :
    Pf A h a b = pr A h ⟨a.val - 112, by omega⟩ ⟨b.val - 112, by omega⟩ := by
  unfold Pf
  split
  · rfl
  · exact (pr_zero A h _ _ (fun e => by rw [Fin.le_def] at e; dsimp only at e; omega)).symm

theorem back (a : Fin 4112) (h : 112 + a.val - 112 < 4112) : (⟨112 + a.val - 112, h⟩ : Fin 4112) = a := Fin.ext (by simp)

theorem qR_own (G : Fin 2) (g : Fin 4) (a : Fin 4224) (x : Fin 64) : qR A (hd G g) a (own g x) = qOwn A (hd G g) a x := by
  have e : own g x = ⟨64 * ((hd G g).val % 2) + x.val, by omega⟩ := Fin.ext (by show 64 * (g.val % 2) + x.val = 64 * ((4 * G.val + g.val) % 2) + x.val; omega)
  unfold qR
  rw [e, pack_own]
theorem dR_own (G : Fin 2) (g : Fin 4) (a : Fin 4224) (x : Fin 64) : dR A (hd G g) a (own g x) = dOwn A (hd G g) a x := by
  have e : own g x = ⟨64 * ((hd G g).val % 2) + x.val, by omega⟩ := Fin.ext (by show 64 * (g.val % 2) + x.val = 64 * ((4 * G.val + g.val) % 2) + x.val; omega)
  unfold dR
  rw [e, pack_own]
theorem qR_other (G : Fin 2) (g : Fin 4) (a : Fin 4224) : qR A (hd G g) a ⟨64 * (1 - g.val % 2), by omega⟩ = -1 := by
  have e : (⟨64 * (1 - g.val % 2), by omega⟩ : Fin 128) = ⟨64 * (1 - (hd G g).val % 2), by omega⟩ := Fin.ext (by show 64 * (1 - g.val % 2) = 64 * (1 - (4 * G.val + g.val) % 2); omega)
  unfold qR
  rw [e, pack_other]; rfl

theorem total_k (G : Fin 2) (g : Fin 4) (j : ℕ) (s : Fin 384) (x : Fin 64) :
    ∑ n ∈ Finset.range 11, KT A (hd G g) j s (own g x) n = padR 0 (fun b => gk A (hd G g) b x) (row j s) := by
  unfold KT
  rw [sum_tiles fun a => Sf A (hd G g) a (row j s) * qR A (hd G g) a (own g x),
    sum_padded _ fun a ha => by rw [Sf_pad A _ _ _ (.inl ha), zero_mul]]
  by_cases hb : 112 ≤ (row j s).val
  · rw [padR_in _ _ _ hb]
    unfold gk
    rw [Finset.sum_mul]
    refine Finset.sum_congr rfl fun a _ => ?_
    rw [Sf_in A _ _ _ (by simp) hb, qR_own, qOwn, padR_in _ _ _ (by simp)]
    simp only [back]
    ring
  · rw [padR_out _ _ _ hb]
    exact Finset.sum_eq_zero fun a _ => by rw [Sf_pad A _ _ _ (.inr (by omega)), zero_mul]

theorem total_gate (G : Fin 2) (g : Fin 4) (j : ℕ) (s : Fin 384) :
    ∑ n ∈ Finset.range 11, KT A (hd G g) j s ⟨64 * (1 - g.val % 2), by omega⟩ n = -padR 0 (fun b => gck A (hd G g) b) (row j s) := by
  unfold KT
  rw [sum_tiles fun a => Sf A (hd G g) a (row j s) * qR A (hd G g) a ⟨64 * (1 - g.val % 2), by omega⟩,
    sum_padded _ fun a ha => by rw [Sf_pad A _ _ _ (.inl ha), zero_mul]]
  by_cases hb : 112 ≤ (row j s).val
  · rw [padR_in _ _ _ hb]
    unfold gck
    rw [← Finset.sum_neg_distrib]
    refine Finset.sum_congr rfl fun a _ => ?_
    rw [Sf_in A _ _ _ (by simp) hb, qR_other]
    simp only [back]
    ring
  · rw [padR_out _ _ _ hb, neg_zero]
    exact Finset.sum_eq_zero fun a _ => by rw [Sf_pad A _ _ _ (.inr (by omega)), zero_mul]

theorem total_v (G : Fin 2) (g : Fin 4) (j : ℕ) (s : Fin 384) (x : Fin 64) :
    ∑ n ∈ Finset.range 11, VT A (hd G g) j s (own g x) n = padR 0 (fun b => gv A (hd G g) b x) (row j s) := by
  unfold VT
  rw [sum_tiles fun a => Pf A (hd G g) a (row j s) * dR A (hd G g) a (own g x),
    sum_padded _ fun a ha => by rw [Pf_pad A _ _ _ (.inl ha), zero_mul]]
  by_cases hb : 112 ≤ (row j s).val
  · rw [padR_in _ _ _ hb]
    unfold gv
    refine Finset.sum_congr rfl fun a _ => ?_
    rw [Pf_in A _ _ _ (by simp) hb, dR_own, dOwn, padR_in _ _ _ (by simp)]
    simp only [back]
  · rw [padR_out _ _ _ hb]
    exact Finset.sum_eq_zero fun a _ => by rw [Pf_pad A _ _ _ (.inr (by omega)), zero_mul]

theorem total_q (h : Fin 8) (n : ℕ) (r : Fin 384) (x : Fin 64) :
    (∑ j ∈ Finset.range 11, QT A h n r x j) * (1 / 8) = padR 0 (fun a => gq A h a x) (row n r) := by
  unfold QT
  rw [sum_tiles fun b => kOwn A h b x * Sf A h (row n r) b,
    sum_padded _ fun b hb => by rw [Sf_pad A _ _ _ (.inr hb), mul_zero]]
  by_cases ha : 112 ≤ (row n r).val
  · rw [padR_in _ _ _ ha]
    unfold gq
    refine congrArg (· * _) (Finset.sum_congr rfl fun b _ => ?_)
    rw [Sf_in A _ _ _ ha (by simp), kOwn, padR_in _ _ _ (by simp)]
    simp only [back]
    ring
  · rw [padR_out _ _ _ ha, Finset.sum_eq_zero fun b _ => by rw [Sf_pad A _ _ _ (.inl (by omega)), mul_zero], zero_mul]

theorem total_c (h : Fin 8) (n : ℕ) (r : Fin 384) :
    ∑ j ∈ Finset.range 11, CT A h n r j = padR 0 (fun a => gcq A h a) (row n r) := by
  unfold CT
  rw [sum_tiles fun b => Sf A h (row n r) b, sum_padded _ fun b hb => Sf_pad A _ _ _ (.inr hb)]
  by_cases ha : 112 ≤ (row n r).val
  · rw [padR_in _ _ _ ha]
    unfold gcq
    refine Finset.sum_congr rfl fun b _ => ?_
    rw [Sf_in A _ _ _ ha (by simp)]
    simp only [back]
  · rw [padR_out _ _ _ ha]
    exact Finset.sum_eq_zero fun b _ => Sf_pad A _ _ _ (.inl (by omega))

end Cert.KernelIdeal.Hand

end
-- ==== Proof.HostAt.lean ====
/- What the host lines before the kernel leave in each buffer: the named values of HostA.lean and HostB.lean, one operation
   at a time. Each buffer is written once, so an operation's result and its operands are read off the end of the lines. -/
module

public import proofs.«01_k».proof.Proof.Gen.KernelIdeal.Frame
public import proofs.«01_k».proof.Proof.HostB
public import Idealize.ShloMosaic.Lib.StableHlo.RunRead

@[expose] public section

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The host operations before the kernel, in order. -/
def lines : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46]

/-- The buffer each of them writes. -/
def outs : List (Ref sig .tc) :=
  [main_v0, main_v1, main_cst, main_v2, main_v3, main_v4, main_v5, main_v6, main_v7, main_v8, main_v9, main_v10, main_v11, main_v12, main_v13, main_v14, main_cst_0, main_call0_v0, main_call0_v1, main_call0_v2, main_v15, main_cst_1, main_v16, main_v17, main_v18, main_v19, main_v20, main_cst_2, main_v21, main_v22, main_v23, main_v24, main_v25, main_v26, main_v27, main_cst_3, main_v28, main_v29, main_v30, main_v31, main_cst_4, main_v32, main_v33, main_v34, main_v35, main_v36, main_v37, main_v38, main_v39, main_v40, main_cst_5, main_call1_v0, main_v41, main_cst_6, main_call2_v0, main_v42, main_cst_7, main_call3_v0, main_v43, main_v44, main_v45, main_v46, main_v47, main_cst_8, main_call4_v0, main_v48, main_cst_9, main_call5_v0, main_v49, main_cst_10, main_call6_v0, main_v50, main_v51, main_v52, main_v53, main_v54, main_v55, main_v56, main_v57, main_v58, main_v59, main_v60, main_v61, main_v62, main_v63, main_cst_11, main_call7_v0, main_v64, main_cst_12, main_call8_v0, main_v65, main_cst_13, main_call9_v0, main_v66, main_v67, main_v68, main_v69, main_v70, main_v71, main_c, main_call10_v0, main_v72, main_cst_14, main_v73, main_v74, main_v75, main_v76, main_cst_15, main_v77, main_v78, main_v79, main_c_16, main_call11_v0, main_call11_c, main_call11_v1, main_call11_c_0, main_call11_v2, main_call11_v3, main_call11_v4, main_call11_c_1, main_call11_v5, main_call11_v6, main_call11_c_2, main_call11_v7, main_call11_v8, main_call11_c_3, main_call11_v9, main_call11_v10, main_call11_v11, main_call11_v12, main_call11_v13, main_call11_v14, main_v80, main_c_17, main_v81, main_v82, main_v83, main_v84, main_v85, main_call12_v0, main_v86, main_v87, main_v88, main_c_18, main_call13_v0, main_v89, main_v90, main_cst_19, main_v91, main_v92, main_v93, main_c_20, main_call14_v0, main_call14_c, main_call14_v1, main_call14_c_0, main_call14_v2, main_call14_v3, main_call14_v4, main_call14_c_1, main_call14_v5, main_call14_v6, main_call14_c_2, main_call14_v7, main_call14_v8, main_call14_c_3, main_call14_v9, main_call14_v10, main_call14_v11, main_call14_v12, main_call14_v13, main_call14_v14, main_v94, main_c_21, main_v95, main_v96, main_v97, main_v98, main_v99, main_call15_v0, main_v100, main_v101, main_v102, main_c_22, main_call16_v0, main_v103, main_cst_23, main_v104, main_v105, main_v106, main_c_24, main_call17_v0, main_call17_c, main_call17_v1, main_call17_c_0, main_call17_v2, main_call17_v3, main_call17_v4, main_call17_c_1, main_call17_v5, main_call17_v6, main_call17_c_2, main_call17_v7, main_call17_v8, main_call17_c_3, main_call17_v9, main_call17_v10, main_call17_v11, main_call17_v12, main_call17_v13, main_call17_v14, main_v107, main_c_25, main_v108, main_v109, main_v110, main_v111, main_v112, main_call18_v0, main_v113, main_v114, main_v115, main_c_26, main_call19_v0, main_v116, main_cst_27, main_v117, main_v118, main_v119, main_c_28, main_call20_v0, main_call20_c, main_call20_v1, main_call20_c_0, main_call20_v2, main_call20_v3, main_call20_v4, main_call20_c_1, main_call20_v5, main_call20_v6, main_call20_c_2, main_call20_v7, main_call20_v8, main_call20_c_3, main_call20_v9, main_call20_v10, main_call20_v11, main_call20_v12, main_call20_v13, main_call20_v14, main_v120, main_c_29, main_v121, main_v122, main_v123, main_v124, main_v125, main_call21_v0, main_v126, main_v127, main_cst_30, main_call22_v0, main_v128, main_v129, main_v130_0]

theorem lines_writes : (lines : List (HloOp τ sig (Elt F))).map HloOp.writes = outs.map fun w => {Proc.devRef (τ := τ) .tc w} := rfl

theorem drop_writes (n : ℕ) : ((lines : List (HloOp τ sig (Elt F))).drop n).map HloOp.writes = (outs.drop n).map fun w => {Proc.devRef (τ := τ) .tc w} := by
  rw [List.map_drop, List.map_drop, lines_writes]

variable (m : (ℓ : Loc nD τ sig) → Buf (Elt F) ℓ) (c : Dev nD)

/-- The contents before operation `n`. -/
abbrev pre (n : ℕ) : Valuation τ sig (Elt F) := upto lines (fun b => m (c, b)) n

theorem V_eq_lines (r : Ref sig .tc) : V m c r = after lines (fun b => m (c, b)) (Proc.devRef .tc r) := rfl

/-- A buffer no operation from `n` on writes holds before operation `n` what it holds in the end. -/
theorem pre_eq {n : ℕ} (r : Ref sig .tc) (hr : r ∉ outs.drop n) : pre m c n (Proc.devRef .tc r) = V m c r := by
  have h := after_unwritten (τ := τ) (outs.drop n) (drop_writes (F := F) n) hr (upto lines (fun b => m (c, b)) n)
  refine h.symm.trans ?_
  rw [V_eq_lines, upto, ← after_append, List.take_append_drop]

/-- A buffer holds in the end what its operation leaves in it. -/
theorem last_eq {n : ℕ} {op : HloOp τ sig (Elt F)} {rest : List (HloOp τ sig (Elt F))} (r : Ref sig .tc)
    (hseg : (lines (F := F)).drop n = op :: rest) (hr : r ∉ outs.drop (n + 1)) :
    V m c r = op.result (pre m c n) (Proc.devRef .tc r) := by
  refine after_last_write (outs.drop (n + 1)) hseg ?_ hr _
  have h := drop_writes (F := F) n
  have h2 : rest = (lines (F := F)).drop (n + 1) := by
    rw [← List.drop_drop, hseg]; rfl
  rw [h2, drop_writes]

variable {m c}

theorem host_nullary (n : ℕ) (y : Ref sig .tc) {v : y.ty.Contents (Elt F)} {hy} {rest : List (HloOp τ sig (Elt F))}
    (hseg : (lines (F := F)).drop n = nullary y v hy :: rest) (hy' : y ∉ outs.drop (n + 1)) : V m c y = v :=
  (last_eq m c y hseg hy').trans (nullary_result' ..)

theorem host_unary (n : ℕ) (x y : Ref sig .tc) {f : x.ty.Contents (Elt F) → y.ty.Contents (Elt F)} {hx hy} {rest : List (HloOp τ sig (Elt F))}
    (hseg : (lines (F := F)).drop n = unary x y f hx hy :: rest) (hy' : y ∉ outs.drop (n + 1)) (hx' : x ∉ outs.drop n)
    {vx : x.ty.Contents (Elt F)} (h : V m c x = vx) : V m c y = f vx :=
  (last_eq m c y hseg hy').trans ((unary_result' ..).trans (congrArg f ((pre_eq m c x hx').trans h)))

theorem host_reshape (n : ℕ) (x y : Ref sig .tc) {he hn hx hy} {rest : List (HloOp τ sig (Elt F))}
    (hseg : (lines (F := F)).drop n = reshape x y he hn hx hy :: rest) (hy' : y ∉ outs.drop (n + 1)) (hx' : x ∉ outs.drop n)
    {vx : x.ty.Contents (Elt F)} (h : V m c x = vx) : V m c y = fun i => he ▸ shapeCast _ vx hn i := by
  refine (last_eq m c y hseg hy').trans ((reshape_result' ..).trans ?_)
  rw [show pre m c n (Proc.devRef .tc x) = vx from (pre_eq m c x hx').trans h]

theorem host_binary (n : ℕ) (a b y : Ref sig .tc) {f : a.ty.Contents (Elt F) → b.ty.Contents (Elt F) → y.ty.Contents (Elt F)} {ha hb hy}
    {rest : List (HloOp τ sig (Elt F))} (hseg : (lines (F := F)).drop n = binary a b y f ha hb hy :: rest) (hy' : y ∉ outs.drop (n + 1))
    (ha' : a ∉ outs.drop n) (hb' : b ∉ outs.drop n) {va : a.ty.Contents (Elt F)} {vb : b.ty.Contents (Elt F)}
    (h : V m c a = va) (h' : V m c b = vb) : V m c y = f va vb :=
  (last_eq m c y hseg hy').trans ((binary_result' ..).trans (congrArg₂ f ((pre_eq m c a ha').trans h) ((pre_eq m c b hb').trans h')))

theorem host_ternary (n : ℕ) (p a b y : Ref sig .tc)
    {f : p.ty.Contents (Elt F) → a.ty.Contents (Elt F) → b.ty.Contents (Elt F) → y.ty.Contents (Elt F)} {hp ha hb hy}
    {rest : List (HloOp τ sig (Elt F))} (hseg : (lines (F := F)).drop n = ternary p a b y f hp ha hb hy :: rest)
    (hy' : y ∉ outs.drop (n + 1)) (hp' : p ∉ outs.drop n) (ha' : a ∉ outs.drop n) (hb' : b ∉ outs.drop n)
    {vp : p.ty.Contents (Elt F)} {va : a.ty.Contents (Elt F)} {vb : b.ty.Contents (Elt F)}
    (h0 : V m c p = vp) (h : V m c a = va) (h' : V m c b = vb) : V m c y = f vp va vb := by
  refine (last_eq m c y hseg hy').trans ((ternary_result' ..).trans ?_)
  rw [show pre m c n (Proc.devRef .tc p) = vp from (pre_eq m c p hp').trans h0,
    show pre m c n (Proc.devRef .tc a) = va from (pre_eq m c a ha').trans h,
    show pre m c n (Proc.devRef .tc b) = vb from (pre_eq m c b hb').trans h']

theorem host_nary (n : ℕ) {k : ℕ} (xs : Fin k → Ref sig .tc) (y : Ref sig .tc)
    {f : ((k : Fin k) → (xs k).ty.Contents (Elt F)) → y.ty.Contents (Elt F)} {hxs hy}
    {rest : List (HloOp τ sig (Elt F))} (hseg : (lines (F := F)).drop n = nary xs y f hxs hy :: rest)
    (hy' : y ∉ outs.drop (n + 1)) (hx' : ∀ i, xs i ∉ outs.drop n) :
    V m c y = f fun i => V m c (xs i) := by
  refine (last_eq m c y hseg hy').trans ((nary_result' ..).trans ?_)
  exact congrArg f (funext fun i => pre_eq m c (xs i) (hx' i))

variable (m c)

theorem at_main_v0 : V m c main_v0 = val_main_v0 (F := F) := by
  have h := host_nullary (m := m) (c := c) 0 main_v0 rfl (by decide)
  exact h

theorem at_main_v1 : V m c main_v1 = val_main_v1 (F := F) (m ((c : Thread nD τ).loc main_arg0)) (m ((c : Thread nD τ).loc main_arg1)) := by
  have h := host_binary (m := m) (c := c) 1 main_arg0 main_arg1 main_v1 rfl (by decide) (by decide) (by decide) (V_main_arg0 m c) (V_main_arg1 m c)
  exact h

theorem at_main_cst : V m c main_cst = val_main_cst (F := F) := by
  have h := host_nullary (m := m) (c := c) 2 main_cst rfl (by decide)
  exact h

theorem at_main_v2 : V m c main_v2 = val_main_v2 (F := F) := by
  have h := host_unary (m := m) (c := c) 3 main_cst main_v2 rfl (by decide) (by decide) (at_main_cst m c)
  exact h

theorem at_main_v3 : V m c main_v3 = val_main_v3 (F := F) (m ((c : Thread nD τ).loc main_arg0)) (m ((c : Thread nD τ).loc main_arg1)) := by
  have h := host_binary (m := m) (c := c) 4 main_v1 main_v2 main_v3 rfl (by decide) (by decide) (by decide) (at_main_v1 m c) (at_main_v2 m c)
  exact h

theorem at_main_v4 : V m c main_v4 = val_main_v4 (F := F) (m ((c : Thread nD τ).loc main_arg3)) := by
  have h := host_unary (m := m) (c := c) 5 main_arg3 main_v4 rfl (by decide) (by decide) (V_main_arg3 m c)
  exact h

theorem at_main_v5 : V m c main_v5 = val_main_v5 (F := F) (m ((c : Thread nD τ).loc main_arg3)) := by
  have h := host_unary (m := m) (c := c) 6 main_v4 main_v5 rfl (by decide) (by decide) (at_main_v4 m c)
  exact h

theorem at_main_v6 : V m c main_v6 = val_main_v6 (F := F) (m ((c : Thread nD τ).loc main_arg0)) (m ((c : Thread nD τ).loc main_arg1)) (m ((c : Thread nD τ).loc main_arg3)) := by
  have h := host_binary (m := m) (c := c) 7 main_v3 main_v5 main_v6 rfl (by decide) (by decide) (by decide) (at_main_v3 m c) (at_main_v5 m c)
  exact h

theorem at_main_v7 : V m c main_v7 = val_main_v7 (F := F) (m ((c : Thread nD τ).loc main_arg3)) := by
  have h := host_unary (m := m) (c := c) 8 main_arg3 main_v7 rfl (by decide) (by decide) (V_main_arg3 m c)
  exact h

theorem at_main_v8 : V m c main_v8 = val_main_v8 (F := F) (m ((c : Thread nD τ).loc main_arg3)) := by
  have h := host_unary (m := m) (c := c) 9 main_v7 main_v8 rfl (by decide) (by decide) (at_main_v7 m c)
  exact h

theorem at_main_v9 : V m c main_v9 = val_main_v9 (F := F) (m ((c : Thread nD τ).loc main_arg0)) (m ((c : Thread nD τ).loc main_arg1)) (m ((c : Thread nD τ).loc main_arg3)) := by
  have h := host_binary (m := m) (c := c) 10 main_v6 main_v8 main_v9 rfl (by decide) (by decide) (by decide) (at_main_v6 m c) (at_main_v8 m c)
  exact h

theorem at_main_v10 : V m c main_v10 = val_main_v10 (F := F) := by
  have h := host_unary (m := m) (c := c) 11 main_v0 main_v10 rfl (by decide) (by decide) (at_main_v0 m c)
  exact h

theorem at_main_v11 : V m c main_v11 = val_main_v11 (F := F) := by
  have h := host_unary (m := m) (c := c) 12 main_v0 main_v11 rfl (by decide) (by decide) (at_main_v0 m c)
  exact h

theorem at_main_v12 : V m c main_v12 = val_main_v12 (F := F) := by
  have h := host_unary (m := m) (c := c) 13 main_v10 main_v12 rfl (by decide) (by decide) (at_main_v10 m c)
  exact h

theorem at_main_v13 : V m c main_v13 = val_main_v13 (F := F) := by
  have h := host_unary (m := m) (c := c) 14 main_v11 main_v13 rfl (by decide) (by decide) (at_main_v11 m c)
  exact h

theorem at_main_v14 : V m c main_v14 = val_main_v14 (F := F) := by
  have h := host_binary (m := m) (c := c) 15 main_v12 main_v13 main_v14 rfl (by decide) (by decide) (by decide) (at_main_v12 m c) (at_main_v13 m c)
  exact h

theorem at_main_cst_0 : V m c main_cst_0 = val_main_cst_0 (F := F) := by
  have h := host_nullary (m := m) (c := c) 16 main_cst_0 rfl (by decide)
  exact h

theorem at_main_call0_v0 : V m c main_call0_v0 = val_main_call0_v0 (F := F) := by
  have h := host_unary (m := m) (c := c) 17 main_cst_0 main_call0_v0 rfl (by decide) (by decide) (at_main_cst_0 m c)
  exact h

theorem at_main_call0_v1 : V m c main_call0_v1 = val_main_call0_v1 (F := F) := by
  have h := host_unary (m := m) (c := c) 18 main_v14 main_call0_v1 rfl (by decide) (by decide) (at_main_v14 m c)
  exact h

theorem at_main_call0_v2 : V m c main_call0_v2 = val_main_call0_v2 (F := F) := by
  have h := host_unary (m := m) (c := c) 19 main_call0_v0 main_call0_v2 rfl (by decide) (by decide) (at_main_call0_v0 m c)
  exact h

theorem at_main_v15 : V m c main_v15 = val_main_v15 (F := F) (m ((c : Thread nD τ).loc main_arg0)) (m ((c : Thread nD τ).loc main_arg1)) (m ((c : Thread nD τ).loc main_arg3)) := by
  have h := host_ternary (m := m) (c := c) 20 main_call0_v1 main_v9 main_call0_v2 main_v15 rfl (by decide) (by decide) (by decide) (by decide) (at_main_call0_v1 m c) (at_main_v9 m c) (at_main_call0_v2 m c)
  exact h

theorem at_main_cst_1 : V m c main_cst_1 = val_main_cst_1 (F := F) := by
  have h := host_nullary (m := m) (c := c) 21 main_cst_1 rfl (by decide)
  exact h

theorem at_main_v16 : V m c main_v16 = val_main_v16 (F := F) (m ((c : Thread nD τ).loc main_arg0)) (m ((c : Thread nD τ).loc main_arg1)) (m ((c : Thread nD τ).loc main_arg3)) := by
  have h := host_binary (m := m) (c := c) 22 main_v15 main_cst_1 main_v16 rfl (by decide) (by decide) (by decide) (at_main_v15 m c) (at_main_cst_1 m c)
  exact h

theorem at_main_v17 : V m c main_v17 = val_main_v17 (F := F) (m ((c : Thread nD τ).loc main_arg0)) (m ((c : Thread nD τ).loc main_arg1)) (m ((c : Thread nD τ).loc main_arg3)) := by
  have h := host_unary (m := m) (c := c) 23 main_v16 main_v17 rfl (by decide) (by decide) (at_main_v16 m c)
  exact h

theorem at_main_v18 : V m c main_v18 = val_main_v18 (F := F) (m ((c : Thread nD τ).loc main_arg0)) (m ((c : Thread nD τ).loc main_arg1)) (m ((c : Thread nD τ).loc main_arg3)) := by
  have h := host_unary (m := m) (c := c) 24 main_v17 main_v18 rfl (by decide) (by decide) (at_main_v17 m c)
  exact h

theorem at_main_v19 : V m c main_v19 = val_main_v19 (F := F) (m ((c : Thread nD τ).loc main_arg0)) (m ((c : Thread nD τ).loc main_arg1)) (m ((c : Thread nD τ).loc main_arg3)) := by
  have h := host_binary (m := m) (c := c) 25 main_v15 main_v18 main_v19 rfl (by decide) (by decide) (by decide) (at_main_v15 m c) (at_main_v18 m c)
  exact h

theorem at_main_v20 : V m c main_v20 = val_main_v20 (F := F) (m ((c : Thread nD τ).loc main_arg0)) (m ((c : Thread nD τ).loc main_arg1)) (m ((c : Thread nD τ).loc main_arg3)) := by
  have h := host_unary (m := m) (c := c) 26 main_v19 main_v20 rfl (by decide) (by decide) (at_main_v19 m c)
  exact h

theorem at_main_cst_2 : V m c main_cst_2 = val_main_cst_2 (F := F) := by
  have h := host_nullary (m := m) (c := c) 27 main_cst_2 rfl (by decide)
  exact h

theorem at_main_v21 : V m c main_v21 = val_main_v21 (F := F) (m ((c : Thread nD τ).loc main_arg0)) (m ((c : Thread nD τ).loc main_arg1)) (m ((c : Thread nD τ).loc main_arg3)) := by
  have h := host_binary (m := m) (c := c) 28 main_v20 main_cst_2 main_v21 rfl (by decide) (by decide) (by decide) (at_main_v20 m c) (at_main_cst_2 m c)
  exact h

theorem at_main_v22 : V m c main_v22 = val_main_v22 (F := F) (m ((c : Thread nD τ).loc main_arg0)) (m ((c : Thread nD τ).loc main_arg1)) (m ((c : Thread nD τ).loc main_arg3)) := by
  have h := host_unary (m := m) (c := c) 29 main_v21 main_v22 rfl (by decide) (by decide) (at_main_v21 m c)
  exact h

theorem at_main_v23 : V m c main_v23 = val_main_v23 (F := F) (m ((c : Thread nD τ).loc main_arg0)) (m ((c : Thread nD τ).loc main_arg1)) (m ((c : Thread nD τ).loc main_arg3)) := by
  have h := host_unary (m := m) (c := c) 30 main_v22 main_v23 rfl (by decide) (by decide) (at_main_v22 m c)
  exact h

theorem at_main_v24 : V m c main_v24 = val_main_v24 (F := F) (m ((c : Thread nD τ).loc main_arg0)) (m ((c : Thread nD τ).loc main_arg1)) (m ((c : Thread nD τ).loc main_arg3)) := by
  have h := host_binary (m := m) (c := c) 31 main_v20 main_v23 main_v24 rfl (by decide) (by decide) (by decide) (at_main_v20 m c) (at_main_v23 m c)
  exact h

theorem at_main_v25 : V m c main_v25 = val_main_v25 (F := F) (m ((c : Thread nD τ).loc main_arg0)) (m ((c : Thread nD τ).loc main_arg1)) (m ((c : Thread nD τ).loc main_arg2)) (m ((c : Thread nD τ).loc main_arg3)) := by
  have h := host_binary (m := m) (c := c) 32 main_v24 main_arg2 main_v25 rfl (by decide) (by decide) (by decide) (at_main_v24 m c) (V_main_arg2 m c)
  exact h

theorem at_main_v26 : V m c main_v26 = val_main_v26 (F := F) (m ((c : Thread nD τ).loc main_arg4)) := by
  have h := host_unary (m := m) (c := c) 33 main_arg4 main_v26 rfl (by decide) (by decide) (V_main_arg4 m c)
  exact h

theorem at_main_v27 : V m c main_v27 = val_main_v27 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 34 main_v26 main_v25 main_v27 rfl (by decide) (by decide) (by decide) (at_main_v26 m c) (at_main_v25 m c)
  exact h

theorem at_main_cst_3 : V m c main_cst_3 = val_main_cst_3 (F := F) := by
  have h := host_nullary (m := m) (c := c) 35 main_cst_3 rfl (by decide)
  exact h

theorem at_main_v28 : V m c main_v28 = val_main_v28 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 36 main_v27 main_cst_3 main_v28 rfl (by decide) (by decide) (by decide) (at_main_v27 m c) (at_main_cst_3 m c)
  exact h

theorem at_main_v29 : V m c main_v29 = val_main_v29 (F := F) (m ((c : Thread nD τ).loc main_arg0)) (m ((c : Thread nD τ).loc main_arg1)) (m ((c : Thread nD τ).loc main_arg3)) := by
  have h := host_unary (m := m) (c := c) 37 main_v22 main_v29 rfl (by decide) (by decide) (at_main_v22 m c)
  exact h

theorem at_main_v30 : V m c main_v30 = val_main_v30 (F := F) (m ((c : Thread nD τ).loc main_arg0)) (m ((c : Thread nD τ).loc main_arg1)) (m ((c : Thread nD τ).loc main_arg3)) := by
  have h := host_binary (m := m) (c := c) 38 main_v17 main_v29 main_v30 rfl (by decide) (by decide) (by decide) (at_main_v17 m c) (at_main_v29 m c)
  exact h

theorem at_main_v31 : V m c main_v31 = val_main_v31 (F := F) (m ((c : Thread nD τ).loc main_arg0)) (m ((c : Thread nD τ).loc main_arg1)) (m ((c : Thread nD τ).loc main_arg3)) := by
  have h := host_reshape (m := m) (c := c) 39 main_v30 main_v31 rfl (by decide) (by decide) (at_main_v30 m c)
  exact h

theorem at_main_cst_4 : V m c main_cst_4 = val_main_cst_4 (F := F) := by
  have h := host_nullary (m := m) (c := c) 40 main_cst_4 rfl (by decide)
  exact h

theorem at_main_v32 : V m c main_v32 = val_main_v32 (F := F) := by
  have h := host_unary (m := m) (c := c) 41 main_cst_4 main_v32 rfl (by decide) (by decide) (at_main_cst_4 m c)
  exact h

theorem at_main_v33 : V m c main_v33 = val_main_v33 (F := F) (m ((c : Thread nD τ).loc main_arg3)) := by
  have h := host_unary (m := m) (c := c) 42 main_arg3 main_v33 rfl (by decide) (by decide) (V_main_arg3 m c)
  exact h

theorem at_main_v34 : V m c main_v34 = val_main_v34 (F := F) (m ((c : Thread nD τ).loc main_arg3)) := by
  have h := host_unary (m := m) (c := c) 43 main_v33 main_v34 rfl (by decide) (by decide) (at_main_v33 m c)
  exact h

theorem at_main_v35 : V m c main_v35 = val_main_v35 (F := F) (m ((c : Thread nD τ).loc main_arg3)) := by
  have h := host_binary (m := m) (c := c) 44 main_arg3 main_v34 main_v35 rfl (by decide) (by decide) (by decide) (V_main_arg3 m c) (at_main_v34 m c)
  exact h

theorem at_main_v36 : V m c main_v36 = val_main_v36 (F := F) (m ((c : Thread nD τ).loc main_arg3)) := by
  have h := host_unary (m := m) (c := c) 45 main_v35 main_v36 rfl (by decide) (by decide) (at_main_v35 m c)
  exact h

theorem at_main_v37 : V m c main_v37 = val_main_v37 (F := F) (m ((c : Thread nD τ).loc main_arg3)) := by
  have h := host_unary (m := m) (c := c) 46 main_v36 main_v37 rfl (by decide) (by decide) (at_main_v36 m c)
  exact h

theorem at_main_v38 : V m c main_v38 = val_main_v38 (F := F) (m ((c : Thread nD τ).loc main_arg3)) := by
  have h := host_binary (m := m) (c := c) 47 main_v35 main_v37 main_v38 rfl (by decide) (by decide) (by decide) (at_main_v35 m c) (at_main_v37 m c)
  exact h

theorem at_main_v39 : V m c main_v39 = val_main_v39 (F := F) (m ((c : Thread nD τ).loc main_arg3)) := by
  have h := host_unary (m := m) (c := c) 48 main_v38 main_v39 rfl (by decide) (by decide) (at_main_v38 m c)
  exact h

theorem at_main_v40 : V m c main_v40 = val_main_v40 (F := F) (m ((c : Thread nD τ).loc main_arg3)) := by
  have h := host_unary (m := m) (c := c) 49 main_v39 main_v40 rfl (by decide) (by decide) (at_main_v39 m c)
  exact h

theorem at_main_cst_5 : V m c main_cst_5 = val_main_cst_5 (F := F) := by
  have h := host_nullary (m := m) (c := c) 50 main_cst_5 rfl (by decide)
  exact h

theorem at_main_call1_v0 : V m c main_call1_v0 = val_main_call1_v0 (F := F) := by
  have h := host_unary (m := m) (c := c) 51 main_cst_5 main_call1_v0 rfl (by decide) (by decide) (at_main_cst_5 m c)
  exact h

theorem at_main_v41 : V m c main_v41 = val_main_v41 (F := F) (m ((c : Thread nD τ).loc main_arg3)) := by
  have h := host_binary (m := m) (c := c) 52 main_v34 main_call1_v0 main_v41 rfl (by decide) (by decide) (by decide) (at_main_v34 m c) (at_main_call1_v0 m c)
  exact h

theorem at_main_cst_6 : V m c main_cst_6 = val_main_cst_6 (F := F) := by
  have h := host_nullary (m := m) (c := c) 53 main_cst_6 rfl (by decide)
  exact h

theorem at_main_call2_v0 : V m c main_call2_v0 = val_main_call2_v0 (F := F) := by
  have h := host_unary (m := m) (c := c) 54 main_cst_6 main_call2_v0 rfl (by decide) (by decide) (at_main_cst_6 m c)
  exact h

theorem at_main_v42 : V m c main_v42 = val_main_v42 (F := F) (m ((c : Thread nD τ).loc main_arg3)) := by
  have h := host_binary (m := m) (c := c) 55 main_v37 main_call2_v0 main_v42 rfl (by decide) (by decide) (by decide) (at_main_v37 m c) (at_main_call2_v0 m c)
  exact h

theorem at_main_cst_7 : V m c main_cst_7 = val_main_cst_7 (F := F) := by
  have h := host_nullary (m := m) (c := c) 56 main_cst_7 rfl (by decide)
  exact h

theorem at_main_call3_v0 : V m c main_call3_v0 = val_main_call3_v0 (F := F) := by
  have h := host_unary (m := m) (c := c) 57 main_cst_7 main_call3_v0 rfl (by decide) (by decide) (at_main_cst_7 m c)
  exact h

theorem at_main_v43 : V m c main_v43 = val_main_v43 (F := F) (m ((c : Thread nD τ).loc main_arg3)) := by
  have h := host_binary (m := m) (c := c) 58 main_v40 main_call3_v0 main_v43 rfl (by decide) (by decide) (by decide) (at_main_v40 m c) (at_main_call3_v0 m c)
  exact h

theorem at_main_v44 : V m c main_v44 = val_main_v44 (F := F) (m ((c : Thread nD τ).loc main_arg3)) := by
  have h := host_unary (m := m) (c := c) 59 main_v41 main_v44 rfl (by decide) (by decide) (at_main_v41 m c)
  exact h

theorem at_main_v45 : V m c main_v45 = val_main_v45 (F := F) (m ((c : Thread nD τ).loc main_arg3)) := by
  have h := host_unary (m := m) (c := c) 60 main_v42 main_v45 rfl (by decide) (by decide) (at_main_v42 m c)
  exact h

theorem at_main_v46 : V m c main_v46 = val_main_v46 (F := F) (m ((c : Thread nD τ).loc main_arg3)) := by
  have h := host_unary (m := m) (c := c) 61 main_v43 main_v46 rfl (by decide) (by decide) (at_main_v43 m c)
  exact h

theorem at_main_v47 : V m c main_v47 = val_main_v47 (F := F) (m ((c : Thread nD τ).loc main_arg3)) := by
  have h := host_nary (m := m) (c := c) 62 ![main_v44, main_v45, main_v46] main_v47 rfl (by decide) (by decide)
  have h0 := at_main_v44 m c
  have h1 := at_main_v45 m c
  have h2 := at_main_v46 m c
  refine h.trans ?_
  show (concatenate S8x4224x3 2 [⟨S8x4224x1, V m c main_v44⟩, ⟨S8x4224x1, V m c main_v45⟩, ⟨S8x4224x1, V m c main_v46⟩] _) = _
  generalize V m c main_v44 = z0 at *
  generalize V m c main_v45 = z1 at *
  generalize V m c main_v46 = z2 at *
  subst h0 h1 h2
  rfl

theorem at_main_cst_8 : V m c main_cst_8 = val_main_cst_8 (F := F) := by
  have h := host_nullary (m := m) (c := c) 63 main_cst_8 rfl (by decide)
  exact h

theorem at_main_call4_v0 : V m c main_call4_v0 = val_main_call4_v0 (F := F) := by
  have h := host_unary (m := m) (c := c) 64 main_cst_8 main_call4_v0 rfl (by decide) (by decide) (at_main_cst_8 m c)
  exact h

theorem at_main_v48 : V m c main_v48 = val_main_v48 (F := F) (m ((c : Thread nD τ).loc main_arg3)) := by
  have h := host_binary (m := m) (c := c) 65 main_v34 main_call4_v0 main_v48 rfl (by decide) (by decide) (by decide) (at_main_v34 m c) (at_main_call4_v0 m c)
  exact h

theorem at_main_cst_9 : V m c main_cst_9 = val_main_cst_9 (F := F) := by
  have h := host_nullary (m := m) (c := c) 66 main_cst_9 rfl (by decide)
  exact h

theorem at_main_call5_v0 : V m c main_call5_v0 = val_main_call5_v0 (F := F) := by
  have h := host_unary (m := m) (c := c) 67 main_cst_9 main_call5_v0 rfl (by decide) (by decide) (at_main_cst_9 m c)
  exact h

theorem at_main_v49 : V m c main_v49 = val_main_v49 (F := F) (m ((c : Thread nD τ).loc main_arg3)) := by
  have h := host_binary (m := m) (c := c) 68 main_v37 main_call5_v0 main_v49 rfl (by decide) (by decide) (by decide) (at_main_v37 m c) (at_main_call5_v0 m c)
  exact h

theorem at_main_cst_10 : V m c main_cst_10 = val_main_cst_10 (F := F) := by
  have h := host_nullary (m := m) (c := c) 69 main_cst_10 rfl (by decide)
  exact h

theorem at_main_call6_v0 : V m c main_call6_v0 = val_main_call6_v0 (F := F) := by
  have h := host_unary (m := m) (c := c) 70 main_cst_10 main_call6_v0 rfl (by decide) (by decide) (at_main_cst_10 m c)
  exact h

theorem at_main_v50 : V m c main_v50 = val_main_v50 (F := F) (m ((c : Thread nD τ).loc main_arg3)) := by
  have h := host_binary (m := m) (c := c) 71 main_v40 main_call6_v0 main_v50 rfl (by decide) (by decide) (by decide) (at_main_v40 m c) (at_main_call6_v0 m c)
  exact h

theorem at_main_v51 : V m c main_v51 = val_main_v51 (F := F) (m ((c : Thread nD τ).loc main_arg3)) := by
  have h := host_unary (m := m) (c := c) 72 main_v48 main_v51 rfl (by decide) (by decide) (at_main_v48 m c)
  exact h

theorem at_main_v52 : V m c main_v52 = val_main_v52 (F := F) (m ((c : Thread nD τ).loc main_arg3)) := by
  have h := host_unary (m := m) (c := c) 73 main_v49 main_v52 rfl (by decide) (by decide) (at_main_v49 m c)
  exact h

theorem at_main_v53 : V m c main_v53 = val_main_v53 (F := F) (m ((c : Thread nD τ).loc main_arg3)) := by
  have h := host_unary (m := m) (c := c) 74 main_v50 main_v53 rfl (by decide) (by decide) (at_main_v50 m c)
  exact h

theorem at_main_v54 : V m c main_v54 = val_main_v54 (F := F) (m ((c : Thread nD τ).loc main_arg3)) := by
  have h := host_nary (m := m) (c := c) 75 ![main_v51, main_v52, main_v53] main_v54 rfl (by decide) (by decide)
  have h0 := at_main_v51 m c
  have h1 := at_main_v52 m c
  have h2 := at_main_v53 m c
  refine h.trans ?_
  show (concatenate S8x4224x3 2 [⟨S8x4224x1, V m c main_v51⟩, ⟨S8x4224x1, V m c main_v52⟩, ⟨S8x4224x1, V m c main_v53⟩] _) = _
  generalize V m c main_v51 = z0 at *
  generalize V m c main_v52 = z1 at *
  generalize V m c main_v53 = z2 at *
  subst h0 h1 h2
  rfl

theorem at_main_v55 : V m c main_v55 = val_main_v55 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 76 main_v28 main_v55 rfl (by decide) (by decide) (at_main_v28 m c)
  exact h

theorem at_main_v56 : V m c main_v56 = val_main_v56 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 77 main_v55 main_v56 rfl (by decide) (by decide) (at_main_v55 m c)
  exact h

theorem at_main_v57 : V m c main_v57 = val_main_v57 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 78 main_v56 main_v57 rfl (by decide) (by decide) (at_main_v56 m c)
  exact h

theorem at_main_v58 : V m c main_v58 = val_main_v58 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 79 main_v55 main_v57 main_v58 rfl (by decide) (by decide) (by decide) (at_main_v55 m c) (at_main_v57 m c)
  exact h

theorem at_main_v59 : V m c main_v59 = val_main_v59 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 80 main_v58 main_v59 rfl (by decide) (by decide) (at_main_v58 m c)
  exact h

theorem at_main_v60 : V m c main_v60 = val_main_v60 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 81 main_v59 main_v60 rfl (by decide) (by decide) (at_main_v59 m c)
  exact h

theorem at_main_v61 : V m c main_v61 = val_main_v61 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 82 main_v58 main_v60 main_v61 rfl (by decide) (by decide) (by decide) (at_main_v58 m c) (at_main_v60 m c)
  exact h

theorem at_main_v62 : V m c main_v62 = val_main_v62 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 83 main_v61 main_v62 rfl (by decide) (by decide) (at_main_v61 m c)
  exact h

theorem at_main_v63 : V m c main_v63 = val_main_v63 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 84 main_v62 main_v63 rfl (by decide) (by decide) (at_main_v62 m c)
  exact h

theorem at_main_cst_11 : V m c main_cst_11 = val_main_cst_11 (F := F) := by
  have h := host_nullary (m := m) (c := c) 85 main_cst_11 rfl (by decide)
  exact h

theorem at_main_call7_v0 : V m c main_call7_v0 = val_main_call7_v0 (F := F) := by
  have h := host_unary (m := m) (c := c) 86 main_cst_11 main_call7_v0 rfl (by decide) (by decide) (at_main_cst_11 m c)
  exact h

theorem at_main_v64 : V m c main_v64 = val_main_v64 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 87 main_v57 main_call7_v0 main_v64 rfl (by decide) (by decide) (by decide) (at_main_v57 m c) (at_main_call7_v0 m c)
  exact h

theorem at_main_cst_12 : V m c main_cst_12 = val_main_cst_12 (F := F) := by
  have h := host_nullary (m := m) (c := c) 88 main_cst_12 rfl (by decide)
  exact h

theorem at_main_call8_v0 : V m c main_call8_v0 = val_main_call8_v0 (F := F) := by
  have h := host_unary (m := m) (c := c) 89 main_cst_12 main_call8_v0 rfl (by decide) (by decide) (at_main_cst_12 m c)
  exact h

theorem at_main_v65 : V m c main_v65 = val_main_v65 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 90 main_v60 main_call8_v0 main_v65 rfl (by decide) (by decide) (by decide) (at_main_v60 m c) (at_main_call8_v0 m c)
  exact h

theorem at_main_cst_13 : V m c main_cst_13 = val_main_cst_13 (F := F) := by
  have h := host_nullary (m := m) (c := c) 91 main_cst_13 rfl (by decide)
  exact h

theorem at_main_call9_v0 : V m c main_call9_v0 = val_main_call9_v0 (F := F) := by
  have h := host_unary (m := m) (c := c) 92 main_cst_13 main_call9_v0 rfl (by decide) (by decide) (at_main_cst_13 m c)
  exact h

theorem at_main_v66 : V m c main_v66 = val_main_v66 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 93 main_v63 main_call9_v0 main_v66 rfl (by decide) (by decide) (by decide) (at_main_v63 m c) (at_main_call9_v0 m c)
  exact h

theorem at_main_v67 : V m c main_v67 = val_main_v67 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 94 main_v64 main_v67 rfl (by decide) (by decide) (at_main_v64 m c)
  exact h

theorem at_main_v68 : V m c main_v68 = val_main_v68 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 95 main_v65 main_v68 rfl (by decide) (by decide) (at_main_v65 m c)
  exact h

theorem at_main_v69 : V m c main_v69 = val_main_v69 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 96 main_v66 main_v69 rfl (by decide) (by decide) (at_main_v66 m c)
  exact h

theorem at_main_v70 : V m c main_v70 = val_main_v70 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_nary (m := m) (c := c) 97 ![main_v67, main_v68, main_v69] main_v70 rfl (by decide) (by decide)
  have h0 := at_main_v67 m c
  have h1 := at_main_v68 m c
  have h2 := at_main_v69 m c
  refine h.trans ?_
  show (concatenate S8x4224x3 2 [⟨S8x4224x1, V m c main_v67⟩, ⟨S8x4224x1, V m c main_v68⟩, ⟨S8x4224x1, V m c main_v69⟩] _) = _
  generalize V m c main_v67 = z0 at *
  generalize V m c main_v68 = z1 at *
  generalize V m c main_v69 = z2 at *
  subst h0 h1 h2
  rfl

theorem at_main_v71 : V m c main_v71 = val_main_v71 (F := F) (m ((c : Thread nD τ).loc main_arg0)) := by
  have h := host_unary (m := m) (c := c) 98 main_arg0 main_v71 rfl (by decide) (by decide) (V_main_arg0 m c)
  exact h

theorem at_main_c : V m c main_c = val_main_c (F := F) := by
  have h := host_nullary (m := m) (c := c) 99 main_c rfl (by decide)
  exact h

theorem at_main_call10_v0 : V m c main_call10_v0 = val_main_call10_v0 (F := F) := by
  have h := host_unary (m := m) (c := c) 100 main_c main_call10_v0 rfl (by decide) (by decide) (at_main_c m c)
  exact h

theorem at_main_v72 : V m c main_v72 = val_main_v72 (F := F) (m ((c : Thread nD τ).loc main_arg0)) := by
  have h := host_binary (m := m) (c := c) 101 main_v71 main_call10_v0 main_v72 rfl (by decide) (by decide) (by decide) (at_main_v71 m c) (at_main_call10_v0 m c)
  exact h

theorem at_main_cst_14 : V m c main_cst_14 = val_main_cst_14 (F := F) := by
  have h := host_nullary (m := m) (c := c) 102 main_cst_14 rfl (by decide)
  exact h

theorem at_main_v73 : V m c main_v73 = val_main_v73 (F := F) := by
  have h := host_unary (m := m) (c := c) 103 main_cst_14 main_v73 rfl (by decide) (by decide) (at_main_cst_14 m c)
  exact h

theorem at_main_v74 : V m c main_v74 = val_main_v74 (F := F) (m ((c : Thread nD τ).loc main_arg0)) := by
  have h := host_binary (m := m) (c := c) 104 main_v72 main_v73 main_v74 rfl (by decide) (by decide) (by decide) (at_main_v72 m c) (at_main_v73 m c)
  exact h

theorem at_main_v75 : V m c main_v75 = val_main_v75 (F := F) := by
  have h := host_unary (m := m) (c := c) 105 main_v32 main_v75 rfl (by decide) (by decide) (at_main_v32 m c)
  exact h

theorem at_main_v76 : V m c main_v76 = val_main_v76 (F := F) (m ((c : Thread nD τ).loc main_arg3)) := by
  have h := host_binary (m := m) (c := c) 106 main_v75 main_v47 main_v76 rfl (by decide) (by decide) (by decide) (at_main_v75 m c) (at_main_v47 m c)
  exact h

theorem at_main_cst_15 : V m c main_cst_15 = val_main_cst_15 (F := F) := by
  have h := host_nullary (m := m) (c := c) 107 main_cst_15 rfl (by decide)
  exact h

theorem at_main_v77 : V m c main_v77 = val_main_v77 (F := F) := by
  have h := host_unary (m := m) (c := c) 108 main_cst_15 main_v77 rfl (by decide) (by decide) (at_main_cst_15 m c)
  exact h

theorem at_main_v78 : V m c main_v78 = val_main_v78 (F := F) (m ((c : Thread nD τ).loc main_arg3)) := by
  have h := host_binary (m := m) (c := c) 109 main_v76 main_v77 main_v78 rfl (by decide) (by decide) (by decide) (at_main_v76 m c) (at_main_v77 m c)
  exact h

theorem at_main_v79 : V m c main_v79 = val_main_v79 (F := F) := by
  have h := host_nullary (m := m) (c := c) 110 main_v79 rfl (by decide)
  exact h

theorem at_main_c_16 : V m c main_c_16 = val_main_c_16 (F := F) := by
  have h := host_nullary (m := m) (c := c) 111 main_c_16 rfl (by decide)
  exact h

theorem at_main_call11_v0 : V m c main_call11_v0 = val_main_call11_v0 (F := F) := by
  have h := host_unary (m := m) (c := c) 112 main_c_16 main_call11_v0 rfl (by decide) (by decide) (at_main_c_16 m c)
  exact h

theorem at_main_call11_c : V m c main_call11_c = val_main_call11_c (F := F) := by
  have h := host_nullary (m := m) (c := c) 113 main_call11_c rfl (by decide)
  exact h

theorem at_main_call11_v1 : V m c main_call11_v1 = val_main_call11_v1 (F := F) := by
  have h := host_binary (m := m) (c := c) 114 main_call11_v0 main_call11_c main_call11_v1 rfl (by decide) (by decide) (by decide) (at_main_call11_v0 m c) (at_main_call11_c m c)
  exact h

theorem at_main_call11_c_0 : V m c main_call11_c_0 = val_main_call11_c_0 (F := F) := by
  have h := host_nullary (m := m) (c := c) 115 main_call11_c_0 rfl (by decide)
  exact h

theorem at_main_call11_v2 : V m c main_call11_v2 = val_main_call11_v2 (F := F) := by
  have h := host_ternary (m := m) (c := c) 116 main_call11_v1 main_call11_c_0 main_call11_v0 main_call11_v2 rfl (by decide) (by decide) (by decide) (by decide) (at_main_call11_v1 m c) (at_main_call11_c_0 m c) (at_main_call11_v0 m c)
  exact h

theorem at_main_call11_v3 : V m c main_call11_v3 = val_main_call11_v3 (F := F) := by
  have h := host_unary (m := m) (c := c) 117 main_call11_v2 main_call11_v3 rfl (by decide) (by decide) (at_main_call11_v2 m c)
  exact h

theorem at_main_call11_v4 : V m c main_call11_v4 = val_main_call11_v4 (F := F) := by
  have h := host_binary (m := m) (c := c) 118 main_v79 main_call11_v3 main_call11_v4 rfl (by decide) (by decide) (by decide) (at_main_v79 m c) (at_main_call11_v3 m c)
  exact h

theorem at_main_call11_c_1 : V m c main_call11_c_1 = val_main_call11_c_1 (F := F) := by
  have h := host_nullary (m := m) (c := c) 119 main_call11_c_1 rfl (by decide)
  exact h

theorem at_main_call11_v5 : V m c main_call11_v5 = val_main_call11_v5 (F := F) := by
  have h := host_unary (m := m) (c := c) 120 main_call11_c_1 main_call11_v5 rfl (by decide) (by decide) (at_main_call11_c_1 m c)
  exact h

theorem at_main_call11_v6 : V m c main_call11_v6 = val_main_call11_v6 (F := F) := by
  have h := host_binary (m := m) (c := c) 121 main_call11_v4 main_call11_v5 main_call11_v6 rfl (by decide) (by decide) (by decide) (at_main_call11_v4 m c) (at_main_call11_v5 m c)
  exact h

theorem at_main_call11_c_2 : V m c main_call11_c_2 = val_main_call11_c_2 (F := F) := by
  have h := host_nullary (m := m) (c := c) 122 main_call11_c_2 rfl (by decide)
  exact h

theorem at_main_call11_v7 : V m c main_call11_v7 = val_main_call11_v7 (F := F) := by
  have h := host_unary (m := m) (c := c) 123 main_call11_c_2 main_call11_v7 rfl (by decide) (by decide) (at_main_call11_c_2 m c)
  exact h

theorem at_main_call11_v8 : V m c main_call11_v8 = val_main_call11_v8 (F := F) := by
  have h := host_binary (m := m) (c := c) 124 main_call11_v4 main_call11_v7 main_call11_v8 rfl (by decide) (by decide) (by decide) (at_main_call11_v4 m c) (at_main_call11_v7 m c)
  exact h

theorem at_main_call11_c_3 : V m c main_call11_c_3 = val_main_call11_c_3 (F := F) := by
  have h := host_nullary (m := m) (c := c) 125 main_call11_c_3 rfl (by decide)
  exact h

theorem at_main_call11_v9 : V m c main_call11_v9 = val_main_call11_v9 (F := F) := by
  have h := host_binary (m := m) (c := c) 126 main_call11_v2 main_call11_c_3 main_call11_v9 rfl (by decide) (by decide) (by decide) (at_main_call11_v2 m c) (at_main_call11_c_3 m c)
  exact h

theorem at_main_call11_v10 : V m c main_call11_v10 = val_main_call11_v10 (F := F) := by
  have h := host_unary (m := m) (c := c) 127 main_call11_v9 main_call11_v10 rfl (by decide) (by decide) (at_main_call11_v9 m c)
  exact h

theorem at_main_call11_v11 : V m c main_call11_v11 = val_main_call11_v11 (F := F) := by
  have h := host_binary (m := m) (c := c) 128 main_call11_v8 main_call11_v10 main_call11_v11 rfl (by decide) (by decide) (by decide) (at_main_call11_v8 m c) (at_main_call11_v10 m c)
  exact h

theorem at_main_call11_v12 : V m c main_call11_v12 = val_main_call11_v12 (F := F) := by
  have h := host_binary (m := m) (c := c) 129 main_call11_v11 main_call11_v6 main_call11_v12 rfl (by decide) (by decide) (by decide) (at_main_call11_v11 m c) (at_main_call11_v6 m c)
  exact h

theorem at_main_call11_v13 : V m c main_call11_v13 = val_main_call11_v13 (F := F) := by
  have h := host_unary (m := m) (c := c) 130 main_call11_v2 main_call11_v13 rfl (by decide) (by decide) (at_main_call11_v2 m c)
  exact h

theorem at_main_call11_v14 : V m c main_call11_v14 = val_main_call11_v14 (F := F) := by
  have h := host_binary (m := m) (c := c) 131 main_call11_v4 main_call11_v13 main_call11_v14 rfl (by decide) (by decide) (by decide) (at_main_call11_v4 m c) (at_main_call11_v13 m c)
  exact h

theorem at_main_v80 : V m c main_v80 = val_main_v80 (F := F) := by
  have h := host_ternary (m := m) (c := c) 132 main_call11_v12 main_call11_v14 main_call11_v4 main_v80 rfl (by decide) (by decide) (by decide) (by decide) (at_main_call11_v12 m c) (at_main_call11_v14 m c) (at_main_call11_v4 m c)
  exact h

theorem at_main_c_17 : V m c main_c_17 = val_main_c_17 (F := F) := by
  have h := host_nullary (m := m) (c := c) 133 main_c_17 rfl (by decide)
  exact h

theorem at_main_v81 : V m c main_v81 = val_main_v81 (F := F) := by
  have h := host_unary (m := m) (c := c) 134 main_c_17 main_v81 rfl (by decide) (by decide) (at_main_c_17 m c)
  exact h

theorem at_main_v82 : V m c main_v82 = val_main_v82 (F := F) := by
  have h := host_binary (m := m) (c := c) 135 main_v80 main_v81 main_v82 rfl (by decide) (by decide) (by decide) (at_main_v80 m c) (at_main_v81 m c)
  exact h

theorem at_main_v83 : V m c main_v83 = val_main_v83 (F := F) := by
  have h := host_unary (m := m) (c := c) 136 main_v82 main_v83 rfl (by decide) (by decide) (at_main_v82 m c)
  exact h

theorem at_main_v84 : V m c main_v84 = val_main_v84 (F := F) (m ((c : Thread nD τ).loc main_arg0)) (m ((c : Thread nD τ).loc main_arg3)) := by
  have h := host_binary (m := m) (c := c) 137 main_v78 main_v74 main_v84 rfl (by decide) (by decide) (by decide) (at_main_v78 m c) (at_main_v74 m c)
  exact h

theorem at_main_v85 : V m c main_v85 = val_main_v85 (F := F) (m ((c : Thread nD τ).loc main_arg0)) (m ((c : Thread nD τ).loc main_arg3)) := by
  have h := host_binary (m := m) (c := c) 138 main_v74 main_v78 main_v85 rfl (by decide) (by decide) (by decide) (at_main_v74 m c) (at_main_v78 m c)
  exact h

theorem at_main_call12_v0 : V m c main_call12_v0 = val_main_call12_v0 (F := F) := by
  have h := host_unary (m := m) (c := c) 139 main_v83 main_call12_v0 rfl (by decide) (by decide) (at_main_v83 m c)
  exact h

theorem at_main_v86 : V m c main_v86 = val_main_v86 (F := F) (m ((c : Thread nD τ).loc main_arg0)) (m ((c : Thread nD τ).loc main_arg3)) := by
  have h := host_ternary (m := m) (c := c) 140 main_call12_v0 main_v84 main_v85 main_v86 rfl (by decide) (by decide) (by decide) (by decide) (at_main_call12_v0 m c) (at_main_v84 m c) (at_main_v85 m c)
  exact h

theorem at_main_v87 : V m c main_v87 = val_main_v87 (F := F) (m ((c : Thread nD τ).loc main_arg0)) (m ((c : Thread nD τ).loc main_arg3)) := by
  have h := host_unary (m := m) (c := c) 141 main_v86 main_v87 rfl (by decide) (by decide) (at_main_v86 m c)
  exact h

theorem at_main_v88 : V m c main_v88 = val_main_v88 (F := F) (m ((c : Thread nD τ).loc main_arg1)) := by
  have h := host_unary (m := m) (c := c) 142 main_arg1 main_v88 rfl (by decide) (by decide) (V_main_arg1 m c)
  exact h

theorem at_main_c_18 : V m c main_c_18 = val_main_c_18 (F := F) := by
  have h := host_nullary (m := m) (c := c) 143 main_c_18 rfl (by decide)
  exact h

theorem at_main_call13_v0 : V m c main_call13_v0 = val_main_call13_v0 (F := F) := by
  have h := host_unary (m := m) (c := c) 144 main_c_18 main_call13_v0 rfl (by decide) (by decide) (at_main_c_18 m c)
  exact h

theorem at_main_v89 : V m c main_v89 = val_main_v89 (F := F) (m ((c : Thread nD τ).loc main_arg1)) := by
  have h := host_binary (m := m) (c := c) 145 main_v88 main_call13_v0 main_v89 rfl (by decide) (by decide) (by decide) (at_main_v88 m c) (at_main_call13_v0 m c)
  exact h

theorem at_main_v90 : V m c main_v90 = val_main_v90 (F := F) (m ((c : Thread nD τ).loc main_arg3)) := by
  have h := host_binary (m := m) (c := c) 146 main_v54 main_v32 main_v90 rfl (by decide) (by decide) (by decide) (at_main_v54 m c) (at_main_v32 m c)
  exact h

theorem at_main_cst_19 : V m c main_cst_19 = val_main_cst_19 (F := F) := by
  have h := host_nullary (m := m) (c := c) 147 main_cst_19 rfl (by decide)
  exact h

theorem at_main_v91 : V m c main_v91 = val_main_v91 (F := F) := by
  have h := host_unary (m := m) (c := c) 148 main_cst_19 main_v91 rfl (by decide) (by decide) (at_main_cst_19 m c)
  exact h

theorem at_main_v92 : V m c main_v92 = val_main_v92 (F := F) (m ((c : Thread nD τ).loc main_arg3)) := by
  have h := host_binary (m := m) (c := c) 149 main_v90 main_v91 main_v92 rfl (by decide) (by decide) (by decide) (at_main_v90 m c) (at_main_v91 m c)
  exact h

theorem at_main_v93 : V m c main_v93 = val_main_v93 (F := F) := by
  have h := host_nullary (m := m) (c := c) 150 main_v93 rfl (by decide)
  exact h

theorem at_main_c_20 : V m c main_c_20 = val_main_c_20 (F := F) := by
  have h := host_nullary (m := m) (c := c) 151 main_c_20 rfl (by decide)
  exact h

theorem at_main_call14_v0 : V m c main_call14_v0 = val_main_call14_v0 (F := F) := by
  have h := host_unary (m := m) (c := c) 152 main_c_20 main_call14_v0 rfl (by decide) (by decide) (at_main_c_20 m c)
  exact h

theorem at_main_call14_c : V m c main_call14_c = val_main_call14_c (F := F) := by
  have h := host_nullary (m := m) (c := c) 153 main_call14_c rfl (by decide)
  exact h

theorem at_main_call14_v1 : V m c main_call14_v1 = val_main_call14_v1 (F := F) := by
  have h := host_binary (m := m) (c := c) 154 main_call14_v0 main_call14_c main_call14_v1 rfl (by decide) (by decide) (by decide) (at_main_call14_v0 m c) (at_main_call14_c m c)
  exact h

theorem at_main_call14_c_0 : V m c main_call14_c_0 = val_main_call14_c_0 (F := F) := by
  have h := host_nullary (m := m) (c := c) 155 main_call14_c_0 rfl (by decide)
  exact h

theorem at_main_call14_v2 : V m c main_call14_v2 = val_main_call14_v2 (F := F) := by
  have h := host_ternary (m := m) (c := c) 156 main_call14_v1 main_call14_c_0 main_call14_v0 main_call14_v2 rfl (by decide) (by decide) (by decide) (by decide) (at_main_call14_v1 m c) (at_main_call14_c_0 m c) (at_main_call14_v0 m c)
  exact h

theorem at_main_call14_v3 : V m c main_call14_v3 = val_main_call14_v3 (F := F) := by
  have h := host_unary (m := m) (c := c) 157 main_call14_v2 main_call14_v3 rfl (by decide) (by decide) (at_main_call14_v2 m c)
  exact h

theorem at_main_call14_v4 : V m c main_call14_v4 = val_main_call14_v4 (F := F) := by
  have h := host_binary (m := m) (c := c) 158 main_v93 main_call14_v3 main_call14_v4 rfl (by decide) (by decide) (by decide) (at_main_v93 m c) (at_main_call14_v3 m c)
  exact h

theorem at_main_call14_c_1 : V m c main_call14_c_1 = val_main_call14_c_1 (F := F) := by
  have h := host_nullary (m := m) (c := c) 159 main_call14_c_1 rfl (by decide)
  exact h

theorem at_main_call14_v5 : V m c main_call14_v5 = val_main_call14_v5 (F := F) := by
  have h := host_unary (m := m) (c := c) 160 main_call14_c_1 main_call14_v5 rfl (by decide) (by decide) (at_main_call14_c_1 m c)
  exact h

theorem at_main_call14_v6 : V m c main_call14_v6 = val_main_call14_v6 (F := F) := by
  have h := host_binary (m := m) (c := c) 161 main_call14_v4 main_call14_v5 main_call14_v6 rfl (by decide) (by decide) (by decide) (at_main_call14_v4 m c) (at_main_call14_v5 m c)
  exact h

theorem at_main_call14_c_2 : V m c main_call14_c_2 = val_main_call14_c_2 (F := F) := by
  have h := host_nullary (m := m) (c := c) 162 main_call14_c_2 rfl (by decide)
  exact h

theorem at_main_call14_v7 : V m c main_call14_v7 = val_main_call14_v7 (F := F) := by
  have h := host_unary (m := m) (c := c) 163 main_call14_c_2 main_call14_v7 rfl (by decide) (by decide) (at_main_call14_c_2 m c)
  exact h

theorem at_main_call14_v8 : V m c main_call14_v8 = val_main_call14_v8 (F := F) := by
  have h := host_binary (m := m) (c := c) 164 main_call14_v4 main_call14_v7 main_call14_v8 rfl (by decide) (by decide) (by decide) (at_main_call14_v4 m c) (at_main_call14_v7 m c)
  exact h

theorem at_main_call14_c_3 : V m c main_call14_c_3 = val_main_call14_c_3 (F := F) := by
  have h := host_nullary (m := m) (c := c) 165 main_call14_c_3 rfl (by decide)
  exact h

theorem at_main_call14_v9 : V m c main_call14_v9 = val_main_call14_v9 (F := F) := by
  have h := host_binary (m := m) (c := c) 166 main_call14_v2 main_call14_c_3 main_call14_v9 rfl (by decide) (by decide) (by decide) (at_main_call14_v2 m c) (at_main_call14_c_3 m c)
  exact h

theorem at_main_call14_v10 : V m c main_call14_v10 = val_main_call14_v10 (F := F) := by
  have h := host_unary (m := m) (c := c) 167 main_call14_v9 main_call14_v10 rfl (by decide) (by decide) (at_main_call14_v9 m c)
  exact h

theorem at_main_call14_v11 : V m c main_call14_v11 = val_main_call14_v11 (F := F) := by
  have h := host_binary (m := m) (c := c) 168 main_call14_v8 main_call14_v10 main_call14_v11 rfl (by decide) (by decide) (by decide) (at_main_call14_v8 m c) (at_main_call14_v10 m c)
  exact h

theorem at_main_call14_v12 : V m c main_call14_v12 = val_main_call14_v12 (F := F) := by
  have h := host_binary (m := m) (c := c) 169 main_call14_v11 main_call14_v6 main_call14_v12 rfl (by decide) (by decide) (by decide) (at_main_call14_v11 m c) (at_main_call14_v6 m c)
  exact h

theorem at_main_call14_v13 : V m c main_call14_v13 = val_main_call14_v13 (F := F) := by
  have h := host_unary (m := m) (c := c) 170 main_call14_v2 main_call14_v13 rfl (by decide) (by decide) (at_main_call14_v2 m c)
  exact h

theorem at_main_call14_v14 : V m c main_call14_v14 = val_main_call14_v14 (F := F) := by
  have h := host_binary (m := m) (c := c) 171 main_call14_v4 main_call14_v13 main_call14_v14 rfl (by decide) (by decide) (by decide) (at_main_call14_v4 m c) (at_main_call14_v13 m c)
  exact h

theorem at_main_v94 : V m c main_v94 = val_main_v94 (F := F) := by
  have h := host_ternary (m := m) (c := c) 172 main_call14_v12 main_call14_v14 main_call14_v4 main_v94 rfl (by decide) (by decide) (by decide) (by decide) (at_main_call14_v12 m c) (at_main_call14_v14 m c) (at_main_call14_v4 m c)
  exact h

theorem at_main_c_21 : V m c main_c_21 = val_main_c_21 (F := F) := by
  have h := host_nullary (m := m) (c := c) 173 main_c_21 rfl (by decide)
  exact h

theorem at_main_v95 : V m c main_v95 = val_main_v95 (F := F) := by
  have h := host_unary (m := m) (c := c) 174 main_c_21 main_v95 rfl (by decide) (by decide) (at_main_c_21 m c)
  exact h

theorem at_main_v96 : V m c main_v96 = val_main_v96 (F := F) := by
  have h := host_binary (m := m) (c := c) 175 main_v94 main_v95 main_v96 rfl (by decide) (by decide) (by decide) (at_main_v94 m c) (at_main_v95 m c)
  exact h

theorem at_main_v97 : V m c main_v97 = val_main_v97 (F := F) := by
  have h := host_unary (m := m) (c := c) 176 main_v96 main_v97 rfl (by decide) (by decide) (at_main_v96 m c)
  exact h

theorem at_main_v98 : V m c main_v98 = val_main_v98 (F := F) (m ((c : Thread nD τ).loc main_arg1)) (m ((c : Thread nD τ).loc main_arg3)) := by
  have h := host_binary (m := m) (c := c) 177 main_v92 main_v89 main_v98 rfl (by decide) (by decide) (by decide) (at_main_v92 m c) (at_main_v89 m c)
  exact h

theorem at_main_v99 : V m c main_v99 = val_main_v99 (F := F) (m ((c : Thread nD τ).loc main_arg1)) (m ((c : Thread nD τ).loc main_arg3)) := by
  have h := host_binary (m := m) (c := c) 178 main_v89 main_v92 main_v99 rfl (by decide) (by decide) (by decide) (at_main_v89 m c) (at_main_v92 m c)
  exact h

theorem at_main_call15_v0 : V m c main_call15_v0 = val_main_call15_v0 (F := F) := by
  have h := host_unary (m := m) (c := c) 179 main_v97 main_call15_v0 rfl (by decide) (by decide) (at_main_v97 m c)
  exact h

theorem at_main_v100 : V m c main_v100 = val_main_v100 (F := F) (m ((c : Thread nD τ).loc main_arg1)) (m ((c : Thread nD τ).loc main_arg3)) := by
  have h := host_ternary (m := m) (c := c) 180 main_call15_v0 main_v98 main_v99 main_v100 rfl (by decide) (by decide) (by decide) (by decide) (at_main_call15_v0 m c) (at_main_v98 m c) (at_main_v99 m c)
  exact h

theorem at_main_v101 : V m c main_v101 = val_main_v101 (F := F) (m ((c : Thread nD τ).loc main_arg1)) (m ((c : Thread nD τ).loc main_arg3)) := by
  have h := host_unary (m := m) (c := c) 181 main_v100 main_v101 rfl (by decide) (by decide) (at_main_v100 m c)
  exact h

theorem at_main_v102 : V m c main_v102 = val_main_v102 (F := F) (m ((c : Thread nD τ).loc main_arg2)) := by
  have h := host_unary (m := m) (c := c) 182 main_arg2 main_v102 rfl (by decide) (by decide) (V_main_arg2 m c)
  exact h

theorem at_main_c_22 : V m c main_c_22 = val_main_c_22 (F := F) := by
  have h := host_nullary (m := m) (c := c) 183 main_c_22 rfl (by decide)
  exact h

theorem at_main_call16_v0 : V m c main_call16_v0 = val_main_call16_v0 (F := F) := by
  have h := host_unary (m := m) (c := c) 184 main_c_22 main_call16_v0 rfl (by decide) (by decide) (at_main_c_22 m c)
  exact h

theorem at_main_v103 : V m c main_v103 = val_main_v103 (F := F) (m ((c : Thread nD τ).loc main_arg2)) := by
  have h := host_binary (m := m) (c := c) 185 main_v102 main_call16_v0 main_v103 rfl (by decide) (by decide) (by decide) (at_main_v102 m c) (at_main_call16_v0 m c)
  exact h

theorem at_main_cst_23 : V m c main_cst_23 = val_main_cst_23 (F := F) := by
  have h := host_nullary (m := m) (c := c) 186 main_cst_23 rfl (by decide)
  exact h

theorem at_main_v104 : V m c main_v104 = val_main_v104 (F := F) := by
  have h := host_unary (m := m) (c := c) 187 main_cst_23 main_v104 rfl (by decide) (by decide) (at_main_cst_23 m c)
  exact h

theorem at_main_v105 : V m c main_v105 = val_main_v105 (F := F) := by
  have h := host_binary (m := m) (c := c) 188 main_v32 main_v104 main_v105 rfl (by decide) (by decide) (by decide) (at_main_v32 m c) (at_main_v104 m c)
  exact h

theorem at_main_v106 : V m c main_v106 = val_main_v106 (F := F) := by
  have h := host_nullary (m := m) (c := c) 189 main_v106 rfl (by decide)
  exact h

theorem at_main_c_24 : V m c main_c_24 = val_main_c_24 (F := F) := by
  have h := host_nullary (m := m) (c := c) 190 main_c_24 rfl (by decide)
  exact h

theorem at_main_call17_v0 : V m c main_call17_v0 = val_main_call17_v0 (F := F) := by
  have h := host_unary (m := m) (c := c) 191 main_c_24 main_call17_v0 rfl (by decide) (by decide) (at_main_c_24 m c)
  exact h

theorem at_main_call17_c : V m c main_call17_c = val_main_call17_c (F := F) := by
  have h := host_nullary (m := m) (c := c) 192 main_call17_c rfl (by decide)
  exact h

theorem at_main_call17_v1 : V m c main_call17_v1 = val_main_call17_v1 (F := F) := by
  have h := host_binary (m := m) (c := c) 193 main_call17_v0 main_call17_c main_call17_v1 rfl (by decide) (by decide) (by decide) (at_main_call17_v0 m c) (at_main_call17_c m c)
  exact h

theorem at_main_call17_c_0 : V m c main_call17_c_0 = val_main_call17_c_0 (F := F) := by
  have h := host_nullary (m := m) (c := c) 194 main_call17_c_0 rfl (by decide)
  exact h

theorem at_main_call17_v2 : V m c main_call17_v2 = val_main_call17_v2 (F := F) := by
  have h := host_ternary (m := m) (c := c) 195 main_call17_v1 main_call17_c_0 main_call17_v0 main_call17_v2 rfl (by decide) (by decide) (by decide) (by decide) (at_main_call17_v1 m c) (at_main_call17_c_0 m c) (at_main_call17_v0 m c)
  exact h

theorem at_main_call17_v3 : V m c main_call17_v3 = val_main_call17_v3 (F := F) := by
  have h := host_unary (m := m) (c := c) 196 main_call17_v2 main_call17_v3 rfl (by decide) (by decide) (at_main_call17_v2 m c)
  exact h

theorem at_main_call17_v4 : V m c main_call17_v4 = val_main_call17_v4 (F := F) := by
  have h := host_binary (m := m) (c := c) 197 main_v106 main_call17_v3 main_call17_v4 rfl (by decide) (by decide) (by decide) (at_main_v106 m c) (at_main_call17_v3 m c)
  exact h

theorem at_main_call17_c_1 : V m c main_call17_c_1 = val_main_call17_c_1 (F := F) := by
  have h := host_nullary (m := m) (c := c) 198 main_call17_c_1 rfl (by decide)
  exact h

theorem at_main_call17_v5 : V m c main_call17_v5 = val_main_call17_v5 (F := F) := by
  have h := host_unary (m := m) (c := c) 199 main_call17_c_1 main_call17_v5 rfl (by decide) (by decide) (at_main_call17_c_1 m c)
  exact h

theorem at_main_call17_v6 : V m c main_call17_v6 = val_main_call17_v6 (F := F) := by
  have h := host_binary (m := m) (c := c) 200 main_call17_v4 main_call17_v5 main_call17_v6 rfl (by decide) (by decide) (by decide) (at_main_call17_v4 m c) (at_main_call17_v5 m c)
  exact h

theorem at_main_call17_c_2 : V m c main_call17_c_2 = val_main_call17_c_2 (F := F) := by
  have h := host_nullary (m := m) (c := c) 201 main_call17_c_2 rfl (by decide)
  exact h

theorem at_main_call17_v7 : V m c main_call17_v7 = val_main_call17_v7 (F := F) := by
  have h := host_unary (m := m) (c := c) 202 main_call17_c_2 main_call17_v7 rfl (by decide) (by decide) (at_main_call17_c_2 m c)
  exact h

theorem at_main_call17_v8 : V m c main_call17_v8 = val_main_call17_v8 (F := F) := by
  have h := host_binary (m := m) (c := c) 203 main_call17_v4 main_call17_v7 main_call17_v8 rfl (by decide) (by decide) (by decide) (at_main_call17_v4 m c) (at_main_call17_v7 m c)
  exact h

theorem at_main_call17_c_3 : V m c main_call17_c_3 = val_main_call17_c_3 (F := F) := by
  have h := host_nullary (m := m) (c := c) 204 main_call17_c_3 rfl (by decide)
  exact h

theorem at_main_call17_v9 : V m c main_call17_v9 = val_main_call17_v9 (F := F) := by
  have h := host_binary (m := m) (c := c) 205 main_call17_v2 main_call17_c_3 main_call17_v9 rfl (by decide) (by decide) (by decide) (at_main_call17_v2 m c) (at_main_call17_c_3 m c)
  exact h

theorem at_main_call17_v10 : V m c main_call17_v10 = val_main_call17_v10 (F := F) := by
  have h := host_unary (m := m) (c := c) 206 main_call17_v9 main_call17_v10 rfl (by decide) (by decide) (at_main_call17_v9 m c)
  exact h

theorem at_main_call17_v11 : V m c main_call17_v11 = val_main_call17_v11 (F := F) := by
  have h := host_binary (m := m) (c := c) 207 main_call17_v8 main_call17_v10 main_call17_v11 rfl (by decide) (by decide) (by decide) (at_main_call17_v8 m c) (at_main_call17_v10 m c)
  exact h

theorem at_main_call17_v12 : V m c main_call17_v12 = val_main_call17_v12 (F := F) := by
  have h := host_binary (m := m) (c := c) 208 main_call17_v11 main_call17_v6 main_call17_v12 rfl (by decide) (by decide) (by decide) (at_main_call17_v11 m c) (at_main_call17_v6 m c)
  exact h

theorem at_main_call17_v13 : V m c main_call17_v13 = val_main_call17_v13 (F := F) := by
  have h := host_unary (m := m) (c := c) 209 main_call17_v2 main_call17_v13 rfl (by decide) (by decide) (at_main_call17_v2 m c)
  exact h

theorem at_main_call17_v14 : V m c main_call17_v14 = val_main_call17_v14 (F := F) := by
  have h := host_binary (m := m) (c := c) 210 main_call17_v4 main_call17_v13 main_call17_v14 rfl (by decide) (by decide) (by decide) (at_main_call17_v4 m c) (at_main_call17_v13 m c)
  exact h

theorem at_main_v107 : V m c main_v107 = val_main_v107 (F := F) := by
  have h := host_ternary (m := m) (c := c) 211 main_call17_v12 main_call17_v14 main_call17_v4 main_v107 rfl (by decide) (by decide) (by decide) (by decide) (at_main_call17_v12 m c) (at_main_call17_v14 m c) (at_main_call17_v4 m c)
  exact h

theorem at_main_c_25 : V m c main_c_25 = val_main_c_25 (F := F) := by
  have h := host_nullary (m := m) (c := c) 212 main_c_25 rfl (by decide)
  exact h

theorem at_main_v108 : V m c main_v108 = val_main_v108 (F := F) := by
  have h := host_unary (m := m) (c := c) 213 main_c_25 main_v108 rfl (by decide) (by decide) (at_main_c_25 m c)
  exact h

theorem at_main_v109 : V m c main_v109 = val_main_v109 (F := F) := by
  have h := host_binary (m := m) (c := c) 214 main_v107 main_v108 main_v109 rfl (by decide) (by decide) (by decide) (at_main_v107 m c) (at_main_v108 m c)
  exact h

theorem at_main_v110 : V m c main_v110 = val_main_v110 (F := F) := by
  have h := host_unary (m := m) (c := c) 215 main_v109 main_v110 rfl (by decide) (by decide) (at_main_v109 m c)
  exact h

theorem at_main_v111 : V m c main_v111 = val_main_v111 (F := F) (m ((c : Thread nD τ).loc main_arg2)) := by
  have h := host_binary (m := m) (c := c) 216 main_v105 main_v103 main_v111 rfl (by decide) (by decide) (by decide) (at_main_v105 m c) (at_main_v103 m c)
  exact h

theorem at_main_v112 : V m c main_v112 = val_main_v112 (F := F) (m ((c : Thread nD τ).loc main_arg2)) := by
  have h := host_binary (m := m) (c := c) 217 main_v103 main_v105 main_v112 rfl (by decide) (by decide) (by decide) (at_main_v103 m c) (at_main_v105 m c)
  exact h

theorem at_main_call18_v0 : V m c main_call18_v0 = val_main_call18_v0 (F := F) := by
  have h := host_unary (m := m) (c := c) 218 main_v110 main_call18_v0 rfl (by decide) (by decide) (at_main_v110 m c)
  exact h

theorem at_main_v113 : V m c main_v113 = val_main_v113 (F := F) (m ((c : Thread nD τ).loc main_arg2)) := by
  have h := host_ternary (m := m) (c := c) 219 main_call18_v0 main_v111 main_v112 main_v113 rfl (by decide) (by decide) (by decide) (by decide) (at_main_call18_v0 m c) (at_main_v111 m c) (at_main_v112 m c)
  exact h

theorem at_main_v114 : V m c main_v114 = val_main_v114 (F := F) (m ((c : Thread nD τ).loc main_arg2)) := by
  have h := host_unary (m := m) (c := c) 220 main_v113 main_v114 rfl (by decide) (by decide) (at_main_v113 m c)
  exact h

theorem at_main_v115 : V m c main_v115 = val_main_v115 (F := F) (m ((c : Thread nD τ).loc main_arg4)) := by
  have h := host_unary (m := m) (c := c) 221 main_arg4 main_v115 rfl (by decide) (by decide) (V_main_arg4 m c)
  exact h

theorem at_main_c_26 : V m c main_c_26 = val_main_c_26 (F := F) := by
  have h := host_nullary (m := m) (c := c) 222 main_c_26 rfl (by decide)
  exact h

theorem at_main_call19_v0 : V m c main_call19_v0 = val_main_call19_v0 (F := F) := by
  have h := host_unary (m := m) (c := c) 223 main_c_26 main_call19_v0 rfl (by decide) (by decide) (at_main_c_26 m c)
  exact h

theorem at_main_v116 : V m c main_v116 = val_main_v116 (F := F) (m ((c : Thread nD τ).loc main_arg4)) := by
  have h := host_binary (m := m) (c := c) 224 main_v115 main_call19_v0 main_v116 rfl (by decide) (by decide) (by decide) (at_main_v115 m c) (at_main_call19_v0 m c)
  exact h

theorem at_main_cst_27 : V m c main_cst_27 = val_main_cst_27 (F := F) := by
  have h := host_nullary (m := m) (c := c) 225 main_cst_27 rfl (by decide)
  exact h

theorem at_main_v117 : V m c main_v117 = val_main_v117 (F := F) := by
  have h := host_unary (m := m) (c := c) 226 main_cst_27 main_v117 rfl (by decide) (by decide) (at_main_cst_27 m c)
  exact h

theorem at_main_v118 : V m c main_v118 = val_main_v118 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 227 main_v70 main_v117 main_v118 rfl (by decide) (by decide) (by decide) (at_main_v70 m c) (at_main_v117 m c)
  exact h

theorem at_main_v119 : V m c main_v119 = val_main_v119 (F := F) := by
  have h := host_nullary (m := m) (c := c) 228 main_v119 rfl (by decide)
  exact h

theorem at_main_c_28 : V m c main_c_28 = val_main_c_28 (F := F) := by
  have h := host_nullary (m := m) (c := c) 229 main_c_28 rfl (by decide)
  exact h

theorem at_main_call20_v0 : V m c main_call20_v0 = val_main_call20_v0 (F := F) := by
  have h := host_unary (m := m) (c := c) 230 main_c_28 main_call20_v0 rfl (by decide) (by decide) (at_main_c_28 m c)
  exact h

theorem at_main_call20_c : V m c main_call20_c = val_main_call20_c (F := F) := by
  have h := host_nullary (m := m) (c := c) 231 main_call20_c rfl (by decide)
  exact h

theorem at_main_call20_v1 : V m c main_call20_v1 = val_main_call20_v1 (F := F) := by
  have h := host_binary (m := m) (c := c) 232 main_call20_v0 main_call20_c main_call20_v1 rfl (by decide) (by decide) (by decide) (at_main_call20_v0 m c) (at_main_call20_c m c)
  exact h

theorem at_main_call20_c_0 : V m c main_call20_c_0 = val_main_call20_c_0 (F := F) := by
  have h := host_nullary (m := m) (c := c) 233 main_call20_c_0 rfl (by decide)
  exact h

theorem at_main_call20_v2 : V m c main_call20_v2 = val_main_call20_v2 (F := F) := by
  have h := host_ternary (m := m) (c := c) 234 main_call20_v1 main_call20_c_0 main_call20_v0 main_call20_v2 rfl (by decide) (by decide) (by decide) (by decide) (at_main_call20_v1 m c) (at_main_call20_c_0 m c) (at_main_call20_v0 m c)
  exact h

theorem at_main_call20_v3 : V m c main_call20_v3 = val_main_call20_v3 (F := F) := by
  have h := host_unary (m := m) (c := c) 235 main_call20_v2 main_call20_v3 rfl (by decide) (by decide) (at_main_call20_v2 m c)
  exact h

theorem at_main_call20_v4 : V m c main_call20_v4 = val_main_call20_v4 (F := F) := by
  have h := host_binary (m := m) (c := c) 236 main_v119 main_call20_v3 main_call20_v4 rfl (by decide) (by decide) (by decide) (at_main_v119 m c) (at_main_call20_v3 m c)
  exact h

theorem at_main_call20_c_1 : V m c main_call20_c_1 = val_main_call20_c_1 (F := F) := by
  have h := host_nullary (m := m) (c := c) 237 main_call20_c_1 rfl (by decide)
  exact h

theorem at_main_call20_v5 : V m c main_call20_v5 = val_main_call20_v5 (F := F) := by
  have h := host_unary (m := m) (c := c) 238 main_call20_c_1 main_call20_v5 rfl (by decide) (by decide) (at_main_call20_c_1 m c)
  exact h

theorem at_main_call20_v6 : V m c main_call20_v6 = val_main_call20_v6 (F := F) := by
  have h := host_binary (m := m) (c := c) 239 main_call20_v4 main_call20_v5 main_call20_v6 rfl (by decide) (by decide) (by decide) (at_main_call20_v4 m c) (at_main_call20_v5 m c)
  exact h

theorem at_main_call20_c_2 : V m c main_call20_c_2 = val_main_call20_c_2 (F := F) := by
  have h := host_nullary (m := m) (c := c) 240 main_call20_c_2 rfl (by decide)
  exact h

theorem at_main_call20_v7 : V m c main_call20_v7 = val_main_call20_v7 (F := F) := by
  have h := host_unary (m := m) (c := c) 241 main_call20_c_2 main_call20_v7 rfl (by decide) (by decide) (at_main_call20_c_2 m c)
  exact h

theorem at_main_call20_v8 : V m c main_call20_v8 = val_main_call20_v8 (F := F) := by
  have h := host_binary (m := m) (c := c) 242 main_call20_v4 main_call20_v7 main_call20_v8 rfl (by decide) (by decide) (by decide) (at_main_call20_v4 m c) (at_main_call20_v7 m c)
  exact h

theorem at_main_call20_c_3 : V m c main_call20_c_3 = val_main_call20_c_3 (F := F) := by
  have h := host_nullary (m := m) (c := c) 243 main_call20_c_3 rfl (by decide)
  exact h

theorem at_main_call20_v9 : V m c main_call20_v9 = val_main_call20_v9 (F := F) := by
  have h := host_binary (m := m) (c := c) 244 main_call20_v2 main_call20_c_3 main_call20_v9 rfl (by decide) (by decide) (by decide) (at_main_call20_v2 m c) (at_main_call20_c_3 m c)
  exact h

theorem at_main_call20_v10 : V m c main_call20_v10 = val_main_call20_v10 (F := F) := by
  have h := host_unary (m := m) (c := c) 245 main_call20_v9 main_call20_v10 rfl (by decide) (by decide) (at_main_call20_v9 m c)
  exact h

theorem at_main_call20_v11 : V m c main_call20_v11 = val_main_call20_v11 (F := F) := by
  have h := host_binary (m := m) (c := c) 246 main_call20_v8 main_call20_v10 main_call20_v11 rfl (by decide) (by decide) (by decide) (at_main_call20_v8 m c) (at_main_call20_v10 m c)
  exact h

theorem at_main_call20_v12 : V m c main_call20_v12 = val_main_call20_v12 (F := F) := by
  have h := host_binary (m := m) (c := c) 247 main_call20_v11 main_call20_v6 main_call20_v12 rfl (by decide) (by decide) (by decide) (at_main_call20_v11 m c) (at_main_call20_v6 m c)
  exact h

theorem at_main_call20_v13 : V m c main_call20_v13 = val_main_call20_v13 (F := F) := by
  have h := host_unary (m := m) (c := c) 248 main_call20_v2 main_call20_v13 rfl (by decide) (by decide) (at_main_call20_v2 m c)
  exact h

theorem at_main_call20_v14 : V m c main_call20_v14 = val_main_call20_v14 (F := F) := by
  have h := host_binary (m := m) (c := c) 249 main_call20_v4 main_call20_v13 main_call20_v14 rfl (by decide) (by decide) (by decide) (at_main_call20_v4 m c) (at_main_call20_v13 m c)
  exact h

theorem at_main_v120 : V m c main_v120 = val_main_v120 (F := F) := by
  have h := host_ternary (m := m) (c := c) 250 main_call20_v12 main_call20_v14 main_call20_v4 main_v120 rfl (by decide) (by decide) (by decide) (by decide) (at_main_call20_v12 m c) (at_main_call20_v14 m c) (at_main_call20_v4 m c)
  exact h

theorem at_main_c_29 : V m c main_c_29 = val_main_c_29 (F := F) := by
  have h := host_nullary (m := m) (c := c) 251 main_c_29 rfl (by decide)
  exact h

theorem at_main_v121 : V m c main_v121 = val_main_v121 (F := F) := by
  have h := host_unary (m := m) (c := c) 252 main_c_29 main_v121 rfl (by decide) (by decide) (at_main_c_29 m c)
  exact h

theorem at_main_v122 : V m c main_v122 = val_main_v122 (F := F) := by
  have h := host_binary (m := m) (c := c) 253 main_v120 main_v121 main_v122 rfl (by decide) (by decide) (by decide) (at_main_v120 m c) (at_main_v121 m c)
  exact h

theorem at_main_v123 : V m c main_v123 = val_main_v123 (F := F) := by
  have h := host_unary (m := m) (c := c) 254 main_v122 main_v123 rfl (by decide) (by decide) (at_main_v122 m c)
  exact h

theorem at_main_v124 : V m c main_v124 = val_main_v124 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 255 main_v118 main_v116 main_v124 rfl (by decide) (by decide) (by decide) (at_main_v118 m c) (at_main_v116 m c)
  exact h

theorem at_main_v125 : V m c main_v125 = val_main_v125 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_binary (m := m) (c := c) 256 main_v116 main_v118 main_v125 rfl (by decide) (by decide) (by decide) (at_main_v116 m c) (at_main_v118 m c)
  exact h

theorem at_main_call21_v0 : V m c main_call21_v0 = val_main_call21_v0 (F := F) := by
  have h := host_unary (m := m) (c := c) 257 main_v123 main_call21_v0 rfl (by decide) (by decide) (at_main_v123 m c)
  exact h

theorem at_main_v126 : V m c main_v126 = val_main_v126 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_ternary (m := m) (c := c) 258 main_call21_v0 main_v124 main_v125 main_v126 rfl (by decide) (by decide) (by decide) (by decide) (at_main_call21_v0 m c) (at_main_v124 m c) (at_main_v125 m c)
  exact h

theorem at_main_v127 : V m c main_v127 = val_main_v127 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := host_unary (m := m) (c := c) 259 main_v126 main_v127 rfl (by decide) (by decide) (at_main_v126 m c)
  exact h

theorem at_main_cst_30 : V m c main_cst_30 = val_main_cst_30 (F := F) := by
  have h := host_nullary (m := m) (c := c) 260 main_cst_30 rfl (by decide)
  exact h

theorem at_main_call22_v0 : V m c main_call22_v0 = val_main_call22_v0 (F := F) := by
  have h := host_unary (m := m) (c := c) 261 main_cst_30 main_call22_v0 rfl (by decide) (by decide) (at_main_cst_30 m c)
  exact h

theorem at_main_v128 : V m c main_v128 = val_main_v128 (F := F) (m ((c : Thread nD τ).loc main_arg0)) (m ((c : Thread nD τ).loc main_arg1)) (m ((c : Thread nD τ).loc main_arg3)) := by
  have h := host_binary (m := m) (c := c) 262 main_v31 main_call22_v0 main_v128 rfl (by decide) (by decide) (by decide) (at_main_v31 m c) (at_main_call22_v0 m c)
  exact h

theorem at_main_v129 : V m c main_v129 = val_main_v129 (F := F) (m ((c : Thread nD τ).loc main_arg0)) (m ((c : Thread nD τ).loc main_arg1)) (m ((c : Thread nD τ).loc main_arg3)) := by
  have h := host_reshape (m := m) (c := c) 263 main_v128 main_v129 rfl (by decide) (by decide) (at_main_v128 m c)
  exact h

theorem at_main_v130_0 : V m c main_v130_0 = m ((c : Thread nD τ).loc main_arg5) := by
  have h := host_unary (m := m) (c := c) 264 main_arg5 main_v130_0 rfl (by decide) (by decide) (V_main_arg5 m c)
  exact h

end Cert.KernelIdeal.Host

end
-- ==== Proof.InBlocks.lean ====
/- The blocks a grid point reads, over the real numbers. -/
module

public import proofs.«01_k».proof.Proof.Points
public import proofs.«01_k».proof.Proof.Run
public import proofs.«01_k».proof.Proof.HostAt
public import Idealize.ShloMosaic.Lib.Pipeline.ValueKit.Geometry

@[expose] public section

noncomputable section

namespace Cert.KernelIdeal.Hand

open Idealize.ShloMosaic Idealize.ShloMosaic.TcCoe Idealize.SL.Sem Idealize.ShloMosaic.Pipeline
open Cert.KernelIdeal Cert.KernelIdeal.Gen
open Cert.Fox hiding eighth
open Cert.KernelIdeal.Host (qOwn kOwn vOwn dOwn)

variable (m : (ℓ : Loc nD τ sig) → Buf (Elt Ideal) ℓ) (c : Dev nD) (A : Args)

/-- The arguments of a device are real arrays. -/
structure Holds : Prop where
  q : m ((c : Thread nD τ).loc main_arg0) = arr3 A.q
  k : m ((c : Thread nD τ).loc main_arg1) = arr3 A.k
  v : m ((c : Thread nD τ).loc main_arg2) = arr3 A.v
  gate : m ((c : Thread nD τ).loc main_arg3) = arr2 A.c
  d : m ((c : Thread nD τ).loc main_arg4) = arr3 A.d

theorem idx0 : ∀ t : Fin cfg0.N, win0_0.index t = ![t.val / 11, 0, 0] := (by decide +kernel : ∀ t : Fin grid0.N, _)
theorem idx1 : ∀ t : Fin cfg0.N, win0_1.index t = ![t.val / 11, t.val % 11, 0] := (by decide +kernel : ∀ t : Fin grid0.N, _)
theorem idx2 : ∀ t : Fin cfg0.N, win0_2.index t = ![t.val / 11, t.val % 11, 0] := (by decide +kernel : ∀ t : Fin grid0.N, _)
theorem idx3 : ∀ t : Fin cfg0.N, win0_3.index t = ![t.val / 11, 0, 0] := (by decide +kernel : ∀ t : Fin grid0.N, _)
theorem idx4 : ∀ t : Fin cfg0.N, win0_4.index t = ![t.val / 11, 0, 0, 0] := (by decide +kernel : ∀ t : Fin grid0.N, _)
theorem idx5 : ∀ t : Fin cfg0.N, win0_5.index t = ![t.val % 11, 1 + t.val / 11] := (by decide +kernel : ∀ t : Fin grid0.N, _)
theorem idx6 : ∀ t : Fin cfg0.N, win0_6.index t = ![t.val / 11, 0, 0, 0] := (by decide +kernel : ∀ t : Fin grid0.N, _)
theorem idx7 : ∀ t : Fin cfg0.N, win0_7.index t = ![t.val / 11, t.val % 11, 0, 0] := (by decide +kernel : ∀ t : Fin grid0.N, _)

/-- The head group of a point. -/
def grp (t : Fin cfg0.N) : Fin 2 := ⟨t.val / 11, by have h : t.val < 22 := t.isLt; omega⟩

theorem inp_Q (t : Fin cfg0.N) (g : Fin 4) (a : Fin 4224) (l : Fin 128) : (inpAt m c t).Q (ix3 g a l) = V m c main_v87 (ix3 (hd (grp t) g) a l) := by
  show iblk m c 0 t (ix3 g a l) = _
  blk_simp [iblk]
  refine congrArg (V m c main_v87) ?_
  blk_ext [idx0, hd, grp]
  all_goals omega

theorem inp_K (t : Fin cfg0.N) (g : Fin 4) (s : Fin 384) (l : Fin 128) : (inpAt m c t).K (ix3 g s l) = V m c main_v101 (ix3 (hd (grp t) g) (row (t.val % 11) s) l) := by
  have hr := row_val (t.val % 11) (Nat.mod_lt _ (by norm_num)) s
  show iblk m c 1 t (ix3 g s l) = _
  blk_simp [iblk]
  refine congrArg (V m c main_v101) ?_
  blk_ext [idx1, hd, grp]
  all_goals omega

set_option maxHeartbeats 2000000 in
theorem inp_V (t : Fin cfg0.N) (g : Fin 4) (s : Fin 384) (l : Fin 128) : (inpAt m c t).V (ix3 g s l) = V m c main_v114 (ix3 (hd (grp t) g) (row (t.val % 11) s) l) := by
  have hr := row_val (t.val % 11) (Nat.mod_lt _ (by norm_num)) s
  show iblk m c 2 t (ix3 g s l) = _
  blk_simp [iblk]
  refine congrArg (V m c main_v114) ?_
  blk_ext [idx2, hd, grp]
  all_goals omega

theorem inp_D (t : Fin cfg0.N) (g : Fin 4) (a : Fin 4224) (l : Fin 128) : (inpAt m c t).D (ix3 g a l) = V m c main_v127 (ix3 (hd (grp t) g) a l) := by
  show iblk m c 3 t (ix3 g a l) = _
  blk_simp [iblk]
  refine congrArg (V m c main_v127) ?_
  blk_ext [idx3, hd, grp]
  all_goals omega

theorem inp_L (t : Fin cfg0.N) (g : Fin 4) (n : Fin 11) (r : Fin 384) : (inpAt m c t).L (ix4 g n 0 r) = V m c main_v129 (ix4 (hd (grp t) g) n 0 r) := by
  show iblk m c 4 t (ix4 g n 0 r) = _
  blk_simp [iblk]
  refine congrArg (V m c main_v129) ?_
  blk_ext [idx4, hd, grp]
  all_goals omega

variable {m c A}

/-- The blocks a point reads hold what the loop expects. -/
theorem fits (H : Holds m c A) (t : Fin cfg0.N) : Fits A (grp t) (t.val % 11) (inpAt m c t) where
  Q g a l := by
    rw [inp_Q, Host.at_main_v87, H.q, H.gate, Host.v87_val]
    unfold qR
    rw [pack_coe]
    simp only [Host.v74_val, Host.v78_val, six_coe, padR_coe, EReal.coe_neg, EReal.coe_one, EReal.coe_zero]
  K g s l := by
    rw [inp_K, Host.at_main_v101, H.k, H.gate, Host.v101_val]
    simp only [Host.v89_val, Host.v92_val]
    rfl
  V g s l := by
    rw [inp_V, Host.at_main_v114, H.v, Host.v114_val]
    unfold vR
    rw [pack_coe]
    simp only [Host.v103_val, Host.v105_val, six_coe, EReal.coe_one, EReal.coe_zero]
  D g a l := by
    rw [inp_D, Host.at_main_v127, H.q, H.k, H.v, H.gate, H.d, Host.v127_val]
    unfold dR
    rw [pack_coe]
    simp only [Host.v116_val, Host.v118_val, six_coe, padR_coe, EReal.coe_neg, EReal.coe_zero]
  L g n r := by
    rw [inp_L, Host.at_main_v129, H.q, H.k, H.gate, Host.v129_val]
    rw [show (⟨384 * n.val + r.val, by omega⟩ : Fin 4224) = row n.val r from Fin.ext (row_val n.val n.isLt r).symm]

end Cert.KernelIdeal.Hand

end
-- ==== Proof.Cols.lean ====
/- The columns of the packed gradient: a head group's queries, keys and values, 256 columns each. -/
module

public import proofs.«01_k».proof.Proof.Spec

@[expose] public section

noncomputable section

namespace Cert.Fox

open Idealize.ShloMosaic

variable (A : Args)

/-- The gradients of the queries, of the keys and of the values. -/
def pick (s : ℕ) : Fin 8 → Fin 4112 → Fin 64 → ℝ := if s = 0 then gq A else if s = 1 then gk A else gv A
/-- The packed gradient past its first 768 columns. -/
def colv (p : Fin 4224) (u : Fin 1536) : ℝ :=
  padR 0 (fun a => pick A (u.val / 256 % 3) ⟨4 * (u.val / 768) + u.val % 256 / 64, by omega⟩ a ⟨u.val % 64, by omega⟩) p
/-- The packed gradient, its first columns as given. -/
def packed (Z : (⟨2, ![4224, 2304]⟩ : Shape).Idx → EReal) : (⟨2, ![4224, 2304]⟩ : Shape).Idx → EReal := fun i =>
  if h : (i 1).val < 768 then Z i
  else ((colv A (i 0) ⟨(i 1).val - 768, by have h1 : (i 1).val < 2304 := (i 1).isLt; omega⟩ : ℝ) : EReal)
/-- A per-row gradient, by tiles of the padded rows. -/
def tiled (f : Fin 8 → Fin 4112 → ℝ) : (⟨4, ![8, 11, 1, 384]⟩ : Shape).Idx → EReal := fun i =>
  ((padR 0 (f (i 0)) ⟨384 * (i 1).val + (i 3).val, by
    have h1 : (i 1).val < 11 := (i 1).isLt
    have h3 : (i 3).val < 384 := (i 3).isLt
    omega⟩ : ℝ) : EReal)

theorem colv_of (s G : ℕ) (hs : s < 3) (hG : G < 2) (g : ℕ) (hg : g < 4) (x : Fin 64) (p : Fin 4224) (u : Fin 1536)
    (hu : u.val = 768 * G + 256 * s + 64 * g + x.val) :
    colv A p u = padR 0 (fun a => pick A s ⟨4 * G + g, by omega⟩ a x) p := by
  have hx := x.isLt
  have e1 : u.val / 256 % 3 = s := by omega
  have e2 : (⟨4 * (u.val / 768) + u.val % 256 / 64, by omega⟩ : Fin 8) = ⟨4 * G + g, by omega⟩ := Fin.ext (by simp only; omega)
  have e3 : (⟨u.val % 64, by omega⟩ : Fin 64) = x := Fin.ext (by simp only; omega)
  unfold colv
  rw [e1, e2, e3]

end Cert.Fox

end
-- ==== Proof.Result.lean ====
/- What the launch leaves in the three results, over the real numbers. -/
module

public import proofs.«01_k».proof.Proof.InBlocks
public import proofs.«01_k».proof.Proof.Cols
public import Idealize.ShloMosaic.Lib.Pipeline.ValueKit.Partial

@[expose] public section

noncomputable section

namespace Cert.KernelIdeal.Hand

open Idealize.ShloMosaic Idealize.ShloMosaic.TcCoe Idealize.SL.Sem Idealize.ShloMosaic.Pipeline
open Cert.KernelIdeal Cert.KernelIdeal.Gen
open Cert.Fox hiding eighth

variable {m : (ℓ : Loc nD τ sig) → Buf (Elt Ideal) ℓ} {c : Dev nD} {A : Args}

theorem fits_of (H : Holds m c A) (G : Fin 2) (j : ℕ) (hj : j < 11) : Fits A G j (inpOf m c (11 * G.val + j)) := by
  have hn : 11 * G.val + j < 22 := by omega
  have hN : 11 * G.val + j < cfg0.N := hn
  unfold inpOf
  rw [dif_pos hN]
  have h := fits H ⟨11 * G.val + j, hN⟩
  have e1 : grp ⟨11 * G.val + j, hN⟩ = G := Fin.ext (show (11 * G.val + j) / 11 = G.val by omega)
  have e2 : (11 * G.val + j) % 11 = j := by omega
  simpa only [e1, e2] using h

/-- After key tile `j` of a head group, the query accumulators hold the sums over the tiles up to it. -/
theorem run_qc (H : Holds m c A) (G : Fin 2) (j : ℕ) (hj : j < 11) :
    (∀ (g : Fin 4) (p : Fin 11) (x : Fin 64) (r : Fin 384), (runAcc m c (11 * G.val + j + 1)).q (ix4 g p (own g x) r)
        = ((∑ i ∈ Finset.range (j + 1), QT A (hd G g) p.val r x i : ℝ) : EReal))
      ∧ (∀ (g : Fin 4) (p : Fin 11) (r : Fin 384), (runAcc m c (11 * G.val + j + 1)).c (ix4 g p 0 r)
        = ((∑ i ∈ Finset.range (j + 1), CT A (hd G g) p.val r i : ℝ) : EReal)) := by
  have e2 : (11 * G.val + j) % 11 = j := by omega
  induction j with
  | zero =>
    have hF := fits_of H G 0 hj
    have eq0 : ∀ Cc Cq, (startAcc (F := Ideal) 0 Cc Cq).q = (k0_pay120 (F := Ideal)) := fun _ _ => rfl
    have ec0 : ∀ Cc Cq, (startAcc (F := Ideal) 0 Cc Cq).c = (k0_pay121 (F := Ideal)) := fun _ _ => rfl
    refine ⟨fun g p x r => ?_, fun g p r => ?_⟩
    · show (lastAcc (inpOf m c (11 * G.val + 0)) ((11 * G.val + 0) % 11) _ _).q _ = _
      rw [e2, last_q hF hj, eq0, pay_q_zero, zero_add, Finset.sum_range_one]
    · show (lastAcc (inpOf m c (11 * G.val + 0)) ((11 * G.val + 0) % 11) _ _).c _ = _
      rw [e2, last_c hF hj, ec0, pay_c_zero, zero_add, Finset.sum_range_one]
  | succ j ih =>
    have hF := fits_of H G (j + 1) hj
    have hi := ih (by omega) (by omega)
    refine ⟨fun g p x r => ?_, fun g p r => ?_⟩
    · show (lastAcc (inpOf m c (11 * G.val + (j + 1))) ((11 * G.val + (j + 1)) % 11) _ _).q _ = _
      rw [e2, last_q hF hj, show (startAcc (j + 1) (runAcc m c (11 * G.val + (j + 1))).c (runAcc m c (11 * G.val + (j + 1))).q).q = (runAcc m c (11 * G.val + j + 1)).q from rfl,
        hi.1, ← EReal.coe_add, ← Finset.sum_range_succ]
    · show (lastAcc (inpOf m c (11 * G.val + (j + 1))) ((11 * G.val + (j + 1)) % 11) _ _).c _ = _
      rw [e2, last_c hF hj, show (startAcc (j + 1) (runAcc m c (11 * G.val + (j + 1))).c (runAcc m c (11 * G.val + (j + 1))).q).c = (runAcc m c (11 * G.val + j + 1)).c from rfl,
        hi.2, ← EReal.coe_add, ← Finset.sum_range_succ]

/-- A query tile's gradient is complete once its own key tile has run. -/
theorem run_q (H : Holds m c A) (G : Fin 2) (j : ℕ) (hj : j < 11) (g : Fin 4) (x : Fin 64) (r : Fin 384) :
    (runAcc m c (11 * G.val + j + 1)).q (ix4 g ⟨j, hj⟩ (own g x) r) * ((1 / 8 : ℝ) : EReal) = ((padR 0 (fun a => gq A (hd G g) a x) (row j r) : ℝ) : EReal) := by
  rw [(run_qc H G j hj).1 g ⟨j, hj⟩ x r, sum_upto _ j hj (fun i hi hlt => QT_later A (hd G g) j hj r x i hi hlt), ← EReal.coe_mul, total_q]

theorem run_c (H : Holds m c A) (G : Fin 2) (g : Fin 4) (n : Fin 11) (r : Fin 384) :
    (runAcc m c (11 * G.val + 10 + 1)).c (ix4 g n 0 r) = ((padR 0 (fun a => gcq A (hd G g) a) (row n.val r) : ℝ) : EReal) := by
  rw [(run_qc H G 10 (by norm_num)).2 g n r, total_c]

theorem run_k (H : Holds m c A) (G : Fin 2) (j : ℕ) (hj : j < 11) (g : Fin 4) (s : Fin 384) (l : Fin 128) :
    (runAcc m c (11 * G.val + j + 1)).k (ix3 g s l) = ((∑ n ∈ Finset.range 11, KT A (hd G g) j s l n : ℝ) : EReal) := by
  have e2 : (11 * G.val + j) % 11 = j := by omega
  show (lastAcc (inpOf m c (11 * G.val + j)) ((11 * G.val + j) % 11) _ _).k _ = _
  rw [e2, last_k (fits_of H G j hj) hj]

theorem run_v (H : Holds m c A) (G : Fin 2) (j : ℕ) (hj : j < 11) (g : Fin 4) (s : Fin 384) (l : Fin 128) :
    (runAcc m c (11 * G.val + j + 1)).v (ix3 g s l) = ((∑ n ∈ Finset.range 11, VT A (hd G g) j s l n : ℝ) : EReal) := by
  have e2 : (11 * G.val + j) % 11 = j := by omega
  show (lastAcc (inpOf m c (11 * G.val + j)) ((11 * G.val + j) % 11) _ _).v _ = _
  rw [e2, last_v (fits_of H G j hj) hj]

/-- The block of gradients a point writes. -/
theorem out8_val (H : Holds m c A) (G : Fin 2) (j : ℕ) (hj : j < 11) (r : Fin 384) (s : Fin 3) (g : Fin 4) (x : Fin 64) :
    band j (runAcc m c (11 * G.val + j + 1)) s (ix2 r ⟨64 * g.val + x.val, by omega⟩)
      = ((padR 0 (fun a => pick A s.val (hd G g) a x) (row j r) : ℝ) : EReal) := by
  match s with
  | 0 =>
    refine (selDq_apply j _ r g x).trans ((congrArg (fun z : EReal => z * ((1 / 8 : ℝ) : EReal)) ?_).trans (run_q H G j hj g x r))
    unfold blkD
    exact congrArg (fun n => (runAcc m c (11 * G.val + j + 1)).q (ix4 g n (own g x) r)) (Fin.ext (Nat.mod_eq_of_lt hj))
  | 1 => exact (selDk_apply _ r g x).trans ((run_k H G j hj g r (own g x)).trans (congrArg (fun z : ℝ => (z : EReal)) (total_k A G g j r x)))
  | 2 => exact (selDv_apply _ r g x).trans ((run_v H G j hj g r (own g x)).trans (congrArg (fun z : ℝ => (z : EReal)) (total_v A G g j r x)))

theorem gate_val (H : Holds m c A) (G : Fin 2) (j : ℕ) (hj : j < 11) (g : Fin 4) (r : Fin 384) :
    gateRow (runAcc m c (11 * G.val + j + 1)) g (ix4 0 0 0 r) = ((padR 0 (fun b => gck A (hd G g) b) (row j r) : ℝ) : EReal) := by
  rw [gateRow_apply]
  refine (congrArg (fun z : EReal => -z) (run_k H G j hj g r ⟨64 * (1 - g.val % 2), by omega⟩)).trans ?_
  rw [total_gate, ← EReal.coe_neg, neg_neg]

theorem point (t : Fin cfg0.N) : t.val + 1 = 11 * (grp t).val + t.val % 11 + 1 := by
  show t.val + 1 = 11 * (t.val / 11) + t.val % 11 + 1
  omega

theorem out8_at (H : Holds m c A) (t : Fin cfg0.N) (y : S384x768.Idx) (i : S4224x2304.Idx)
    (h0 : (i 0).val = t.val % 11 * 384 + (y 0).val) (h1 : (i 1).val = (1 + t.val / 11) * 768 + (y 1).val) (Z : S4224x2304.Idx → EReal) :
    out8 (t.val % 11) (runAcc m c (t.val + 1)) y = packed A Z i := by
  obtain ⟨r, z, rfl⟩ : ∃ (r : Fin 384) (z : Fin 768), y = ix2 r z := ⟨_, _, ValueIdx.eq_ix2 y⟩
  obtain ⟨p, w, rfl⟩ : ∃ (p : Fin 4224) (w : Fin 2304), i = ix2 p w := ⟨_, _, ValueIdx.eq_ix2 i⟩
  replace h0 : p.val = t.val % 11 * 384 + r.val := h0
  replace h1 : w.val = (1 + t.val / 11) * 768 + z.val := h1
  have hr := r.isLt
  have hz := z.isLt
  have ht : t.val < 22 := t.isLt
  have hj : t.val % 11 < 11 := Nat.mod_lt _ (by norm_num)
  have hn : ¬ w.val < 768 := by omega
  have e1 : packed A Z (ix2 p w) = ((colv A p ⟨w.val - 768, by omega⟩ : ℝ) : EReal) := dif_neg hn
  have e4 := colv_of A (z.val / 256) (t.val / 11) (by omega) (by omega) (z.val % 256 / 64) (by omega) ⟨z.val % 64, by omega⟩ p ⟨w.val - 768, by omega⟩ (by simp only; omega)
  have e2 : p = row (t.val % 11) r := Fin.ext (by rw [row_val _ hj]; omega)
  have e3 : (⟨z.val % 256, Nat.mod_lt _ (by decide)⟩ : Fin 256) = ⟨64 * (z.val % 256 / 64) + z.val % 64, by omega⟩ := Fin.ext (by simp only; omega)
  have h := out8_val H (grp t) (t.val % 11) hj r ⟨z.val / 256, by omega⟩ ⟨z.val % 256 / 64, by omega⟩ ⟨z.val % 64, by omega⟩
  rw [e1, e4, e2, point t]
  refine Eq.trans ?_ h
  exact congrArg (fun x : Fin 256 => band (t.val % 11) (runAcc m c (11 * (grp t).val + t.val % 11 + 1)) ⟨z.val / 256, by omega⟩ (ix2 r x)) e3

theorem out10_at (H : Holds m c A) (t : Fin cfg0.N) (y : S4x1x1x384.Idx) (i : S8x11x1x384.Idx)
    (h0 : (i 0).val = t.val / 11 * 4 + (y 0).val) (h1 : (i 1).val = t.val % 11 * 1 + (y 1).val) (h3 : (i 3).val = (y 3).val) :
    out10 (runAcc m c (t.val + 1)) y = tiled (gck A) i := by
  obtain ⟨g, z1, z2, r, rfl⟩ : ∃ (g : Fin 4) (z1 z2 : Fin 1) (r : Fin 384), y = ix4 g z1 z2 r := ⟨_, _, _, _, ValueIdx.eq_ix4 y⟩
  obtain ⟨h, n, z, s, rfl⟩ : ∃ (h : Fin 8) (n : Fin 11) (z : Fin 1) (s : Fin 384), i = ix4 h n z s := ⟨_, _, _, _, ValueIdx.eq_ix4 i⟩
  replace h0 : h.val = t.val / 11 * 4 + g.val := h0
  replace h1 : n.val = t.val % 11 * 1 + z1.val := h1
  replace h3 : s.val = r.val := h3
  have hz1 := z1.isLt
  have hj : t.val % 11 < 11 := Nat.mod_lt _ (by norm_num)
  have e0 : h = hd (grp t) g := Fin.ext (show h.val = 4 * (t.val / 11) + g.val by omega)
  have e1 : row (t.val % 11) r = ⟨384 * n.val + s.val, by omega⟩ := Fin.ext (by rw [row_val _ hj]; simp only; omega)
  rw [point t, e0]
  exact (gate_val H (grp t) (t.val % 11) hj g r).trans (congrArg (fun a => ((padR 0 (gck A (hd (grp t) g)) a : ℝ) : EReal)) e1)

theorem out9_at (H : Holds m c A) (t : Fin cfg0.N) (hf : t.val % 11 = 10) (y : S4x11x1x384.Idx) (i : S8x11x1x384.Idx)
    (h0 : (i 0).val = t.val / 11 * 4 + (y 0).val) (h1 : (i 1).val = (y 1).val) (h3 : (i 3).val = (y 3).val) :
    (runAcc m c (t.val + 1)).c y = tiled (gcq A) i := by
  obtain ⟨g, q, z2, r, rfl⟩ : ∃ (g : Fin 4) (q : Fin 11) (z2 : Fin 1) (r : Fin 384), y = ix4 g q z2 r := ⟨_, _, _, _, ValueIdx.eq_ix4 y⟩
  obtain ⟨h, n, z, s, rfl⟩ : ∃ (h : Fin 8) (n : Fin 11) (z : Fin 1) (s : Fin 384), i = ix4 h n z s := ⟨_, _, _, _, ValueIdx.eq_ix4 i⟩
  replace h0 : h.val = t.val / 11 * 4 + g.val := h0
  replace h1 : n.val = q.val := h1
  replace h3 : s.val = r.val := h3
  have e0 : h = hd (grp t) g := Fin.ext (show h.val = 4 * (t.val / 11) + g.val by omega)
  have e1 : row q.val r = ⟨384 * n.val + s.val, by omega⟩ := Fin.ext (by rw [row_val _ q.isLt]; simp only; omega)
  have e2 : z2 = 0 := Subsingleton.elim _ _
  rw [point t, hf, e0, e2]
  exact (run_c H (grp t) g q r).trans (congrArg (fun a => ((padR 0 (gcq A (hd (grp t) g)) a : ℝ) : EReal)) e1)

theorem final_5 (H : Holds m c A) :
    (dats m 0 c).arrAt (5 : Fin 8) cfg0.N = packed A (m ((c : Thread nD τ).loc main_arg5)) := by
  have h : (dats m 0 c).arrAt (5 : Fin 8) cfg0.N
      = fun i : S4224x2304.Idx => if 768 ≤ (i 1).val then packed A (m ((c : Thread nD τ).loc main_arg5)) i else V m c main_v130_0 i := by
    refine (dats m 0 c).arrAt_eq_of_coversWhere (5 : Fin 8) _ (fun β => 1 ≤ β (1 : Fin 2)) (by decide +kernel) (fun t hf y => ?_) (fun j => ?_)
    · blk_simp
      exact out8_at H t y _ (by blk_simp [idx5]) (by blk_simp [idx5]) _
    · blk_simp [Pipeline.Window.cell_apply]
      omega
  rw [h, Host.at_main_v130_0]
  funext i
  by_cases hi : 768 ≤ (i 1).val
  · exact if_pos hi
  · refine (if_neg hi).trans ?_
    have hs : packed A (m ((c : Thread nD τ).loc main_arg5)) i = m ((c : Thread nD τ).loc main_arg5) i := dif_pos (not_le.1 hi)
    exact hs.symm

theorem final_6 (H : Holds m c A) : (dats m 0 c).arrAt (6 : Fin 8) cfg0.N = tiled (gcq A) := by
  refine (dats m 0 c).arrAt_eq_of_covers (6 : Fin 8) _ (by decide +kernel) (fun t hf y => ?_)
  blk_simp
  exact out9_at H t ((flush0_6 t).1 hf) y _ (by blk_simp [idx6]) (by blk_simp [idx6]) (by blk_simp [idx6])

theorem final_7 (H : Holds m c A) : (dats m 0 c).arrAt (7 : Fin 8) cfg0.N = tiled (gck A) := by
  refine (dats m 0 c).arrAt_eq_of_covers (7 : Fin 8) _ (by decide +kernel) (fun t hf y => ?_)
  blk_simp
  exact out10_at H t y _ (by blk_simp [idx7]) (by blk_simp [idx7]) (by blk_simp [idx7])

end Cert.KernelIdeal.Hand

end
-- ==== Proof.RefVal.lean ====
/- What the reference computes over the real numbers. -/
module

public import proofs.«01_k».proof.Proof.Gen.ReferenceIdeal.Read
public import proofs.«01_k».proof.Proof.Spec
public import Idealize.ShloMosaic.Lib.KernelVsHost

@[expose] public section

noncomputable section

namespace Cert.ReferenceIdeal.Read

open Idealize.ShloMosaic Idealize.SL.Sem
open Cert.ReferenceIdeal Cert.ReferenceIdeal.Gen Cert.Fox

variable (A : Args)

theorem v8_val (h : Fin 8) (a b : Fin 4112) : val_main_v8 (F := Ideal) (arr3 A.q) (arr3 A.k) (arr2 A.c) (ix3 h a b) = (sc A h a b : ℝ) := by
  pointwise [val_main_v8, val_main_v5, val_main_v2, val_main_v0, val_main_v1, val_main_v3, val_main_v4, val_main_v6, val_main_v7, val_main_cst, dot_S4112x8x64_S4112x8x64_S8x4112x4112_2_2_0_0_1_1]
  simp only [arr3_apply, arr2_apply, eighth, ← EReal.coe_mul, coe_sum, ← EReal.coe_add, ← EReal.coe_sub]
  rfl

theorem v15_val (h : Fin 8) (a b : Fin 4112) :
    val_main_v15_0 (F := Ideal) (arr3 A.q) (arr3 A.k) (arr2 A.c) (ix3 h a b) = if b ≤ a then ((sc A h a b : ℝ) : EReal) else ⊥ := by
  pointwise [val_main_v15_0, val_main_v15_1, val_main_call0_v2, val_main_v9, val_main_v10, val_main_v11, val_main_v12, val_main_v13, val_main_v14, val_main_cst_0]
  rw [sel_le _ _ (by omega) (by omega), v8_val]
  exact if_congr Fin.le_def.symm rfl neg_inf

theorem v16_val (h : Fin 8) (a : Fin 4112) :
    ∃ M : ℝ, val_main_v16 (F := Ideal) (arr3 A.q) (arr3 A.k) (arr2 A.c) (ix2 h a) = (M : EReal) := by
  have hf : ∀ b : Fin 4112, val_main_v15_0 (F := Ideal) (arr3 A.q) (arr3 A.k) (arr2 A.c) (ix3 h a b) = if b ≤ a then ((sc A h a b : ℝ) : EReal) else ⊥ := v15_val A h a
  unfold val_main_v16 val_main_cst_1
  generalize val_main_v15_0 (F := Ideal) (arr3 A.q) (arr3 A.k) (arr2 A.c) = y at hf
  have hR : S8x4112x4112.Reduces [2] S8x4112 := by decide
  have e0 := congrFun (hostReduce_maximumf_eq_multiReduction (F := Ideal) (φ := .f32) (s := S8x4112x4112) (t := S8x4112) (u := S_) (axes := [2])
    y 0xFF800000#32 reducesTo_S8x4112x4112_S8x4112_d2 h_S_ hR (.inl rfl) rfl) (ix2 h a)
  have e1 := Ideal.multiReduction_maximumf_single (φ := .f32) (s := S8x4112x4112) (t := S8x4112) (a := 2) y 0xFF800000#32 hR (.inl rfl) rfl (ix2 h a)
  refine Exists.imp (fun M hM => (e0.trans e1).trans hM) ?_
  have e : (y ∘ hR.lift (ix2 h a)) = fun b : Fin 4112 => if b ≤ a then ((sc A h a b : ℝ) : EReal) else ⊥ := by
    funext b
    rw [← hf b]
    exact congrArg y (funext fun i => Fin.ext (by match i with | ⟨0, _⟩ => rfl | ⟨1, _⟩ => rfl | ⟨2, _⟩ => rfl))
  rw [e, show FloatOps.ofBits (F := Ideal) FTy.f32 0xFF800000#32 = ⊥ from neg_inf]
  refine fold_max_real _ (fun b => ?_) a ?_
  · split
    · exact EReal.coe_lt_top _
    · exact bot_lt_top
  · rw [if_pos (le_refl a)]; exact EReal.bot_lt_coe _

theorem v23_val (h : Fin 8) (a : Fin 4112) :
    ∃ M : ℝ, val_main_v23 (F := Ideal) (arr3 A.q) (arr3 A.k) (arr2 A.c) (ix2 h a) = (M : EReal) := by
  obtain ⟨M, hM⟩ := v16_val A h a
  refine ⟨M, ?_⟩
  have e : val_main_v22 (F := Ideal) (ix2 h a) = ⊥ := by
    pointwise [val_main_v22, val_main_cst_3]
    exact neg_inf
  refine (val_main_v23_apply _ _ _ _).trans ?_
  rw [e, hM]
  exact max_eq_right bot_le

theorem v36_val (M : ℝ) (h : Fin 8) (a b : Fin 4112) (hM : val_main_v23 (F := Ideal) (arr3 A.q) (arr3 A.k) (arr2 A.c) (ix2 h a) = (M : EReal)) :
    val_main_v36 (F := Ideal) (arr3 A.q) (arr3 A.k) (arr2 A.c) (ix3 h a b) = (wtm A M h a b : ℝ) := by
  pointwise [val_main_v36, val_main_v35, val_main_v34, val_main_v33]
  rw [hM, v15_val]
  unfold wtm
  split
  · rw [← EReal.coe_sub, Ideal.exp_coe]
  · simp

theorem v38_val (M : ℝ) (h : Fin 8) (a : Fin 4112) (hM : val_main_v23 (F := Ideal) (arr3 A.q) (arr3 A.k) (arr2 A.c) (ix2 h a) = (M : EReal)) :
    val_main_v38 (F := Ideal) (arr3 A.q) (arr3 A.k) (arr2 A.c) (ix3 h a 0) = ((∑ b, wtm A M h a b : ℝ) : EReal) := by
  pointwise [val_main_v38, val_main_v37, val_main_cst_9]
  simp only [v36_val A M h a _ hM, coe_sum]

theorem v40_val (h : Fin 8) (a b : Fin 4112) :
    val_main_v40 (F := Ideal) (arr3 A.q) (arr3 A.k) (arr2 A.c) (ix3 h a b) = (pr A h a b : ℝ) := by
  obtain ⟨M, hM⟩ := v23_val A h a
  pointwise [val_main_v40, val_main_v39]
  rw [v36_val A M h a _ hM, v38_val A M h a hM, div_coe _ _ (sum_wtm_pos A M h a).ne', wtm_div]

theorem v43_val (M : ℝ) (h : Fin 8) (a : Fin 4112) (hM : val_main_v23 (F := Ideal) (arr3 A.q) (arr3 A.k) (arr2 A.c) (ix2 h a) = (M : EReal)) :
    val_main_v43 (F := Ideal) (arr3 A.q) (arr3 A.k) (arr2 A.c) (ix3 h a 0)
      = ((1 / ((∑ b, wtm A M h a b) * ∑ b, wtm A M h a b) : ℝ) : EReal) := by
  have hp := (sum_wtm_pos A M h a).ne'
  pointwise [val_main_v43, val_main_v42, val_main_v41, val_main_cst_10]
  rw [v38_val A M h a hM, ← EReal.coe_mul]
  exact div_coe 1 _ (mul_ne_zero hp hp)

theorem v47_val (h : Fin 8) (a b : Fin 4112) : val_main_v47 (F := Ideal) (arr3 A.v) (arr3 A.d) (ix3 h a b) = (dpr A h a b : ℝ) := by
  pointwise [val_main_v47, val_main_v46, dot_S8x64x4112_S4112x8x64_S8x4112x4112_1_2_2_0_0_1]
  simp only [arr3_apply, ← EReal.coe_mul, coe_sum]
  rfl

theorem v49_val (b : Fin 4112) (h : Fin 8) (x : Fin 64) :
    val_main_v49 (F := Ideal) (arr3 A.q) (arr3 A.k) (arr2 A.c) (arr3 A.d) (ix3 b h x) = (gv A h b x : ℝ) := by
  pointwise [val_main_v49, val_main_v48, val_main_v46, dot_S8x64x4112_S8x4112x4112_S8x64x4112_2_1_1_2_0_0]
  simp only [v40_val, arr3_apply, ← EReal.coe_mul, coe_sum]
  unfold gv
  exact congrArg (fun z : ℝ => (z : EReal)) (Finset.sum_congr rfl fun a _ => mul_comm _ _)

theorem v53_val (M : ℝ) (h : Fin 8) (a : Fin 4112) (hM : val_main_v23 (F := Ideal) (arr3 A.q) (arr3 A.k) (arr2 A.c) (ix2 h a) = (M : EReal)) :
    val_main_v53 (F := Ideal) (arr3 A.q) (arr3 A.k) (arr3 A.v) (arr2 A.c) (arr3 A.d) (ix2 h a)
      = ((∑ b, dpr A h a b * (1 / ((∑ b, wtm A M h a b) * ∑ b, wtm A M h a b)) * wtm A M h a b : ℝ) : EReal) := by
  pointwise [val_main_v53, val_main_v52, val_main_v51, val_main_v50, val_main_cst_11]
  simp only [v36_val A M h a _ hM, v43_val A M h a hM, v47_val, ← EReal.coe_mul, coe_sum]

theorem v58_val (h : Fin 8) (a : Fin 4112) :
    val_main_v58 (F := Ideal) (arr3 A.q) (arr3 A.k) (arr3 A.v) (arr2 A.c) (arr3 A.d) (ix2 h a)
      = - val_main_v53 (F := Ideal) (arr3 A.q) (arr3 A.k) (arr3 A.v) (arr2 A.c) (arr3 A.d) (ix2 h a) := by
  pointwise [val_main_v58, val_main_v55, val_main_v54, val_main_cst_12]
  exact Fin.sum_univ_one _

/-- The reference's score gradient, before the mask. -/
theorem ds_of (M : ℝ) (h : Fin 8) (a b : Fin 4112) :
    (dpr A h a b / (∑ b, wtm A M h a b) + -(∑ b, dpr A h a b * (1 / ((∑ b, wtm A M h a b) * ∑ b, wtm A M h a b)) * wtm A M h a b)) * wtm A M h a b
      = ds A h a b := by
  have hp := (sum_wtm_pos A M h a).ne'
  unfold ds dl
  simp only [← wtm_div A M]
  generalize (∑ b, wtm A M h a b) = T at hp
  have e : ∀ x, dpr A h a x * (1 / (T * T)) * wtm A M h a x = (wtm A M h a x / T * dpr A h a x) * (1 / T) := fun x => by field_simp
  simp only [e]
  rw [← Finset.sum_mul]
  generalize (∑ x, wtm A M h a x / T * dpr A h a x) = S
  field_simp
  ring

theorem v62_val (h : Fin 8) (a b : Fin 4112) :
    val_main_v62 (F := Ideal) (arr3 A.q) (arr3 A.k) (arr3 A.v) (arr2 A.c) (arr3 A.d) (ix3 h a b) = (ds A h a b : ℝ) := by
  obtain ⟨M, hM⟩ := v23_val A h a
  pointwise [val_main_v62, val_main_v61, val_main_v60, val_main_v59, val_main_v57, val_main_v56, val_main_v15_1, val_main_v15_2, val_main_v9, val_main_v10, val_main_v11, val_main_v12, val_main_v13, val_main_v14]
  rw [sel_le _ _ (by omega) (by omega), v36_val A M h a _ hM, v38_val A M h a hM, v47_val, v58_val, v53_val A M h a hM]
  rw [div_coe _ _ (sum_wtm_pos A M h a).ne', ← EReal.coe_neg, ← EReal.coe_add, ← EReal.coe_mul, ds_of]
  by_cases hab : b ≤ a
  · rw [if_pos (Fin.le_def.1 hab)]
  · rw [if_neg (fun e => hab (Fin.le_def.2 e)), ds_zero A h a b hab]
    pointwise [val_main_call1_v0, val_main_call1_cst]
    exact EReal.coe_zero.symm

theorem v66_val (h : Fin 8) (b : Fin 4112) :
    val_main_v66 (F := Ideal) (arr3 A.q) (arr3 A.k) (arr3 A.v) (arr2 A.c) (arr3 A.d) (ix2 h b) = ((-gck A h b : ℝ) : EReal) := by
  pointwise [val_main_v66, val_main_v65, val_main_v64, val_main_v63, val_main_cst_13, val_main_cst_14]
  simp only [v62_val, ← EReal.coe_neg, coe_sum]
  unfold gck
  rw [← Finset.sum_neg_distrib]
  exact congrArg (fun z : ℝ => (z : EReal)) ((Fin.sum_univ_one (fun _ : Fin 1 => ∑ x, -ds A h x b)))

theorem v69_val (h : Fin 8) (a : Fin 4112) :
    val_main_v69 (F := Ideal) (arr3 A.q) (arr3 A.k) (arr3 A.v) (arr2 A.c) (arr3 A.d) (ix2 h a) = (gcq A h a : ℝ) := by
  pointwise [val_main_v69, val_main_v68, val_main_v67, val_main_cst_15, val_main_cst_16]
  simp only [v62_val, coe_sum]
  exact congrArg (fun z : ℝ => (z : EReal)) ((Fin.sum_univ_one (fun _ : Fin 1 => ∑ x, ds A h a x)))

theorem v73_val (b : Fin 4112) (h : Fin 8) (x : Fin 64) :
    val_main_v73 (F := Ideal) (arr3 A.q) (arr3 A.k) (arr3 A.v) (arr2 A.c) (arr3 A.d) (ix3 b h x) = (gk A h b x : ℝ) := by
  pointwise [val_main_v73, val_main_v72, val_main_v71, val_main_v70, val_main_cst_17, dot_S8x4112x4112_S4112x8x64_S8x4112x64_1_0_2_2_0_1]
  simp only [v62_val, arr3_apply, eighth, ← EReal.coe_mul, coe_sum]
  unfold gk
  rw [Finset.sum_mul]
  exact congrArg (fun z : ℝ => (z : EReal)) (Finset.sum_congr rfl fun a _ => by ring)

theorem v75_val (a : Fin 4112) (h : Fin 8) (x : Fin 64) :
    val_main_v75 (F := Ideal) (arr3 A.q) (arr3 A.k) (arr3 A.v) (arr2 A.c) (arr3 A.d) (ix3 a h x) = (gq A h a x : ℝ) := by
  pointwise [val_main_v75, val_main_v74, val_main_v71, val_main_v70, val_main_cst_17, dot_S8x4112x4112_S4112x8x64_S8x4112x64_2_0_1_2_0_1]
  simp only [v62_val, arr3_apply, eighth, ← EReal.coe_mul, coe_sum]
  unfold gq
  rw [Finset.sum_mul]
  exact congrArg (fun z : ℝ => (z : EReal)) (Finset.sum_congr rfl fun b _ => by ring)

end Cert.ReferenceIdeal.Read

end
-- ==== Proof.RefRes.lean ====
/- The reference's three results over the real numbers. -/
module

public import proofs.«01_k».proof.Proof.RefVal
public import proofs.«01_k».proof.Proof.Cols

@[expose] public section

noncomputable section

namespace Cert.ReferenceIdeal.Read

open Idealize.ShloMosaic Idealize.SL.Sem
open Cert.ReferenceIdeal Cert.ReferenceIdeal.Gen Cert.Fox

variable (A : Args)

theorem pad_row (f : Fin 4112 → EReal) (z : EReal) (a : Fin 4224) :
    (if h : 112 ≤ a.val ∧ a.val - 112 < 4112 then f ⟨a.val - 112, h.2⟩ else z) = padR z f a := by
  unfold padR
  by_cases h : 112 ≤ a.val
  · rw [dif_pos h, dif_pos ⟨h, by omega⟩]
  · rw [dif_neg h, dif_neg fun e => h e.1]

theorem coe_padR (f : Fin 4112 → ℝ) (a : Fin 4224) : ((padR 0 f a : ℝ) : EReal) = padR 0 (fun b => ((f b : ℝ) : EReal)) a := by
  unfold padR; split <;> rfl

theorem word_zero : (FloatOps.sitofp (F := Ideal) FTy.f32 (0#32 : BitVec 32)) = (0 : EReal) := by
  show (((0#32 : BitVec 32).toInt : ℝ) : EReal) = 0
  simp

theorem v102_val (h : Fin 8) (a : Fin 4224) :
    val_main_v102 (F := Ideal) (arr3 A.q) (arr3 A.k) (arr3 A.v) (arr2 A.c) (arr3 A.d) (ix2 h a) = ((padR 0 (gcq A h) a : ℝ) : EReal) := by
  pointwise [val_main_v102, val_main_call8_v0, val_main_c_23]
  simp only [v69_val, word_zero]
  rw [pad_row (fun a => ((gcq A h a : ℝ) : EReal)) 0 a, coe_padR]

theorem v105_val (h : Fin 8) (a : Fin 4224) :
    val_main_v105 (F := Ideal) (arr3 A.q) (arr3 A.k) (arr3 A.v) (arr2 A.c) (arr3 A.d) (ix2 h a) = ((padR 0 (gck A h) a : ℝ) : EReal) := by
  pointwise [val_main_v105, val_main_call9_v0, val_main_v104, val_main_c_24]
  simp only [v66_val, word_zero, EReal.coe_neg, neg_neg]
  rw [pad_row (fun a => ((gck A h a : ℝ) : EReal)) 0 a, coe_padR]

theorem v103_val : val_main_v103 (F := Ideal) (arr3 A.q) (arr3 A.k) (arr3 A.v) (arr2 A.c) (arr3 A.d) = tiled (gcq A) := by
  funext i
  have h0 : (i 0).val < 8 := (i 0).isLt
  have h1 : (i 1).val < 11 := (i 1).isLt
  have h2 : (i 2).val < 1 := (i 2).isLt
  have h3 : (i 3).val < 384 := (i 3).isLt
  have e : idx_main_v103 i = ix2 (i 0) ⟨384 * (i 1).val + (i 3).val, by omega⟩ := by
    funext a
    fin_cases a
    · exact Fin.ext (show ((((i 0).val * 11 + (i 1).val) * 1 + (i 2).val) * 384 + (i 3).val) / 4224 = (i 0).val by omega)
    · exact Fin.ext (show ((((i 0).val * 11 + (i 1).val) * 1 + (i 2).val) * 384 + (i 3).val) % 4224 = 384 * (i 1).val + (i 3).val by omega)
  rw [val_main_v103_apply, e]
  exact v102_val A _ _

theorem v106_val : val_main_v106 (F := Ideal) (arr3 A.q) (arr3 A.k) (arr3 A.v) (arr2 A.c) (arr3 A.d) = tiled (gck A) := by
  funext i
  have h0 : (i 0).val < 8 := (i 0).isLt
  have h1 : (i 1).val < 11 := (i 1).isLt
  have h2 : (i 2).val < 1 := (i 2).isLt
  have h3 : (i 3).val < 384 := (i 3).isLt
  have e : idx_main_v106 i = ix2 (i 0) ⟨384 * (i 1).val + (i 3).val, by omega⟩ := by
    funext a
    fin_cases a
    · exact Fin.ext (show ((((i 0).val * 11 + (i 1).val) * 1 + (i 2).val) * 384 + (i 3).val) / 4224 = (i 0).val by omega)
    · exact Fin.ext (show ((((i 0).val * 11 + (i 1).val) * 1 + (i 2).val) * 384 + (i 3).val) % 4224 = 384 * (i 1).val + (i 3).val by omega)
  rw [val_main_v106_apply, e]
  exact v105_val A _ _

/-- A band of columns of the packed gradient: four heads' 64 columns each. -/
theorem band_cols (s G : ℕ) (hs : s < 3) (hG : G < 2) (l : Fin 256) (p : Fin 4224) (u : Fin 1536) (hu : u.val = 768 * G + 256 * s + l.val) :
    colv A p u = padR 0 (fun a => pick A s ⟨4 * G + l.val / 64, by omega⟩ a ⟨l.val % 64, by omega⟩) p :=
  colv_of A s G hs hG (l.val / 64) (by omega) ⟨l.val % 64, by omega⟩ p u (by simp only; omega)

theorem v78_val (a : Fin 4112) (l : Fin 256) :
    val_main_v78 (F := Ideal) (arr3 A.q) (arr3 A.k) (arr3 A.v) (arr2 A.c) (arr3 A.d) (ix2 a l)
      = (pick A 0 ⟨4 * 0 + l.val / 64, by omega⟩ a ⟨l.val % 64, by omega⟩ : ℝ) := by
  have h0 := a.isLt; have h1 := l.isLt
  have e : idx_main_v78 (ix2 a l) = ix3 a ⟨l.val / 64, by omega⟩ ⟨l.val % 64, by omega⟩ := by
    funext z
    fin_cases z
    · exact Fin.ext (show (a.val * 256 + l.val) / 256 = a.val by omega)
    · exact Fin.ext (show (a.val * 256 + l.val) / 64 % 4 = l.val / 64 by omega)
    · exact Fin.ext (show (a.val * 256 + l.val) % 64 = l.val % 64 by omega)
  rw [val_main_v78_apply, e]
  pointwise [val_main_v77]
  rw [v75_val]
  refine congrArg (fun h : Fin 8 => ((gq A h a ⟨l.val % 64, by omega⟩ : ℝ) : EReal)) (Fin.ext ?_)
  simp only <;> omega

theorem v80_val (p : Fin 4224) (l : Fin 256) (u : Fin 1536) (hu : u.val = 768 * 0 + 256 * 0 + l.val) :
    val_main_v80 (F := Ideal) (arr3 A.q) (arr3 A.k) (arr3 A.v) (arr2 A.c) (arr3 A.d) (ix2 p l) = ((colv A p u : ℝ) : EReal) := by
  rw [band_cols A 0 0 (by norm_num) (by norm_num) l p u hu]
  pointwise [val_main_v80, val_main_v79, val_main_call2_v0, val_main_c]
  simp only [v78_val, word_zero]
  rw [pad_row (fun a => ((pick A 0 ⟨4 * 0 + l.val / 64, by omega⟩ a ⟨l.val % 64, by omega⟩ : ℝ) : EReal)) 0 p, coe_padR]
  simp only [Nat.mul_zero, Nat.zero_add]

theorem v82_val (a : Fin 4112) (l : Fin 256) :
    val_main_v82 (F := Ideal) (arr3 A.q) (arr3 A.k) (arr3 A.v) (arr2 A.c) (arr3 A.d) (ix2 a l)
      = (pick A 1 ⟨4 * 0 + l.val / 64, by omega⟩ a ⟨l.val % 64, by omega⟩ : ℝ) := by
  have h0 := a.isLt; have h1 := l.isLt
  have e : idx_main_v82 (ix2 a l) = ix3 a ⟨l.val / 64, by omega⟩ ⟨l.val % 64, by omega⟩ := by
    funext z
    fin_cases z
    · exact Fin.ext (show (a.val * 256 + l.val) / 256 = a.val by omega)
    · exact Fin.ext (show (a.val * 256 + l.val) / 64 % 4 = l.val / 64 by omega)
    · exact Fin.ext (show (a.val * 256 + l.val) % 64 = l.val % 64 by omega)
  rw [val_main_v82_apply, e]
  pointwise [val_main_v81]
  rw [v73_val]
  refine congrArg (fun h : Fin 8 => ((gk A h a ⟨l.val % 64, by omega⟩ : ℝ) : EReal)) (Fin.ext ?_)
  simp only <;> omega

theorem v84_val (p : Fin 4224) (l : Fin 256) (u : Fin 1536) (hu : u.val = 768 * 0 + 256 * 1 + l.val) :
    val_main_v84 (F := Ideal) (arr3 A.q) (arr3 A.k) (arr3 A.v) (arr2 A.c) (arr3 A.d) (ix2 p l) = ((colv A p u : ℝ) : EReal) := by
  rw [band_cols A 1 0 (by norm_num) (by norm_num) l p u hu]
  pointwise [val_main_v84, val_main_v83, val_main_call3_v0, val_main_c_18]
  simp only [v82_val, word_zero]
  rw [pad_row (fun a => ((pick A 1 ⟨4 * 0 + l.val / 64, by omega⟩ a ⟨l.val % 64, by omega⟩ : ℝ) : EReal)) 0 p, coe_padR]
  simp only [Nat.mul_zero, Nat.zero_add]

theorem v86_val (a : Fin 4112) (l : Fin 256) :
    val_main_v86 (F := Ideal) (arr3 A.q) (arr3 A.k) (arr2 A.c) (arr3 A.d) (ix2 a l)
      = (pick A 2 ⟨4 * 0 + l.val / 64, by omega⟩ a ⟨l.val % 64, by omega⟩ : ℝ) := by
  have h0 := a.isLt; have h1 := l.isLt
  have e : idx_main_v86 (ix2 a l) = ix3 a ⟨l.val / 64, by omega⟩ ⟨l.val % 64, by omega⟩ := by
    funext z
    fin_cases z
    · exact Fin.ext (show (a.val * 256 + l.val) / 256 = a.val by omega)
    · exact Fin.ext (show (a.val * 256 + l.val) / 64 % 4 = l.val / 64 by omega)
    · exact Fin.ext (show (a.val * 256 + l.val) % 64 = l.val % 64 by omega)
  rw [val_main_v86_apply, e]
  pointwise [val_main_v85]
  rw [v49_val]
  refine congrArg (fun h : Fin 8 => ((gv A h a ⟨l.val % 64, by omega⟩ : ℝ) : EReal)) (Fin.ext ?_)
  simp only <;> omega

theorem v88_val (p : Fin 4224) (l : Fin 256) (u : Fin 1536) (hu : u.val = 768 * 0 + 256 * 2 + l.val) :
    val_main_v88 (F := Ideal) (arr3 A.q) (arr3 A.k) (arr2 A.c) (arr3 A.d) (ix2 p l) = ((colv A p u : ℝ) : EReal) := by
  rw [band_cols A 2 0 (by norm_num) (by norm_num) l p u hu]
  pointwise [val_main_v88, val_main_v87, val_main_call4_v0, val_main_c_19]
  simp only [v86_val, word_zero]
  rw [pad_row (fun a => ((pick A 2 ⟨4 * 0 + l.val / 64, by omega⟩ a ⟨l.val % 64, by omega⟩ : ℝ) : EReal)) 0 p, coe_padR]
  simp only [Nat.mul_zero, Nat.zero_add]

theorem v90_val (a : Fin 4112) (l : Fin 256) :
    val_main_v90 (F := Ideal) (arr3 A.q) (arr3 A.k) (arr3 A.v) (arr2 A.c) (arr3 A.d) (ix2 a l)
      = (pick A 0 ⟨4 * 1 + l.val / 64, by omega⟩ a ⟨l.val % 64, by omega⟩ : ℝ) := by
  have h0 := a.isLt; have h1 := l.isLt
  have e : idx_main_v90 (ix2 a l) = ix3 a ⟨l.val / 64, by omega⟩ ⟨l.val % 64, by omega⟩ := by
    funext z
    fin_cases z
    · exact Fin.ext (show (a.val * 256 + l.val) / 256 = a.val by omega)
    · exact Fin.ext (show (a.val * 256 + l.val) / 64 % 4 = l.val / 64 by omega)
    · exact Fin.ext (show (a.val * 256 + l.val) % 64 = l.val % 64 by omega)
  rw [val_main_v90_apply, e]
  pointwise [val_main_v89]
  rw [v75_val]
  refine congrArg (fun h : Fin 8 => ((gq A h a ⟨l.val % 64, by omega⟩ : ℝ) : EReal)) (Fin.ext ?_)
  simp only <;> omega

theorem v92_val (p : Fin 4224) (l : Fin 256) (u : Fin 1536) (hu : u.val = 768 * 1 + 256 * 0 + l.val) :
    val_main_v92 (F := Ideal) (arr3 A.q) (arr3 A.k) (arr3 A.v) (arr2 A.c) (arr3 A.d) (ix2 p l) = ((colv A p u : ℝ) : EReal) := by
  rw [band_cols A 0 1 (by norm_num) (by norm_num) l p u hu]
  pointwise [val_main_v92, val_main_v91, val_main_call5_v0, val_main_c_20]
  simp only [v90_val, word_zero]
  rw [pad_row (fun a => ((pick A 0 ⟨4 * 1 + l.val / 64, by omega⟩ a ⟨l.val % 64, by omega⟩ : ℝ) : EReal)) 0 p, coe_padR]

theorem v94_val (a : Fin 4112) (l : Fin 256) :
    val_main_v94 (F := Ideal) (arr3 A.q) (arr3 A.k) (arr3 A.v) (arr2 A.c) (arr3 A.d) (ix2 a l)
      = (pick A 1 ⟨4 * 1 + l.val / 64, by omega⟩ a ⟨l.val % 64, by omega⟩ : ℝ) := by
  have h0 := a.isLt; have h1 := l.isLt
  have e : idx_main_v94 (ix2 a l) = ix3 a ⟨l.val / 64, by omega⟩ ⟨l.val % 64, by omega⟩ := by
    funext z
    fin_cases z
    · exact Fin.ext (show (a.val * 256 + l.val) / 256 = a.val by omega)
    · exact Fin.ext (show (a.val * 256 + l.val) / 64 % 4 = l.val / 64 by omega)
    · exact Fin.ext (show (a.val * 256 + l.val) % 64 = l.val % 64 by omega)
  rw [val_main_v94_apply, e]
  pointwise [val_main_v93]
  rw [v73_val]
  refine congrArg (fun h : Fin 8 => ((gk A h a ⟨l.val % 64, by omega⟩ : ℝ) : EReal)) (Fin.ext ?_)
  simp only <;> omega

theorem v96_val (p : Fin 4224) (l : Fin 256) (u : Fin 1536) (hu : u.val = 768 * 1 + 256 * 1 + l.val) :
    val_main_v96 (F := Ideal) (arr3 A.q) (arr3 A.k) (arr3 A.v) (arr2 A.c) (arr3 A.d) (ix2 p l) = ((colv A p u : ℝ) : EReal) := by
  rw [band_cols A 1 1 (by norm_num) (by norm_num) l p u hu]
  pointwise [val_main_v96, val_main_v95, val_main_call6_v0, val_main_c_21]
  simp only [v94_val, word_zero]
  rw [pad_row (fun a => ((pick A 1 ⟨4 * 1 + l.val / 64, by omega⟩ a ⟨l.val % 64, by omega⟩ : ℝ) : EReal)) 0 p, coe_padR]

theorem v98_val (a : Fin 4112) (l : Fin 256) :
    val_main_v98 (F := Ideal) (arr3 A.q) (arr3 A.k) (arr2 A.c) (arr3 A.d) (ix2 a l)
      = (pick A 2 ⟨4 * 1 + l.val / 64, by omega⟩ a ⟨l.val % 64, by omega⟩ : ℝ) := by
  have h0 := a.isLt; have h1 := l.isLt
  have e : idx_main_v98 (ix2 a l) = ix3 a ⟨l.val / 64, by omega⟩ ⟨l.val % 64, by omega⟩ := by
    funext z
    fin_cases z
    · exact Fin.ext (show (a.val * 256 + l.val) / 256 = a.val by omega)
    · exact Fin.ext (show (a.val * 256 + l.val) / 64 % 4 = l.val / 64 by omega)
    · exact Fin.ext (show (a.val * 256 + l.val) % 64 = l.val % 64 by omega)
  rw [val_main_v98_apply, e]
  pointwise [val_main_v97]
  rw [v49_val]
  refine congrArg (fun h : Fin 8 => ((gv A h a ⟨l.val % 64, by omega⟩ : ℝ) : EReal)) (Fin.ext ?_)
  simp only <;> omega

theorem v100_val (p : Fin 4224) (l : Fin 256) (u : Fin 1536) (hu : u.val = 768 * 1 + 256 * 2 + l.val) :
    val_main_v100 (F := Ideal) (arr3 A.q) (arr3 A.k) (arr2 A.c) (arr3 A.d) (ix2 p l) = ((colv A p u : ℝ) : EReal) := by
  rw [band_cols A 2 1 (by norm_num) (by norm_num) l p u hu]
  pointwise [val_main_v100, val_main_v99, val_main_call7_v0, val_main_c_22]
  simp only [v98_val, word_zero]
  rw [pad_row (fun a => ((pick A 2 ⟨4 * 1 + l.val / 64, by omega⟩ a ⟨l.val % 64, by omega⟩ : ℝ) : EReal)) 0 p, coe_padR]

theorem v101_at (Z : (⟨2, ![4224, 2304]⟩ : Shape).Idx → EReal) (p : Fin 4224) (w : Fin 2304) :
    val_main_v101 (F := Ideal) (arr3 A.q) (arr3 A.k) (arr3 A.v) (arr2 A.c) (arr3 A.d) Z (ix2 p w) = packed A Z (ix2 p w) := by
  have hw := w.isLt
  pointwise [val_main_v101, val_main_v76]
  have hR : ∀ h : ¬ w.val < 768, packed A Z (ix2 p w) = ((colv A p ⟨w.val - 768, by omega⟩ : ℝ) : EReal) := fun h => dif_neg h
  have hL : w.val < 768 → packed A Z (ix2 p w) = Z (ix2 p w) := fun h => dif_pos h
  by_cases h0 : w.val < 768
  · rw [hL h0]
    exact dif_pos h0
  rw [hR h0]
  refine (dif_neg h0).trans ?_
  by_cases h1 : w.val - 768 < 256
  · exact (dif_pos h1).trans (v80_val A p _ _ (by simp only <;> omega))
  refine (dif_neg h1).trans ?_
  by_cases h2 : w.val - 768 - 256 < 256
  · exact (dif_pos h2).trans (v84_val A p _ _ (by simp only <;> omega))
  refine (dif_neg h2).trans ?_
  by_cases h3 : w.val - 768 - 256 - 256 < 256
  · exact (dif_pos h3).trans (v88_val A p _ _ (by simp only <;> omega))
  refine (dif_neg h3).trans ?_
  by_cases h4 : w.val - 768 - 256 - 256 - 256 < 256
  · exact (dif_pos h4).trans (v92_val A p _ _ (by simp only <;> omega))
  refine (dif_neg h4).trans ?_
  by_cases h5 : w.val - 768 - 256 - 256 - 256 - 256 < 256
  · exact (dif_pos h5).trans (v96_val A p _ _ (by simp only <;> omega))
  refine (dif_neg h5).trans ?_
  exact v100_val A p _ _ (by simp only <;> omega)

theorem v101_val (Z : (⟨2, ![4224, 2304]⟩ : Shape).Idx → EReal) :
    val_main_v101 (F := Ideal) (arr3 A.q) (arr3 A.k) (arr3 A.v) (arr2 A.c) (arr3 A.d) Z = packed A Z := by
  funext i
  have e : i = ix2 (i 0) (i 1) := ValueIdx.eq_ix2 i
  rw [e]
  exact v101_at A Z _ _

end Cert.ReferenceIdeal.Read

end
-- ==== Proof.Finite.lean ====
/- Arrays of finite numbers are arrays of reals. -/
module

public import proofs.«01_k».proof.Proof.Spec
public import proofs.«01_k».proof.Proof.Gen.Pre_all_finite

@[expose] public section

noncomputable section

namespace Cert.Fox

open Idealize.ShloMosaic

theorem real_of_lt (x : EReal) (h : FloatOps.cmpf (F := Ideal) .olt (FloatOps.absf (F := Ideal) (φ := .f32) x) (Ideal.ofBits FTy.f32 0x7F800000#32) = 1#1) :
    ((x.toReal : ℝ) : EReal) = x := by
  rw [show Ideal.ofBits FTy.f32 0x7F800000#32 = ⊤ from pos_inf] at h
  refine EReal.coe_toReal (fun e => ?_) (fun e => ?_)
  · rw [e] at h
    have h' : Ideal.cmp .olt (max (⊤ : EReal) (-⊤)) ⊤ = 1#1 := h
    simp [Ideal.cmp] at h'
  · rw [e] at h
    have h' : Ideal.cmp .olt (max (⊥ : EReal) (-⊥)) ⊤ = 1#1 := h
    simp [Ideal.cmp] at h'

theorem real3 (x : FVec Ideal Cert.Pre_all_finite.S4112x8x64 .f32) [Cert.Pre_all_finite.Facts]
    (h : cmpf .olt (Host.absf x) (broadcastInDim Cert.Pre_all_finite.S4112x8x64 ![] Cert.Pre_all_finite.Facts.bcast_S_S4112x8x64 (constant Cert.Pre_all_finite.S_ .f32 0x7F800000#32)) = fun _ => 1#1) :
    x = arr3 (fun a h l => (x (ix3 a h l)).toReal) := by
  funext i
  have hi := congrFun h i
  have e := real_of_lt (x i) hi
  refine e.symm.trans ?_
  exact congrArg (fun j => (((x j).toReal : ℝ) : EReal)) (ValueIdx.eq_ix3 i)

theorem real2 (x : FVec Ideal Cert.Pre_all_finite.S8x4112 .f32) [Cert.Pre_all_finite.Facts]
    (h : cmpf .olt (Host.absf x) (broadcastInDim Cert.Pre_all_finite.S8x4112 ![] Cert.Pre_all_finite.Facts.bcast_S_S8x4112 (constant Cert.Pre_all_finite.S_ .f32 0x7F800000#32)) = fun _ => 1#1) :
    x = arr2 (fun h a => (x (ix2 h a)).toReal) := by
  funext i
  have hi := congrFun h i
  have e := real_of_lt (x i) hi
  refine e.symm.trans ?_
  exact congrArg (fun j => (((x j).toReal : ℝ) : EReal)) (ValueIdx.eq_ix2 i)

end Cert.Fox

end
-- ==== Proof.Product.lean ====
/- Products of two matrices over the extended reals, as a result's entry by entry. -/
module

public import Idealize.ShloMosaic.Lib.MatmulPlain
public import Mathlib.Tactic.FinCases

@[expose] public section

noncomputable section

namespace Cert.Dense

open Idealize.ShloMosaic
open Idealize.ShloMosaic.ValueIdx (ix2)
open scoped BigOperators

/-- The product of `X` and `Y`. -/
def rowsBy {M K N : ℕ} (X : (⟨2, ![M, K]⟩ : Shape).Idx → EReal) (Y : (⟨2, ![K, N]⟩ : Shape).Idx → EReal) : (⟨2, ![M, N]⟩ : Shape).Idx → EReal :=
  fun i => ∑ k : Fin K, X (ix2 (i 0) k) * Y (ix2 k (i 1))

/-- The product of the transpose of `X` and `Y`. -/
def colsBy {M K N : ℕ} (X : (⟨2, ![K, M]⟩ : Shape).Idx → EReal) (Y : (⟨2, ![K, N]⟩ : Shape).Idx → EReal) : (⟨2, ![M, N]⟩ : Shape).Idx → EReal :=
  fun i => ∑ k : Fin K, X (ix2 k (i 0)) * Y (ix2 k (i 1))

/-- The product of `X` and the transpose of `Y`. -/
def sideBy {M K N : ℕ} (X : (⟨2, ![M, K]⟩ : Shape).Idx → EReal) (Y : (⟨2, ![N, K]⟩ : Shape).Idx → EReal) : (⟨2, ![M, N]⟩ : Shape).Idx → EReal :=
  fun i => ∑ k : Fin K, X (ix2 (i 0) k) * Y (ix2 (i 1) k)

section Agree

variable {M K N M' N' : ℕ} {i : (⟨2, ![M, N]⟩ : Shape).Idx} {j : (⟨2, ![M', N']⟩ : Shape).Idx}

/-- Two entries of products agree where the row and the column do. -/
theorem rowsBy_agree {X : (⟨2, ![M, K]⟩ : Shape).Idx → EReal} {Y : (⟨2, ![K, N]⟩ : Shape).Idx → EReal}
    {X' : (⟨2, ![M', K]⟩ : Shape).Idx → EReal} {Y' : (⟨2, ![K, N']⟩ : Shape).Idx → EReal}
    (hX : ∀ k : Fin K, X (ix2 (i 0) k) = X' (ix2 (j 0) k)) (hY : ∀ k : Fin K, Y (ix2 k (i 1)) = Y' (ix2 k (j 1))) :
    rowsBy X Y i = rowsBy X' Y' j :=
  Finset.sum_congr rfl fun k _ => congrArg₂ (· * ·) (hX k) (hY k)

theorem colsBy_agree {X : (⟨2, ![K, M]⟩ : Shape).Idx → EReal} {Y : (⟨2, ![K, N]⟩ : Shape).Idx → EReal}
    {X' : (⟨2, ![K, M']⟩ : Shape).Idx → EReal} {Y' : (⟨2, ![K, N']⟩ : Shape).Idx → EReal}
    (hX : ∀ k : Fin K, X (ix2 k (i 0)) = X' (ix2 k (j 0))) (hY : ∀ k : Fin K, Y (ix2 k (i 1)) = Y' (ix2 k (j 1))) :
    colsBy X Y i = colsBy X' Y' j :=
  Finset.sum_congr rfl fun k _ => congrArg₂ (· * ·) (hX k) (hY k)

theorem sideBy_agree {X : (⟨2, ![M, K]⟩ : Shape).Idx → EReal} {Y : (⟨2, ![N, K]⟩ : Shape).Idx → EReal}
    {X' : (⟨2, ![M', K]⟩ : Shape).Idx → EReal} {Y' : (⟨2, ![N', K]⟩ : Shape).Idx → EReal}
    (hX : ∀ k : Fin K, X (ix2 (i 0) k) = X' (ix2 (j 0) k)) (hY : ∀ k : Fin K, Y (ix2 (i 1) k) = Y' (ix2 (j 1) k)) :
    sideBy X Y i = sideBy X' Y' j :=
  Finset.sum_congr rfl fun k _ => congrArg₂ (· * ·) (hX k) (hY k)

end Agree

/-- The zero a product starts from. -/
theorem start_zero : FloatOps.ofBits (F := Ideal) .f32 0x00000000#32 = (0 : EReal) := by
  simp [FloatOps.ofBits, Ideal.ofBits, Ideal.ieee]

variable {φ₁ φ₂ : FTy}

theorem plain_at {M K N : ℕ} (prec : Option ContractPrecision) (x : FVec Ideal ⟨2, ![M, K]⟩ φ₁) (y : FVec Ideal ⟨2, ![K, N]⟩ φ₂)
    (i : (⟨2, ![M, N]⟩ : Shape).Idx) :
    FloatOps.matmul (DotDims.plain M K N) prec x y (constant ⟨2, ![M, N]⟩ .f32 0x00000000#32) i = rowsBy x y i := by
  obtain ⟨r, c, rfl⟩ : ∃ (r : Fin M) (c : Fin N), i = ix2 r c := ⟨_, _, ValueIdx.eq_ix2 i⟩
  rw [Ideal.matmul_plain_apply]
  exact (congrArg (· + _) start_zero).trans (zero_add _)

theorem side_at {M K N : ℕ} (prec : Option ContractPrecision) (x : FVec Ideal ⟨2, ![M, K]⟩ φ₁) (y : FVec Ideal ⟨2, ![N, K]⟩ φ₂)
    (i : (⟨2, ![M, N]⟩ : Shape).Idx) :
    FloatOps.matmul (DotDims.transposedRhs M K N) prec x y (constant ⟨2, ![M, N]⟩ .f32 0x00000000#32) i = sideBy x y i := by
  obtain ⟨r, c, rfl⟩ : ∃ (r : Fin M) (c : Fin N), i = ix2 r c := ⟨_, _, ValueIdx.eq_ix2 i⟩
  rw [Ideal.matmul_transposedRhs_apply]
  exact (congrArg (· + _) start_zero).trans (zero_add _)

/-- The product that sums over the rows of both. -/
def across (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := by
    refine ⟨rfl, by simp, rfl, by simp, by simp, by simp, List.Perm.swap _ _ _, List.Perm.swap _ _ _, rfl, Nat.two_pos, fun b => ?_⟩
    fin_cases b <;> rfl

theorem across_at {M K N : ℕ} (prec : Option ContractPrecision) (x : FVec Ideal ⟨2, ![K, M]⟩ φ₁) (y : FVec Ideal ⟨2, ![K, N]⟩ φ₂)
    (i : (⟨2, ![M, N]⟩ : Shape).Idx) :
    FloatOps.matmul (across M K N) prec x y (constant ⟨2, ![M, N]⟩ .f32 0x00000000#32) i = colsBy x y i := by
  rw [Ideal.matmul_apply]
  refine (congrArg (· + _) start_zero).trans ((zero_add _).trans ?_)
  rw [← Equiv.sum_comp (ValueIdx.contrEquiv1 (across M K N) K rfl rfl).symm]
  refine Finset.sum_congr rfl fun k _ => ?_
  have hk := ValueIdx.contrEquiv1_symm_val (across M K N) K rfl rfl k
  refine congrArg₂ (· * ·) (congrArg x (funext fun a => Fin.ext ?_)) (congrArg y (funext fun a => Fin.ext ?_))
  · match a with
    | ⟨0, _⟩ => exact hk
    | ⟨1, _⟩ => rfl
  · match a with
    | ⟨0, _⟩ => exact hk
    | ⟨1, _⟩ => rfl

end Cert.Dense

end
-- ==== Proof.Rows3.lean ====
/- The gradient of the feed-forward layer's input: the call's result and the reference's. -/
module

public import proofs.«01_k».proof.Proof.Product
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry
public import Idealize.ShloMosaic.Lib.Pipeline.ValueKit.Acc

@[expose] public section

noncomputable section

namespace Cert.Kernel3Ideal.Hand

open Idealize.ShloMosaic Idealize.ShloMosaic.TcCoe Idealize.SL.Sem Idealize.ShloMosaic.Pipeline
open Idealize.ShloMosaic.ValueIdx (ix2)
open Cert.Kernel3Ideal Cert.Kernel3Ideal.Gen Cert.Dense

variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem pay_at (x : Vec Ideal S1056x5632 .bf16) (y : Vec Ideal S5632x512 .bf16) (i : S1056x512.Idx) :
    k0_pay1 (F := Ideal) x y i = rowsBy x y i := plain_at none x y i

theorem final :
    (dats m 0 c).arrAt (2 : Fin 3) cfg0.N = rowsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine rowsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel3Ideal.Hand

namespace Cert.Reference3Ideal.Hand

open Idealize.ShloMosaic Idealize.ShloMosaic.TcCoe Idealize.SL.Sem
open Idealize.ShloMosaic.ValueIdx (ix2)
open Cert.Reference3Ideal Cert.Reference3Ideal.Gen Cert.Reference3Ideal.Read Cert.Dense

theorem result (X : S4224x5632.Idx → EReal) (Y : S5632x1024.Idx → EReal) : val_main_v5 (F := Ideal) X Y = rowsBy X Y := by
  funext i
  rw [val_main_v5_apply]
  unfold rowsBy
  refine Finset.sum_congr rfl fun k _ => ?_
  rw [val_main_v4_apply, val_main_v1_apply, val_main_v0_apply]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference3Ideal.Hand

end
-- ==== Proof.Cols4.lean ====
/- The gradient of the feed-forward layer's two input matrices: the call's result and the reference's. -/
module

public import proofs.«01_k».proof.Proof.Product
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Geometry
public import Idealize.ShloMosaic.Lib.Pipeline.ValueKit.Acc

@[expose] public section

noncomputable section

namespace Cert.Kernel4Ideal.Hand

open Idealize.ShloMosaic Idealize.ShloMosaic.TcCoe Idealize.SL.Sem Idealize.ShloMosaic.Pipeline
open Idealize.ShloMosaic.ValueIdx (ix2)
open Cert.Kernel4Ideal Cert.Kernel4Ideal.Gen Cert.Dense

variable (m : (ℓ : Loc nD τ sig) → Buf (Elt Ideal) ℓ) (c : Dev nD)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S4224x512 .bf16) (y : Vec Ideal S4224x1024 .bf16) (i : S512x1024.Idx) :
    k0_pay1 (F := Ideal) x y i = colsBy x y i := across_at none x y i

theorem final :
    (dats m 0 c).arrAt (2 : Fin 3) cfg0.N = colsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine colsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel4Ideal.Hand

namespace Cert.Reference4Ideal.Hand

open Idealize.ShloMosaic Idealize.ShloMosaic.TcCoe Idealize.SL.Sem
open Idealize.ShloMosaic.ValueIdx (ix2)
open Cert.Reference4Ideal Cert.Reference4Ideal.Gen Cert.Reference4Ideal.Read Cert.Dense

theorem result (X : S4224x5632.Idx → EReal) (Y : S4224x1024.Idx → EReal) : val_main_v6 (F := Ideal) X Y = colsBy X Y := by
  funext i
  rw [val_main_v6_apply, val_main_v5_apply, val_main_v4_apply]
  unfold colsBy
  refine Finset.sum_congr rfl fun k _ => ?_
  rw [val_main_v3_apply, val_main_v0_apply]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference4Ideal.Hand

end
-- ==== Proof.Rows5.lean ====
/- The gradient of the feed-forward layer's output matrix: the call's result and the reference's. -/
module

public import proofs.«01_k».proof.Proof.Product
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry
public import Idealize.ShloMosaic.Lib.Pipeline.ValueKit.Acc

@[expose] public section

noncomputable section

namespace Cert.Kernel5Ideal.Hand

open Idealize.ShloMosaic Idealize.ShloMosaic.TcCoe Idealize.SL.Sem Idealize.ShloMosaic.Pipeline
open Idealize.ShloMosaic.ValueIdx (ix2)
open Cert.Kernel5Ideal Cert.Kernel5Ideal.Gen Cert.Dense

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S704x4224 .bf16) (y : Vec Ideal S4224x1024 .bf16) (i : S704x1024.Idx) :
    k0_pay1 (F := Ideal) x y i = rowsBy x y i := plain_at none x y i

theorem final :
    (dats m 0 c).arrAt (2 : Fin 3) cfg0.N = rowsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine rowsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel5Ideal.Hand

namespace Cert.Reference5Ideal.Hand

open Idealize.ShloMosaic Idealize.ShloMosaic.TcCoe Idealize.SL.Sem
open Idealize.ShloMosaic.ValueIdx (ix2)
open Cert.Reference5Ideal Cert.Reference5Ideal.Gen Cert.Reference5Ideal.Read Cert.Dense

theorem result (X : S2816x4224.Idx → EReal) (Y : S4224x1024.Idx → EReal) : val_main_v6 (F := Ideal) X Y = rowsBy X Y := by
  funext i
  rw [val_main_v6_apply, val_main_v5_apply]
  unfold rowsBy
  refine Finset.sum_congr rfl fun k _ => ?_
  rw [val_main_v4_apply, val_main_v1_apply, val_main_v0_apply, mul_comm]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference5Ideal.Hand

end
-- ==== Proof.Side6.lean ====
/- The gradient of the attentions' input: the call's result and the reference's. -/
module

public import proofs.«01_k».proof.Proof.Product
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Geometry
public import Idealize.ShloMosaic.Lib.Pipeline.ValueKit.Acc

@[expose] public section

noncomputable section

namespace Cert.Kernel6Ideal.Hand

open Idealize.ShloMosaic Idealize.ShloMosaic.TcCoe Idealize.SL.Sem Idealize.ShloMosaic.Pipeline
open Idealize.ShloMosaic.ValueIdx (ix2)
open Cert.Kernel6Ideal Cert.Kernel6Ideal.Gen Cert.Dense

variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem pay_at (x : Vec Ideal S1056x2304 .bf16) (y : Vec Ideal S512x2304 .bf16) (i : S1056x512.Idx) :
    k0_pay1 (F := Ideal) x y i = sideBy x y i := side_at none x y i

theorem final :
    (dats m 0 c).arrAt (2 : Fin 3) cfg0.N = sideBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine sideBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel6Ideal.Hand

namespace Cert.Reference6Ideal.Hand

open Idealize.ShloMosaic Idealize.ShloMosaic.TcCoe Idealize.SL.Sem
open Idealize.ShloMosaic.ValueIdx (ix2)
open Cert.Reference6Ideal Cert.Reference6Ideal.Gen Cert.Reference6Ideal.Read Cert.Dense

theorem result (X : S4224x2304.Idx → EReal) (Y : S1024x2304.Idx → EReal) : val_main_v4 (F := Ideal) X Y = sideBy X Y := by
  funext i
  rw [val_main_v4_apply]
  unfold sideBy
  refine Finset.sum_congr rfl fun k _ => ?_
  rw [val_main_v3_apply, val_main_v0_apply]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference6Ideal.Hand

end
-- ==== Proof.Rows7.lean ====
/- The gradient of the weights of q, k and v: the call's result and the reference's. -/
module

public import proofs.«01_k».proof.Proof.Product
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry
public import Idealize.ShloMosaic.Lib.Pipeline.ValueKit.Acc

@[expose] public section

noncomputable section

namespace Cert.Kernel7Ideal.Hand

open Idealize.ShloMosaic Idealize.ShloMosaic.TcCoe Idealize.SL.Sem Idealize.ShloMosaic.Pipeline
open Idealize.ShloMosaic.ValueIdx (ix2)
open Cert.Kernel7Ideal Cert.Kernel7Ideal.Gen Cert.Dense

variable (m : (ℓ : Loc nD τ sig) → Buf (Elt Ideal) ℓ) (c : Dev nD)

theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

theorem pay_at (x : Vec Ideal S512x4224 .bf16) (y : Vec Ideal S4224x768 .bf16) (i : S512x768.Idx) :
    k0_pay1 (F := Ideal) x y i = rowsBy x y i := plain_at none x y i

theorem final :
    (dats m 0 c).arrAt (2 : Fin 3) cfg0.N = rowsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine rowsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel7Ideal.Hand

namespace Cert.Reference7Ideal.Hand

open Idealize.ShloMosaic Idealize.ShloMosaic.TcCoe Idealize.SL.Sem
open Idealize.ShloMosaic.ValueIdx (ix2)
open Cert.Reference7Ideal Cert.Reference7Ideal.Gen Cert.Reference7Ideal.Read Cert.Dense

theorem result (X : S1024x4224.Idx → EReal) (Y : S4224x2304.Idx → EReal) : val_main_v6 (F := Ideal) X Y = rowsBy X Y := by
  funext i
  rw [val_main_v6_apply, val_main_v5_apply]
  unfold rowsBy
  refine Finset.sum_congr rfl fun k _ => ?_
  rw [val_main_v4_apply, val_main_v1_apply, val_main_v0_apply, mul_comm]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference7Ideal.Hand

end
-- ==== Proof.Side8.lean ====
/- The gradient of the attentions' outputs: the call's result and the reference's. -/
module

public import proofs.«01_k».proof.Proof.Product
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit.Geometry
public import Idealize.ShloMosaic.Lib.Pipeline.ValueKit.Acc

@[expose] public section

noncomputable section

namespace Cert.Kernel8Ideal.Hand

open Idealize.ShloMosaic Idealize.ShloMosaic.TcCoe Idealize.SL.Sem Idealize.ShloMosaic.Pipeline
open Idealize.ShloMosaic.ValueIdx (ix2)
open Cert.Kernel8Ideal Cert.Kernel8Ideal.Gen Cert.Dense

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S1056x1024 .bf16) (y : Vec Ideal S1024x1024 .bf16) (i : S1056x1024.Idx) :
    k0_pay1 (F := Ideal) x y i = sideBy x y i := side_at (φ₁ := .bf16) (φ₂ := .bf16) none x y i

theorem final :
    (dats m 0 c).arrAt (2 : Fin 3) cfg0.N = sideBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine sideBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel8Ideal.Hand

namespace Cert.Reference8Ideal.Hand

open Idealize.ShloMosaic Idealize.ShloMosaic.TcCoe Idealize.SL.Sem
open Idealize.ShloMosaic.ValueIdx (ix2)
open Cert.Reference8Ideal Cert.Reference8Ideal.Gen Cert.Reference8Ideal.Read Cert.Dense

theorem result (X : S4224x1024.Idx → EReal) (Y : S1024x1024.Idx → EReal) : val_main_v5 (F := Ideal) X Y = sideBy X Y := by
  funext i
  refine (show val_main_v5 (F := Ideal) X Y i = val_main_v4 (F := Ideal) X Y i from rfl).trans ?_
  rw [val_main_v4_apply]
  unfold sideBy
  refine Finset.sum_congr rfl fun k _ => ?_
  rw [val_main_v3_apply, val_main_v0_apply]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference8Ideal.Hand

end
-- ==== Proof.Cols9.lean ====
/- The gradient of the output projection's weights: the call's result and the reference's. -/
module

public import proofs.«01_k».proof.Proof.Product
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry
public import Idealize.ShloMosaic.Lib.Pipeline.ValueKit.Acc

@[expose] public section

noncomputable section

namespace Cert.Kernel9Ideal.Hand

open Idealize.ShloMosaic Idealize.ShloMosaic.TcCoe Idealize.SL.Sem Idealize.ShloMosaic.Pipeline
open Idealize.ShloMosaic.ValueIdx (ix2)
open Cert.Kernel9Ideal Cert.Kernel9Ideal.Gen Cert.Dense

variable (m : (ℓ : Loc nD τ sig) → Buf (Elt Ideal) ℓ) (c : Dev nD)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S4224x512 .bf16) (y : Vec Ideal S4224x1024 .bf16) (i : S512x1024.Idx) :
    k0_pay1 (F := Ideal) x y i = colsBy x y i := across_at none x y i

theorem final :
    (dats m 0 c).arrAt (2 : Fin 3) cfg0.N = colsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine colsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel9Ideal.Hand

namespace Cert.Reference9Ideal.Hand

open Idealize.ShloMosaic Idealize.ShloMosaic.TcCoe Idealize.SL.Sem
open Idealize.ShloMosaic.ValueIdx (ix2)
open Cert.Reference9Ideal Cert.Reference9Ideal.Gen Cert.Reference9Ideal.Read Cert.Dense

theorem result (X : S4224x1024.Idx → EReal) (Y : S4224x1024.Idx → EReal) : val_main_v5 (F := Ideal) X Y = colsBy X Y := by
  funext i
  rw [val_main_v5_apply, val_main_v4_apply]
  unfold colsBy
  refine Finset.sum_congr rfl fun k _ => ?_
  rw [val_main_v3_apply, val_main_v0_apply, mul_comm]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference9Ideal.Hand

end
-- ==== Proof.Rows10.lean ====
/- The feed-forward layer's second product: the call's result and the reference's. -/
module

public import proofs.«01_k».proof.Proof.Product
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Geometry
public import Idealize.ShloMosaic.Lib.Pipeline.ValueKit.Acc

@[expose] public section

noncomputable section

namespace Cert.Kernel10Ideal.Hand

open Idealize.ShloMosaic Idealize.ShloMosaic.TcCoe Idealize.SL.Sem Idealize.ShloMosaic.Pipeline
open Idealize.ShloMosaic.ValueIdx (ix2)
open Cert.Kernel10Ideal Cert.Kernel10Ideal.Gen Cert.Dense

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S1056x2816 .bf16) (y : Vec Ideal S2816x1024 .bf16) (i : S1056x1024.Idx) :
    k0_pay1 (F := Ideal) x y i = rowsBy x y i := plain_at none x y i

theorem final :
    (dats m 0 c).arrAt (2 : Fin 3) cfg0.N = rowsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine rowsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel10Ideal.Hand

namespace Cert.Reference10Ideal.Hand

open Idealize.ShloMosaic Idealize.ShloMosaic.TcCoe Idealize.SL.Sem
open Idealize.ShloMosaic.ValueIdx (ix2)
open Cert.Reference10Ideal Cert.Reference10Ideal.Gen Cert.Reference10Ideal.Read Cert.Dense

theorem result (X : S4224x2816.Idx → EReal) (Y : S2816x1024.Idx → EReal) : val_main_v2 (F := Ideal) X Y = rowsBy X Y := by
  funext i
  rw [val_main_v2_apply]
  unfold rowsBy
  refine Finset.sum_congr rfl fun k _ => ?_
  rw [val_main_v0_apply, val_main_v1_apply]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference10Ideal.Hand

end
-- ==== Proof.Rows11.lean ====
/- The projection to q, k and v: the call's result and the reference's. -/
module

public import proofs.«01_k».proof.Proof.Product
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit.Geometry
public import Idealize.ShloMosaic.Lib.Pipeline.ValueKit.Acc

@[expose] public section

noncomputable section

namespace Cert.Kernel11Ideal.Hand

open Idealize.ShloMosaic Idealize.ShloMosaic.TcCoe Idealize.SL.Sem Idealize.ShloMosaic.Pipeline
open Idealize.ShloMosaic.ValueIdx (ix2)
open Cert.Kernel11Ideal Cert.Kernel11Ideal.Gen Cert.Dense

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S1056x1024 .bf16) (y : Vec Ideal S1024x2304 .bf16) (i : S1056x2304.Idx) :
    k0_pay1 (F := Ideal) x y i = rowsBy x y i := plain_at (φ₁ := .bf16) (φ₂ := .bf16) none x y i

theorem final :
    (dats m 0 c).arrAt (2 : Fin 3) cfg0.N = rowsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine rowsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel11Ideal.Hand

namespace Cert.Reference11Ideal.Hand

open Idealize.ShloMosaic Idealize.ShloMosaic.TcCoe Idealize.SL.Sem
open Idealize.ShloMosaic.ValueIdx (ix2)
open Cert.Reference11Ideal Cert.Reference11Ideal.Gen Cert.Reference11Ideal.Read Cert.Dense

theorem result (X : S4224x1024.Idx → EReal) (Y : S1024x2304.Idx → EReal) : val_main_v3 (F := Ideal) X Y = rowsBy X Y := by
  funext i
  refine (show val_main_v3 (F := Ideal) X Y i = val_main_v2 (F := Ideal) X Y i from rfl).trans ?_
  rw [val_main_v2_apply]
  unfold rowsBy
  refine Finset.sum_congr rfl fun k _ => ?_
  rw [val_main_v0_apply, val_main_v1_apply]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference11Ideal.Hand

end
-- ==== Proof.Rows12.lean ====
/- The attentions' output projection: the call's result and the reference's. -/
module

public import proofs.«01_k».proof.Proof.Product
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Geometry
public import Idealize.ShloMosaic.Lib.Pipeline.ValueKit.Acc

@[expose] public section

noncomputable section

namespace Cert.Kernel12Ideal.Hand

open Idealize.ShloMosaic Idealize.ShloMosaic.TcCoe Idealize.SL.Sem Idealize.ShloMosaic.Pipeline
open Idealize.ShloMosaic.ValueIdx (ix2)
open Cert.Kernel12Ideal Cert.Kernel12Ideal.Gen Cert.Dense

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S1056x1024 .bf16) (y : Vec Ideal S1024x1024 .bf16) (i : S1056x1024.Idx) :
    k0_pay1 (F := Ideal) x y i = rowsBy x y i := plain_at none x y i

theorem final :
    (dats m 0 c).arrAt (2 : Fin 3) cfg0.N = rowsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine rowsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel12Ideal.Hand

namespace Cert.Reference12Ideal.Hand

open Idealize.ShloMosaic Idealize.ShloMosaic.TcCoe Idealize.SL.Sem
open Idealize.ShloMosaic.ValueIdx (ix2)
open Cert.Reference12Ideal Cert.Reference12Ideal.Gen Cert.Reference12Ideal.Read Cert.Dense

theorem result (X : S4224x1024.Idx → EReal) (Y : S1024x1024.Idx → EReal) : val_main_v2 (F := Ideal) X Y = rowsBy X Y := by
  funext i
  rw [val_main_v2_apply]
  unfold rowsBy
  refine Finset.sum_congr rfl fun k _ => ?_
  rw [val_main_v0_apply, val_main_v1_apply]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference12Ideal.Hand

end
-- ==== Proof.Rows14.lean ====
/- The projection to the attention's gates: the call's result and the reference's. -/
module

public import proofs.«01_k».proof.Proof.Product
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit.Geometry
public import Idealize.ShloMosaic.Lib.Pipeline.ValueKit.Acc

@[expose] public section

noncomputable section

namespace Cert.Kernel14Ideal.Hand

open Idealize.ShloMosaic Idealize.ShloMosaic.TcCoe Idealize.SL.Sem Idealize.ShloMosaic.Pipeline
open Idealize.ShloMosaic.ValueIdx (ix2)
open Cert.Kernel14Ideal Cert.Kernel14Ideal.Gen Cert.Dense

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S1056x1024 .bf16) (y : Vec Ideal S1024x128 .bf16) (i : S1056x128.Idx) :
    k0_pay1 (F := Ideal) x y i = rowsBy x y i := plain_at none x y i

theorem final :
    (dats m 0 c).arrAt (2 : Fin 3) cfg0.N = rowsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine rowsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel14Ideal.Hand

namespace Cert.Reference14Ideal.Hand

open Idealize.ShloMosaic Idealize.ShloMosaic.TcCoe Idealize.SL.Sem
open Idealize.ShloMosaic.ValueIdx (ix2)
open Cert.Reference14Ideal Cert.Reference14Ideal.Gen Cert.Reference14Ideal.Read Cert.Dense

theorem result (X : S4224x1024.Idx → EReal) (Y : S1024x128.Idx → EReal) : val_main_v2 (F := Ideal) X Y = rowsBy X Y := by
  funext i
  rw [val_main_v2_apply]
  unfold rowsBy
  refine Finset.sum_congr rfl fun k _ => ?_
  rw [val_main_v0_apply, val_main_v1_apply]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference14Ideal.Hand

end
-- ==== Proof.Rows15.lean ====
/- The gradient of the gates' weights: the call's result and the reference's. -/
module

public import proofs.«01_k».proof.Proof.Product
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit.Geometry
public import Idealize.ShloMosaic.Lib.Pipeline.ValueKit.Acc

@[expose] public section

noncomputable section

namespace Cert.Kernel15Ideal.Hand

open Idealize.ShloMosaic Idealize.ShloMosaic.TcCoe Idealize.SL.Sem Idealize.ShloMosaic.Pipeline
open Idealize.ShloMosaic.ValueIdx (ix2)
open Cert.Kernel15Ideal Cert.Kernel15Ideal.Gen Cert.Dense

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem pay_at (x : Vec Ideal S512x4224 .bf16) (y : Vec Ideal S4224x128 .bf16) (i : S512x128.Idx) :
    k0_pay1 (F := Ideal) x y i = rowsBy x y i := plain_at none x y i

theorem final :
    (dats m 0 c).arrAt (2 : Fin 3) cfg0.N = rowsBy (m ((c : Thread nD τ).loc main_arg0)) (m ((c : Thread nD τ).loc main_arg1)) := by
  refine (dats m 0 c).arrAt_eq_of_covers (2 : Fin 3) _ (by decide +kernel) (fun t hf y => ?_)
  blk_simp
  rw [after0_2]
  frame_out
  rw [pay_at]
  refine rowsBy_agree (fun k => ?_) (fun k => ?_)
  · blk_simp [iblk]
    refine congrArg (V m c main_arg0) ?_
    blk_ext [idx0, idx2, ix2]
  · blk_simp [iblk]
    refine congrArg (V m c main_arg1) ?_
    blk_ext [idx1, idx2, ix2]

end Cert.Kernel15Ideal.Hand

namespace Cert.Reference15Ideal.Hand

open Idealize.ShloMosaic Idealize.ShloMosaic.TcCoe Idealize.SL.Sem
open Idealize.ShloMosaic.ValueIdx (ix2)
open Cert.Reference15Ideal Cert.Reference15Ideal.Gen Cert.Reference15Ideal.Read Cert.Dense

theorem result (X : S1024x4224.Idx → EReal) (Y : S4224x128.Idx → EReal) : val_main_v6 (F := Ideal) X Y = rowsBy X Y := by
  funext i
  rw [val_main_v6_apply, val_main_v5_apply]
  unfold rowsBy
  refine Finset.sum_congr rfl fun k _ => ?_
  rw [val_main_v4_apply, val_main_v1_apply, val_main_v0_apply, mul_comm]
  refine congrArg₂ (· * ·) (congrArg X ?_) (congrArg Y ?_)
  · funext a; match a with | ⟨0, _⟩ => rfl | ⟨1, _⟩ => rfl
  · funext a; match a with | ⟨0, _⟩ => rfl | ⟨1, _⟩ => rfl

end Cert.Reference15Ideal.Hand

end
-- ==== Proof.Linear.lean ====
/- The matrix products of the step that stand alone: what is claimed of each call, proved. -/
module

public import proofs.«01_k».proof.Proof.Rows3
public import proofs.«01_k».proof.Proof.Gen.Kernel3.Frame
public import proofs.«01_k».proof.Proof.Cols4
public import proofs.«01_k».proof.Proof.Gen.Kernel4.Frame
public import proofs.«01_k».proof.Proof.Rows5
public import proofs.«01_k».proof.Proof.Gen.Kernel5.Frame
public import proofs.«01_k».proof.Proof.Side6
public import proofs.«01_k».proof.Proof.Gen.Kernel6.Frame
public import proofs.«01_k».proof.Proof.Rows7
public import proofs.«01_k».proof.Proof.Gen.Kernel7.Frame
public import proofs.«01_k».proof.Proof.Side8
public import proofs.«01_k».proof.Proof.Gen.Kernel8.Frame
public import proofs.«01_k».proof.Proof.Cols9
public import proofs.«01_k».proof.Proof.Gen.Kernel9.Frame
public import proofs.«01_k».proof.Proof.Rows10
public import proofs.«01_k».proof.Proof.Gen.Kernel10.Frame
public import proofs.«01_k».proof.Proof.Rows11
public import proofs.«01_k».proof.Proof.Gen.Kernel11.Frame
public import proofs.«01_k».proof.Proof.Rows12
public import proofs.«01_k».proof.Proof.Gen.Kernel12.Frame
public import proofs.«01_k».proof.Proof.Rows14
public import proofs.«01_k».proof.Proof.Gen.Kernel14.Frame
public import proofs.«01_k».proof.Proof.Rows15
public import proofs.«01_k».proof.Proof.Gen.Kernel15.Frame
public import proofs.«01_k».proof.Defs

@[expose] public section

noncomputable section

namespace Cert.Proof

open Idealize.ShloMosaic Idealize.SL.Sem

section Call3

theorem frame_Reference3Ideal : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

theorem algebraic_3 : Cert.algebraic_Kernel3Ideal_Reference3Ideal (hKernel3Ideal := Cert.Kernel3Ideal.Gen.facts) (hReference3Ideal := Cert.Reference3Ideal.Gen.facts) := by
  intro m g m' g' _ hargs
  refine ⟨fun c => Cert.Dense.rowsBy (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (Cert.Kernel3Ideal.Hand.final m c), (h c).2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    rw [Cert.Reference3Ideal.Read.val_main_v5_eq, (hargs c).1, (hargs c).2]
    exact Cert.Reference3Ideal.Hand.result _ _

end Call3

section Call4

theorem frame_Reference4Ideal : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

theorem algebraic_4 : Cert.algebraic_Kernel4Ideal_Reference4Ideal (hKernel4Ideal := Cert.Kernel4Ideal.Gen.facts) (hReference4Ideal := Cert.Reference4Ideal.Gen.facts) := by
  intro m g m' g' _ hargs
  refine ⟨fun c => Cert.Dense.colsBy (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans (Cert.Kernel4Ideal.Hand.final m c), (h c).2⟩) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    rw [Cert.Reference4Ideal.Read.val_main_v6_eq, (hargs c).1, (hargs c).2]
    exact Cert.Reference4Ideal.Hand.result _ _

end Call4

section Call5

theorem frame_Reference5Ideal : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

theorem algebraic_5 : Cert.algebraic_Kernel5Ideal_Reference5Ideal (hKernel5Ideal := Cert.Kernel5Ideal.Gen.facts) (hReference5Ideal := Cert.Reference5Ideal.Gen.facts) := by
  intro m g m' g' _ hargs
  refine ⟨fun c => Cert.Dense.rowsBy (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans (Cert.Kernel5Ideal.Hand.final m c), (h c).2⟩) (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    rw [Cert.Reference5Ideal.Read.val_main_v6_eq, (hargs c).1, (hargs c).2]
    exact Cert.Reference5Ideal.Hand.result _ _

end Call5

section Call6

theorem frame_Reference6Ideal : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

theorem algebraic_6 : Cert.algebraic_Kernel6Ideal_Reference6Ideal (hKernel6Ideal := Cert.Kernel6Ideal.Gen.facts) (hReference6Ideal := Cert.Reference6Ideal.Gen.facts) := by
  intro m g m' g' _ hargs
  refine ⟨fun c => Cert.Dense.sideBy (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run Cert.Kernel6Ideal.defs _ _).mono (fun r h c => ⟨(h c).1.trans (Cert.Kernel6Ideal.Hand.final m c), (h c).2⟩) (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    rw [Cert.Reference6Ideal.Read.val_main_v4_eq, (hargs c).1, (hargs c).2]
    exact Cert.Reference6Ideal.Hand.result _ _

end Call6

section Call7

theorem frame_Reference7Ideal : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

theorem algebraic_7 : Cert.algebraic_Kernel7Ideal_Reference7Ideal (hKernel7Ideal := Cert.Kernel7Ideal.Gen.facts) (hReference7Ideal := Cert.Reference7Ideal.Gen.facts) := by
  intro m g m' g' _ hargs
  refine ⟨fun c => Cert.Dense.rowsBy (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run Cert.Kernel7Ideal.defs _ _).mono (fun r h c => ⟨(h c).1.trans (Cert.Kernel7Ideal.Hand.final m c), (h c).2⟩) (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    rw [Cert.Reference7Ideal.Read.val_main_v6_eq, (hargs c).1, (hargs c).2]
    exact Cert.Reference7Ideal.Hand.result _ _

end Call7

section Call8

theorem frame_Reference8Ideal : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

theorem algebraic_8 : Cert.algebraic_Kernel8Ideal_Reference8Ideal (hKernel8Ideal := Cert.Kernel8Ideal.Gen.facts) (hReference8Ideal := Cert.Reference8Ideal.Gen.facts) := by
  intro m g m' g' _ hargs
  refine ⟨fun c => Cert.Dense.sideBy (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (Cert.Kernel8Ideal.Hand.final m c), (h c).2⟩) (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    rw [Cert.Reference8Ideal.Read.val_main_v5_eq, (hargs c).1, (hargs c).2]
    exact Cert.Reference8Ideal.Hand.result _ _

end Call8

section Call9

theorem frame_Reference9Ideal : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

theorem algebraic_9 : Cert.algebraic_Kernel9Ideal_Reference9Ideal (hKernel9Ideal := Cert.Kernel9Ideal.Gen.facts) (hReference9Ideal := Cert.Reference9Ideal.Gen.facts) := by
  intro m g m' g' _ hargs
  refine ⟨fun c => Cert.Dense.colsBy (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run Cert.Kernel9Ideal.defs _ _).mono (fun r h c => ⟨(h c).1.trans (Cert.Kernel9Ideal.Hand.final m c), (h c).2⟩) (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    rw [Cert.Reference9Ideal.Read.val_main_v5_eq, (hargs c).1, (hargs c).2]
    exact Cert.Reference9Ideal.Hand.result _ _

end Call9

section Call10

theorem frame_Reference10Ideal : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run (F := Ideal) m g)

theorem algebraic_10 : Cert.algebraic_Kernel10Ideal_Reference10Ideal (hKernel10Ideal := Cert.Kernel10Ideal.Gen.facts) (hReference10Ideal := Cert.Reference10Ideal.Gen.facts) := by
  intro m g m' g' _ hargs
  refine ⟨fun c => Cert.Dense.rowsBy (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run Cert.Kernel10Ideal.defs _ _).mono (fun r h c => ⟨(h c).1.trans (Cert.Kernel10Ideal.Hand.final m c), (h c).2⟩) (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    rw [Cert.Reference10Ideal.Read.val_main_v2_eq, (hargs c).1, (hargs c).2]
    exact Cert.Reference10Ideal.Hand.result _ _

end Call10

section Call11

theorem frame_Reference11Ideal : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run (F := Ideal) m g)

theorem algebraic_11 : Cert.algebraic_Kernel11Ideal_Reference11Ideal (hKernel11Ideal := Cert.Kernel11Ideal.Gen.facts) (hReference11Ideal := Cert.Reference11Ideal.Gen.facts) := by
  intro m g m' g' _ hargs
  refine ⟨fun c => Cert.Dense.rowsBy (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run Cert.Kernel11Ideal.defs _ _).mono (fun r h c => ⟨(h c).1.trans (Cert.Kernel11Ideal.Hand.final m c), (h c).2⟩) (Cert.Kernel11Ideal.Value.run_blocks (F := Ideal) m g)
  · refine (θ_run Cert.Reference11Ideal.defs _ _).mono (fun r h c => ⟨(h c).1.trans ?_, (h c).2⟩) (Cert.Reference11Ideal.Value.run (F := Ideal) m' g')
    rw [Cert.Reference11Ideal.Read.val_main_v3_eq, (hargs c).1, (hargs c).2]
    exact Cert.Reference11Ideal.Hand.result _ _

end Call11

section Call12

theorem frame_Reference12Ideal : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run (F := Ideal) m g)

theorem algebraic_12 : Cert.algebraic_Kernel12Ideal_Reference12Ideal (hKernel12Ideal := Cert.Kernel12Ideal.Gen.facts) (hReference12Ideal := Cert.Reference12Ideal.Gen.facts) := by
  intro m g m' g' _ hargs
  refine ⟨fun c => Cert.Dense.rowsBy (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · exact (θ_run Cert.Kernel12Ideal.defs _ _).mono (fun r h c => ⟨(h c).1.trans (Cert.Kernel12Ideal.Hand.final m c), (h c).2⟩) (Cert.Kernel12Ideal.Value.run_blocks (F := Ideal) m g)
  · refine (θ_run Cert.Reference12Ideal.defs _ _).mono (fun r h c => ⟨(h c).1.trans ?_, (h c).2⟩) (Cert.Reference12Ideal.Value.run (F := Ideal) m' g')
    rw [Cert.Reference12Ideal.Read.val_main_v2_eq, (hargs c).1, (hargs c).2]
    exact Cert.Reference12Ideal.Hand.result _ _

end Call12

section Call14

theorem frame_Reference14Ideal : Cert.quiescent_Reference14Ideal (hReference14Ideal := Cert.Reference14Ideal.Gen.facts) := fun m g _ =>
  (θ_run Cert.Reference14Ideal.defs _ _).mono (fun r h => ⟨fun c => (h c).2, sem_eq_zero_of_no_sems (by decide) r.2⟩)
    (Cert.Reference14Ideal.Value.run (F := Ideal) m g)

theorem algebraic_14 : Cert.algebraic_Kernel14Ideal_Reference14Ideal (hKernel14Ideal := Cert.Kernel14Ideal.Gen.facts) (hReference14Ideal := Cert.Reference14Ideal.Gen.facts) := by
  intro m g m' g' _ hargs
  refine ⟨fun c => Cert.Dense.rowsBy (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · exact (θ_run Cert.Kernel14Ideal.defs _ _).mono (fun r h c => ⟨(h c).1.trans (Cert.Kernel14Ideal.Hand.final m c), (h c).2⟩) (Cert.Kernel14Ideal.Value.run_blocks (F := Ideal) m g)
  · refine (θ_run Cert.Reference14Ideal.defs _ _).mono (fun r h c => ⟨(h c).1.trans ?_, (h c).2⟩) (Cert.Reference14Ideal.Value.run (F := Ideal) m' g')
    rw [Cert.Reference14Ideal.Read.val_main_v2_eq, (hargs c).1, (hargs c).2]
    exact Cert.Reference14Ideal.Hand.result _ _

end Call14

section Call15

theorem frame_Reference15Ideal : Cert.quiescent_Reference15Ideal (hReference15Ideal := Cert.Reference15Ideal.Gen.facts) := fun m g _ =>
  (θ_run Cert.Reference15Ideal.defs _ _).mono (fun r h => ⟨fun c => (h c).2, sem_eq_zero_of_no_sems (by decide) r.2⟩)
    (Cert.Reference15Ideal.Value.run (F := Ideal) m g)

theorem algebraic_15 : Cert.algebraic_Kernel15Ideal_Reference15Ideal (hKernel15Ideal := Cert.Kernel15Ideal.Gen.facts) (hReference15Ideal := Cert.Reference15Ideal.Gen.facts) := by
  intro m g m' g' _ hargs
  refine ⟨fun c => Cert.Dense.rowsBy (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · exact (θ_run Cert.Kernel15Ideal.defs _ _).mono (fun r h c => ⟨(h c).1.trans (Cert.Kernel15Ideal.Hand.final m c), (h c).2⟩) (Cert.Kernel15Ideal.Value.run_blocks (F := Ideal) m g)
  · refine (θ_run Cert.Reference15Ideal.defs _ _).mono (fun r h c => ⟨(h c).1.trans ?_, (h c).2⟩) (Cert.Reference15Ideal.Value.run (F := Ideal) m' g')
    rw [Cert.Reference15Ideal.Read.val_main_v6_eq, (hargs c).1, (hargs c).2]
    exact Cert.Reference15Ideal.Hand.result _ _

end Call15

end Cert.Proof

end
-- ==== Proof.Gate.lean ====
/- Through the gate of the feed-forward layer, backwards: the call's result and the reference's. -/
module

public import proofs.«01_k».proof.Defs
public import proofs.«01_k».proof.Proof.Product
public import proofs.«01_k».proof.Proof.Finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_factors_finite
public import Idealize.ShloMosaic.Lib.Pipeline.ValueKit.Geometry
public import Idealize.ShloMosaic.Lib.Pipeline.ValueKit.Acc

@[expose] public section

noncomputable section

namespace Cert.Dense

open Idealize.ShloMosaic

/-- The logistic function. -/
def logi (g : EReal) : EReal := Ideal.div 1 (1 + Ideal.exp (-g))

/-- The gradient of the gate's argument `g`, from that of the product `silu g * u`. -/
def gateGrad (d g u : EReal) : EReal := d * u * (logi g * (1 + g * (1 - logi g)))

/-- The gradient of the other factor. -/
def sideGrad (d g : EReal) : EReal := d * (g * logi g)

theorem one_word : FloatOps.ofBits (F := Ideal) .f32 0x3F800000#32 = (1 : EReal) := by
  simp [FloatOps.ofBits, Ideal.ofBits, Ideal.ieee]
  rw [← EReal.coe_mul, ← EReal.coe_one]
  norm_num

/-- The logistic function as the call spells it. -/
def logiWords (g : EReal) : EReal :=
  Ideal.div (FloatOps.ofBits (F := Ideal) .f32 0x3F800000#32)
    (FloatOps.ofBits (F := Ideal) .f32 0x3F800000#32 + Ideal.exp (FloatOps.ofBits (F := Ideal) .f32 0x00000000#32 - g))

theorem logiWords_eq (g : EReal) : logiWords g = logi g := by
  unfold logiWords logi
  rw [one_word, start_zero, zero_sub]

theorem gate_words (d g u : EReal) :
    d * u * (logiWords g * (FloatOps.ofBits (F := Ideal) .f32 0x3F800000#32 + g * (FloatOps.ofBits (F := Ideal) .f32 0x3F800000#32 - logiWords g)))
      = gateGrad d g u := by
  rw [logiWords_eq, one_word, gateGrad]

theorem side_words (d g : EReal) : d * (g * logiWords g) = sideGrad d g := by
  rw [logiWords_eq, sideGrad]

theorem logi_top : logi ⊤ = 1 := by
  unfold logi
  rw [EReal.neg_top, Ideal.exp_bot, add_zero, ← EReal.coe_one, Cert.Fox.div_coe 1 1 one_ne_zero, div_one]

theorem logi_bot : logi ⊥ = 0 := by
  unfold logi
  rw [EReal.neg_bot, Ideal.exp_top, ← EReal.coe_one, EReal.coe_add_top]
  simp [Ideal.div]

theorem logi_coe (g : ℝ) : logi (g : EReal) = ((1 / (1 + Real.exp (-g)) : ℝ) : EReal) := by
  have h : 1 + Real.exp (-g) ≠ 0 := (add_pos one_pos (Real.exp_pos _)).ne'
  unfold logi
  rw [← EReal.coe_neg, Ideal.exp_coe, ← EReal.coe_one, ← EReal.coe_add, Cert.Fox.div_coe _ _ h]

/-- The derivative of `g * logi g`, taken term by term, is the call's, wherever the factor in front is finite. -/
theorem gate_terms (p : ℝ) (g : EReal) :
    (p : EReal) * logi g + g * p * (logi g * (1 - logi g)) = p * (logi g * (1 + g * (1 - logi g))) := by
  induction g with
  | bot => rw [logi_bot]; simp
  | top =>
    have e : (1 : EReal) - 1 = 0 := by rw [← EReal.coe_one, ← EReal.coe_sub, sub_self, EReal.coe_zero]
    rw [logi_top, e]; simp
  | coe g =>
    rw [logi_coe]
    generalize 1 / (1 + Real.exp (-g)) = l
    rw [← EReal.coe_one, ← EReal.coe_sub, ← EReal.coe_mul, ← EReal.coe_mul, ← EReal.coe_mul, ← EReal.coe_mul, ← EReal.coe_add, ← EReal.coe_mul, ← EReal.coe_add, ← EReal.coe_mul,
      ← EReal.coe_mul]
    congr 1
    ring

section Through

variable {M K N : ℕ} (D : (⟨2, ![M, K]⟩ : Shape).Idx → EReal) (W : (⟨2, ![N, K]⟩ : Shape).Idx → EReal) (G U : (⟨2, ![M, N]⟩ : Shape).Idx → EReal)

/-- The gradients of the gate's argument and of the other factor, side by side. -/
def through : (⟨2, ![M, N + N]⟩ : Shape).Idx → EReal := fun i =>
  if h : (i 1).val < N then gateGrad (sideBy D W (ValueIdx.ix2 (i 0) ⟨(i 1).val, h⟩)) (G (ValueIdx.ix2 (i 0) ⟨(i 1).val, h⟩)) (U (ValueIdx.ix2 (i 0) ⟨(i 1).val, h⟩))
  else sideGrad (sideBy D W (ValueIdx.ix2 (i 0) ⟨(i 1).val - N, by have := (i 1).isLt; simp at this; omega⟩))
    (G (ValueIdx.ix2 (i 0) ⟨(i 1).val - N, by have := (i 1).isLt; simp at this; omega⟩))

theorem through_left (i : (⟨2, ![M, N + N]⟩ : Shape).Idx) (j : (⟨2, ![M, N]⟩ : Shape).Idx) (h0 : (i 0).val = (j 0).val) (h1 : (i 1).val = (j 1).val) :
    through D W G U i = gateGrad (sideBy D W j) (G j) (U j) := by
  have hj : (i 1).val < N := h1 ▸ (j 1).isLt
  have e : ValueIdx.ix2 (i 0) ⟨(i 1).val, hj⟩ = j := by
    funext a; match a with | ⟨0, _⟩ => exact Fin.ext h0 | ⟨1, _⟩ => exact Fin.ext h1
  unfold through
  rw [dif_pos hj]
  exact congrArg (fun k => gateGrad (sideBy D W k) (G k) (U k)) e

theorem through_right (i : (⟨2, ![M, N + N]⟩ : Shape).Idx) (j : (⟨2, ![M, N]⟩ : Shape).Idx) (h0 : (i 0).val = (j 0).val) (h1 : (i 1).val = N + (j 1).val) :
    through D W G U i = sideGrad (sideBy D W j) (G j) := by
  have hj : ¬ (i 1).val < N := by omega
  have e : ∀ h, ValueIdx.ix2 (i 0) ⟨(i 1).val - N, h⟩ = j := by
    intro h
    funext a; match a with | ⟨0, _⟩ => exact Fin.ext h0 | ⟨1, _⟩ => exact Fin.ext (show (i 1).val - N = (j 1).val by omega)
  unfold through
  rw [dif_neg hj]
  exact congrArg (fun k => sideGrad (sideBy D W k) (G k)) (e _)

/-- Two entries agree where the row, the weights and the column do. -/
theorem through_agree {M' : ℕ} {D' : (⟨2, ![M', K]⟩ : Shape).Idx → EReal} {W' : (⟨2, ![N, K]⟩ : Shape).Idx → EReal} {G' U' : (⟨2, ![M', N]⟩ : Shape).Idx → EReal}
    {i : (⟨2, ![M, N + N]⟩ : Shape).Idx} {j : (⟨2, ![M', N + N]⟩ : Shape).Idx} (h1 : (i 1).val = (j 1).val)
    (hD : ∀ k : Fin K, D (ValueIdx.ix2 (i 0) k) = D' (ValueIdx.ix2 (j 0) k)) (hW : ∀ (f : Fin N) (k : Fin K), W (ValueIdx.ix2 f k) = W' (ValueIdx.ix2 f k))
    (hG : ∀ f : Fin N, G (ValueIdx.ix2 (i 0) f) = G' (ValueIdx.ix2 (j 0) f)) (hU : ∀ f : Fin N, U (ValueIdx.ix2 (i 0) f) = U' (ValueIdx.ix2 (j 0) f)) :
    through D W G U i = through D' W' G' U' j := by
  have hp : ∀ f : Fin N, sideBy D W (ValueIdx.ix2 (i 0) f) = sideBy D' W' (ValueIdx.ix2 (j 0) f) :=
    fun f => sideBy_agree hD fun k => hW f k
  by_cases h : (i 1).val < N
  · rw [through_left D W G U i (ValueIdx.ix2 (i 0) ⟨_, h⟩) rfl rfl, through_left D' W' G' U' j (ValueIdx.ix2 (j 0) ⟨_, h⟩) rfl h1.symm, hp, hG, hU]
  · have hi : (i 1).val < N + N := (i 1).isLt
    have hf : (i 1).val - N < N := by omega
    rw [through_right D W G U i (ValueIdx.ix2 (i 0) ⟨_, hf⟩) rfl (show (i 1).val = N + ((i 1).val - N) by omega),
      through_right D' W' G' U' j (ValueIdx.ix2 (j 0) ⟨_, hf⟩) rfl (show (j 1).val = N + ((i 1).val - N) by omega), hp, hG]

end Through

/-- A list of writes leaves `G` where every piece does. -/
theorem canon_agree {Val : EltTy → Type} {s : Shape} {e : EltTy} [∀ e, Nonempty (Val e)] (L : List (View.Piece Val s e)) (G : s.Idx → Val e)
    (hL : ∀ p ∈ L, ∀ x, p.2 x = G (p.1.emb x)) (y : s.Idx) (hy : ∃ p ∈ L, y ∈ p.1.set) : View.canon L y = G y := by
  induction L with
  | nil => obtain ⟨p, hp, _⟩ := hy; cases hp
  | cons p L ih =>
    by_cases h : y ∈ p.1.set
    · obtain ⟨x, rfl⟩ := p.1.exists_idx_of_mem h
      exact (View.canon_cons_emb p.1 p.2 L x).trans (hL p List.mem_cons_self x)
    · rw [View.canon_cons_of_not_mem p L h]
      refine ih (fun q hq => hL q (List.mem_cons_of_mem _ hq)) ?_
      obtain ⟨q, hq, hyq⟩ := hy
      rcases List.mem_cons.1 hq with rfl | hq
      · exact absurd hyq h
      · exact ⟨q, hq, hyq⟩

/-- A load of a rectangle of a whole array. -/
theorem load_at {sig : RefSig} {M N h w o p : ℕ} (arg : Memref sig .tc .vmem ⟨2, ![M, N]⟩ .bf16) (harg : arg.IsWhole) (X : Vec Ideal ⟨2, ![M, N]⟩ .bf16)
    (inb : ∀ a, (![o, p] : Fin 2 → ℕ) a + (![h, w] : Fin 2 → ℕ) a ≤ (![M, N] : Fin 2 → ℕ) a) (j : (⟨2, ![h, w]⟩ : Shape).Idx) (k : (⟨2, ![M, N]⟩ : Shape).Idx)
    (h0 : (k 0).val = o + (j 0).val) (h1 : (k 1).val = p + (j 1).val) :
    View.readAt (Elt Ideal) arg.view (Rect.unit (s := ⟨2, ![M, N]⟩) ![o, p] ![h, w] inb).toLoadRect (harg.unread X) j = X k := by
  rw [View.readAt_eq_ld, Memref.IsWhole.read_unread]
  refine congrArg X (funext fun a => Fin.ext ?_)
  match a with
  | ⟨0, _⟩ => exact (show o + 1 * (j 0).val = (k 0).val by omega)
  | ⟨1, _⟩ => exact (show p + 1 * (j 1).val = (k 1).val by omega)

end Cert.Dense

namespace Cert.Kernel2Ideal.Hand

open Idealize.ShloMosaic Idealize.ShloMosaic.TcCoe Idealize.SL.Sem Idealize.ShloMosaic.Pipeline
open Cert.Kernel2Ideal Cert.Kernel2Ideal.Gen Cert.Dense

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

section Pieces

variable (a : Vec Ideal S384x1024 .bf16)

section Wide

variable (w : Vec Ideal S768x1024 .bf16) (g u : Vec Ideal S384x768 .bf16) (i : S384x768.Idx)

theorem prod_at : k0_pay1 (F := Ideal) a w i = sideBy a w i := side_at (φ₁ := .bf16) (φ₂ := .bf16) none a w i

theorem pay4_at : k0_pay4 (F := Ideal) a w g u i = gateGrad (sideBy a w i) (g i) (u i) :=
  (gate_words (k0_pay1 (F := Ideal) a w i) (g i) (u i)).trans (congrArg (gateGrad · _ _) (prod_at a w i))
theorem pay5_at : k0_pay5 (F := Ideal) a w g i = sideGrad (sideBy a w i) (g i) :=
  (side_words (k0_pay1 (F := Ideal) a w i) (g i)).trans (congrArg (sideGrad · _) (prod_at a w i))
theorem pay9_at : k0_pay9 (F := Ideal) (k0_pay6 a w) (k0_pay7 g) u i = gateGrad (sideBy a w i) (g i) (u i) := pay4_at a w g u i
theorem pay10_at : k0_pay10 (F := Ideal) (k0_pay6 a w) (k0_pay7 g) i = sideGrad (sideBy a w i) (g i) := pay5_at a w g i
theorem pay16_at : k0_pay16 (F := Ideal) (k0_pay12 g) (k0_pay13 g) (k0_pay14 a w u) k0_pay15 i = gateGrad (sideBy a w i) (g i) (u i) := pay4_at a w g u i
theorem pay17_at : k0_pay17 (F := Ideal) (k0_pay11 a w) (k0_pay12 g) (k0_pay13 g) i = sideGrad (sideBy a w i) (g i) := pay5_at a w g i

end Wide

variable (w : Vec Ideal S512x1024 .bf16) (g u : Vec Ideal S384x512 .bf16) (i : S384x512.Idx)

theorem prod_last : k0_pay18 (F := Ideal) a w i = sideBy a w i := side_at (φ₁ := .bf16) (φ₂ := .bf16) none a w i

theorem pay21_at : k0_pay21 (F := Ideal) a w g u i = gateGrad (sideBy a w i) (g i) (u i) :=
  (gate_words (k0_pay18 (F := Ideal) a w i) (g i) (u i)).trans (congrArg (gateGrad · _ _) (prod_last a w i))
theorem pay22_at : k0_pay22 (F := Ideal) a w g i = sideGrad (sideBy a w i) (g i) :=
  (side_words (k0_pay18 (F := Ideal) a w i) (g i)).trans (congrArg (sideGrad · _) (prod_last a w i))

end Pieces

section Block

variable (x0 : Vec Ideal S384x1024 .bf16) (x1 : Vec Ideal S2816x1024 .bf16) (x2 x3 : Vec Ideal S384x2816 .bf16)
  (arg1 : Memref sig .tc .vmem S384x1024 .bf16) (harg1 : arg1.IsWhole) (arg2 : Memref sig .tc .vmem S2816x1024 .bf16) (harg2 : arg2.IsWhole)
  (arg3 : Memref sig .tc .vmem S384x2816 .bf16) (harg3 : arg3.IsWhole) (arg4 : Memref sig .tc .vmem S384x2816 .bf16) (harg4 : arg4.IsWhole)

section Chunk

variable {n o : ℕ} (inb1) (inb2) (inb3) (inb4) (x : (⟨2, ![384, n]⟩ : Shape).Idx) (hn : o + n ≤ 2816) (y : S384x5632.Idx)

/-- The columns' part of the product with the second weights. -/
theorem chunk_prod (j : S384x2816.Idx) (h0 : (j 0).val = (x 0).val) (h1 : (j 1).val = o + (x 1).val) :
    sideBy (View.readAt (Elt Ideal) arg1.view (Rect.unit (s := S384x1024) ![0, 0] ![384, 1024] inb1).toLoadRect (harg1.unread x0))
      (View.readAt (Elt Ideal) arg2.view (Rect.unit (s := S2816x1024) ![o, 0] ![n, 1024] inb2).toLoadRect (harg2.unread x1)) x = sideBy (M := 384) (K := 1024) (N := 2816) x0 x1 j := by
  refine sideBy_agree (fun k => ?_) (fun k => ?_)
  · exact load_at arg1 harg1 x0 inb1 _ _ (h0.trans (Nat.zero_add _).symm) (Nat.zero_add _).symm
  · exact load_at arg2 harg2 x1 inb2 _ _ h1 (Nat.zero_add _).symm

include hn in
theorem chunk_left (h0 : (y 0).val = (x 0).val) (h1 : (y 1).val = o + (x 1).val) :
    gateGrad (sideBy (View.readAt (Elt Ideal) arg1.view (Rect.unit (s := S384x1024) ![0, 0] ![384, 1024] inb1).toLoadRect (harg1.unread x0))
        (View.readAt (Elt Ideal) arg2.view (Rect.unit (s := S2816x1024) ![o, 0] ![n, 1024] inb2).toLoadRect (harg2.unread x1)) x)
      (View.readAt (Elt Ideal) arg3.view (Rect.unit (s := S384x2816) ![0, o] ![384, n] inb3).toLoadRect (harg3.unread x2) x)
      (View.readAt (Elt Ideal) arg4.view (Rect.unit (s := S384x2816) ![0, o] ![384, n] inb4).toLoadRect (harg4.unread x3) x)
      = through (M := 384) (K := 1024) (N := 2816) x0 x1 x2 x3 y := by
  have hx : (x 1).val < n := (x 1).isLt
  have j0 := (Nat.zero_add (x 0).val).symm
  rw [through_left x0 x1 x2 x3 y (ValueIdx.ix2 (x 0) ⟨o + (x 1).val, by omega⟩) h0 h1,
    chunk_prod x0 x1 arg1 harg1 arg2 harg2 inb1 inb2 x (ValueIdx.ix2 (x 0) ⟨o + (x 1).val, by omega⟩) rfl rfl,
    load_at arg3 harg3 x2 inb3 x (ValueIdx.ix2 (x 0) ⟨o + (x 1).val, by omega⟩) j0 rfl,
    load_at arg4 harg4 x3 inb4 x (ValueIdx.ix2 (x 0) ⟨o + (x 1).val, by omega⟩) j0 rfl]

include hn in
theorem chunk_right (h0 : (y 0).val = (x 0).val) (h1 : (y 1).val = 2816 + (o + (x 1).val)) :
    sideGrad (sideBy (View.readAt (Elt Ideal) arg1.view (Rect.unit (s := S384x1024) ![0, 0] ![384, 1024] inb1).toLoadRect (harg1.unread x0))
        (View.readAt (Elt Ideal) arg2.view (Rect.unit (s := S2816x1024) ![o, 0] ![n, 1024] inb2).toLoadRect (harg2.unread x1)) x)
      (View.readAt (Elt Ideal) arg3.view (Rect.unit (s := S384x2816) ![0, o] ![384, n] inb3).toLoadRect (harg3.unread x2) x)
      = through (M := 384) (K := 1024) (N := 2816) x0 x1 x2 x3 y := by
  have hx : (x 1).val < n := (x 1).isLt
  have j0 := (Nat.zero_add (x 0).val).symm
  rw [through_right x0 x1 x2 x3 y (ValueIdx.ix2 (x 0) ⟨o + (x 1).val, by omega⟩) h0 h1,
    chunk_prod x0 x1 arg1 harg1 arg2 harg2 inb1 inb2 x (ValueIdx.ix2 (x 0) ⟨o + (x 1).val, by omega⟩) rfl rfl,
    load_at arg3 harg3 x2 inb3 x (ValueIdx.ix2 (x 0) ⟨o + (x 1).val, by omega⟩) j0 rfl]

end Chunk

theorem out_at (i : grid0.Coords) (arg5 : Memref sig .tc .vmem S384x5632 .bf16) (harg5 : arg5.IsWhole) (y : S384x5632.Idx) :
    out0_A_4 (F := Ideal) c i arg1 harg1 arg2 harg2 arg3 harg3 arg4 harg4 arg5 harg5 x0 x1 x2 x3 y = through (M := 384) (K := 1024) (N := 2816) x0 x1 x2 x3 y := by
  have hc := cover0_A_4 (F := Ideal) c i arg1 harg1 arg2 harg2 arg3 harg3 arg4 harg4 arg5 harg5 x0 x1 x2 x3
  refine (congrFun (View.read_writes_eq_canon _ _ _ hc) y).trans (canon_agree _ _ ?_ y (hc y))
  clear hc
  unfold kernelRun0_A
  dsimp only
  sl_unfold_words
  intro p hp
  simp only [List.mem_cons, List.not_mem_nil, or_false] at hp
  rcases hp with rfl | rfl | rfl | rfl | rfl | rfl | rfl | rfl <;> intro x <;> dsimp only
  · exact (pay22_at _ _ _ x).trans (chunk_right x0 x1 x2 x3 arg1 harg1 arg2 harg2 arg3 harg3 _ _ _ x (by decide) _ (by rw [Rect.emb_apply]; show 0 + 1 * (x 0).val = _; omega) (by rw [Rect.emb_apply]; show 5120 + 1 * (x 1).val = _; omega))
  · exact (pay21_at _ _ _ _ x).trans (chunk_left x0 x1 x2 x3 arg1 harg1 arg2 harg2 arg3 harg3 arg4 harg4 _ _ _ _ x (by decide) _ (by rw [Rect.emb_apply]; show 0 + 1 * (x 0).val = _; omega) (by rw [Rect.emb_apply]; show 2304 + 1 * (x 1).val = _; omega))
  · exact (pay17_at _ _ _ x).trans (chunk_right x0 x1 x2 x3 arg1 harg1 arg2 harg2 arg3 harg3 _ _ _ x (by decide) _ (by rw [Rect.emb_apply]; show 0 + 1 * (x 0).val = _; omega) (by rw [Rect.emb_apply]; show 4352 + 1 * (x 1).val = _; omega))
  · exact (pay16_at _ _ _ _ x).trans (chunk_left x0 x1 x2 x3 arg1 harg1 arg2 harg2 arg3 harg3 arg4 harg4 _ _ _ _ x (by decide) _ (by rw [Rect.emb_apply]; show 0 + 1 * (x 0).val = _; omega) (by rw [Rect.emb_apply]; show 1536 + 1 * (x 1).val = _; omega))
  · exact (pay10_at _ _ _ x).trans (chunk_right x0 x1 x2 x3 arg1 harg1 arg2 harg2 arg3 harg3 _ _ _ x (by decide) _ (by rw [Rect.emb_apply]; show 0 + 1 * (x 0).val = _; omega) (by rw [Rect.emb_apply]; show 3584 + 1 * (x 1).val = _; omega))
  · exact (pay9_at _ _ _ _ x).trans (chunk_left x0 x1 x2 x3 arg1 harg1 arg2 harg2 arg3 harg3 arg4 harg4 _ _ _ _ x (by decide) _ (by rw [Rect.emb_apply]; show 0 + 1 * (x 0).val = _; omega) (by rw [Rect.emb_apply]; show 768 + 1 * (x 1).val = _; omega))
  · exact (pay5_at _ _ _ x).trans (chunk_right x0 x1 x2 x3 arg1 harg1 arg2 harg2 arg3 harg3 _ _ _ x (by decide) _ (by rw [Rect.emb_apply]; show 0 + 1 * (x 0).val = _; omega) (by rw [Rect.emb_apply]; show 2816 + 1 * (x 1).val = _; omega))
  · exact (pay4_at _ _ _ _ x).trans (chunk_left x0 x1 x2 x3 arg1 harg1 arg2 harg2 arg3 harg3 arg4 harg4 _ _ _ _ x (by decide) _ (by rw [Rect.emb_apply]; show 0 + 1 * (x 0).val = _; omega) (by rw [Rect.emb_apply]; show 0 + 1 * (x 1).val = _; omega))

end Block

theorem final :
    (dats m 0 c).arrAt (4 : Fin 5) cfg0.N = through (M := 4224) (K := 1024) (N := 2816) (m ((c : Thread nD τ).loc main_arg0)) (m ((c : Thread nD τ).loc main_arg1))
      (m ((c : Thread nD τ).loc main_arg2)) (m ((c : Thread nD τ).loc main_arg3)) := by
  refine (dats m 0 c).arrAt_eq_of_covers (4 : Fin 5) _ (by decide +kernel) (fun t hf y => ?_)
  blk_simp
  rw [after0_4]
  unfold outsAt0
  rw [out_at]
  refine through_agree _ _ _ _ ?_ (fun k => ?_) (fun f k => ?_) (fun f => ?_) (fun f => ?_)
  · blk_simp [idx4]
  · blk_simp [iblk]
    refine congrArg (V m c main_arg0) ?_
    blk_ext [idx0, idx4, ValueIdx.ix2]
  · blk_simp [iblk]
    refine congrArg (V m c main_arg1) ?_
    blk_ext [idx1, ValueIdx.ix2]
  · blk_simp [iblk]
    refine congrArg (V m c main_arg2) ?_
    blk_ext [idx2, idx4, ValueIdx.ix2]
  · blk_simp [iblk]
    refine congrArg (V m c main_arg3) ?_
    blk_ext [idx3, idx4, ValueIdx.ix2]

end Cert.Kernel2Ideal.Hand

namespace Cert.Reference2Ideal.Hand

open Idealize.ShloMosaic Idealize.ShloMosaic.TcCoe Idealize.SL.Sem
open Cert.Reference2Ideal Cert.Reference2Ideal.Gen Cert.Reference2Ideal.Read Cert.Dense

section Entry

variable (X : S4224x1024.Idx → EReal) (W : S2816x1024.Idx → EReal) (G U : S4224x2816.Idx → EReal) (j : S4224x2816.Idx)

theorem v7_at : val_main_v7 (F := Ideal) X W j = sideBy (M := 4224) (K := 1024) (N := 2816) X W j := by
  rw [val_main_v7_apply]
  unfold sideBy
  refine Finset.sum_congr rfl fun k _ => ?_
  rw [val_main_v6_apply, val_main_v0_apply]
  refine congrArg₂ (· * ·) (congrArg X ?_) (congrArg W ?_)
  · funext a; match a with | ⟨0, _⟩ => rfl | ⟨1, _⟩ => rfl
  · funext a; match a with | ⟨0, _⟩ => rfl | ⟨1, _⟩ => rfl

theorem logi_at : val_main_v3_2 (F := Ideal) G j = logi (G j) := by
  refine (show val_main_v3_2 (F := Ideal) G j = Ideal.div (FloatOps.ofBits (F := Ideal) .f32 0x3F800000#32) (FloatOps.ofBits (F := Ideal) .f32 0x3F800000#32 + Ideal.exp (-(G j))) from rfl).trans ?_
  rw [one_word, logi]

theorem slope_at : val_main_v3_1 (F := Ideal) G j = logi (G j) * (1 - logi (G j)) := by
  refine (show val_main_v3_1 (F := Ideal) G j = val_main_v3_2 (F := Ideal) G j * (FloatOps.ofBits (F := Ideal) .f32 0x3F800000#32 - val_main_v3_2 (F := Ideal) G j) from rfl).trans ?_
  rw [one_word, logi_at]

theorem right_at : val_main_v8 (F := Ideal) X W G j = sideGrad (sideBy (M := 4224) (K := 1024) (N := 2816) X W j) (G j) := by
  refine (show val_main_v8 (F := Ideal) X W G j = (G j * val_main_v3_2 (F := Ideal) G j) * val_main_v7 (F := Ideal) X W j from rfl).trans ?_
  rw [logi_at, v7_at, mul_comm, sideGrad]

theorem left_at (p : ℝ) (hp : sideBy (M := 4224) (K := 1024) (N := 2816) X W j * U j = (p : EReal)) :
    val_main_v10 (F := Ideal) X W G U j = gateGrad (sideBy (M := 4224) (K := 1024) (N := 2816) X W j) (G j) (U j) := by
  refine (show val_main_v10 (F := Ideal) X W G U j = (val_main_v7 (F := Ideal) X W j * U j) * val_main_v3_2 (F := Ideal) G j
    + G j * (val_main_v7 (F := Ideal) X W j * U j) * val_main_v3_1 (F := Ideal) G j from rfl).trans ?_
  rw [logi_at, slope_at, v7_at, gateGrad, hp]
  exact gate_terms p (G j)

end Entry

/-- The reference's result, where the factors are finite. -/
theorem result (X : S4224x1024.Idx → EReal) (W : S2816x1024.Idx → EReal) (G U : S4224x2816.Idx → EReal)
    (hX : ∀ i, ((X i).toReal : EReal) = X i) (hW : ∀ i, ((W i).toReal : EReal) = W i) (hU : ∀ i, ((U i).toReal : EReal) = U i) :
    val_main_v12 (F := Ideal) X W G U = through (M := 4224) (K := 1024) (N := 2816) X W G U := by
  funext i
  refine (show val_main_v12 (F := Ideal) X W G U i = val_main_v11 (F := Ideal) X W G U i from rfl).trans ?_
  have hi : (i 1).val < 5632 := (i 1).isLt
  unfold val_main_v11
  by_cases h : (i 1).val < 2816
  · obtain ⟨j, h0, h1⟩ : ∃ j : S4224x2816.Idx, (i 0).val = (j 0).val ∧ (i 1).val = (j 1).val := ⟨ValueIdx.ix2 (n1 := 2816) (i 0) ⟨_, h⟩, rfl, rfl⟩
    rw [through_left X W G U i j h0 h1]
    refine (concatenate_pair_apply_left (t := S4224x5632) (s₁ := S4224x2816) (s₂ := S4224x2816) 1 _ _ _ i rfl j (fun b => ?_)).trans ?_
    · match b with
      | ⟨0, _⟩ => exact h0.symm
      | ⟨1, _⟩ => exact h1.symm
    · refine left_at X W G U j ((∑ k : Fin 1024, (X (ValueIdx.ix2 (j 0) k)).toReal * (W (ValueIdx.ix2 (j 1) k)).toReal) * (U j).toReal) ?_
      rw [EReal.coe_mul, hU, ← Cert.Fox.coe_sum]
      refine congrArg (· * _) (Finset.sum_congr rfl fun k _ => ?_)
      rw [EReal.coe_mul, hX, hW]
  · have hr : (i 1).val - 2816 < 2816 := by omega
    have hs : (i 1).val = 2816 + ((i 1).val - 2816) := by omega
    obtain ⟨j, h0, h1⟩ : ∃ j : S4224x2816.Idx, (i 0).val = (j 0).val ∧ (i 1).val = 2816 + (j 1).val := ⟨ValueIdx.ix2 (n1 := 2816) (i 0) ⟨_, hr⟩, rfl, hs⟩
    rw [through_right X W G U i j h0 h1]
    refine (concatenate_pair_apply_right (t := S4224x5632) (s₁ := S4224x2816) (s₂ := S4224x2816) 1 _ _ _ i rfl rfl j (fun b hb => ?_) (show (j 1).val + 2816 = (i 1).val by omega)).trans ?_
    · match b with
      | ⟨0, _⟩ => exact h0.symm
      | ⟨1, _⟩ => exact absurd rfl hb
    · exact right_at X W G j

end Cert.Reference2Ideal.Hand

namespace Cert.Proof

open Idealize.ShloMosaic Idealize.ShloMosaic.TcCoe Idealize.SL.Sem

theorem frame_Reference2Ideal : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem algebraic_2 : Cert.algebraic_Kernel2Ideal_Reference2Ideal_pre_factors_finite (hKernel2Ideal := Cert.Kernel2Ideal.Gen.facts) (hReference2Ideal := Cert.Reference2Ideal.Gen.facts)
    (hPre_factors_finite := Cert.Pre_factors_finite.Gen.facts) := by
  intro m g m' g' hpre hargs
  refine ⟨fun c => Cert.Dense.through (M := 4224) (K := 1024) (N := 2816) (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)), ?_, ?_⟩
  · exact (θ_run Cert.Kernel2Ideal.defs _ _).mono (fun r h c => ⟨(h c).1.trans (Cert.Kernel2Ideal.Hand.final m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    rw [Cert.Reference2Ideal.Read.val_main_v12_eq, (hargs c).1, (hargs c).2.1, (hargs c).2.2.1, (hargs c).2.2.2]
    exact Cert.Reference2Ideal.Hand.result _ _ _ _ (fun i => Cert.Fox.real_of_lt _ (congrFun (hpre c).1 i)) (fun i => Cert.Fox.real_of_lt _ (congrFun (hpre c).2.1 i))
      (fun i => Cert.Fox.real_of_lt _ (congrFun (hpre c).2.2 i))

end Cert.Proof

end
-- ==== Proof.Up.lean ====
/- The feed-forward layer's first product with its gate: the call's four results and the reference's. -/
module

public import proofs.«01_k».proof.Defs
public import proofs.«01_k».proof.Proof.Gate
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read

@[expose] public section

noncomputable section

namespace Cert.Dense

open Idealize.ShloMosaic

/-- The gated product of the two factors. -/
def gated (g u : EReal) : EReal := Ideal.div g (1 + Ideal.exp (-g)) * u

/-- The gated product as the call spells it. -/
theorem gated_words (g u : EReal) :
    Ideal.div g (FloatOps.ofBits (F := Ideal) .f32 0x3F800000#32 + Ideal.exp (FloatOps.ofBits (F := Ideal) .f32 0x00000000#32 - g)) * u = gated g u := by
  rw [one_word, start_zero, zero_sub, gated]

/-- Dividing by the denominator is multiplying by the logistic function. -/
theorem mul_logi (g : EReal) : g * logi g = Ideal.div g (1 + Ideal.exp (-g)) := by
  have h : 1 + Ideal.exp (-g) ≠ 0 := by
    induction g with
    | bot => rw [EReal.neg_bot, Ideal.exp_top, ← EReal.coe_one, EReal.coe_add_top]; exact EReal.top_ne_zero
    | top => rw [EReal.neg_top, Ideal.exp_bot, add_zero]; exact one_ne_zero
    | coe g =>
      rw [← EReal.coe_neg, Ideal.exp_coe, ← EReal.coe_one, ← EReal.coe_add]
      exact fun e => (add_pos one_pos (Real.exp_pos (-g))).ne' (EReal.coe_eq_zero.1 e)
  unfold logi Ideal.div
  rw [if_neg h, if_neg h, one_mul]

section Up

variable {M K N P : ℕ} (X : (⟨2, ![M, K]⟩ : Shape).Idx → EReal) (W : (⟨2, ![P, K]⟩ : Shape).Idx → EReal)

/-- Columns `o` and on of the product of `X` with the transpose of `W`. -/
def columns (o : ℕ) (h : o + N ≤ P) : (⟨2, ![M, N]⟩ : Shape).Idx → EReal := fun i =>
  sideBy X W (ValueIdx.ix2 (i 0) ⟨o + (i 1).val, by have := (i 1).isLt; simp at this; omega⟩)

/-- The gated product of two arrays, laid out with its axes exchanged. -/
def gatedT (G U : (⟨2, ![M, N]⟩ : Shape).Idx → EReal) : (⟨2, ![N, M]⟩ : Shape).Idx → EReal := fun i =>
  gated (G (ValueIdx.ix2 (i 1) (i 0))) (U (ValueIdx.ix2 (i 1) (i 0)))

end Up

end Cert.Dense

namespace Cert.Kernel13Ideal.Hand

open Idealize.ShloMosaic Idealize.ShloMosaic.TcCoe Idealize.SL.Sem Idealize.ShloMosaic.Pipeline
open Cert.Kernel13Ideal Cert.Kernel13Ideal.Gen Cert.Dense

variable (m : (ℓ : Loc nD τ sig) → Buf (Elt Ideal) ℓ) (c : Dev nD)

theorem idx0 : ∀ t : Fin cfg0.N, win0_0.index t = ![t.val / 11, 0] := (by decide +kernel : ∀ t : Fin grid0.N, _)
theorem idx1 : ∀ t : Fin cfg0.N, win0_1.index t = ![t.val % 11, 0] := (by decide +kernel : ∀ t : Fin grid0.N, _)
theorem idx2 : ∀ t : Fin cfg0.N, win0_2.index t = ![t.val % 11 + 11, 0] := (by decide +kernel : ∀ t : Fin grid0.N, _)
theorem idx3 : ∀ t : Fin cfg0.N, win0_3.index t = ![t.val / 11, t.val % 11] := (by decide +kernel : ∀ t : Fin grid0.N, _)
theorem idx4 : ∀ t : Fin cfg0.N, win0_4.index t = ![t.val / 11, t.val % 11] := (by decide +kernel : ∀ t : Fin grid0.N, _)
theorem idx5 : ∀ t : Fin cfg0.N, win0_5.index t = ![t.val / 11, t.val % 11] := (by decide +kernel : ∀ t : Fin grid0.N, _)
theorem idx6 : ∀ t : Fin cfg0.N, win0_6.index t = ![t.val % 11, t.val / 11] := (by decide +kernel : ∀ t : Fin grid0.N, _)

section Pieces

variable (w w' : Vec Ideal S256x1024 .bf16)

section Wide

variable (a : Vec Ideal S384x1024 .bf16) (i : S384x256.Idx) (j : S256x384.Idx)

theorem pay7_at : k0_pay7 (F := Ideal) w a i = sideBy a w i := side_at (φ₁ := .bf16) (φ₂ := .bf16) none a w i
theorem pay8_at : k0_pay8 (F := Ideal) w a i = sideBy a w i := side_at (φ₁ := .bf16) (φ₂ := .bf16) none a w i
theorem pay12_at : k0_pay12 (F := Ideal) w a i = sideBy a w i := side_at (φ₁ := .bf16) (φ₂ := .bf16) none a w i
theorem pay13_at : k0_pay13 (F := Ideal) w a i = sideBy a w i := side_at (φ₁ := .bf16) (φ₂ := .bf16) none a w i
theorem pay17_at : k0_pay17 (F := Ideal) w a i = sideBy a w i := side_at (φ₁ := .bf16) (φ₂ := .bf16) none a w i
theorem pay18_at : k0_pay18 (F := Ideal) w a i = sideBy a w i := side_at (φ₁ := .bf16) (φ₂ := .bf16) none a w i

theorem pay10_at : k0_pay10 (F := Ideal) w w' a i = gated (sideBy a w i) (sideBy a w' i) :=
  (gated_words (k0_pay7 (F := Ideal) w a i) (k0_pay8 (F := Ideal) w' a i)).trans (congrArg₂ gated (pay7_at w a i) (pay8_at w' a i))
theorem pay15_at : k0_pay15 (F := Ideal) (k0_pay12 w a) (k0_pay13 w' a) i = gated (sideBy a w i) (sideBy a w' i) := pay10_at w w' a i
theorem pay20_at : k0_pay20 (F := Ideal) w w' a i = gated (sideBy a w i) (sideBy a w' i) := pay10_at w w' a i

theorem pay11_at : k0_pay11 (F := Ideal) w w' a j = gatedT (sideBy a w) (sideBy a w') j :=
  (transpose_apply [1, 0] (k0_pay9 (F := Ideal) w w' a) transposes_S384x256_p1_0_S256x384 j (ValueIdx.ix2 (j 1) (j 0)) (fun b => match b with
    | ⟨0, _⟩ => rfl
    | ⟨1, _⟩ => rfl)).trans (pay10_at w w' a (ValueIdx.ix2 (j 1) (j 0)))
theorem pay16_at : k0_pay16 (F := Ideal) (k0_pay12 w a) (k0_pay13 w' a) j = gatedT (sideBy a w) (sideBy a w') j := pay11_at w w' a j
theorem pay1_at : k0_pay1 (F := Ideal) (k0_pay21 w w' a) j = gatedT (sideBy a w) (sideBy a w') j := pay11_at w w' a j

end Wide

variable (a : Vec Ideal S256x1024 .bf16) (i : S256x256.Idx)

theorem pay2_at : k0_pay2 (F := Ideal) w a i = sideBy a w i := side_at (φ₁ := .bf16) (φ₂ := .bf16) none a w i
theorem pay3_at : k0_pay3 (F := Ideal) w a i = sideBy a w i := side_at (φ₁ := .bf16) (φ₂ := .bf16) none a w i

theorem pay5_at : k0_pay5 (F := Ideal) w w' a i = gated (sideBy a w i) (sideBy a w' i) :=
  (gated_words (k0_pay2 (F := Ideal) w a i) (k0_pay3 (F := Ideal) w' a i)).trans (congrArg₂ gated (pay2_at w a i) (pay3_at w' a i))
theorem pay6_at : k0_pay6 (F := Ideal) w w' a i = gatedT (sideBy a w) (sideBy a w') i :=
  (transpose_apply [1, 0] (k0_pay4 (F := Ideal) w w' a) transposes_S256x256_p1_0_S256x256 i (ValueIdx.ix2 (i 1) (i 0)) (fun b => match b with
    | ⟨0, _⟩ => rfl
    | ⟨1, _⟩ => rfl)).trans (pay5_at w w' a (ValueIdx.ix2 (i 1) (i 0)))

end Pieces

section Block

variable (x0 : Vec Ideal S1408x1024 .bf16) (x1 x2 : Vec Ideal S256x1024 .bf16)
  (arg2 : Memref sig .tc .vmem S1408x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1408x256 .bf16) (harg5 : arg5.IsWhole) (arg6 : Memref sig .tc .vmem S1408x256 .bf16) (harg6 : arg6.IsWhole) (arg7 : Memref sig .tc .vmem S1408x256 .bf16) (harg7 : arg7.IsWhole) (arg8 : Memref sig .tc .vmem S256x1408 .bf16) (harg8 : arg8.IsWhole)

section Chunk

variable {n o : ℕ} (inb1) (inb2) (inb3)

/-- The rows' part of the product with the weights held whole in a block. -/
theorem chunk (w : Vec Ideal S256x1024 .bf16) (arg : Memref sig .tc .vmem S256x1024 .bf16) (harg : arg.IsWhole) (x : (⟨2, ![n, 256]⟩ : Shape).Idx) (y : S1408x256.Idx)
    (h0 : (y 0).val = o + (x 0).val) (h1 : (y 1).val = (x 1).val) :
    sideBy (View.readAt (Elt Ideal) arg2.view (Rect.unit (s := S1408x1024) ![o, 0] ![n, 1024] inb1).toLoadRect (harg2.unread x0))
      (View.readAt (Elt Ideal) arg.view (Rect.unit (s := S256x1024) ![0, 0] ![256, 1024] inb2).toLoadRect (harg.unread w)) x = sideBy (M := 1408) (K := 1024) (N := 256) x0 w y := by
  refine sideBy_agree (fun k => ?_) (fun k => ?_)
  · exact load_at arg2 harg2 x0 inb1 _ _ h0 (Nat.zero_add _).symm
  · exact load_at arg harg w inb2 _ _ (h1.trans (Nat.zero_add _).symm) (Nat.zero_add _).symm

theorem chunk_gated (x : (⟨2, ![n, 256]⟩ : Shape).Idx) (y : S1408x256.Idx) (h0 : (y 0).val = o + (x 0).val) (h1 : (y 1).val = (x 1).val) :
    gated (sideBy (View.readAt (Elt Ideal) arg2.view (Rect.unit (s := S1408x1024) ![o, 0] ![n, 1024] inb1).toLoadRect (harg2.unread x0))
        (View.readAt (Elt Ideal) arg3.view (Rect.unit (s := S256x1024) ![0, 0] ![256, 1024] inb2).toLoadRect (harg3.unread x1)) x)
      (sideBy (View.readAt (Elt Ideal) arg2.view (Rect.unit (s := S1408x1024) ![o, 0] ![n, 1024] inb1).toLoadRect (harg2.unread x0))
        (View.readAt (Elt Ideal) arg4.view (Rect.unit (s := S256x1024) ![0, 0] ![256, 1024] inb3).toLoadRect (harg4.unread x2)) x)
      = gated (sideBy (M := 1408) (K := 1024) (N := 256) x0 x1 y) (sideBy (M := 1408) (K := 1024) (N := 256) x0 x2 y) :=
  congrArg₂ gated (chunk x0 arg2 harg2 inb1 inb2 x1 arg3 harg3 x y h0 h1) (chunk x0 arg2 harg2 inb1 inb3 x2 arg4 harg4 x y h0 h1)

theorem chunk_gatedT (x : (⟨2, ![256, n]⟩ : Shape).Idx) (y : S256x1408.Idx) (h0 : (y 0).val = (x 0).val) (h1 : (y 1).val = o + (x 1).val) :
    gatedT (sideBy (View.readAt (Elt Ideal) arg2.view (Rect.unit (s := S1408x1024) ![o, 0] ![n, 1024] inb1).toLoadRect (harg2.unread x0))
        (View.readAt (Elt Ideal) arg3.view (Rect.unit (s := S256x1024) ![0, 0] ![256, 1024] inb2).toLoadRect (harg3.unread x1)))
      (sideBy (View.readAt (Elt Ideal) arg2.view (Rect.unit (s := S1408x1024) ![o, 0] ![n, 1024] inb1).toLoadRect (harg2.unread x0))
        (View.readAt (Elt Ideal) arg4.view (Rect.unit (s := S256x1024) ![0, 0] ![256, 1024] inb3).toLoadRect (harg4.unread x2))) x
      = gatedT (sideBy (M := 1408) (K := 1024) (N := 256) x0 x1) (sideBy (M := 1408) (K := 1024) (N := 256) x0 x2) y :=
  chunk_gated x0 x1 x2 arg2 harg2 arg3 harg3 arg4 harg4 inb1 inb2 inb3 (ValueIdx.ix2 (x 1) (x 0)) (ValueIdx.ix2 (y 1) (y 0)) h1 h0

end Chunk

variable (i : grid0.Coords)

theorem out3_at (y : S1408x256.Idx) : out0_A_3 (F := Ideal) c i arg2 harg2 arg3 harg3 arg4 harg4 arg5 harg5 arg6 harg6 arg7 harg7 arg8 harg8 x0 x1 x2 y = (sideBy (M := 1408) (K := 1024) (N := 256) x0 x1) y := by
  have hc := cover0_A_3 (F := Ideal) c i arg2 harg2 arg3 harg3 arg4 harg4 arg5 harg5 arg6 harg6 arg7 harg7 arg8 harg8 x0 x1 x2
  refine (congrFun (View.read_writes_eq_canon _ _ _ hc) y).trans (canon_agree _ ((sideBy (M := 1408) (K := 1024) (N := 256) x0 x1)) ?_ y (hc y))
  clear hc
  unfold kernelRun0_A
  dsimp only
  sl_unfold_words
  intro p hp
  simp only [List.mem_cons, List.not_mem_nil, or_false] at hp
  rcases hp with rfl | rfl | rfl | rfl <;> intro x <;> dsimp only
  · exact (pay2_at _ _ x).trans (chunk x0 arg2 harg2 _ _ x1 arg3 harg3 x _ (by rw [Rect.emb_apply]; show 1152 + 1 * (x 0).val = _; omega) (by rw [Rect.emb_apply]; show 0 + 1 * (x 1).val = _; omega))
  · exact (pay17_at _ _ x).trans (chunk x0 arg2 harg2 _ _ x1 arg3 harg3 x _ (by rw [Rect.emb_apply]; show 768 + 1 * (x 0).val = _; omega) (by rw [Rect.emb_apply]; show 0 + 1 * (x 1).val = _; omega))
  · exact (pay12_at _ _ x).trans (chunk x0 arg2 harg2 _ _ x1 arg3 harg3 x _ (by rw [Rect.emb_apply]; show 384 + 1 * (x 0).val = _; omega) (by rw [Rect.emb_apply]; show 0 + 1 * (x 1).val = _; omega))
  · exact (pay7_at _ _ x).trans (chunk x0 arg2 harg2 _ _ x1 arg3 harg3 x _ (by rw [Rect.emb_apply]; show 0 + 1 * (x 0).val = _; omega) (by rw [Rect.emb_apply]; show 0 + 1 * (x 1).val = _; omega))

theorem out4_at (y : S1408x256.Idx) : out0_A_4 (F := Ideal) c i arg2 harg2 arg3 harg3 arg4 harg4 arg5 harg5 arg6 harg6 arg7 harg7 arg8 harg8 x0 x1 x2 y = (sideBy (M := 1408) (K := 1024) (N := 256) x0 x2) y := by
  have hc := cover0_A_4 (F := Ideal) c i arg2 harg2 arg3 harg3 arg4 harg4 arg5 harg5 arg6 harg6 arg7 harg7 arg8 harg8 x0 x1 x2
  refine (congrFun (View.read_writes_eq_canon _ _ _ hc) y).trans (canon_agree _ ((sideBy (M := 1408) (K := 1024) (N := 256) x0 x2)) ?_ y (hc y))
  clear hc
  unfold kernelRun0_A
  dsimp only
  sl_unfold_words
  intro p hp
  simp only [List.mem_cons, List.not_mem_nil, or_false] at hp
  rcases hp with rfl | rfl | rfl | rfl <;> intro x <;> dsimp only
  · exact (pay3_at _ _ x).trans (chunk x0 arg2 harg2 _ _ x2 arg4 harg4 x _ (by rw [Rect.emb_apply]; show 1152 + 1 * (x 0).val = _; omega) (by rw [Rect.emb_apply]; show 0 + 1 * (x 1).val = _; omega))
  · exact (pay18_at _ _ x).trans (chunk x0 arg2 harg2 _ _ x2 arg4 harg4 x _ (by rw [Rect.emb_apply]; show 768 + 1 * (x 0).val = _; omega) (by rw [Rect.emb_apply]; show 0 + 1 * (x 1).val = _; omega))
  · exact (pay13_at _ _ x).trans (chunk x0 arg2 harg2 _ _ x2 arg4 harg4 x _ (by rw [Rect.emb_apply]; show 384 + 1 * (x 0).val = _; omega) (by rw [Rect.emb_apply]; show 0 + 1 * (x 1).val = _; omega))
  · exact (pay8_at _ _ x).trans (chunk x0 arg2 harg2 _ _ x2 arg4 harg4 x _ (by rw [Rect.emb_apply]; show 0 + 1 * (x 0).val = _; omega) (by rw [Rect.emb_apply]; show 0 + 1 * (x 1).val = _; omega))

theorem out5_at (y : S1408x256.Idx) : out0_A_5 (F := Ideal) c i arg2 harg2 arg3 harg3 arg4 harg4 arg5 harg5 arg6 harg6 arg7 harg7 arg8 harg8 x0 x1 x2 y = (fun z => gated (sideBy (M := 1408) (K := 1024) (N := 256) x0 x1 z) (sideBy (M := 1408) (K := 1024) (N := 256) x0 x2 z)) y := by
  have hc := cover0_A_5 (F := Ideal) c i arg2 harg2 arg3 harg3 arg4 harg4 arg5 harg5 arg6 harg6 arg7 harg7 arg8 harg8 x0 x1 x2
  refine (congrFun (View.read_writes_eq_canon _ _ _ hc) y).trans (canon_agree _ ((fun z => gated (sideBy (M := 1408) (K := 1024) (N := 256) x0 x1 z) (sideBy (M := 1408) (K := 1024) (N := 256) x0 x2 z))) ?_ y (hc y))
  clear hc
  unfold kernelRun0_A
  dsimp only
  sl_unfold_words
  intro p hp
  simp only [List.mem_cons, List.not_mem_nil, or_false] at hp
  rcases hp with rfl | rfl | rfl | rfl <;> intro x <;> dsimp only
  · exact (pay5_at _ _ _ x).trans (chunk_gated x0 x1 x2 arg2 harg2 arg3 harg3 arg4 harg4 _ _ _ x _ (by rw [Rect.emb_apply]; show 1152 + 1 * (x 0).val = _; omega) (by rw [Rect.emb_apply]; show 0 + 1 * (x 1).val = _; omega))
  · exact (pay20_at _ _ _ x).trans (chunk_gated x0 x1 x2 arg2 harg2 arg3 harg3 arg4 harg4 _ _ _ x _ (by rw [Rect.emb_apply]; show 768 + 1 * (x 0).val = _; omega) (by rw [Rect.emb_apply]; show 0 + 1 * (x 1).val = _; omega))
  · exact (pay15_at _ _ _ x).trans (chunk_gated x0 x1 x2 arg2 harg2 arg3 harg3 arg4 harg4 _ _ _ x _ (by rw [Rect.emb_apply]; show 384 + 1 * (x 0).val = _; omega) (by rw [Rect.emb_apply]; show 0 + 1 * (x 1).val = _; omega))
  · exact (pay10_at _ _ _ x).trans (chunk_gated x0 x1 x2 arg2 harg2 arg3 harg3 arg4 harg4 _ _ _ x _ (by rw [Rect.emb_apply]; show 0 + 1 * (x 0).val = _; omega) (by rw [Rect.emb_apply]; show 0 + 1 * (x 1).val = _; omega))

theorem out6_at (y : S256x1408.Idx) : out0_A_6 (F := Ideal) c i arg2 harg2 arg3 harg3 arg4 harg4 arg5 harg5 arg6 harg6 arg7 harg7 arg8 harg8 x0 x1 x2 y = (gatedT (sideBy (M := 1408) (K := 1024) (N := 256) x0 x1) (sideBy (M := 1408) (K := 1024) (N := 256) x0 x2)) y := by
  have hc := cover0_A_6 (F := Ideal) c i arg2 harg2 arg3 harg3 arg4 harg4 arg5 harg5 arg6 harg6 arg7 harg7 arg8 harg8 x0 x1 x2
  refine (congrFun (View.read_writes_eq_canon _ _ _ hc) y).trans (canon_agree _ ((gatedT (sideBy (M := 1408) (K := 1024) (N := 256) x0 x1) (sideBy (M := 1408) (K := 1024) (N := 256) x0 x2))) ?_ y (hc y))
  clear hc
  unfold kernelRun0_A
  dsimp only
  sl_unfold_words
  intro p hp
  simp only [List.mem_cons, List.not_mem_nil, or_false] at hp
  rcases hp with rfl | rfl | rfl | rfl <;> intro x <;> dsimp only
  · exact (pay6_at _ _ _ x).trans (chunk_gatedT x0 x1 x2 arg2 harg2 arg3 harg3 arg4 harg4 _ _ _ x _ (by rw [Rect.emb_apply]; show 0 + 1 * (x 0).val = _; omega) (by rw [Rect.emb_apply]; show 1152 + 1 * (x 1).val = _; omega))
  · exact (pay1_at _ _ _ x).trans (chunk_gatedT x0 x1 x2 arg2 harg2 arg3 harg3 arg4 harg4 _ _ _ x _ (by rw [Rect.emb_apply]; show 0 + 1 * (x 0).val = _; omega) (by rw [Rect.emb_apply]; show 768 + 1 * (x 1).val = _; omega))
  · exact (pay16_at _ _ _ x).trans (chunk_gatedT x0 x1 x2 arg2 harg2 arg3 harg3 arg4 harg4 _ _ _ x _ (by rw [Rect.emb_apply]; show 0 + 1 * (x 0).val = _; omega) (by rw [Rect.emb_apply]; show 384 + 1 * (x 1).val = _; omega))
  · exact (pay11_at _ _ _ x).trans (chunk_gatedT x0 x1 x2 arg2 harg2 arg3 harg3 arg4 harg4 _ _ _ x _ (by rw [Rect.emb_apply]; show 0 + 1 * (x 0).val = _; omega) (by rw [Rect.emb_apply]; show 0 + 1 * (x 1).val = _; omega))

end Block

/-- The gate's argument, from the memory the call starts in. -/
def gateOf : S4224x2816.Idx → EReal :=
  columns (M := 4224) (K := 1024) (P := 5632) (N := 2816) (m ((c : Thread nD τ).loc main_arg0)) (m ((c : Thread nD τ).loc main_arg1)) 0 (by decide)

/-- The gate's other factor. -/
def sideOf : S4224x2816.Idx → EReal :=
  columns (M := 4224) (K := 1024) (P := 5632) (N := 2816) (m ((c : Thread nD τ).loc main_arg0)) (m ((c : Thread nD τ).loc main_arg1)) 2816 (by decide)

section Entries

variable (t : Fin cfg0.N) (y : S1408x256.Idx) (j : S4224x2816.Idx) (h0 : (j 0).val = t.val / 11 * 1408 + (y 0).val) (h1 : (j 1).val = t.val % 11 * 256 + (y 1).val)

include h0 h1

theorem gate_entry : sideBy (M := 1408) (K := 1024) (N := 256) (iblk m c 0 t) (iblk m c 1 t) y = gateOf m c j := by
  refine sideBy_agree (fun k => ?_) (fun k => ?_)
  · blk_simp [iblk]
    refine congrArg (V m c main_arg0) ?_
    blk_ext [idx0, ValueIdx.ix2]
  · blk_simp [iblk]
    refine congrArg (V m c main_arg1) ?_
    blk_ext [idx1, ValueIdx.ix2]

theorem side_entry : sideBy (M := 1408) (K := 1024) (N := 256) (iblk m c 0 t) (iblk m c 2 t) y = sideOf m c j := by
  refine sideBy_agree (fun k => ?_) (fun k => ?_)
  · blk_simp [iblk]
    refine congrArg (V m c main_arg0) ?_
    blk_ext [idx0, ValueIdx.ix2]
  · blk_simp [iblk]
    refine congrArg (V m c main_arg1) ?_
    blk_ext [idx2, ValueIdx.ix2]

end Entries

theorem final3 : (dats m 0 c).arrAt (3 : Fin 7) cfg0.N = gateOf m c := by
  refine (dats m 0 c).arrAt_eq_of_covers (3 : Fin 7) _ (by decide +kernel) (fun t hf y => ?_)
  blk_simp
  rw [after0_3]
  unfold outsAt0
  dsimp only
  rw [out3_at]
  exact gate_entry m c t y _ (by blk_simp [idx3]) (by blk_simp [idx3])

theorem final4 : (dats m 0 c).arrAt (4 : Fin 7) cfg0.N = sideOf m c := by
  refine (dats m 0 c).arrAt_eq_of_covers (4 : Fin 7) _ (by decide +kernel) (fun t hf y => ?_)
  blk_simp
  rw [after0_4]
  unfold outsAt0
  dsimp only
  rw [out4_at]
  exact side_entry m c t y _ (by blk_simp [idx4]) (by blk_simp [idx4])

theorem final5 : (dats m 0 c).arrAt (5 : Fin 7) cfg0.N = fun j => gated (gateOf m c j) (sideOf m c j) := by
  refine (dats m 0 c).arrAt_eq_of_covers (5 : Fin 7) _ (by decide +kernel) (fun t hf y => ?_)
  blk_simp
  rw [after0_5]
  unfold outsAt0
  dsimp only
  rw [out5_at]
  exact congrArg₂ gated (gate_entry m c t y _ (by blk_simp [idx5]) (by blk_simp [idx5])) (side_entry m c t y _ (by blk_simp [idx5]) (by blk_simp [idx5]))

theorem final6 : (dats m 0 c).arrAt (6 : Fin 7) cfg0.N = gatedT (M := 4224) (N := 2816) (gateOf m c) (sideOf m c) := by
  refine (dats m 0 c).arrAt_eq_of_covers (6 : Fin 7) _ (by decide +kernel) (fun t hf y => ?_)
  blk_simp
  rw [after0_6]
  unfold outsAt0
  dsimp only
  rw [out6_at]
  have e0 : ((win0_6.blk t).view.emb y 1).val = t.val / 11 * 1408 + (y 1).val := by blk_simp [idx6]
  have e1 : ((win0_6.blk t).view.emb y 0).val = t.val % 11 * 256 + (y 0).val := by blk_simp [idx6]
  exact congrArg₂ gated (gate_entry m c t (ValueIdx.ix2 (y 1) (y 0)) (ValueIdx.ix2 _ _) e0 e1) (side_entry m c t (ValueIdx.ix2 (y 1) (y 0)) (ValueIdx.ix2 _ _) e0 e1)

end Cert.Kernel13Ideal.Hand

namespace Cert.Reference13Ideal.Hand

open Idealize.ShloMosaic Idealize.ShloMosaic.TcCoe Idealize.SL.Sem
open Cert.Reference13Ideal Cert.Reference13Ideal.Gen Cert.Reference13Ideal.Read Cert.Dense

variable (X : S4224x1024.Idx → EReal) (W : S5632x1024.Idx → EReal) (j : S4224x2816.Idx)

theorem v3_at (i : S4224x5632.Idx) : val_main_v3 (F := Ideal) X W i = sideBy (M := 4224) (K := 1024) (N := 5632) X W i := by
  rw [val_main_v3_apply]
  unfold sideBy
  refine Finset.sum_congr rfl fun k _ => ?_
  rw [val_main_v2_apply, val_main_v1_apply, val_main_v0_apply]
  refine congrArg₂ (· * ·) (congrArg X ?_) (congrArg W ?_)
  · funext a; match a with | ⟨0, _⟩ => rfl | ⟨1, _⟩ => rfl
  · funext a; match a with | ⟨0, _⟩ => rfl | ⟨1, _⟩ => rfl

theorem v4_at : val_main_v4 (F := Ideal) X W j = columns (M := 4224) (K := 1024) (P := 5632) (N := 2816) X W 0 (by decide) j := by
  rw [val_main_v4_apply, v3_at]
  refine congrArg (sideBy (M := 4224) (K := 1024) (N := 5632) X W) ?_
  funext a; match a with | ⟨0, _⟩ => rfl | ⟨1, _⟩ => exact Fin.ext (Nat.zero_add _).symm

theorem v5_at : val_main_v5 (F := Ideal) X W j = columns (M := 4224) (K := 1024) (P := 5632) (N := 2816) X W 2816 (by decide) j := by
  rw [val_main_v5_apply, v3_at]
  refine congrArg (sideBy (M := 4224) (K := 1024) (N := 5632) X W) ?_
  funext a; match a with | ⟨0, _⟩ => rfl | ⟨1, _⟩ => rfl

theorem v7_at : val_main_v7 (F := Ideal) X W j
    = gated (columns (M := 4224) (K := 1024) (P := 5632) (N := 2816) X W 0 (by decide) j) (columns (M := 4224) (K := 1024) (P := 5632) (N := 2816) X W 2816 (by decide) j) := by
  refine (show val_main_v7 (F := Ideal) X W j = val_main_v4 (F := Ideal) X W j * Ideal.div (FloatOps.ofBits (F := Ideal) .f32 0x3F800000#32)
    (FloatOps.ofBits (F := Ideal) .f32 0x3F800000#32 + Ideal.exp (-(val_main_v4 (F := Ideal) X W j))) * val_main_v5 (F := Ideal) X W j from rfl).trans ?_
  rw [one_word, v4_at, v5_at, gated, ← mul_logi, logi]

theorem v11_at (i : S2816x4224.Idx) : val_main_v11 (F := Ideal) X W i
    = gatedT (M := 4224) (N := 2816) (columns (M := 4224) (K := 1024) (P := 5632) (N := 2816) X W 0 (by decide)) (columns (M := 4224) (K := 1024) (P := 5632) (N := 2816) X W 2816 (by decide)) i := by
  rw [val_main_v11_apply, v7_at]
  have e : idx_main_v11 i = ValueIdx.ix2 (i 1) (i 0) := by
    funext a; match a with | ⟨0, _⟩ => rfl | ⟨1, _⟩ => rfl
  rw [e]
  rfl

end Cert.Reference13Ideal.Hand

namespace Cert.Proof

open Idealize.ShloMosaic Idealize.ShloMosaic.TcCoe Idealize.SL.Sem

theorem frame_Reference13Ideal : Cert.quiescent_Reference13Ideal (hReference13Ideal := Cert.Reference13Ideal.Gen.facts) := fun m g _ =>
  (θ_run Cert.Reference13Ideal.defs _ _).mono (fun r h => ⟨fun c => (h c).2.2.2.2, sem_eq_zero_of_no_sems (by decide) r.2⟩)
    (Cert.Reference13Ideal.Value.run (F := Ideal) m g)

theorem algebraic_13 : Cert.algebraic_Kernel13Ideal_Reference13Ideal (hKernel13Ideal := Cert.Kernel13Ideal.Gen.facts) (hReference13Ideal := Cert.Reference13Ideal.Gen.facts) := by
  intro m g m' g' _ hargs
  refine ⟨fun c => Cert.Kernel13Ideal.Hand.gateOf m c, fun c => Cert.Kernel13Ideal.Hand.sideOf m c,
    fun c j => Cert.Dense.gated (Cert.Kernel13Ideal.Hand.gateOf m c j) (Cert.Kernel13Ideal.Hand.sideOf m c j),
    fun c => Cert.Dense.gatedT (M := 4224) (N := 2816) (Cert.Kernel13Ideal.Hand.gateOf m c) (Cert.Kernel13Ideal.Hand.sideOf m c), ?_, ?_⟩
  · exact (θ_run Cert.Kernel13Ideal.defs _ _).mono (fun r h c => ⟨(h c).1.trans (Cert.Kernel13Ideal.Hand.final3 m c), (h c).2.1.trans (Cert.Kernel13Ideal.Hand.final4 m c),
      (h c).2.2.1.trans (Cert.Kernel13Ideal.Hand.final5 m c), (h c).2.2.2.1.trans (Cert.Kernel13Ideal.Hand.final6 m c), (h c).2.2.2.2⟩) (Cert.Kernel13Ideal.Value.run_blocks (F := Ideal) m g)
  · refine (θ_run Cert.Reference13Ideal.defs _ _).mono (fun r h c => ⟨(h c).1.trans ?_, (h c).2.1.trans ?_, (h c).2.2.1.trans ?_, (h c).2.2.2.1.trans ?_, (h c).2.2.2.2⟩)
      (Cert.Reference13Ideal.Value.run (F := Ideal) m' g')
    · rw [Cert.Reference13Ideal.Read.val_main_v8_eq, (hargs c).1, (hargs c).2]
      exact funext fun j => Cert.Reference13Ideal.Hand.v4_at _ _ j
    · rw [Cert.Reference13Ideal.Read.val_main_v9_eq, (hargs c).1, (hargs c).2]
      exact funext fun j => Cert.Reference13Ideal.Hand.v5_at _ _ j
    · rw [Cert.Reference13Ideal.Read.val_main_v10_eq, (hargs c).1, (hargs c).2]
      exact funext fun j => Cert.Reference13Ideal.Hand.v7_at _ _ j
    · rw [Cert.Reference13Ideal.Read.val_main_v12_eq, (hargs c).1, (hargs c).2]
      exact funext fun j => Cert.Reference13Ideal.Hand.v11_at _ _ j

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Same
public import proofs.«01_k».proof.Proof.Result
public import proofs.«01_k».proof.Proof.RefRes
public import proofs.«01_k».proof.Proof.Finite
public import proofs.«01_k».proof.Proof.Linear
public import proofs.«01_k».proof.Proof.Gate
public import proofs.«01_k».proof.Proof.Up
public import proofs.«01_k».proof.Proof.Gen.Pre_all_finite
public import Idealize.ShloMosaic.Adequacy
public import Idealize.ShloMosaic.Init

@[expose] public section

noncomputable section

namespace Cert.Proof

open Idealize.ShloMosaic Idealize.SL.Sem

section KernelFrame

open Cert.KernelIdeal Cert.KernelIdeal.Gen Idealize.ShloMosaic.TcCoe

variable {F : FTy → Type} [FloatOps F]

/-- What the launch leaves in the arguments: each as it was. -/
theorem args_kept (m : (ℓ : Loc nD τ sig) → Buf (Elt F) ℓ) (r : PUnit × MemSt nD τ sig (Elt F))
    (h : Pipeline.FramePost cfgs (Cert.KernelIdeal.Hand.dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end KernelFrame

theorem frame_KernelIdeal {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
      r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) ∧ r.2.sem = fun _ => 0) :=
  (θ_run Cert.KernelIdeal.defs _ _).mono (fun r h => ⟨fun c => args_kept (F := F) m r h.1 c, h.2⟩)
    (Cert.KernelIdeal.Hand.run_main (F := F) m g)

set_option maxHeartbeats 4000000 in
/-- The program as printed is the same text as its idealization. -/
theorem frame_Kernel : Cert.quiescent_Kernel (hKernel := Cert.Kernel.Gen.facts) := fun m g _ => by
  rw [Cert.Same.defs_eq, Cert.Same.main_eq]
  exact frame_KernelIdeal (F := Bits) m g

theorem frame_ReferenceIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧
      r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧
      r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) ∧
      r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) ∧
      r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) ∧
      r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) ∧ r.2.sem = fun _ => 0) :=
  (θ_run Cert.ReferenceIdeal.defs _ _).mono
    (fun r h => ⟨fun c => (h c).2.2.2, sem_eq_zero_of_no_sems (by decide) r.2⟩)
    (Cert.ReferenceIdeal.Value.run (F := Ideal) m g)

/-- The arguments of a device, as reals. -/
def argsOf (m : (ℓ : Loc Cert.KernelIdeal.nD Cert.KernelIdeal.τ Cert.KernelIdeal.sig) → Buf (Elt Ideal) ℓ) (c : Dev Cert.KernelIdeal.nD) : Cert.Fox.Args where
  q a h l := ((m ((c.tc : Thread Cert.KernelIdeal.nD Cert.KernelIdeal.τ).loc Cert.KernelIdeal.main_arg0) : Cert.KernelIdeal.S4112x8x64.Idx → EReal) (ix3 a h l)).toReal
  k a h l := ((m ((c.tc : Thread Cert.KernelIdeal.nD Cert.KernelIdeal.τ).loc Cert.KernelIdeal.main_arg1) : Cert.KernelIdeal.S4112x8x64.Idx → EReal) (ix3 a h l)).toReal
  v a h l := ((m ((c.tc : Thread Cert.KernelIdeal.nD Cert.KernelIdeal.τ).loc Cert.KernelIdeal.main_arg2) : Cert.KernelIdeal.S4112x8x64.Idx → EReal) (ix3 a h l)).toReal
  c h a := ((m ((c.tc : Thread Cert.KernelIdeal.nD Cert.KernelIdeal.τ).loc Cert.KernelIdeal.main_arg3) : Cert.KernelIdeal.S8x4112.Idx → EReal) (ix2 h a)).toReal
  d a h l := ((m ((c.tc : Thread Cert.KernelIdeal.nD Cert.KernelIdeal.τ).loc Cert.KernelIdeal.main_arg4) : Cert.KernelIdeal.S4112x8x64.Idx → EReal) (ix3 a h l)).toReal

theorem holds_of [Cert.Pre_all_finite.Facts] (m : (ℓ : Loc Cert.KernelIdeal.nD Cert.KernelIdeal.τ Cert.KernelIdeal.sig) → Buf (Elt Ideal) ℓ)
    (h : Cert.Pre_KernelIdeal_all_finite m) (c : Dev Cert.KernelIdeal.nD) : Cert.KernelIdeal.Hand.Holds m c (argsOf m c) where
  q := Cert.Fox.real3 _ (h c).1
  k := Cert.Fox.real3 _ (h c).2.1
  v := Cert.Fox.real3 _ (h c).2.2.1
  gate := Cert.Fox.real2 _ (h c).2.2.2.1
  d := Cert.Fox.real3 _ (h c).2.2.2.2

section Values

open Cert.KernelIdeal Cert.KernelIdeal.Gen Idealize.ShloMosaic.TcCoe

/-- The three results of a run from arguments that are reals. -/
theorem results_of (m : (ℓ : Loc nD τ sig) → Buf (Elt Ideal) ℓ) (r : PUnit × MemSt nD τ sig (Elt Ideal))
    (h : Pipeline.FramePost cfgs (Cert.KernelIdeal.Hand.dats m) 0 (V m) r) (c : Dev nD) (A : Cert.Fox.Args) (H : Cert.KernelIdeal.Hand.Holds m c A) :
    r.2.mem ((c.tc : Thread nD τ).loc main_v130_0) = Cert.Fox.packed A (m ((c.tc : Thread nD τ).loc main_arg5))
      ∧ r.2.mem ((c.tc : Thread nD τ).loc main_v130_1) = Cert.Fox.tiled (Cert.Fox.gcq A)
      ∧ r.2.mem ((c.tc : Thread nD τ).loc main_v130_2) = Cert.Fox.tiled (Cert.Fox.gck A) :=
  ⟨(h.out_eq c (5 : Fin 8)).trans (Cert.KernelIdeal.Hand.final_5 H), (h.out_eq c (6 : Fin 8)).trans (Cert.KernelIdeal.Hand.final_6 H),
    (h.out_eq c (7 : Fin 8)).trans (Cert.KernelIdeal.Hand.final_7 H)⟩

end Values

/-- The reference's three results, from the same arguments. -/
theorem reference_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (A : Cert.Fox.Args) (H : Cert.KernelIdeal.Hand.Holds m c A)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v101 (F := Ideal) m' c = Cert.Fox.packed A (m ((c.tc : Thread Cert.KernelIdeal.nD Cert.KernelIdeal.τ).loc Cert.KernelIdeal.main_arg5))
      ∧ Cert.ReferenceIdeal.Value.res_main_v103 (F := Ideal) m' c = Cert.Fox.tiled (Cert.Fox.gcq A)
      ∧ Cert.ReferenceIdeal.Value.res_main_v106 (F := Ideal) m' c = Cert.Fox.tiled (Cert.Fox.gck A) := by
  have e0 := h.1.trans H.q
  have e1 := h.2.1.trans H.k
  have e2 := h.2.2.1.trans H.v
  have e3 := h.2.2.2.1.trans H.gate
  have e4 := h.2.2.2.2.1.trans H.d
  have e5 := h.2.2.2.2.2
  refine ⟨?_, ?_, ?_⟩
  · rw [Cert.ReferenceIdeal.Read.val_main_v101_eq, e0, e1, e2, e3, e4, e5]
    exact Cert.ReferenceIdeal.Read.v101_val A _
  · rw [Cert.ReferenceIdeal.Read.val_main_v103_eq, e0, e1, e2, e3, e4]
    exact Cert.ReferenceIdeal.Read.v103_val A
  · rw [Cert.ReferenceIdeal.Read.val_main_v106_eq, e0, e1, e2, e3, e4]
    exact Cert.ReferenceIdeal.Read.v106_val A

theorem algebraic_of : Cert.algebraic_KernelIdeal_ReferenceIdeal_pre_all_finite (hKernelIdeal := Cert.KernelIdeal.Gen.facts)
    (hReferenceIdeal := Cert.ReferenceIdeal.Gen.facts) (hPre_all_finite := Cert.Pre_all_finite.Gen.facts) := by
  intro m g m' g' hpre hargs
  have H := fun c => holds_of m hpre c
  refine ⟨fun c => Cert.Fox.packed (argsOf m c) (m ((c.tc : Thread Cert.KernelIdeal.nD Cert.KernelIdeal.τ).loc Cert.KernelIdeal.main_arg5)),
    fun c => Cert.Fox.tiled (Cert.Fox.gcq (argsOf m c)), fun c => Cert.Fox.tiled (Cert.Fox.gck (argsOf m c)), ?_, ?_⟩
  · refine (θ_run Cert.KernelIdeal.defs _ _).mono (fun r h c => ?_) (Cert.KernelIdeal.Hand.run_main (F := Ideal) m g)
    have hr := results_of m r h.1 c (argsOf m c) (H c)
    exact ⟨hr.1, hr.2.1, hr.2.2, args_kept (F := Ideal) m r h.1 c⟩
  · refine (θ_run Cert.ReferenceIdeal.defs _ _).mono (fun r h c => ?_) (Cert.ReferenceIdeal.Value.run (F := Ideal) m' g')
    have hr := reference_of m m' c (argsOf m c) (H c) (hargs c)
    exact ⟨(h c).1.trans hr.1, (h c).2.1.trans hr.2.1, (h c).2.2.1.trans hr.2.2, (h c).2.2.2⟩

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel2.Gen.facts, Cert.Kernel2Ideal.Gen.facts, Cert.Reference2Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_all_finite.Gen.facts,
  Cert.Pre_factors_finite.Gen.facts,
  frame_Kernel, fun m g _ => frame_KernelIdeal m g, fun m g _ => frame_KernelIdeal m g, fun m g _ => frame_ReferenceIdeal m g,
  fun m g _ => frame_ReferenceIdeal m g,
  fun m g _ => Cert.Kernel3.Gen.frame m g, fun m g _ => Cert.Kernel3Ideal.Gen.frame m g, frame_Reference3Ideal,
  fun m g _ => Cert.Kernel4.Gen.frame m g, fun m g _ => Cert.Kernel4Ideal.Gen.frame m g, frame_Reference4Ideal,
  fun m g _ => Cert.Kernel5.Gen.frame m g, fun m g _ => Cert.Kernel5Ideal.Gen.frame m g, frame_Reference5Ideal,
  fun m g _ => Cert.Kernel6.Gen.frame m g, fun m g _ => Cert.Kernel6Ideal.Gen.frame m g, frame_Reference6Ideal,
  fun m g _ => Cert.Kernel7.Gen.frame m g, fun m g _ => Cert.Kernel7Ideal.Gen.frame m g, frame_Reference7Ideal,
  fun m g _ => Cert.Kernel8.Gen.frame m g, fun m g _ => Cert.Kernel8Ideal.Gen.frame m g, frame_Reference8Ideal,
  fun m g _ => Cert.Kernel9.Gen.frame m g, fun m g _ => Cert.Kernel9Ideal.Gen.frame m g, frame_Reference9Ideal,
  fun m g _ => Cert.Kernel10.Gen.frame m g, fun m g _ => Cert.Kernel10Ideal.Gen.frame m g, frame_Reference10Ideal,
  fun m g _ => Cert.Kernel11.Gen.frame m g, fun m g _ => Cert.Kernel11Ideal.Gen.frame m g, frame_Reference11Ideal,
  fun m g _ => Cert.Kernel12.Gen.frame m g, fun m g _ => Cert.Kernel12Ideal.Gen.frame m g, frame_Reference12Ideal,
  fun m g _ => Cert.Kernel2.Gen.frame m g, fun m g _ => Cert.Kernel2Ideal.Gen.frame m g, fun m g _ => Cert.Kernel2Ideal.Gen.frame m g, frame_Reference2Ideal, fun m g h => frame_Reference2Ideal m g trivial,
  fun m g _ => Cert.Kernel13.Gen.frame m g, fun m g _ => Cert.Kernel13Ideal.Gen.frame m g, frame_Reference13Ideal,
  fun m g _ => Cert.Kernel14.Gen.frame m g, fun m g _ => Cert.Kernel14Ideal.Gen.frame m g, frame_Reference14Ideal,
  fun m g _ => Cert.Kernel15.Gen.frame m g, fun m g _ => Cert.Kernel15Ideal.Gen.frame m g, frame_Reference15Ideal,
  trivial, algebraic_of, trivial, algebraic_3, trivial, algebraic_4, trivial, algebraic_5, trivial, algebraic_6, trivial, algebraic_7, trivial, algebraic_8, trivial, algebraic_9, trivial, algebraic_10, trivial, algebraic_11, trivial, algebraic_12, trivial, algebraic_2, trivial, algebraic_13, trivial, algebraic_14, trivial, algebraic_15⟩

end Cert.Proof

end
